-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_router_finite [hPre_router_finite : Cert.Pre_router_finite.Facts] (m : (ℓ : Loc Cert.MoeIdeal.nD Cert.MoeIdeal.τ Cert.MoeIdeal.sig) → Buf (Elt Ideal) ℓ) : Prop :=
  ∀ c : Dev Cert.MoeIdeal.nD,
    (Cert.Pre_router_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).1 = (fun _ => 1#1)
    ∧ (Cert.Pre_router_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.1 = (fun _ => 1#1)
    ∧ (Cert.Pre_router_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.2 = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_router_finite [hPre_router_finite : Cert.Pre_router_finite.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_router_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9))).1 = (fun _ => 1#1)
    ∧ (Cert.Pre_router_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9))).2.1 = (fun _ => 1#1)
    ∧ (Cert.Pre_router_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9))).2.2 = (fun _ => 1#1)

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_RetD (m : (ℓ : Loc Cert.RetD.nD Cert.RetD.τ Cert.RetD.sig) → Buf (Elt Bits) ℓ) : Prop :=
  True

def Pre_RetDIdeal (m : (ℓ : Loc Cert.RetDIdeal.nD Cert.RetDIdeal.τ Cert.RetDIdeal.sig) → Buf (Elt Ideal) ℓ) : Prop :=
  True

def Pre_RetDRefIdeal (m : (ℓ : Loc Cert.RetDRefIdeal.nD Cert.RetDRefIdeal.τ Cert.RetDRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MoeD (m : (ℓ : Loc Cert.MoeD.nD Cert.MoeD.τ Cert.MoeD.sig) → Buf (Elt Bits) ℓ) : Prop :=
  True

def Pre_MoeDIdeal (m : (ℓ : Loc Cert.MoeDIdeal.nD Cert.MoeDIdeal.τ Cert.MoeDIdeal.sig) → Buf (Elt Ideal) ℓ) : Prop :=
  True

def Pre_MoeDIdeal_router_finite_sample [hPre_router_finite_sample : Cert.Pre_router_finite_sample.Facts] (m : (ℓ : Loc Cert.MoeDIdeal.nD Cert.MoeDIdeal.τ Cert.MoeDIdeal.sig) → Buf (Elt Ideal) ℓ) : Prop :=
  ∀ c : Dev Cert.MoeDIdeal.nD,
    (Cert.Pre_router_finite_sample.fn (F := Ideal) (m ((c.tc : Thread Cert.MoeDIdeal.nD Cert.MoeDIdeal.τ).loc Cert.MoeDIdeal.main_arg0)) (m ((c.tc : Thread Cert.MoeDIdeal.nD Cert.MoeDIdeal.τ).loc Cert.MoeDIdeal.main_arg1)) (m ((c.tc : Thread Cert.MoeDIdeal.nD Cert.MoeDIdeal.τ).loc Cert.MoeDIdeal.main_arg2)) (m ((c.tc : Thread Cert.MoeDIdeal.nD Cert.MoeDIdeal.τ).loc Cert.MoeDIdeal.main_arg3)) (m ((c.tc : Thread Cert.MoeDIdeal.nD Cert.MoeDIdeal.τ).loc Cert.MoeDIdeal.main_arg4)) (m ((c.tc : Thread Cert.MoeDIdeal.nD Cert.MoeDIdeal.τ).loc Cert.MoeDIdeal.main_arg5)) (m ((c.tc : Thread Cert.MoeDIdeal.nD Cert.MoeDIdeal.τ).loc Cert.MoeDIdeal.main_arg6)) (m ((c.tc : Thread Cert.MoeDIdeal.nD Cert.MoeDIdeal.τ).loc Cert.MoeDIdeal.main_arg7)) (m ((c.tc : Thread Cert.MoeDIdeal.nD Cert.MoeDIdeal.τ).loc Cert.MoeDIdeal.main_arg8)) (m ((c.tc : Thread Cert.MoeDIdeal.nD Cert.MoeDIdeal.τ).loc Cert.MoeDIdeal.main_arg9))).1 = (fun _ => 1#1)
    ∧ (Cert.Pre_router_finite_sample.fn (F := Ideal) (m ((c.tc : Thread Cert.MoeDIdeal.nD Cert.MoeDIdeal.τ).loc Cert.MoeDIdeal.main_arg0)) (m ((c.tc : Thread Cert.MoeDIdeal.nD Cert.MoeDIdeal.τ).loc Cert.MoeDIdeal.main_arg1)) (m ((c.tc : Thread Cert.MoeDIdeal.nD Cert.MoeDIdeal.τ).loc Cert.MoeDIdeal.main_arg2)) (m ((c.tc : Thread Cert.MoeDIdeal.nD Cert.MoeDIdeal.τ).loc Cert.MoeDIdeal.main_arg3)) (m ((c.tc : Thread Cert.MoeDIdeal.nD Cert.MoeDIdeal.τ).loc Cert.MoeDIdeal.main_arg4)) (m ((c.tc : Thread Cert.MoeDIdeal.nD Cert.MoeDIdeal.τ).loc Cert.MoeDIdeal.main_arg5)) (m ((c.tc : Thread Cert.MoeDIdeal.nD Cert.MoeDIdeal.τ).loc Cert.MoeDIdeal.main_arg6)) (m ((c.tc : Thread Cert.MoeDIdeal.nD Cert.MoeDIdeal.τ).loc Cert.MoeDIdeal.main_arg7)) (m ((c.tc : Thread Cert.MoeDIdeal.nD Cert.MoeDIdeal.τ).loc Cert.MoeDIdeal.main_arg8)) (m ((c.tc : Thread Cert.MoeDIdeal.nD Cert.MoeDIdeal.τ).loc Cert.MoeDIdeal.main_arg9))).2.1 = (fun _ => 1#1)
    ∧ (Cert.Pre_router_finite_sample.fn (F := Ideal) (m ((c.tc : Thread Cert.MoeDIdeal.nD Cert.MoeDIdeal.τ).loc Cert.MoeDIdeal.main_arg0)) (m ((c.tc : Thread Cert.MoeDIdeal.nD Cert.MoeDIdeal.τ).loc Cert.MoeDIdeal.main_arg1)) (m ((c.tc : Thread Cert.MoeDIdeal.nD Cert.MoeDIdeal.τ).loc Cert.MoeDIdeal.main_arg2)) (m ((c.tc : Thread Cert.MoeDIdeal.nD Cert.MoeDIdeal.τ).loc Cert.MoeDIdeal.main_arg3)) (m ((c.tc : Thread Cert.MoeDIdeal.nD Cert.MoeDIdeal.τ).loc Cert.MoeDIdeal.main_arg4)) (m ((c.tc : Thread Cert.MoeDIdeal.nD Cert.MoeDIdeal.τ).loc Cert.MoeDIdeal.main_arg5)) (m ((c.tc : Thread Cert.MoeDIdeal.nD Cert.MoeDIdeal.τ).loc Cert.MoeDIdeal.main_arg6)) (m ((c.tc : Thread Cert.MoeDIdeal.nD Cert.MoeDIdeal.τ).loc Cert.MoeDIdeal.main_arg7)) (m ((c.tc : Thread Cert.MoeDIdeal.nD Cert.MoeDIdeal.τ).loc Cert.MoeDIdeal.main_arg8)) (m ((c.tc : Thread Cert.MoeDIdeal.nD Cert.MoeDIdeal.τ).loc Cert.MoeDIdeal.main_arg9))).2.2 = (fun _ => 1#1)

def Pre_MoeDRefIdeal (m : (ℓ : Loc Cert.MoeDRefIdeal.nD Cert.MoeDRefIdeal.τ Cert.MoeDRefIdeal.sig) → Buf (Elt Ideal) ℓ) : Prop :=
  True

def Pre_MoeDRefIdeal_router_finite_sample [hPre_router_finite_sample : Cert.Pre_router_finite_sample.Facts] (m : (ℓ : Loc Cert.MoeDRefIdeal.nD Cert.MoeDRefIdeal.τ Cert.MoeDRefIdeal.sig) → Buf (Elt Ideal) ℓ) : Prop :=
  ∀ c : Dev Cert.MoeDRefIdeal.nD,
    (Cert.Pre_router_finite_sample.fn (F := Ideal) (m ((c.tc : Thread Cert.MoeDRefIdeal.nD Cert.MoeDRefIdeal.τ).loc Cert.MoeDRefIdeal.main_arg0)) (m ((c.tc : Thread Cert.MoeDRefIdeal.nD Cert.MoeDRefIdeal.τ).loc Cert.MoeDRefIdeal.main_arg1)) (m ((c.tc : Thread Cert.MoeDRefIdeal.nD Cert.MoeDRefIdeal.τ).loc Cert.MoeDRefIdeal.main_arg2)) (m ((c.tc : Thread Cert.MoeDRefIdeal.nD Cert.MoeDRefIdeal.τ).loc Cert.MoeDRefIdeal.main_arg3)) (m ((c.tc : Thread Cert.MoeDRefIdeal.nD Cert.MoeDRefIdeal.τ).loc Cert.MoeDRefIdeal.main_arg4)) (m ((c.tc : Thread Cert.MoeDRefIdeal.nD Cert.MoeDRefIdeal.τ).loc Cert.MoeDRefIdeal.main_arg5)) (m ((c.tc : Thread Cert.MoeDRefIdeal.nD Cert.MoeDRefIdeal.τ).loc Cert.MoeDRefIdeal.main_arg6)) (m ((c.tc : Thread Cert.MoeDRefIdeal.nD Cert.MoeDRefIdeal.τ).loc Cert.MoeDRefIdeal.main_arg7)) (m ((c.tc : Thread Cert.MoeDRefIdeal.nD Cert.MoeDRefIdeal.τ).loc Cert.MoeDRefIdeal.main_arg8)) (m ((c.tc : Thread Cert.MoeDRefIdeal.nD Cert.MoeDRefIdeal.τ).loc Cert.MoeDRefIdeal.main_arg9))).1 = (fun _ => 1#1)
    ∧ (Cert.Pre_router_finite_sample.fn (F := Ideal) (m ((c.tc : Thread Cert.MoeDRefIdeal.nD Cert.MoeDRefIdeal.τ).loc Cert.MoeDRefIdeal.main_arg0)) (m ((c.tc : Thread Cert.MoeDRefIdeal.nD Cert.MoeDRefIdeal.τ).loc Cert.MoeDRefIdeal.main_arg1)) (m ((c.tc : Thread Cert.MoeDRefIdeal.nD Cert.MoeDRefIdeal.τ).loc Cert.MoeDRefIdeal.main_arg2)) (m ((c.tc : Thread Cert.MoeDRefIdeal.nD Cert.MoeDRefIdeal.τ).loc Cert.MoeDRefIdeal.main_arg3)) (m ((c.tc : Thread Cert.MoeDRefIdeal.nD Cert.MoeDRefIdeal.τ).loc Cert.MoeDRefIdeal.main_arg4)) (m ((c.tc : Thread Cert.MoeDRefIdeal.nD Cert.MoeDRefIdeal.τ).loc Cert.MoeDRefIdeal.main_arg5)) (m ((c.tc : Thread Cert.MoeDRefIdeal.nD Cert.MoeDRefIdeal.τ).loc Cert.MoeDRefIdeal.main_arg6)) (m ((c.tc : Thread Cert.MoeDRefIdeal.nD Cert.MoeDRefIdeal.τ).loc Cert.MoeDRefIdeal.main_arg7)) (m ((c.tc : Thread Cert.MoeDRefIdeal.nD Cert.MoeDRefIdeal.τ).loc Cert.MoeDRefIdeal.main_arg8)) (m ((c.tc : Thread Cert.MoeDRefIdeal.nD Cert.MoeDRefIdeal.τ).loc Cert.MoeDRefIdeal.main_arg9))).2.1 = (fun _ => 1#1)
    ∧ (Cert.Pre_router_finite_sample.fn (F := Ideal) (m ((c.tc : Thread Cert.MoeDRefIdeal.nD Cert.MoeDRefIdeal.τ).loc Cert.MoeDRefIdeal.main_arg0)) (m ((c.tc : Thread Cert.MoeDRefIdeal.nD Cert.MoeDRefIdeal.τ).loc Cert.MoeDRefIdeal.main_arg1)) (m ((c.tc : Thread Cert.MoeDRefIdeal.nD Cert.MoeDRefIdeal.τ).loc Cert.MoeDRefIdeal.main_arg2)) (m ((c.tc : Thread Cert.MoeDRefIdeal.nD Cert.MoeDRefIdeal.τ).loc Cert.MoeDRefIdeal.main_arg3)) (m ((c.tc : Thread Cert.MoeDRefIdeal.nD Cert.MoeDRefIdeal.τ).loc Cert.MoeDRefIdeal.main_arg4)) (m ((c.tc : Thread Cert.MoeDRefIdeal.nD Cert.MoeDRefIdeal.τ).loc Cert.MoeDRefIdeal.main_arg5)) (m ((c.tc : Thread Cert.MoeDRefIdeal.nD Cert.MoeDRefIdeal.τ).loc Cert.MoeDRefIdeal.main_arg6)) (m ((c.tc : Thread Cert.MoeDRefIdeal.nD Cert.MoeDRefIdeal.τ).loc Cert.MoeDRefIdeal.main_arg7)) (m ((c.tc : Thread Cert.MoeDRefIdeal.nD Cert.MoeDRefIdeal.τ).loc Cert.MoeDRefIdeal.main_arg8)) (m ((c.tc : Thread Cert.MoeDRefIdeal.nD Cert.MoeDRefIdeal.τ).loc Cert.MoeDRefIdeal.main_arg9))).2.2 = (fun _ => 1#1)

def Pre_ProjD (m : (ℓ : Loc Cert.ProjD.nD Cert.ProjD.τ Cert.ProjD.sig) → Buf (Elt Bits) ℓ) : Prop :=
  True

def Pre_ProjDIdeal (m : (ℓ : Loc Cert.ProjDIdeal.nD Cert.ProjDIdeal.τ Cert.ProjDIdeal.sig) → Buf (Elt Ideal) ℓ) : Prop :=
  True

def Pre_ProjDRefIdeal (m : (ℓ : Loc Cert.ProjDRefIdeal.nD Cert.ProjDRefIdeal.τ Cert.ProjDRefIdeal.sig) → Buf (Elt Ideal) ℓ) : Prop :=
  True

def Pre_MergeD (m : (ℓ : Loc Cert.MergeD.nD Cert.MergeD.τ Cert.MergeD.sig) → Buf (Elt Bits) ℓ) : Prop :=
  True

def Pre_MergeDIdeal (m : (ℓ : Loc Cert.MergeDIdeal.nD Cert.MergeDIdeal.τ Cert.MergeDIdeal.sig) → Buf (Elt Ideal) ℓ) : Prop :=
  True

def Pre_MergeDRefIdeal (m : (ℓ : Loc Cert.MergeDRefIdeal.nD Cert.MergeDRefIdeal.τ Cert.MergeDRefIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeIdeal_pre_router_finite [hMoeIdeal : Cert.MoeIdeal.Facts] [hPre_router_finite : Cert.Pre_router_finite.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_router_finite m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9))
      ∧ r.2.sem = fun _ => 0)

def quiescent_MoeRefIdeal_pre_router_finite [hMoeRefIdeal : Cert.MoeRefIdeal.Facts] [hPre_router_finite : Cert.Pre_router_finite.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_router_finite m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3)
      ∧ r.2.mem ((c.tc : Thread Cert.Ret.nD Cert.Ret.τ).loc Cert.Ret.main_arg4) = m ((c.tc : Thread Cert.Ret.nD Cert.Ret.τ).loc Cert.Ret.main_arg4))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
      ∧ r.2.mem ((c.tc : Thread Cert.RetIdeal.nD Cert.RetIdeal.τ).loc Cert.RetIdeal.main_arg4) = m ((c.tc : Thread Cert.RetIdeal.nD Cert.RetIdeal.τ).loc Cert.RetIdeal.main_arg4))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)
      ∧ r.2.mem ((c.tc : Thread Cert.RetRefIdeal.nD Cert.RetRefIdeal.τ).loc Cert.RetRefIdeal.main_arg4) = m ((c.tc : Thread Cert.RetRefIdeal.nD Cert.RetRefIdeal.τ).loc Cert.RetRefIdeal.main_arg4))
      ∧ r.2.sem = fun _ => 0)

def quiescent_RetD [hRetD : Cert.RetD.Facts] : Prop :=
  ∀ (m : (ℓ : Loc Cert.RetD.nD Cert.RetD.τ Cert.RetD.sig) → Buf (Elt Bits) ℓ) (g : Dev Cert.RetD.nD → PrngReg), Pre_RetD m →
    θ_run (Cert.RetD.defs (F := Bits)) (onTc (τ := Cert.RetD.τ) (Cert.RetD.main (F := Bits))) ⟨m, fun _ => 0, g⟩ (fun r => (∀ c : Dev Cert.RetD.nD,
      r.2.mem ((c.tc : Thread Cert.RetD.nD Cert.RetD.τ).loc Cert.RetD.main_arg0) = m ((c.tc : Thread Cert.RetD.nD Cert.RetD.τ).loc Cert.RetD.main_arg0)
      ∧ r.2.mem ((c.tc : Thread Cert.RetD.nD Cert.RetD.τ).loc Cert.RetD.main_arg1) = m ((c.tc : Thread Cert.RetD.nD Cert.RetD.τ).loc Cert.RetD.main_arg1)
      ∧ r.2.mem ((c.tc : Thread Cert.RetD.nD Cert.RetD.τ).loc Cert.RetD.main_arg2) = m ((c.tc : Thread Cert.RetD.nD Cert.RetD.τ).loc Cert.RetD.main_arg2)
      ∧ r.2.mem ((c.tc : Thread Cert.RetD.nD Cert.RetD.τ).loc Cert.RetD.main_arg3) = m ((c.tc : Thread Cert.RetD.nD Cert.RetD.τ).loc Cert.RetD.main_arg3)
      ∧ r.2.mem ((c.tc : Thread Cert.RetD.nD Cert.RetD.τ).loc Cert.RetD.main_arg4) = m ((c.tc : Thread Cert.RetD.nD Cert.RetD.τ).loc Cert.RetD.main_arg4)
      ∧ r.2.mem ((c.tc : Thread Cert.RetD.nD Cert.RetD.τ).loc Cert.RetD.main_arg5) = m ((c.tc : Thread Cert.RetD.nD Cert.RetD.τ).loc Cert.RetD.main_arg5))
      ∧ r.2.sem = fun _ => 0)

def quiescent_RetDIdeal [hRetDIdeal : Cert.RetDIdeal.Facts] : Prop :=
  ∀ (m : (ℓ : Loc Cert.RetDIdeal.nD Cert.RetDIdeal.τ Cert.RetDIdeal.sig) → Buf (Elt Ideal) ℓ) (g : Dev Cert.RetDIdeal.nD → PrngReg), Pre_RetDIdeal m →
    θ_run (Cert.RetDIdeal.defs (F := Ideal)) (onTc (τ := Cert.RetDIdeal.τ) (Cert.RetDIdeal.main (F := Ideal))) ⟨m, fun _ => 0, g⟩ (fun r => (∀ c : Dev Cert.RetDIdeal.nD,
      r.2.mem ((c.tc : Thread Cert.RetDIdeal.nD Cert.RetDIdeal.τ).loc Cert.RetDIdeal.main_arg0) = m ((c.tc : Thread Cert.RetDIdeal.nD Cert.RetDIdeal.τ).loc Cert.RetDIdeal.main_arg0)
      ∧ r.2.mem ((c.tc : Thread Cert.RetDIdeal.nD Cert.RetDIdeal.τ).loc Cert.RetDIdeal.main_arg1) = m ((c.tc : Thread Cert.RetDIdeal.nD Cert.RetDIdeal.τ).loc Cert.RetDIdeal.main_arg1)
      ∧ r.2.mem ((c.tc : Thread Cert.RetDIdeal.nD Cert.RetDIdeal.τ).loc Cert.RetDIdeal.main_arg2) = m ((c.tc : Thread Cert.RetDIdeal.nD Cert.RetDIdeal.τ).loc Cert.RetDIdeal.main_arg2)
      ∧ r.2.mem ((c.tc : Thread Cert.RetDIdeal.nD Cert.RetDIdeal.τ).loc Cert.RetDIdeal.main_arg3) = m ((c.tc : Thread Cert.RetDIdeal.nD Cert.RetDIdeal.τ).loc Cert.RetDIdeal.main_arg3)
      ∧ r.2.mem ((c.tc : Thread Cert.RetDIdeal.nD Cert.RetDIdeal.τ).loc Cert.RetDIdeal.main_arg4) = m ((c.tc : Thread Cert.RetDIdeal.nD Cert.RetDIdeal.τ).loc Cert.RetDIdeal.main_arg4)
      ∧ r.2.mem ((c.tc : Thread Cert.RetDIdeal.nD Cert.RetDIdeal.τ).loc Cert.RetDIdeal.main_arg5) = m ((c.tc : Thread Cert.RetDIdeal.nD Cert.RetDIdeal.τ).loc Cert.RetDIdeal.main_arg5))
      ∧ r.2.sem = fun _ => 0)

def quiescent_RetDRefIdeal [hRetDRefIdeal : Cert.RetDRefIdeal.Facts] : Prop :=
  ∀ (m : (ℓ : Loc Cert.RetDRefIdeal.nD Cert.RetDRefIdeal.τ Cert.RetDRefIdeal.sig) → Buf (Elt Ideal) ℓ) (g : Dev Cert.RetDRefIdeal.nD → PrngReg), Pre_RetDRefIdeal m →
    θ_run (Cert.RetDRefIdeal.defs (F := Ideal)) (onTc (τ := Cert.RetDRefIdeal.τ) (Cert.RetDRefIdeal.main (F := Ideal))) ⟨m, fun _ => 0, g⟩ (fun r => (∀ c : Dev Cert.RetDRefIdeal.nD,
      r.2.mem ((c.tc : Thread Cert.RetDRefIdeal.nD Cert.RetDRefIdeal.τ).loc Cert.RetDRefIdeal.main_arg0) = m ((c.tc : Thread Cert.RetDRefIdeal.nD Cert.RetDRefIdeal.τ).loc Cert.RetDRefIdeal.main_arg0)
      ∧ r.2.mem ((c.tc : Thread Cert.RetDRefIdeal.nD Cert.RetDRefIdeal.τ).loc Cert.RetDRefIdeal.main_arg1) = m ((c.tc : Thread Cert.RetDRefIdeal.nD Cert.RetDRefIdeal.τ).loc Cert.RetDRefIdeal.main_arg1)
      ∧ r.2.mem ((c.tc : Thread Cert.RetDRefIdeal.nD Cert.RetDRefIdeal.τ).loc Cert.RetDRefIdeal.main_arg2) = m ((c.tc : Thread Cert.RetDRefIdeal.nD Cert.RetDRefIdeal.τ).loc Cert.RetDRefIdeal.main_arg2)
      ∧ r.2.mem ((c.tc : Thread Cert.RetDRefIdeal.nD Cert.RetDRefIdeal.τ).loc Cert.RetDRefIdeal.main_arg3) = m ((c.tc : Thread Cert.RetDRefIdeal.nD Cert.RetDRefIdeal.τ).loc Cert.RetDRefIdeal.main_arg3)
      ∧ r.2.mem ((c.tc : Thread Cert.RetDRefIdeal.nD Cert.RetDRefIdeal.τ).loc Cert.RetDRefIdeal.main_arg4) = m ((c.tc : Thread Cert.RetDRefIdeal.nD Cert.RetDRefIdeal.τ).loc Cert.RetDRefIdeal.main_arg4)
      ∧ r.2.mem ((c.tc : Thread Cert.RetDRefIdeal.nD Cert.RetDRefIdeal.τ).loc Cert.RetDRefIdeal.main_arg5) = m ((c.tc : Thread Cert.RetDRefIdeal.nD Cert.RetDRefIdeal.τ).loc Cert.RetDRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MoeD [hMoeD : Cert.MoeD.Facts] : Prop :=
  ∀ (m : (ℓ : Loc Cert.MoeD.nD Cert.MoeD.τ Cert.MoeD.sig) → Buf (Elt Bits) ℓ) (g : Dev Cert.MoeD.nD → PrngReg), Pre_MoeD m →
    θ_run (Cert.MoeD.defs (F := Bits)) (onTc (τ := Cert.MoeD.τ) (Cert.MoeD.main (F := Bits))) ⟨m, fun _ => 0, g⟩ (fun r => (∀ c : Dev Cert.MoeD.nD,
      r.2.mem ((c.tc : Thread Cert.MoeD.nD Cert.MoeD.τ).loc Cert.MoeD.main_arg0) = m ((c.tc : Thread Cert.MoeD.nD Cert.MoeD.τ).loc Cert.MoeD.main_arg0)
      ∧ r.2.mem ((c.tc : Thread Cert.MoeD.nD Cert.MoeD.τ).loc Cert.MoeD.main_arg1) = m ((c.tc : Thread Cert.MoeD.nD Cert.MoeD.τ).loc Cert.MoeD.main_arg1)
      ∧ r.2.mem ((c.tc : Thread Cert.MoeD.nD Cert.MoeD.τ).loc Cert.MoeD.main_arg2) = m ((c.tc : Thread Cert.MoeD.nD Cert.MoeD.τ).loc Cert.MoeD.main_arg2)
      ∧ r.2.mem ((c.tc : Thread Cert.MoeD.nD Cert.MoeD.τ).loc Cert.MoeD.main_arg3) = m ((c.tc : Thread Cert.MoeD.nD Cert.MoeD.τ).loc Cert.MoeD.main_arg3)
      ∧ r.2.mem ((c.tc : Thread Cert.MoeD.nD Cert.MoeD.τ).loc Cert.MoeD.main_arg4) = m ((c.tc : Thread Cert.MoeD.nD Cert.MoeD.τ).loc Cert.MoeD.main_arg4)
      ∧ r.2.mem ((c.tc : Thread Cert.MoeD.nD Cert.MoeD.τ).loc Cert.MoeD.main_arg5) = m ((c.tc : Thread Cert.MoeD.nD Cert.MoeD.τ).loc Cert.MoeD.main_arg5)
      ∧ r.2.mem ((c.tc : Thread Cert.MoeD.nD Cert.MoeD.τ).loc Cert.MoeD.main_arg6) = m ((c.tc : Thread Cert.MoeD.nD Cert.MoeD.τ).loc Cert.MoeD.main_arg6)
      ∧ r.2.mem ((c.tc : Thread Cert.MoeD.nD Cert.MoeD.τ).loc Cert.MoeD.main_arg7) = m ((c.tc : Thread Cert.MoeD.nD Cert.MoeD.τ).loc Cert.MoeD.main_arg7)
      ∧ r.2.mem ((c.tc : Thread Cert.MoeD.nD Cert.MoeD.τ).loc Cert.MoeD.main_arg8) = m ((c.tc : Thread Cert.MoeD.nD Cert.MoeD.τ).loc Cert.MoeD.main_arg8)
      ∧ r.2.mem ((c.tc : Thread Cert.MoeD.nD Cert.MoeD.τ).loc Cert.MoeD.main_arg9) = m ((c.tc : Thread Cert.MoeD.nD Cert.MoeD.τ).loc Cert.MoeD.main_arg9))
      ∧ r.2.sem = fun _ => 0)

def quiescent_MoeDIdeal [hMoeDIdeal : Cert.MoeDIdeal.Facts] : Prop :=
  ∀ (m : (ℓ : Loc Cert.MoeDIdeal.nD Cert.MoeDIdeal.τ Cert.MoeDIdeal.sig) → Buf (Elt Ideal) ℓ) (g : Dev Cert.MoeDIdeal.nD → PrngReg), Pre_MoeDIdeal m →
    θ_run (Cert.MoeDIdeal.defs (F := Ideal)) (onTc (τ := Cert.MoeDIdeal.τ) (Cert.MoeDIdeal.main (F := Ideal))) ⟨m, fun _ => 0, g⟩ (fun r => (∀ c : Dev Cert.MoeDIdeal.nD,
      r.2.mem ((c.tc : Thread Cert.MoeDIdeal.nD Cert.MoeDIdeal.τ).loc Cert.MoeDIdeal.main_arg0) = m ((c.tc : Thread Cert.MoeDIdeal.nD Cert.MoeDIdeal.τ).loc Cert.MoeDIdeal.main_arg0)
      ∧ r.2.mem ((c.tc : Thread Cert.MoeDIdeal.nD Cert.MoeDIdeal.τ).loc Cert.MoeDIdeal.main_arg1) = m ((c.tc : Thread Cert.MoeDIdeal.nD Cert.MoeDIdeal.τ).loc Cert.MoeDIdeal.main_arg1)
      ∧ r.2.mem ((c.tc : Thread Cert.MoeDIdeal.nD Cert.MoeDIdeal.τ).loc Cert.MoeDIdeal.main_arg2) = m ((c.tc : Thread Cert.MoeDIdeal.nD Cert.MoeDIdeal.τ).loc Cert.MoeDIdeal.main_arg2)
      ∧ r.2.mem ((c.tc : Thread Cert.MoeDIdeal.nD Cert.MoeDIdeal.τ).loc Cert.MoeDIdeal.main_arg3) = m ((c.tc : Thread Cert.MoeDIdeal.nD Cert.MoeDIdeal.τ).loc Cert.MoeDIdeal.main_arg3)
      ∧ r.2.mem ((c.tc : Thread Cert.MoeDIdeal.nD Cert.MoeDIdeal.τ).loc Cert.MoeDIdeal.main_arg4) = m ((c.tc : Thread Cert.MoeDIdeal.nD Cert.MoeDIdeal.τ).loc Cert.MoeDIdeal.main_arg4)
      ∧ r.2.mem ((c.tc : Thread Cert.MoeDIdeal.nD Cert.MoeDIdeal.τ).loc Cert.MoeDIdeal.main_arg5) = m ((c.tc : Thread Cert.MoeDIdeal.nD Cert.MoeDIdeal.τ).loc Cert.MoeDIdeal.main_arg5)
      ∧ r.2.mem ((c.tc : Thread Cert.MoeDIdeal.nD Cert.MoeDIdeal.τ).loc Cert.MoeDIdeal.main_arg6) = m ((c.tc : Thread Cert.MoeDIdeal.nD Cert.MoeDIdeal.τ).loc Cert.MoeDIdeal.main_arg6)
      ∧ r.2.mem ((c.tc : Thread Cert.MoeDIdeal.nD Cert.MoeDIdeal.τ).loc Cert.MoeDIdeal.main_arg7) = m ((c.tc : Thread Cert.MoeDIdeal.nD Cert.MoeDIdeal.τ).loc Cert.MoeDIdeal.main_arg7)
      ∧ r.2.mem ((c.tc : Thread Cert.MoeDIdeal.nD Cert.MoeDIdeal.τ).loc Cert.MoeDIdeal.main_arg8) = m ((c.tc : Thread Cert.MoeDIdeal.nD Cert.MoeDIdeal.τ).loc Cert.MoeDIdeal.main_arg8)
      ∧ r.2.mem ((c.tc : Thread Cert.MoeDIdeal.nD Cert.MoeDIdeal.τ).loc Cert.MoeDIdeal.main_arg9) = m ((c.tc : Thread Cert.MoeDIdeal.nD Cert.MoeDIdeal.τ).loc Cert.MoeDIdeal.main_arg9))
      ∧ r.2.sem = fun _ => 0)

def quiescent_MoeDIdeal_pre_router_finite_sample [hMoeDIdeal : Cert.MoeDIdeal.Facts] [hPre_router_finite_sample : Cert.Pre_router_finite_sample.Facts] : Prop :=
  ∀ (m : (ℓ : Loc Cert.MoeDIdeal.nD Cert.MoeDIdeal.τ Cert.MoeDIdeal.sig) → Buf (Elt Ideal) ℓ) (g : Dev Cert.MoeDIdeal.nD → PrngReg), Pre_MoeDIdeal_router_finite_sample m →
    θ_run (Cert.MoeDIdeal.defs (F := Ideal)) (onTc (τ := Cert.MoeDIdeal.τ) (Cert.MoeDIdeal.main (F := Ideal))) ⟨m, fun _ => 0, g⟩ (fun r => (∀ c : Dev Cert.MoeDIdeal.nD,
      r.2.mem ((c.tc : Thread Cert.MoeDIdeal.nD Cert.MoeDIdeal.τ).loc Cert.MoeDIdeal.main_arg0) = m ((c.tc : Thread Cert.MoeDIdeal.nD Cert.MoeDIdeal.τ).loc Cert.MoeDIdeal.main_arg0)
      ∧ r.2.mem ((c.tc : Thread Cert.MoeDIdeal.nD Cert.MoeDIdeal.τ).loc Cert.MoeDIdeal.main_arg1) = m ((c.tc : Thread Cert.MoeDIdeal.nD Cert.MoeDIdeal.τ).loc Cert.MoeDIdeal.main_arg1)
      ∧ r.2.mem ((c.tc : Thread Cert.MoeDIdeal.nD Cert.MoeDIdeal.τ).loc Cert.MoeDIdeal.main_arg2) = m ((c.tc : Thread Cert.MoeDIdeal.nD Cert.MoeDIdeal.τ).loc Cert.MoeDIdeal.main_arg2)
      ∧ r.2.mem ((c.tc : Thread Cert.MoeDIdeal.nD Cert.MoeDIdeal.τ).loc Cert.MoeDIdeal.main_arg3) = m ((c.tc : Thread Cert.MoeDIdeal.nD Cert.MoeDIdeal.τ).loc Cert.MoeDIdeal.main_arg3)
      ∧ r.2.mem ((c.tc : Thread Cert.MoeDIdeal.nD Cert.MoeDIdeal.τ).loc Cert.MoeDIdeal.main_arg4) = m ((c.tc : Thread Cert.MoeDIdeal.nD Cert.MoeDIdeal.τ).loc Cert.MoeDIdeal.main_arg4)
      ∧ r.2.mem ((c.tc : Thread Cert.MoeDIdeal.nD Cert.MoeDIdeal.τ).loc Cert.MoeDIdeal.main_arg5) = m ((c.tc : Thread Cert.MoeDIdeal.nD Cert.MoeDIdeal.τ).loc Cert.MoeDIdeal.main_arg5)
      ∧ r.2.mem ((c.tc : Thread Cert.MoeDIdeal.nD Cert.MoeDIdeal.τ).loc Cert.MoeDIdeal.main_arg6) = m ((c.tc : Thread Cert.MoeDIdeal.nD Cert.MoeDIdeal.τ).loc Cert.MoeDIdeal.main_arg6)
      ∧ r.2.mem ((c.tc : Thread Cert.MoeDIdeal.nD Cert.MoeDIdeal.τ).loc Cert.MoeDIdeal.main_arg7) = m ((c.tc : Thread Cert.MoeDIdeal.nD Cert.MoeDIdeal.τ).loc Cert.MoeDIdeal.main_arg7)
      ∧ r.2.mem ((c.tc : Thread Cert.MoeDIdeal.nD Cert.MoeDIdeal.τ).loc Cert.MoeDIdeal.main_arg8) = m ((c.tc : Thread Cert.MoeDIdeal.nD Cert.MoeDIdeal.τ).loc Cert.MoeDIdeal.main_arg8)
      ∧ r.2.mem ((c.tc : Thread Cert.MoeDIdeal.nD Cert.MoeDIdeal.τ).loc Cert.MoeDIdeal.main_arg9) = m ((c.tc : Thread Cert.MoeDIdeal.nD Cert.MoeDIdeal.τ).loc Cert.MoeDIdeal.main_arg9))
      ∧ r.2.sem = fun _ => 0)

def quiescent_MoeDRefIdeal [hMoeDRefIdeal : Cert.MoeDRefIdeal.Facts] : Prop :=
  ∀ (m : (ℓ : Loc Cert.MoeDRefIdeal.nD Cert.MoeDRefIdeal.τ Cert.MoeDRefIdeal.sig) → Buf (Elt Ideal) ℓ) (g : Dev Cert.MoeDRefIdeal.nD → PrngReg), Pre_MoeDRefIdeal m →
    θ_run (Cert.MoeDRefIdeal.defs (F := Ideal)) (onTc (τ := Cert.MoeDRefIdeal.τ) (Cert.MoeDRefIdeal.main (F := Ideal))) ⟨m, fun _ => 0, g⟩ (fun r => (∀ c : Dev Cert.MoeDRefIdeal.nD,
      r.2.mem ((c.tc : Thread Cert.MoeDRefIdeal.nD Cert.MoeDRefIdeal.τ).loc Cert.MoeDRefIdeal.main_arg0) = m ((c.tc : Thread Cert.MoeDRefIdeal.nD Cert.MoeDRefIdeal.τ).loc Cert.MoeDRefIdeal.main_arg0)
      ∧ r.2.mem ((c.tc : Thread Cert.MoeDRefIdeal.nD Cert.MoeDRefIdeal.τ).loc Cert.MoeDRefIdeal.main_arg1) = m ((c.tc : Thread Cert.MoeDRefIdeal.nD Cert.MoeDRefIdeal.τ).loc Cert.MoeDRefIdeal.main_arg1)
      ∧ r.2.mem ((c.tc : Thread Cert.MoeDRefIdeal.nD Cert.MoeDRefIdeal.τ).loc Cert.MoeDRefIdeal.main_arg2) = m ((c.tc : Thread Cert.MoeDRefIdeal.nD Cert.MoeDRefIdeal.τ).loc Cert.MoeDRefIdeal.main_arg2)
      ∧ r.2.mem ((c.tc : Thread Cert.MoeDRefIdeal.nD Cert.MoeDRefIdeal.τ).loc Cert.MoeDRefIdeal.main_arg3) = m ((c.tc : Thread Cert.MoeDRefIdeal.nD Cert.MoeDRefIdeal.τ).loc Cert.MoeDRefIdeal.main_arg3)
      ∧ r.2.mem ((c.tc : Thread Cert.MoeDRefIdeal.nD Cert.MoeDRefIdeal.τ).loc Cert.MoeDRefIdeal.main_arg4) = m ((c.tc : Thread Cert.MoeDRefIdeal.nD Cert.MoeDRefIdeal.τ).loc Cert.MoeDRefIdeal.main_arg4)
      ∧ r.2.mem ((c.tc : Thread Cert.MoeDRefIdeal.nD Cert.MoeDRefIdeal.τ).loc Cert.MoeDRefIdeal.main_arg5) = m ((c.tc : Thread Cert.MoeDRefIdeal.nD Cert.MoeDRefIdeal.τ).loc Cert.MoeDRefIdeal.main_arg5)
      ∧ r.2.mem ((c.tc : Thread Cert.MoeDRefIdeal.nD Cert.MoeDRefIdeal.τ).loc Cert.MoeDRefIdeal.main_arg6) = m ((c.tc : Thread Cert.MoeDRefIdeal.nD Cert.MoeDRefIdeal.τ).loc Cert.MoeDRefIdeal.main_arg6)
      ∧ r.2.mem ((c.tc : Thread Cert.MoeDRefIdeal.nD Cert.MoeDRefIdeal.τ).loc Cert.MoeDRefIdeal.main_arg7) = m ((c.tc : Thread Cert.MoeDRefIdeal.nD Cert.MoeDRefIdeal.τ).loc Cert.MoeDRefIdeal.main_arg7)
      ∧ r.2.mem ((c.tc : Thread Cert.MoeDRefIdeal.nD Cert.MoeDRefIdeal.τ).loc Cert.MoeDRefIdeal.main_arg8) = m ((c.tc : Thread Cert.MoeDRefIdeal.nD Cert.MoeDRefIdeal.τ).loc Cert.MoeDRefIdeal.main_arg8)
      ∧ r.2.mem ((c.tc : Thread Cert.MoeDRefIdeal.nD Cert.MoeDRefIdeal.τ).loc Cert.MoeDRefIdeal.main_arg9) = m ((c.tc : Thread Cert.MoeDRefIdeal.nD Cert.MoeDRefIdeal.τ).loc Cert.MoeDRefIdeal.main_arg9))
      ∧ r.2.sem = fun _ => 0)

def quiescent_MoeDRefIdeal_pre_router_finite_sample [hMoeDRefIdeal : Cert.MoeDRefIdeal.Facts] [hPre_router_finite_sample : Cert.Pre_router_finite_sample.Facts] : Prop :=
  ∀ (m : (ℓ : Loc Cert.MoeDRefIdeal.nD Cert.MoeDRefIdeal.τ Cert.MoeDRefIdeal.sig) → Buf (Elt Ideal) ℓ) (g : Dev Cert.MoeDRefIdeal.nD → PrngReg), Pre_MoeDRefIdeal_router_finite_sample m →
    θ_run (Cert.MoeDRefIdeal.defs (F := Ideal)) (onTc (τ := Cert.MoeDRefIdeal.τ) (Cert.MoeDRefIdeal.main (F := Ideal))) ⟨m, fun _ => 0, g⟩ (fun r => (∀ c : Dev Cert.MoeDRefIdeal.nD,
      r.2.mem ((c.tc : Thread Cert.MoeDRefIdeal.nD Cert.MoeDRefIdeal.τ).loc Cert.MoeDRefIdeal.main_arg0) = m ((c.tc : Thread Cert.MoeDRefIdeal.nD Cert.MoeDRefIdeal.τ).loc Cert.MoeDRefIdeal.main_arg0)
      ∧ r.2.mem ((c.tc : Thread Cert.MoeDRefIdeal.nD Cert.MoeDRefIdeal.τ).loc Cert.MoeDRefIdeal.main_arg1) = m ((c.tc : Thread Cert.MoeDRefIdeal.nD Cert.MoeDRefIdeal.τ).loc Cert.MoeDRefIdeal.main_arg1)
      ∧ r.2.mem ((c.tc : Thread Cert.MoeDRefIdeal.nD Cert.MoeDRefIdeal.τ).loc Cert.MoeDRefIdeal.main_arg2) = m ((c.tc : Thread Cert.MoeDRefIdeal.nD Cert.MoeDRefIdeal.τ).loc Cert.MoeDRefIdeal.main_arg2)
      ∧ r.2.mem ((c.tc : Thread Cert.MoeDRefIdeal.nD Cert.MoeDRefIdeal.τ).loc Cert.MoeDRefIdeal.main_arg3) = m ((c.tc : Thread Cert.MoeDRefIdeal.nD Cert.MoeDRefIdeal.τ).loc Cert.MoeDRefIdeal.main_arg3)
      ∧ r.2.mem ((c.tc : Thread Cert.MoeDRefIdeal.nD Cert.MoeDRefIdeal.τ).loc Cert.MoeDRefIdeal.main_arg4) = m ((c.tc : Thread Cert.MoeDRefIdeal.nD Cert.MoeDRefIdeal.τ).loc Cert.MoeDRefIdeal.main_arg4)
      ∧ r.2.mem ((c.tc : Thread Cert.MoeDRefIdeal.nD Cert.MoeDRefIdeal.τ).loc Cert.MoeDRefIdeal.main_arg5) = m ((c.tc : Thread Cert.MoeDRefIdeal.nD Cert.MoeDRefIdeal.τ).loc Cert.MoeDRefIdeal.main_arg5)
      ∧ r.2.mem ((c.tc : Thread Cert.MoeDRefIdeal.nD Cert.MoeDRefIdeal.τ).loc Cert.MoeDRefIdeal.main_arg6) = m ((c.tc : Thread Cert.MoeDRefIdeal.nD Cert.MoeDRefIdeal.τ).loc Cert.MoeDRefIdeal.main_arg6)
      ∧ r.2.mem ((c.tc : Thread Cert.MoeDRefIdeal.nD Cert.MoeDRefIdeal.τ).loc Cert.MoeDRefIdeal.main_arg7) = m ((c.tc : Thread Cert.MoeDRefIdeal.nD Cert.MoeDRefIdeal.τ).loc Cert.MoeDRefIdeal.main_arg7)
      ∧ r.2.mem ((c.tc : Thread Cert.MoeDRefIdeal.nD Cert.MoeDRefIdeal.τ).loc Cert.MoeDRefIdeal.main_arg8) = m ((c.tc : Thread Cert.MoeDRefIdeal.nD Cert.MoeDRefIdeal.τ).loc Cert.MoeDRefIdeal.main_arg8)
      ∧ r.2.mem ((c.tc : Thread Cert.MoeDRefIdeal.nD Cert.MoeDRefIdeal.τ).loc Cert.MoeDRefIdeal.main_arg9) = m ((c.tc : Thread Cert.MoeDRefIdeal.nD Cert.MoeDRefIdeal.τ).loc Cert.MoeDRefIdeal.main_arg9))
      ∧ r.2.sem = fun _ => 0)

def quiescent_ProjD [hProjD : Cert.ProjD.Facts] : Prop :=
  ∀ (m : (ℓ : Loc Cert.ProjD.nD Cert.ProjD.τ Cert.ProjD.sig) → Buf (Elt Bits) ℓ) (g : Dev Cert.ProjD.nD → PrngReg), Pre_ProjD m →
    θ_run (Cert.ProjD.defs (F := Bits)) (onTc (τ := Cert.ProjD.τ) (Cert.ProjD.main (F := Bits))) ⟨m, fun _ => 0, g⟩ (fun r => (∀ c : Dev Cert.ProjD.nD,
      r.2.mem ((c.tc : Thread Cert.ProjD.nD Cert.ProjD.τ).loc Cert.ProjD.main_arg0) = m ((c.tc : Thread Cert.ProjD.nD Cert.ProjD.τ).loc Cert.ProjD.main_arg0)
      ∧ r.2.mem ((c.tc : Thread Cert.ProjD.nD Cert.ProjD.τ).loc Cert.ProjD.main_arg1) = m ((c.tc : Thread Cert.ProjD.nD Cert.ProjD.τ).loc Cert.ProjD.main_arg1))
      ∧ r.2.sem = fun _ => 0)

def quiescent_ProjDIdeal [hProjDIdeal : Cert.ProjDIdeal.Facts] : Prop :=
  ∀ (m : (ℓ : Loc Cert.ProjDIdeal.nD Cert.ProjDIdeal.τ Cert.ProjDIdeal.sig) → Buf (Elt Ideal) ℓ) (g : Dev Cert.ProjDIdeal.nD → PrngReg), Pre_ProjDIdeal m →
    θ_run (Cert.ProjDIdeal.defs (F := Ideal)) (onTc (τ := Cert.ProjDIdeal.τ) (Cert.ProjDIdeal.main (F := Ideal))) ⟨m, fun _ => 0, g⟩ (fun r => (∀ c : Dev Cert.ProjDIdeal.nD,
      r.2.mem ((c.tc : Thread Cert.ProjDIdeal.nD Cert.ProjDIdeal.τ).loc Cert.ProjDIdeal.main_arg0) = m ((c.tc : Thread Cert.ProjDIdeal.nD Cert.ProjDIdeal.τ).loc Cert.ProjDIdeal.main_arg0)
      ∧ r.2.mem ((c.tc : Thread Cert.ProjDIdeal.nD Cert.ProjDIdeal.τ).loc Cert.ProjDIdeal.main_arg1) = m ((c.tc : Thread Cert.ProjDIdeal.nD Cert.ProjDIdeal.τ).loc Cert.ProjDIdeal.main_arg1))
      ∧ r.2.sem = fun _ => 0)

def quiescent_ProjDRefIdeal [hProjDRefIdeal : Cert.ProjDRefIdeal.Facts] : Prop :=
  ∀ (m : (ℓ : Loc Cert.ProjDRefIdeal.nD Cert.ProjDRefIdeal.τ Cert.ProjDRefIdeal.sig) → Buf (Elt Ideal) ℓ) (g : Dev Cert.ProjDRefIdeal.nD → PrngReg), Pre_ProjDRefIdeal m →
    θ_run (Cert.ProjDRefIdeal.defs (F := Ideal)) (onTc (τ := Cert.ProjDRefIdeal.τ) (Cert.ProjDRefIdeal.main (F := Ideal))) ⟨m, fun _ => 0, g⟩ (fun r => (∀ c : Dev Cert.ProjDRefIdeal.nD,
      r.2.mem ((c.tc : Thread Cert.ProjDRefIdeal.nD Cert.ProjDRefIdeal.τ).loc Cert.ProjDRefIdeal.main_arg0) = m ((c.tc : Thread Cert.ProjDRefIdeal.nD Cert.ProjDRefIdeal.τ).loc Cert.ProjDRefIdeal.main_arg0)
      ∧ r.2.mem ((c.tc : Thread Cert.ProjDRefIdeal.nD Cert.ProjDRefIdeal.τ).loc Cert.ProjDRefIdeal.main_arg1) = m ((c.tc : Thread Cert.ProjDRefIdeal.nD Cert.ProjDRefIdeal.τ).loc Cert.ProjDRefIdeal.main_arg1))
      ∧ r.2.sem = fun _ => 0)

def quiescent_MergeD [hMergeD : Cert.MergeD.Facts] : Prop :=
  ∀ (m : (ℓ : Loc Cert.MergeD.nD Cert.MergeD.τ Cert.MergeD.sig) → Buf (Elt Bits) ℓ) (g : Dev Cert.MergeD.nD → PrngReg), Pre_MergeD m →
    θ_run (Cert.MergeD.defs (F := Bits)) (onTc (τ := Cert.MergeD.τ) (Cert.MergeD.main (F := Bits))) ⟨m, fun _ => 0, g⟩ (fun r => (∀ c : Dev Cert.MergeD.nD,
      r.2.mem ((c.tc : Thread Cert.MergeD.nD Cert.MergeD.τ).loc Cert.MergeD.main_arg0) = m ((c.tc : Thread Cert.MergeD.nD Cert.MergeD.τ).loc Cert.MergeD.main_arg0)
      ∧ r.2.mem ((c.tc : Thread Cert.MergeD.nD Cert.MergeD.τ).loc Cert.MergeD.main_arg1) = m ((c.tc : Thread Cert.MergeD.nD Cert.MergeD.τ).loc Cert.MergeD.main_arg1)
      ∧ r.2.mem ((c.tc : Thread Cert.MergeD.nD Cert.MergeD.τ).loc Cert.MergeD.main_arg2) = m ((c.tc : Thread Cert.MergeD.nD Cert.MergeD.τ).loc Cert.MergeD.main_arg2)
      ∧ r.2.mem ((c.tc : Thread Cert.MergeD.nD Cert.MergeD.τ).loc Cert.MergeD.main_arg3) = m ((c.tc : Thread Cert.MergeD.nD Cert.MergeD.τ).loc Cert.MergeD.main_arg3)
      ∧ r.2.mem ((c.tc : Thread Cert.MergeD.nD Cert.MergeD.τ).loc Cert.MergeD.main_arg4) = m ((c.tc : Thread Cert.MergeD.nD Cert.MergeD.τ).loc Cert.MergeD.main_arg4)
      ∧ r.2.mem ((c.tc : Thread Cert.MergeD.nD Cert.MergeD.τ).loc Cert.MergeD.main_arg5) = m ((c.tc : Thread Cert.MergeD.nD Cert.MergeD.τ).loc Cert.MergeD.main_arg5)
      ∧ r.2.mem ((c.tc : Thread Cert.MergeD.nD Cert.MergeD.τ).loc Cert.MergeD.main_arg6) = m ((c.tc : Thread Cert.MergeD.nD Cert.MergeD.τ).loc Cert.MergeD.main_arg6)
      ∧ r.2.mem ((c.tc : Thread Cert.MergeD.nD Cert.MergeD.τ).loc Cert.MergeD.main_arg7) = m ((c.tc : Thread Cert.MergeD.nD Cert.MergeD.τ).loc Cert.MergeD.main_arg7)
      ∧ r.2.mem ((c.tc : Thread Cert.MergeD.nD Cert.MergeD.τ).loc Cert.MergeD.main_arg8) = m ((c.tc : Thread Cert.MergeD.nD Cert.MergeD.τ).loc Cert.MergeD.main_arg8)
      ∧ r.2.mem ((c.tc : Thread Cert.MergeD.nD Cert.MergeD.τ).loc Cert.MergeD.main_arg9) = m ((c.tc : Thread Cert.MergeD.nD Cert.MergeD.τ).loc Cert.MergeD.main_arg9))
      ∧ r.2.sem = fun _ => 0)

def quiescent_MergeDIdeal [hMergeDIdeal : Cert.MergeDIdeal.Facts] : Prop :=
  ∀ (m : (ℓ : Loc Cert.MergeDIdeal.nD Cert.MergeDIdeal.τ Cert.MergeDIdeal.sig) → Buf (Elt Ideal) ℓ) (g : Dev Cert.MergeDIdeal.nD → PrngReg), Pre_MergeDIdeal m →
    θ_run (Cert.MergeDIdeal.defs (F := Ideal)) (onTc (τ := Cert.MergeDIdeal.τ) (Cert.MergeDIdeal.main (F := Ideal))) ⟨m, fun _ => 0, g⟩ (fun r => (∀ c : Dev Cert.MergeDIdeal.nD,
      r.2.mem ((c.tc : Thread Cert.MergeDIdeal.nD Cert.MergeDIdeal.τ).loc Cert.MergeDIdeal.main_arg0) = m ((c.tc : Thread Cert.MergeDIdeal.nD Cert.MergeDIdeal.τ).loc Cert.MergeDIdeal.main_arg0)
      ∧ r.2.mem ((c.tc : Thread Cert.MergeDIdeal.nD Cert.MergeDIdeal.τ).loc Cert.MergeDIdeal.main_arg1) = m ((c.tc : Thread Cert.MergeDIdeal.nD Cert.MergeDIdeal.τ).loc Cert.MergeDIdeal.main_arg1)
      ∧ r.2.mem ((c.tc : Thread Cert.MergeDIdeal.nD Cert.MergeDIdeal.τ).loc Cert.MergeDIdeal.main_arg2) = m ((c.tc : Thread Cert.MergeDIdeal.nD Cert.MergeDIdeal.τ).loc Cert.MergeDIdeal.main_arg2)
      ∧ r.2.mem ((c.tc : Thread Cert.MergeDIdeal.nD Cert.MergeDIdeal.τ).loc Cert.MergeDIdeal.main_arg3) = m ((c.tc : Thread Cert.MergeDIdeal.nD Cert.MergeDIdeal.τ).loc Cert.MergeDIdeal.main_arg3)
      ∧ r.2.mem ((c.tc : Thread Cert.MergeDIdeal.nD Cert.MergeDIdeal.τ).loc Cert.MergeDIdeal.main_arg4) = m ((c.tc : Thread Cert.MergeDIdeal.nD Cert.MergeDIdeal.τ).loc Cert.MergeDIdeal.main_arg4)
      ∧ r.2.mem ((c.tc : Thread Cert.MergeDIdeal.nD Cert.MergeDIdeal.τ).loc Cert.MergeDIdeal.main_arg5) = m ((c.tc : Thread Cert.MergeDIdeal.nD Cert.MergeDIdeal.τ).loc Cert.MergeDIdeal.main_arg5)
      ∧ r.2.mem ((c.tc : Thread Cert.MergeDIdeal.nD Cert.MergeDIdeal.τ).loc Cert.MergeDIdeal.main_arg6) = m ((c.tc : Thread Cert.MergeDIdeal.nD Cert.MergeDIdeal.τ).loc Cert.MergeDIdeal.main_arg6)
      ∧ r.2.mem ((c.tc : Thread Cert.MergeDIdeal.nD Cert.MergeDIdeal.τ).loc Cert.MergeDIdeal.main_arg7) = m ((c.tc : Thread Cert.MergeDIdeal.nD Cert.MergeDIdeal.τ).loc Cert.MergeDIdeal.main_arg7)
      ∧ r.2.mem ((c.tc : Thread Cert.MergeDIdeal.nD Cert.MergeDIdeal.τ).loc Cert.MergeDIdeal.main_arg8) = m ((c.tc : Thread Cert.MergeDIdeal.nD Cert.MergeDIdeal.τ).loc Cert.MergeDIdeal.main_arg8)
      ∧ r.2.mem ((c.tc : Thread Cert.MergeDIdeal.nD Cert.MergeDIdeal.τ).loc Cert.MergeDIdeal.main_arg9) = m ((c.tc : Thread Cert.MergeDIdeal.nD Cert.MergeDIdeal.τ).loc Cert.MergeDIdeal.main_arg9))
      ∧ r.2.sem = fun _ => 0)

def quiescent_MergeDRefIdeal [hMergeDRefIdeal : Cert.MergeDRefIdeal.Facts] : Prop :=
  ∀ (m : (ℓ : Loc Cert.MergeDRefIdeal.nD Cert.MergeDRefIdeal.τ Cert.MergeDRefIdeal.sig) → Buf (Elt Ideal) ℓ) (g : Dev Cert.MergeDRefIdeal.nD → PrngReg), Pre_MergeDRefIdeal m →
    θ_run (Cert.MergeDRefIdeal.defs (F := Ideal)) (onTc (τ := Cert.MergeDRefIdeal.τ) (Cert.MergeDRefIdeal.main (F := Ideal))) ⟨m, fun _ => 0, g⟩ (fun r => (∀ c : Dev Cert.MergeDRefIdeal.nD,
      r.2.mem ((c.tc : Thread Cert.MergeDRefIdeal.nD Cert.MergeDRefIdeal.τ).loc Cert.MergeDRefIdeal.main_arg0) = m ((c.tc : Thread Cert.MergeDRefIdeal.nD Cert.MergeDRefIdeal.τ).loc Cert.MergeDRefIdeal.main_arg0)
      ∧ r.2.mem ((c.tc : Thread Cert.MergeDRefIdeal.nD Cert.MergeDRefIdeal.τ).loc Cert.MergeDRefIdeal.main_arg1) = m ((c.tc : Thread Cert.MergeDRefIdeal.nD Cert.MergeDRefIdeal.τ).loc Cert.MergeDRefIdeal.main_arg1)
      ∧ r.2.mem ((c.tc : Thread Cert.MergeDRefIdeal.nD Cert.MergeDRefIdeal.τ).loc Cert.MergeDRefIdeal.main_arg2) = m ((c.tc : Thread Cert.MergeDRefIdeal.nD Cert.MergeDRefIdeal.τ).loc Cert.MergeDRefIdeal.main_arg2)
      ∧ r.2.mem ((c.tc : Thread Cert.MergeDRefIdeal.nD Cert.MergeDRefIdeal.τ).loc Cert.MergeDRefIdeal.main_arg3) = m ((c.tc : Thread Cert.MergeDRefIdeal.nD Cert.MergeDRefIdeal.τ).loc Cert.MergeDRefIdeal.main_arg3)
      ∧ r.2.mem ((c.tc : Thread Cert.MergeDRefIdeal.nD Cert.MergeDRefIdeal.τ).loc Cert.MergeDRefIdeal.main_arg4) = m ((c.tc : Thread Cert.MergeDRefIdeal.nD Cert.MergeDRefIdeal.τ).loc Cert.MergeDRefIdeal.main_arg4)
      ∧ r.2.mem ((c.tc : Thread Cert.MergeDRefIdeal.nD Cert.MergeDRefIdeal.τ).loc Cert.MergeDRefIdeal.main_arg5) = m ((c.tc : Thread Cert.MergeDRefIdeal.nD Cert.MergeDRefIdeal.τ).loc Cert.MergeDRefIdeal.main_arg5)
      ∧ r.2.mem ((c.tc : Thread Cert.MergeDRefIdeal.nD Cert.MergeDRefIdeal.τ).loc Cert.MergeDRefIdeal.main_arg6) = m ((c.tc : Thread Cert.MergeDRefIdeal.nD Cert.MergeDRefIdeal.τ).loc Cert.MergeDRefIdeal.main_arg6)
      ∧ r.2.mem ((c.tc : Thread Cert.MergeDRefIdeal.nD Cert.MergeDRefIdeal.τ).loc Cert.MergeDRefIdeal.main_arg7) = m ((c.tc : Thread Cert.MergeDRefIdeal.nD Cert.MergeDRefIdeal.τ).loc Cert.MergeDRefIdeal.main_arg7)
      ∧ r.2.mem ((c.tc : Thread Cert.MergeDRefIdeal.nD Cert.MergeDRefIdeal.τ).loc Cert.MergeDRefIdeal.main_arg8) = m ((c.tc : Thread Cert.MergeDRefIdeal.nD Cert.MergeDRefIdeal.τ).loc Cert.MergeDRefIdeal.main_arg8)
      ∧ r.2.mem ((c.tc : Thread Cert.MergeDRefIdeal.nD Cert.MergeDRefIdeal.τ).loc Cert.MergeDRefIdeal.main_arg9) = m ((c.tc : Thread Cert.MergeDRefIdeal.nD Cert.MergeDRefIdeal.τ).loc Cert.MergeDRefIdeal.main_arg9))
      ∧ r.2.sem = fun _ => 0)

def preserves_Moe_MoeIdeal : Prop :=
  True

def algebraic_MoeIdeal_MoeRefIdeal_pre_router_finite [hMoeIdeal : Cert.MoeIdeal.Facts] [hMoeRefIdeal : Cert.MoeRefIdeal.Facts] [hPre_router_finite : Cert.Pre_router_finite.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_router_finite m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)
      ∧ m' ((c.tc : Thread Cert.MoeRefIdeal.nD Cert.MoeRefIdeal.τ).loc Cert.MoeRefIdeal.main_arg9) = m ((c.tc : Thread Cert.MoeIdeal.nD Cert.MoeIdeal.τ).loc Cert.MoeIdeal.main_arg9)) →
    ∃ (v0 : (c : Dev Cert.MoeIdeal.nD) → Buf (Elt Ideal) ((c.tc : Thread Cert.MoeIdeal.nD Cert.MoeIdeal.τ).loc Cert.MoeIdeal.main_v24)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v24) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v84) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8)
          ∧ r.2.mem ((c.tc : Thread Cert.MoeRefIdeal.nD Cert.MoeRefIdeal.τ).loc Cert.MoeRefIdeal.main_arg9) = m' ((c.tc : Thread Cert.MoeRefIdeal.nD Cert.MoeRefIdeal.τ).loc Cert.MoeRefIdeal.main_arg9))

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)
      ∧ m' ((c.tc : Thread Cert.RetRefIdeal.nD Cert.RetRefIdeal.τ).loc Cert.RetRefIdeal.main_arg4) = m ((c.tc : Thread Cert.RetIdeal.nD Cert.RetIdeal.τ).loc Cert.RetIdeal.main_arg4)) →
    ∃ (v0 : (c : Dev Cert.RetIdeal.nD) → Buf (Elt Ideal) ((c.tc : Thread Cert.RetIdeal.nD Cert.RetIdeal.τ).loc Cert.RetIdeal.main_v47_0)) (v1 : (c : Dev Cert.RetIdeal.nD) → Buf (Elt Ideal) ((c.tc : Thread Cert.RetIdeal.nD Cert.RetIdeal.τ).loc Cert.RetIdeal.main_v47_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v47_0) = v0 c
          ∧ r.2.mem ((c.tc : Thread Cert.RetIdeal.nD Cert.RetIdeal.τ).loc Cert.RetIdeal.main_v47_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
          ∧ r.2.mem ((c.tc : Thread Cert.RetIdeal.nD Cert.RetIdeal.τ).loc Cert.RetIdeal.main_arg4) = m ((c.tc : Thread Cert.RetIdeal.nD Cert.RetIdeal.τ).loc Cert.RetIdeal.main_arg4))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v47) = v0 c
          ∧ r.2.mem ((c.tc : Thread Cert.RetRefIdeal.nD Cert.RetRefIdeal.τ).loc Cert.RetRefIdeal.main_v17_4) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3)
          ∧ r.2.mem ((c.tc : Thread Cert.RetRefIdeal.nD Cert.RetRefIdeal.τ).loc Cert.RetRefIdeal.main_arg4) = m' ((c.tc : Thread Cert.RetRefIdeal.nD Cert.RetRefIdeal.τ).loc Cert.RetRefIdeal.main_arg4))

def preserves_RetD_RetDIdeal : Prop :=
  True

def algebraic_RetDIdeal_RetDRefIdeal [hRetDIdeal : Cert.RetDIdeal.Facts] [hRetDRefIdeal : Cert.RetDRefIdeal.Facts] : Prop :=
  ∀ (m : (ℓ : Loc Cert.RetDIdeal.nD Cert.RetDIdeal.τ Cert.RetDIdeal.sig) → Buf (Elt Ideal) ℓ) (g : Dev Cert.RetDIdeal.nD → PrngReg)
    (m' : (ℓ : Loc Cert.RetDRefIdeal.nD Cert.RetDRefIdeal.τ Cert.RetDRefIdeal.sig) → Buf (Elt Ideal) ℓ) (g' : Dev Cert.RetDRefIdeal.nD → PrngReg), Pre_RetDIdeal m →
    (∀ c : Dev Cert.RetDIdeal.nD,
      m' ((c.tc : Thread Cert.RetDRefIdeal.nD Cert.RetDRefIdeal.τ).loc Cert.RetDRefIdeal.main_arg0) = m ((c.tc : Thread Cert.RetDIdeal.nD Cert.RetDIdeal.τ).loc Cert.RetDIdeal.main_arg0)
      ∧ m' ((c.tc : Thread Cert.RetDRefIdeal.nD Cert.RetDRefIdeal.τ).loc Cert.RetDRefIdeal.main_arg1) = m ((c.tc : Thread Cert.RetDIdeal.nD Cert.RetDIdeal.τ).loc Cert.RetDIdeal.main_arg1)
      ∧ m' ((c.tc : Thread Cert.RetDRefIdeal.nD Cert.RetDRefIdeal.τ).loc Cert.RetDRefIdeal.main_arg2) = m ((c.tc : Thread Cert.RetDIdeal.nD Cert.RetDIdeal.τ).loc Cert.RetDIdeal.main_arg2)
      ∧ m' ((c.tc : Thread Cert.RetDRefIdeal.nD Cert.RetDRefIdeal.τ).loc Cert.RetDRefIdeal.main_arg3) = m ((c.tc : Thread Cert.RetDIdeal.nD Cert.RetDIdeal.τ).loc Cert.RetDIdeal.main_arg3)
      ∧ m' ((c.tc : Thread Cert.RetDRefIdeal.nD Cert.RetDRefIdeal.τ).loc Cert.RetDRefIdeal.main_arg4) = m ((c.tc : Thread Cert.RetDIdeal.nD Cert.RetDIdeal.τ).loc Cert.RetDIdeal.main_arg4)
      ∧ m' ((c.tc : Thread Cert.RetDRefIdeal.nD Cert.RetDRefIdeal.τ).loc Cert.RetDRefIdeal.main_arg5) = m ((c.tc : Thread Cert.RetDIdeal.nD Cert.RetDIdeal.τ).loc Cert.RetDIdeal.main_arg5)) →
    ∃ (v0 : (c : Dev Cert.RetDIdeal.nD) → Buf (Elt Ideal) ((c.tc : Thread Cert.RetDIdeal.nD Cert.RetDIdeal.τ).loc Cert.RetDIdeal.main_v50_0)) (v1 : (c : Dev Cert.RetDIdeal.nD) → Buf (Elt Ideal) ((c.tc : Thread Cert.RetDIdeal.nD Cert.RetDIdeal.τ).loc Cert.RetDIdeal.main_v50_1)),
      θ_run (Cert.RetDIdeal.defs (F := Ideal)) (onTc (τ := Cert.RetDIdeal.τ) (Cert.RetDIdeal.main (F := Ideal))) ⟨m, fun _ => 0, g⟩ (fun r => ∀ c : Dev Cert.RetDIdeal.nD,
          r.2.mem ((c.tc : Thread Cert.RetDIdeal.nD Cert.RetDIdeal.τ).loc Cert.RetDIdeal.main_v50_0) = v0 c
          ∧ r.2.mem ((c.tc : Thread Cert.RetDIdeal.nD Cert.RetDIdeal.τ).loc Cert.RetDIdeal.main_v50_1) = v1 c
          ∧ r.2.mem ((c.tc : Thread Cert.RetDIdeal.nD Cert.RetDIdeal.τ).loc Cert.RetDIdeal.main_arg0) = m ((c.tc : Thread Cert.RetDIdeal.nD Cert.RetDIdeal.τ).loc Cert.RetDIdeal.main_arg0)
          ∧ r.2.mem ((c.tc : Thread Cert.RetDIdeal.nD Cert.RetDIdeal.τ).loc Cert.RetDIdeal.main_arg1) = m ((c.tc : Thread Cert.RetDIdeal.nD Cert.RetDIdeal.τ).loc Cert.RetDIdeal.main_arg1)
          ∧ r.2.mem ((c.tc : Thread Cert.RetDIdeal.nD Cert.RetDIdeal.τ).loc Cert.RetDIdeal.main_arg2) = m ((c.tc : Thread Cert.RetDIdeal.nD Cert.RetDIdeal.τ).loc Cert.RetDIdeal.main_arg2)
          ∧ r.2.mem ((c.tc : Thread Cert.RetDIdeal.nD Cert.RetDIdeal.τ).loc Cert.RetDIdeal.main_arg3) = m ((c.tc : Thread Cert.RetDIdeal.nD Cert.RetDIdeal.τ).loc Cert.RetDIdeal.main_arg3)
          ∧ r.2.mem ((c.tc : Thread Cert.RetDIdeal.nD Cert.RetDIdeal.τ).loc Cert.RetDIdeal.main_arg4) = m ((c.tc : Thread Cert.RetDIdeal.nD Cert.RetDIdeal.τ).loc Cert.RetDIdeal.main_arg4)
          ∧ r.2.mem ((c.tc : Thread Cert.RetDIdeal.nD Cert.RetDIdeal.τ).loc Cert.RetDIdeal.main_arg5) = m ((c.tc : Thread Cert.RetDIdeal.nD Cert.RetDIdeal.τ).loc Cert.RetDIdeal.main_arg5))
      ∧ θ_run (Cert.RetDRefIdeal.defs (F := Ideal)) (onTc (τ := Cert.RetDRefIdeal.τ) (Cert.RetDRefIdeal.main (F := Ideal))) ⟨m', fun _ => 0, g'⟩ (fun r => ∀ c : Dev Cert.RetDRefIdeal.nD,
          r.2.mem ((c.tc : Thread Cert.RetDRefIdeal.nD Cert.RetDRefIdeal.τ).loc Cert.RetDRefIdeal.main_v96) = v0 c
          ∧ r.2.mem ((c.tc : Thread Cert.RetDRefIdeal.nD Cert.RetDRefIdeal.τ).loc Cert.RetDRefIdeal.main_v70) = v1 c
          ∧ r.2.mem ((c.tc : Thread Cert.RetDRefIdeal.nD Cert.RetDRefIdeal.τ).loc Cert.RetDRefIdeal.main_arg0) = m' ((c.tc : Thread Cert.RetDRefIdeal.nD Cert.RetDRefIdeal.τ).loc Cert.RetDRefIdeal.main_arg0)
          ∧ r.2.mem ((c.tc : Thread Cert.RetDRefIdeal.nD Cert.RetDRefIdeal.τ).loc Cert.RetDRefIdeal.main_arg1) = m' ((c.tc : Thread Cert.RetDRefIdeal.nD Cert.RetDRefIdeal.τ).loc Cert.RetDRefIdeal.main_arg1)
          ∧ r.2.mem ((c.tc : Thread Cert.RetDRefIdeal.nD Cert.RetDRefIdeal.τ).loc Cert.RetDRefIdeal.main_arg2) = m' ((c.tc : Thread Cert.RetDRefIdeal.nD Cert.RetDRefIdeal.τ).loc Cert.RetDRefIdeal.main_arg2)
          ∧ r.2.mem ((c.tc : Thread Cert.RetDRefIdeal.nD Cert.RetDRefIdeal.τ).loc Cert.RetDRefIdeal.main_arg3) = m' ((c.tc : Thread Cert.RetDRefIdeal.nD Cert.RetDRefIdeal.τ).loc Cert.RetDRefIdeal.main_arg3)
          ∧ r.2.mem ((c.tc : Thread Cert.RetDRefIdeal.nD Cert.RetDRefIdeal.τ).loc Cert.RetDRefIdeal.main_arg4) = m' ((c.tc : Thread Cert.RetDRefIdeal.nD Cert.RetDRefIdeal.τ).loc Cert.RetDRefIdeal.main_arg4)
          ∧ r.2.mem ((c.tc : Thread Cert.RetDRefIdeal.nD Cert.RetDRefIdeal.τ).loc Cert.RetDRefIdeal.main_arg5) = m' ((c.tc : Thread Cert.RetDRefIdeal.nD Cert.RetDRefIdeal.τ).loc Cert.RetDRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v8_0)) (v1 : (c : Dev Cert.ProjIdeal.nD) → Buf (Elt Ideal) ((c.tc : Thread Cert.ProjIdeal.nD Cert.ProjIdeal.τ).loc Cert.ProjIdeal.main_v8_1)) (v2 : (c : Dev Cert.ProjIdeal.nD) → Buf (Elt Ideal) ((c.tc : Thread Cert.ProjIdeal.nD Cert.ProjIdeal.τ).loc Cert.ProjIdeal.main_v8_2)) (v3 : (c : Dev Cert.ProjIdeal.nD) → Buf (Elt Ideal) ((c.tc : Thread Cert.ProjIdeal.nD Cert.ProjIdeal.τ).loc Cert.ProjIdeal.main_v8_3)) (v4 : (c : Dev Cert.ProjIdeal.nD) → Buf (Elt Ideal) ((c.tc : Thread Cert.ProjIdeal.nD Cert.ProjIdeal.τ).loc Cert.ProjIdeal.main_v8_4)) (v5 : (c : Dev Cert.ProjIdeal.nD) → Buf (Elt Ideal) ((c.tc : Thread Cert.ProjIdeal.nD Cert.ProjIdeal.τ).loc Cert.ProjIdeal.main_v8_5)) (v6 : (c : Dev Cert.ProjIdeal.nD) → Buf (Elt Ideal) ((c.tc : Thread Cert.ProjIdeal.nD Cert.ProjIdeal.τ).loc Cert.ProjIdeal.main_v8_6)) (v7 : (c : Dev Cert.ProjIdeal.nD) → Buf (Elt Ideal) ((c.tc : Thread Cert.ProjIdeal.nD Cert.ProjIdeal.τ).loc Cert.ProjIdeal.main_v8_7)) (v8 : (c : Dev Cert.ProjIdeal.nD) → Buf (Elt Ideal) ((c.tc : Thread Cert.ProjIdeal.nD Cert.ProjIdeal.τ).loc Cert.ProjIdeal.main_v8_8)) (v9 : (c : Dev Cert.ProjIdeal.nD) → Buf (Elt Ideal) ((c.tc : Thread Cert.ProjIdeal.nD Cert.ProjIdeal.τ).loc Cert.ProjIdeal.main_v8_9)) (v10 : (c : Dev Cert.ProjIdeal.nD) → Buf (Elt Ideal) ((c.tc : Thread Cert.ProjIdeal.nD Cert.ProjIdeal.τ).loc Cert.ProjIdeal.main_v8_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v8_0) = v0 c
          ∧ r.2.mem ((c.tc : Thread Cert.ProjIdeal.nD Cert.ProjIdeal.τ).loc Cert.ProjIdeal.main_v8_1) = v1 c
          ∧ r.2.mem ((c.tc : Thread Cert.ProjIdeal.nD Cert.ProjIdeal.τ).loc Cert.ProjIdeal.main_v8_2) = v2 c
          ∧ r.2.mem ((c.tc : Thread Cert.ProjIdeal.nD Cert.ProjIdeal.τ).loc Cert.ProjIdeal.main_v8_3) = v3 c
          ∧ r.2.mem ((c.tc : Thread Cert.ProjIdeal.nD Cert.ProjIdeal.τ).loc Cert.ProjIdeal.main_v8_4) = v4 c
          ∧ r.2.mem ((c.tc : Thread Cert.ProjIdeal.nD Cert.ProjIdeal.τ).loc Cert.ProjIdeal.main_v8_5) = v5 c
          ∧ r.2.mem ((c.tc : Thread Cert.ProjIdeal.nD Cert.ProjIdeal.τ).loc Cert.ProjIdeal.main_v8_6) = v6 c
          ∧ r.2.mem ((c.tc : Thread Cert.ProjIdeal.nD Cert.ProjIdeal.τ).loc Cert.ProjIdeal.main_v8_7) = v7 c
          ∧ r.2.mem ((c.tc : Thread Cert.ProjIdeal.nD Cert.ProjIdeal.τ).loc Cert.ProjIdeal.main_v8_8) = v8 c
          ∧ r.2.mem ((c.tc : Thread Cert.ProjIdeal.nD Cert.ProjIdeal.τ).loc Cert.ProjIdeal.main_v8_9) = v9 c
          ∧ r.2.mem ((c.tc : Thread Cert.ProjIdeal.nD Cert.ProjIdeal.τ).loc Cert.ProjIdeal.main_v8_10) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v16) = v0 c
          ∧ r.2.mem ((c.tc : Thread Cert.ProjRefIdeal.nD Cert.ProjRefIdeal.τ).loc Cert.ProjRefIdeal.main_v19) = v1 c
          ∧ r.2.mem ((c.tc : Thread Cert.ProjRefIdeal.nD Cert.ProjRefIdeal.τ).loc Cert.ProjRefIdeal.main_v20) = v2 c
          ∧ r.2.mem ((c.tc : Thread Cert.ProjRefIdeal.nD Cert.ProjRefIdeal.τ).loc Cert.ProjRefIdeal.main_v4) = v3 c
          ∧ r.2.mem ((c.tc : Thread Cert.ProjRefIdeal.nD Cert.ProjRefIdeal.τ).loc Cert.ProjRefIdeal.main_v21) = v4 c
          ∧ r.2.mem ((c.tc : Thread Cert.ProjRefIdeal.nD Cert.ProjRefIdeal.τ).loc Cert.ProjRefIdeal.main_v6) = v5 c
          ∧ r.2.mem ((c.tc : Thread Cert.ProjRefIdeal.nD Cert.ProjRefIdeal.τ).loc Cert.ProjRefIdeal.main_v7) = v6 c
          ∧ r.2.mem ((c.tc : Thread Cert.ProjRefIdeal.nD Cert.ProjRefIdeal.τ).loc Cert.ProjRefIdeal.main_v22) = v7 c
          ∧ r.2.mem ((c.tc : Thread Cert.ProjRefIdeal.nD Cert.ProjRefIdeal.τ).loc Cert.ProjRefIdeal.main_v24) = v8 c
          ∧ r.2.mem ((c.tc : Thread Cert.ProjRefIdeal.nD Cert.ProjRefIdeal.τ).loc Cert.ProjRefIdeal.main_v26) = v9 c
          ∧ r.2.mem ((c.tc : Thread Cert.ProjRefIdeal.nD Cert.ProjRefIdeal.τ).loc Cert.ProjRefIdeal.main_v27) = v10 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v47) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_MoeD_MoeDIdeal : Prop :=
  True

def algebraic_MoeDIdeal_MoeDRefIdeal_pre_router_finite_sample [hMoeDIdeal : Cert.MoeDIdeal.Facts] [hMoeDRefIdeal : Cert.MoeDRefIdeal.Facts] [hPre_router_finite_sample : Cert.Pre_router_finite_sample.Facts] : Prop :=
  ∀ (m : (ℓ : Loc Cert.MoeDIdeal.nD Cert.MoeDIdeal.τ Cert.MoeDIdeal.sig) → Buf (Elt Ideal) ℓ) (g : Dev Cert.MoeDIdeal.nD → PrngReg)
    (m' : (ℓ : Loc Cert.MoeDRefIdeal.nD Cert.MoeDRefIdeal.τ Cert.MoeDRefIdeal.sig) → Buf (Elt Ideal) ℓ) (g' : Dev Cert.MoeDRefIdeal.nD → PrngReg), Pre_MoeDIdeal_router_finite_sample m →
    (∀ c : Dev Cert.MoeDIdeal.nD,
      m' ((c.tc : Thread Cert.MoeDRefIdeal.nD Cert.MoeDRefIdeal.τ).loc Cert.MoeDRefIdeal.main_arg0) = m ((c.tc : Thread Cert.MoeDIdeal.nD Cert.MoeDIdeal.τ).loc Cert.MoeDIdeal.main_arg0)
      ∧ m' ((c.tc : Thread Cert.MoeDRefIdeal.nD Cert.MoeDRefIdeal.τ).loc Cert.MoeDRefIdeal.main_arg1) = m ((c.tc : Thread Cert.MoeDIdeal.nD Cert.MoeDIdeal.τ).loc Cert.MoeDIdeal.main_arg1)
      ∧ m' ((c.tc : Thread Cert.MoeDRefIdeal.nD Cert.MoeDRefIdeal.τ).loc Cert.MoeDRefIdeal.main_arg2) = m ((c.tc : Thread Cert.MoeDIdeal.nD Cert.MoeDIdeal.τ).loc Cert.MoeDIdeal.main_arg2)
      ∧ m' ((c.tc : Thread Cert.MoeDRefIdeal.nD Cert.MoeDRefIdeal.τ).loc Cert.MoeDRefIdeal.main_arg3) = m ((c.tc : Thread Cert.MoeDIdeal.nD Cert.MoeDIdeal.τ).loc Cert.MoeDIdeal.main_arg3)
      ∧ m' ((c.tc : Thread Cert.MoeDRefIdeal.nD Cert.MoeDRefIdeal.τ).loc Cert.MoeDRefIdeal.main_arg4) = m ((c.tc : Thread Cert.MoeDIdeal.nD Cert.MoeDIdeal.τ).loc Cert.MoeDIdeal.main_arg4)
      ∧ m' ((c.tc : Thread Cert.MoeDRefIdeal.nD Cert.MoeDRefIdeal.τ).loc Cert.MoeDRefIdeal.main_arg5) = m ((c.tc : Thread Cert.MoeDIdeal.nD Cert.MoeDIdeal.τ).loc Cert.MoeDIdeal.main_arg5)
      ∧ m' ((c.tc : Thread Cert.MoeDRefIdeal.nD Cert.MoeDRefIdeal.τ).loc Cert.MoeDRefIdeal.main_arg6) = m ((c.tc : Thread Cert.MoeDIdeal.nD Cert.MoeDIdeal.τ).loc Cert.MoeDIdeal.main_arg6)
      ∧ m' ((c.tc : Thread Cert.MoeDRefIdeal.nD Cert.MoeDRefIdeal.τ).loc Cert.MoeDRefIdeal.main_arg7) = m ((c.tc : Thread Cert.MoeDIdeal.nD Cert.MoeDIdeal.τ).loc Cert.MoeDIdeal.main_arg7)
      ∧ m' ((c.tc : Thread Cert.MoeDRefIdeal.nD Cert.MoeDRefIdeal.τ).loc Cert.MoeDRefIdeal.main_arg8) = m ((c.tc : Thread Cert.MoeDIdeal.nD Cert.MoeDIdeal.τ).loc Cert.MoeDIdeal.main_arg8)
      ∧ m' ((c.tc : Thread Cert.MoeDRefIdeal.nD Cert.MoeDRefIdeal.τ).loc Cert.MoeDRefIdeal.main_arg9) = m ((c.tc : Thread Cert.MoeDIdeal.nD Cert.MoeDIdeal.τ).loc Cert.MoeDIdeal.main_arg9)) →
    ∃ (v0 : (c : Dev Cert.MoeDIdeal.nD) → Buf (Elt Ideal) ((c.tc : Thread Cert.MoeDIdeal.nD Cert.MoeDIdeal.τ).loc Cert.MoeDIdeal.main_v24)),
      θ_run (Cert.MoeDIdeal.defs (F := Ideal)) (onTc (τ := Cert.MoeDIdeal.τ) (Cert.MoeDIdeal.main (F := Ideal))) ⟨m, fun _ => 0, g⟩ (fun r => ∀ c : Dev Cert.MoeDIdeal.nD,
          r.2.mem ((c.tc : Thread Cert.MoeDIdeal.nD Cert.MoeDIdeal.τ).loc Cert.MoeDIdeal.main_v24) = v0 c
          ∧ r.2.mem ((c.tc : Thread Cert.MoeDIdeal.nD Cert.MoeDIdeal.τ).loc Cert.MoeDIdeal.main_arg0) = m ((c.tc : Thread Cert.MoeDIdeal.nD Cert.MoeDIdeal.τ).loc Cert.MoeDIdeal.main_arg0)
          ∧ r.2.mem ((c.tc : Thread Cert.MoeDIdeal.nD Cert.MoeDIdeal.τ).loc Cert.MoeDIdeal.main_arg1) = m ((c.tc : Thread Cert.MoeDIdeal.nD Cert.MoeDIdeal.τ).loc Cert.MoeDIdeal.main_arg1)
          ∧ r.2.mem ((c.tc : Thread Cert.MoeDIdeal.nD Cert.MoeDIdeal.τ).loc Cert.MoeDIdeal.main_arg2) = m ((c.tc : Thread Cert.MoeDIdeal.nD Cert.MoeDIdeal.τ).loc Cert.MoeDIdeal.main_arg2)
          ∧ r.2.mem ((c.tc : Thread Cert.MoeDIdeal.nD Cert.MoeDIdeal.τ).loc Cert.MoeDIdeal.main_arg3) = m ((c.tc : Thread Cert.MoeDIdeal.nD Cert.MoeDIdeal.τ).loc Cert.MoeDIdeal.main_arg3)
          ∧ r.2.mem ((c.tc : Thread Cert.MoeDIdeal.nD Cert.MoeDIdeal.τ).loc Cert.MoeDIdeal.main_arg4) = m ((c.tc : Thread Cert.MoeDIdeal.nD Cert.MoeDIdeal.τ).loc Cert.MoeDIdeal.main_arg4)
          ∧ r.2.mem ((c.tc : Thread Cert.MoeDIdeal.nD Cert.MoeDIdeal.τ).loc Cert.MoeDIdeal.main_arg5) = m ((c.tc : Thread Cert.MoeDIdeal.nD Cert.MoeDIdeal.τ).loc Cert.MoeDIdeal.main_arg5)
          ∧ r.2.mem ((c.tc : Thread Cert.MoeDIdeal.nD Cert.MoeDIdeal.τ).loc Cert.MoeDIdeal.main_arg6) = m ((c.tc : Thread Cert.MoeDIdeal.nD Cert.MoeDIdeal.τ).loc Cert.MoeDIdeal.main_arg6)
          ∧ r.2.mem ((c.tc : Thread Cert.MoeDIdeal.nD Cert.MoeDIdeal.τ).loc Cert.MoeDIdeal.main_arg7) = m ((c.tc : Thread Cert.MoeDIdeal.nD Cert.MoeDIdeal.τ).loc Cert.MoeDIdeal.main_arg7)
          ∧ r.2.mem ((c.tc : Thread Cert.MoeDIdeal.nD Cert.MoeDIdeal.τ).loc Cert.MoeDIdeal.main_arg8) = m ((c.tc : Thread Cert.MoeDIdeal.nD Cert.MoeDIdeal.τ).loc Cert.MoeDIdeal.main_arg8)
          ∧ r.2.mem ((c.tc : Thread Cert.MoeDIdeal.nD Cert.MoeDIdeal.τ).loc Cert.MoeDIdeal.main_arg9) = m ((c.tc : Thread Cert.MoeDIdeal.nD Cert.MoeDIdeal.τ).loc Cert.MoeDIdeal.main_arg9))
      ∧ θ_run (Cert.MoeDRefIdeal.defs (F := Ideal)) (onTc (τ := Cert.MoeDRefIdeal.τ) (Cert.MoeDRefIdeal.main (F := Ideal))) ⟨m', fun _ => 0, g'⟩ (fun r => ∀ c : Dev Cert.MoeDRefIdeal.nD,
          r.2.mem ((c.tc : Thread Cert.MoeDRefIdeal.nD Cert.MoeDRefIdeal.τ).loc Cert.MoeDRefIdeal.main_v84) = v0 c
          ∧ r.2.mem ((c.tc : Thread Cert.MoeDRefIdeal.nD Cert.MoeDRefIdeal.τ).loc Cert.MoeDRefIdeal.main_arg0) = m' ((c.tc : Thread Cert.MoeDRefIdeal.nD Cert.MoeDRefIdeal.τ).loc Cert.MoeDRefIdeal.main_arg0)
          ∧ r.2.mem ((c.tc : Thread Cert.MoeDRefIdeal.nD Cert.MoeDRefIdeal.τ).loc Cert.MoeDRefIdeal.main_arg1) = m' ((c.tc : Thread Cert.MoeDRefIdeal.nD Cert.MoeDRefIdeal.τ).loc Cert.MoeDRefIdeal.main_arg1)
          ∧ r.2.mem ((c.tc : Thread Cert.MoeDRefIdeal.nD Cert.MoeDRefIdeal.τ).loc Cert.MoeDRefIdeal.main_arg2) = m' ((c.tc : Thread Cert.MoeDRefIdeal.nD Cert.MoeDRefIdeal.τ).loc Cert.MoeDRefIdeal.main_arg2)
          ∧ r.2.mem ((c.tc : Thread Cert.MoeDRefIdeal.nD Cert.MoeDRefIdeal.τ).loc Cert.MoeDRefIdeal.main_arg3) = m' ((c.tc : Thread Cert.MoeDRefIdeal.nD Cert.MoeDRefIdeal.τ).loc Cert.MoeDRefIdeal.main_arg3)
          ∧ r.2.mem ((c.tc : Thread Cert.MoeDRefIdeal.nD Cert.MoeDRefIdeal.τ).loc Cert.MoeDRefIdeal.main_arg4) = m' ((c.tc : Thread Cert.MoeDRefIdeal.nD Cert.MoeDRefIdeal.τ).loc Cert.MoeDRefIdeal.main_arg4)
          ∧ r.2.mem ((c.tc : Thread Cert.MoeDRefIdeal.nD Cert.MoeDRefIdeal.τ).loc Cert.MoeDRefIdeal.main_arg5) = m' ((c.tc : Thread Cert.MoeDRefIdeal.nD Cert.MoeDRefIdeal.τ).loc Cert.MoeDRefIdeal.main_arg5)
          ∧ r.2.mem ((c.tc : Thread Cert.MoeDRefIdeal.nD Cert.MoeDRefIdeal.τ).loc Cert.MoeDRefIdeal.main_arg6) = m' ((c.tc : Thread Cert.MoeDRefIdeal.nD Cert.MoeDRefIdeal.τ).loc Cert.MoeDRefIdeal.main_arg6)
          ∧ r.2.mem ((c.tc : Thread Cert.MoeDRefIdeal.nD Cert.MoeDRefIdeal.τ).loc Cert.MoeDRefIdeal.main_arg7) = m' ((c.tc : Thread Cert.MoeDRefIdeal.nD Cert.MoeDRefIdeal.τ).loc Cert.MoeDRefIdeal.main_arg7)
          ∧ r.2.mem ((c.tc : Thread Cert.MoeDRefIdeal.nD Cert.MoeDRefIdeal.τ).loc Cert.MoeDRefIdeal.main_arg8) = m' ((c.tc : Thread Cert.MoeDRefIdeal.nD Cert.MoeDRefIdeal.τ).loc Cert.MoeDRefIdeal.main_arg8)
          ∧ r.2.mem ((c.tc : Thread Cert.MoeDRefIdeal.nD Cert.MoeDRefIdeal.τ).loc Cert.MoeDRefIdeal.main_arg9) = m' ((c.tc : Thread Cert.MoeDRefIdeal.nD Cert.MoeDRefIdeal.τ).loc Cert.MoeDRefIdeal.main_arg9))

def preserves_ProjD_ProjDIdeal : Prop :=
  True

def algebraic_ProjDIdeal_ProjDRefIdeal [hProjDIdeal : Cert.ProjDIdeal.Facts] [hProjDRefIdeal : Cert.ProjDRefIdeal.Facts] : Prop :=
  ∀ (m : (ℓ : Loc Cert.ProjDIdeal.nD Cert.ProjDIdeal.τ Cert.ProjDIdeal.sig) → Buf (Elt Ideal) ℓ) (g : Dev Cert.ProjDIdeal.nD → PrngReg)
    (m' : (ℓ : Loc Cert.ProjDRefIdeal.nD Cert.ProjDRefIdeal.τ Cert.ProjDRefIdeal.sig) → Buf (Elt Ideal) ℓ) (g' : Dev Cert.ProjDRefIdeal.nD → PrngReg), Pre_ProjDIdeal m →
    (∀ c : Dev Cert.ProjDIdeal.nD,
      m' ((c.tc : Thread Cert.ProjDRefIdeal.nD Cert.ProjDRefIdeal.τ).loc Cert.ProjDRefIdeal.main_arg0) = m ((c.tc : Thread Cert.ProjDIdeal.nD Cert.ProjDIdeal.τ).loc Cert.ProjDIdeal.main_arg0)
      ∧ m' ((c.tc : Thread Cert.ProjDRefIdeal.nD Cert.ProjDRefIdeal.τ).loc Cert.ProjDRefIdeal.main_arg1) = m ((c.tc : Thread Cert.ProjDIdeal.nD Cert.ProjDIdeal.τ).loc Cert.ProjDIdeal.main_arg1)) →
    ∃ (v0 : (c : Dev Cert.ProjDIdeal.nD) → Buf (Elt Ideal) ((c.tc : Thread Cert.ProjDIdeal.nD Cert.ProjDIdeal.τ).loc Cert.ProjDIdeal.main_v2_0)) (v1 : (c : Dev Cert.ProjDIdeal.nD) → Buf (Elt Ideal) ((c.tc : Thread Cert.ProjDIdeal.nD Cert.ProjDIdeal.τ).loc Cert.ProjDIdeal.main_v2_1)) (v2 : (c : Dev Cert.ProjDIdeal.nD) → Buf (Elt Ideal) ((c.tc : Thread Cert.ProjDIdeal.nD Cert.ProjDIdeal.τ).loc Cert.ProjDIdeal.main_v2_2)) (v3 : (c : Dev Cert.ProjDIdeal.nD) → Buf (Elt Ideal) ((c.tc : Thread Cert.ProjDIdeal.nD Cert.ProjDIdeal.τ).loc Cert.ProjDIdeal.main_v2_3)) (v4 : (c : Dev Cert.ProjDIdeal.nD) → Buf (Elt Ideal) ((c.tc : Thread Cert.ProjDIdeal.nD Cert.ProjDIdeal.τ).loc Cert.ProjDIdeal.main_v2_4)) (v5 : (c : Dev Cert.ProjDIdeal.nD) → Buf (Elt Ideal) ((c.tc : Thread Cert.ProjDIdeal.nD Cert.ProjDIdeal.τ).loc Cert.ProjDIdeal.main_v2_5)) (v6 : (c : Dev Cert.ProjDIdeal.nD) → Buf (Elt Ideal) ((c.tc : Thread Cert.ProjDIdeal.nD Cert.ProjDIdeal.τ).loc Cert.ProjDIdeal.main_v2_6)),
      θ_run (Cert.ProjDIdeal.defs (F := Ideal)) (onTc (τ := Cert.ProjDIdeal.τ) (Cert.ProjDIdeal.main (F := Ideal))) ⟨m, fun _ => 0, g⟩ (fun r => ∀ c : Dev Cert.ProjDIdeal.nD,
          r.2.mem ((c.tc : Thread Cert.ProjDIdeal.nD Cert.ProjDIdeal.τ).loc Cert.ProjDIdeal.main_v2_0) = v0 c
          ∧ r.2.mem ((c.tc : Thread Cert.ProjDIdeal.nD Cert.ProjDIdeal.τ).loc Cert.ProjDIdeal.main_v2_1) = v1 c
          ∧ r.2.mem ((c.tc : Thread Cert.ProjDIdeal.nD Cert.ProjDIdeal.τ).loc Cert.ProjDIdeal.main_v2_2) = v2 c
          ∧ r.2.mem ((c.tc : Thread Cert.ProjDIdeal.nD Cert.ProjDIdeal.τ).loc Cert.ProjDIdeal.main_v2_3) = v3 c
          ∧ r.2.mem ((c.tc : Thread Cert.ProjDIdeal.nD Cert.ProjDIdeal.τ).loc Cert.ProjDIdeal.main_v2_4) = v4 c
          ∧ r.2.mem ((c.tc : Thread Cert.ProjDIdeal.nD Cert.ProjDIdeal.τ).loc Cert.ProjDIdeal.main_v2_5) = v5 c
          ∧ r.2.mem ((c.tc : Thread Cert.ProjDIdeal.nD Cert.ProjDIdeal.τ).loc Cert.ProjDIdeal.main_v2_6) = v6 c
          ∧ r.2.mem ((c.tc : Thread Cert.ProjDIdeal.nD Cert.ProjDIdeal.τ).loc Cert.ProjDIdeal.main_arg0) = m ((c.tc : Thread Cert.ProjDIdeal.nD Cert.ProjDIdeal.τ).loc Cert.ProjDIdeal.main_arg0)
          ∧ r.2.mem ((c.tc : Thread Cert.ProjDIdeal.nD Cert.ProjDIdeal.τ).loc Cert.ProjDIdeal.main_arg1) = m ((c.tc : Thread Cert.ProjDIdeal.nD Cert.ProjDIdeal.τ).loc Cert.ProjDIdeal.main_arg1))
      ∧ θ_run (Cert.ProjDRefIdeal.defs (F := Ideal)) (onTc (τ := Cert.ProjDRefIdeal.τ) (Cert.ProjDRefIdeal.main (F := Ideal))) ⟨m', fun _ => 0, g'⟩ (fun r => ∀ c : Dev Cert.ProjDRefIdeal.nD,
          r.2.mem ((c.tc : Thread Cert.ProjDRefIdeal.nD Cert.ProjDRefIdeal.τ).loc Cert.ProjDRefIdeal.main_v10) = v0 c
          ∧ r.2.mem ((c.tc : Thread Cert.ProjDRefIdeal.nD Cert.ProjDRefIdeal.τ).loc Cert.ProjDRefIdeal.main_v13) = v1 c
          ∧ r.2.mem ((c.tc : Thread Cert.ProjDRefIdeal.nD Cert.ProjDRefIdeal.τ).loc Cert.ProjDRefIdeal.main_v14) = v2 c
          ∧ r.2.mem ((c.tc : Thread Cert.ProjDRefIdeal.nD Cert.ProjDRefIdeal.τ).loc Cert.ProjDRefIdeal.main_v4) = v3 c
          ∧ r.2.mem ((c.tc : Thread Cert.ProjDRefIdeal.nD Cert.ProjDRefIdeal.τ).loc Cert.ProjDRefIdeal.main_v17) = v4 c
          ∧ r.2.mem ((c.tc : Thread Cert.ProjDRefIdeal.nD Cert.ProjDRefIdeal.τ).loc Cert.ProjDRefIdeal.main_v6) = v5 c
          ∧ r.2.mem ((c.tc : Thread Cert.ProjDRefIdeal.nD Cert.ProjDRefIdeal.τ).loc Cert.ProjDRefIdeal.main_v7) = v6 c
          ∧ r.2.mem ((c.tc : Thread Cert.ProjDRefIdeal.nD Cert.ProjDRefIdeal.τ).loc Cert.ProjDRefIdeal.main_arg0) = m' ((c.tc : Thread Cert.ProjDRefIdeal.nD Cert.ProjDRefIdeal.τ).loc Cert.ProjDRefIdeal.main_arg0)
          ∧ r.2.mem ((c.tc : Thread Cert.ProjDRefIdeal.nD Cert.ProjDRefIdeal.τ).loc Cert.ProjDRefIdeal.main_arg1) = m' ((c.tc : Thread Cert.ProjDRefIdeal.nD Cert.ProjDRefIdeal.τ).loc Cert.ProjDRefIdeal.main_arg1))

def preserves_MergeD_MergeDIdeal : Prop :=
  True

def algebraic_MergeDIdeal_MergeDRefIdeal [hMergeDIdeal : Cert.MergeDIdeal.Facts] [hMergeDRefIdeal : Cert.MergeDRefIdeal.Facts] : Prop :=
  ∀ (m : (ℓ : Loc Cert.MergeDIdeal.nD Cert.MergeDIdeal.τ Cert.MergeDIdeal.sig) → Buf (Elt Ideal) ℓ) (g : Dev Cert.MergeDIdeal.nD → PrngReg)
    (m' : (ℓ : Loc Cert.MergeDRefIdeal.nD Cert.MergeDRefIdeal.τ Cert.MergeDRefIdeal.sig) → Buf (Elt Ideal) ℓ) (g' : Dev Cert.MergeDRefIdeal.nD → PrngReg), Pre_MergeDIdeal m →
    (∀ c : Dev Cert.MergeDIdeal.nD,
      m' ((c.tc : Thread Cert.MergeDRefIdeal.nD Cert.MergeDRefIdeal.τ).loc Cert.MergeDRefIdeal.main_arg0) = m ((c.tc : Thread Cert.MergeDIdeal.nD Cert.MergeDIdeal.τ).loc Cert.MergeDIdeal.main_arg0)
      ∧ m' ((c.tc : Thread Cert.MergeDRefIdeal.nD Cert.MergeDRefIdeal.τ).loc Cert.MergeDRefIdeal.main_arg1) = m ((c.tc : Thread Cert.MergeDIdeal.nD Cert.MergeDIdeal.τ).loc Cert.MergeDIdeal.main_arg1)
      ∧ m' ((c.tc : Thread Cert.MergeDRefIdeal.nD Cert.MergeDRefIdeal.τ).loc Cert.MergeDRefIdeal.main_arg2) = m ((c.tc : Thread Cert.MergeDIdeal.nD Cert.MergeDIdeal.τ).loc Cert.MergeDIdeal.main_arg2)
      ∧ m' ((c.tc : Thread Cert.MergeDRefIdeal.nD Cert.MergeDRefIdeal.τ).loc Cert.MergeDRefIdeal.main_arg3) = m ((c.tc : Thread Cert.MergeDIdeal.nD Cert.MergeDIdeal.τ).loc Cert.MergeDIdeal.main_arg3)
      ∧ m' ((c.tc : Thread Cert.MergeDRefIdeal.nD Cert.MergeDRefIdeal.τ).loc Cert.MergeDRefIdeal.main_arg4) = m ((c.tc : Thread Cert.MergeDIdeal.nD Cert.MergeDIdeal.τ).loc Cert.MergeDIdeal.main_arg4)
      ∧ m' ((c.tc : Thread Cert.MergeDRefIdeal.nD Cert.MergeDRefIdeal.τ).loc Cert.MergeDRefIdeal.main_arg5) = m ((c.tc : Thread Cert.MergeDIdeal.nD Cert.MergeDIdeal.τ).loc Cert.MergeDIdeal.main_arg5)
      ∧ m' ((c.tc : Thread Cert.MergeDRefIdeal.nD Cert.MergeDRefIdeal.τ).loc Cert.MergeDRefIdeal.main_arg6) = m ((c.tc : Thread Cert.MergeDIdeal.nD Cert.MergeDIdeal.τ).loc Cert.MergeDIdeal.main_arg6)
      ∧ m' ((c.tc : Thread Cert.MergeDRefIdeal.nD Cert.MergeDRefIdeal.τ).loc Cert.MergeDRefIdeal.main_arg7) = m ((c.tc : Thread Cert.MergeDIdeal.nD Cert.MergeDIdeal.τ).loc Cert.MergeDIdeal.main_arg7)
      ∧ m' ((c.tc : Thread Cert.MergeDRefIdeal.nD Cert.MergeDRefIdeal.τ).loc Cert.MergeDRefIdeal.main_arg8) = m ((c.tc : Thread Cert.MergeDIdeal.nD Cert.MergeDIdeal.τ).loc Cert.MergeDIdeal.main_arg8)
      ∧ m' ((c.tc : Thread Cert.MergeDRefIdeal.nD Cert.MergeDRefIdeal.τ).loc Cert.MergeDRefIdeal.main_arg9) = m ((c.tc : Thread Cert.MergeDIdeal.nD Cert.MergeDIdeal.τ).loc Cert.MergeDIdeal.main_arg9)) →
    ∃ (v0 : (c : Dev Cert.MergeDIdeal.nD) → Buf (Elt Ideal) ((c.tc : Thread Cert.MergeDIdeal.nD Cert.MergeDIdeal.τ).loc Cert.MergeDIdeal.main_v8)),
      θ_run (Cert.MergeDIdeal.defs (F := Ideal)) (onTc (τ := Cert.MergeDIdeal.τ) (Cert.MergeDIdeal.main (F := Ideal))) ⟨m, fun _ => 0, g⟩ (fun r => ∀ c : Dev Cert.MergeDIdeal.nD,
          r.2.mem ((c.tc : Thread Cert.MergeDIdeal.nD Cert.MergeDIdeal.τ).loc Cert.MergeDIdeal.main_v8) = v0 c
          ∧ r.2.mem ((c.tc : Thread Cert.MergeDIdeal.nD Cert.MergeDIdeal.τ).loc Cert.MergeDIdeal.main_arg0) = m ((c.tc : Thread Cert.MergeDIdeal.nD Cert.MergeDIdeal.τ).loc Cert.MergeDIdeal.main_arg0)
          ∧ r.2.mem ((c.tc : Thread Cert.MergeDIdeal.nD Cert.MergeDIdeal.τ).loc Cert.MergeDIdeal.main_arg1) = m ((c.tc : Thread Cert.MergeDIdeal.nD Cert.MergeDIdeal.τ).loc Cert.MergeDIdeal.main_arg1)
          ∧ r.2.mem ((c.tc : Thread Cert.MergeDIdeal.nD Cert.MergeDIdeal.τ).loc Cert.MergeDIdeal.main_arg2) = m ((c.tc : Thread Cert.MergeDIdeal.nD Cert.MergeDIdeal.τ).loc Cert.MergeDIdeal.main_arg2)
          ∧ r.2.mem ((c.tc : Thread Cert.MergeDIdeal.nD Cert.MergeDIdeal.τ).loc Cert.MergeDIdeal.main_arg3) = m ((c.tc : Thread Cert.MergeDIdeal.nD Cert.MergeDIdeal.τ).loc Cert.MergeDIdeal.main_arg3)
          ∧ r.2.mem ((c.tc : Thread Cert.MergeDIdeal.nD Cert.MergeDIdeal.τ).loc Cert.MergeDIdeal.main_arg4) = m ((c.tc : Thread Cert.MergeDIdeal.nD Cert.MergeDIdeal.τ).loc Cert.MergeDIdeal.main_arg4)
          ∧ r.2.mem ((c.tc : Thread Cert.MergeDIdeal.nD Cert.MergeDIdeal.τ).loc Cert.MergeDIdeal.main_arg5) = m ((c.tc : Thread Cert.MergeDIdeal.nD Cert.MergeDIdeal.τ).loc Cert.MergeDIdeal.main_arg5)
          ∧ r.2.mem ((c.tc : Thread Cert.MergeDIdeal.nD Cert.MergeDIdeal.τ).loc Cert.MergeDIdeal.main_arg6) = m ((c.tc : Thread Cert.MergeDIdeal.nD Cert.MergeDIdeal.τ).loc Cert.MergeDIdeal.main_arg6)
          ∧ r.2.mem ((c.tc : Thread Cert.MergeDIdeal.nD Cert.MergeDIdeal.τ).loc Cert.MergeDIdeal.main_arg7) = m ((c.tc : Thread Cert.MergeDIdeal.nD Cert.MergeDIdeal.τ).loc Cert.MergeDIdeal.main_arg7)
          ∧ r.2.mem ((c.tc : Thread Cert.MergeDIdeal.nD Cert.MergeDIdeal.τ).loc Cert.MergeDIdeal.main_arg8) = m ((c.tc : Thread Cert.MergeDIdeal.nD Cert.MergeDIdeal.τ).loc Cert.MergeDIdeal.main_arg8)
          ∧ r.2.mem ((c.tc : Thread Cert.MergeDIdeal.nD Cert.MergeDIdeal.τ).loc Cert.MergeDIdeal.main_arg9) = m ((c.tc : Thread Cert.MergeDIdeal.nD Cert.MergeDIdeal.τ).loc Cert.MergeDIdeal.main_arg9))
      ∧ θ_run (Cert.MergeDRefIdeal.defs (F := Ideal)) (onTc (τ := Cert.MergeDRefIdeal.τ) (Cert.MergeDRefIdeal.main (F := Ideal))) ⟨m', fun _ => 0, g'⟩ (fun r => ∀ c : Dev Cert.MergeDRefIdeal.nD,
          r.2.mem ((c.tc : Thread Cert.MergeDRefIdeal.nD Cert.MergeDRefIdeal.τ).loc Cert.MergeDRefIdeal.main_v47) = v0 c
          ∧ r.2.mem ((c.tc : Thread Cert.MergeDRefIdeal.nD Cert.MergeDRefIdeal.τ).loc Cert.MergeDRefIdeal.main_arg0) = m' ((c.tc : Thread Cert.MergeDRefIdeal.nD Cert.MergeDRefIdeal.τ).loc Cert.MergeDRefIdeal.main_arg0)
          ∧ r.2.mem ((c.tc : Thread Cert.MergeDRefIdeal.nD Cert.MergeDRefIdeal.τ).loc Cert.MergeDRefIdeal.main_arg1) = m' ((c.tc : Thread Cert.MergeDRefIdeal.nD Cert.MergeDRefIdeal.τ).loc Cert.MergeDRefIdeal.main_arg1)
          ∧ r.2.mem ((c.tc : Thread Cert.MergeDRefIdeal.nD Cert.MergeDRefIdeal.τ).loc Cert.MergeDRefIdeal.main_arg2) = m' ((c.tc : Thread Cert.MergeDRefIdeal.nD Cert.MergeDRefIdeal.τ).loc Cert.MergeDRefIdeal.main_arg2)
          ∧ r.2.mem ((c.tc : Thread Cert.MergeDRefIdeal.nD Cert.MergeDRefIdeal.τ).loc Cert.MergeDRefIdeal.main_arg3) = m' ((c.tc : Thread Cert.MergeDRefIdeal.nD Cert.MergeDRefIdeal.τ).loc Cert.MergeDRefIdeal.main_arg3)
          ∧ r.2.mem ((c.tc : Thread Cert.MergeDRefIdeal.nD Cert.MergeDRefIdeal.τ).loc Cert.MergeDRefIdeal.main_arg4) = m' ((c.tc : Thread Cert.MergeDRefIdeal.nD Cert.MergeDRefIdeal.τ).loc Cert.MergeDRefIdeal.main_arg4)
          ∧ r.2.mem ((c.tc : Thread Cert.MergeDRefIdeal.nD Cert.MergeDRefIdeal.τ).loc Cert.MergeDRefIdeal.main_arg5) = m' ((c.tc : Thread Cert.MergeDRefIdeal.nD Cert.MergeDRefIdeal.τ).loc Cert.MergeDRefIdeal.main_arg5)
          ∧ r.2.mem ((c.tc : Thread Cert.MergeDRefIdeal.nD Cert.MergeDRefIdeal.τ).loc Cert.MergeDRefIdeal.main_arg6) = m' ((c.tc : Thread Cert.MergeDRefIdeal.nD Cert.MergeDRefIdeal.τ).loc Cert.MergeDRefIdeal.main_arg6)
          ∧ r.2.mem ((c.tc : Thread Cert.MergeDRefIdeal.nD Cert.MergeDRefIdeal.τ).loc Cert.MergeDRefIdeal.main_arg7) = m' ((c.tc : Thread Cert.MergeDRefIdeal.nD Cert.MergeDRefIdeal.τ).loc Cert.MergeDRefIdeal.main_arg7)
          ∧ r.2.mem ((c.tc : Thread Cert.MergeDRefIdeal.nD Cert.MergeDRefIdeal.τ).loc Cert.MergeDRefIdeal.main_arg8) = m' ((c.tc : Thread Cert.MergeDRefIdeal.nD Cert.MergeDRefIdeal.τ).loc Cert.MergeDRefIdeal.main_arg8)
          ∧ r.2.mem ((c.tc : Thread Cert.MergeDRefIdeal.nD Cert.MergeDRefIdeal.τ).loc Cert.MergeDRefIdeal.main_arg9) = m' ((c.tc : Thread Cert.MergeDRefIdeal.nD Cert.MergeDRefIdeal.τ).loc Cert.MergeDRefIdeal.main_arg9))

def Claim : Prop :=
  ∃ (hMoe : Cert.Moe.Facts) (hMoeIdeal : Cert.MoeIdeal.Facts) (hMoeRefIdeal : Cert.MoeRefIdeal.Facts) (hRet : Cert.Ret.Facts) (hRetIdeal : Cert.RetIdeal.Facts) (hRetRefIdeal : Cert.RetRefIdeal.Facts) (hRetD : Cert.RetD.Facts) (hRetDIdeal : Cert.RetDIdeal.Facts) (hRetDRefIdeal : Cert.RetDRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hMoeD : Cert.MoeD.Facts) (hMoeDIdeal : Cert.MoeDIdeal.Facts) (hMoeDRefIdeal : Cert.MoeDRefIdeal.Facts) (hProjD : Cert.ProjD.Facts) (hProjDIdeal : Cert.ProjDIdeal.Facts) (hProjDRefIdeal : Cert.ProjDRefIdeal.Facts) (hMergeD : Cert.MergeD.Facts) (hMergeDIdeal : Cert.MergeDIdeal.Facts) (hMergeDRefIdeal : Cert.MergeDRefIdeal.Facts) (hPre_router_finite : Cert.Pre_router_finite.Facts) (hPre_router_finite_sample : Cert.Pre_router_finite_sample.Facts),
    quiescent_Moe (hMoe := hMoe)
    ∧ quiescent_MoeIdeal (hMoeIdeal := hMoeIdeal)
    ∧ quiescent_MoeIdeal_pre_router_finite (hMoeIdeal := hMoeIdeal) (hPre_router_finite := hPre_router_finite)
    ∧ quiescent_MoeRefIdeal (hMoeRefIdeal := hMoeRefIdeal)
    ∧ quiescent_MoeRefIdeal_pre_router_finite (hMoeRefIdeal := hMoeRefIdeal) (hPre_router_finite := hPre_router_finite)
    ∧ quiescent_Ret (hRet := hRet)
    ∧ quiescent_RetIdeal (hRetIdeal := hRetIdeal)
    ∧ quiescent_RetRefIdeal (hRetRefIdeal := hRetRefIdeal)
    ∧ quiescent_RetD (hRetD := hRetD)
    ∧ quiescent_RetDIdeal (hRetDIdeal := hRetDIdeal)
    ∧ quiescent_RetDRefIdeal (hRetDRefIdeal := hRetDRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_MoeD (hMoeD := hMoeD)
    ∧ quiescent_MoeDIdeal (hMoeDIdeal := hMoeDIdeal)
    ∧ quiescent_MoeDIdeal_pre_router_finite_sample (hMoeDIdeal := hMoeDIdeal) (hPre_router_finite_sample := hPre_router_finite_sample)
    ∧ quiescent_MoeDRefIdeal (hMoeDRefIdeal := hMoeDRefIdeal)
    ∧ quiescent_MoeDRefIdeal_pre_router_finite_sample (hMoeDRefIdeal := hMoeDRefIdeal) (hPre_router_finite_sample := hPre_router_finite_sample)
    ∧ quiescent_ProjD (hProjD := hProjD)
    ∧ quiescent_ProjDIdeal (hProjDIdeal := hProjDIdeal)
    ∧ quiescent_ProjDRefIdeal (hProjDRefIdeal := hProjDRefIdeal)
    ∧ quiescent_MergeD (hMergeD := hMergeD)
    ∧ quiescent_MergeDIdeal (hMergeDIdeal := hMergeDIdeal)
    ∧ quiescent_MergeDRefIdeal (hMergeDRefIdeal := hMergeDRefIdeal)
    ∧ preserves_Moe_MoeIdeal
    ∧ algebraic_MoeIdeal_MoeRefIdeal_pre_router_finite (hMoeIdeal := hMoeIdeal) (hMoeRefIdeal := hMoeRefIdeal) (hPre_router_finite := hPre_router_finite)
    ∧ preserves_Ret_RetIdeal
    ∧ algebraic_RetIdeal_RetRefIdeal (hRetIdeal := hRetIdeal) (hRetRefIdeal := hRetRefIdeal)
    ∧ preserves_RetD_RetDIdeal
    ∧ algebraic_RetDIdeal_RetDRefIdeal (hRetDIdeal := hRetDIdeal) (hRetDRefIdeal := hRetDRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_MoeD_MoeDIdeal
    ∧ algebraic_MoeDIdeal_MoeDRefIdeal_pre_router_finite_sample (hMoeDIdeal := hMoeDIdeal) (hMoeDRefIdeal := hMoeDRefIdeal) (hPre_router_finite_sample := hPre_router_finite_sample)
    ∧ preserves_ProjD_ProjDIdeal
    ∧ algebraic_ProjDIdeal_ProjDRefIdeal (hProjDIdeal := hProjDIdeal) (hProjDRefIdeal := hProjDRefIdeal)
    ∧ preserves_MergeD_MergeDIdeal
    ∧ algebraic_MergeDIdeal_MergeDRefIdeal (hMergeDIdeal := hMergeDIdeal) (hMergeDRefIdeal := hMergeDRefIdeal)
-- ==== Pre_router_finite.lean ====
abbrev S16384x1024 : Shape := ⟨2, ![16384, 1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x128 : Shape := ⟨3, ![32, 1024, 128]⟩
abbrev S32x128x1024 : Shape := ⟨3, ![32, 128, 1024]⟩
abbrev S1024 : Shape := ⟨1, ![1024]⟩
abbrev S_ : Shape := ⟨0, ![]⟩

class Facts : Prop where
  bcast_S_S1024x4 : S_.BroadcastsInDim S1024x4 (![] : Fin 0 → Fin S1024x4.rank)
  bcast_S_S4x1024x8 : S_.BroadcastsInDim S4x1024x8 (![] : Fin 0 → Fin S4x1024x8.rank)
  bcast_S_S4x8 : S_.BroadcastsInDim S4x8 (![] : Fin 0 → Fin S4x8.rank)

variable [Facts]

def fn {F : FTy → Type} [FloatOps F] (main_arg0 : FVec F S16384x1024 .f32) (main_arg1 : FVec F S1024x4 .f32) (main_arg2 : FVec F S4 .f32) (main_arg3 : FVec F S4x1024x8 .f32) (main_arg4 : FVec F S4x8 .f32) (main_arg5 : FVec F S32x1024x128 .f32) (main_arg6 : FVec F S32x1024x128 .f32) (main_arg7 : FVec F S32x128x1024 .f32) (main_arg8 : FVec F S1024 .f32) (main_arg9 : FVec F S1024 .f32) : IVec S1024x4 1 × IVec S4x1024x8 1 × IVec S4x8 1 :=
  let main_v0 : FVec F S1024x4 .f32 := Host.absf main_arg1
  let main_cst : FVec F S_ .f32 := constant S_ .f32 0x7F800000#32
  let main_v1 : FVec F S1024x4 .f32 := broadcastInDim S1024x4 ![] bcast_S_S1024x4 main_cst
  let main_v2 : IVec S1024x4 1 := cmpf .olt main_v0 main_v1
  let main_v3 : FVec F S4x1024x8 .f32 := Host.absf main_arg3
  let main_cst_0 : FVec F S_ .f32 := constant S_ .f32 0x7F800000#32
  let main_v4 : FVec F S4x1024x8 .f32 := broadcastInDim S4x1024x8 ![] bcast_S_S4x1024x8 main_cst_0
  let main_v5 : IVec S4x1024x8 1 := cmpf .olt main_v3 main_v4
  let main_v6 : FVec F S4x8 .f32 := Host.absf main_arg4
  let main_cst_1 : FVec F S_ .f32 := constant S_ .f32 0x7F800000#32
  let main_v7 : FVec F S4x8 .f32 := broadcastInDim S4x8 ![] bcast_S_S4x8 main_cst_1
  let main_v8 : IVec S4x8 1 := cmpf .olt main_v6 main_v7
  (main_v2, main_v5, main_v8)
-- ==== Pre_router_finite_sample.lean ====
abbrev S512x1024 : Shape := ⟨2, ![512, 1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x128 : Shape := ⟨3, ![32, 1024, 128]⟩
abbrev S32x128x1024 : Shape := ⟨3, ![32, 128, 1024]⟩
abbrev S1024 : Shape := ⟨1, ![1024]⟩
abbrev S_ : Shape := ⟨0, ![]⟩

class Facts : Prop where
  bcast_S_S1024x4 : S_.BroadcastsInDim S1024x4 (![] : Fin 0 → Fin S1024x4.rank)
  bcast_S_S4x1024x8 : S_.BroadcastsInDim S4x1024x8 (![] : Fin 0 → Fin S4x1024x8.rank)
  bcast_S_S4x8 : S_.BroadcastsInDim S4x8 (![] : Fin 0 → Fin S4x8.rank)

variable [Facts]

def fn {F : FTy → Type} [FloatOps F] (main_arg0 : FVec F S512x1024 .f32) (main_arg1 : FVec F S1024x4 .f32) (main_arg2 : FVec F S4 .f32) (main_arg3 : FVec F S4x1024x8 .f32) (main_arg4 : FVec F S4x8 .f32) (main_arg5 : FVec F S32x1024x128 .f32) (main_arg6 : FVec F S32x1024x128 .f32) (main_arg7 : FVec F S32x128x1024 .f32) (main_arg8 : FVec F S1024 .f32) (main_arg9 : FVec F S1024 .f32) : IVec S1024x4 1 × IVec S4x1024x8 1 × IVec S4x8 1 :=
  let main_v0 : FVec F S1024x4 .f32 := Host.absf main_arg1
  let main_cst : FVec F S_ .f32 := constant S_ .f32 0x7F800000#32
  let main_v1 : FVec F S1024x4 .f32 := broadcastInDim S1024x4 ![] bcast_S_S1024x4 main_cst
  let main_v2 : IVec S1024x4 1 := cmpf .olt main_v0 main_v1
  let main_v3 : FVec F S4x1024x8 .f32 := Host.absf main_arg3
  let main_cst_0 : FVec F S_ .f32 := constant S_ .f32 0x7F800000#32
  let main_v4 : FVec F S4x1024x8 .f32 := broadcastInDim S4x1024x8 ![] bcast_S_S4x1024x8 main_cst_0
  let main_v5 : IVec S4x1024x8 1 := cmpf .olt main_v3 main_v4
  let main_v6 : FVec F S4x8 .f32 := Host.absf main_arg4
  let main_cst_1 : FVec F S_ .f32 := constant S_ .f32 0x7F800000#32
  let main_v7 : FVec F S4x8 .f32 := broadcastInDim S4x8 ![] bcast_S_S4x8 main_cst_1
  let main_v8 : IVec S4x8 1 := cmpf .olt main_v6 main_v7
  (main_v2, main_v5, main_v8)
-- ==== Moe.lean ====
abbrev S16384x1024 : Shape := ⟨2, ![16384, 1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x128 : Shape := ⟨3, ![32, 1024, 128]⟩
abbrev S32x128x1024 : Shape := ⟨3, ![32, 128, 1024]⟩
abbrev S1024 : Shape := ⟨1, ![1024]⟩
abbrev S1024x4x8 : Shape := ⟨3, ![1024, 4, 8]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S32 : Shape := ⟨1, ![32]⟩
abbrev S92 : Shape := ⟨1, ![92]⟩
abbrev S128 : Shape := ⟨1, ![128]⟩
abbrev S1x128 : Shape := ⟨2, ![1, 128]⟩
abbrev S4x8x1024x128 : Shape := ⟨4, ![4, 8, 1024, 128]⟩
abbrev S4x1024x8x128 : Shape := ⟨4, ![4, 1024, 8, 128]⟩
abbrev S4x1024x1024 : Shape := ⟨3, ![4, 1024, 1024]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 37
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x4, .f32⟩
  | .hbm, ⟨2, _⟩ => ⟨S4, .f32⟩
  | .hbm, ⟨3, _⟩ => ⟨S4x1024x8, .f32⟩
  | .hbm, ⟨4, _⟩ => ⟨S4x8, .f32⟩
  | .hbm, ⟨5, _⟩ => ⟨S32x1024x128, .f32⟩
  | .hbm, ⟨6, _⟩ => ⟨S32x1024x128, .f32⟩
  | .hbm, ⟨7, _⟩ => ⟨S32x128x1024, .f32⟩
  | .hbm, ⟨8, _⟩ => ⟨S1024, .f32⟩
  | .hbm, ⟨9, _⟩ => ⟨S1024, .f32⟩
  | .hbm, ⟨10, _⟩ => ⟨S1024x4x8, .f32⟩
  | .hbm, ⟨11, _⟩ => ⟨S1024x32, .f32⟩
  | .hbm, ⟨12, _⟩ => ⟨S_, .f32⟩
  | .hbm, ⟨13, _⟩ => ⟨S1024x92, .f32⟩
  | .hbm, ⟨14, _⟩ => ⟨S1024x128, .f32⟩
  | .hbm, ⟨15, _⟩ => ⟨S1024x128, .bf16⟩
  | .hbm, ⟨16, _⟩ => ⟨S1024x128, .f32⟩
  | .hbm, ⟨17, _⟩ => ⟨S1024x128, .f32⟩
  | .hbm, ⟨18, _⟩ => ⟨S1024x128, .bf16⟩
  | .hbm, ⟨19, _⟩ => ⟨S32, .f32⟩
  | .hbm, ⟨20, _⟩ => ⟨S_, .f32⟩
  | .hbm, ⟨21, _⟩ => ⟨S92, .f32⟩
  | .hbm, ⟨22, _⟩ => ⟨S128, .f32⟩
  | .hbm, ⟨23, _⟩ => ⟨S1x128, .f32⟩
  | .hbm, ⟨24, _⟩ => ⟨S4x8x1024x128, .f32⟩
  | .hbm, ⟨25, _⟩ => ⟨S4x1024x8x128, .f32⟩
  | .hbm, ⟨26, _⟩ => ⟨S4x1024x1024, .f32⟩
  | .hbm, ⟨27, _⟩ => ⟨S4x1024x1024, .bf16⟩
  | .hbm, ⟨28, _⟩ => ⟨S4x8x1024x128, .f32⟩
  | .hbm, ⟨29, _⟩ => ⟨S4x1024x8x128, .f32⟩
  | .hbm, ⟨30, _⟩ => ⟨S4x1024x1024, .f32⟩
  | .hbm, ⟨31, _⟩ => ⟨S4x1024x1024, .bf16⟩
  | .hbm, ⟨32, _⟩ => ⟨S4x1024x1024, .f32⟩
  | .hbm, ⟨33, _⟩ => ⟨S4x1024x1024, .bf16⟩
  | .hbm, ⟨34, _⟩ => ⟨S1x1024, .f32⟩
  | .hbm, ⟨35, _⟩ => ⟨S1x1024, .f32⟩
  | .hbm, ⟨36, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S4x1024x1024, .bf16⟩
  | .local _ .vmem, ⟨6, _⟩ => ⟨S4x1024x1024, .bf16⟩
  | .local _ .vmem, ⟨7, _⟩ => ⟨S4x1024x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MoeRefIdeal.lean ====
abbrev S16384x1024 : Shape := ⟨2, ![16384, 1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x128 : Shape := ⟨3, ![32, 1024, 128]⟩
abbrev S32x128x1024 : Shape := ⟨3, ![32, 128, 1024]⟩
abbrev S1024 : Shape := ⟨1, ![1024]⟩
abbrev S16384x4 : Shape := ⟨2, ![16384, 4]⟩
abbrev S1x4 : Shape := ⟨2, ![1, 4]⟩
abbrev S16384x1 : Shape := ⟨2, ![16384, 1]⟩
abbrev S16384 : Shape := ⟨1, ![16384]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S16384x4x8 : Shape := ⟨3, ![16384, 4, 8]⟩
abbrev S1x4x8 : Shape := ⟨3, ![1, 4, 8]⟩
abbrev S16384x1x8 : Shape := ⟨3, ![16384, 1, 8]⟩
abbrev S16384x8 : Shape := ⟨2, ![16384, 8]⟩
abbrev S16384x2 : Shape := ⟨2, ![16384, 2]⟩
abbrev S16384x2x1 : Shape := ⟨3, ![16384, 2, 1]⟩
abbrev S1x1x32 : Shape := ⟨3, ![1, 1, 32]⟩
abbrev S16384x2x32 : Shape := ⟨3, ![16384, 2, 32]⟩
abbrev S16384x32 : Shape := ⟨2, ![16384, 32]⟩
abbrev S16384x32x128 : Shape := ⟨3, ![16384, 32, 128]⟩
abbrev S16384x32x1 : Shape := ⟨3, ![16384, 32, 1]⟩
abbrev S1x1024 : Shape := ⟨2, ![1, 1024]⟩

abbrev nBuf : Space → Nat
  | .hbm => 168
  | .vmem => 0
  | .smem => 0
  | _ => 0

abbrev hbmTy0_0 (i : Nat) : BufTy := match i % 128 with
  | 0 => ⟨S16384x1024, .f32⟩
  | 1 => ⟨S1024x4, .f32⟩
  | 2 => ⟨S4, .f32⟩
  | 3 => ⟨S4x1024x8, .f32⟩
  | 4 => ⟨S4x8, .f32⟩
  | 5 => ⟨S32x1024x128, .f32⟩
  | 6 => ⟨S32x1024x128, .f32⟩
  | 7 => ⟨S32x128x1024, .f32⟩
  | 8 => ⟨S1024, .f32⟩
  | 9 => ⟨S1024, .f32⟩
  | 10 => ⟨S16384x4, .f32⟩
  | 11 => ⟨S1x4, .f32⟩
  | 12 => ⟨S16384x4, .f32⟩
  | 13 => ⟨S16384x4, .f32⟩
  | 14 => ⟨S16384x1, .f32⟩
  | 15 => ⟨S16384x1, .i32⟩
  | 16 => ⟨S16384, .i32⟩
  | 17 => ⟨S_, .f32⟩
  | 18 => ⟨S16384, .f32⟩
  | 19 => ⟨S_, .f32⟩
  | 20 => ⟨S16384, .f32⟩
  | 21 => ⟨S16384, .f32⟩
  | 22 => ⟨S16384x1, .f32⟩
  | 23 => ⟨S16384x4, .f32⟩
  | 24 => ⟨S16384x4, .f32⟩
  | 25 => ⟨S16384x4, .f32⟩
  | 26 => ⟨S_, .f32⟩
  | 27 => ⟨S16384, .f32⟩
  | 28 => ⟨S16384x1, .f32⟩
  | 29 => ⟨S16384x4, .f32⟩
  | 30 => ⟨S16384x4, .f32⟩
  | 31 => ⟨S16384x1, .i32⟩
  | 32 => ⟨S_, .i32⟩
  | 33 => ⟨S16384x1, .i32⟩
  | 34 => ⟨S16384x1, .i1⟩
  | 35 => ⟨S_, .i32⟩
  | 36 => ⟨S16384x1, .i32⟩
  | 37 => ⟨S16384x1, .i32⟩
  | 38 => ⟨S16384x1, .i32⟩
  | 39 => ⟨S16384x1x1, .i32⟩
  | 40 => ⟨S1, .i32⟩
  | 41 => ⟨S_, .i32⟩
  | 42 => ⟨S16384x1x1, .i32⟩
  | 43 => ⟨S16384x1x1, .i1⟩
  | 44 => ⟨S1x1x1, .i32⟩
  | 45 => ⟨S16384x1x1, .i32⟩
  | 46 => ⟨S16384x1x1, .i1⟩
  | 47 => ⟨S16384x1x1, .i1⟩
  | 48 => ⟨S_, .i1⟩
  | 49 => ⟨S16384x1, .i1⟩
  | 50 => ⟨S16384x1, .f32⟩
  | 51 => ⟨S_, .f32⟩
  | 52 => ⟨S16384x1, .f32⟩
  | 53 => ⟨S16384x1, .f32⟩
  | 54 => ⟨S16384, .f32⟩
  | 55 => ⟨S16384x4x8, .f32⟩
  | 56 => ⟨S1x4x8, .f32⟩
  | 57 => ⟨S16384x4x8, .f32⟩
  | 58 => ⟨S16384x4x8, .f32⟩
  | 59 => ⟨S16384x1x1, .i32⟩
  | 60 => ⟨S_, .i32⟩
  | 61 => ⟨S16384x1x1, .i32⟩
  | 62 => ⟨S16384x1x1, .i1⟩
  | 63 => ⟨S_, .i32⟩
  | 64 => ⟨S16384x1x1, .i32⟩
  | 65 => ⟨S16384x1x1, .i32⟩
  | 66 => ⟨S16384x1x1, .i32⟩
  | 67 => ⟨S1, .i32⟩
  | 68 => ⟨S_, .i32⟩
  | 69 => ⟨S16384x1x1, .i32⟩
  | 70 => ⟨S16384x1x1, .i1⟩
  | 71 => ⟨S1x1x1, .i32⟩
  | 72 => ⟨S16384x1x1, .i32⟩
  | 73 => ⟨S16384x1x1, .i1⟩
  | 74 => ⟨S16384x1x1, .i1⟩
  | 75 => ⟨S_, .i1⟩
  | 76 => ⟨S16384x1, .i1⟩
  | 77 => ⟨S16384x1x8, .f32⟩
  | 78 => ⟨S16384x1x8, .i1⟩
  | 79 => ⟨S_, .f32⟩
  | 80 => ⟨S16384x1x8, .f32⟩
  | 81 => ⟨S16384x1x8, .f32⟩
  | 82 => ⟨S16384x8, .f32⟩
  | 83 => ⟨S16384x2, .f32⟩
  | 84 => ⟨S16384x2, .i32⟩
  | 85 => ⟨S_, .f32⟩
  | 86 => ⟨S16384, .f32⟩
  | 87 => ⟨S_, .f32⟩
  | 88 => ⟨S16384, .f32⟩
  | 89 => ⟨S16384, .f32⟩
  | 90 => ⟨S16384x1, .f32⟩
  | 91 => ⟨S16384x2, .f32⟩
  | 92 => ⟨S16384x2, .f32⟩
  | 93 => ⟨S16384x2, .f32⟩
  | 94 => ⟨S_, .f32⟩
  | 95 => ⟨S16384, .f32⟩
  | 96 => ⟨S16384x1, .f32⟩
  | 97 => ⟨S16384x2, .f32⟩
  | 98 => ⟨S16384x2, .f32⟩
  | 99 => ⟨S16384x1, .f32⟩
  | 100 => ⟨S16384x2, .f32⟩
  | 101 => ⟨S16384x2, .f32⟩
  | 102 => ⟨S16384x1, .i32⟩
  | 103 => ⟨S_, .i32⟩
  | 104 => ⟨S16384x1, .i32⟩
  | 105 => ⟨S16384x1, .i32⟩
  | 106 => ⟨S16384x2, .i32⟩
  | 107 => ⟨S16384x2, .i32⟩
  | 108 => ⟨S16384x2x1, .i32⟩
  | 109 => ⟨S1x1x32, .i32⟩
  | 110 => ⟨S16384x2x32, .i32⟩
  | 111 => ⟨S16384x2x32, .i32⟩
  | 112 => ⟨S16384x2x32, .i1⟩
  | 113 => ⟨S16384x2x32, .f32⟩
  | 114 => ⟨S16384x2x1, .f32⟩
  | 115 => ⟨S16384x2x32, .f32⟩
  | 116 => ⟨S16384x2x32, .f32⟩
  | 117 => ⟨S_, .f32⟩
  | 118 => ⟨S16384x32, .f32⟩
  | 119 => ⟨S16384x32x128, .f32⟩
  | 120 => ⟨S16384x32x128, .f32⟩
  | 121 => ⟨S16384x32x128, .f32⟩
  | 122 => ⟨S_, .f32⟩
  | 123 => ⟨S16384x32x128, .f32⟩
  | 124 => ⟨S16384x32x128, .f32⟩
  | 125 => ⟨S_, .f32⟩
  | 126 => ⟨S16384x32x128, .f32⟩
  | 127 => ⟨S16384x32x128, .f32⟩
  | _ => ⟨S16384x1024, .f32⟩

abbrev hbmTy0_1 (i : Nat) : BufTy := match i % 128 with
  | 0 => ⟨S16384x32x128, .f32⟩
  | 1 => ⟨S16384x32x128, .f32⟩
  | 2 => ⟨S16384x32x128, .f32⟩
  | 3 => ⟨S16384x32x1, .f32⟩
  | 4 => ⟨S16384x32x128, .f32⟩
  | 5 => ⟨S16384x32x128, .f32⟩
  | 6 => ⟨S16384x1024, .f32⟩
  | 7 => ⟨S_, .f32⟩
  | 8 => ⟨S16384x1024, .f32⟩
  | 9 => ⟨S16384x1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S16384x1024, .f32⟩
  | 18 => ⟨S16384x1024, .f32⟩
  | 19 => ⟨S16384x1024, .f32⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S16384x1024, .f32⟩
  | 27 => ⟨S16384x1024, .f32⟩
  | 28 => ⟨S_, .f32⟩
  | 29 => ⟨S16384x1, .f32⟩
  | 30 => ⟨S16384x1, .f32⟩
  | 31 => ⟨S16384x1, .f32⟩
  | 32 => ⟨S16384x1024, .f32⟩
  | 33 => ⟨S16384x1024, .f32⟩
  | 34 => ⟨S1x1024, .f32⟩
  | 35 => ⟨S16384x1024, .f32⟩
  | 36 => ⟨S16384x1024, .f32⟩
  | 37 => ⟨S1x1024, .f32⟩
  | 38 => ⟨S16384x1024, .f32⟩
  | 39 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_values : Ref sig .tc := ⟨.hbm, 14, rfl⟩
abbrev main_indices : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_cst : Ref sig .tc := ⟨.hbm, 51, rfl⟩
abbrev main_call0_v14 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_1 : Ref sig .tc := ⟨.hbm, 67, rfl⟩
abbrev main_call1_c_2 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_c_3 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_cst : Ref sig .tc := ⟨.hbm, 79, rfl⟩
abbrev main_call1_v14 : Ref sig .tc := ⟨.hbm, 80, rfl⟩
abbrev main_v24 : Ref sig .tc := ⟨.hbm, 81, rfl⟩
abbrev main_v25 : Ref sig .tc := ⟨.hbm, 82, rfl⟩
abbrev main_values_2 : Ref sig .tc := ⟨.hbm, 83, rfl⟩
abbrev main_indices_3 : Ref sig .tc := ⟨.hbm, 84, rfl⟩
abbrev main_cst_4 : Ref sig .tc := ⟨.hbm, 85, rfl⟩
abbrev main_v26 : Ref sig .tc := ⟨.hbm, 86, rfl⟩
abbrev main_cst_5 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_cst_6 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_c : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_cst_7 : Ref sig .tc := ⟨.hbm, 117, rfl⟩
abbrev main_v49 : Ref sig .tc := ⟨.hbm, 118, rfl⟩
abbrev main_v50 : Ref sig .tc := ⟨.hbm, 119, rfl⟩
abbrev main_call3_v0 : Ref sig .tc := ⟨.hbm, 120, rfl⟩
abbrev main_call3_v1 : Ref sig .tc := ⟨.hbm, 121, rfl⟩
abbrev main_call3_cst : Ref sig .tc := ⟨.hbm, 122, rfl⟩
abbrev main_call3_v2 : Ref sig .tc := ⟨.hbm, 123, rfl⟩
abbrev main_call3_v3 : Ref sig .tc := ⟨.hbm, 124, rfl⟩
abbrev main_call3_cst_0 : Ref sig .tc := ⟨.hbm, 125, rfl⟩
abbrev main_call3_v4 : Ref sig .tc := ⟨.hbm, 126, rfl⟩
abbrev main_call3_v5 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_cst_8 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_cst_9 : Ref sig .tc := ⟨.hbm, 139, rfl⟩
abbrev main_v61 : Ref sig .tc := ⟨.hbm, 140, rfl⟩
abbrev main_v62 : Ref sig .tc := ⟨.hbm, 141, rfl⟩
abbrev main_cst_10 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_cst_11 : Ref sig .tc := ⟨.hbm, 148, rfl⟩
abbrev main_v68 : Ref sig .tc := ⟨.hbm, 149, rfl⟩
abbrev main_v69 : Ref sig .tc := ⟨.hbm, 150, rfl⟩
abbrev main_cst_12 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_cst_13 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩

abbrev nD : Nat := 1
abbrev τ : Topo := Topo.v7x

variable {F : FTy → Type} [FloatOps F]
-- ==== Ret.lean ====
abbrev S16384x512 : Shape := ⟨2, ![16384, 512]⟩
abbrev S512 : Shape := ⟨1, ![512]⟩
abbrev S4 : Shape := ⟨1, ![4]⟩
abbrev S1x512 : Shape := ⟨2, ![1, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x128 : Shape := ⟨3, ![4, 1, 128]⟩
abbrev S4x4x128x128 : Shape := ⟨4, ![4, 4, 128, 128]⟩
abbrev S128x512 : Shape := ⟨2, ![128, 512]⟩
abbrev S1x4x128x128 : Shape := ⟨4, ![1, 4, 128, 128]⟩
abbrev S1x1x128 : Shape := ⟨3, ![1, 1, 128]⟩

abbrev nBuf : Space → Nat
  | .hbm => 70
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S512, .f32⟩
  | .hbm, ⟨5, _⟩ => ⟨S4, .f32⟩
  | .hbm, ⟨6, _⟩ => ⟨S1x512, .f32⟩
  | .hbm, ⟨7, _⟩ => ⟨S4, .f32⟩
  | .hbm, ⟨8, _⟩ => ⟨S128, .f32⟩
  | .hbm, ⟨9, _⟩ => ⟨S128x1, .f32⟩
  | .hbm, ⟨10, _⟩ => ⟨S1x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S_, .f32⟩
  | .hbm, ⟨15, _⟩ => ⟨S128x128, .f32⟩
  | .hbm, ⟨16, _⟩ => ⟨S128x128, .i1⟩
  | .hbm, ⟨17, _⟩ => ⟨S4x1x1, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S1x128x128, .f32⟩
  | .hbm, ⟨22, _⟩ => ⟨S4x128x128, .f32⟩
  | .hbm, ⟨23, _⟩ => ⟨S4x128x128, .f32⟩
  | .hbm, ⟨24, _⟩ => ⟨S4x128x128, .f32⟩
  | .hbm, ⟨25, _⟩ => ⟨S4x128x128, .f32⟩
  | .hbm, ⟨26, _⟩ => ⟨S_, .f32⟩
  | .hbm, ⟨27, _⟩ => ⟨S_, .f32⟩
  | .hbm, ⟨28, _⟩ => ⟨S4x128x128, .i1⟩
  | .hbm, ⟨29, _⟩ => ⟨S4x128x128, .f32⟩
  | .hbm, ⟨30, _⟩ => ⟨S4x128x128, .f32⟩
  | .hbm, ⟨31, _⟩ => ⟨S4x1, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S1x128, .f32⟩
  | .hbm, ⟨36, _⟩ => ⟨S4x128, .f32⟩
  | .hbm, ⟨37, _⟩ => ⟨S4x128, .f32⟩
  | .hbm, ⟨38, _⟩ => ⟨S4x128, .f32⟩
  | .hbm, ⟨39, _⟩ => ⟨S4x128, .f32⟩
  | .hbm, ⟨40, _⟩ => ⟨S4x1, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S4x128, .f32⟩
  | .hbm, ⟨46, _⟩ => ⟨S4x128, .f32⟩
  | .hbm, ⟨47, _⟩ => ⟨S4x128, .f32⟩
  | .hbm, ⟨48, _⟩ => ⟨S4x128, .f32⟩
  | .hbm, ⟨49, _⟩ => ⟨S_, .f32⟩
  | .hbm, ⟨50, _⟩ => ⟨S4, .f32⟩
  | .hbm, ⟨51, _⟩ => ⟨S4, .f32⟩
  | .hbm, ⟨52, _⟩ => ⟨S4, .f32⟩
  | .hbm, ⟨53, _⟩ => ⟨S_, .i32⟩
  | .hbm, ⟨54, _⟩ => ⟨S_, .f32⟩
  | .hbm, ⟨55, _⟩ => ⟨S4x128x128, .f32⟩
  | .hbm, ⟨56, _⟩ => ⟨S_, .i32⟩
  | .hbm, ⟨57, _⟩ => ⟨S_, .f32⟩
  | .hbm, ⟨58, _⟩ => ⟨S4x128, .f32⟩
  | .hbm, ⟨59, _⟩ => ⟨S4x128x1, .f32⟩
  | .hbm, ⟨60, _⟩ => ⟨S4x128x128, .f32⟩
  | .hbm, ⟨61, _⟩ => ⟨S_, .i32⟩
  | .hbm, ⟨62, _⟩ => ⟨S_, .f32⟩
  | .hbm, ⟨63, _⟩ => ⟨S4x128, .f32⟩
  | .hbm, ⟨64, _⟩ => ⟨S4x128x1, .f32⟩
  | .hbm, ⟨65, _⟩ => ⟨S4x128x128, .f32⟩
  | .hbm, ⟨66, _⟩ => ⟨S4x1x1, .f32⟩
  | .hbm, ⟨67, _⟩ => ⟨S4x1x128, .f32⟩
  | .hbm, ⟨68, _⟩ => ⟨S16384x512, .bf16⟩
  | .hbm, ⟨69, _⟩ => ⟨S4x4x128x128, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S4x128x128, .f32⟩
  | .local _ .vmem, ⟨10, _⟩ => ⟨S4x128x128, .f32⟩
  | .local _ .vmem, ⟨11, _⟩ => ⟨S4x128x128, .f32⟩
  | .local _ .vmem, ⟨12, _⟩ => ⟨S4x1x128, .f32⟩
  | .local _ .vmem, ⟨13, _⟩ => ⟨S128x512, .bf16⟩
  | .local _ .vmem, ⟨14, _⟩ => ⟨S128x512, .bf16⟩
  | .local _ .vmem, ⟨15, _⟩ => ⟨S1x4x128x128, .f32⟩
  | .local _ .vmem, ⟨16, _⟩ => ⟨S1x4x128x128, .f32⟩
  | .local _ .vmem, ⟨17, _⟩ => ⟨S4x128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c : Ref sig .tc := ⟨.hbm, 53, rfl⟩
abbrev main_call1_v0 : Ref sig .tc := ⟨.hbm, 54, rfl⟩
abbrev main_v38 : Ref sig .tc := ⟨.hbm, 55, rfl⟩
abbrev main_c_6 : Ref sig .tc := ⟨.hbm, 56, rfl⟩
abbrev main_call2_v0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_call3_v0 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v263 : BitVec 1 := Scalar.cmpi .eq arg1 c31_i32
  let v264 : BitVec 32 := Scalar.extui v263
  let c0_i32_161 : BitVec 32 := 0#32
  let v265 : BitVec 1 := Scalar.cmpi .ne v264 c0_i32_161
  v265

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== RetRefIdeal.lean ====
abbrev S16384x512 : Shape := ⟨2, ![16384, 512]⟩
abbrev S512 : Shape := ⟨1, ![512]⟩
abbrev S4x4096x4x128 : Shape := ⟨4, ![4, 4096, 4, 128]⟩
abbrev S4x4x4096x128 : Shape := ⟨4, ![4, 4, 4096, 128]⟩
abbrev S_ : Shape := ⟨0, ![]⟩
abbrev S4x4x128x128 : Shape := ⟨4, ![4, 4, 128, 128]⟩
abbrev S4x4x32x128x128 : Shape := ⟨5, ![4, 4, 32, 128, 128]⟩
abbrev S32x4x4x128x128 : Shape := ⟨5, ![32, 4, 4, 128, 128]⟩
abbrev S1x4x4x128x128 : Shape := ⟨5, ![1, 4, 4, 128, 128]⟩
abbrev S1 : Shape := ⟨1, ![1]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4x128x128 : Shape := ⟨4, ![1, 4, 128, 128]⟩
abbrev S4x1 : Shape := ⟨2, ![4, 1]⟩
abbrev S4x128 : Shape := ⟨2, ![4, 128]⟩
abbrev S4x128x1 : Shape := ⟨3, ![4, 128, 1]⟩
abbrev S1x4x128x1 : Shape := ⟨4, ![1, 4, 128, 1]⟩
abbrev S1x4x1x1 : Shape := ⟨4, ![1, 4, 1, 1]⟩
abbrev S4x4x4096 : Shape := ⟨3, ![4, 4, 4096]⟩
abbrev S4x4x4096x1 : Shape := ⟨4, ![4, 4, 4096, 1]⟩
abbrev S4x4096x512 : Shape := ⟨3, ![4, 4096, 512]⟩
abbrev S1x1x512 : Shape := ⟨3, ![1, 1, 512]⟩

abbrev nBuf : Space → Nat
  | .hbm => 178
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .f32⟩
  | 4 => ⟨S512, .f32⟩
  | 5 => ⟨S4x4096x4x128, .bf16⟩
  | 6 => ⟨S4x4x4096x128, .bf16⟩
  | 7 => ⟨S4x4x4096x128, .f32⟩
  | 8 => ⟨S4x4096x4x128, .bf16⟩
  | 9 => ⟨S4x4x4096x128, .bf16⟩
  | 10 => ⟨S4x4x4096x128, .f32⟩
  | 11 => ⟨S4x4096x4x128, .bf16⟩
  | 12 => ⟨S4x4x4096x128, .bf16⟩
  | 13 => ⟨S4x4x4096x128, .f32⟩
  | 14 => ⟨S_, .f32⟩
  | 15 => ⟨S4x4x128x128, .f32⟩
  | 16 => ⟨S4x4x32x128x128, .f32⟩
  | 17 => ⟨S32x4x4x128x128, .f32⟩
  | 18 => ⟨S4x4x32x128x128, .f32⟩
  | 19 => ⟨S32x4x4x128x128, .f32⟩
  | 20 => ⟨S4x4x32x128x128, .f32⟩
  | 21 => ⟨S32x4x4x128x128, .f32⟩
  | 22 => ⟨S_, .f32⟩
  | 23 => ⟨S32x4x4x128x128, .f32⟩
  | 24 => ⟨S_, .i32⟩
  | 25 => ⟨S32x4x4x128x128, .f32⟩
  | 26 => ⟨S32x4x4x128x128, .f32⟩
  | 27 => ⟨S32x4x4x128x128, .f32⟩
  | 28 => ⟨S_, .i32⟩
  | 29 => ⟨S4x4x128x128, .f32⟩
  | 30 => ⟨S32x4x4x128x128, .f32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S1x4x4x128x128, .f32⟩
  | 38 => ⟨S4x4x128x128, .f32⟩
  | 39 => ⟨S_, .i32⟩
  | 40 => ⟨S_, .i32⟩
  | 41 => ⟨S_, .i32⟩
  | 42 => ⟨S_, .i32⟩
  | 43 => ⟨S1x4x4x128x128, .f32⟩
  | 44 => ⟨S4x4x128x128, .f32⟩
  | 45 => ⟨S_, .i32⟩
  | 46 => ⟨S_, .i32⟩
  | 47 => ⟨S_, .i32⟩
  | 48 => ⟨S_, .i32⟩
  | 49 => ⟨S1x4x4x128x128, .f32⟩
  | 50 => ⟨S4x4x128x128, .f32⟩
  | 51 => ⟨S_, .f32⟩
  | 52 => ⟨S1, .f32⟩
  | 53 => ⟨S_, .f32⟩
  | 54 => ⟨S1, .f32⟩
  | 55 => ⟨S_, .f32⟩
  | 56 => ⟨S1, .f32⟩
  | 57 => ⟨S_, .f32⟩
  | 58 => ⟨S1, .f32⟩
  | 59 => ⟨S4, .f32⟩
  | 60 => ⟨S4, .f32⟩
  | 61 => ⟨S128, .f32⟩
  | 62 => ⟨S128x1, .f32⟩
  | 63 => ⟨S1x128, .f32⟩
  | 64 => ⟨S128x128, .f32⟩
  | 65 => ⟨S128x128, .f32⟩
  | 66 => ⟨S128x128, .f32⟩
  | 67 => ⟨S_, .f32⟩
  | 68 => ⟨S128x128, .f32⟩
  | 69 => ⟨S128x128, .i1⟩
  | 70 => ⟨S4x1x1, .f32⟩
  | 71 => ⟨S_, .f32⟩
  | 72 => ⟨S128x128, .f32⟩
  | 73 => ⟨S128x128, .f32⟩
  | 74 => ⟨S1x128x128, .f32⟩
  | 75 => ⟨S4x128x128, .f32⟩
  | 76 => ⟨S4x128x128, .f32⟩
  | 77 => ⟨S4x128x128, .f32⟩
  | 78 => ⟨S4x128x128, .f32⟩
  | 79 => ⟨S_, .f32⟩
  | 80 => ⟨S_, .f32⟩
  | 81 => ⟨S4x128x128, .i1⟩
  | 82 => ⟨S4x128x128, .f32⟩
  | 83 => ⟨S4x128x128, .f32⟩
  | 84 => ⟨S4x4x128x128, .f32⟩
  | 85 => ⟨S1x4x128x128, .f32⟩
  | 86 => ⟨S4x4x128x128, .f32⟩
  | 87 => ⟨S4x4x128x128, .f32⟩
  | 88 => ⟨S4x4x128x128, .f32⟩
  | 89 => ⟨S4x1, .f32⟩
  | 90 => ⟨S_, .f32⟩
  | 91 => ⟨S128, .f32⟩
  | 92 => ⟨S128, .f32⟩
  | 93 => ⟨S1x128, .f32⟩
  | 94 => ⟨S4x128, .f32⟩
  | 95 => ⟨S4x128, .f32⟩
  | 96 => ⟨S4x128, .f32⟩
  | 97 => ⟨S4x128, .f32⟩
  | 98 => ⟨S4x128x1, .f32⟩
  | 99 => ⟨S1x4x128x1, .f32⟩
  | 100 => ⟨S4x4x128x128, .f32⟩
  | 101 => ⟨S4x4x128x128, .f32⟩
  | 102 => ⟨S4x4x128x128, .f32⟩
  | 103 => ⟨S4x1, .f32⟩
  | 104 => ⟨S_, .f32⟩
  | 105 => ⟨S128, .f32⟩
  | 106 => ⟨S128, .f32⟩
  | 107 => ⟨S1x128, .f32⟩
  | 108 => ⟨S4x128, .f32⟩
  | 109 => ⟨S4x128, .f32⟩
  | 110 => ⟨S4x128, .f32⟩
  | 111 => ⟨S4x128, .f32⟩
  | 112 => ⟨S4x128x1, .f32⟩
  | 113 => ⟨S1x4x128x1, .f32⟩
  | 114 => ⟨S4x4x128x128, .f32⟩
  | 115 => ⟨S4x4x128x128, .f32⟩
  | 116 => ⟨S_, .f32⟩
  | 117 => ⟨S4, .f32⟩
  | 118 => ⟨S4, .f32⟩
  | 119 => ⟨S4, .f32⟩
  | 120 => ⟨S4x1x1, .f32⟩
  | 121 => ⟨S1x4x1x1, .f32⟩
  | 122 => ⟨S4x4x128x128, .f32⟩
  | 123 => ⟨S4x4x128x128, .f32⟩
  | 124 => ⟨S4x4x128x128, .f32⟩
  | 125 => ⟨S4x4x128x128, .f32⟩
  | 126 => ⟨S4x4x128x128, .f32⟩
  | 127 => ⟨S1x4x4x128x128, .f32⟩
  | _ => ⟨S16384x512, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S32x4x4x128x128, .f32⟩
  | 5 => ⟨S_, .i32⟩
  | 6 => ⟨S_, .i32⟩
  | 7 => ⟨S4x4x32x128x128, .f32⟩
  | 8 => ⟨S4x4x4096x128, .f32⟩
  | 9 => ⟨S_, .f32⟩
  | 10 => ⟨S4x4x4096, .f32⟩
  | 11 => ⟨S4x4x4096x1, .f32⟩
  | 12 => ⟨S_, .f32⟩
  | 13 => ⟨S4x4x4096x1, .f32⟩
  | 14 => ⟨S4x4x4096x1, .f32⟩
  | 15 => ⟨S4x4x4096x128, .f32⟩
  | 16 => ⟨S4x4x4096x128, .f32⟩
  | 17 => ⟨S4x4x4096x128, .f32⟩
  | 18 => ⟨S_, .f32⟩
  | 19 => ⟨S4x4x4096, .f32⟩
  | 20 => ⟨S4x4x4096x1, .f32⟩
  | 21 => ⟨S_, .f32⟩
  | 22 => ⟨S4x4x4096x1, .f32⟩
  | 23 => ⟨S4x4x4096x1, .f32⟩
  | 24 => ⟨S4x4x4096x128, .f32⟩
  | 25 => ⟨S4x4x4096x128, .f32⟩
  | 26 => ⟨S_, .f32⟩
  | 27 => ⟨S4x4x4096x1, .f32⟩
  | 28 => ⟨S4x4x4096x1, .f32⟩
  | 29 => ⟨S4x4x4096x1, .f32⟩
  | 30 => ⟨S4x4x4096x128, .f32⟩
  | 31 => ⟨S4x4x4096x128, .f32⟩
  | 32 => ⟨S4x4096x4x128, .f32⟩
  | 33 => ⟨S4x4096x512, .f32⟩
  | 34 => ⟨S1x1x512, .f32⟩
  | 35 => ⟨S4x4096x512, .f32⟩
  | 36 => ⟨S4x4096x512, .f32⟩
  | 37 => ⟨S4x4096x512, .f32⟩
  | 38 => ⟨S4x4096x512, .f32⟩
  | 39 => ⟨S4x4096x512, .f32⟩
  | 40 => ⟨S_, .f32⟩
  | 41 => ⟨S4x4096x512, .f32⟩
  | 42 => ⟨S4x4096x512, .f32⟩
  | 43 => ⟨S_, .f32⟩
  | 44 => ⟨S4x4096x512, .f32⟩
  | 45 => ⟨S4x4096x512, .f32⟩
  | 46 => ⟨S4x4096x512, .f32⟩
  | 47 => ⟨S4x4096x512, .f32⟩
  | 48 => ⟨S16384x512, .f32⟩
  | 49 => ⟨S16384x512, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_c : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev main_v17_5 : Ref sig .tc := ⟨.hbm, 30, rfl⟩
abbrev main_while0c_c_11 : Ref sig .tc := ⟨.hbm, 31, rfl⟩
abbrev main_while0c_v48 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_c_2 : Ref sig .tc := ⟨.hbm, 36, rfl⟩
abbrev main_while0b_call0_v0 : Ref sig .tc := ⟨.hbm, 37, rfl⟩
abbrev main_while0b_v48 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_c_2 : Ref sig .tc := ⟨.hbm, 42, rfl⟩
abbrev main_while0b_call1_v0 : Ref sig .tc := ⟨.hbm, 43, rfl⟩
abbrev main_while0b_v49 : Ref sig .tc := ⟨.hbm, 44, rfl⟩
abbrev main_while0b_call2_c : Ref sig .tc := ⟨.hbm, 45, rfl⟩
abbrev main_while0b_call2_c_0 : Ref sig .tc := ⟨.hbm, 46, rfl⟩
abbrev main_while0b_call2_c_1 : Ref sig .tc := ⟨.hbm, 47, rfl⟩
abbrev main_while0b_call2_c_2 : Ref sig .tc := ⟨.hbm, 48, rfl⟩
abbrev main_while0b_call2_v0 : Ref sig .tc := ⟨.hbm, 49, rfl⟩
abbrev main_while0b_v50 : Ref sig .tc := ⟨.hbm, 50, rfl⟩
abbrev main_while0b_cst_11 : Ref sig .tc := ⟨.hbm, 51, rfl⟩
abbrev main_while0b_v51 : Ref sig .tc := ⟨.hbm, 52, rfl⟩
abbrev main_while0b_cst_12 : Ref sig .tc := ⟨.hbm, 53, rfl⟩
abbrev main_while0b_v52 : Ref sig .tc := ⟨.hbm, 54, rfl⟩
abbrev main_while0b_cst_13 : Ref sig .tc := ⟨.hbm, 55, rfl⟩
abbrev main_while0b_v53 : Ref sig .tc := ⟨.hbm, 56, rfl⟩
abbrev main_while0b_cst_14 : Ref sig .tc := ⟨.hbm, 57, rfl⟩
abbrev main_while0b_v54 : Ref sig .tc := ⟨.hbm, 58, rfl⟩
abbrev main_while0b_v55 : Ref sig .tc := ⟨.hbm, 59, rfl⟩
abbrev main_while0b_v56 : Ref sig .tc := ⟨.hbm, 60, rfl⟩
abbrev main_while0b_v57 : Ref sig .tc := ⟨.hbm, 61, rfl⟩
abbrev main_while0b_v58 : Ref sig .tc := ⟨.hbm, 62, rfl⟩
abbrev main_while0b_v59 : Ref sig .tc := ⟨.hbm, 63, rfl⟩
abbrev main_while0b_v60 : Ref sig .tc := ⟨.hbm, 64, rfl⟩
abbrev main_while0b_v61 : Ref sig .tc := ⟨.hbm, 65, rfl⟩
abbrev main_while0b_v62 : Ref sig .tc := ⟨.hbm, 66, rfl⟩
abbrev main_while0b_cst_15 : Ref sig .tc := ⟨.hbm, 67, rfl⟩
abbrev main_while0b_v63 : Ref sig .tc := ⟨.hbm, 68, rfl⟩
abbrev main_while0b_v64 : Ref sig .tc := ⟨.hbm, 69, rfl⟩
abbrev main_while0b_v65 : Ref sig .tc := ⟨.hbm, 70, rfl⟩
abbrev main_while0b_cst_16 : Ref sig .tc := ⟨.hbm, 71, rfl⟩
abbrev main_while0b_v66 : Ref sig .tc := ⟨.hbm, 72, rfl⟩
abbrev main_while0b_v67 : Ref sig .tc := ⟨.hbm, 73, rfl⟩
abbrev main_while0b_v68 : Ref sig .tc := ⟨.hbm, 74, rfl⟩
abbrev main_while0b_v69 : Ref sig .tc := ⟨.hbm, 75, rfl⟩
abbrev main_while0b_v70 : Ref sig .tc := ⟨.hbm, 76, rfl⟩
abbrev main_while0b_v71 : Ref sig .tc := ⟨.hbm, 77, rfl⟩
abbrev main_while0b_v72 : Ref sig .tc := ⟨.hbm, 78, rfl⟩
abbrev main_while0b_cst_17 : Ref sig .tc := ⟨.hbm, 79, rfl⟩
abbrev main_while0b_call3_v0 : Ref sig .tc := ⟨.hbm, 80, rfl⟩
abbrev main_while0b_call3_v1 : Ref sig .tc := ⟨.hbm, 81, rfl⟩
abbrev main_while0b_call3_v2 : Ref sig .tc := ⟨.hbm, 82, rfl⟩
abbrev main_while0b_v73 : Ref sig .tc := ⟨.hbm, 83, rfl⟩
abbrev main_while0b_v74 : Ref sig .tc := ⟨.hbm, 84, rfl⟩
abbrev main_while0b_v75 : Ref sig .tc := ⟨.hbm, 85, rfl⟩
abbrev main_while0b_v76 : Ref sig .tc := ⟨.hbm, 86, rfl⟩
abbrev main_while0b_v77 : Ref sig .tc := ⟨.hbm, 87, rfl⟩
abbrev main_while0b_v78 : Ref sig .tc := ⟨.hbm, 88, rfl⟩
abbrev main_while0b_v79 : Ref sig .tc := ⟨.hbm, 89, rfl⟩
abbrev main_while0b_cst_18 : Ref sig .tc := ⟨.hbm, 90, rfl⟩
abbrev main_while0b_v80 : Ref sig .tc := ⟨.hbm, 91, rfl⟩
abbrev main_while0b_v81 : Ref sig .tc := ⟨.hbm, 92, rfl⟩
abbrev main_while0b_v82 : Ref sig .tc := ⟨.hbm, 93, rfl⟩
abbrev main_while0b_v83 : Ref sig .tc := ⟨.hbm, 94, rfl⟩
abbrev main_while0b_v84 : Ref sig .tc := ⟨.hbm, 95, rfl⟩
abbrev main_while0b_v85 : Ref sig .tc := ⟨.hbm, 96, rfl⟩
abbrev main_while0b_v86 : Ref sig .tc := ⟨.hbm, 97, rfl⟩
abbrev main_while0b_v87 : Ref sig .tc := ⟨.hbm, 98, rfl⟩
abbrev main_while0b_v88 : Ref sig .tc := ⟨.hbm, 99, rfl⟩
abbrev main_while0b_v89 : Ref sig .tc := ⟨.hbm, 100, rfl⟩
abbrev main_while0b_v90 : Ref sig .tc := ⟨.hbm, 101, rfl⟩
abbrev main_while0b_v91 : Ref sig .tc := ⟨.hbm, 102, rfl⟩
abbrev main_while0b_v92 : Ref sig .tc := ⟨.hbm, 103, rfl⟩
abbrev main_while0b_cst_19 : Ref sig .tc := ⟨.hbm, 104, rfl⟩
abbrev main_while0b_v93 : Ref sig .tc := ⟨.hbm, 105, rfl⟩
abbrev main_while0b_v94 : Ref sig .tc := ⟨.hbm, 106, rfl⟩
abbrev main_while0b_v95 : Ref sig .tc := ⟨.hbm, 107, rfl⟩
abbrev main_while0b_v96 : Ref sig .tc := ⟨.hbm, 108, rfl⟩
abbrev main_while0b_v97 : Ref sig .tc := ⟨.hbm, 109, rfl⟩
abbrev main_while0b_v98 : Ref sig .tc := ⟨.hbm, 110, rfl⟩
abbrev main_while0b_v99 : Ref sig .tc := ⟨.hbm, 111, rfl⟩
abbrev main_while0b_v100 : Ref sig .tc := ⟨.hbm, 112, rfl⟩
abbrev main_while0b_v101 : Ref sig .tc := ⟨.hbm, 113, rfl⟩
abbrev main_while0b_v102 : Ref sig .tc := ⟨.hbm, 114, rfl⟩
abbrev main_while0b_v103 : Ref sig .tc := ⟨.hbm, 115, rfl⟩
abbrev main_while0b_cst_20 : Ref sig .tc := ⟨.hbm, 116, rfl⟩
abbrev main_while0b_v104 : Ref sig .tc := ⟨.hbm, 117, rfl⟩
abbrev main_while0b_v105 : Ref sig .tc := ⟨.hbm, 118, rfl⟩
abbrev main_while0b_v106 : Ref sig .tc := ⟨.hbm, 119, rfl⟩
abbrev main_while0b_v107 : Ref sig .tc := ⟨.hbm, 120, rfl⟩
abbrev main_while0b_v108 : Ref sig .tc := ⟨.hbm, 121, rfl⟩
abbrev main_while0b_v109 : Ref sig .tc := ⟨.hbm, 122, rfl⟩
abbrev main_while0b_v110 : Ref sig .tc := ⟨.hbm, 123, rfl⟩
abbrev main_while0b_v111 : Ref sig .tc := ⟨.hbm, 124, rfl⟩
abbrev main_while0b_v112 : Ref sig .tc := ⟨.hbm, 125, rfl⟩
abbrev main_while0b_v113 : Ref sig .tc := ⟨.hbm, 126, rfl⟩
abbrev main_while0b_call4_v0 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_c_2 : Ref sig .tc := ⟨.hbm, 131, rfl⟩
abbrev main_while0b_v114 : Ref sig .tc := ⟨.hbm, 132, rfl⟩
abbrev main_while0b_c_21 : Ref sig .tc := ⟨.hbm, 133, rfl⟩
abbrev main_while0b_v115 : Ref sig .tc := ⟨.hbm, 134, rfl⟩
abbrev main_v18 : Ref sig .tc := ⟨.hbm, 135, rfl⟩
abbrev main_v19 : Ref sig .tc := ⟨.hbm, 136, rfl⟩
abbrev main_cst_1 : Ref sig .tc := ⟨.hbm, 137, rfl⟩
abbrev main_v20 : Ref sig .tc := ⟨.hbm, 138, rfl⟩
abbrev main_v21 : Ref sig .tc := ⟨.hbm, 139, rfl⟩
abbrev main_cst_2 : Ref sig .tc := ⟨.hbm, 140, rfl⟩
abbrev main_v22 : Ref sig .tc := ⟨.hbm, 141, rfl⟩
abbrev main_v23 : Ref sig .tc := ⟨.hbm, 142, rfl⟩
abbrev main_v24 : Ref sig .tc := ⟨.hbm, 143, rfl⟩
abbrev main_v25 : Ref sig .tc := ⟨.hbm, 144, rfl⟩
abbrev main_v26 : Ref sig .tc := ⟨.hbm, 145, rfl⟩
abbrev main_cst_3 : Ref sig .tc := ⟨.hbm, 146, rfl⟩
abbrev main_v27 : Ref sig .tc := ⟨.hbm, 147, rfl⟩
abbrev main_v28 : Ref sig .tc := ⟨.hbm, 148, rfl⟩
abbrev main_cst_4 : Ref sig .tc := ⟨.hbm, 149, rfl⟩
abbrev main_v29 : Ref sig .tc := ⟨.hbm, 150, rfl⟩
abbrev main_v30 : Ref sig .tc := ⟨.hbm, 151, rfl⟩
abbrev main_v31 : Ref sig .tc := ⟨.hbm, 152, rfl⟩
abbrev main_v32 : Ref sig .tc := ⟨.hbm, 153, rfl⟩
abbrev main_cst_5 : Ref sig .tc := ⟨.hbm, 154, rfl⟩
abbrev main_v33 : Ref sig .tc := ⟨.hbm, 155, rfl⟩
abbrev main_v34 : Ref sig .tc := ⟨.hbm, 156, rfl⟩
abbrev main_v35 : Ref sig .tc := ⟨.hbm, 157, rfl⟩
abbrev main_v36 : Ref sig .tc := ⟨.hbm, 158, rfl⟩
abbrev main_v37 : Ref sig .tc := ⟨.hbm, 159, rfl⟩
abbrev main_v38 : Ref sig .tc := ⟨.hbm, 160, rfl⟩
abbrev main_v39 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_call5_v0 : Ref sig .tc := ⟨.hbm, 166, rfl⟩
abbrev main_call5_v1 : Ref sig .tc := ⟨.hbm, 167, rfl⟩
abbrev main_call5_cst : Ref sig .tc := ⟨.hbm, 168, rfl⟩
abbrev main_call5_v2 : Ref sig .tc := ⟨.hbm, 169, rfl⟩
abbrev main_call5_v3 : Ref sig .tc := ⟨.hbm, 170, rfl⟩
abbrev main_call5_cst_0 : Ref sig .tc := ⟨.hbm, 171, rfl⟩
abbrev main_call5_v4 : Ref sig .tc := ⟨.hbm, 172, rfl⟩
abbrev main_call5_v5 : Ref sig .tc := ⟨.hbm, 173, rfl⟩
abbrev main_v44 : Ref sig .tc := ⟨.hbm, 174, rfl⟩
abbrev main_v45 : Ref sig .tc := ⟨.hbm, 175, rfl⟩
abbrev main_v46 : Ref sig .tc := ⟨.hbm, 176, rfl⟩
abbrev main_v47 : Ref sig .tc := ⟨.hbm, 177, rfl⟩

abbrev nD : Nat := 1
abbrev τ : Topo := Topo.v7x

variable {F : FTy → Type} [FloatOps F]

abbrev main_while0_count : Scf.Loop 32 := ⟨0#32, 32#32, 1#32⟩
-- ==== RetD.lean ====
abbrev S128x4x512 : Shape := ⟨3, ![128, 4, 512]⟩
abbrev S512 : Shape := ⟨1, ![512]⟩
abbrev S128x4x128x128 : Shape := ⟨4, ![128, 4, 128, 128]⟩
abbrev S4 : Shape := ⟨1, ![4]⟩
abbrev S_ : Shape := ⟨0, ![]⟩
abbrev S128x16x512 : Shape := ⟨3, ![128, 16, 512]⟩
abbrev S1x512 : Shape := ⟨2, ![1, 512]⟩
abbrev S4x1 : Shape := ⟨2, ![4, 1]⟩
abbrev S1x4 : Shape := ⟨2, ![1, 4]⟩
abbrev S4x4 : Shape := ⟨2, ![4, 4]⟩
abbrev S4x1x1 : Shape := ⟨3, ![4, 1, 1]⟩
abbrev S1x4x4 : Shape := ⟨3, ![1, 4, 4]⟩
abbrev S4x4x4 : Shape := ⟨3, ![4, 4, 4]⟩
abbrev S4x16x16 : Shape := ⟨3, ![4, 16, 16]⟩
abbrev S4x16 : Shape := ⟨2, ![4, 16]⟩
abbrev S4x16x1 : Shape := ⟨3, ![4, 16, 1]⟩
abbrev S4x16x128 : Shape := ⟨3, ![4, 16, 128]⟩
abbrev S4x1x128 : Shape := ⟨3, ![4, 1, 128]⟩
abbrev S8x16x512 : Shape := ⟨3, ![8, 16, 512]⟩
abbrev S8x4x512 : Shape := ⟨3, ![8, 4, 512]⟩
abbrev S8x4x128x128 : Shape := ⟨4, ![8, 4, 128, 128]⟩
abbrev S1x16x128 : Shape := ⟨3, ![1, 16, 128]⟩
abbrev S16x128 : Shape := ⟨2, ![16, 128]⟩
abbrev S1x1x128x128 : Shape := ⟨4, ![1, 1, 128, 128]⟩
abbrev S128x128 : Shape := ⟨2, ![128, 128]⟩
abbrev S1x16x16 : Shape := ⟨3, ![1, 16, 16]⟩
abbrev S16x16 : Shape := ⟨2, ![16, 16]⟩
abbrev S1x1x128 : Shape := ⟨3, ![1, 1, 128]⟩
abbrev S1x128 : Shape := ⟨2, ![1, 128]⟩
abbrev S4x128 : Shape := ⟨2, ![4, 128]⟩
abbrev S1x4x128 : Shape := ⟨3, ![1, 4, 128]⟩

abbrev nBuf : Space → Nat
  | .hbm => 80
  | .vmem => 19
  | .smem => 0
  | _ => 0

abbrev bufTy : (tb : Table) → Fin (tcTables nBuf tb) → BufTy
  | .hbm, ⟨0, _⟩ => ⟨S128x4x512, .bf16⟩
  | .hbm, ⟨1, _⟩ => ⟨S128x4x512, .bf16⟩
  | .hbm, ⟨2, _⟩ => ⟨S128x4x512, .bf16⟩
  | .hbm, ⟨3, _⟩ => ⟨S128x4x512, .f32⟩
  | .hbm, ⟨4, _⟩ => ⟨S512, .f32⟩
  | .hbm, ⟨5, _⟩ => ⟨S128x4x128x128, .f32⟩
  | .hbm, ⟨6, _⟩ => ⟨S4, .f32⟩
  | .hbm, ⟨7, _⟩ => ⟨S_, .i32⟩
  | .hbm, ⟨8, _⟩ => ⟨S_, .bf16⟩
  | .hbm, ⟨9, _⟩ => ⟨S128x16x512, .bf16⟩
  | .hbm, ⟨10, _⟩ => ⟨S_, .i32⟩
  | .hbm, ⟨11, _⟩ => ⟨S_, .bf16⟩
  | .hbm, ⟨12, _⟩ => ⟨S128x16x512, .bf16⟩
  | .hbm, ⟨13, _⟩ => ⟨S_, .i32⟩
  | .hbm, ⟨14, _⟩ => ⟨S_, .bf16⟩
  | .hbm, ⟨15, _⟩ => ⟨S128x16x512, .bf16⟩
  | .hbm, ⟨16, _⟩ => ⟨S1x512, .f32⟩
  | .hbm, ⟨17, _⟩ => ⟨S4, .f32⟩
  | .hbm, ⟨18, _⟩ => ⟨S4, .f32⟩
  | .hbm, ⟨19, _⟩ => ⟨S4x1, .f32⟩
  | .hbm, ⟨20, _⟩ => ⟨S1x4, .f32⟩
  | .hbm, ⟨21, _⟩ => ⟨S4x4, .f32⟩
  | .hbm, ⟨22, _⟩ => ⟨S4x4, .f32⟩
  | .hbm, ⟨23, _⟩ => ⟨S4x4, .f32⟩
  | .hbm, ⟨24, _⟩ => ⟨S_, .f32⟩
  | .hbm, ⟨25, _⟩ => ⟨S4x4, .f32⟩
  | .hbm, ⟨26, _⟩ => ⟨S4x4, .i1⟩
  | .hbm, ⟨27, _⟩ => ⟨S4x1x1, .f32⟩
  | .hbm, ⟨28, _⟩ => ⟨S_, .f32⟩
  | .hbm, ⟨29, _⟩ => ⟨S4x4, .f32⟩
  | .hbm, ⟨30, _⟩ => ⟨S4x4, .f32⟩
  | .hbm, ⟨31, _⟩ => ⟨S1x4x4, .f32⟩
  | .hbm, ⟨32, _⟩ => ⟨S4x4x4, .f32⟩
  | .hbm, ⟨33, _⟩ => ⟨S4x4x4, .f32⟩
  | .hbm, ⟨34, _⟩ => ⟨S4x4x4, .f32⟩
  | .hbm, ⟨35, _⟩ => ⟨S4x4x4, .f32⟩
  | .hbm, ⟨36, _⟩ => ⟨S_, .f32⟩
  | .hbm, ⟨37, _⟩ => ⟨S_, .f32⟩
  | .hbm, ⟨38, _⟩ => ⟨S4x4x4, .i1⟩
  | .hbm, ⟨39, _⟩ => ⟨S4x4x4, .f32⟩
  | .hbm, ⟨40, _⟩ => ⟨S4x4x4, .f32⟩
  | .hbm, ⟨41, _⟩ => ⟨S4x1, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S1x4, .f32⟩
  | .hbm, ⟨46, _⟩ => ⟨S4x4, .f32⟩
  | .hbm, ⟨47, _⟩ => ⟨S4x4, .f32⟩
  | .hbm, ⟨48, _⟩ => ⟨S4x4, .f32⟩
  | .hbm, ⟨49, _⟩ => ⟨S4x4, .f32⟩
  | .hbm, ⟨50, _⟩ => ⟨S4x1, .f32⟩
  | .hbm, ⟨51, _⟩ => ⟨S_, .f32⟩
  | .hbm, ⟨52, _⟩ => ⟨S4, .f32⟩
  | .hbm, ⟨53, _⟩ => ⟨S4, .f32⟩
  | .hbm, ⟨54, _⟩ => ⟨S1x4, .f32⟩
  | .hbm, ⟨55, _⟩ => ⟨S4x4, .f32⟩
  | .hbm, ⟨56, _⟩ => ⟨S4x4, .f32⟩
  | .hbm, ⟨57, _⟩ => ⟨S4x4, .f32⟩
  | .hbm, ⟨58, _⟩ => ⟨S4x4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S_, .i32⟩
  | .hbm, ⟨64, _⟩ => ⟨S_, .f32⟩
  | .hbm, ⟨65, _⟩ => ⟨S4x16x16, .f32⟩
  | .hbm, ⟨66, _⟩ => ⟨S_, .i32⟩
  | .hbm, ⟨67, _⟩ => ⟨S_, .f32⟩
  | .hbm, ⟨68, _⟩ => ⟨S4x16, .f32⟩
  | .hbm, ⟨69, _⟩ => ⟨S4x16x1, .f32⟩
  | .hbm, ⟨70, _⟩ => ⟨S4x16x128, .f32⟩
  | .hbm, ⟨71, _⟩ => ⟨S_, .i32⟩
  | .hbm, ⟨72, _⟩ => ⟨S_, .f32⟩
  | .hbm, ⟨73, _⟩ => ⟨S4x16, .f32⟩
  | .hbm, ⟨74, _⟩ => ⟨S4x16x1, .f32⟩
  | .hbm, ⟨75, _⟩ => ⟨S4x16x128, .f32⟩
  | .hbm, ⟨76, _⟩ => ⟨S4x1x1, .f32⟩
  | .hbm, ⟨77, _⟩ => ⟨S4x1x128, .f32⟩
  | .hbm, ⟨78, _⟩ => ⟨S128x4x512, .f32⟩
  | .hbm, ⟨79, _⟩ => ⟨S128x4x128x128, .f32⟩
  | .local _ .vmem, ⟨0, _⟩ => ⟨S8x16x512, .bf16⟩
  | .local _ .vmem, ⟨1, _⟩ => ⟨S8x16x512, .bf16⟩
  | .local _ .vmem, ⟨2, _⟩ => ⟨S8x16x512, .bf16⟩
  | .local _ .vmem, ⟨3, _⟩ => ⟨S8x16x512, .bf16⟩
  | .local _ .vmem, ⟨4, _⟩ => ⟨S8x16x512, .bf16⟩
  | .local _ .vmem, ⟨5, _⟩ => ⟨S8x16x512, .bf16⟩
  | .local _ .vmem, ⟨6, _⟩ => ⟨S8x4x512, .f32⟩
  | .local _ .vmem, ⟨7, _⟩ => ⟨S8x4x512, .f32⟩
  | .local _ .vmem, ⟨8, _⟩ => ⟨S1x512, .f32⟩
  | .local _ .vmem, ⟨9, _⟩ => ⟨S8x4x128x128, .f32⟩
  | .local _ .vmem, ⟨10, _⟩ => ⟨S8x4x128x128, .f32⟩
  | .local _ .vmem, ⟨11, _⟩ => ⟨S4x16x16, .f32⟩
  | .local _ .vmem, ⟨12, _⟩ => ⟨S4x16x128, .f32⟩
  | .local _ .vmem, ⟨13, _⟩ => ⟨S4x16x128, .f32⟩
  | .local _ .vmem, ⟨14, _⟩ => ⟨S4x1x128, .f32⟩
  | .local _ .vmem, ⟨15, _⟩ => ⟨S8x4x512, .f32⟩
  | .local _ .vmem, ⟨16, _⟩ => ⟨S8x4x512, .f32⟩
  | .local _ .vmem, ⟨17, _⟩ => ⟨S8x4x128x128, .f32⟩
  | .local _ .vmem, ⟨18, _⟩ => ⟨S8x4x128x128, .f32⟩
  | _, _ => ⟨S128x4x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_call4_v0 : Ref sig .tc := ⟨.hbm, 64, rfl⟩
abbrev main_v41 : Ref sig .tc := ⟨.hbm, 65, rfl⟩
abbrev main_c_9 : Ref sig .tc := ⟨.hbm, 66, rfl⟩
abbrev main_call5_v0 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_call6_v0 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50_0 : Ref sig .tc := ⟨.hbm, 78, rfl⟩
abbrev main_v50_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x4x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RetDRefIdeal.lean ====
abbrev S128x4x512 : Shape := ⟨3, ![128, 4, 512]⟩
abbrev S512 : Shape := ⟨1, ![512]⟩
abbrev S128x4x128x128 : Shape := ⟨4, ![128, 4, 128, 128]⟩
abbrev S128x4x4x128 : Shape := ⟨4, ![128, 4, 4, 128]⟩
abbrev S_ : Shape := ⟨0, ![]⟩
abbrev S1 : Shape := ⟨1, ![1]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S4x1x1 : Shape := ⟨3, ![4, 1, 1]⟩
abbrev S1x4x4 : Shape := ⟨3, ![1, 4, 4]⟩
abbrev S4x4x4 : Shape := ⟨3, ![4, 4, 4]⟩
abbrev S128x4x4x4 : Shape := ⟨4, ![128, 4, 4, 4]⟩
abbrev S1x4x4x4 : Shape := ⟨4, ![1, 4, 4, 4]⟩
abbrev S4x4x1 : Shape := ⟨3, ![4, 4, 1]⟩
abbrev S1x4x4x1 : Shape := ⟨4, ![1, 4, 4, 1]⟩
abbrev S1x4x1x1 : Shape := ⟨4, ![1, 4, 1, 1]⟩
abbrev S128x4x4 : Shape := ⟨3, ![128, 4, 4]⟩
abbrev S128x4x4x1 : Shape := ⟨4, ![128, 4, 4, 1]⟩
abbrev S1x1x512 : Shape := ⟨3, ![1, 1, 512]⟩

abbrev nBuf : Space → Nat
  | .hbm => 129
  | .vmem => 0
  | .smem => 0
  | _ => 0

abbrev hbmTy0_0 (i : Nat) : BufTy := match i % 128 with
  | 0 => ⟨S128x4x512, .bf16⟩
  | 1 => ⟨S128x4x512, .bf16⟩
  | 2 => ⟨S128x4x512, .bf16⟩
  | 3 => ⟨S128x4x512, .f32⟩
  | 4 => ⟨S512, .f32⟩
  | 5 => ⟨S128x4x128x128, .f32⟩
  | 6 => ⟨S128x4x4x128, .bf16⟩
  | 7 => ⟨S128x4x4x128, .bf16⟩
  | 8 => ⟨S128x4x4x128, .f32⟩
  | 9 => ⟨S128x4x4x128, .bf16⟩
  | 10 => ⟨S128x4x4x128, .bf16⟩
  | 11 => ⟨S128x4x4x128, .f32⟩
  | 12 => ⟨S128x4x4x128, .bf16⟩
  | 13 => ⟨S128x4x4x128, .bf16⟩
  | 14 => ⟨S128x4x4x128, .f32⟩
  | 15 => ⟨S_, .f32⟩
  | 16 => ⟨S1, .f32⟩
  | 17 => ⟨S_, .f32⟩
  | 18 => ⟨S1, .f32⟩
  | 19 => ⟨S_, .f32⟩
  | 20 => ⟨S1, .f32⟩
  | 21 => ⟨S_, .f32⟩
  | 22 => ⟨S1, .f32⟩
  | 23 => ⟨S4, .f32⟩
  | 24 => ⟨S4, .f32⟩
  | 25 => ⟨S4, .f32⟩
  | 26 => ⟨S4x1, .f32⟩
  | 27 => ⟨S1x4, .f32⟩
  | 28 => ⟨S4x4, .f32⟩
  | 29 => ⟨S4x4, .f32⟩
  | 30 => ⟨S4x4, .f32⟩
  | 31 => ⟨S_, .f32⟩
  | 32 => ⟨S4x4, .f32⟩
  | 33 => ⟨S4x4, .i1⟩
  | 34 => ⟨S4x1x1, .f32⟩
  | 35 => ⟨S_, .f32⟩
  | 36 => ⟨S4x4, .f32⟩
  | 37 => ⟨S4x4, .f32⟩
  | 38 => ⟨S1x4x4, .f32⟩
  | 39 => ⟨S4x4x4, .f32⟩
  | 40 => ⟨S4x4x4, .f32⟩
  | 41 => ⟨S4x4x4, .f32⟩
  | 42 => ⟨S4x4x4, .f32⟩
  | 43 => ⟨S_, .f32⟩
  | 44 => ⟨S_, .f32⟩
  | 45 => ⟨S4x4x4, .i1⟩
  | 46 => ⟨S4x4x4, .f32⟩
  | 47 => ⟨S4x4x4, .f32⟩
  | 48 => ⟨S128x4x4x4, .f32⟩
  | 49 => ⟨S1x4x4x4, .f32⟩
  | 50 => ⟨S128x4x4x4, .f32⟩
  | 51 => ⟨S128x4x4x4, .f32⟩
  | 52 => ⟨S128x4x4x128, .f32⟩
  | 53 => ⟨S4x1, .f32⟩
  | 54 => ⟨S_, .f32⟩
  | 55 => ⟨S4, .f32⟩
  | 56 => ⟨S4, .f32⟩
  | 57 => ⟨S1x4, .f32⟩
  | 58 => ⟨S4x4, .f32⟩
  | 59 => ⟨S4x4, .f32⟩
  | 60 => ⟨S4x4, .f32⟩
  | 61 => ⟨S4x4, .f32⟩
  | 62 => ⟨S4x4x1, .f32⟩
  | 63 => ⟨S1x4x4x1, .f32⟩
  | 64 => ⟨S128x4x4x128, .f32⟩
  | 65 => ⟨S128x4x4x128, .f32⟩
  | 66 => ⟨S128x4x4x128, .f32⟩
  | 67 => ⟨S4x1, .f32⟩
  | 68 => ⟨S_, .f32⟩
  | 69 => ⟨S4, .f32⟩
  | 70 => ⟨S4, .f32⟩
  | 71 => ⟨S1x4, .f32⟩
  | 72 => ⟨S4x4, .f32⟩
  | 73 => ⟨S4x4, .f32⟩
  | 74 => ⟨S4x4, .f32⟩
  | 75 => ⟨S4x4, .f32⟩
  | 76 => ⟨S4x4x1, .f32⟩
  | 77 => ⟨S1x4x4x1, .f32⟩
  | 78 => ⟨S128x4x4x128, .f32⟩
  | 79 => ⟨S128x4x4x128, .f32⟩
  | 80 => ⟨S_, .f32⟩
  | 81 => ⟨S4, .f32⟩
  | 82 => ⟨S4, .f32⟩
  | 83 => ⟨S4, .f32⟩
  | 84 => ⟨S4x1x1, .f32⟩
  | 85 => ⟨S1x4x1x1, .f32⟩
  | 86 => ⟨S128x4x128x128, .f32⟩
  | 87 => ⟨S128x4x128x128, .f32⟩
  | 88 => ⟨S128x4x128x128, .f32⟩
  | 89 => ⟨S128x4x128x128, .f32⟩
  | 90 => ⟨S128x4x4x128, .f32⟩
  | 91 => ⟨S_, .f32⟩
  | 92 => ⟨S128x4x4, .f32⟩
  | 93 => ⟨S128x4x4x1, .f32⟩
  | 94 => ⟨S_, .f32⟩
  | 95 => ⟨S128x4x4x1, .f32⟩
  | 96 => ⟨S128x4x4x1, .f32⟩
  | 97 => ⟨S128x4x4x128, .f32⟩
  | 98 => ⟨S128x4x4x128, .f32⟩
  | 99 => ⟨S128x4x4x128, .f32⟩
  | 100 => ⟨S_, .f32⟩
  | 101 => ⟨S128x4x4, .f32⟩
  | 102 => ⟨S128x4x4x1, .f32⟩
  | 103 => ⟨S_, .f32⟩
  | 104 => ⟨S128x4x4x1, .f32⟩
  | 105 => ⟨S128x4x4x1, .f32⟩
  | 106 => ⟨S128x4x4x128, .f32⟩
  | 107 => ⟨S128x4x4x128, .f32⟩
  | 108 => ⟨S_, .f32⟩
  | 109 => ⟨S128x4x4x1, .f32⟩
  | 110 => ⟨S128x4x4x1, .f32⟩
  | 111 => ⟨S128x4x4x1, .f32⟩
  | 112 => ⟨S128x4x4x128, .f32⟩
  | 113 => ⟨S128x4x4x128, .f32⟩
  | 114 => ⟨S128x4x4x128, .f32⟩
  | 115 => ⟨S128x4x512, .f32⟩
  | 116 => ⟨S1x1x512, .f32⟩
  | 117 => ⟨S128x4x512, .f32⟩
  | 118 => ⟨S128x4x512, .f32⟩
  | 119 => ⟨S128x4x512, .f32⟩
  | 120 => ⟨S128x4x512, .f32⟩
  | 121 => ⟨S_, .f32⟩
  | 122 => ⟨S128x4x512, .f32⟩
  | 123 => ⟨S128x4x512, .f32⟩
  | 124 => ⟨S_, .f32⟩
  | 125 => ⟨S128x4x512, .f32⟩
  | 126 => ⟨S128x4x512, .f32⟩
  | 127 => ⟨S128x4x512, .f32⟩
  | _ => ⟨S128x4x512, .bf16⟩

abbrev hbmTy0_1 (i : Nat) : BufTy := match i % 128 with
  | 0 => ⟨S128x4x512, .f32⟩
  | _ => ⟨S128x4x512, .bf16⟩

abbrev hbmTy (i : Nat) : BufTy := match i / 128 with
  | 0 => hbmTy0_0 i
  | 1 => hbmTy0_1 i
  | _ => ⟨S128x4x512, .bf16⟩

abbrev bufTy : (tb : Table) → Fin (tcTables nBuf tb) → BufTy
  | .hbm, ⟨i, _⟩ => hbmTy i
  | _, _ => ⟨S128x4x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_cst_10 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_11 : Ref sig .tc := ⟨.hbm, 100, rfl⟩
abbrev main_v79 : Ref sig .tc := ⟨.hbm, 101, rfl⟩
abbrev main_v80 : Ref sig .tc := ⟨.hbm, 102, rfl⟩
abbrev main_cst_12 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_13 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_call1_v0 : Ref sig .tc := ⟨.hbm, 119, rfl⟩
abbrev main_call1_v1 : Ref sig .tc := ⟨.hbm, 120, rfl⟩
abbrev main_call1_cst : Ref sig .tc := ⟨.hbm, 121, rfl⟩
abbrev main_call1_v2 : Ref sig .tc := ⟨.hbm, 122, rfl⟩
abbrev main_call1_v3 : Ref sig .tc := ⟨.hbm, 123, rfl⟩
abbrev main_call1_cst_0 : Ref sig .tc := ⟨.hbm, 124, rfl⟩
abbrev main_call1_v4 : Ref sig .tc := ⟨.hbm, 125, rfl⟩
abbrev main_call1_v5 : Ref sig .tc := ⟨.hbm, 126, rfl⟩
abbrev main_v95 : Ref sig .tc := ⟨.hbm, 127, rfl⟩
abbrev main_v96 : Ref sig .tc := ⟨.hbm, 128, rfl⟩

abbrev nD : Nat := 1
abbrev τ : Topo := Topo.v7x

variable {F : FTy → Type} [FloatOps F]
-- ==== Proj.lean ====
abbrev S16384x1024 : Shape := ⟨2, ![16384, 1024]⟩
abbrev S1024x5632 : Shape := ⟨2, ![1024, 5632]⟩
abbrev S1024x3584 : Shape := ⟨2, ![1024, 3584]⟩
abbrev S1024x512 : Shape := ⟨2, ![1024, 512]⟩
abbrev S512x1024 : Shape := ⟨2, ![512, 1024]⟩
abbrev S16384x512 : Shape := ⟨2, ![16384, 512]⟩
abbrev S512x16384 : Shape := ⟨2, ![512, 16384]⟩
abbrev S32x2x512 : Shape := ⟨3, ![32, 2, 512]⟩
abbrev S512x512 : Shape := ⟨2, ![512, 512]⟩
abbrev S1x2x512 : Shape := ⟨3, ![1, 2, 512]⟩
abbrev S2x256x512 : Shape := ⟨3, ![2, 256, 512]⟩
abbrev S2x512 : Shape := ⟨2, ![2, 512]⟩

abbrev nBuf : Space → Nat
  | .hbm => 21
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024x3584, .f32⟩
  | .hbm, ⟨3, _⟩ => ⟨S1024x3584, .bf16⟩
  | .hbm, ⟨4, _⟩ => ⟨S1024x512, .f32⟩
  | .hbm, ⟨5, _⟩ => ⟨S512x1024, .f32⟩
  | .hbm, ⟨6, _⟩ => ⟨S512x1024, .bf16⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S16384x512, .bf16⟩
  | .hbm, ⟨11, _⟩ => ⟨S16384x512, .bf16⟩
  | .hbm, ⟨12, _⟩ => ⟨S16384x512, .bf16⟩
  | .hbm, ⟨13, _⟩ => ⟨S16384x512, .f32⟩
  | .hbm, ⟨14, _⟩ => ⟨S16384x512, .bf16⟩
  | .hbm, ⟨15, _⟩ => ⟨S16384x512, .f32⟩
  | .hbm, ⟨16, _⟩ => ⟨S16384x512, .f32⟩
  | .hbm, ⟨17, _⟩ => ⟨S16384x512, .bf16⟩
  | .hbm, ⟨18, _⟩ => ⟨S512x16384, .bf16⟩
  | .hbm, ⟨19, _⟩ => ⟨S512x16384, .bf16⟩
  | .hbm, ⟨20, _⟩ => ⟨S32x2x512, .f32⟩
  | .local _ .vmem, ⟨0, _⟩ => ⟨S512x1024, .f32⟩
  | .local _ .vmem, ⟨1, _⟩ => ⟨S512x1024, .f32⟩
  | .local _ .vmem, ⟨2, _⟩ => ⟨S1024x3584, .bf16⟩
  | .local _ .vmem, ⟨3, _⟩ => ⟨S512x1024, .bf16⟩
  | .local _ .vmem, ⟨4, _⟩ => ⟨S512x1024, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S1x2x512, .f32⟩
  | .local _ .vmem, ⟨26, _⟩ => ⟨S1x2x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev main_v8_2 : Ref sig .tc := ⟨.hbm, 12, rfl⟩
abbrev main_v8_3 : Ref sig .tc := ⟨.hbm, 13, rfl⟩
abbrev main_v8_4 : Ref sig .tc := ⟨.hbm, 14, rfl⟩
abbrev main_v8_5 : Ref sig .tc := ⟨.hbm, 15, rfl⟩
abbrev main_v8_6 : Ref sig .tc := ⟨.hbm, 16, rfl⟩
abbrev main_v8_7 : Ref sig .tc := ⟨.hbm, 17, rfl⟩
abbrev main_v8_8 : Ref sig .tc := ⟨.hbm, 18, rfl⟩
abbrev main_v8_9 : Ref sig .tc := ⟨.hbm, 19, rfl⟩
abbrev main_v8_10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjRefIdeal.lean ====
abbrev S16384x1024 : Shape := ⟨2, ![16384, 1024]⟩
abbrev S1024x5632 : Shape := ⟨2, ![1024, 5632]⟩
abbrev S16384x5632 : Shape := ⟨2, ![16384, 5632]⟩
abbrev S16384x512 : Shape := ⟨2, ![16384, 512]⟩
abbrev S_ : Shape := ⟨0, ![]⟩
abbrev S64x256x512 : Shape := ⟨3, ![64, 256, 512]⟩
abbrev S64x512 : Shape := ⟨2, ![64, 512]⟩
abbrev S512x16384 : Shape := ⟨2, ![512, 16384]⟩
abbrev S32x2x512 : Shape := ⟨3, ![32, 2, 512]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S64x256x512, .f32⟩
  | .hbm, ⟨16, _⟩ => ⟨S_, .f32⟩
  | .hbm, ⟨17, _⟩ => ⟨S64x512, .f32⟩
  | .hbm, ⟨18, _⟩ => ⟨S_, .f32⟩
  | .hbm, ⟨19, _⟩ => ⟨S64x512, .f32⟩
  | .hbm, ⟨20, _⟩ => ⟨S64x512, .f32⟩
  | .hbm, ⟨21, _⟩ => ⟨S16384x512, .bf16⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S16384x512, .bf16⟩
  | .hbm, ⟨26, _⟩ => ⟨S16384x512, .bf16⟩
  | .hbm, ⟨27, _⟩ => ⟨S16384x512, .bf16⟩
  | .hbm, ⟨28, _⟩ => ⟨S16384x512, .bf16⟩
  | .hbm, ⟨29, _⟩ => ⟨S512x16384, .f32⟩
  | .hbm, ⟨30, _⟩ => ⟨S512x16384, .bf16⟩
  | .hbm, ⟨31, _⟩ => ⟨S512x16384, .f32⟩
  | .hbm, ⟨32, _⟩ => ⟨S512x16384, .bf16⟩
  | .hbm, ⟨33, _⟩ => ⟨S32x2x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S1024x5632 : Shape := ⟨2, ![1024, 5632]⟩
abbrev S2048 : Shape := ⟨1, ![2048]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S1x2048 : Shape := ⟨2, ![1, 2048]⟩
abbrev S1x1024 : Shape := ⟨2, ![1, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x5632, .f32⟩
  | .hbm, ⟨4, _⟩ => ⟨S2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2048, .f32⟩
  | .hbm, ⟨11, _⟩ => ⟨S1024x2048, .bf16⟩
  | .hbm, ⟨12, _⟩ => ⟨S1x2048, .f32⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x2048, .bf16⟩
  | .local _ .vmem, ⟨7, _⟩ => ⟨S1x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S16384x1024 : Shape := ⟨2, ![16384, 1024]⟩
abbrev S16384x512 : Shape := ⟨2, ![16384, 512]⟩
abbrev S1024x5632 : Shape := ⟨2, ![1024, 5632]⟩
abbrev S2048 : Shape := ⟨1, ![2048]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x5632, .f32⟩
  | .hbm, ⟨4, _⟩ => ⟨S2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x1024, .f32⟩
  | .hbm, ⟨24, _⟩ => ⟨S16384x512, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x512, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S1x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== MoeD.lean ====
abbrev S512x1024 : Shape := ⟨2, ![512, 1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x128 : Shape := ⟨3, ![32, 1024, 128]⟩
abbrev S32x128x1024 : Shape := ⟨3, ![32, 128, 1024]⟩
abbrev S1024 : Shape := ⟨1, ![1024]⟩
abbrev S1024x4x8 : Shape := ⟨3, ![1024, 4, 8]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S32 : Shape := ⟨1, ![32]⟩
abbrev S92 : Shape := ⟨1, ![92]⟩
abbrev S128 : Shape := ⟨1, ![128]⟩
abbrev S1x128 : Shape := ⟨2, ![1, 128]⟩
abbrev S4x8x1024x128 : Shape := ⟨4, ![4, 8, 1024, 128]⟩
abbrev S4x1024x8x128 : Shape := ⟨4, ![4, 1024, 8, 128]⟩
abbrev S4x1024x1024 : Shape := ⟨3, ![4, 1024, 1024]⟩
abbrev S1x1024 : Shape := ⟨2, ![1, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 37
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1024x4, .f32⟩
  | .hbm, ⟨2, _⟩ => ⟨S4, .f32⟩
  | .hbm, ⟨3, _⟩ => ⟨S4x1024x8, .f32⟩
  | .hbm, ⟨4, _⟩ => ⟨S4x8, .f32⟩
  | .hbm, ⟨5, _⟩ => ⟨S32x1024x128, .f32⟩
  | .hbm, ⟨6, _⟩ => ⟨S32x1024x128, .f32⟩
  | .hbm, ⟨7, _⟩ => ⟨S32x128x1024, .f32⟩
  | .hbm, ⟨8, _⟩ => ⟨S1024, .f32⟩
  | .hbm, ⟨9, _⟩ => ⟨S1024, .f32⟩
  | .hbm, ⟨10, _⟩ => ⟨S1024x4x8, .f32⟩
  | .hbm, ⟨11, _⟩ => ⟨S1024x32, .f32⟩
  | .hbm, ⟨12, _⟩ => ⟨S_, .f32⟩
  | .hbm, ⟨13, _⟩ => ⟨S1024x92, .f32⟩
  | .hbm, ⟨14, _⟩ => ⟨S1024x128, .f32⟩
  | .hbm, ⟨15, _⟩ => ⟨S1024x128, .bf16⟩
  | .hbm, ⟨16, _⟩ => ⟨S1024x128, .f32⟩
  | .hbm, ⟨17, _⟩ => ⟨S1024x128, .f32⟩
  | .hbm, ⟨18, _⟩ => ⟨S1024x128, .bf16⟩
  | .hbm, ⟨19, _⟩ => ⟨S32, .f32⟩
  | .hbm, ⟨20, _⟩ => ⟨S_, .f32⟩
  | .hbm, ⟨21, _⟩ => ⟨S92, .f32⟩
  | .hbm, ⟨22, _⟩ => ⟨S128, .f32⟩
  | .hbm, ⟨23, _⟩ => ⟨S1x128, .f32⟩
  | .hbm, ⟨24, _⟩ => ⟨S4x8x1024x128, .f32⟩
  | .hbm, ⟨25, _⟩ => ⟨S4x1024x8x128, .f32⟩
  | .hbm, ⟨26, _⟩ => ⟨S4x1024x1024, .f32⟩
  | .hbm, ⟨27, _⟩ => ⟨S4x1024x1024, .bf16⟩
  | .hbm, ⟨28, _⟩ => ⟨S4x8x1024x128, .f32⟩
  | .hbm, ⟨29, _⟩ => ⟨S4x1024x8x128, .f32⟩
  | .hbm, ⟨30, _⟩ => ⟨S4x1024x1024, .f32⟩
  | .hbm, ⟨31, _⟩ => ⟨S4x1024x1024, .bf16⟩
  | .hbm, ⟨32, _⟩ => ⟨S4x1024x1024, .f32⟩
  | .hbm, ⟨33, _⟩ => ⟨S4x1024x1024, .bf16⟩
  | .hbm, ⟨34, _⟩ => ⟨S1x1024, .f32⟩
  | .hbm, ⟨35, _⟩ => ⟨S1x1024, .f32⟩
  | .hbm, ⟨36, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S4x1024x1024, .bf16⟩
  | .local _ .vmem, ⟨6, _⟩ => ⟨S4x1024x1024, .bf16⟩
  | .local _ .vmem, ⟨7, _⟩ => ⟨S4x1024x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MoeDRefIdeal.lean ====
abbrev S512x1024 : Shape := ⟨2, ![512, 1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x128 : Shape := ⟨3, ![32, 1024, 128]⟩
abbrev S32x128x1024 : Shape := ⟨3, ![32, 128, 1024]⟩
abbrev S1024 : Shape := ⟨1, ![1024]⟩
abbrev S512x4 : Shape := ⟨2, ![512, 4]⟩
abbrev S1x4 : Shape := ⟨2, ![1, 4]⟩
abbrev S512x1 : Shape := ⟨2, ![512, 1]⟩
abbrev S512 : Shape := ⟨1, ![512]⟩
abbrev S_ : Shape := ⟨0, ![]⟩
abbrev S512x1x1 : Shape := ⟨3, ![512, 1, 1]⟩
abbrev S1 : Shape := ⟨1, ![1]⟩
abbrev S1x1x1 : Shape := ⟨3, ![1, 1, 1]⟩
abbrev S512x4x8 : Shape := ⟨3, ![512, 4, 8]⟩
abbrev S1x4x8 : Shape := ⟨3, ![1, 4, 8]⟩
abbrev S512x1x8 : Shape := ⟨3, ![512, 1, 8]⟩
abbrev S512x8 : Shape := ⟨2, ![512, 8]⟩
abbrev S512x2 : Shape := ⟨2, ![512, 2]⟩
abbrev S512x2x1 : Shape := ⟨3, ![512, 2, 1]⟩
abbrev S1x1x32 : Shape := ⟨3, ![1, 1, 32]⟩
abbrev S512x2x32 : Shape := ⟨3, ![512, 2, 32]⟩
abbrev S512x32 : Shape := ⟨2, ![512, 32]⟩
abbrev S512x32x128 : Shape := ⟨3, ![512, 32, 128]⟩
abbrev S512x32x1 : Shape := ⟨3, ![512, 32, 1]⟩
abbrev S1x1024 : Shape := ⟨2, ![1, 1024]⟩

abbrev nBuf : Space → Nat
  | .hbm => 168
  | .vmem => 0
  | .smem => 0
  | _ => 0

abbrev hbmTy0_0 (i : Nat) : BufTy := match i % 128 with
  | 0 => ⟨S512x1024, .f32⟩
  | 1 => ⟨S1024x4, .f32⟩
  | 2 => ⟨S4, .f32⟩
  | 3 => ⟨S4x1024x8, .f32⟩
  | 4 => ⟨S4x8, .f32⟩
  | 5 => ⟨S32x1024x128, .f32⟩
  | 6 => ⟨S32x1024x128, .f32⟩
  | 7 => ⟨S32x128x1024, .f32⟩
  | 8 => ⟨S1024, .f32⟩
  | 9 => ⟨S1024, .f32⟩
  | 10 => ⟨S512x4, .f32⟩
  | 11 => ⟨S1x4, .f32⟩
  | 12 => ⟨S512x4, .f32⟩
  | 13 => ⟨S512x4, .f32⟩
  | 14 => ⟨S512x1, .f32⟩
  | 15 => ⟨S512x1, .i32⟩
  | 16 => ⟨S512, .i32⟩
  | 17 => ⟨S_, .f32⟩
  | 18 => ⟨S512, .f32⟩
  | 19 => ⟨S_, .f32⟩
  | 20 => ⟨S512, .f32⟩
  | 21 => ⟨S512, .f32⟩
  | 22 => ⟨S512x1, .f32⟩
  | 23 => ⟨S512x4, .f32⟩
  | 24 => ⟨S512x4, .f32⟩
  | 25 => ⟨S512x4, .f32⟩
  | 26 => ⟨S_, .f32⟩
  | 27 => ⟨S512, .f32⟩
  | 28 => ⟨S512x1, .f32⟩
  | 29 => ⟨S512x4, .f32⟩
  | 30 => ⟨S512x4, .f32⟩
  | 31 => ⟨S512x1, .i32⟩
  | 32 => ⟨S_, .i32⟩
  | 33 => ⟨S512x1, .i32⟩
  | 34 => ⟨S512x1, .i1⟩
  | 35 => ⟨S_, .i32⟩
  | 36 => ⟨S512x1, .i32⟩
  | 37 => ⟨S512x1, .i32⟩
  | 38 => ⟨S512x1, .i32⟩
  | 39 => ⟨S512x1x1, .i32⟩
  | 40 => ⟨S1, .i32⟩
  | 41 => ⟨S_, .i32⟩
  | 42 => ⟨S512x1x1, .i32⟩
  | 43 => ⟨S512x1x1, .i1⟩
  | 44 => ⟨S1x1x1, .i32⟩
  | 45 => ⟨S512x1x1, .i32⟩
  | 46 => ⟨S512x1x1, .i1⟩
  | 47 => ⟨S512x1x1, .i1⟩
  | 48 => ⟨S_, .i1⟩
  | 49 => ⟨S512x1, .i1⟩
  | 50 => ⟨S512x1, .f32⟩
  | 51 => ⟨S_, .f32⟩
  | 52 => ⟨S512x1, .f32⟩
  | 53 => ⟨S512x1, .f32⟩
  | 54 => ⟨S512, .f32⟩
  | 55 => ⟨S512x4x8, .f32⟩
  | 56 => ⟨S1x4x8, .f32⟩
  | 57 => ⟨S512x4x8, .f32⟩
  | 58 => ⟨S512x4x8, .f32⟩
  | 59 => ⟨S512x1x1, .i32⟩
  | 60 => ⟨S_, .i32⟩
  | 61 => ⟨S512x1x1, .i32⟩
  | 62 => ⟨S512x1x1, .i1⟩
  | 63 => ⟨S_, .i32⟩
  | 64 => ⟨S512x1x1, .i32⟩
  | 65 => ⟨S512x1x1, .i32⟩
  | 66 => ⟨S512x1x1, .i32⟩
  | 67 => ⟨S1, .i32⟩
  | 68 => ⟨S_, .i32⟩
  | 69 => ⟨S512x1x1, .i32⟩
  | 70 => ⟨S512x1x1, .i1⟩
  | 71 => ⟨S1x1x1, .i32⟩
  | 72 => ⟨S512x1x1, .i32⟩
  | 73 => ⟨S512x1x1, .i1⟩
  | 74 => ⟨S512x1x1, .i1⟩
  | 75 => ⟨S_, .i1⟩
  | 76 => ⟨S512x1, .i1⟩
  | 77 => ⟨S512x1x8, .f32⟩
  | 78 => ⟨S512x1x8, .i1⟩
  | 79 => ⟨S_, .f32⟩
  | 80 => ⟨S512x1x8, .f32⟩
  | 81 => ⟨S512x1x8, .f32⟩
  | 82 => ⟨S512x8, .f32⟩
  | 83 => ⟨S512x2, .f32⟩
  | 84 => ⟨S512x2, .i32⟩
  | 85 => ⟨S_, .f32⟩
  | 86 => ⟨S512, .f32⟩
  | 87 => ⟨S_, .f32⟩
  | 88 => ⟨S512, .f32⟩
  | 89 => ⟨S512, .f32⟩
  | 90 => ⟨S512x1, .f32⟩
  | 91 => ⟨S512x2, .f32⟩
  | 92 => ⟨S512x2, .f32⟩
  | 93 => ⟨S512x2, .f32⟩
  | 94 => ⟨S_, .f32⟩
  | 95 => ⟨S512, .f32⟩
  | 96 => ⟨S512x1, .f32⟩
  | 97 => ⟨S512x2, .f32⟩
  | 98 => ⟨S512x2, .f32⟩
  | 99 => ⟨S512x1, .f32⟩
  | 100 => ⟨S512x2, .f32⟩
  | 101 => ⟨S512x2, .f32⟩
  | 102 => ⟨S512x1, .i32⟩
  | 103 => ⟨S_, .i32⟩
  | 104 => ⟨S512x1, .i32⟩
  | 105 => ⟨S512x1, .i32⟩
  | 106 => ⟨S512x2, .i32⟩
  | 107 => ⟨S512x2, .i32⟩
  | 108 => ⟨S512x2x1, .i32⟩
  | 109 => ⟨S1x1x32, .i32⟩
  | 110 => ⟨S512x2x32, .i32⟩
  | 111 => ⟨S512x2x32, .i32⟩
  | 112 => ⟨S512x2x32, .i1⟩
  | 113 => ⟨S512x2x32, .f32⟩
  | 114 => ⟨S512x2x1, .f32⟩
  | 115 => ⟨S512x2x32, .f32⟩
  | 116 => ⟨S512x2x32, .f32⟩
  | 117 => ⟨S_, .f32⟩
  | 118 => ⟨S512x32, .f32⟩
  | 119 => ⟨S512x32x128, .f32⟩
  | 120 => ⟨S512x32x128, .f32⟩
  | 121 => ⟨S512x32x128, .f32⟩
  | 122 => ⟨S_, .f32⟩
  | 123 => ⟨S512x32x128, .f32⟩
  | 124 => ⟨S512x32x128, .f32⟩
  | 125 => ⟨S_, .f32⟩
  | 126 => ⟨S512x32x128, .f32⟩
  | 127 => ⟨S512x32x128, .f32⟩
  | _ => ⟨S512x1024, .f32⟩

abbrev hbmTy0_1 (i : Nat) : BufTy := match i % 128 with
  | 0 => ⟨S512x32x128, .f32⟩
  | 1 => ⟨S512x32x128, .f32⟩
  | 2 => ⟨S512x32x128, .f32⟩
  | 3 => ⟨S512x32x1, .f32⟩
  | 4 => ⟨S512x32x128, .f32⟩
  | 5 => ⟨S512x32x128, .f32⟩
  | 6 => ⟨S512x1024, .f32⟩
  | 7 => ⟨S_, .f32⟩
  | 8 => ⟨S512x1024, .f32⟩
  | 9 => ⟨S512x1024, .f32⟩
  | 10 => ⟨S512x1024, .f32⟩
  | 11 => ⟨S_, .f32⟩
  | 12 => ⟨S512, .f32⟩
  | 13 => ⟨S512x1, .f32⟩
  | 14 => ⟨S_, .f32⟩
  | 15 => ⟨S512x1, .f32⟩
  | 16 => ⟨S512x1, .f32⟩
  | 17 => ⟨S512x1024, .f32⟩
  | 18 => ⟨S512x1024, .f32⟩
  | 19 => ⟨S512x1024, .f32⟩
  | 20 => ⟨S_, .f32⟩
  | 21 => ⟨S512, .f32⟩
  | 22 => ⟨S512x1, .f32⟩
  | 23 => ⟨S_, .f32⟩
  | 24 => ⟨S512x1, .f32⟩
  | 25 => ⟨S512x1, .f32⟩
  | 26 => ⟨S512x1024, .f32⟩
  | 27 => ⟨S512x1024, .f32⟩
  | 28 => ⟨S_, .f32⟩
  | 29 => ⟨S512x1, .f32⟩
  | 30 => ⟨S512x1, .f32⟩
  | 31 => ⟨S512x1, .f32⟩
  | 32 => ⟨S512x1024, .f32⟩
  | 33 => ⟨S512x1024, .f32⟩
  | 34 => ⟨S1x1024, .f32⟩
  | 35 => ⟨S512x1024, .f32⟩
  | 36 => ⟨S512x1024, .f32⟩
  | 37 => ⟨S1x1024, .f32⟩
  | 38 => ⟨S512x1024, .f32⟩
  | 39 => ⟨S512x1024, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_values : Ref sig .tc := ⟨.hbm, 14, rfl⟩
abbrev main_indices : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_cst : Ref sig .tc := ⟨.hbm, 51, rfl⟩
abbrev main_call0_v14 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_1 : Ref sig .tc := ⟨.hbm, 67, rfl⟩
abbrev main_call1_c_2 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_c_3 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_cst : Ref sig .tc := ⟨.hbm, 79, rfl⟩
abbrev main_call1_v14 : Ref sig .tc := ⟨.hbm, 80, rfl⟩
abbrev main_v24 : Ref sig .tc := ⟨.hbm, 81, rfl⟩
abbrev main_v25 : Ref sig .tc := ⟨.hbm, 82, rfl⟩
abbrev main_values_2 : Ref sig .tc := ⟨.hbm, 83, rfl⟩
abbrev main_indices_3 : Ref sig .tc := ⟨.hbm, 84, rfl⟩
abbrev main_cst_4 : Ref sig .tc := ⟨.hbm, 85, rfl⟩
abbrev main_v26 : Ref sig .tc := ⟨.hbm, 86, rfl⟩
abbrev main_cst_5 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_cst_6 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_c : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_cst_7 : Ref sig .tc := ⟨.hbm, 117, rfl⟩
abbrev main_v49 : Ref sig .tc := ⟨.hbm, 118, rfl⟩
abbrev main_v50 : Ref sig .tc := ⟨.hbm, 119, rfl⟩
abbrev main_call3_v0 : Ref sig .tc := ⟨.hbm, 120, rfl⟩
abbrev main_call3_v1 : Ref sig .tc := ⟨.hbm, 121, rfl⟩
abbrev main_call3_cst : Ref sig .tc := ⟨.hbm, 122, rfl⟩
abbrev main_call3_v2 : Ref sig .tc := ⟨.hbm, 123, rfl⟩
abbrev main_call3_v3 : Ref sig .tc := ⟨.hbm, 124, rfl⟩
abbrev main_call3_cst_0 : Ref sig .tc := ⟨.hbm, 125, rfl⟩
abbrev main_call3_v4 : Ref sig .tc := ⟨.hbm, 126, rfl⟩
abbrev main_call3_v5 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_cst_8 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_cst_9 : Ref sig .tc := ⟨.hbm, 139, rfl⟩
abbrev main_v61 : Ref sig .tc := ⟨.hbm, 140, rfl⟩
abbrev main_v62 : Ref sig .tc := ⟨.hbm, 141, rfl⟩
abbrev main_cst_10 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_cst_11 : Ref sig .tc := ⟨.hbm, 148, rfl⟩
abbrev main_v68 : Ref sig .tc := ⟨.hbm, 149, rfl⟩
abbrev main_v69 : Ref sig .tc := ⟨.hbm, 150, rfl⟩
abbrev main_cst_12 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_cst_13 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩

abbrev nD : Nat := 1
abbrev τ : Topo := Topo.v7x

variable {F : FTy → Type} [FloatOps F]
-- ==== ProjD.lean ====
abbrev S512x1024 : Shape := ⟨2, ![512, 1024]⟩
abbrev S1024x5632 : Shape := ⟨2, ![1024, 5632]⟩
abbrev S1024x3584 : Shape := ⟨2, ![1024, 3584]⟩
abbrev S512x512 : Shape := ⟨2, ![512, 512]⟩
abbrev S256x1024 : Shape := ⟨2, ![256, 1024]⟩
abbrev S256x512 : Shape := ⟨2, ![256, 512]⟩
abbrev S1024x512 : Shape := ⟨2, ![1024, 512]⟩

abbrev nBuf : Space → Nat
  | .hbm => 11
  | .vmem => 17
  | .smem => 0
  | _ => 0

abbrev bufTy : (tb : Table) → Fin (tcTables nBuf tb) → BufTy
  | .hbm, ⟨0, _⟩ => ⟨S512x1024, .f32⟩
  | .hbm, ⟨1, _⟩ => ⟨S1024x5632, .f32⟩
  | .hbm, ⟨2, _⟩ => ⟨S1024x3584, .f32⟩
  | .hbm, ⟨3, _⟩ => ⟨S1024x3584, .bf16⟩
  | .hbm, ⟨4, _⟩ => ⟨S512x512, .bf16⟩
  | .hbm, ⟨5, _⟩ => ⟨S512x512, .bf16⟩
  | .hbm, ⟨6, _⟩ => ⟨S512x512, .bf16⟩
  | .hbm, ⟨7, _⟩ => ⟨S512x512, .f32⟩
  | .hbm, ⟨8, _⟩ => ⟨S512x512, .bf16⟩
  | .hbm, ⟨9, _⟩ => ⟨S512x512, .f32⟩
  | .hbm, ⟨10, _⟩ => ⟨S512x512, .f32⟩
  | .local _ .vmem, ⟨0, _⟩ => ⟨S256x1024, .f32⟩
  | .local _ .vmem, ⟨1, _⟩ => ⟨S256x1024, .f32⟩
  | .local _ .vmem, ⟨2, _⟩ => ⟨S1024x3584, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .f32⟩
  | .local _ .vmem, ⟨10, _⟩ => ⟨S256x512, .f32⟩
  | .local _ .vmem, ⟨11, _⟩ => ⟨S256x512, .bf16⟩
  | .local _ .vmem, ⟨12, _⟩ => ⟨S256x512, .bf16⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v2_6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjDRefIdeal.lean ====
abbrev S512x1024 : Shape := ⟨2, ![512, 1024]⟩
abbrev S1024x5632 : Shape := ⟨2, ![1024, 5632]⟩
abbrev S512x5632 : Shape := ⟨2, ![512, 5632]⟩
abbrev S512x512 : Shape := ⟨2, ![512, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x5632, .f32⟩
  | .hbm, ⟨2, _⟩ => ⟨S512x5632, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x1024, .f32⟩
  | .hbm, ⟨11, _⟩ => ⟨S512x1024, .f32⟩
  | .hbm, ⟨12, _⟩ => ⟨S512x512, .bf16⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .bf16⟩
  | .hbm, ⟨17, _⟩ => ⟨S512x512, .bf16⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== MergeD.lean ====
abbrev S512x1024 : Shape := ⟨2, ![512, 1024]⟩
abbrev S512x512 : Shape := ⟨2, ![512, 512]⟩
abbrev S1024x5632 : Shape := ⟨2, ![1024, 5632]⟩
abbrev S2048 : Shape := ⟨1, ![2048]⟩
abbrev S1024x1024 : Shape := ⟨2, ![1024, 1024]⟩
abbrev S1024 : Shape := ⟨1, ![1024]⟩
abbrev S1024x2048 : Shape := ⟨2, ![1024, 2048]⟩
abbrev S1x2048 : Shape := ⟨2, ![1, 2048]⟩
abbrev S1x1024 : Shape := ⟨2, ![1, 1024]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 15
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .bf16⟩
  | .hbm, ⟨3, _⟩ => ⟨S1024x5632, .f32⟩
  | .hbm, ⟨4, _⟩ => ⟨S2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2048, .f32⟩
  | .hbm, ⟨11, _⟩ => ⟨S1024x2048, .bf16⟩
  | .hbm, ⟨12, _⟩ => ⟨S1x2048, .f32⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x2048, .bf16⟩
  | .local _ .vmem, ⟨7, _⟩ => ⟨S1x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeDRefIdeal.lean ====
abbrev S512x1024 : Shape := ⟨2, ![512, 1024]⟩
abbrev S512x512 : Shape := ⟨2, ![512, 512]⟩
abbrev S1024x5632 : Shape := ⟨2, ![1024, 5632]⟩
abbrev S2048 : Shape := ⟨1, ![2048]⟩
abbrev S1024x1024 : Shape := ⟨2, ![1024, 1024]⟩
abbrev S1024 : Shape := ⟨1, ![1024]⟩
abbrev S1024x2048 : Shape := ⟨2, ![1024, 2048]⟩
abbrev S512x2048 : Shape := ⟨2, ![512, 2048]⟩
abbrev S1x2048 : Shape := ⟨2, ![1, 2048]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .bf16⟩
  | .hbm, ⟨3, _⟩ => ⟨S1024x5632, .f32⟩
  | .hbm, ⟨4, _⟩ => ⟨S2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2048, .f32⟩
  | .hbm, ⟨11, _⟩ => ⟨S512x2048, .f32⟩
  | .hbm, ⟨12, _⟩ => ⟨S1x2048, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S512x1024, .f32⟩
  | .hbm, ⟨24, _⟩ => ⟨S512x512, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S512x512, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512, .f32⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S_, .f32⟩
  | .hbm, ⟨47, _⟩ => ⟨S512, .f32⟩
  | .hbm, ⟨48, _⟩ => ⟨S512x1, .f32⟩
  | .hbm, ⟨49, _⟩ => ⟨S_, .f32⟩
  | .hbm, ⟨50, _⟩ => ⟨S512x1, .f32⟩
  | .hbm, ⟨51, _⟩ => ⟨S512x1, .f32⟩
  | .hbm, ⟨52, _⟩ => ⟨S512x1024, .f32⟩
  | .hbm, ⟨53, _⟩ => ⟨S512x1024, .f32⟩
  | .hbm, ⟨54, _⟩ => ⟨S_, .f32⟩
  | .hbm, ⟨55, _⟩ => ⟨S512x1, .f32⟩
  | .hbm, ⟨56, _⟩ => ⟨S512x1, .f32⟩
  | .hbm, ⟨57, _⟩ => ⟨S512x1, .f32⟩
  | .hbm, ⟨58, _⟩ => ⟨S512x1024, .f32⟩
  | .hbm, ⟨59, _⟩ => ⟨S512x1024, .f32⟩
  | .hbm, ⟨60, _⟩ => ⟨S1x1024, .f32⟩
  | .hbm, ⟨61, _⟩ => ⟨S512x1024, .f32⟩
  | .hbm, ⟨62, _⟩ => ⟨S512x1024, .f32⟩
  | .hbm, ⟨63, _⟩ => ⟨S1x1024, .f32⟩
  | .hbm, ⟨64, _⟩ => ⟨S512x1024, .f32⟩
  | .hbm, ⟨65, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Proof.Rows.lean ====
/- The mathematics of one token's row, as functions on plain index types: what the layer's parts compute, spelt once and
   read by the kernels' and the references' modules alike. -/
module

public import Idealize.ShloMosaic.Lib.Pointwise
public import Idealize.ShloMosaic.Lib.ValueIdx

@[expose] public section

noncomputable section

namespace Cert.Rows

open Idealize.ShloMosaic

/-- The mean of a row of `n` entries, the count given as the float word `w` of `n`. -/
def mean {n : Nat} (w : BitVec 32) (z : Fin n → EReal) : EReal := Ideal.div (∑ k, z k) (Ideal.ofBits .f32 w)

/-- The variance of a row: the mean of its squared deviations. -/
def variance {n : Nat} (w : BitVec 32) (z : Fin n → EReal) : EReal :=
  mean w fun k => (z k - mean w z) * (z k - mean w z)

/-- A row normalised: its deviation from the mean, over the root of its variance plus ε (`e` is the float word of ε). -/
def normed {n : Nat} (w e : BitVec 32) (z : Fin n → EReal) (c : Fin n) : EReal :=
  (z c - mean w z) * Ideal.rsqrt (variance w z + Ideal.ofBits .f32 e)

/-- The layer norm of a row of 1024 entries with gain `g` and bias `b`. -/
def layerNorm (z g b : Fin 1024 → EReal) (c : Fin 1024) : EReal :=
  normed 0x44800000#32 0x3727C5AC#32 z c * g c + b c

/-- The logistic function: one over one plus the exponential of the negation. -/
def sigmoid (x : EReal) : EReal := Ideal.div 1 (1 + Ideal.exp (-x))

/-- The residual scale √2 as the programs round it. -/
def alpha : EReal := Ideal.ofBits .f32 0x3FB504F3#32

end Cert.Rows

end
-- ==== Proof.MoeRouter.lean ====
/- The router's mathematics, apart from any program: the first greatest position of a row, the fold that finds
   it lane by lane, the stable sort that finds it, and the weights of the two chosen experts. -/
module

public import proofs.«01_k».proof.Proof.Rows
public import Idealize.ShloMosaic.Lib.SortPrefix

@[expose] public section

noncomputable section

namespace Cert.MoeRouter

open Idealize.ShloMosaic

/-! ## The first greatest position -/

/-- `j` holds a greatest value of the row, and every earlier position holds a smaller one. -/
def IsFirst {n : Nat} (f : Fin n → EReal) (j : Fin n) : Prop :=
  (∀ k, f k ≤ f j) ∧ ∀ k, k < j → f k < f j

/-- Every nonempty row has a first greatest position. -/
theorem exists_first {n : Nat} (f : Fin (n + 1) → EReal) : ∃ j, IsFirst f j := by
  obtain ⟨m, hm⟩ := Finite.exists_max f
  obtain ⟨j, hj, hmin⟩ := (wellFounded_lt (α := Fin (n + 1))).has_min {k | ∀ i, f i ≤ f k} ⟨m, hm⟩
  refine ⟨j, hj, fun k hk => ?_⟩
  have hk' : ¬ ∀ i, f i ≤ f k := fun h => hmin k h hk
  push Not at hk'
  obtain ⟨i, hi⟩ := hk'
  exact lt_of_lt_of_le hi (hj i)

/-- The first greatest position of a row. -/
def first {n : Nat} (f : Fin (n + 1) → EReal) : Fin (n + 1) := (exists_first f).choose

theorem first_spec {n : Nat} (f : Fin (n + 1) → EReal) : IsFirst f (first f) := (exists_first f).choose_spec

/-- The row with its first greatest value taken out. -/
def without {n : Nat} (f : Fin (n + 1) → EReal) : Fin (n + 1) → EReal := fun e => if e = first f then ⊥ else f e

/-- The first greatest position of what is left. -/
def second {n : Nat} (f : Fin (n + 1) → EReal) : Fin (n + 1) := first (without f)

/-- Where every value is above −∞ and there are at least two, the second position is not the first. -/
theorem second_ne_first {n : Nat} (f : Fin (n + 2) → EReal) (h : ∀ e, f e ≠ ⊥) : second f ≠ first f := by
  intro e
  have hs := (first_spec (without f)).1
  have hb : without f (second f) = ⊥ := by rw [e]; exact if_pos rfl
  have hex : ∃ k : Fin (n + 2), k ≠ first f := exists_ne _
  obtain ⟨k, hk⟩ := hex
  have h1 := hs k
  change without f k ≤ without f (second f) at h1
  rw [hb, le_bot_iff] at h1
  unfold without at h1
  rw [if_neg hk] at h1
  exact h k h1

theorem without_second {n : Nat} (f : Fin (n + 2) → EReal) (h : ∀ e, f e ≠ ⊥) : without f (second f) = f (second f) :=
  if_neg (second_ne_first f h)

/-! ## The folds over a row -/

/-- The maximum fold from −∞ is the value at the first greatest position. -/
theorem fold_max {n : Nat} (f : Fin n → EReal) (j : Fin n) (h : IsFirst f j) :
    Finset.fold max ⊥ f Finset.univ = f j :=
  le_antisymm (Finset.fold_max_le _ |>.mpr ⟨bot_le, fun k _ => h.1 k⟩)
    (Finset.le_fold_max _ |>.mpr (Or.inr ⟨j, Finset.mem_univ j, le_rfl⟩))

theorem minsi_le (c x y : BitVec 32) : c.toInt ≤ (IntOp.minsi x y).toInt ↔ c.toInt ≤ x.toInt ∧ c.toInt ≤ y.toInt := by
  unfold IntOp.minsi
  simp only [BitVec.slt, decide_eq_true_eq]
  split <;> omega

theorem minsi_ge (c x y : BitVec 32) : (IntOp.minsi x y).toInt ≤ c.toInt ↔ x.toInt ≤ c.toInt ∨ y.toInt ≤ c.toInt := by
  unfold IntOp.minsi
  simp only [BitVec.slt, decide_eq_true_eq]
  split <;> omega

/-- A least word of a row, no greater than the start, is what the minimum fold gives. -/
theorem fold_minsi_eq {n : Nat} (g : Fin n → BitVec 32) (b w : BitVec 32) (hb : w.toInt ≤ b.toInt)
    (hle : ∀ k, w.toInt ≤ (g k).toInt) (hex : ∃ k, g k = w) :
    Finset.fold IntOp.minsi b g Finset.univ = w := by
  apply BitVec.eq_of_toInt_eq
  apply le_antisymm
  · obtain ⟨k, hk⟩ := hex
    refine (Finset.fold_op_rel_iff_or (op := IntOp.minsi) (r := fun x y => y.toInt ≤ x.toInt)
      (fun {x y z} => minsi_ge x y z) (c := w) (b := b)).mpr (Or.inr ⟨k, Finset.mem_univ k, ?_⟩)
    rw [hk]
  · exact (Finset.fold_op_rel_iff_and (op := IntOp.minsi) (r := fun x y => x.toInt ≤ y.toInt)
      (fun {x y z} => minsi_le x y z) (c := w) (b := b)).mpr ⟨hb, fun k _ => hle k⟩

theorem toInt_lane : ∀ l : Fin 128, (BitVec.ofNat 32 l.val).toInt = (l.val : Int) := by decide +kernel

/-- The least lane number among the lanes holding the greatest value is the first greatest lane. -/
theorem fold_lane (f : Fin 128 → EReal) (j : Fin 128) (h : IsFirst f j) :
    Finset.fold IntOp.minsi 2147483647#32 (fun l => if f l = f j then BitVec.ofNat 32 l.val else 128#32) Finset.univ
      = BitVec.ofNat 32 j.val := by
  refine fold_minsi_eq _ _ _ ?_ (fun l => ?_) ⟨j, if_pos rfl⟩
  · rw [toInt_lane]
    have : (2147483647#32).toInt = 2147483647 := by decide
    omega
  · by_cases e : f l = f j
    · simp only [if_pos e, toInt_lane]
      by_contra hlt
      have hl : l < j := by rw [Fin.lt_def]; omega
      exact absurd e (ne_of_lt (h.2 l hl))
    · simp only [if_neg e, toInt_lane]
      have : (128#32).toInt = 128 := by decide
      omega

/-! ## The stable sort -/

/-- Two relations that agree on every pair taken out of order sort an ascending list alike. -/
theorem stableSort_ascending {n : Nat} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The comparison by value, greater first, then by position. -/
def before {n : Nat} (f : Fin n → EReal) (k k' : Fin n) : Bool :=
  decide (f k' < f k) || (decide (f k = f k') && decide (k < k'))

theorem before_strict {n : Nat} (f : Fin n → EReal) : StrictTotalBefore (before f) :=
  StrictTotalBefore.of_key_then_position (fun a b : EReal => decide (b < a)) f (fun a => by simp)
    (fun a b c hab hbc => by
      simp only [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)

theorem before_gt {n : Nat} (f : Fin n → EReal) (a b : Fin n) (h : a < b) :
    (FloatOps.cmpfTotal (F := Ideal) (φ := .f32) .gt (f b) (f a) == 1#1) = before f b a := by
  have hn : ¬ b < a := not_lt.mpr (le_of_lt h)
  simp only [before, hn, decide_false, Bool.and_false, Bool.or_false]
  rw [Ideal.cmpfTotal_def]
  by_cases e : f a < f b
  · simp [Ideal.cmp, CmpDirection.ordered, e]
  · simp [Ideal.cmp, CmpDirection.ordered, e]

/-- The stable sort by the greater value is the sort by value and then position. -/
theorem sortedFrom_gt {n : Nat} (f : Fin n → EReal) :
    sortedFrom (fun k k' => FloatOps.cmpfTotal (F := Ideal) (φ := .f32) .gt (f k) (f k') == 1#1) = sortedFrom (before f) := by
  funext k
  unfold sortedFrom
  have e : sortPositions n (fun k k' => FloatOps.cmpfTotal (F := Ideal) (φ := .f32) .gt (f k) (f k') == 1#1)
      = sortPositions n (before f) :=
    stableSort_ascending _ _ _ (List.pairwise_lt_finRange n) (fun a b h => before_gt f a b h)
  rw [List.get_of_eq e]
  rfl

/-- The sort's first position comes from the first greatest one. -/
theorem sortedFrom_zero {n : Nat} (f : Fin (n + 1) → EReal) (j : Fin (n + 1)) (h : IsFirst f j) :
    sortedFrom (before f) 0 = j := by
  refine (before_strict f).sortedFrom_eq_of_prefix (k := 1) (by omega) (fun _ => j) (fun a b _ => Subsingleton.elim a b)
    (fun a b hab => absurd hab (by omega)) (fun _ p hp => ?_) 0
  have hne : p ≠ j := fun e => hp 0 e.symm
  simp only [before, Bool.or_eq_false_iff, Bool.and_eq_false_iff, decide_eq_false_iff_not]
  refine ⟨not_lt.mpr (h.1 p), ?_⟩
  by_cases hlt : p < j
  · exact Or.inl (ne_of_lt (h.2 p hlt))
  · exact Or.inr hlt

/-- The sort's second position comes from the first greatest one among the rest. -/
theorem sortedFrom_one {n : Nat} (f : Fin (n + 2) → EReal) (hb : ∀ e, f e ≠ ⊥) :
    sortedFrom (before f) 1 = second f := by
  have h1 := first_spec f
  have h2 := first_spec (without f)
  have hne := second_ne_first f hb
  have hrest : ∀ p, p ≠ first f → before f p (second f) = false := fun p hp => by
    have hp' : without f p = f p := if_neg hp
    have hs : without f (second f) = f (second f) := without_second f hb
    simp only [before, Bool.or_eq_false_iff, Bool.and_eq_false_iff, decide_eq_false_iff_not]
    have hle := h2.1 p
    change without f p ≤ without f (second f) at hle
    rw [hp', hs] at hle
    refine ⟨not_lt.mpr hle, ?_⟩
    by_cases hlt : p < second f
    · have := h2.2 p hlt
      change without f p < without f (second f) at this
      rw [hp', hs] at this
      exact Or.inl (ne_of_lt this)
    · exact Or.inr hlt
  have hfst : ∀ p, p ≠ first f → before f p (first f) = false := fun p _ => by
    simp only [before, Bool.or_eq_false_iff, Bool.and_eq_false_iff, decide_eq_false_iff_not]
    refine ⟨not_lt.mpr (h1.1 p), ?_⟩
    by_cases hlt : p < first f
    · exact Or.inl (ne_of_lt (h1.2 p hlt))
    · exact Or.inr hlt
  refine (before_strict f).sortedFrom_eq_of_prefix (k := 2) (by omega) (![first f, second f]) ?_ ?_ ?_ 1
  · intro a b hab
    match a, b with
    | 0, 0 => rfl
    | 1, 1 => rfl
    | 0, 1 => exact absurd hab.symm hne
    | 1, 0 => exact absurd hab hne
  · intro a b hab
    match a, b with
    | 0, 1 => exact hfst _ hne
    | 0, 0 => exact absurd hab (by decide)
    | 1, 1 => exact absurd hab (by decide)
    | 1, 0 => exact absurd hab (by decide)
  · intro a p hp
    match a with
    | 0 => exact hfst p fun e => hp 0 e.symm
    | 1 => exact hrest p fun e => hp 0 e.symm

end Cert.MoeRouter

end
-- ==== Proof.MoeLanes.lean ====
/- The router as the kernel runs it: the group logits on lanes 0–3 and the expert logits on lanes 4–35 of one row, the
   chosen lanes, and the two weights laid back on the lanes. -/
module

public import proofs.«01_k».proof.Proof.MoeRouter
public import proofs.«01_k».proof.Proof.Gen.MoeIdeal.Value

@[expose] public section

set_option maxRecDepth 16384

noncomputable section

namespace Cert.MoeLanes

open Idealize.ShloMosaic Idealize.ShloMosaic.TcCoe Cert.MoeIdeal Cert.MoeIdeal.Gen Cert.MoeRouter

/-! ## The specification -/

/-- The chosen group's softmax weight: one over the sum of the exponentials of the logits less the greatest. -/
def groupWeight (gl : Fin 4 → EReal) : EReal := Ideal.div 1 (∑ k, Ideal.exp (gl k - gl (first gl)))

/-- The second expert's exponential, the first's being one. -/
def ratio (v : Fin 8 → EReal) : EReal := Ideal.exp (v (second v) - v (first v))

/-- The first expert's weight. -/
def weight1 (gl : Fin 4 → EReal) (el : Fin 4 → Fin 8 → EReal) : EReal :=
  Ideal.div (groupWeight gl) (1 + ratio (el (first gl)))

/-- The second expert's weight. -/
def weight2 (gl : Fin 4 → EReal) (el : Fin 4 → Fin 8 → EReal) : EReal :=
  Ideal.div (groupWeight gl * ratio (el (first gl))) (1 + ratio (el (first gl)))

/-- The weight each of the 32 experts has in the token's output. -/
def combine (gl : Fin 4 → EReal) (el : Fin 4 → Fin 8 → EReal) (e : Fin 32) : EReal :=
  (if e.val = 8 * (first gl).val + (first (el (first gl))).val then weight1 gl el else 0)
    + (if e.val = 8 * (first gl).val + (second (el (first gl))).val then weight2 gl el else 0)

/-! ## Lanes -/

/-- The lane of group `g`'s logit. -/
abbrev laneG (g : Fin 4) : Fin 128 := ⟨g.val, by omega⟩

/-- The lane of expert `e` of group `g`. -/
abbrev laneE (g : Fin 4) (e : Fin 8) : Fin 128 := ⟨4 + 8 * g.val + e.val, by omega⟩

/-- The row's group lanes, −∞ on the others. -/
def onGroups (f : Fin 128 → EReal) (l : Fin 128) : EReal := if l.val < 4 then f l else ⊥

/-- The lanes of group `g`'s experts, −∞ on the others. -/
def inGroup (f : Fin 128 → EReal) (g : Fin 4) (l : Fin 128) : EReal :=
  if 4 + 8 * g.val ≤ l.val ∧ l.val < 12 + 8 * g.val then f l else ⊥

/-- The row with lane `j` set to −∞. -/
def taken (f : Fin 128 → EReal) (j l : Fin 128) : EReal := if l = j then ⊥ else f l

theorem onGroups_first (f : Fin 128 → EReal) (gl : Fin 4 → EReal) (h : ∀ g, f (laneG g) = gl g) :
    IsFirst (onGroups f) (laneG (first gl)) := by
  have hs := first_spec gl
  have hv : onGroups f (laneG (first gl)) = gl (first gl) := by
    unfold onGroups
    rw [if_pos (show (laneG (first gl)).val < 4 from (first gl).isLt), h]
  constructor
  · intro k
    rw [hv]
    unfold onGroups
    by_cases hk : k.val < 4
    · rw [if_pos hk]
      have := h ⟨k.val, hk⟩
      rw [show k = laneG ⟨k.val, hk⟩ from rfl, this]
      exact hs.1 _
    · rw [if_neg hk]; exact bot_le
  · intro k hlt
    have hlt' : k.val < (first gl).val := hlt
    have hk : k.val < 4 := by omega
    rw [hv]
    unfold onGroups
    rw [if_pos hk, show k = laneG ⟨k.val, hk⟩ from rfl, h]
    exact hs.2 _ hlt'

/-- A row that carries `v` on a group's lanes and −∞ elsewhere has its first greatest lane where `v` has it. -/
theorem group_first (r : Fin 128 → EReal) (g : Fin 4) (v : Fin 8 → EReal) (j : Fin 8) (hj : IsFirst v j) (hb : v j ≠ ⊥)
    (hin : ∀ e, r (laneE g e) = v e) (hout : ∀ l : Fin 128, ¬ (4 + 8 * g.val ≤ l.val ∧ l.val < 12 + 8 * g.val) → r l = ⊥) :
    IsFirst r (laneE g j) := by
  have key : ∀ l : Fin 128, (∃ e : Fin 8, l = laneE g e) ∨ r l = ⊥ := fun l => by
    by_cases hl : 4 + 8 * g.val ≤ l.val ∧ l.val < 12 + 8 * g.val
    · exact Or.inl ⟨⟨l.val - (4 + 8 * g.val), by omega⟩, Fin.ext (show l.val = 4 + 8 * g.val + (l.val - (4 + 8 * g.val)) by omega)⟩
    · exact Or.inr (hout l hl)
  constructor
  · intro k
    rcases key k with ⟨e, rfl⟩ | hk
    · rw [hin, hin]; exact hj.1 e
    · rw [hk]; exact bot_le
  · intro k hlt
    rcases key k with ⟨e, rfl⟩ | hk
    · have : e < j := by
        have h2 : 4 + 8 * g.val + e.val < 4 + 8 * g.val + j.val := hlt
        rw [Fin.lt_def]; omega
      rw [hin, hin]; exact hj.2 e this
    · rw [hk, hin]; exact bot_lt_iff_ne_bot.mpr hb

theorem inGroup_lane (f : Fin 128 → EReal) (g : Fin 4) (e : Fin 8) : inGroup f g (laneE g e) = f (laneE g e) := by
  have he := e.isLt
  exact if_pos ⟨by show 4 + 8 * g.val ≤ 4 + 8 * g.val + e.val; omega, by show 4 + 8 * g.val + e.val < 12 + 8 * g.val; omega⟩

theorem laneE_inj (g : Fin 4) (e e' : Fin 8) (h : laneE g e = laneE g e') : e = e' := by
  have : 4 + 8 * g.val + e.val = 4 + 8 * g.val + e'.val := congrArg Fin.val h
  exact Fin.ext (by omega)

theorem inGroup_first (f : Fin 128 → EReal) (g : Fin 4) (v : Fin 8 → EReal) (h : ∀ e, f (laneE g e) = v e) (hb : ∀ e, v e ≠ ⊥) :
    IsFirst (inGroup f g) (laneE g (first v)) :=
  group_first _ g v _ (first_spec v) (hb _) (fun e => (inGroup_lane f g e).trans (h e)) (fun l hl => if_neg hl)

theorem taken_first (f : Fin 128 → EReal) (g : Fin 4) (v : Fin 8 → EReal) (h : ∀ e, f (laneE g e) = v e) (hb : ∀ e, v e ≠ ⊥) :
    IsFirst (taken (inGroup f g) (laneE g (first v))) (laneE g (second v)) := by
  refine group_first _ g (without v) _ (first_spec _) ?_ (fun e => ?_) (fun l hl => ?_)
  · exact fun e => hb _ ((without_second v hb).symm.trans e)
  · unfold taken without
    by_cases he : e = first v
    · rw [if_pos he, if_pos (by rw [he])]
    · rw [if_neg he, if_neg (fun e' => he (laneE_inj g _ _ e')), inGroup_lane, h]
  · unfold taken
    by_cases he : l = laneE g (first v)
    · rw [if_pos he]
    · rw [if_neg he]; exact if_neg hl

theorem taken_second (f : Fin 128 → EReal) (g : Fin 4) (v : Fin 8 → EReal) (h : ∀ e, f (laneE g e) = v e) (hb : ∀ e, v e ≠ ⊥) :
    taken (inGroup f g) (laneE g (first v)) (laneE g (second v)) = v (second v) := by
  unfold taken
  rw [if_neg (fun e => second_ne_first v hb (laneE_inj g _ _ e)), inGroup_lane, h]

theorem exp_bot_sub (r : EReal) : Ideal.exp (⊥ - r) = 0 := by
  rw [sub_eq_add_neg, EReal.bot_add]
  rfl

/-- The sum of the exponentials over all lanes is the sum over the groups. -/
theorem sum_groups (f : Fin 128 → EReal) (gl : Fin 4 → EReal) (h : ∀ g, f (laneG g) = gl g) (r : EReal) :
    (∑ l : Fin 128, Ideal.exp (onGroups f l - r)) = ∑ g : Fin 4, Ideal.exp (gl g - r) := by
  refine (Fin.sum_univ_add (a := 4) (b := 124) (fun l => Ideal.exp (onGroups f l - r))).trans ?_
  have h2 : ∀ l : Fin 124, Ideal.exp (onGroups f (Fin.natAdd 4 l) - r) = 0 := fun l => by
    have : onGroups f (Fin.natAdd 4 l) = ⊥ := if_neg (by simp [Fin.natAdd])
    rw [this, exp_bot_sub]
  have h1 : ∀ g : Fin 4, onGroups f (Fin.castAdd 124 g) = gl g := fun g => by
    have : onGroups f (Fin.castAdd 124 g) = f (laneG g) := if_pos g.isLt
    rw [this, h]
  simp only [h1, h2, Finset.sum_const_zero, add_zero]

/-! ## The words -/

theorem negInf : Ideal.ofBits .f32 4286578688#32 = ⊥ := by simp [Ideal.ofBits, Ideal.ieee]

theorem word_groups : ∀ l : Fin 128, IntOp.cmpi .slt (BitVec.ofNat 32 l.val) 4#32 = if l.val < 4 then 1#1 else 0#1 := by
  decide +kernel

theorem word_in : ∀ (g : Fin 4) (l : Fin 128),
    IntOp.andi (IntOp.cmpi .sge (BitVec.ofNat 32 l.val) (IntOp.addi 4#32 (IntOp.muli 8#32 (BitVec.ofNat 32 g.val))))
        (IntOp.cmpi .slt (BitVec.ofNat 32 l.val) (IntOp.addi (IntOp.addi 4#32 (IntOp.muli 8#32 (BitVec.ofNat 32 g.val))) 8#32))
      = if 4 + 8 * g.val ≤ l.val ∧ l.val < 12 + 8 * g.val then 1#1 else 0#1 := by
  decide +kernel

theorem word_eq (l j : Fin 128) :
    IntOp.cmpi .eq (BitVec.ofNat 32 l.val) (BitVec.ofNat 32 j.val) = if l = j then 1#1 else 0#1 := by
  by_cases h : l = j
  · rw [if_pos h, h]; simp [IntOp.cmpi]
  · have : BitVec.ofNat 32 l.val ≠ BitVec.ofNat 32 j.val := fun e => h (by
      have := congrArg BitVec.toInt e
      rw [toInt_lane, toInt_lane] at this
      exact Fin.ext (by omega))
    rw [if_neg h]
    show BitVec.ofBool (BitVec.ofNat 32 l.val == BitVec.ofNat 32 j.val) = 0#1
    rw [beq_eq_false_iff_ne.mpr this]
    rfl

theorem select_if {α : Type} (p : Prop) [Decidable p] (a b : α) :
    Scalar.select (if p then 1#1 else 0#1) a b = if p then a else b := by
  by_cases h : p <;> simp [h, Scalar.select]

/-! ## The payloads -/

section

variable (i : Fin 512) (f : Fin 128 → EReal) (gl : Fin 4 → EReal) (el : Fin 4 → Fin 8 → EReal)

theorem pay2_apply (v0 : FVec Ideal S512x1024 .f32) (v5 v8 v11 : FVec Ideal S1024x128 .bf16) (v16 : FVec Ideal S1x128 .f32)
    (hx : ∀ k, ∃ r : ℝ, v0 (ix2 i k) = (r : EReal)) (hlo : ∀ k l, v8 (ix2 k l) = 0) (l : Fin 128) :
    k0_pay2 (F := Ideal) v0 v5 v8 v11 v16 (ix2 i l) = (∑ k : Fin 1024, v0 (ix2 i k) * v5 (ix2 k l)) + v16 (ix2 0 l) := by
  have hz : ∀ k, v0 (ix2 i k) - v0 (ix2 i k) = 0 := fun k => by
    obtain ⟨r, hr⟩ := hx k
    rw [hr, ← EReal.coe_sub, sub_self, EReal.coe_zero]
  pointwise [k0_pay1, k0_pay2]
  simp only [hz, hlo, mul_zero, zero_mul, Finset.sum_const_zero, add_zero]

variable (v0 : FVec Ideal S512x1024 .f32) (v5 v8 v11 : FVec Ideal S1024x128 .bf16) (v16 : FVec Ideal S1x128 .f32)
  (hf : ∀ l, k0_pay2 (F := Ideal) v0 v5 v8 v11 v16 (ix2 i l) = f l)

include hf

theorem pay3_apply (l : Fin 128) : k0_pay3 (F := Ideal) v0 v5 v8 v11 v16 (ix2 i l) = onGroups f l := by
  pointwise [k0_pay3]
  rw [hf, negInf, word_groups, select_if]
  rfl

theorem pay4_apply (hg : ∀ g, f (laneG g) = gl g) : k0_pay4 (F := Ideal) v0 v5 v8 v11 v16 (ix2 i 0) = gl (first gl) := by
  pointwise [k0_pay4]
  simp only [pay3_apply i f v0 v5 v8 v11 v16 hf, negInf]
  rw [fold_max _ _ (onGroups_first f gl hg)]
  exact (if_pos (first gl).isLt).trans (hg _)

theorem pay5_apply (hg : ∀ g, f (laneG g) = gl g) :
    k0_pay5 (F := Ideal) v0 v5 v8 v11 v16 (ix2 i 0) = BitVec.ofNat 32 (first gl).val := by
  pointwise [k0_pay5]
  have e4 : k0_pay4 (F := Ideal) v0 v5 v8 v11 v16 (ix2 i 0) = onGroups f (laneG (first gl)) :=
    (pay4_apply i f gl v0 v5 v8 v11 v16 hf hg).trans ((if_pos (first gl).isLt).trans (hg _)).symm
  simp only [pay3_apply i f v0 v5 v8 v11 v16 hf, e4]
  exact fold_lane _ _ (onGroups_first f gl hg)

theorem pay6_apply (hg : ∀ g, f (laneG g) = gl g) :
    k0_pay6 (F := Ideal) v0 v5 v8 v11 v16 (ix2 i 0) = ∑ k, Ideal.exp (gl k - gl (first gl)) := by
  pointwise [k0_pay6]
  simp only [pay3_apply i f v0 v5 v8 v11 v16 hf, pay4_apply i f gl v0 v5 v8 v11 v16 hf hg]
  exact sum_groups f gl hg _

end

section

variable (i : Fin 512) (f : Fin 128 → EReal) (g : Fin 4) (v : Fin 8 → EReal)
  (v19 : FVec Ideal S512x128 .f32) (v20 : IVec S512x128 32) (v32 : IVec S512x1 32)
  (hf : ∀ l, v19 (ix2 i l) = f l) (hl : ∀ l : Fin 128, v20 (ix2 i l) = BitVec.ofNat 32 l.val)
  (hg : v32 (ix2 i 0) = BitVec.ofNat 32 g.val) (hv : ∀ e, f (laneE g e) = v e) (hb : ∀ e, v e ≠ ⊥)

include hf hl hg

theorem pay9_apply (l : Fin 128) : k0_pay9 (F := Ideal) v19 v20 v32 (ix2 i l) = inGroup f g l := by
  pointwise [k0_pay9]
  rw [hf, hl, hg, negInf, word_in, select_if]
  rfl

include hv hb

theorem pay10_apply : k0_pay10 (F := Ideal) v19 v20 v32 (ix2 i 0) = v (first v) := by
  pointwise [k0_pay10]
  simp only [pay9_apply i f g v19 v20 v32 hf hl hg, negInf]
  rw [fold_max _ _ (inGroup_first f g v hv hb), inGroup_lane, hv]

theorem pay11_apply : k0_pay11 (F := Ideal) v19 v20 v32 (ix2 i 0) = BitVec.ofNat 32 (laneE g (first v)).val := by
  pointwise [k0_pay11]
  have e4 : k0_pay10 (F := Ideal) v19 v20 v32 (ix2 i 0) = inGroup f g (laneE g (first v)) :=
    (pay10_apply i f g v v19 v20 v32 hf hl hg hv hb).trans ((inGroup_lane f g _).trans (hv _)).symm
  simp only [pay9_apply i f g v19 v20 v32 hf hl hg, e4, hl]
  exact fold_lane _ _ (inGroup_first f g v hv hb)

theorem pay12_apply (l : Fin 128) :
    k0_pay12 (F := Ideal) v19 v20 v32 (ix2 i l) = taken (inGroup f g) (laneE g (first v)) l := by
  pointwise [k0_pay12]
  rw [pay9_apply i f g v19 v20 v32 hf hl hg, pay11_apply i f g v v19 v20 v32 hf hl hg hv hb, hl, negInf, word_eq, select_if]
  rfl

theorem pay13_apply : k0_pay13 (F := Ideal) v19 v20 v32 (ix2 i 0) = v (second v) := by
  pointwise [k0_pay13]
  simp only [pay12_apply i f g v v19 v20 v32 hf hl hg hv hb, negInf]
  rw [fold_max _ _ (taken_first f g v hv hb), taken_second f g v hv hb]

theorem pay14_apply : k0_pay14 (F := Ideal) v19 v20 v32 (ix2 i 0) = BitVec.ofNat 32 (laneE g (second v)).val := by
  pointwise [k0_pay14]
  have e4 : k0_pay13 (F := Ideal) v19 v20 v32 (ix2 i 0) = taken (inGroup f g) (laneE g (first v)) (laneE g (second v)) :=
    (pay13_apply i f g v v19 v20 v32 hf hl hg hv hb).trans (taken_second f g v hv hb).symm
  simp only [pay12_apply i f g v v19 v20 v32 hf hl hg hv hb, e4, hl]
  exact fold_lane _ _ (taken_first f g v hv hb)

theorem pay15_apply : k0_pay15 (F := Ideal) v19 v20 v32 (ix2 i 0) = ratio v := by
  pointwise [k0_pay15]
  rw [pay10_apply i f g v v19 v20 v32 hf hl hg hv hb, pay13_apply i f g v v19 v20 v32 hf hl hg hv hb]
  rfl

theorem pay17_apply (l : Fin 128) :
    k0_pay17 (F := Ideal) v19 v20 v32 (ix2 i l) = if l = laneE g (first v) then 1#1 else 0#1 := by
  pointwise [k0_pay17]
  rw [pay11_apply i f g v v19 v20 v32 hf hl hg hv hb, hl, word_eq]

theorem pay16_apply (v37 v38 : FVec Ideal S512x1 .f32) :
    k0_pay16 (F := Ideal) v19 v20 v32 v37 v38 (ix2 i 0)
      = Ideal.div (Ideal.div (v38 (ix2 i 0)) (v37 (ix2 i 0)) * ratio v) (1 + ratio v) := by
  pointwise [k0_pay16, k0_pay8]
  rw [pay15_apply i f g v v19 v20 v32 hf hl hg hv hb]
  all_goals rfl

theorem pay18_apply (v37 v38 : FVec Ideal S512x1 .f32) :
    k0_pay18 (F := Ideal) v19 v20 v32 v37 v38 (ix2 i 0)
      = Ideal.div (Ideal.div (v38 (ix2 i 0)) (v37 (ix2 i 0))) (1 + ratio v) := by
  pointwise [k0_pay18, k0_pay8]
  rw [pay15_apply i f g v v19 v20 v32 hf hl hg hv hb]
  all_goals rfl

end

/-- The lanes the two weights are laid on. -/
theorem pay19_apply (i : Fin 512) (j1 j2 : Fin 128) (v20 : IVec S512x128 32) (v72 : IVec S512x1 32) (v81 : FVec Ideal S512x1 .f32)
    (v83 : IVec S512x128 1) (v84 : FVec Ideal S512x1 .f32) (hl : ∀ l : Fin 128, v20 (ix2 i l) = BitVec.ofNat 32 l.val)
    (h83 : ∀ l, v83 (ix2 i l) = if l = j1 then 1#1 else 0#1) (h72 : v72 (ix2 i 0) = BitVec.ofNat 32 j2.val) (l : Fin 128) :
    k0_pay19 (F := Ideal) v20 v72 v81 v83 (Scalar.ofBits .f32 0x00000000#32) v84 (ix2 i l)
      = (if l = j1 then v84 (ix2 i 0) else 0) + (if l = j2 then v81 (ix2 i 0) else 0) := by
  pointwise [k0_pay19]
  rw [h83, h72, hl, word_eq, select_if, select_if]
  all_goals simp

end Cert.MoeLanes

end
-- ==== Proof.MoeBlock.lean ====
/- What one grid point of the mixture-of-experts kernel leaves in its output block: for each row of 512 tokens the
   layer norm of the scaled residual plus the sum over the experts' hidden columns weighted by the router. -/
module

public import proofs.«01_k».proof.Proof.MoeLanes

@[expose] public section

set_option maxRecDepth 16384

noncomputable section

namespace Cert.MoeBlock

open Idealize.ShloMosaic Idealize.ShloMosaic.TcCoe Cert.MoeIdeal Cert.MoeIdeal.Gen Cert.Rows Cert.MoeRouter Cert.MoeLanes

/-- A column of the hidden layer of group `g`: the gated product of the token with the group's two weights, times the
    weight `w` of the expert the column belongs to. -/
def hidden (x : Fin 1024 → EReal) (wg wu : Fin 1024 → Fin 1024 → EReal) (w : Fin 8 → EReal) (k : Fin 1024) : EReal :=
  (∑ d, x d * wg d k) * sigmoid (∑ d, x d * wg d k) * (∑ d, x d * wu d k) * w ⟨k.val / 128, by omega⟩

/-- The token's output: the layer norm of the scaled residual plus the groups' hidden columns through the down weights. -/
def row (x : Fin 1024 → EReal) (wg wu wd : Fin 4 → Fin 1024 → Fin 1024 → EReal) (w : Fin 32 → EReal)
    (gm bt : Fin 1024 → EReal) (c : Fin 1024) : EReal :=
  layerNorm (fun d => alpha * x d + ∑ g : Fin 4, ∑ k, hidden x (wg g) (wu g) (fun e => w ⟨8 * g.val + e.val, by omega⟩) k * wd g k d) gm bt c

theorem one_f32 : Ideal.ofBits .f32 0x3F800000#32 = 1 := by
  pointwise []

section

variable (i : Fin 512) (c : Fin 1024)

theorem pay21_apply (v1 : FVec Ideal S512x1024 .bf16) (v96 : FVec Ideal S1x1024x1024 .bf16) :
    k0_pay21 (F := Ideal) v1 v96 (ix2 i c) = ∑ d, v1 (ix2 i d) * v96 (ix3 0 d c) := by
  pointwise [k0_pay21]

theorem pay22_apply (v1 : FVec Ideal S512x1024 .bf16) (v96 : FVec Ideal S1x1024x1024 .bf16) :
    k0_pay22 (F := Ideal) v1 v96 (ix2 i c) = ∑ d, v1 (ix2 i d) * v96 (ix3 0 d c) := by
  pointwise [k0_pay22]

theorem pay26_apply (v1 : FVec Ideal S512x1024 .bf16) (v96 : FVec Ideal S1x1024x1024 .bf16) :
    k0_pay26 (F := Ideal) v1 v96 (ix2 i c) = ∑ d, v1 (ix2 i d) * v96 (ix3 0 d c) := by
  pointwise [k0_pay26]

theorem pay27_apply (v1 : FVec Ideal S512x1024 .bf16) (v96 : FVec Ideal S1x1024x1024 .bf16) :
    k0_pay27 (F := Ideal) v1 v96 (ix2 i c) = ∑ d, v1 (ix2 i d) * v96 (ix3 0 d c) := by
  pointwise [k0_pay27]

theorem pay31_apply (v1 : FVec Ideal S512x1024 .bf16) (v96 : FVec Ideal S1x1024x1024 .bf16) :
    k0_pay31 (F := Ideal) v1 v96 (ix2 i c) = ∑ d, v1 (ix2 i d) * v96 (ix3 0 d c) := by
  pointwise [k0_pay31]

theorem pay32_apply (v1 : FVec Ideal S512x1024 .bf16) (v96 : FVec Ideal S1x1024x1024 .bf16) :
    k0_pay32 (F := Ideal) v1 v96 (ix2 i c) = ∑ d, v1 (ix2 i d) * v96 (ix3 0 d c) := by
  pointwise [k0_pay32]

theorem pay37_apply (v1 : FVec Ideal S512x1024 .bf16) (v96 : FVec Ideal S1x1024x1024 .bf16) :
    k0_pay37 (F := Ideal) v1 v96 (ix2 i c) = ∑ d, v1 (ix2 i d) * v96 (ix3 0 d c) := by
  pointwise [k0_pay37]

theorem pay38_apply (v1 : FVec Ideal S512x1024 .bf16) (v96 : FVec Ideal S1x1024x1024 .bf16) :
    k0_pay38 (F := Ideal) v1 v96 (ix2 i c) = ∑ d, v1 (ix2 i d) * v96 (ix3 0 d c) := by
  pointwise [k0_pay38]

theorem pay24_apply (v1 : FVec Ideal S512x1024 .bf16) (v96 : FVec Ideal S1x1024x1024 .bf16) :
    k0_pay24 (F := Ideal) v1 v96 (ix2 i c) = 1 + Ideal.exp (-(∑ d, v1 (ix2 i d) * v96 (ix3 0 d c))) := by
  pointwise [k0_pay24]
  simp only [pay21_apply, zero_sub]

theorem pay29_apply (v1 : FVec Ideal S512x1024 .bf16) (v96 : FVec Ideal S1x1024x1024 .bf16) :
    k0_pay29 (F := Ideal) v1 v96 (ix2 i c) = 1 + Ideal.exp (-(∑ d, v1 (ix2 i d) * v96 (ix3 0 d c))) := by
  pointwise [k0_pay29]
  simp only [pay26_apply, zero_sub]

theorem pay34_apply (v1 : FVec Ideal S512x1024 .bf16) (v96 : FVec Ideal S1x1024x1024 .bf16) :
    k0_pay34 (F := Ideal) v1 v96 (ix2 i c) = Ideal.exp (-(∑ d, v1 (ix2 i d) * v96 (ix3 0 d c))) := by
  pointwise [k0_pay34]
  simp only [pay31_apply, zero_sub]

theorem pay40_apply (v1 : FVec Ideal S512x1024 .bf16) (v96 : FVec Ideal S1x1024x1024 .bf16) :
    k0_pay40 (F := Ideal) v1 v96 (ix2 i c) = Ideal.exp (-(∑ d, v1 (ix2 i d) * v96 (ix3 0 d c))) := by
  pointwise [k0_pay40]
  simp only [pay37_apply, zero_sub]

theorem pay25_apply (v95 v98 v101 v126 v131 : FVec Ideal S512x1024 .f32) (cst : Ideal .f32) (v138 : FVec Ideal S1x1024x1024 .bf16) :
    k0_pay25 (F := Ideal) v95 v98 v101 v126 v131 cst v138 (ix2 i c)
      = v95 (ix2 i c) + ∑ k, v98 (ix2 i k) * Ideal.div cst (v131 (ix2 i k)) * v101 (ix2 i k) * v126 (ix2 i k) * v138 (ix3 0 k c) := by
  pointwise [k0_pay25]

theorem pay30_apply (v95 v98 v101 v126 v131 : FVec Ideal S512x1024 .f32) (v138 : FVec Ideal S1x1024x1024 .bf16) :
    k0_pay30 (F := Ideal) v95 v98 v101 v126 v131 v138 (ix2 i c)
      = v95 (ix2 i c) + ∑ k, v98 (ix2 i k) * Ideal.div 1 (v131 (ix2 i k)) * v101 (ix2 i k) * v126 (ix2 i k) * v138 (ix3 0 k c) := by
  pointwise [k0_pay30]

theorem pay36_apply (v95 v98 v101 v126 v131 : FVec Ideal S512x1024 .f32) (v138 : FVec Ideal S1x1024x1024 .bf16) :
    k0_pay36 (F := Ideal) v95 v98 v101 v126 v131 (k0_pay35 (F := Ideal)) v138 (ix2 i c)
      = v95 (ix2 i c) + ∑ k, v98 (ix2 i k) * Ideal.div 1 (1 + v131 (ix2 i k)) * v101 (ix2 i k) * v126 (ix2 i k) * v138 (ix3 0 k c) := by
  pointwise [k0_pay36, k0_pay35]

theorem pay23_apply (v20 : IVec S512x128 32) (v72 : IVec S512x1 32) (v81 : FVec Ideal S512x1 .f32)
    (v83 : IVec S512x128 1) (cst : Ideal .f32) (v84 : FVec Ideal S512x1 .f32) :
    k0_pay23 (F := Ideal) v20 v72 v81 v83 cst v84 (ix2 i c)
      = k0_pay19 (F := Ideal) v20 v72 v81 v83 cst v84 (ix2 i ⟨4 + c.val / 128, by omega⟩) := by
  pointwise [k0_pay23]
  generalize k0_pay19 (F := Ideal) v20 v72 v81 v83 cst v84 = w
  split_ifs <;> exact congrArg (fun l => w (ix2 i l)) (Fin.ext (by show _ = 4 + c.val / 128; simp; omega))

theorem pay28_apply (w : FVec Ideal S512x128 .f32) :
    k0_pay28 (F := Ideal) w (ix2 i c) = w (ix2 i ⟨12 + c.val / 128, by omega⟩) := by
  pointwise [k0_pay28]
  split_ifs <;> exact congrArg (fun l => w (ix2 i l)) (Fin.ext (by show _ = 12 + c.val / 128; simp; omega))

theorem pay33_apply (w : FVec Ideal S512x128 .f32) :
    k0_pay33 (F := Ideal) w (ix2 i c) = w (ix2 i ⟨20 + c.val / 128, by omega⟩) := by
  pointwise [k0_pay33]
  split_ifs <;> exact congrArg (fun l => w (ix2 i l)) (Fin.ext (by show _ = 20 + c.val / 128; simp; omega))

theorem pay39_apply (w : FVec Ideal S512x128 .f32) :
    k0_pay39 (F := Ideal) w (ix2 i c) = w (ix2 i ⟨28 + c.val / 128, by omega⟩) := by
  pointwise [k0_pay39]
  split_ifs <;> exact congrArg (fun l => w (ix2 i l)) (Fin.ext (by show _ = 28 + c.val / 128; simp; omega))

theorem pay41_apply (v0 v233 v236 v239 v264 v267 : FVec Ideal S512x1024 .f32) (cst : Ideal .f32) (v276 : FVec Ideal S1x1024x1024 .bf16)
    (v283 v285 : FVec Ideal S1x1024 .f32) :
    k0_pay41 (F := Ideal) v0 v233 v236 v239 v264 v267 cst v276 v283 v285 (ix2 i c)
      = layerNorm (fun d => alpha * v0 (ix2 i d) + (v233 (ix2 i d)
          + ∑ k, v236 (ix2 i k) * Ideal.div 1 (cst + v267 (ix2 i k)) * v239 (ix2 i k) * v264 (ix2 i k) * v276 (ix3 0 k d)))
          (fun d => v283 (ix2 0 d)) (fun d => v285 (ix2 0 d)) c := by
  pointwise [k0_pay41]
  rfl

theorem ld0 (x : Vec Ideal S4x1024x1024 .bf16) (d : Fin 1024) : View.ld x r0_3 (ix3 0 d c) = x (ix3 0 d c) := by
  pointwise []

theorem ld1 (x : Vec Ideal S4x1024x1024 .bf16) (d : Fin 1024) : View.ld x r0_4 (ix3 0 d c) = x (ix3 1 d c) := by
  pointwise []

theorem ld2 (x : Vec Ideal S4x1024x1024 .bf16) (d : Fin 1024) : View.ld x r0_5 (ix3 0 d c) = x (ix3 2 d c) := by
  pointwise []

theorem ld3 (x : Vec Ideal S4x1024x1024 .bf16) (d : Fin 1024) : View.ld x r0_6 (ix3 0 d c) = x (ix3 3 d c) := by
  pointwise []

end

theorem ix3_eta (j : S1x1024x1024.Idx) : ∃ a b : Fin 1024, j = ix3 0 a b :=
  ⟨j 1, j 2, funext fun a => match a with
    | ⟨0, _⟩ => Subsingleton.elim (α := Fin 1) _ _
    | ⟨1, _⟩ => rfl
    | ⟨2, _⟩ => rfl⟩

/-- The slice of group `g` of a stacked weight. -/
def slab (x : Vec Ideal S4x1024x1024 .bf16) (g : Fin 4) : FVec Ideal S1x1024x1024 .bf16 := fun j => x (ix3 g (j 1) (j 2))

theorem slab0 (x : Vec Ideal S4x1024x1024 .bf16) : View.ld x r0_3 = slab x 0 := by
  funext j
  obtain ⟨a, b, rfl⟩ := ix3_eta j
  exact ld0 b x a

theorem slab1 (x : Vec Ideal S4x1024x1024 .bf16) : View.ld x r0_4 = slab x 1 := by
  funext j
  obtain ⟨a, b, rfl⟩ := ix3_eta j
  exact ld1 b x a

theorem slab2 (x : Vec Ideal S4x1024x1024 .bf16) : View.ld x r0_5 = slab x 2 := by
  funext j
  obtain ⟨a, b, rfl⟩ := ix3_eta j
  exact ld2 b x a

theorem slab3 (x : Vec Ideal S4x1024x1024 .bf16) : View.ld x r0_6 = slab x 3 := by
  funext j
  obtain ⟨a, b, rfl⟩ := ix3_eta j
  exact ld3 b x a

theorem hz2 : (![0, 0] : Fin 2 → Nat) = fun _ => 0 := funext fun a => by fin_cases a <;> rfl

section

variable (x0 : Vec Ideal S512x1024 .f32) (x1 x2 : Vec Ideal S1024x128 .bf16) (x3 : Vec Ideal S1x128 .f32)
  (x4 x5 x6 : Vec Ideal S4x1024x1024 .bf16) (x7 x8 : Vec Ideal S1x1024 .f32) (i : Fin 512)

/-- What a grid point leaves in the output block, at row `i` and column `c`, the
    combining weights on lanes 4–35 given. -/
theorem out_of_weights (w : Fin 32 → EReal)
    (hw : ∀ e : Fin 32, k0_pay52 (F := Ideal) x0 x1 x2 x3 x4 x5 x6 x7 x8 (ix2 i ⟨4 + e.val, by omega⟩) = w e) (c : Fin 1024) :
    out0_9 (F := Ideal) x0 x1 x2 x3 x4 x5 x6 x7 x8 (ix2 i c)
      = row (fun d => x0 (ix2 i d)) (fun g d k => x4 (ix3 g d k)) (fun g d k => x5 (ix3 g d k)) (fun g k d => x6 (ix3 g k d))
          w (fun d => x7 (ix2 0 d)) (fun d => x8 (ix2 0 d)) c := by
  have hw0 : ∀ k : Fin 1024, k0_pay52 (F := Ideal) x0 x1 x2 x3 x4 x5 x6 x7 x8 (ix2 i ⟨4 + k.val / 128, by omega⟩)
      = w ⟨8 * 0 + k.val / 128, by omega⟩ := fun k => (hw ⟨k.val / 128, by omega⟩).trans (congrArg _ (Fin.ext (by show k.val / 128 = 8 * 0 + k.val / 128; omega)))
  have hw1 : ∀ k : Fin 1024, k0_pay52 (F := Ideal) x0 x1 x2 x3 x4 x5 x6 x7 x8 (ix2 i ⟨12 + k.val / 128, by omega⟩)
      = w ⟨8 * 1 + k.val / 128, by omega⟩ := fun k => by
    rw [← hw]; exact congrArg (fun l => k0_pay52 (F := Ideal) x0 x1 x2 x3 x4 x5 x6 x7 x8 (ix2 i l)) (Fin.ext (by show 12 + k.val / 128 = 4 + (8 * 1 + k.val / 128); omega))
  have hw2 : ∀ k : Fin 1024, k0_pay52 (F := Ideal) x0 x1 x2 x3 x4 x5 x6 x7 x8 (ix2 i ⟨20 + k.val / 128, by omega⟩)
      = w ⟨8 * 2 + k.val / 128, by omega⟩ := fun k => by
    rw [← hw]; exact congrArg (fun l => k0_pay52 (F := Ideal) x0 x1 x2 x3 x4 x5 x6 x7 x8 (ix2 i l)) (Fin.ext (by show 20 + k.val / 128 = 4 + (8 * 2 + k.val / 128); omega))
  have hw3 : ∀ k : Fin 1024, k0_pay52 (F := Ideal) x0 x1 x2 x3 x4 x5 x6 x7 x8 (ix2 i ⟨28 + k.val / 128, by omega⟩)
      = w ⟨8 * 3 + k.val / 128, by omega⟩ := fun k => by
    rw [← hw]; exact congrArg (fun l => k0_pay52 (F := Ideal) x0 x1 x2 x3 x4 x5 x6 x7 x8 (ix2 i l)) (Fin.ext (by show 28 + k.val / 128 = 4 + (8 * 3 + k.val / 128); omega))
  have h43 : ∀ d, k0_pay43 (F := Ideal) x0 x1 x2 x3 x4 x5 x6 x7 x8 (ix2 i d) = x0 (ix2 i d) := fun d => by
    unfold k0_pay43; rw [View.ld_unit_zero hz2]; rfl
  have h20 : ∀ d, k0_pay20 (F := Ideal) (ix2 i d) = 0 := fun d => by pointwise [k0_pay20]
  have hone : (Scalar.ofBits .f32 0x3F800000#32 : Ideal .f32) = 1 := one_f32
  unfold out0_9
  rw [slab0 x4, slab0 x5, slab0 x6, slab1 x4, slab1 x5, slab1 x6, slab2 x4, slab2 x5, slab2 x6, slab3 x4, slab3 x5, slab3 x6,
    View.canon_unit_zero hz2, pay41_apply]
  unfold row
  refine congrArg₂ (fun a b => a + b) (congrArg₂ (fun a b => a * b) ?_ ?_) ?_
  · refine congrArg (fun z => normed 0x44800000#32 0x3727C5AC#32 z c) (funext fun d => ?_)
    rw [View.ld_unit_zero hz2]
    refine congrArg₂ (fun a b => a + b) rfl ?_
    rw [Fin.sum_univ_four]
    simp only [pay36_apply, pay30_apply, pay25_apply, pay21_apply, pay22_apply, pay26_apply, pay27_apply, pay31_apply, pay32_apply,
      pay37_apply, pay38_apply, pay24_apply, pay29_apply, pay34_apply, pay40_apply, pay28_apply, pay33_apply, pay39_apply,
      h43, h20, hone, hw1, hw2, hw3, zero_add]
    have h23 : ∀ k : Fin 1024, k0_pay23 (F := Ideal) (k0_pay42 x0 x1 x2 x3 x4 x5 x6 x7 x8) (k0_pay48 x0 x1 x2 x3 x4 x5 x6 x7 x8) (k0_pay49 x0 x1 x2 x3 x4 x5 x6 x7 x8) (k0_pay50 x0 x1 x2 x3 x4 x5 x6 x7 x8) (Scalar.ofBits .f32 0x00000000#32) (k0_pay51 x0 x1 x2 x3 x4 x5 x6 x7 x8) (ix2 i k)
        = w ⟨8 * 0 + k.val / 128, by omega⟩ := fun k => (pay23_apply i k _ _ _ _ _ _).trans (hw0 k)
    simp only [h23]
    rfl
  · rw [View.ld_unit_zero hz2]
  · rw [View.ld_unit_zero hz2]

end

section

variable (x0 : Vec Ideal S512x1024 .f32) (x1 x2 : Vec Ideal S1024x128 .bf16) (x3 : Vec Ideal S1x128 .f32)
  (x4 x5 x6 : Vec Ideal S4x1024x1024 .bf16) (x7 x8 : Vec Ideal S1x1024 .f32) (i : Fin 512)
  (gl : Fin 4 → EReal) (el : Fin 4 → Fin 8 → EReal)
  (hx : ∀ k, ∃ r : ℝ, x0 (ix2 i k) = (r : EReal)) (hlo : ∀ k l, x2 (ix2 k l) = 0)
  (hgl : ∀ g, (∑ k : Fin 1024, x0 (ix2 i k) * x1 (ix2 k (laneG g))) + x3 (ix2 0 (laneG g)) = gl g)
  (hel : ∀ g e, (∑ k : Fin 1024, x0 (ix2 i k) * x1 (ix2 k (laneE g e))) + x3 (ix2 0 (laneE g e)) = el g e)
  (hb : ∀ g e, el g e ≠ ⊥)

include hx hlo hgl hel hb

/-- The combining weights a point lays on lanes 4–35 are the router's, expert by expert. -/
theorem weights_apply (e : Fin 32) :
    k0_pay52 (F := Ideal) x0 x1 x2 x3 x4 x5 x6 x7 x8 (ix2 i ⟨4 + e.val, by omega⟩) = combine gl el e := by
  unfold k0_pay52 k0_pay51 k0_pay50 k0_pay49 k0_pay48 k0_pay47 k0_pay46 k0_pay45 k0_pay44 k0_pay42
  repeat rw [View.ld_unit_zero hz2]
  have h2 := pay2_apply i x0 x1 x2 x1 x3 hx hlo
  have hl : ∀ l : Fin 128, iota .tc S512x128 32 [1] iota_S512x128_d1_w32 (ix2 i l) = BitVec.ofNat 32 l.val := fun l => by
    pointwise []
  have h5 := pay5_apply i _ gl x0 x1 x2 x1 x3 h2 hgl
  have h6 := pay6_apply i _ gl x0 x1 x2 x1 x3 h2 hgl
  have h7 : k0_pay7 (F := Ideal) (ix2 i 0) = 1 := by pointwise [k0_pay7]
  have h14 := pay14_apply i _ (first gl) (el (first gl)) _ _ _ h2 hl h5 (hel _) (hb _)
  have h16 := pay16_apply i _ (first gl) (el (first gl)) _ _ _ h2 hl h5 (hel _) (hb _)
  have h17 := pay17_apply i _ (first gl) (el (first gl)) _ _ _ h2 hl h5 (hel _) (hb _)
  have h18 := pay18_apply i _ (first gl) (el (first gl)) _ _ _ h2 hl h5 (hel _) (hb _)
  rw [pay19_apply i _ _ _ _ _ _ _ hl h17 h14, h16, h18, h6, h7]
  have hc : ∀ j : Fin 8, ((⟨4 + e.val, by omega⟩ : Fin 128) = laneE (first gl) j) = (e.val = 8 * (first gl).val + j.val) := fun j =>
    propext ⟨fun h => by
      have : 4 + e.val = 4 + 8 * (first gl).val + j.val := congrArg Fin.val h
      omega, fun h => Fin.ext (by show 4 + e.val = 4 + 8 * (first gl).val + j.val; omega)⟩
  simp only [hc]
  rfl

/-- What a grid point leaves in the output block, at row `i` and column `c`. -/
theorem out_apply (c : Fin 1024) :
    out0_9 (F := Ideal) x0 x1 x2 x3 x4 x5 x6 x7 x8 (ix2 i c)
      = row (fun d => x0 (ix2 i d)) (fun g d k => x4 (ix3 g d k)) (fun g d k => x5 (ix3 g d k)) (fun g k d => x6 (ix3 g k d))
          (combine gl el) (fun d => x7 (ix2 0 d)) (fun d => x8 (ix2 0 d)) c :=
  out_of_weights x0 x1 x2 x3 x4 x5 x6 x7 x8 i _ (weights_apply x0 x1 x2 x3 x4 x5 x6 x7 x8 i gl el hx hlo hgl hel hb) c

end

end Cert.MoeBlock

end
-- ==== Proof.MoeHost.lean ====
/- What the host prepares for the mixture-of-experts launch, entry by entry: the router's weights side by side, the
   experts' weights stacked by group, and the low half of the router's weights, which is zero where they are finite. -/
module

public import proofs.«01_k».proof.Proof.MoeBlock

@[expose] public section

set_option maxRecDepth 16384

noncomputable section

namespace Cert.MoeHost

open Idealize.ShloMosaic Idealize.ShloMosaic.TcCoe Idealize.SL.Sem Cert.MoeIdeal Cert.MoeIdeal.Gen Cert.MoeIdeal.Value Cert.MoeBlock Cert.MoeLanes

variable (m : (ℓ : Loc nD τ sig) → Buf (Elt Ideal) ℓ) (ρ : Dev nD → PrngReg) (c : Dev nD)

/-- The experts' router weights with the group and the expert on one axis. -/
theorem flat_re (x : FVec Ideal S4x1024x8 .f32) (k : Fin 1024) (g : Fin 4) (e : Fin 8) (h : 4 + 8 * g.val + e.val - 4 < 32) :
    shapeCast S1024x32 (transpose S1024x4x8 [1, 0, 2] x transposes_S4x1024x8_S1024x4x8_1_0_2) shapeCasts_S1024x4x8_S1024x32
      (ix2 k ⟨4 + 8 * g.val + e.val - 4, h⟩) = x (ix3 g k e) := by
  pointwise []
  exact congrArg₂ (fun a b => x (ix3 a k b)) (Fin.ext (by show (4 + 8 * g.val + e.val - 4) / 8 = g.val; omega)) (Fin.ext (by show (4 + 8 * g.val + e.val - 4) % 8 = e.val; omega))

/-- The experts' biases on one axis. -/
theorem flat_be (x : FVec Ideal S4x8 .f32) (g : Fin 4) (e : Fin 8) (h : 4 + 8 * g.val + e.val - 4 < 32) :
    shapeCast S32 x shapeCasts_S4x8_S32 (ix1 ⟨4 + 8 * g.val + e.val - 4, h⟩) = x (ix2 g e) := by
  pointwise []
  exact congrArg₂ (fun a b => x (ix2 a b)) (Fin.ext (by show (4 + 8 * g.val + e.val - 4) / 8 = g.val; omega)) (Fin.ext (by show (4 + 8 * g.val + e.val - 4) % 8 = e.val; omega))

theorem V_v4G (k : Fin 1024) (g : Fin 4) :
    (V m c main_v4 : FVec Ideal S1024x128 .bf16) (ix2 k (laneG g)) = (m ((c : Thread nD τ).loc main_arg1) : FVec Ideal S1024x4 .f32) (ix2 k g) := by
  unfold_abbrev_sides
  after_results
  pointwise []
  repeat (first
    | rw [StableHlo.nullary_result] | rw [StableHlo.unary_result] | rw [StableHlo.reshape_result]
    | (rw [StableHlo.nullary_result_ne]; rotate_left; decide) | (rw [StableHlo.unary_result_ne]; rotate_left; decide)
    | (rw [StableHlo.binary_result_ne]; rotate_left; decide) | (rw [StableHlo.reshape_result_ne]; rotate_left; decide)
    | (rw [StableHlo.nary_result_ne]; rotate_left; decide))

theorem V_v4E (k : Fin 1024) (g : Fin 4) (e : Fin 8) :
    (V m c main_v4 : FVec Ideal S1024x128 .bf16) (ix2 k (laneE g e)) = (m ((c : Thread nD τ).loc main_arg3) : FVec Ideal S4x1024x8 .f32) (ix3 g k e) := by
  unfold_abbrev_sides
  after_results
  pointwise []
  rw [dif_neg (show ¬ (laneE g e).val < 4 by show ¬ 4 + 8 * g.val + e.val < 4; omega),
    dif_pos (show (laneE g e).val - 4 < 32 by show 4 + 8 * g.val + e.val - 4 < 32; omega)]
  repeat (first
    | rw [StableHlo.nullary_result] | rw [StableHlo.unary_result] | rw [StableHlo.reshape_result]
    | (rw [StableHlo.nullary_result_ne]; rotate_left; decide) | (rw [StableHlo.unary_result_ne]; rotate_left; decide)
    | (rw [StableHlo.binary_result_ne]; rotate_left; decide) | (rw [StableHlo.reshape_result_ne]; rotate_left; decide)
    | (rw [StableHlo.nary_result_ne]; rotate_left; decide))
  exact flat_re (m ((c : Thread nD τ).loc main_arg3)) k g e _

theorem V_v4_whole : (V m c main_v4 : FVec Ideal S1024x128 .bf16) = truncf (F := Ideal) .bf16 (V m c main_v3 : FVec Ideal S1024x128 .f32) bitsLt_bf16_f32 := by
  unfold_abbrev_sides
  after_results
  refine congrArg (fun w : FVec Ideal S1024x128 .f32 => truncf (F := Ideal) .bf16 w bitsLt_bf16_f32) (Eq.symm ?_)
  unfold_abbrev_sides
  after_results
  rfl

theorem V_v7_whole :
    (V m c main_v7 : FVec Ideal S1024x128 .bf16)
      = truncf (F := Ideal) .bf16 (subf (F := Ideal) (V m c main_v3 : FVec Ideal S1024x128 .f32) (extf (F := Ideal) .f32 (V m c main_v4 : FVec Ideal S1024x128 .bf16) bitsLt_bf16_f32)) bitsLt_bf16_f32 := by
  rw [V_v4_whole]
  unfold_abbrev_sides
  after_results
  refine congrArg (fun w : FVec Ideal S1024x128 .f32 => truncf (F := Ideal) .bf16 (subf (F := Ideal) w (extf (F := Ideal) .f32 (truncf (F := Ideal) .bf16 w bitsLt_bf16_f32) bitsLt_bf16_f32)) bitsLt_bf16_f32) (Eq.symm ?_)
  unfold_abbrev_sides
  after_results
  rfl

/-- The low half of a router weight is the weight less itself. -/
theorem V_v7 (k : Fin 1024) (l : Fin 128) (v : EReal) (hv : (V m c main_v4 : FVec Ideal S1024x128 .bf16) (ix2 k l) = v) :
    (V m c main_v7 : FVec Ideal S1024x128 .bf16) (ix2 k l) = v - v := by
  have h3 : (V m c main_v3 : FVec Ideal S1024x128 .f32) (ix2 k l) = v := by
    rw [← hv, V_v4_whole]
    rfl
  rw [V_v7_whole]
  show FloatOps.subf (F := Ideal) (φ := .f32) ((V m c main_v3 : FVec Ideal S1024x128 .f32) (ix2 k l)) ((V m c main_v4 : FVec Ideal S1024x128 .bf16) (ix2 k l)) = _
  rw [h3, hv]
  rfl

theorem V_v4Z (k : Fin 1024) (l : Fin 128) (h : 36 ≤ l.val) :
    (V m c main_v4 : FVec Ideal S1024x128 .bf16) (ix2 k l) = (0 : EReal) := by
  unfold_abbrev_sides
  after_results
  pointwise []
  rw [dif_neg (show ¬ l.val < 4 by omega), dif_neg (show ¬ l.val - 4 < 32 by omega)]
  repeat (first
    | rw [StableHlo.nullary_result] | rw [StableHlo.unary_result] | rw [StableHlo.reshape_result]
    | (rw [StableHlo.nullary_result_ne]; rotate_left; decide) | (rw [StableHlo.unary_result_ne]; rotate_left; decide)
    | (rw [StableHlo.binary_result_ne]; rotate_left; decide) | (rw [StableHlo.reshape_result_ne]; rotate_left; decide)
    | (rw [StableHlo.nary_result_ne]; rotate_left; decide))
  pointwise []
  rfl

theorem V_v11G (g : Fin 4) :
    (V m c main_v11 : FVec Ideal S1x128 .f32) (ix2 0 (laneG g)) = (m ((c : Thread nD τ).loc main_arg2) : FVec Ideal S4 .f32) (ix1 g) := by
  unfold_abbrev_sides
  after_results
  pointwise []
  repeat (first
    | rw [StableHlo.nullary_result] | rw [StableHlo.unary_result] | rw [StableHlo.reshape_result]
    | (rw [StableHlo.nullary_result_ne]; rotate_left; decide) | (rw [StableHlo.unary_result_ne]; rotate_left; decide)
    | (rw [StableHlo.binary_result_ne]; rotate_left; decide) | (rw [StableHlo.reshape_result_ne]; rotate_left; decide)
    | (rw [StableHlo.nary_result_ne]; rotate_left; decide))

theorem V_v11E (g : Fin 4) (e : Fin 8) :
    (V m c main_v11 : FVec Ideal S1x128 .f32) (ix2 0 (laneE g e)) = (m ((c : Thread nD τ).loc main_arg4) : FVec Ideal S4x8 .f32) (ix2 g e) := by
  unfold_abbrev_sides
  after_results
  pointwise []
  rw [dif_neg (show ¬ (laneE g e).val < 4 by show ¬ 4 + 8 * g.val + e.val < 4; omega),
    dif_pos (show (laneE g e).val - 4 < 32 by show 4 + 8 * g.val + e.val - 4 < 32; omega)]
  repeat (first
    | rw [StableHlo.nullary_result] | rw [StableHlo.unary_result] | rw [StableHlo.reshape_result]
    | (rw [StableHlo.nullary_result_ne]; rotate_left; decide) | (rw [StableHlo.unary_result_ne]; rotate_left; decide)
    | (rw [StableHlo.binary_result_ne]; rotate_left; decide) | (rw [StableHlo.reshape_result_ne]; rotate_left; decide)
    | (rw [StableHlo.nary_result_ne]; rotate_left; decide))
  exact flat_be (m ((c : Thread nD τ).loc main_arg4)) g e _

theorem V_v15 (g : Fin 4) (d k : Fin 1024) :
    (V m c main_v15 : FVec Ideal S4x1024x1024 .bf16) (ix3 g d k)
      = (m ((c : Thread nD τ).loc main_arg5) : FVec Ideal S32x1024x128 .f32) (ix3 ⟨8 * g.val + k.val / 128, by omega⟩ d ⟨k.val % 128, by omega⟩) := by
  unfold_abbrev_sides
  after_results
  pointwise []
  exact congrArg (fun e => (m ((c : Thread nD τ).loc main_arg5) : FVec Ideal S32x1024x128 .f32) (ix3 e d ⟨k.val % 128, by omega⟩)) (Fin.ext (by show g.val * 8 + k.val / 128 = 8 * g.val + k.val / 128; omega))

theorem V_v19 (g : Fin 4) (d k : Fin 1024) :
    (V m c main_v19 : FVec Ideal S4x1024x1024 .bf16) (ix3 g d k)
      = (m ((c : Thread nD τ).loc main_arg6) : FVec Ideal S32x1024x128 .f32) (ix3 ⟨8 * g.val + k.val / 128, by omega⟩ d ⟨k.val % 128, by omega⟩) := by
  unfold_abbrev_sides
  after_results
  pointwise []
  exact congrArg (fun e => (m ((c : Thread nD τ).loc main_arg6) : FVec Ideal S32x1024x128 .f32) (ix3 e d ⟨k.val % 128, by omega⟩)) (Fin.ext (by show g.val * 8 + k.val / 128 = 8 * g.val + k.val / 128; omega))

theorem V_v21 (g : Fin 4) (k d : Fin 1024) :
    (V m c main_v21 : FVec Ideal S4x1024x1024 .bf16) (ix3 g k d)
      = (m ((c : Thread nD τ).loc main_arg7) : FVec Ideal S32x128x1024 .f32) (ix3 ⟨8 * g.val + k.val / 128, by omega⟩ ⟨k.val % 128, by omega⟩ d) := by
  unfold_abbrev_sides
  after_results
  pointwise []
  exact congrArg (fun e => (m ((c : Thread nD τ).loc main_arg7) : FVec Ideal S32x128x1024 .f32) (ix3 e ⟨k.val % 128, by omega⟩ d)) (Fin.ext (by show g.val * 8 + k.val / 128 = 8 * g.val + k.val / 128; omega))

theorem V_v22 (d : Fin 1024) :
    (V m c main_v22 : FVec Ideal S1x1024 .f32) (ix2 0 d) = (m ((c : Thread nD τ).loc main_arg8) : FVec Ideal S1024 .f32) (ix1 d) := by
  unfold_abbrev_sides
  after_results
  pointwise []

theorem V_v23 (d : Fin 1024) :
    (V m c main_v23 : FVec Ideal S1x1024 .f32) (ix2 0 d) = (m ((c : Thread nD τ).loc main_arg9) : FVec Ideal S1024 .f32) (ix1 d) := by
  unfold_abbrev_sides
  after_results
  pointwise []

end Cert.MoeHost

end
-- ==== Proof.RowsInf.lean ====
/- Rows with an infinite entry: the layer norm of such a row is its bias, whatever the other entries are. -/
module

public import proofs.«01_k».proof.Proof.Rows

@[expose] public section

noncomputable section

namespace Cert.Rows

open Idealize.ShloMosaic

/-- A value that is +∞ or −∞. -/
def Inf (a : EReal) : Prop := a = ⊤ ∨ a = ⊥

theorem not_inf {a : EReal} (h : ¬ Inf a) : ∃ r : ℝ, a = r := by
  induction a with
  | bot => exact absurd (Or.inr rfl) h
  | coe r => exact ⟨r, rfl⟩
  | top => exact absurd (Or.inl rfl) h

theorem Inf.add_right {a : EReal} (h : Inf a) (b : EReal) : Inf (a + b) := by
  rcases h with rfl | rfl
  · induction b with
    | bot => exact Or.inr rfl
    | coe r => exact Or.inl (EReal.top_add_coe r)
    | top => exact Or.inl rfl
  · exact Or.inr (EReal.bot_add b)

theorem Inf.add_left {a : EReal} (h : Inf a) (b : EReal) : Inf (b + a) := add_comm a b ▸ h.add_right b

theorem Inf.sub_left {a : EReal} (h : Inf a) (b : EReal) : Inf (b - a) := by
  rw [sub_eq_add_neg]
  refine Inf.add_left ?_ b
  rcases h with rfl | rfl
  · exact Or.inr EReal.neg_top
  · exact Or.inl EReal.neg_bot

theorem Inf.square {a : EReal} (h : Inf a) : a * a = ⊤ := by
  rcases h with rfl | rfl
  · exact EReal.top_mul_top
  · exact EReal.bot_mul_bot

theorem Inf.mul_pos {a : EReal} (h : Inf a) {r : ℝ} (hr : 0 < r) : Inf (a * (r : EReal)) := by
  rcases h with rfl | rfl
  · exact Or.inl (EReal.top_mul_coe_of_pos hr)
  · exact Or.inr (EReal.bot_mul_coe_of_pos hr)

/-- A sum with an infinite term is infinite. -/
theorem Inf.sum {ι : Type*} [Fintype ι] (z : ι → EReal) (j : ι) (h : Inf (z j)) : Inf (∑ k, z k) := by
  classical
  rw [← Finset.add_sum_erase Finset.univ z (Finset.mem_univ j)]
  exact h.add_right _

theorem count_word : Ideal.ofBits .f32 0x44800000#32 = ((1024 : ℝ) : EReal) := by
  simp [Ideal.ofBits, Ideal.ieee]
  rw [← EReal.coe_mul]
  norm_num

theorem eps_word : ∃ r : ℝ, Ideal.ofBits .f32 0x3727C5AC#32 = (r : EReal) := by
  simp [Ideal.ofBits, Ideal.ieee]
  exact ⟨_, (EReal.coe_mul _ _).symm⟩

theorem alpha_pos : ∃ r : ℝ, 0 < r ∧ alpha = (r : EReal) := by
  refine ⟨(11863283 / 8388608 : ℝ), by norm_num, ?_⟩
  unfold alpha
  simp [Ideal.ofBits, Ideal.ieee]
  rw [← EReal.coe_mul]
  norm_num

theorem mean_inf (z : Fin 1024 → EReal) (j : Fin 1024) (h : Inf (z j)) : Inf (mean 0x44800000#32 z) := by
  unfold mean
  rw [count_word, Ideal.div_coe (by norm_num)]
  exact (Inf.sum z j h).mul_pos (by norm_num)

/-- The layer norm of a row with an infinite entry is its bias. -/
theorem layerNorm_inf (z g b : Fin 1024 → EReal) (j : Fin 1024) (h : Inf (z j)) (c : Fin 1024) : layerNorm z g b c = b c := by
  have hv : variance 0x44800000#32 z = ⊤ := by
    unfold variance
    have hs : (fun k => (z k - mean 0x44800000#32 z) * (z k - mean 0x44800000#32 z)) = fun _ => (⊤ : EReal) :=
      funext fun k => ((mean_inf z j h).sub_left (z k)).square
    rw [hs]
    unfold mean
    rw [count_word, Ideal.div_coe (by norm_num), ← Finset.add_sum_erase Finset.univ (fun _ : Fin 1024 => (⊤ : EReal)) (Finset.mem_univ j)]
    have hp : (0 : EReal) ≤ ∑ _k ∈ Finset.univ.erase j, (⊤ : EReal) := Finset.sum_nonneg fun _ _ => le_top
    rw [EReal.top_add_of_ne_bot (ne_of_gt (lt_of_lt_of_le EReal.bot_lt_zero hp))]
    exact EReal.top_mul_coe_of_pos (by norm_num)
  unfold layerNorm normed
  obtain ⟨e, he⟩ := eps_word
  rw [hv, he, EReal.top_add_coe]
  show (z c - _) * 0 * g c + b c = b c
  rw [mul_zero, zero_mul, zero_add]

/-- The scaled residual of an infinite entry is infinite, whatever is added. -/
theorem residual_inf {x : EReal} (h : Inf x) (y : EReal) : Inf (alpha * x + y) := by
  obtain ⟨r, hr, e⟩ := alpha_pos
  rw [e, mul_comm]
  exact (h.mul_pos hr).add_right y

end Cert.Rows

end
-- ==== Proof.MoeInf.lean ====
/- The mixture's row where something in it is infinite: an infinite token entry, or an infinite weight of the chosen
   experts, leaves the layer norm's bias, or has no effect at all. -/
module

public import proofs.«01_k».proof.Proof.RowsInf
public import proofs.«01_k».proof.Proof.MoeBlock

@[expose] public section

noncomputable section

namespace Cert.MoeInf

open Idealize.ShloMosaic Cert.Rows Cert.MoeBlock Cert.MoeRouter
open Cert.MoeLanes (groupWeight ratio combine)

/-- A token with an infinite entry has the layer norm's bias as its output, whatever the experts' weights are. -/
theorem row_inf (x : Fin 1024 → EReal) (wg wu wd : Fin 4 → Fin 1024 → Fin 1024 → EReal) (w : Fin 32 → EReal) (gm bt : Fin 1024 → EReal)
    (j : Fin 1024) (h : Inf (x j)) (c : Fin 1024) : row x wg wu wd w gm bt c = bt c :=
  layerNorm_inf _ _ _ j (residual_inf h _) c

theorem Inf.mul {a : EReal} (h : Inf a) {b : EReal} (hb : b ≠ 0) : Inf (a * b) := by
  rcases h with rfl | rfl <;> rcases lt_or_gt_of_ne hb with hb | hb
  · exact Or.inr (EReal.top_mul_of_neg hb)
  · exact Or.inl (EReal.top_mul_of_pos hb)
  · exact Or.inl (EReal.bot_mul_of_neg hb)
  · exact Or.inr (EReal.bot_mul_of_pos hb)

/-- Two values that are both zero or both infinite. -/
def Alike (a b : EReal) : Prop := (a = 0 ∧ b = 0) ∨ (Inf a ∧ Inf b)

theorem Alike.mul_right {a b : EReal} (h : Alike a b) (u : EReal) : Alike (a * u) (b * u) := by
  by_cases hu : u = 0
  · exact Or.inl ⟨by rw [hu, mul_zero], by rw [hu, mul_zero]⟩
  · rcases h with ⟨rfl, rfl⟩ | ⟨ha, hb⟩
    · exact Or.inl ⟨zero_mul _, zero_mul _⟩
    · exact Or.inr ⟨Inf.mul ha hu, Inf.mul hb hu⟩

theorem Alike.mul_left {a b : EReal} (h : Alike a b) (u : EReal) : Alike (u * a) (u * b) := by
  rw [mul_comm u a, mul_comm u b]
  exact h.mul_right u

/-- Two families of experts' weights, zero and infinite at the same experts, give a token the same output. -/
theorem row_alike (x : Fin 1024 → EReal) (wg wu wd : Fin 4 → Fin 1024 → Fin 1024 → EReal) (w w' : Fin 32 → EReal) (gm bt : Fin 1024 → EReal)
    (h : ∀ e, Alike (w e) (w' e)) (c : Fin 1024) : row x wg wu wd w gm bt c = row x wg wu wd w' gm bt c := by
  have term : ∀ g k d, Alike (hidden x (wg g) (wu g) (fun e => w ⟨8 * g.val + e.val, by omega⟩) k * wd g k d)
      (hidden x (wg g) (wu g) (fun e => w' ⟨8 * g.val + e.val, by omega⟩) k * wd g k d) := fun g k d =>
    ((h _).mul_left _).mul_right _
  by_cases hi : ∃ d g k, Inf (hidden x (wg g) (wu g) (fun e => w ⟨8 * g.val + e.val, by omega⟩) k * wd g k d)
      ∧ Inf (hidden x (wg g) (wu g) (fun e => w' ⟨8 * g.val + e.val, by omega⟩) k * wd g k d)
  · obtain ⟨d, g, k, h1, h2⟩ := hi
    unfold row
    refine (layerNorm_inf _ _ _ d ?_ c).trans (layerNorm_inf _ _ _ d ?_ c).symm
    · exact Inf.add_left (Inf.sum _ g (Inf.sum _ k h1)) _
    · exact Inf.add_left (Inf.sum _ g (Inf.sum _ k h2)) _
  · push Not at hi
    unfold row
    refine congrArg (fun z => layerNorm z gm bt c) (funext fun d => ?_)
    refine congrArg (fun s => alpha * x d + s) (Finset.sum_congr rfl fun g _ => Finset.sum_congr rfl fun k _ => ?_)
    rcases term g k d with ⟨h1, h2⟩ | ⟨h1, h2⟩
    · rw [h1, h2]
    · exact absurd h2 (hi d g k h1)

/-- The experts' weights from a group weight, the chosen group and its experts' logits. -/
def combineWith (gw : EReal) (g : Fin 4) (v : Fin 8 → EReal) (e : Fin 32) : EReal :=
  (if e.val = 8 * g.val + (first v).val then Ideal.div gw (1 + ratio v) else 0)
    + (if e.val = 8 * g.val + (second v).val then Ideal.div (gw * ratio v) (1 + ratio v) else 0)

theorem combine_eq (gl : Fin 4 → EReal) (el : Fin 4 → Fin 8 → EReal) (e : Fin 32) :
    combine gl el e = combineWith (groupWeight gl) (first gl) (el (first gl)) e := rfl

/-- Less an infinite greatest logit every logit's exponential is zero. -/
theorem exp_less_inf (gl : Fin 4 → EReal) (h : Inf (gl (first gl))) (k : Fin 4) : Ideal.exp (gl k - gl (first gl)) = 0 := by
  have e : gl k - gl (first gl) = ⊥ := by
    have hle := (first_spec gl).1 k
    rcases h with h | h
    · rw [h, sub_eq_add_neg, EReal.neg_top, EReal.add_bot]
    · rw [h, le_bot_iff] at hle
      rw [hle, sub_eq_add_neg, EReal.bot_add]
  rw [e]
  rfl

/-- With an infinite greatest logit the sum of the exponentials is zero and the kernel's group weight is +∞. -/
theorem groupWeight_inf (gl : Fin 4 → EReal) (h : Inf (gl (first gl))) : groupWeight gl = ⊤ := by
  unfold groupWeight
  rw [Finset.sum_eq_zero fun k _ => exp_less_inf gl h k]
  simp [Ideal.div]

/-- An infinite group weight, of either sign, makes the chosen experts' weights infinite and leaves the others zero. -/
theorem combineWith_alike (v : Fin 8 → EReal) (hr : ∀ e, ∃ r : ℝ, v e = r) (g : Fin 4) (e : Fin 32) :
    Alike (combineWith ⊤ g v e) (combineWith ⊥ g v e) := by
  obtain ⟨p, hp⟩ := hr (second v)
  obtain ⟨q, hq⟩ := hr (first v)
  have er : ratio v = ((Real.exp (p - q) : ℝ) : EReal) := by
    unfold ratio
    rw [hp, hq, ← EReal.coe_sub]
    rfl
  have hpos : (0 : ℝ) < 1 + Real.exp (p - q) := add_pos one_pos (Real.exp_pos _)
  have e1 : 1 + ratio v = ((1 + Real.exp (p - q) : ℝ) : EReal) := by rw [er, EReal.coe_add]; rfl
  have hd : (0 : ℝ) < 1 / (1 + Real.exp (p - q)) := one_div_pos.mpr hpos
  unfold combineWith
  rw [e1, er, EReal.top_mul_coe_of_pos (Real.exp_pos _), EReal.bot_mul_coe_of_pos (Real.exp_pos _), Ideal.div_coe hpos.ne', Ideal.div_coe hpos.ne',
    EReal.top_mul_coe_of_pos hd, EReal.bot_mul_coe_of_pos hd]
  by_cases h1 : e.val = 8 * g.val + (first v).val
  · rw [if_pos h1, if_pos h1]
    exact Or.inr ⟨Inf.add_right (Or.inl rfl) _, Inf.add_right (Or.inr rfl) _⟩
  · rw [if_neg h1, if_neg h1, zero_add, zero_add]
    by_cases h2 : e.val = 8 * g.val + (second v).val
    · rw [if_pos h2, if_pos h2]
      exact Or.inr ⟨Or.inl rfl, Or.inr rfl⟩
    · rw [if_neg h2, if_neg h2]
      exact Or.inl ⟨rfl, rfl⟩

end Cert.MoeInf

end
-- ==== Proof.MoeArray.lean ====
/- The mixture's output array: each window's block as entries of its array, and the array after the run as the token rows
   of the arguments, where the router's weights and its experts' biases are real numbers. -/
module

public import proofs.«01_k».proof.Proof.MoeHost
public import proofs.«01_k».proof.Proof.MoeInf

@[expose] public section

set_option maxRecDepth 16384

noncomputable section

namespace Cert.MoeArray

open Idealize.ShloMosaic Idealize.ShloMosaic.TcCoe Idealize.SL.Sem Cert.MoeIdeal Cert.MoeIdeal.Gen Cert.MoeIdeal.Value Cert.MoeBlock Cert.MoeLanes Cert.MoeHost

/-- The logit of group `g` of a token's row. -/
def groupLogit (x : Fin 1024 → EReal) (x1 : FVec Ideal S1024x4 .f32) (x2 : FVec Ideal S4 .f32) (g : Fin 4) : EReal :=
  (∑ k, x k * x1 (ix2 k g)) + x2 (ix1 g)

/-- The logit of expert `e` of group `g` of a token's row. -/
def expertLogit (x : Fin 1024 → EReal) (x3 : FVec Ideal S4x1024x8 .f32) (x4 : FVec Ideal S4x8 .f32) (g : Fin 4) (e : Fin 8) : EReal :=
  (∑ k, x k * x3 (ix3 g k e)) + x4 (ix2 g e)

/-- The expert that column `k` of group `g`'s stacked weights belongs to. -/
def expertOf (g : Fin 4) (k : Fin 1024) : Fin 32 := ⟨8 * g.val + k.val / 128, by omega⟩

/-- The hidden unit of its expert that column `k` is. -/
def unitOf (k : Fin 1024) : Fin 128 := ⟨k.val % 128, by omega⟩

/-- The mixture's output for all tokens as one function of the arguments. -/
def G (x0 : FVec Ideal S16384x1024 .f32) (x1 : FVec Ideal S1024x4 .f32) (x2 : FVec Ideal S4 .f32) (x3 : FVec Ideal S4x1024x8 .f32)
    (x4 : FVec Ideal S4x8 .f32) (x5 x6 : FVec Ideal S32x1024x128 .f32) (x7 : FVec Ideal S32x128x1024 .f32) (x8 x9 : FVec Ideal S1024 .f32) :
    FVec Ideal S16384x1024 .f32 := fun p =>
  row (fun d => x0 (ix2 (p 0 : Fin 16384) d)) (fun g d k => x5 (ix3 (expertOf g k) d (unitOf k))) (fun g d k => x6 (ix3 (expertOf g k) d (unitOf k)))
    (fun g k d => x7 (ix3 (expertOf g k) (unitOf k) d))
    (combine (groupLogit (fun d => x0 (ix2 (p 0 : Fin 16384) d)) x1 x2) (expertLogit (fun d => x0 (ix2 (p 0 : Fin 16384) d)) x3 x4))
    (fun d => x8 (ix1 d)) (fun d => x9 (ix1 d)) (p 1 : Fin 1024)

/-- A token with an infinite entry has the layer norm's bias as its output. -/
theorem G_inf (x0 : FVec Ideal S16384x1024 .f32) (x1 : FVec Ideal S1024x4 .f32) (x2 : FVec Ideal S4 .f32) (x3 : FVec Ideal S4x1024x8 .f32)
    (x4 : FVec Ideal S4x8 .f32) (x5 x6 : FVec Ideal S32x1024x128 .f32) (x7 : FVec Ideal S32x128x1024 .f32) (x8 x9 : FVec Ideal S1024 .f32)
    (t : Fin 16384) (k : Fin 1024) (h : Rows.Inf (x0 (ix2 t k))) (d : Fin 1024) : G x0 x1 x2 x3 x4 x5 x6 x7 x8 x9 (ix2 t d) = x9 (ix1 d) :=
  MoeInf.row_inf (fun d => x0 (ix2 t d)) _ _ _ _ _ _ k h d

/-- Every entry of the array is a real number. -/
def AllReal {S : Shape} (x : FVec Ideal S .f32) : Prop := ∀ p, ∃ r : ℝ, x p = (r : EReal)

/-- A sum of products of reals, and a real added, is a real. -/
theorem dot_real {n : Nat} (a b : Fin n → EReal) (d : EReal) (ha : ∀ k, ∃ r : ℝ, a k = r) (hb : ∀ k, ∃ r : ℝ, b k = r) (hd : ∃ r : ℝ, d = r) :
    ∃ r : ℝ, (∑ k, a k * b k) + d = (r : EReal) := by
  choose u hu using ha
  choose v hv using hb
  obtain ⟨w, rfl⟩ := hd
  have h : ∀ s : Finset (Fin n), ∑ k ∈ s, a k * b k = ((∑ k ∈ s, u k * v k : ℝ) : EReal) := fun s => by
    induction s using Finset.induction_on with
    | empty => simp
    | insert k s hk ih => rw [Finset.sum_insert hk, Finset.sum_insert hk, ih, hu, hv, EReal.coe_add, EReal.coe_mul]
  exact ⟨(∑ k, u k * v k) + w, by rw [h, EReal.coe_add]⟩

theorem expertLogit_real (x : Fin 1024 → EReal) (x3 : FVec Ideal S4x1024x8 .f32) (x4 : FVec Ideal S4x8 .f32)
    (hx : ∀ k, ∃ r : ℝ, x k = r) (h3 : AllReal x3) (h4 : AllReal x4) (g : Fin 4) (e : Fin 8) : ∃ r : ℝ, expertLogit x x3 x4 g e = r :=
  dot_real _ _ _ hx (fun _ => h3 _) (h4 _)

variable (m : (ℓ : Loc nD τ sig) → Buf (Elt Ideal) ℓ) (ρ : Dev nD → PrngReg) (c : Dev nD)

/-! Each window's block index: the tokens' and the output's windows advance with the grid point, the others stay. -/

theorem idx (t : Fin cfg0.N) :
    (win0_0.index t (0 : Fin 2) = t.val ∧ win0_0.index t (1 : Fin 2) = 0)
    ∧ (win0_9.index t (0 : Fin 2) = t.val ∧ win0_9.index t (1 : Fin 2) = 0) :=
  (by decide +kernel : ∀ t : Fin grid0.N,
    (win0_0.index t (0 : Fin 2) = t.val ∧ win0_0.index t (1 : Fin 2) = 0)
    ∧ (win0_9.index t (0 : Fin 2) = t.val ∧ win0_9.index t (1 : Fin 2) = 0)) t

theorem idxc (t : Fin cfg0.N) :
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0) :=
  (by decide +kernel : ∀ t : Fin grid0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)) t

/-- The token that row `i` of grid point `t`'s block is. -/
def tok (t : Fin cfg0.N) (i : Fin 512) : Fin 16384 := ⟨t.val * 512 + i.val, by have := t.isLt; have h : cfg0.N = 32 := rfl; omega⟩

theorem emb0 (t : Fin cfg0.N) (i : Fin 512) (d : Fin 1024) : ((cfg0.win 0).blk t).view.emb (ix2 i d) = ix2 (tok t i) d := by
  obtain ⟨⟨e0, e1⟩, -⟩ := idx t
  funext a; apply Fin.ext
  match a with
  | ⟨0, _⟩ => show win0_0.index t (0 : Fin 2) * 512 + 1 * i.val = t.val * 512 + i.val; omega
  | ⟨1, _⟩ => show win0_0.index t (1 : Fin 2) * 1024 + 1 * d.val = d.val; omega

theorem emb9 (t : Fin cfg0.N) (i : Fin 512) (d : Fin 1024) : ((cfg0.win 9).blk t).view.emb (ix2 i d) = ix2 (tok t i) d := by
  obtain ⟨-, e0, e1⟩ := idx t
  funext a; apply Fin.ext
  match a with
  | ⟨0, _⟩ => show win0_9.index t (0 : Fin 2) * 512 + 1 * i.val = t.val * 512 + i.val; omega
  | ⟨1, _⟩ => show win0_9.index t (1 : Fin 2) * 1024 + 1 * d.val = d.val; omega

theorem emb1 (t : Fin cfg0.N) (j : S1024x128.Idx) : ((cfg0.win 1).blk t).view.emb j = j := by
  have e := idxc t
  funext a; apply Fin.ext
  match a with
  | ⟨0, _⟩ => show win0_1.index t (0 : Fin 2) * 1024 + 1 * (j 0).val = (j 0).val; omega
  | ⟨1, _⟩ => show win0_1.index t (1 : Fin 2) * 128 + 1 * (j 1).val = (j 1).val; omega

theorem emb2 (t : Fin cfg0.N) (j : S1024x128.Idx) : ((cfg0.win 2).blk t).view.emb j = j := by
  have e := idxc t
  funext a; apply Fin.ext
  match a with
  | ⟨0, _⟩ => show win0_2.index t (0 : Fin 2) * 1024 + 1 * (j 0).val = (j 0).val; omega
  | ⟨1, _⟩ => show win0_2.index t (1 : Fin 2) * 128 + 1 * (j 1).val = (j 1).val; omega

theorem emb3 (t : Fin cfg0.N) (j : S1x128.Idx) : ((cfg0.win 3).blk t).view.emb j = j := by
  have e := idxc t
  funext a; apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

theorem emb4 (t : Fin cfg0.N) (j : S4x1024x1024.Idx) : ((cfg0.win 4).blk t).view.emb j = j := by
  have e := idxc t
  funext a; apply Fin.ext
  match a with
  | ⟨0, _⟩ => show win0_4.index t (0 : Fin 3) * 4 + 1 * (j 0).val = (j 0).val; omega
  | ⟨1, _⟩ => show win0_4.index t (1 : Fin 3) * 1024 + 1 * (j 1).val = (j 1).val; omega
  | ⟨2, _⟩ => show win0_4.index t (2 : Fin 3) * 1024 + 1 * (j 2).val = (j 2).val; omega

theorem emb5 (t : Fin cfg0.N) (j : S4x1024x1024.Idx) : ((cfg0.win 5).blk t).view.emb j = j := by
  have e := idxc t
  funext a; apply Fin.ext
  match a with
  | ⟨0, _⟩ => show win0_5.index t (0 : Fin 3) * 4 + 1 * (j 0).val = (j 0).val; omega
  | ⟨1, _⟩ => show win0_5.index t (1 : Fin 3) * 1024 + 1 * (j 1).val = (j 1).val; omega
  | ⟨2, _⟩ => show win0_5.index t (2 : Fin 3) * 1024 + 1 * (j 2).val = (j 2).val; omega

theorem emb6 (t : Fin cfg0.N) (j : S4x1024x1024.Idx) : ((cfg0.win 6).blk t).view.emb j = j := by
  have e := idxc t
  funext a; apply Fin.ext
  match a with
  | ⟨0, _⟩ => show win0_6.index t (0 : Fin 3) * 4 + 1 * (j 0).val = (j 0).val; omega
  | ⟨1, _⟩ => show win0_6.index t (1 : Fin 3) * 1024 + 1 * (j 1).val = (j 1).val; omega
  | ⟨2, _⟩ => show win0_6.index t (2 : Fin 3) * 1024 + 1 * (j 2).val = (j 2).val; omega

theorem emb7 (t : Fin cfg0.N) (j : S1x1024.Idx) : ((cfg0.win 7).blk t).view.emb j = j := by
  have e := idxc t
  funext a; apply Fin.ext
  match a with
  | ⟨0, _⟩ => show win0_7.index t (0 : Fin 2) * 1 + 1 * (j 0).val = (j 0).val; omega
  | ⟨1, _⟩ => show win0_7.index t (1 : Fin 2) * 1024 + 1 * (j 1).val = (j 1).val; omega

theorem emb8 (t : Fin cfg0.N) (j : S1x1024.Idx) : ((cfg0.win 8).blk t).view.emb j = j := by
  have e := idxc t
  funext a; apply Fin.ext
  match a with
  | ⟨0, _⟩ => show win0_8.index t (0 : Fin 2) * 1 + 1 * (j 0).val = (j 0).val; omega
  | ⟨1, _⟩ => show win0_8.index t (1 : Fin 2) * 1024 + 1 * (j 1).val = (j 1).val; omega

/-! So each window's block, entry by entry, is the arguments' entries. -/

theorem iblk0 (t : Fin cfg0.N) (i : Fin 512) (d : Fin 1024) :
    (iblk m c 0 t : FVec Ideal S512x1024 .f32) (ix2 i d) = (m ((c : Thread nD τ).loc main_arg0) : FVec Ideal S16384x1024 .f32) (ix2 (tok t i) d) := by
  rw [← V_main_arg0 m c]
  exact congrArg (V m c main_arg0) (emb0 t i d)

theorem iblk1G (t : Fin cfg0.N) (k : Fin 1024) (g : Fin 4) :
    (iblk m c 1 t : FVec Ideal S1024x128 .bf16) (ix2 k (laneG g)) = (m ((c : Thread nD τ).loc main_arg1) : FVec Ideal S1024x4 .f32) (ix2 k g) :=
  (congrArg (V m c main_v4) (emb1 t (ix2 k (laneG g)))).trans (V_v4G m c k g)

theorem iblk1E (t : Fin cfg0.N) (k : Fin 1024) (g : Fin 4) (e : Fin 8) :
    (iblk m c 1 t : FVec Ideal S1024x128 .bf16) (ix2 k (laneE g e)) = (m ((c : Thread nD τ).loc main_arg3) : FVec Ideal S4x1024x8 .f32) (ix3 g k e) :=
  (congrArg (V m c main_v4) (emb1 t (ix2 k (laneE g e)))).trans (V_v4E m c k g e)

/-- Every prepared router weight is a real number. -/
theorem v4_real (h1 : AllReal (m ((c : Thread nD τ).loc main_arg1) : FVec Ideal S1024x4 .f32)) (h3 : AllReal (m ((c : Thread nD τ).loc main_arg3) : FVec Ideal S4x1024x8 .f32)) (k : Fin 1024) (l : Fin 128) :
    ∃ r : ℝ, (V m c main_v4 : FVec Ideal S1024x128 .bf16) (ix2 k l) = (r : EReal) := by
  by_cases hl : l.val < 4
  · rw [show l = laneG ⟨l.val, hl⟩ from rfl, V_v4G]
    exact h1 _
  by_cases hl' : l.val < 36
  · rw [show l = laneE ⟨(l.val - 4) / 8, by omega⟩ ⟨(l.val - 4) % 8, by omega⟩ from
      Fin.ext (by show l.val = 4 + 8 * ((l.val - 4) / 8) + (l.val - 4) % 8; omega), V_v4E]
    exact h3 _
  · exact ⟨0, (V_v4Z m c k l (by omega)).trans EReal.coe_zero.symm⟩

/-- The low half of the router's weights is zero. -/
theorem iblk2 (h1 : AllReal (m ((c : Thread nD τ).loc main_arg1) : FVec Ideal S1024x4 .f32)) (h3 : AllReal (m ((c : Thread nD τ).loc main_arg3) : FVec Ideal S4x1024x8 .f32)) (t : Fin cfg0.N) (k : Fin 1024) (l : Fin 128) :
    (iblk m c 2 t : FVec Ideal S1024x128 .bf16) (ix2 k l) = (0 : EReal) := by
  obtain ⟨r, hr⟩ := v4_real m c h1 h3 k l
  refine (congrArg (V m c main_v7) (emb2 t (ix2 k l))).trans ((V_v7 m c k l _ hr).trans ?_)
  rw [← EReal.coe_sub, sub_self, EReal.coe_zero]

theorem iblk3G (t : Fin cfg0.N) (g : Fin 4) :
    (iblk m c 3 t : FVec Ideal S1x128 .f32) (ix2 0 (laneG g)) = (m ((c : Thread nD τ).loc main_arg2) : FVec Ideal S4 .f32) (ix1 g) :=
  (congrArg (V m c main_v11) (emb3 t (ix2 0 (laneG g)))).trans (V_v11G m c g)

theorem iblk3E (t : Fin cfg0.N) (g : Fin 4) (e : Fin 8) :
    (iblk m c 3 t : FVec Ideal S1x128 .f32) (ix2 0 (laneE g e)) = (m ((c : Thread nD τ).loc main_arg4) : FVec Ideal S4x8 .f32) (ix2 g e) :=
  (congrArg (V m c main_v11) (emb3 t (ix2 0 (laneE g e)))).trans (V_v11E m c g e)

theorem iblk4 (t : Fin cfg0.N) (g : Fin 4) (d k : Fin 1024) :
    (iblk m c 4 t : FVec Ideal S4x1024x1024 .bf16) (ix3 g d k) = (m ((c : Thread nD τ).loc main_arg5) : FVec Ideal S32x1024x128 .f32) (ix3 (expertOf g k) d (unitOf k)) :=
  (congrArg (V m c main_v15) (emb4 t (ix3 g d k))).trans (V_v15 m c g d k)

theorem iblk5 (t : Fin cfg0.N) (g : Fin 4) (d k : Fin 1024) :
    (iblk m c 5 t : FVec Ideal S4x1024x1024 .bf16) (ix3 g d k) = (m ((c : Thread nD τ).loc main_arg6) : FVec Ideal S32x1024x128 .f32) (ix3 (expertOf g k) d (unitOf k)) :=
  (congrArg (V m c main_v19) (emb5 t (ix3 g d k))).trans (V_v19 m c g d k)

theorem iblk6 (t : Fin cfg0.N) (g : Fin 4) (k d : Fin 1024) :
    (iblk m c 6 t : FVec Ideal S4x1024x1024 .bf16) (ix3 g k d) = (m ((c : Thread nD τ).loc main_arg7) : FVec Ideal S32x128x1024 .f32) (ix3 (expertOf g k) (unitOf k) d) :=
  (congrArg (V m c main_v21) (emb6 t (ix3 g k d))).trans (V_v21 m c g k d)

theorem iblk7 (t : Fin cfg0.N) (d : Fin 1024) :
    (iblk m c 7 t : FVec Ideal S1x1024 .f32) (ix2 0 d) = (m ((c : Thread nD τ).loc main_arg8) : FVec Ideal S1024 .f32) (ix1 d) :=
  (congrArg (V m c main_v22) (emb7 t (ix2 0 d))).trans (V_v22 m c d)

theorem iblk8 (t : Fin cfg0.N) (d : Fin 1024) :
    (iblk m c 8 t : FVec Ideal S1x1024 .f32) (ix2 0 d) = (m ((c : Thread nD τ).loc main_arg9) : FVec Ideal S1024 .f32) (ix1 d) :=
  (congrArg (V m c main_v23) (emb8 t (ix2 0 d))).trans (V_v23 m c d)

/-- `G` at the launch's arguments. -/
def res : FVec Ideal S16384x1024 .f32 :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The router's weights and its experts' biases are real numbers. -/
structure RouterReal : Prop where
  wg : AllReal (m ((c : Thread nD τ).loc main_arg1) : FVec Ideal S1024x4 .f32)
  we : AllReal (m ((c : Thread nD τ).loc main_arg3) : FVec Ideal S4x1024x8 .f32)
  be : AllReal (m ((c : Thread nD τ).loc main_arg4) : FVec Ideal S4x8 .f32)

/-- What a grid point writes back is its block of the mixture of all tokens. -/
theorem flushed_eq (h : RouterReal m c) (t : Fin cfg0.N) :
    (dats m 0 c).flushed 9 t = ((cfg0.win 9).blk t).view.read (Elt Ideal) (res m c) := by
  rw [flushed9]
  funext j
  obtain ⟨i, d, rfl⟩ : ∃ (i : Fin 512) (d : Fin 1024), j = ix2 i d := ⟨j 0, j 1, eq_ix2 j⟩
  show out0_9 (F := Ideal) _ _ _ _ _ _ _ _ _ (ix2 i d) = res m c (((cfg0.win 9).blk t).view.emb (ix2 i d))
  rw [emb9]
  by_cases hi : ∃ k, Rows.Inf ((m ((c : Thread nD τ).loc main_arg0) : FVec Ideal S16384x1024 .f32) (ix2 (tok t i) k))
  · obtain ⟨k, hk⟩ := hi
    have hG : res m c (ix2 (tok t i) d) = (m ((c : Thread nD τ).loc main_arg9) : FVec Ideal S1024 .f32) (ix1 d) :=
      G_inf _ _ _ _ _ _ _ _ _ _ (tok t i) k hk d
    rw [hG, ← iblk8 m c t d, out_of_weights _ _ _ _ _ _ _ _ _ i _ (fun _ => rfl)]
    refine MoeInf.row_inf _ _ _ _ _ _ _ k ?_ d
    show Rows.Inf ((iblk m c 0 t : FVec Ideal S512x1024 .f32) (ix2 i k))
    rw [iblk0]
    exact hk
  have hx : ∀ k, ∃ r : ℝ, (fun d => (m ((c : Thread nD τ).loc main_arg0) : FVec Ideal S16384x1024 .f32) (ix2 (tok t i) d)) k = (r : EReal) := fun k =>
    Rows.not_inf fun hk => hi ⟨k, hk⟩
  refine (out_apply _ _ _ _ _ _ _ _ _ i
    (groupLogit (fun d => (m ((c : Thread nD τ).loc main_arg0) : FVec Ideal S16384x1024 .f32) (ix2 (tok t i) d)) (m ((c : Thread nD τ).loc main_arg1)) (m ((c : Thread nD τ).loc main_arg2)))
    (expertLogit (fun d => (m ((c : Thread nD τ).loc main_arg0) : FVec Ideal S16384x1024 .f32) (ix2 (tok t i) d)) (m ((c : Thread nD τ).loc main_arg3)) (m ((c : Thread nD τ).loc main_arg4)))
    (fun k => ?_) (fun k l => iblk2 m c h.wg h.we t k l) (fun g => ?_) (fun g e => ?_) (fun g e => ?_) d).trans ?_
  · obtain ⟨r, hr⟩ := hx k
    exact ⟨r, (iblk0 m c t i k).trans hr⟩
  · simp only [iblk0, iblk1G, iblk3G]
    rfl
  · simp only [iblk0, iblk1E, iblk3E]
    rfl
  · obtain ⟨r, hr⟩ := expertLogit_real _ _ _ hx h.we h.be g e
    rw [hr]
    exact EReal.coe_ne_bot r
  · simp only [iblk0, iblk4, iblk5, iblk6, iblk7, iblk8]
    rfl

/-- Every index of the output array is in some grid point's block. -/
theorem covered (p : S16384x1024.Idx) : ∃ t : Fin cfg0.N, (cfg0.win 9).flush t = true ∧ p ∈ ((cfg0.win 9).blk t).view.set := by
  obtain ⟨i, d, rfl⟩ : ∃ (i : Fin 16384) (d : Fin 1024), p = ix2 i d := ⟨p 0, p 1, eq_ix2 p⟩
  refine ⟨⟨i.val / 512, by show i.val / 512 < 32; omega⟩, flush0_9 _, ?_⟩
  have h := ((cfg0.win 9).blk ⟨i.val / 512, by show i.val / 512 < 32; omega⟩).view.emb_mem_set (ix2 (⟨i.val % 512, by omega⟩ : Fin 512) d)
  rw [emb9] at h
  have e : tok ⟨i.val / 512, by show i.val / 512 < 32; omega⟩ ⟨i.val % 512, by omega⟩ = i := Fin.ext (by show i.val / 512 * 512 + i.val % 512 = i.val; omega)
  rwa [e] at h

/-- The output array after the run. -/
theorem final (h : RouterReal m c) : (dats m 0 c).arrAt 9 cfg0.N = res m c :=
  (dats m 0 c).arrAt_eq_of_cover 9 (res m c) (fun t _ => flushed_eq m c h t) covered

end Cert.MoeArray

end
-- ==== Proof.MoeRefOps.lean ====
/- The reference's shape operations the router uses, each read at one token: the top-k of a row, and the two
   gathers along the group axis. -/
module

public import proofs.«01_k».proof.Proof.MoeLanes
public import proofs.«01_k».proof.Proof.Gen.MoeRefIdeal.Read

@[expose] public section

set_option maxRecDepth 16384

noncomputable section

namespace Cert.MoeRefOps

open Idealize.ShloMosaic Idealize.ShloMosaic.TcCoe Cert.MoeRefIdeal Cert.MoeRefIdeal.Read Cert.MoeRouter

/-- Replacing the last coordinate of a two-axis index. -/
theorem along_last {a b : Nat} (t : Fin a) (e k : Fin b) :
    Shape.Idx.along (s := ⟨2, ![a, b]⟩) (ix2 t e) 1 k = ix2 t k := by
  funext i
  match i with
  | ⟨0, _⟩ => rfl
  | ⟨1, _⟩ => rfl

/-- The sort along the last axis, read at one row: the row's own stable sort. -/
theorem sort_row {a n : Nat} (x : FVec Ideal ⟨2, ![a, n + 1]⟩ .f32) (t : Fin a) (j : Fin (n + 1)) :
    sortedFrom (fun k k' => FloatOps.cmpfTotal (F := Ideal) (φ := .f32) .gt
        (x (Shape.Idx.along (s := ⟨2, ![a, n + 1]⟩) (ix2 t j) 1 k)) (x (Shape.Idx.along (s := ⟨2, ![a, n + 1]⟩) (ix2 t j) 1 k')) == 1#1) j
      = sortedFrom (before (fun e => x (ix2 t e))) j := by
  rw [← sortedFrom_gt (fun e => x (ix2 t e))]
  exact congrArg (fun f => sortedFrom f j) (funext fun k => funext fun k' =>
    congrArg₂ (fun p q => FloatOps.cmpfTotal (F := Ideal) (φ := .f32) .gt (x p) (x q) == 1#1) (along_last t j k) (along_last t j k'))

/-- The values of the top-k of rows, in order of the stable sort. -/
theorem topK_value {a n k : Nat} (x : FVec Ideal ⟨2, ![a, n + 1]⟩ .f32)
    (h : (⟨2, ![a, n + 1]⟩ : Shape).Slices (fun _ => 0) ⟨2, ![a, k]⟩) (t : Fin a) (j : Fin k) (hj : j.val < n + 1) :
    (Host.topK ⟨2, ![a, k]⟩ 1 (FloatOps.cmpfTotal (F := Ideal) (φ := .f32) .gt) x h).1 (ix2 t j)
      = x (ix2 t (sortedFrom (before (fun e => x (ix2 t e))) ⟨j.val, hj⟩)) := by
  unfold Host.topK
  dsimp only
  refine (extractStridedSlice_apply (fun _ => 0) _ h (ix2 t j) (ix2 t ⟨j.val, hj⟩) (fun b => match b with
    | ⟨0, _⟩ => (Nat.zero_add _).symm
    | ⟨1, _⟩ => (Nat.zero_add _).symm)).trans ?_
  rw [← sort_row]
  exact congrArg x (along_last t ⟨j.val, hj⟩ _)

/-- The positions of the top-k of rows, as 32-bit words. -/
theorem topK_index {a n k : Nat} (x : FVec Ideal ⟨2, ![a, n + 1]⟩ .f32)
    (h : (⟨2, ![a, n + 1]⟩ : Shape).Slices (fun _ => 0) ⟨2, ![a, k]⟩) (t : Fin a) (j : Fin k) (hj : j.val < n + 1) :
    (Host.topK ⟨2, ![a, k]⟩ 1 (FloatOps.cmpfTotal (F := Ideal) (φ := .f32) .gt) x h).2 (ix2 t j)
      = BitVec.ofNat 32 (sortedFrom (before (fun e => x (ix2 t e))) ⟨j.val, hj⟩).val := by
  unfold Host.topK
  dsimp only
  refine (extractStridedSlice_apply (fun _ => 0) _ h (ix2 t j) (ix2 t ⟨j.val, hj⟩) (fun b => match b with
    | ⟨0, _⟩ => (Nat.zero_add _).symm
    | ⟨1, _⟩ => (Nat.zero_add _).symm)).trans ?_
  rw [← sort_row]
  rfl

/-! ## The gathers -/

/-- The start index of result index `(t, 0)`. -/
abbrev g0 (t : Fin 16384) : S16384x1x1.Idx := ix3 t 0 0

/-- The group softmax taken at each token's own group. -/
theorem gather4 (x : FVec Ideal S16384x4 .f32) (idx : IVec S16384x1x1 32) (t : Fin 16384) :
    Host.gather gather_S16384x4_S16384x1x1_S16384x1_n_1_0_0_1_2_11 x idx (ix2 t 0)
      = x (ix2 t ⟨min (idx (g0 t)).toInt.toNat 3, by omega⟩) := by
  unfold Host.gather
  congr 1
  funext a
  refine Fin.ext ?_
  generalize hd : gather_S16384x4_S16384x1x1_S16384x1_n_1_0_0_1_2_11 = d
  show d.start (ix2 t 0) idx a + d.batchCoord (ix2 t 0) a + d.offCoord (ix2 t 0) a = _
  subst hd
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16384x4_S16384x1x1_S16384x1_n_1_0_0_1_2_11.operandBatchingDims from List.mem_singleton.mpr rfl)]
    rfl
  · rw [GatherDims.batchCoord_eq_zero _ _ _ (fun h => by have := List.mem_singleton.mp h; exact absurd this (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x4_S16384x1x1_S16384x1_n_1_0_0_1_2_11.startIndexMap from List.mem_singleton.mpr rfl)]
    have hsi : gather_S16384x4_S16384x1x1_S16384x1_n_1_0_0_1_2_11.siIdx (ix2 t 0)
        ⟨List.idxOf (1 : Fin 2) gather_S16384x4_S16384x1x1_S16384x1_n_1_0_0_1_2_11.startIndexMap,
          List.idxOf_lt_length_iff.2 (List.mem_singleton.mpr rfl)⟩ = g0 t := by
      funext b; refine Fin.ext ?_
      match b with
      | ⟨0, _⟩ => rfl
      | ⟨1, _⟩ => rfl
      | ⟨2, _⟩ => rfl
    rw [hsi]
    rfl

/-- The expert logits taken at each token's own group. -/
theorem gather8 (x : FVec Ideal S16384x4x8 .f32) (idx : IVec S16384x1x1 32) (t : Fin 16384) (e : Fin 8) :
    Host.gather gather_S16384x4x8_S16384x1x1_S16384x1x8_2_1_0_0_1_2_118 x idx (ix3 t 0 e)
      = x (ix3 t ⟨min (idx (g0 t)).toInt.toNat 3, by omega⟩ e) := by
  unfold Host.gather
  congr 1
  funext a
  refine Fin.ext ?_
  generalize hd : gather_S16384x4x8_S16384x1x1_S16384x1x8_2_1_0_0_1_2_118 = d
  show d.start (ix3 t 0 e) idx a + d.batchCoord (ix3 t 0 e) a + d.offCoord (ix3 t 0 e) a = _
  subst hd
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S16384x4x8_S16384x1x1_S16384x1x8_2_1_0_0_1_2_118.operandBatchingDims from List.mem_singleton.mpr rfl)]
    rfl
  · rw [GatherDims.batchCoord_eq_zero _ _ _ (fun h => by have := List.mem_singleton.mp h; exact absurd this (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S16384x4x8_S16384x1x1_S16384x1x8_2_1_0_0_1_2_118.startIndexMap from List.mem_singleton.mpr rfl)]
    have hsi : gather_S16384x4x8_S16384x1x1_S16384x1x8_2_1_0_0_1_2_118.siIdx (ix3 t 0 e)
        ⟨List.idxOf (1 : Fin 3) gather_S16384x4x8_S16384x1x1_S16384x1x8_2_1_0_0_1_2_118.startIndexMap,
          List.idxOf_lt_length_iff.2 (List.mem_singleton.mpr rfl)⟩ = g0 t := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by have := List.mem_singleton.mp h; exact absurd this (by decide))]
    unfold GatherDims.start
    rw [dif_neg (show ¬ (2 : Fin 3) ∈ gather_S16384x4x8_S16384x1x1_S16384x1x8_2_1_0_0_1_2_118.startIndexMap from
      fun h => by have := List.mem_singleton.mp h; exact absurd this (by decide))]
    simp only [Nat.zero_add]
    rfl

end Cert.MoeRefOps

end
-- ==== Proof.MoeRefRouter.lean ====
/- The reference's router at one token: the group logits, the chosen group and its softmax weight, the chosen
   group's expert logits, the two chosen experts and their weights, and the weight of each of the 32 experts. -/
module

public import proofs.«01_k».proof.Proof.MoeRefOps
public import proofs.«01_k».proof.Proof.MoeArray
public import Idealize.ShloMosaic.Lib.ReduceAll

@[expose] public section

set_option maxRecDepth 16384

noncomputable section

namespace Cert.MoeRefRouter

open Idealize.ShloMosaic Idealize.ShloMosaic.TcCoe Cert.MoeRefIdeal Cert.MoeRefIdeal.Read Cert.MoeRouter Cert.MoeRefOps
open Cert.MoeLanes (groupWeight ratio)
open Cert.MoeInf (combineWith)
open Cert.MoeArray (groupLogit expertLogit)

variable (x0 : FVec Ideal S16384x1024 .f32) (x1 : FVec Ideal S1024x4 .f32) (x2 : FVec Ideal S4 .f32)
    (x3 : FVec Ideal S4x1024x8 .f32) (x4 : FVec Ideal S4x8 .f32)

/-- Token `t`'s group logits. -/
abbrev gl (t : Fin 16384) : Fin 4 → EReal := groupLogit (fun d => x0 (ix2 t d)) x1 x2

/-- Token `t`'s expert logits. -/
abbrev el (t : Fin 16384) : Fin 4 → Fin 8 → EReal := expertLogit (fun d => x0 (ix2 t d)) x3 x4

theorem v3_apply (t : Fin 16384) (g : Fin 4) : val_main_v3 (F := Ideal) x0 x1 x2 (ix2 t g) = gl x0 x1 x2 t g := by
  pointwise [val_main_v0, val_main_v1, val_main_v2, val_main_v3]
  rfl

theorem v22_apply (t : Fin 16384) (g : Fin 4) (e : Fin 8) :
    val_main_v22 (F := Ideal) x0 x3 x4 (ix3 t g e) = el x0 x3 x4 t g e := by
  pointwise [val_main_v19, val_main_v20, val_main_v21, val_main_v22]
  rfl

/-! ## Words -/

/-- Wrapping a nonnegative group number changes nothing. -/
theorem wrap : ∀ g : Fin 4, Scalar.select (IntOp.cmpi .slt (BitVec.ofNat 32 g.val) 0#32) (IntOp.addi (BitVec.ofNat 32 g.val) 4#32)
    (BitVec.ofNat 32 g.val) = BitVec.ofNat 32 g.val := by
  decide

/-- A group number lies between 0 and 3. -/
theorem inside : ∀ g : Fin 4, IntOp.andi (IntOp.cmpi .sge (BitVec.ofNat 32 g.val) 0#32) (IntOp.cmpi .sle (BitVec.ofNat 32 g.val) 3#32) = 1#1 := by
  decide

/-- A group number clamped to the group axis is itself. -/
theorem clamp : ∀ g : Fin 4, min (BitVec.ofNat 32 g.val).toInt.toNat 3 = g.val := by
  decide

/-- The one-hot comparison of an expert's number. -/
theorem onehot (g : Fin 4) (j : Fin 8) (e : Fin 32) :
    FloatOps.uitofp (F := Ideal) .f32 (IntOp.cmpi .eq (IntOp.addi (IntOp.muli (BitVec.ofNat 32 g.val) 8#32) (BitVec.ofNat 32 j.val)) (BitVec.ofNat 32 e.val))
      = (if e.val = 8 * g.val + j.val then (1 : EReal) else 0) := by
  have hw : IntOp.addi (IntOp.muli (BitVec.ofNat 32 g.val) 8#32) (BitVec.ofNat 32 j.val) = BitVec.ofNat 32 (8 * g.val + j.val) := by
    revert g j; decide
  rw [hw]
  have hc : IntOp.cmpi .eq (BitVec.ofNat 32 (8 * g.val + j.val)) (BitVec.ofNat 32 e.val) = if e.val = 8 * g.val + j.val then 1#1 else 0#1 := by
    by_cases h : e.val = 8 * g.val + j.val
    · rw [if_pos h, h]
      show BitVec.ofBool (_ == _) = _
      rw [beq_self_eq_true]
      rfl
    · rw [if_neg h]
      have : BitVec.ofNat 32 (8 * g.val + j.val) ≠ BitVec.ofNat 32 e.val := fun q => h (by
        have := congrArg BitVec.toNat q
        simp only [BitVec.toNat_ofNat] at this
        omega)
      show BitVec.ofBool (_ == _) = _
      rw [beq_eq_false_iff_ne.mpr this]
      rfl
  rw [hc]
  split
  · show (((1#1 : BitVec 1).toNat : ℝ) : EReal) = 1
    norm_num
  · show (((0#1 : BitVec 1).toNat : ℝ) : EReal) = 0
    norm_num

/-! ## The group -/

theorem indices_apply (t : Fin 16384) :
    val_main_indices (F := Ideal) x0 x1 x2 (ix2 t 0) = BitVec.ofNat 32 (first (gl x0 x1 x2 t)).val := by
  refine (topK_index (n := 3) (k := 1) (val_main_v3 (F := Ideal) x0 x1 x2) _ t 0 (by decide)).trans ?_
  rw [show (fun e => val_main_v3 (F := Ideal) x0 x1 x2 (ix2 t e)) = gl x0 x1 x2 t from funext fun e => v3_apply x0 x1 x2 t e]
  exact congrArg (fun j : Fin 4 => BitVec.ofNat 32 j.val) (sortedFrom_zero _ _ (first_spec _))

theorem v4_apply (t : Fin 16384) :
    val_main_v4 (F := Ideal) x0 x1 x2 (ix1 t) = BitVec.ofNat 32 (first (gl x0 x1 x2 t)).val := by
  rw [← indices_apply]
  pointwise [val_main_v4]

theorem v7_apply (t : Fin 16384) : val_main_v7 (F := Ideal) x0 x1 x2 (ix1 t) = gl x0 x1 x2 t (first (gl x0 x1 x2 t)) := by
  pointwise [val_main_v5, val_main_v6, val_main_v7, val_main_cst, val_main_cst_0]
  rw [MoeLanes.negInf, show (fun e => val_main_v3 (F := Ideal) x0 x1 x2 (ix2 t e)) = gl x0 x1 x2 t from funext fun e => v3_apply x0 x1 x2 t e,
    fold_max _ _ (first_spec _)]
  exact max_eq_right bot_le

theorem v15_apply (t : Fin 16384) (g : Fin 4) : val_main_v15 (F := Ideal) x0 x1 x2 (ix2 t g)
    = Ideal.div (Ideal.exp (gl x0 x1 x2 t g - gl x0 x1 x2 t (first (gl x0 x1 x2 t))))
        (∑ k, Ideal.exp (gl x0 x1 x2 t k - gl x0 x1 x2 t (first (gl x0 x1 x2 t)))) := by
  pointwise [val_main_v8, val_main_v9, val_main_v10, val_main_v11, val_main_v12, val_main_v13, val_main_v14, val_main_v15, val_main_cst_1]
  simp only [v3_apply, v7_apply]

theorem start0 (t : Fin 16384) :
    val_main_call0_v5 (F := Ideal) x0 x1 x2 (ix3 t 0 0) = BitVec.ofNat 32 (first (gl x0 x1 x2 t)).val := by
  pointwise [val_main_v16, val_main_call0_c, val_main_call0_v0, val_main_call0_v1, val_main_call0_c_0, val_main_call0_v2, val_main_call0_v3,
    val_main_call0_v4, val_main_call0_v5]
  rw [v4_apply]
  exact wrap _

theorem inside0 (t : Fin 16384) : val_main_call0_v12 (F := Ideal) x0 x1 x2 (ix2 t 0) = 1#1 := by
  refine Host.reduce_andi_one _ _ _ _ _ rfl fun i => ?_
  obtain ⟨t, a, b, rfl⟩ : ∃ (t : Fin 16384) (a b : Fin 1), i = ix3 t a b := ⟨i 0, i 1, i 2, eq_ix3 i⟩
  obtain rfl : a = 0 := Subsingleton.elim _ _
  obtain rfl : b = 0 := Subsingleton.elim _ _
  pointwise [val_main_call0_c_1, val_main_call0_c_2, val_main_call0_v6, val_main_call0_v7, val_main_call0_v8, val_main_call0_v9, val_main_call0_v10,
    val_main_call0_v11]
  rw [start0]
  exact inside _

theorem start1 (t : Fin 16384) :
    val_main_call1_v4 (F := Ideal) x0 x1 x2 (ix3 t 0 0) = BitVec.ofNat 32 (first (gl x0 x1 x2 t)).val := by
  pointwise [val_main_v23, val_main_call1_c, val_main_call1_v0, val_main_call1_v1, val_main_call1_c_0, val_main_call1_v2, val_main_call1_v3,
    val_main_call1_v4]
  rw [v4_apply]
  exact wrap _

theorem inside1 (t : Fin 16384) : val_main_call1_v11 (F := Ideal) x0 x1 x2 (ix2 t 0) = 1#1 := by
  refine Host.reduce_andi_one _ _ _ _ _ rfl fun i => ?_
  obtain ⟨t, a, b, rfl⟩ : ∃ (t : Fin 16384) (a b : Fin 1), i = ix3 t a b := ⟨i 0, i 1, i 2, eq_ix3 i⟩
  obtain rfl : a = 0 := Subsingleton.elim _ _
  obtain rfl : b = 0 := Subsingleton.elim _ _
  pointwise [val_main_call1_c_1, val_main_call1_c_2, val_main_call1_v5, val_main_call1_v6, val_main_call1_v7, val_main_call1_v8, val_main_call1_v9,
    val_main_call1_v10]
  rw [start1]
  exact inside _

/-- The exponential of a real number less itself is one. -/
theorem exp_sub_self (a : EReal) (h : ∃ r : ℝ, a = r) : Ideal.exp (a - a) = 1 := by
  obtain ⟨r, rfl⟩ := h
  rw [← EReal.coe_sub, sub_self]
  show ((Real.exp 0 : ℝ) : EReal) = 1
  rw [Real.exp_zero]
  rfl

/-- The softmax entry of the chosen group. -/
theorem v18_raw (t : Fin 16384) :
    val_main_v18 (F := Ideal) x0 x1 x2 (ix1 t) = Ideal.div (Ideal.exp (gl x0 x1 x2 t (first (gl x0 x1 x2 t)) - gl x0 x1 x2 t (first (gl x0 x1 x2 t))))
        (∑ k, Ideal.exp (gl x0 x1 x2 t k - gl x0 x1 x2 t (first (gl x0 x1 x2 t)))) := by
  pointwise [val_main_v17, val_main_v18]
  rw [inside0]
  refine (gather4 (val_main_v15 (F := Ideal) x0 x1 x2) (val_main_call0_v5 (F := Ideal) x0 x1 x2) t).trans ?_
  have e : (⟨min (val_main_call0_v5 (F := Ideal) x0 x1 x2 (g0 t)).toInt.toNat 3, by omega⟩ : Fin 4) = first (gl x0 x1 x2 t) :=
    Fin.ext ((congrArg (fun w : BitVec 32 => min w.toInt.toNat 3) (start0 x0 x1 x2 t)).trans (clamp _))
  rw [e, v15_apply]

/-- The chosen group's softmax weight, its logit being real. -/
theorem v18_apply (t : Fin 16384) (hg : ∃ r : ℝ, gl x0 x1 x2 t (first (gl x0 x1 x2 t)) = r) :
    val_main_v18 (F := Ideal) x0 x1 x2 (ix1 t) = groupWeight (gl x0 x1 x2 t) := by
  rw [v18_raw, exp_sub_self _ hg]
  rfl

/-- The chosen group's softmax weight, its logit being infinite: zero by zero, which is −∞. -/
theorem v18_inf (t : Fin 16384) (hg : Rows.Inf (gl x0 x1 x2 t (first (gl x0 x1 x2 t)))) :
    val_main_v18 (F := Ideal) x0 x1 x2 (ix1 t) = (⊥ : EReal) := by
  rw [v18_raw, Finset.sum_eq_zero fun k _ => MoeInf.exp_less_inf _ hg k, MoeInf.exp_less_inf _ hg]
  simp [Ideal.div]

/-- The chosen group's expert logits. -/
theorem v25_apply (t : Fin 16384) (e : Fin 8) :
    val_main_v25 (F := Ideal) x0 x1 x2 x3 x4 (ix2 t e) = el x0 x3 x4 t (first (gl x0 x1 x2 t)) e := by
  pointwise [val_main_call1_v13, val_main_v24, val_main_v25]
  rw [inside1]
  refine (gather8 (val_main_v22 (F := Ideal) x0 x3 x4) (val_main_call1_v4 (F := Ideal) x0 x1 x2) t e).trans ?_
  have h : (⟨min (val_main_call1_v4 (F := Ideal) x0 x1 x2 (g0 t)).toInt.toNat 3, by omega⟩ : Fin 4) = first (gl x0 x1 x2 t) :=
    Fin.ext ((congrArg (fun w : BitVec 32 => min w.toInt.toNat 3) (start1 x0 x1 x2 t)).trans (clamp _))
  rw [h, v22_apply]

/-! ## The two experts -/

section Experts

variable (t : Fin 16384) (v : Fin 8 → EReal) (hv : ∀ e, val_main_v25 (F := Ideal) x0 x1 x2 x3 x4 (ix2 t e) = v e) (hr : ∀ e, ∃ r : ℝ, v e = r)

theorem not_bot (a : EReal) (h : ∃ r : ℝ, a = r) : a ≠ ⊥ := by
  obtain ⟨r, rfl⟩ := h
  exact EReal.coe_ne_bot r

/-- The chosen experts, in order. -/
def chosen (v : Fin 8 → EReal) (j : Fin 2) : Fin 8 := if j = 0 then first v else second v

include hr in
theorem sorted_chosen (j : Fin 2) : sortedFrom (before v) ⟨j.val, by omega⟩ = chosen v j := by
  match j with
  | ⟨0, _⟩ => exact sortedFrom_zero (n := 7) v _ (first_spec v)
  | ⟨1, _⟩ => exact sortedFrom_one (n := 6) v (fun e => not_bot _ (hr e))

include hv hr in
theorem values_apply (j : Fin 2) : val_main_values_2 (F := Ideal) x0 x1 x2 x3 x4 (ix2 t j) = v (chosen v j) := by
  refine (topK_value (n := 7) (k := 2) (val_main_v25 (F := Ideal) x0 x1 x2 x3 x4) _ t j (by omega)).trans ?_
  rw [show (fun e => val_main_v25 (F := Ideal) x0 x1 x2 x3 x4 (ix2 t e)) = v from funext hv, hv]
  exact congrArg v (sorted_chosen v hr j)

include hv hr in
theorem indices3_apply (j : Fin 2) : val_main_indices_3 (F := Ideal) x0 x1 x2 x3 x4 (ix2 t j) = BitVec.ofNat 32 (chosen v j).val := by
  refine (topK_index (n := 7) (k := 2) (val_main_v25 (F := Ideal) x0 x1 x2 x3 x4) _ t j (by omega)).trans ?_
  rw [show (fun e => val_main_v25 (F := Ideal) x0 x1 x2 x3 x4 (ix2 t e)) = v from funext hv]
  exact congrArg (fun j : Fin 8 => BitVec.ofNat 32 j.val) (sorted_chosen v hr j)

include hv hr in
theorem v28_apply : val_main_v28 (F := Ideal) x0 x1 x2 x3 x4 (ix1 t) = v (first v) := by
  pointwise [val_main_v26, val_main_v27, val_main_v28, val_main_cst_4, val_main_cst_5]
  rw [MoeLanes.negInf, show (fun j => val_main_values_2 (F := Ideal) x0 x1 x2 x3 x4 (ix2 t j)) = fun j => v (chosen v j) from
      funext fun j => values_apply x0 x1 x2 x3 x4 t v hv hr j,
    fold_max (fun j => v (chosen v j)) 0 ⟨fun k => (first_spec v).1 _, fun k hk => absurd hk (Nat.not_lt_zero _)⟩]
  exact max_eq_right bot_le

theorem v32_raw (j : Fin 2) (a m : EReal) (hu : val_main_values_2 (F := Ideal) x0 x1 x2 x3 x4 (ix2 t j) = a)
    (hm : val_main_v28 (F := Ideal) x0 x1 x2 x3 x4 (ix1 t) = m) :
    val_main_v32 (F := Ideal) x0 x1 x2 x3 x4 (ix2 t j) = Ideal.exp (a - m) := by
  pointwise [val_main_v29, val_main_v30, val_main_v31, val_main_v32]
  rw [hu, hm]

theorem v35_raw (j : Fin 2) : val_main_v35 (F := Ideal) x0 x1 x2 x3 x4 (ix2 t j)
    = ∑ k : Fin 2, (val_main_v32 (F := Ideal) x0 x1 x2 x3 x4 (ix2 t k) : EReal) := by
  pointwise [val_main_v33, val_main_v34, val_main_v35, val_main_cst_6]

/-- The softmax of two entries of a row. -/
theorem v36_raw (j : Fin 2) (u : Fin 2 → EReal) (hu : ∀ j, val_main_values_2 (F := Ideal) x0 x1 x2 x3 x4 (ix2 t j) = u j) (m : EReal)
    (hm : val_main_v28 (F := Ideal) x0 x1 x2 x3 x4 (ix1 t) = m) :
    val_main_v36 (F := Ideal) x0 x1 x2 x3 x4 (ix2 t j) = Ideal.div (Ideal.exp (u j - m)) (Ideal.exp (u 0 - m) + Ideal.exp (u 1 - m)) := by
  pointwise [val_main_v36]
  rw [v35_raw, v32_raw x0 x1 x2 x3 x4 t j _ _ (hu j) hm]
  refine congrArg (Ideal.div _) ((Fin.sum_univ_two _).trans ?_)
  exact congrArg₂ (· + ·) (v32_raw x0 x1 x2 x3 x4 t 0 _ _ (hu 0) hm) (v32_raw x0 x1 x2 x3 x4 t 1 _ _ (hu 1) hm)

include hr in
/-- A quotient by one plus the second exponential, multiplied by the group's weight. -/
theorem div_mul (a w : EReal) : Ideal.div a (1 + ratio v) * w = Ideal.div (w * a) (1 + ratio v) := by
  obtain ⟨p, hp⟩ := hr (second v)
  obtain ⟨q, hq⟩ := hr (first v)
  have e : 1 + ratio v = ((1 + Real.exp (p - q) : ℝ) : EReal) := by
    unfold ratio
    rw [hp, hq, ← EReal.coe_sub, EReal.coe_add]
    rfl
  have hne : (1 + Real.exp (p - q) : ℝ) ≠ 0 := (add_pos one_pos (Real.exp_pos _)).ne'
  rw [e, Ideal.div_coe hne, Ideal.div_coe hne, mul_right_comm, mul_comm a w]

include hv hr in
theorem v36_apply (j : Fin 2) (w : EReal) :
    val_main_v36 (F := Ideal) x0 x1 x2 x3 x4 (ix2 t j) * w = if j = 0 then Ideal.div w (1 + ratio v) else Ideal.div (w * ratio v) (1 + ratio v) := by
  rw [v36_raw x0 x1 x2 x3 x4 t j _ (values_apply x0 x1 x2 x3 x4 t v hv hr) _ (v28_apply x0 x1 x2 x3 x4 t v hv hr)]
  have h0 : Ideal.exp (v (chosen v 0) - v (first v)) = 1 := exp_sub_self _ (hr _)
  have h1 : Ideal.exp (v (chosen v 1) - v (first v)) = ratio v := rfl
  rw [h0, h1]
  match j with
  | ⟨0, _⟩ =>
    refine (congrArg (fun a => Ideal.div a (1 + ratio v) * w) h0).trans ?_
    rw [div_mul v hr, mul_one]
    rfl
  | ⟨1, _⟩ =>
    refine (congrArg (fun a => Ideal.div a (1 + ratio v) * w) h1).trans ?_
    rw [div_mul v hr]
    rfl

end Experts

/-- The weight each expert has in token `t`'s output, the chosen group's weight being `gw`. -/
theorem v49_apply (t : Fin 16384) (gw : EReal) (hgw : val_main_v18 (F := Ideal) x0 x1 x2 (ix1 t) = gw) (he : ∀ g e, ∃ r : ℝ, el x0 x3 x4 t g e = r) (e : Fin 32) :
    val_main_v49 (F := Ideal) x0 x1 x2 x3 x4 (ix2 t e)
      = combineWith gw (first (gl x0 x1 x2 t)) (el x0 x3 x4 t (first (gl x0 x1 x2 t))) e := by
  pointwise [val_main_v37, val_main_v38, val_main_v39, val_main_v40, val_main_c, val_main_v41, val_main_v42, val_main_v43, val_main_v44,
    val_main_call2_v0, val_main_call2_v1, val_main_call2_v2, val_main_call2_v3, val_main_call2_v4, val_main_v45, val_main_v46, val_main_v47,
    val_main_v48, val_main_v49, val_main_cst_7]
  have hv := v25_apply x0 x1 x2 x3 x4 t
  rw [v4_apply, hgw]
  have key : ∀ j : Fin 2, FloatOps.uitofp (F := Ideal) .f32
      (IntOp.cmpi .eq (IntOp.addi (IntOp.muli (BitVec.ofNat 32 (first (gl x0 x1 x2 t)).val) 8#32) (val_main_indices_3 (F := Ideal) x0 x1 x2 x3 x4 (ix2 t j)))
        (BitVec.ofNat 32 e.val)) * (val_main_v36 (F := Ideal) x0 x1 x2 x3 x4 (ix2 t j) * gw)
      = (if e.val = 8 * (first (gl x0 x1 x2 t)).val + (chosen (el x0 x3 x4 t (first (gl x0 x1 x2 t))) j).val then
          (if j = 0 then Ideal.div gw (1 + ratio (el x0 x3 x4 t (first (gl x0 x1 x2 t)))) else Ideal.div (gw * ratio (el x0 x3 x4 t (first (gl x0 x1 x2 t)))) (1 + ratio (el x0 x3 x4 t (first (gl x0 x1 x2 t))))) else 0) := by
    intro j
    rw [indices3_apply x0 x1 x2 x3 x4 t _ hv (he _), onehot, v36_apply x0 x1 x2 x3 x4 t _ hv (he _)]
    split
    · exact one_mul _
    · exact zero_mul _
  refine (Fin.sum_univ_two _).trans ?_
  exact congrArg₂ (· + ·) (key 0) (key 1)

end Cert.MoeRefRouter

end
-- ==== Proof.MoeRefRow.lean ====
/- The reference at one token: the experts' hidden units, the sum over all experts and units, and the layer norm. -/
module

public import proofs.«01_k».proof.Proof.MoeRefRouter

@[expose] public section

set_option maxRecDepth 16384

noncomputable section

namespace Cert.MoeRefRow

open Idealize.ShloMosaic Idealize.ShloMosaic.TcCoe Cert.MoeRefIdeal Cert.MoeRefIdeal.Read Cert.Rows Cert.MoeRefRouter
open Cert.MoeRouter (first)

variable (x0 : FVec Ideal S16384x1024 .f32) (x1 : FVec Ideal S1024x4 .f32) (x2 : FVec Ideal S4 .f32)
    (x3 : FVec Ideal S4x1024x8 .f32) (x4 : FVec Ideal S4x8 .f32) (x5 x6 : FVec Ideal S32x1024x128 .f32) (x7 : FVec Ideal S32x128x1024 .f32)
    (x8 x9 : FVec Ideal S1024 .f32)

/-- A hidden unit of an expert, weighted. -/
theorem v56_apply (t : Fin 16384) (e : Fin 32) (f : Fin 128) :
    val_main_v56 (F := Ideal) x0 x1 x2 x3 x4 x5 x6 (ix3 t e f)
      = (∑ d : Fin 1024, (x0 (ix2 t d) : EReal) * x5 (ix3 e d f)) * sigmoid (∑ d : Fin 1024, (x0 (ix2 t d) : EReal) * x5 (ix3 e d f))
          * (∑ d : Fin 1024, (x0 (ix2 t d) : EReal) * x6 (ix3 e d f)) * val_main_v49 (F := Ideal) x0 x1 x2 x3 x4 (ix2 t e) := by
  pointwise [val_main_v50, val_main_v51, val_main_v52, val_main_v53, val_main_v54, val_main_v55, val_main_v56, val_main_call3_v0, val_main_call3_v1,
    val_main_call3_cst, val_main_call3_v2, val_main_call3_v3, val_main_call3_cst_0, val_main_call3_v4, val_main_call3_v5]
  rfl

theorem v57_apply (t : Fin 16384) (c : Fin 1024) :
    val_main_v57 (F := Ideal) x0 x1 x2 x3 x4 x5 x6 x7 (ix2 t c)
      = ∑ e : Fin 32, ∑ f : Fin 128, (val_main_v56 (F := Ideal) x0 x1 x2 x3 x4 x5 x6 (ix3 t e f) : EReal) * x7 (ix3 e f c) := by
  pointwise [val_main_v57]

open Cert.MoeArray (expertOf unitOf)

/-- An expert and a hidden unit of it, as a group and a column of the group's packed experts. -/
def packed : Fin 4 × Fin 1024 ≃ Fin 32 × Fin 128 where
  toFun p := (expertOf p.1 p.2, unitOf p.2)
  invFun q := (⟨q.1.val / 8, by omega⟩, ⟨128 * (q.1.val % 8) + q.2.val, by omega⟩)
  left_inv := fun ⟨g, k⟩ => by
    refine Prod.ext (Fin.ext ?_) (Fin.ext ?_)
    · show (8 * g.val + k.val / 128) / 8 = g.val
      omega
    · show 128 * ((8 * g.val + k.val / 128) % 8) + k.val % 128 = k.val
      omega
  right_inv := fun ⟨e, f⟩ => by
    refine Prod.ext (Fin.ext ?_) (Fin.ext ?_)
    · show 8 * (e.val / 8) + (128 * (e.val % 8) + f.val) / 128 = e.val
      omega
    · show (128 * (e.val % 8) + f.val) % 128 = f.val
      omega

/-- A sum over experts and their units is the sum over groups and packed columns. -/
theorem sum_packed (F : Fin 32 → Fin 128 → EReal) : ∑ e, ∑ f, F e f = ∑ g, ∑ k, F (expertOf g k) (unitOf k) := by
  rw [← Fintype.sum_prod_type', ← Fintype.sum_prod_type']
  exact (Fintype.sum_equiv packed _ _ (fun _ => rfl)).symm

/-- The scaled residual plus the experts' output. -/
theorem v60_apply (t : Fin 16384) (c : Fin 1024) (w : Fin 32 → EReal) (hw : ∀ e, val_main_v49 (F := Ideal) x0 x1 x2 x3 x4 (ix2 t e) = w e) :
    val_main_v60 (F := Ideal) x0 x1 x2 x3 x4 x5 x6 x7 (ix2 t c)
      = alpha * x0 (ix2 t c) + ∑ g : Fin 4, ∑ k : Fin 1024,
          MoeBlock.hidden (fun d => x0 (ix2 t d)) (fun d k => x5 (ix3 (expertOf g k) d (unitOf k))) (fun d k => x6 (ix3 (expertOf g k) d (unitOf k)))
            (fun e => w ⟨8 * g.val + e.val, by omega⟩) k * x7 (ix3 (expertOf g k) (unitOf k) c) := by
  have h57 : val_main_v57 (F := Ideal) x0 x1 x2 x3 x4 x5 x6 x7 (ix2 t c) = ∑ g : Fin 4, ∑ k : Fin 1024,
          MoeBlock.hidden (fun d => x0 (ix2 t d)) (fun d k => x5 (ix3 (expertOf g k) d (unitOf k))) (fun d k => x6 (ix3 (expertOf g k) d (unitOf k)))
            (fun e => w ⟨8 * g.val + e.val, by omega⟩) k * x7 (ix3 (expertOf g k) (unitOf k) c) := by
    rw [v57_apply, sum_packed (fun e f => (val_main_v56 (F := Ideal) x0 x1 x2 x3 x4 x5 x6 (ix3 t e f) : EReal) * x7 (ix3 e f c))]
    refine Finset.sum_congr rfl fun g _ => Finset.sum_congr rfl fun k _ => ?_
    rw [v56_apply, hw]
    rfl
  pointwise [val_main_v58, val_main_v59, val_main_v60, val_main_cst_8]
  rw [h57]
  rfl

/-- The reference's result at token `t`, column `c`, from the weights the experts have there. -/
theorem out_of_weights (t : Fin 16384) (c : Fin 1024) (w : Fin 32 → EReal) (hw : ∀ e, val_main_v49 (F := Ideal) x0 x1 x2 x3 x4 (ix2 t e) = w e) :
    val_main_v84 (F := Ideal) x0 x1 x2 x3 x4 x5 x6 x7 x8 x9 (ix2 t c)
      = MoeBlock.row (fun d => x0 (ix2 t d)) (fun g d k => x5 (ix3 (expertOf g k) d (unitOf k))) (fun g d k => x6 (ix3 (expertOf g k) d (unitOf k)))
          (fun g k d => x7 (ix3 (expertOf g k) (unitOf k) d)) w (fun d => x8 (ix1 d)) (fun d => x9 (ix1 d)) c := by
  pointwise [val_main_v61, val_main_v62, val_main_v63, val_main_v64, val_main_v65, val_main_v66, val_main_v67, val_main_v68,
    val_main_v69, val_main_v70, val_main_v71, val_main_v72, val_main_v73, val_main_v74, val_main_v75, val_main_v76, val_main_v77, val_main_v78,
    val_main_v79, val_main_v80, val_main_v81, val_main_v82, val_main_v83, val_main_v84, val_main_cst_9, val_main_cst_10, val_main_cst_11,
    val_main_cst_12, val_main_cst_13]
  simp only [v60_apply x0 x1 x2 x3 x4 x5 x6 x7 t _ _ hw]
  rfl

/-- The reference's result at token `t`, column `c`: the specification there. -/
theorem out_apply (t : Fin 16384) (c : Fin 1024) (h3 : MoeArray.AllReal x3) (h4 : MoeArray.AllReal x4) :
    val_main_v84 (F := Ideal) x0 x1 x2 x3 x4 x5 x6 x7 x8 x9 (ix2 t c) = MoeArray.G x0 x1 x2 x3 x4 x5 x6 x7 x8 x9 (ix2 t c) := by
  by_cases hi : ∃ k, Inf (x0 (ix2 t k))
  · obtain ⟨k, hk⟩ := hi
    exact (out_of_weights x0 x1 x2 x3 x4 x5 x6 x7 x8 x9 t c _ (fun _ => rfl)).trans
      ((MoeInf.row_inf _ _ _ _ _ _ _ k hk c).trans (MoeArray.G_inf x0 x1 x2 x3 x4 x5 x6 x7 x8 x9 t k hk c).symm)
  have he : ∀ g e, ∃ r : ℝ, el x0 x3 x4 t g e = r := fun g e =>
    MoeArray.expertLogit_real _ x3 x4 (fun k => not_inf fun hk => hi ⟨k, hk⟩) h3 h4 g e
  by_cases hg : Inf (gl x0 x1 x2 t (first (gl x0 x1 x2 t)))
  · refine (out_of_weights x0 x1 x2 x3 x4 x5 x6 x7 x8 x9 t c _ (v49_apply x0 x1 x2 x3 x4 t ⊥ (v18_inf x0 x1 x2 t hg) he)).trans
      (MoeInf.row_alike _ _ _ _ _ _ _ _ (fun e => ?_) c).symm
    have h := MoeInf.combineWith_alike _ (he (first (gl x0 x1 x2 t))) (first (gl x0 x1 x2 t)) e
    rw [← MoeInf.groupWeight_inf _ hg] at h
    exact h
  · exact out_of_weights x0 x1 x2 x3 x4 x5 x6 x7 x8 x9 t c _ (v49_apply x0 x1 x2 x3 x4 t _ (v18_apply x0 x1 x2 t (not_inf hg)) he)

end Cert.MoeRefRow

end
-- ==== Proof.MoeEq.lean ====
/- The mixture of experts' claims: the kernel's output array and the reference's result are the same function of the
   arguments, where the router's weights and its experts' biases are finite. -/
module

public import proofs.«01_k».proof.Defs
public import proofs.«01_k».proof.Proof.MoeArray
public import proofs.«01_k».proof.Proof.MoeRefRow
public import proofs.«01_k».proof.Proof.Gen.MoeIdeal
public import proofs.«01_k».proof.Proof.Gen.MoeRefIdeal
public import proofs.«01_k».proof.Proof.Gen.MoeRefIdeal.Run
public import proofs.«01_k».proof.Proof.Gen.Pre_router_finite

@[expose] public section

set_option maxRecDepth 16384

noncomputable section

namespace Cert.MoeEq

open Idealize.ShloMosaic Idealize.ShloMosaic.TcCoe Idealize.SL.Sem
open Cert.MoeArray (AllReal)

/-- A value whose absolute value is below +∞ is a real number. -/
theorem real_of_abs_lt (a : EReal) (h : FloatOps.cmpf (F := Ideal) (φ := .f32) .olt (FloatOps.absf (F := Ideal) (φ := .f32) a)
    (Ideal.ofBits .f32 0x7F800000#32) = 1#1) : ∃ r : ℝ, a = (r : EReal) := by
  have top : Ideal.ofBits .f32 0x7F800000#32 = ⊤ := by simp [Ideal.ofBits, Ideal.ieee]
  rw [top] at h
  have hlt : max a (-a) < ⊤ := by
    by_contra hn
    rw [show FloatOps.absf (F := Ideal) (φ := .f32) a = max a (-a) from rfl] at h
    rw [show FloatOps.cmpf (F := Ideal) (φ := .f32) .olt (max a (-a)) ⊤ = Ideal.cmp .olt (max a (-a)) ⊤ from rfl] at h
    simp [Ideal.cmp, hn] at h
  induction a with
  | bot => simp at hlt
  | coe r => exact ⟨r, rfl⟩
  | top => simp at hlt

/-- An array whose entries' absolute values all compare below +∞ has real entries. -/
theorem allReal {S : Shape} (x : FVec Ideal S .f32) (y : FVec Ideal S .f32) (hy : ∀ p, y p = Ideal.ofBits .f32 0x7F800000#32)
    (h : cmpf .olt (Host.absf x) y = fun _ => 1#1) : AllReal x := fun p => by
  have hp := congrFun h p
  refine real_of_abs_lt (x p) ?_
  rw [← hy p]
  exact hp

/-- The precondition makes the router's weights and its experts' biases real numbers. -/
theorem routerReal (m : (ℓ : Loc Cert.MoeIdeal.nD Cert.MoeIdeal.τ Cert.MoeIdeal.sig) → Buf (Elt Ideal) ℓ) (h : Pre_MoeIdeal_router_finite m)
    (c : Dev Cert.MoeIdeal.nD) : MoeArray.RouterReal m c := by
  obtain ⟨h1, h3, h4⟩ := h c
  exact ⟨allReal _ _ (fun _ => rfl) h1, allReal _ _ (fun _ => rfl) h3, allReal _ _ (fun _ => rfl) h4⟩

/-- The reference's result array is the mixture of all tokens. -/
theorem ref_eq (x0 : FVec Ideal Cert.MoeRefIdeal.S16384x1024 .f32) (x1 : FVec Ideal Cert.MoeRefIdeal.S1024x4 .f32)
    (x2 : FVec Ideal Cert.MoeRefIdeal.S4 .f32) (x3 : FVec Ideal Cert.MoeRefIdeal.S4x1024x8 .f32) (x4 : FVec Ideal Cert.MoeRefIdeal.S4x8 .f32)
    (x5 x6 : FVec Ideal Cert.MoeRefIdeal.S32x1024x128 .f32) (x7 : FVec Ideal Cert.MoeRefIdeal.S32x128x1024 .f32)
    (x8 x9 : FVec Ideal Cert.MoeRefIdeal.S1024 .f32) (h3 : AllReal x3) (h4 : AllReal x4) :
    Cert.MoeRefIdeal.Read.val_main_v84 (F := Ideal) x0 x1 x2 x3 x4 x5 x6 x7 x8 x9 = MoeArray.G x0 x1 x2 x3 x4 x5 x6 x7 x8 x9 := by
  funext p
  obtain ⟨t, c, rfl⟩ : ∃ (t : Fin 16384) (c : Fin 1024), p = ix2 t c := ⟨p 0, p 1, eq_ix2 p⟩
  exact MoeRefRow.out_apply x0 x1 x2 x3 x4 x5 x6 x7 x8 x9 t c h3 h4

theorem frameRef : Cert.quiescent_MoeRefIdeal := fun m ρ _ =>
  (θ_run Cert.MoeRefIdeal.defs _ _).mono (fun r h => ⟨fun c => (h c).2, Idealize.ShloMosaic.sem_eq_zero_of_no_sems (by decide) r.2⟩)
    (Cert.MoeRefIdeal.Value.run (F := Ideal) m ρ)

/-- From finite router inputs the kernel and the reference end with the same output array. -/
theorem algebraic : Cert.algebraic_MoeIdeal_MoeRefIdeal_pre_router_finite := by
  intro m ρ m' ρ' hpre hagree
  refine ⟨fun c => MoeArray.res m c,
    (θ_run Cert.MoeIdeal.defs _ _).mono (fun r h c => ⟨(h c).1.trans (MoeArray.final m c (routerReal m hpre c)), (h c).2⟩)
      (Cert.MoeIdeal.Value.run_blocks m ρ),
    (θ_run Cert.MoeRefIdeal.defs _ _).mono (fun r h c => ⟨(h c).1.trans ?_, (h c).2⟩) (Cert.MoeRefIdeal.Value.run (F := Ideal) m' ρ')⟩
  obtain ⟨e0, e1, e2, e3, e4, e5, e6, e7, e8, e9⟩ := hagree c
  have hr := routerReal m hpre c
  refine (Cert.MoeRefIdeal.Read.val_main_v84_eq (F := Ideal) (StableHlo.launchContents m' c)).trans ?_
  show Cert.MoeRefIdeal.Read.val_main_v84 (F := Ideal)
    (m' ((c.tc : Thread Cert.MoeRefIdeal.nD Cert.MoeRefIdeal.τ).loc Cert.MoeRefIdeal.main_arg0)) (m' ((c.tc : Thread Cert.MoeRefIdeal.nD Cert.MoeRefIdeal.τ).loc Cert.MoeRefIdeal.main_arg1))
    (m' ((c.tc : Thread Cert.MoeRefIdeal.nD Cert.MoeRefIdeal.τ).loc Cert.MoeRefIdeal.main_arg2)) (m' ((c.tc : Thread Cert.MoeRefIdeal.nD Cert.MoeRefIdeal.τ).loc Cert.MoeRefIdeal.main_arg3))
    (m' ((c.tc : Thread Cert.MoeRefIdeal.nD Cert.MoeRefIdeal.τ).loc Cert.MoeRefIdeal.main_arg4)) (m' ((c.tc : Thread Cert.MoeRefIdeal.nD Cert.MoeRefIdeal.τ).loc Cert.MoeRefIdeal.main_arg5))
    (m' ((c.tc : Thread Cert.MoeRefIdeal.nD Cert.MoeRefIdeal.τ).loc Cert.MoeRefIdeal.main_arg6)) (m' ((c.tc : Thread Cert.MoeRefIdeal.nD Cert.MoeRefIdeal.τ).loc Cert.MoeRefIdeal.main_arg7))
    (m' ((c.tc : Thread Cert.MoeRefIdeal.nD Cert.MoeRefIdeal.τ).loc Cert.MoeRefIdeal.main_arg8)) (m' ((c.tc : Thread Cert.MoeRefIdeal.nD Cert.MoeRefIdeal.τ).loc Cert.MoeRefIdeal.main_arg9)) = _
  rw [e0, e1, e2, e3, e4, e5, e6, e7, e8, e9]
  exact ref_eq _ _ _ _ _ _ _ _ _ _ hr.we hr.be

end Cert.MoeEq

end
-- ==== Proof.RetBlock.lean ====
/- One head of one chunk of the recurrence: what the kernel's blocks compute, as functions on plain index types. -/
module

public import proofs.«01_k».proof.Proof.Rows
public import proofs.«01_k».proof.Proof.Gen.RetIdeal.Value

@[expose] public section

set_option maxRecDepth 16384

noncomputable section

namespace Cert.RetBlock

open Idealize.ShloMosaic Idealize.ShloMosaic.TcCoe Cert.RetIdeal Cert.RetIdeal.Gen Cert.Rows

/-- The state after a chunk: the state before it, faded by `g`, plus the chunk's keys (faded by `kd`) times its values. -/
def newState (k v kd : Fin 128 → Fin 128 → EReal) (g : Fin 128 → EReal) (s : Fin 128 → Fin 128 → EReal) (d e : Fin 128) : EReal :=
  s d e * g e + ∑ j, (k j d * kd j d) * v j e

/-- A query's output in a chunk: its faded scores against the chunk's keys times the values, plus the query (faded by
    `qd`) times the state before the chunk. -/
def headOut (q k v dec qd s : Fin 128 → Fin 128 → EReal) (i e : Fin 128) : EReal :=
  (∑ j, ((∑ d, q i d * k j d) * dec i j) * v j e) + ∑ d, (q i d * qd i d) * s d e

/-- The gated output: the gate `r` through `x · sigmoid x`, times the normalised output with gain `g`. -/
def gated (o r g : Fin 128 → EReal) (e : Fin 128) : EReal :=
  (r e * sigmoid (r e)) * (normed 0x43000000#32 0x3727C5AC#32 o e * g e)

theorem state0 (k v : Vec Ideal S128x128 .bf16) (kd s : Vec Ideal S1x128x128 .f32) (g : Vec Ideal S1x1x128 .f32) (d e : Fin 128) :
    k0_pay9 v (k0_pay7 k kd) (k0_pay8 s g) (constant S128x128 .f32 0x00000000#32) (ix3 0 d e) =
      newState (fun j d => k (ix2 j d)) (fun j e => v (ix2 j e)) (fun j d => kd (ix3 0 j d)) (fun e => g (ix3 0 0 e))
        (fun d e => s (ix3 0 d e)) d e := by
  pointwise [k0_pay9, k0_pay7, k0_pay8, k0_pay4, newState]

theorem head0 (q k v : Vec Ideal S128x128 .bf16) (dec qd s : Vec Ideal S1x128x128 .f32) (i e : Fin 128) :
    k0_pay5 (F := Ideal) q k v dec (ix2 i e) + k0_pay6 (F := Ideal) q s qd (ix2 i e) =
      headOut (fun j d => q (ix2 j d)) (fun j d => k (ix2 j d)) (fun j e => v (ix2 j e)) (fun i j => dec (ix3 0 i j))
        (fun i d => qd (ix3 0 i d)) (fun d e => s (ix3 0 d e)) i e := by
  pointwise [k0_pay5, k0_pay6, k0_pay4, headOut]

theorem gate0 (a b r : FVec Ideal S128x128 .f32) (g : FVec Ideal S1x128 .f32) (i e : Fin 128) :
    k0_pay10 a b r g (ix2 i e) =
      gated (fun e => a (ix2 i e) + b (ix2 i e)) (fun e => r (ix2 i e)) (fun e => g (ix2 0 e)) e := by
  pointwise [k0_pay10]
  simp only [zero_sub]
  rfl

theorem state1 (k v : Vec Ideal S128x128 .bf16) (kd s : Vec Ideal S1x128x128 .f32) (g : Vec Ideal S1x1x128 .f32) :
    k0_pay13 k v s kd g = k0_pay9 v (k0_pay7 k kd) (k0_pay8 s g) (constant S128x128 .f32 0x00000000#32) := rfl

theorem state2 (k v : Vec Ideal S128x128 .bf16) (kd s : Vec Ideal S1x128x128 .f32) (g : Vec Ideal S1x1x128 .f32) :
    k0_pay17 k v (k0_pay15 s) kd g = k0_pay9 v (k0_pay7 k kd) (k0_pay8 s g) (constant S128x128 .f32 0x00000000#32) := rfl

theorem state3 (k v : Vec Ideal S128x128 .bf16) (kd s : Vec Ideal S1x128x128 .f32) (g : Vec Ideal S1x1x128 .f32) :
    k0_pay25 k v (k0_pay22 s) kd g = k0_pay9 v (k0_pay7 k kd) (k0_pay8 s g) (constant S128x128 .f32 0x00000000#32) := rfl

theorem out1 (q k v : Vec Ideal S128x128 .bf16) (dec qd s : Vec Ideal S1x128x128 .f32) (r : Vec Ideal S128x128 .f32) (g : Vec Ideal S1x128 .f32) :
    k0_pay14 (k0_pay12 q k v s dec qd) r g = k0_pay10 (k0_pay5 q k v dec) (k0_pay6 q s qd) r g := rfl

theorem out2 (q k v : Vec Ideal S128x128 .bf16) (dec qd s : Vec Ideal S1x128x128 .f32) (r : Vec Ideal S128x128 .f32) (g : Vec Ideal S1x128 .f32) :
    k0_pay21 (k0_pay16 q k v (k0_pay15 s) dec qd) r (k0_pay18 g) (k0_pay19 q k v (k0_pay15 s) dec qd) k0_pay20 =
      k0_pay10 (k0_pay5 q k v dec) (k0_pay6 q s qd) r g := rfl

theorem out3 (q k v : Vec Ideal S128x128 .bf16) (dec qd s : Vec Ideal S1x128x128 .f32) (r : Vec Ideal S128x128 .f32) (g : Vec Ideal S1x128 .f32) :
    k0_pay1 r (k0_pay26 g) (k0_pay27 q k v (k0_pay22 s) (k0_pay23 dec) (k0_pay24 qd))
        (k0_pay28 q k v (k0_pay22 s) (k0_pay23 dec) (k0_pay24 qd)) (FloatOps.ofBits FTy.f32 0#32) =
      k0_pay10 (k0_pay5 q k v dec) (k0_pay6 q s qd) r g := rfl

end Cert.RetBlock

end
-- ==== Proof.RetCases.lean ====
/- What one grid point of the recurrence leaves in its output block and in its carried state, from the point's blocks and the
   state before it. -/
module

public import proofs.«01_k».proof.Proof.RetBlock
public import Idealize.ShloMosaic.Lib.Pipeline.ValueKit.Acc
public import Idealize.ShloMosaic.Lib.Pipeline.ReadBack

@[expose] public section

set_option maxRecDepth 16384

noncomputable section

namespace Cert.RetCases

open Idealize.ShloMosaic Idealize.ShloMosaic.TcCoe Cert.RetIdeal Cert.RetIdeal.Gen Cert.Rows Cert.RetBlock

/-- Column `d` of head `h` in a row of 512. -/
def col (h : Fin 4) (d : Fin 128) : Fin 512 := ⟨h.val * 128 + d.val, by omega⟩

section Loads

theorem ld2 {X : S128x512.Idx → EReal} (h : Fin 4) {off : Fin 2 → Nat} (ho : off = ![0, h.val * 128])
    (inb : ∀ a, off a + (![128, 128] : Fin 2 → Nat) a ≤ S128x512.size a) (i d : Fin 128) :
    X ((Rect.unit (s := S128x512) off ![128, 128] inb).idx (ix2 i d)) = X (ix2 i (col h d)) := by
  subst ho
  refine congrArg X (funext fun a => Fin.ext ?_)
  fin_cases a
  · exact (Nat.zero_add _).trans (Nat.one_mul _)
  · exact congrArg (h.val * 128 + ·) (Nat.one_mul _)

theorem ld1 {X : S1x512.Idx → EReal} (h : Fin 4) {off : Fin 2 → Nat} (ho : off = ![0, h.val * 128])
    (inb : ∀ a, off a + (![1, 128] : Fin 2 → Nat) a ≤ S1x512.size a) (d : Fin 128) :
    X ((Rect.unit (s := S1x512) off ![1, 128] inb).idx (ix2 (0 : Fin 1) d)) = X (ix2 0 (col h d)) := by
  subst ho
  refine congrArg X (funext fun a => Fin.ext ?_)
  fin_cases a
  · exact (Nat.zero_add _).trans (Nat.one_mul _)
  · exact congrArg (h.val * 128 + ·) (Nat.one_mul _)

theorem ld3 {X : S4x128x128.Idx → EReal} (h : Fin 4) {off : Fin 3 → Nat} (ho : off = ![h.val, 0, 0])
    (inb : ∀ a, off a + (![1, 128, 128] : Fin 3 → Nat) a ≤ S4x128x128.size a) (d e : Fin 128) :
    X ((Rect.unit (s := S4x128x128) off ![1, 128, 128] inb).idx (ix3 (0 : Fin 1) d e)) = X (ix3 h d e) := by
  subst ho
  refine congrArg X (funext fun a => Fin.ext ?_)
  fin_cases a
  · exact congrArg (h.val + ·) (Nat.one_mul _)
  · exact (Nat.zero_add _).trans (Nat.one_mul _)
  · exact (Nat.zero_add _).trans (Nat.one_mul _)

theorem ldg {X : S4x1x128.Idx → EReal} (h : Fin 4) {off : Fin 3 → Nat} (ho : off = ![h.val, 0, 0])
    (inb : ∀ a, off a + (![1, 1, 128] : Fin 3 → Nat) a ≤ S4x1x128.size a) (e : Fin 128) :
    X ((Rect.unit (s := S4x1x128) off ![1, 1, 128] inb).idx (ix3 (0 : Fin 1) (0 : Fin 1) e)) = X (ix3 h 0 e) := by
  subst ho
  refine congrArg X (funext fun a => Fin.ext ?_)
  fin_cases a
  · exact congrArg (h.val + ·) (Nat.one_mul _)
  · exact (Nat.zero_add _).trans (Nat.one_mul _)
  · exact (Nat.zero_add _).trans (Nat.one_mul _)

end Loads

/-- The state of head `h` after a point. -/
def state (K V : S128x512.Idx → EReal) (KD : S4x128x128.Idx → EReal) (C : S4x1x128.Idx → EReal) (S : S4x128x128.Idx → EReal)
    (h : Fin 4) (d e : Fin 128) : EReal :=
  newState (fun j d => K (ix2 j (col h d))) (fun j e => V (ix2 j (col h e))) (fun j d => KD (ix3 h j d)) (fun e => C (ix3 h 0 e))
    (fun d e => S (ix3 h d e)) d e

/-- The output of head `h` at a point. -/
def out (Q K V : S128x512.Idx → EReal) (R : S128x512.Idx → EReal) (N : S1x512.Idx → EReal) (D QD : S4x128x128.Idx → EReal)
    (S : S4x128x128.Idx → EReal) (h : Fin 4) (i e : Fin 128) : EReal :=
  gated (headOut (fun j d => Q (ix2 j (col h d))) (fun j d => K (ix2 j (col h d))) (fun j e => V (ix2 j (col h e)))
      (fun i j => D (ix3 h i j)) (fun i d => QD (ix3 h i d)) (fun d e => S (ix3 h d e)) i)
    (fun e => R (ix2 i (col h e))) (fun e => N (ix2 0 (col h e))) e

/-- One head's store into the carried state. -/
theorem state_piece (K V : Vec Ideal S128x512 .bf16) (KD : Vec Ideal S4x128x128 .f32) (C : Vec Ideal S4x1x128 .f32) (S : Vec Ideal S4x128x128 .f32)
    (h : Fin 4) {o2 : Fin 2 → Nat} {o3 : Fin 3 → Nat} (h2 : o2 = ![0, h.val * 128]) (h3 : o3 = ![h.val, 0, 0])
    (b2 : ∀ a, o2 a + (![128, 128] : Fin 2 → Nat) a ≤ S128x512.size a) (b3 : ∀ a, o3 a + (![1, 128, 128] : Fin 3 → Nat) a ≤ S4x128x128.size a)
    (bg : ∀ a, o3 a + (![1, 1, 128] : Fin 3 → Nat) a ≤ S4x1x128.size a) (x : S1x128x128.Idx) :
    k0_pay9 (F := Ideal) (View.ld V (Rect.unit (s := S128x512) o2 ![128, 128] b2))
        (k0_pay7 (View.ld K (Rect.unit (s := S128x512) o2 ![128, 128] b2)) (View.ld KD (Rect.unit (s := S4x128x128) o3 ![1, 128, 128] b3)))
        (k0_pay8 (View.ld S (Rect.unit (s := S4x128x128) o3 ![1, 128, 128] b3)) (View.ld C (Rect.unit (s := S4x1x128) o3 ![1, 1, 128] bg)))
        (constant S128x128 .f32 0x00000000#32) x
      = (fun y : S4x128x128.Idx => state K V KD C S (y 0) (y 1) (y 2)) ((Rect.unit (s := S4x128x128) o3 ![1, 128, 128] b3).emb x) := by
  obtain ⟨a, d, e, rfl⟩ : ∃ (a : Fin 1) (d e : Fin 128), x = ix3 a d e := ⟨x 0, x 1, x 2, eq_ix3 x⟩
  obtain rfl : a = 0 := Subsingleton.elim _ _
  refine (state0 _ _ _ _ _ d e).trans ?_
  refine Eq.trans ?_ (ld3 (X := fun y : S4x128x128.Idx => state K V KD C S (y 0) (y 1) (y 2)) h h3 b3 d e).symm
  show newState _ _ _ _ _ d e = newState _ _ _ _ _ d e
  congr 1
  · funext j d; exact ld2 (X := K) h h2 b2 j d
  · funext j d; exact ld2 (X := V) h h2 b2 j d
  · funext j d; exact ld3 (X := KD) h h3 b3 j d
  · funext e; exact ldg (X := C) h h3 bg e
  · funext j d; exact ld3 (X := S) h h3 b3 j d

/-- One head's store into the output block. -/
theorem out_piece (Q K V : Vec Ideal S128x512 .bf16) (R : Vec Ideal S128x512 .f32) (N : Vec Ideal S1x512 .f32) (D QD S : Vec Ideal S4x128x128 .f32)
    (h : Fin 4) {o2 : Fin 2 → Nat} {o3 : Fin 3 → Nat} (h2 : o2 = ![0, h.val * 128]) (h3 : o3 = ![h.val, 0, 0])
    (b2 : ∀ a, o2 a + (![128, 128] : Fin 2 → Nat) a ≤ S128x512.size a) (b3 : ∀ a, o3 a + (![1, 128, 128] : Fin 3 → Nat) a ≤ S4x128x128.size a)
    (b1 : ∀ a, o2 a + (![1, 128] : Fin 2 → Nat) a ≤ S1x512.size a) (x : S128x128.Idx) (y : S128x512.Idx)
    (hy : y = (Rect.unit (s := S128x512) o2 ![128, 128] b2).emb x) :
    k0_pay10 (F := Ideal)
        (k0_pay5 (View.ld Q (Rect.unit (s := S128x512) o2 ![128, 128] b2)) (View.ld K (Rect.unit (s := S128x512) o2 ![128, 128] b2))
          (View.ld V (Rect.unit (s := S128x512) o2 ![128, 128] b2)) (View.ld D (Rect.unit (s := S4x128x128) o3 ![1, 128, 128] b3)))
        (k0_pay6 (View.ld Q (Rect.unit (s := S128x512) o2 ![128, 128] b2)) (View.ld S (Rect.unit (s := S4x128x128) o3 ![1, 128, 128] b3))
          (View.ld QD (Rect.unit (s := S4x128x128) o3 ![1, 128, 128] b3)))
        (View.ld R (Rect.unit (s := S128x512) o2 ![128, 128] b2)) (View.ld N (Rect.unit (s := S1x512) o2 ![1, 128] b1)) x
      = out Q K V R N D QD S ⟨(y 1).val / 128, by have : (y 1).val < 512 := (y 1).isLt; omega⟩ (y 0) ⟨(y 1).val % 128, Nat.mod_lt _ (by decide)⟩ := by
  obtain ⟨i, e, rfl⟩ : ∃ (i e : Fin 128), x = ix2 i e := ⟨x 0, x 1, eq_ix2 x⟩
  have hy' : y = ix2 i (col h e) := hy.trans (by
    subst h2
    refine funext fun a => Fin.ext ?_
    fin_cases a
    · exact (Nat.zero_add _).trans (Nat.one_mul _)
    · exact congrArg (h.val * 128 + ·) (Nat.one_mul _))
  have e1 : (⟨(y 1).val / 128, by have : (y 1).val < 512 := (y 1).isLt; omega⟩ : Fin 4) = h := by
    subst hy'; exact Fin.ext (by show (h.val * 128 + e.val) / 128 = h.val; omega)
  have e2 : (⟨(y 1).val % 128, Nat.mod_lt _ (by decide)⟩ : Fin 128) = e := by
    subst hy'; exact Fin.ext (by show (h.val * 128 + e.val) % 128 = e.val; omega)
  have e0 : (y 0 : Fin 128) = i := by subst hy'; rfl
  rw [e1, e2]
  show _ = out Q K V R N D QD S h (y 0 : Fin 128) e
  rw [e0]
  refine (gate0 _ _ _ _ i e).trans ?_
  unfold out
  congr 1
  · funext e
    refine (head0 _ _ _ _ _ _ i e).trans ?_
    congr 1
    · funext j d; exact ld2 (X := Q) h h2 b2 j d
    · funext j d; exact ld2 (X := K) h h2 b2 j d
    · funext j d; exact ld2 (X := V) h h2 b2 j d
    · funext j d; exact ld3 (X := D) h h3 b3 j d
    · funext j d; exact ld3 (X := QD) h h3 b3 j d
    · funext j d; exact ld3 (X := S) h h3 b3 j d
  · funext e; exact ld2 (X := R) h h2 b2 i e
  · funext e; exact ld1 (X := N) h h2 b1 e

end Cert.RetCases

end
-- ==== Proof.RetMath.lean ====
/- The recurrence over a whole batch, as functions on plain index types: the fading tables, the state before each chunk and the
   outputs, from the arrays of queries, keys and values. -/
module

public import proofs.«01_k».proof.Proof.RetCases

@[expose] public section

noncomputable section

namespace Cert.RetMath

open Idealize.ShloMosaic Cert.RetIdeal Cert.Rows Cert.RetBlock Cert.RetCases

/-- The heads' fading factors, as float words. -/
def gammaWord : Fin 4 → BitVec 32 := ![0x3F780000#32, 0x3F7C0000#32, 0x3F7E0000#32, 0x3F7F0000#32]

/-- The logarithm of a head's fading factor. -/
def lg (h : Fin 4) : EReal := Ideal.log (Ideal.ofBits .f32 (gammaWord h))

/-- A position in a chunk, as a number. -/
def pos (i : Fin 128) : EReal := FloatOps.sitofp (F := Ideal) .f32 (BitVec.ofNat 32 i.val)

/-- How much a score of query `i` against key `j` fades; nothing of later keys. -/
def decay (h : Fin 4) (i j : Fin 128) : EReal :=
  if 0 ≤ pos i - pos j then Ideal.exp (lg h * max (pos i - pos j) 0) else 0

/-- How much the earlier state has faded at position `i`. -/
def qdec (h : Fin 4) (i : Fin 128) : EReal := Ideal.exp (lg h * (pos i + 1))

/-- How much position `j`'s key fades by the chunk's end. -/
def kdec (h : Fin 4) (j : Fin 128) : EReal := Ideal.exp (lg h * (Ideal.ofBits .f32 0x42FE0000#32 - pos j))

/-- How much a state fades over a chunk. -/
def gch (h : Fin 4) : EReal := Ideal.exp (lg h * Ideal.ofBits .f32 0x43000000#32)

/-- The token at position `i` of chunk `k` of batch `b`. -/
def tok (b : Fin 4) (k : Nat) (i : Fin 128) : Fin 16384 := ⟨(b.val * 4096 + k * 128 + i.val) % 16384, Nat.mod_lt _ (by decide)⟩

/-- The state of head `h` of batch `b` before chunk `k`. -/
def S (K V : Fin 16384 → Fin 512 → EReal) (b h : Fin 4) : Nat → Fin 128 → Fin 128 → EReal
  | 0 => fun _ _ => 0
  | k + 1 => newState (fun j d => K (tok b k j) (col h d)) (fun j e => V (tok b k j) (col h e)) (fun j _ => kdec h j) (fun _ => gch h)
      (S K V b h k)

theorem S_succ (K V : Fin 16384 → Fin 512 → EReal) (b h : Fin 4) (k : Nat) :
    S K V b h (k + 1) = newState (fun j d => K (tok b k j) (col h d)) (fun j e => V (tok b k j) (col h e)) (fun j _ => kdec h j)
      (fun _ => gch h) (S K V b h k) := rfl

theorem gated_congr {o o' r r' g g' : Fin 128 → EReal} (ho : o = o') (hr : r = r') (hg : g = g') (e : Fin 128) :
    gated o r g e = gated o' r' g' e := by
  subst ho hr hg; rfl

theorem newState_congr {k k' v v' kd kd' s s' : Fin 128 → Fin 128 → EReal} {g g' : Fin 128 → EReal} (hk : k = k') (hv : v = v')
    (hkd : kd = kd') (hg : g = g') (hs : s = s') (d e : Fin 128) : newState k v kd g s d e = newState k' v' kd' g' s' d e := by
  subst hk hv hkd hg hs; rfl

theorem headOut_congr {q q' k k' v v' dec dec' qd qd' s s' : Fin 128 → Fin 128 → EReal} (hq : q = q') (hk : k = k') (hv : v = v')
    (hd : dec = dec') (hqd : qd = qd') (hs : s = s') (i : Fin 128) : headOut q k v dec qd s i = headOut q' k' v' dec' qd' s' i := by
  subst hq hk hv hd hqd hs; rfl

/-- The ungated output of head `h` at position `i` of chunk `k` of batch `b`. -/
def O (Q K V : Fin 16384 → Fin 512 → EReal) (b h : Fin 4) (k : Nat) (i e : Fin 128) : EReal :=
  headOut (fun j d => Q (tok b k j) (col h d)) (fun j d => K (tok b k j) (col h d)) (fun j e => V (tok b k j) (col h e)) (decay h)
    (fun i _ => qdec h i) (S K V b h k) i e

/-- The gated output. -/
def Y (Q K V R : Fin 16384 → Fin 512 → EReal) (N : Fin 512 → EReal) (b h : Fin 4) (k : Nat) (i e : Fin 128) : EReal :=
  gated (O Q K V b h k i) (fun e => R (tok b k i) (col h e)) (fun e => N (col h e)) e

/-- A point's output is the recurrence's, where its blocks are. -/
theorem out_eq_Y {Q K V R : S128x512.Idx → EReal} {N : S1x512.Idx → EReal} {D QD X : S4x128x128.Idx → EReal}
    {q k v r : Fin 16384 → Fin 512 → EReal} {n : Fin 512 → EReal} {b : Fin 4} {c : Nat}
    (hq : ∀ j d, Q (ix2 j d) = q (tok b c j) d) (hk : ∀ j d, K (ix2 j d) = k (tok b c j) d) (hv : ∀ j d, V (ix2 j d) = v (tok b c j) d)
    (hr : ∀ j d, R (ix2 j d) = r (tok b c j) d) (hn : ∀ d, N (ix2 0 d) = n d) (hd : ∀ h i j, D (ix3 h i j) = decay h i j)
    (hqd : ∀ h i j, QD (ix3 h i j) = qdec h i) (hX : ∀ h d e, X (ix3 h d e) = S k v b h c d e) (h : Fin 4) (i e : Fin 128) :
    out Q K V R N D QD X h i e = Y q k v r n b h c i e := by
  have ho : headOut (fun j d => Q (ix2 j (col h d))) (fun j d => K (ix2 j (col h d))) (fun j e => V (ix2 j (col h e)))
      (fun i j => D (ix3 h i j)) (fun i d => QD (ix3 h i d)) (fun d e => X (ix3 h d e)) i = O q k v b h c i :=
    headOut_congr (funext fun j => funext fun d => hq j _) (funext fun j => funext fun d => hk j _) (funext fun j => funext fun d => hv j _)
      (funext fun i => funext fun j => hd h i j) (funext fun i => funext fun j => hqd h i j) (funext fun d => funext fun e => hX h d e) i
  exact gated_congr ho (funext fun e => hr i _) (funext fun e => hn _) e

end Cert.RetMath

end
-- ==== Proof.RetPoint.lean ====
/- Every grid point of the recurrence: its carried state, its output block and (at a batch's last point) its final state. -/
module

public import proofs.«01_k».proof.Proof.RetCases

@[expose] public section

set_option maxRecDepth 16384

noncomputable section

namespace Cert.RetPoint

open Idealize.ShloMosaic Idealize.ShloMosaic.TcCoe Cert.RetIdeal Cert.RetIdeal.Gen Cert.Rows Cert.RetBlock Cert.RetCases

variable (m : (ℓ : Loc nD τ sig) → Buf (Elt Ideal) ℓ) (c : Dev nD)

/-- The state every head has after point `t`, as an array, from the array `S` before it. -/
def stateArr (t : Fin cfg0.N) (S : S4x128x128.Idx → EReal) (y : S4x128x128.Idx) : EReal :=
  state (iblk m c 1 t) (iblk m c 2 t) (iblk m c 7 t) (iblk m c 8 t) S (y 0) (y 1) (y 2)

/-- The output block of point `t`, from the state `S` before it. -/
def outArr (t : Fin cfg0.N) (S : S4x128x128.Idx → EReal) (y : S128x512.Idx) : EReal :=
  out (iblk m c 0 t) (iblk m c 1 t) (iblk m c 2 t) (iblk m c 3 t) (iblk m c 4 t) (iblk m c 5 t) (iblk m c 6 t) S
    ⟨(y 1).val / 128, by have : (y 1).val < 512 := (y 1).isLt; omega⟩ (y 0) ⟨(y 1).val % 128, Nat.mod_lt _ (by decide)⟩

theorem mem3 (y : S4x128x128.Idx) (h : Nat) (hy : (y 0).val = h)
    (inb : ∀ a, (![h, 0, 0] : Fin 3 → Nat) a + (![1, 128, 128] : Fin 3 → Nat) a ≤ S4x128x128.size a) :
    y ∈ (Rect.unit (s := S4x128x128) ![h, 0, 0] ![1, 128, 128] inb).set := by
  rw [Rect.mem_set_unit]
  intro a
  fin_cases a
  · show h ≤ (y 0).val ∧ (y 0).val < h + 1; omega
  · have : (y 1).val < 128 := (y 1).isLt
    show 0 ≤ (y 1).val ∧ (y 1).val < 0 + 128; omega
  · have : (y 2).val < 128 := (y 2).isLt
    show 0 ≤ (y 2).val ∧ (y 2).val < 0 + 128; omega

theorem mem2 (y : S128x512.Idx) (o : Nat) (hy : o ≤ (y 1).val ∧ (y 1).val < o + 128)
    (inb : ∀ a, (![0, o] : Fin 2 → Nat) a + (![128, 128] : Fin 2 → Nat) a ≤ S128x512.size a) :
    y ∈ (Rect.unit (s := S128x512) ![0, o] ![128, 128] inb).set := by
  rw [Rect.mem_set_unit]
  intro a
  fin_cases a
  · have : (y 0).val < 128 := (y 0).isLt
    show 0 ≤ (y 0).val ∧ (y 0).val < 0 + 128; omega
  · exact hy

/-- The zero state a batch starts from. -/
def zeroS : Vec Ideal S4x128x128 .f32 := k0_pay3 (F := Ideal)

theorem zeroS_apply (y : S4x128x128.Idx) : zeroS y = (0 : EReal) := by
  obtain ⟨h, d, e, rfl⟩ : ∃ (h : Fin 4) (d e : Fin 128), y = ix3 h d e := ⟨y 0, y 1, y 2, eq_ix3 y⟩
  pointwise [zeroS, k0_pay3]

/-- The state carried into point `t`. -/
def carried (t : Fin cfg0.N) : Vec Ideal S4x128x128 .f32 := (outsAt0 m c (t.val - 1) (by omega)).2.2

theorem scr_first (t : Fin cfg0.N) (h0 : t.val % 32 = 0) (h1 : ¬t.val % 32 = 31) :
    (outsAt0 m c t.val t.isLt).2.2 = stateArr m c t zeroS := by
  rw [outsAt0_A m c t h0 h1]
  frame_out
  simp (decide := true) only [↓View.readCov_skip, View.readCov_fill]
  funext y
  refine View.canon_append_of_piecesOf (Val := Elt Ideal) (e := .f32) (stateArr m c t zeroS) [_] [_, _, _, _] ⟨?_, ?_, ?_, ?_, trivial⟩ y ?_
  · exact fun x => state_piece (iblk m c 1 t) (iblk m c 2 t) (iblk m c 7 t) (iblk m c 8 t) zeroS 3 rfl rfl _ _ _ x
  · exact fun x => state_piece (iblk m c 1 t) (iblk m c 2 t) (iblk m c 7 t) (iblk m c 8 t) zeroS 2 rfl rfl _ _ _ x
  · exact fun x => state_piece (iblk m c 1 t) (iblk m c 2 t) (iblk m c 7 t) (iblk m c 8 t) zeroS 1 rfl rfl _ _ _ x
  · exact fun x => state_piece (iblk m c 1 t) (iblk m c 2 t) (iblk m c 7 t) (iblk m c 8 t) zeroS 0 rfl rfl _ _ _ x
  · have : (y 0).val < 4 := (y 0).isLt
    rcases (by omega : (y 0).val = 3 ∨ (y 0).val = 2 ∨ (y 0).val = 1 ∨ (y 0).val = 0) with h | h | h | h
    · exact ⟨_, .head _, mem3 y 3 h inb_S4x128x128_S1x128x128_3_0_0⟩
    · exact ⟨_, .tail _ (.head _), mem3 y 2 h inb_S4x128x128_S1x128x128_2_0_0⟩
    · exact ⟨_, .tail _ (.tail _ (.head _)), mem3 y 1 h inb_S4x128x128_S1x128x128_1_0_0⟩
    · exact ⟨_, .tail _ (.tail _ (.tail _ (.head _))), mem3 y 0 h inb_S4x128x128_S1x128x128_0_0_0⟩

theorem scr_mid (t : Fin cfg0.N) (h0 : ¬t.val % 32 = 0) (h1 : ¬t.val % 32 = 31) :
    (outsAt0 m c t.val t.isLt).2.2 = stateArr m c t (carried m c t) := by
  rw [outsAt0_B m c t h0 h1]
  frame_out
  simp only [(Memref.isWhole_whole _).read_unread]
  funext y
  refine View.canon_append_of_piecesOf (Val := Elt Ideal) (e := .f32) (stateArr m c t (carried m c t)) [] [_, _, _, _] ⟨?_, ?_, ?_, ?_, trivial⟩ y ?_
  · exact fun x => state_piece (iblk m c 1 t) (iblk m c 2 t) (iblk m c 7 t) (iblk m c 8 t) (carried m c t) 3 rfl rfl _ _ _ x
  · exact fun x => state_piece (iblk m c 1 t) (iblk m c 2 t) (iblk m c 7 t) (iblk m c 8 t) (carried m c t) 2 rfl rfl _ _ _ x
  · exact fun x => state_piece (iblk m c 1 t) (iblk m c 2 t) (iblk m c 7 t) (iblk m c 8 t) (carried m c t) 1 rfl rfl _ _ _ x
  · exact fun x => state_piece (iblk m c 1 t) (iblk m c 2 t) (iblk m c 7 t) (iblk m c 8 t) (carried m c t) 0 rfl rfl _ _ _ x
  · have : (y 0).val < 4 := (y 0).isLt
    rcases (by omega : (y 0).val = 3 ∨ (y 0).val = 2 ∨ (y 0).val = 1 ∨ (y 0).val = 0) with h | h | h | h
    · exact ⟨_, .head _, mem3 y 3 h inb_S4x128x128_S1x128x128_3_0_0⟩
    · exact ⟨_, .tail _ (.head _), mem3 y 2 h inb_S4x128x128_S1x128x128_2_0_0⟩
    · exact ⟨_, .tail _ (.tail _ (.head _)), mem3 y 1 h inb_S4x128x128_S1x128x128_1_0_0⟩
    · exact ⟨_, .tail _ (.tail _ (.tail _ (.head _))), mem3 y 0 h inb_S4x128x128_S1x128x128_0_0_0⟩

theorem pay2_apply (X : FVec Ideal S4x128x128 .f32) (h : Fin 4) (d e : Fin 128) : k0_pay2 (F := Ideal) X (ix4 0 h d e) = X (ix3 h d e) := by
  pointwise [k0_pay2]

theorem whole_idx (inb : ∀ a, (![0, 0, 0] : Fin 3 → Nat) a + (![4, 128, 128] : Fin 3 → Nat) a ≤ S4x128x128.size a) (y : S4x128x128.Idx) :
    (Rect.unit (s := S4x128x128) ![0, 0, 0] ![4, 128, 128] inb).idx y = y := by
  funext a; apply Fin.ext
  fin_cases a <;> exact (Nat.zero_add _).trans (Nat.one_mul _)

theorem fin_last (t : Fin cfg0.N) (h0 : ¬t.val % 32 = 0) (h1 : t.val % 32 = 31) (h : Fin 4) (d e : Fin 128) :
    (outsAt0 m c t.val t.isLt).2.1 (ix4 0 h d e) = stateArr m c t (carried m c t) (ix3 h d e) := by
  rw [outsAt0_C m c t h0 h1]
  frame_out
  simp only [(Memref.isWhole_whole _).read_unread]
  rw [View.readCov_eq_canon']
  refine (pay2_apply _ h d e).trans ?_
  refine (congrArg (View.canon _) (whole_idx _ _)).trans ?_
  generalize ix3 h d e = y
  refine View.canon_append_of_piecesOf (Val := Elt Ideal) (e := .f32) (stateArr m c t (carried m c t)) [] [_, _, _, _] ⟨?_, ?_, ?_, ?_, trivial⟩ y ?_
  · exact fun x => state_piece (iblk m c 1 t) (iblk m c 2 t) (iblk m c 7 t) (iblk m c 8 t) (carried m c t) 3 rfl rfl _ _ _ x
  · exact fun x => state_piece (iblk m c 1 t) (iblk m c 2 t) (iblk m c 7 t) (iblk m c 8 t) (carried m c t) 2 rfl rfl _ _ _ x
  · exact fun x => state_piece (iblk m c 1 t) (iblk m c 2 t) (iblk m c 7 t) (iblk m c 8 t) (carried m c t) 1 rfl rfl _ _ _ x
  · exact fun x => state_piece (iblk m c 1 t) (iblk m c 2 t) (iblk m c 7 t) (iblk m c 8 t) (carried m c t) 0 rfl rfl _ _ _ x
  · have : (y 0).val < 4 := (y 0).isLt
    rcases (by omega : (y 0).val = 3 ∨ (y 0).val = 2 ∨ (y 0).val = 1 ∨ (y 0).val = 0) with h | h | h | h
    · exact ⟨_, .head _, mem3 y 3 h inb_S4x128x128_S1x128x128_3_0_0⟩
    · exact ⟨_, .tail _ (.head _), mem3 y 2 h inb_S4x128x128_S1x128x128_2_0_0⟩
    · exact ⟨_, .tail _ (.tail _ (.head _)), mem3 y 1 h inb_S4x128x128_S1x128x128_1_0_0⟩
    · exact ⟨_, .tail _ (.tail _ (.tail _ (.head _))), mem3 y 0 h inb_S4x128x128_S1x128x128_0_0_0⟩

theorem out_first (t : Fin cfg0.N) (h0 : t.val % 32 = 0) (h1 : ¬t.val % 32 = 31) :
    (outsAt0 m c t.val t.isLt).1 = outArr m c t zeroS := by
  rw [outsAt0_A m c t h0 h1]
  frame_out
  simp (decide := true) only [↓View.readCov_skip, View.readCov_fill]
  funext y
  refine View.canon_append_of_piecesOf (Val := Elt Ideal) (e := .bf16) (outArr m c t zeroS) [] [_, _, _, _] ⟨?_, ?_, ?_, ?_, trivial⟩ y ?_
  · exact fun x => out_piece (iblk m c 0 t) (iblk m c 1 t) (iblk m c 2 t) (iblk m c 3 t) (iblk m c 4 t) (iblk m c 5 t) (iblk m c 6 t) zeroS
      3 rfl rfl _ _ _ x _ rfl
  · exact fun x => out_piece (iblk m c 0 t) (iblk m c 1 t) (iblk m c 2 t) (iblk m c 3 t) (iblk m c 4 t) (iblk m c 5 t) (iblk m c 6 t) zeroS
      2 rfl rfl _ _ _ x _ rfl
  · exact fun x => out_piece (iblk m c 0 t) (iblk m c 1 t) (iblk m c 2 t) (iblk m c 3 t) (iblk m c 4 t) (iblk m c 5 t) (iblk m c 6 t) zeroS
      1 rfl rfl _ _ _ x _ rfl
  · exact fun x => out_piece (iblk m c 0 t) (iblk m c 1 t) (iblk m c 2 t) (iblk m c 3 t) (iblk m c 4 t) (iblk m c 5 t) (iblk m c 6 t) zeroS
      0 rfl rfl _ _ _ x _ rfl
  · have : (y 1).val < 512 := (y 1).isLt
    rcases (by omega : (384 ≤ (y 1).val ∧ (y 1).val < 384 + 128) ∨ (256 ≤ (y 1).val ∧ (y 1).val < 256 + 128) ∨
      (128 ≤ (y 1).val ∧ (y 1).val < 128 + 128) ∨ (0 ≤ (y 1).val ∧ (y 1).val < 0 + 128)) with h | h | h | h
    · exact ⟨_, .head _, mem2 y 384 h inb_S128x512_S128x128_0_384⟩
    · exact ⟨_, .tail _ (.head _), mem2 y 256 h inb_S128x512_S128x128_0_256⟩
    · exact ⟨_, .tail _ (.tail _ (.head _)), mem2 y 128 h inb_S128x512_S128x128_0_128⟩
    · exact ⟨_, .tail _ (.tail _ (.tail _ (.head _))), mem2 y 0 h inb_S128x512_S128x128_0_0⟩

theorem out_mid (t : Fin cfg0.N) (h0 : ¬t.val % 32 = 0) (h1 : ¬t.val % 32 = 31) :
    (outsAt0 m c t.val t.isLt).1 = outArr m c t (carried m c t) := by
  rw [outsAt0_B m c t h0 h1]
  frame_out
  simp only [(Memref.isWhole_whole _).read_unread]
  funext y
  refine View.canon_append_of_piecesOf (Val := Elt Ideal) (e := .bf16) (outArr m c t (carried m c t)) [] [_, _, _, _] ⟨?_, ?_, ?_, ?_, trivial⟩ y ?_
  · exact fun x => out_piece (iblk m c 0 t) (iblk m c 1 t) (iblk m c 2 t) (iblk m c 3 t) (iblk m c 4 t) (iblk m c 5 t) (iblk m c 6 t) (carried m c t)
      3 rfl rfl _ _ _ x _ rfl
  · exact fun x => out_piece (iblk m c 0 t) (iblk m c 1 t) (iblk m c 2 t) (iblk m c 3 t) (iblk m c 4 t) (iblk m c 5 t) (iblk m c 6 t) (carried m c t)
      2 rfl rfl _ _ _ x _ rfl
  · exact fun x => out_piece (iblk m c 0 t) (iblk m c 1 t) (iblk m c 2 t) (iblk m c 3 t) (iblk m c 4 t) (iblk m c 5 t) (iblk m c 6 t) (carried m c t)
      1 rfl rfl _ _ _ x _ rfl
  · exact fun x => out_piece (iblk m c 0 t) (iblk m c 1 t) (iblk m c 2 t) (iblk m c 3 t) (iblk m c 4 t) (iblk m c 5 t) (iblk m c 6 t) (carried m c t)
      0 rfl rfl _ _ _ x _ rfl
  · have : (y 1).val < 512 := (y 1).isLt
    rcases (by omega : (384 ≤ (y 1).val ∧ (y 1).val < 384 + 128) ∨ (256 ≤ (y 1).val ∧ (y 1).val < 256 + 128) ∨
      (128 ≤ (y 1).val ∧ (y 1).val < 128 + 128) ∨ (0 ≤ (y 1).val ∧ (y 1).val < 0 + 128)) with h | h | h | h
    · exact ⟨_, .head _, mem2 y 384 h inb_S128x512_S128x128_0_384⟩
    · exact ⟨_, .tail _ (.head _), mem2 y 256 h inb_S128x512_S128x128_0_256⟩
    · exact ⟨_, .tail _ (.tail _ (.head _)), mem2 y 128 h inb_S128x512_S128x128_0_128⟩
    · exact ⟨_, .tail _ (.tail _ (.tail _ (.head _))), mem2 y 0 h inb_S128x512_S128x128_0_0⟩

theorem out_last (t : Fin cfg0.N) (h0 : ¬t.val % 32 = 0) (h1 : t.val % 32 = 31) :
    (outsAt0 m c t.val t.isLt).1 = outArr m c t (carried m c t) := by
  rw [outsAt0_C m c t h0 h1]
  frame_out
  simp only [(Memref.isWhole_whole _).read_unread]
  funext y
  refine View.canon_append_of_piecesOf (Val := Elt Ideal) (e := .bf16) (outArr m c t (carried m c t)) [] [_, _, _, _] ⟨?_, ?_, ?_, ?_, trivial⟩ y ?_
  · exact fun x => out_piece (iblk m c 0 t) (iblk m c 1 t) (iblk m c 2 t) (iblk m c 3 t) (iblk m c 4 t) (iblk m c 5 t) (iblk m c 6 t) (carried m c t)
      3 rfl rfl _ _ _ x _ rfl
  · exact fun x => out_piece (iblk m c 0 t) (iblk m c 1 t) (iblk m c 2 t) (iblk m c 3 t) (iblk m c 4 t) (iblk m c 5 t) (iblk m c 6 t) (carried m c t)
      2 rfl rfl _ _ _ x _ rfl
  · exact fun x => out_piece (iblk m c 0 t) (iblk m c 1 t) (iblk m c 2 t) (iblk m c 3 t) (iblk m c 4 t) (iblk m c 5 t) (iblk m c 6 t) (carried m c t)
      1 rfl rfl _ _ _ x _ rfl
  · exact fun x => out_piece (iblk m c 0 t) (iblk m c 1 t) (iblk m c 2 t) (iblk m c 3 t) (iblk m c 4 t) (iblk m c 5 t) (iblk m c 6 t) (carried m c t)
      0 rfl rfl _ _ _ x _ rfl
  · have : (y 1).val < 512 := (y 1).isLt
    rcases (by omega : (384 ≤ (y 1).val ∧ (y 1).val < 384 + 128) ∨ (256 ≤ (y 1).val ∧ (y 1).val < 256 + 128) ∨
      (128 ≤ (y 1).val ∧ (y 1).val < 128 + 128) ∨ (0 ≤ (y 1).val ∧ (y 1).val < 0 + 128)) with h | h | h | h
    · exact ⟨_, .head _, mem2 y 384 h inb_S128x512_S128x128_0_384⟩
    · exact ⟨_, .tail _ (.head _), mem2 y 256 h inb_S128x512_S128x128_0_256⟩
    · exact ⟨_, .tail _ (.tail _ (.head _)), mem2 y 128 h inb_S128x512_S128x128_0_128⟩
    · exact ⟨_, .tail _ (.tail _ (.tail _ (.head _))), mem2 y 0 h inb_S128x512_S128x128_0_0⟩

end Cert.RetPoint

end
-- ==== Proof.RetArray.lean ====
/- The recurrence's kernel: what its two output arrays end holding, from the call's arguments. -/
module

public import proofs.«01_k».proof.Proof.RetMath
public import proofs.«01_k».proof.Proof.RetPoint
public import proofs.«01_k».proof.Proof.Gen.RetIdeal.Value
public import Idealize.ShloMosaic.Lib.KernelVsHost

@[expose] public section

set_option maxRecDepth 16384

noncomputable section

namespace Cert.RetArray

open Idealize.ShloMosaic Idealize.ShloMosaic.TcCoe Cert.RetIdeal Cert.RetIdeal.Gen Cert.Rows Cert.RetBlock Cert.RetCases Cert.RetPoint Cert.RetMath

variable (m : (ℓ : Loc nD τ sig) → Buf (Elt Ideal) ℓ) (c : Dev nD)

/-! What the host prepares. -/

/-- The logarithms of the heads' fading factors. -/
def lgV : FVec Ideal S4 .f32 := Host.log (fun i => FloatOps.ofBits .f32 (lit0 (S4.rowMajor i)))

/-- The positions in a chunk. -/
def posV : FVec Ideal S128 .f32 := sitofp .f32 (iotaInDim S128 32 0)

/-- The differences of positions. -/
def diffV : FVec Ideal S128x128 .f32 :=
  subf (broadcastInDim S128x128 ![0, 1] bcast_S128x1_S128x128_0_1 (broadcastInDim S128x1 ![0] bcast_S128_S128x1_0 posV))
    (broadcastInDim S128x128 ![0, 1] bcast_S1x128_S128x128_0_1 (broadcastInDim S1x128 ![1] bcast_S128_S1x128_1 posV))

/-- The scores' fading. -/
def decV : FVec Ideal S4x128x128 .f32 :=
  select (broadcastInDim S4x128x128 ![1, 2] bcast_S128x128_S4x128x128_1_2
      (cmpf .oge diffV (broadcastInDim S128x128 ![] bcast_S_S128x128 (constant (F := Ideal) S_ .f32 0x00000000#32))))
    (Host.exp (mulf (broadcastInDim S4x128x128 ![0, 1, 2] bcast_S4x1x1_S4x128x128_0_1_2 (broadcastInDim S4x1x1 ![0] bcast_S4_S4x1x1_0 lgV))
      (broadcastInDim S4x128x128 ![0, 1, 2] bcast_S1x128x128_S4x128x128_0_1_2
        (broadcastInDim S1x128x128 ![1, 2] bcast_S128x128_S1x128x128_1_2
          (maximumf diffV (broadcastInDim S128x128 ![] bcast_S_S128x128 (constant (F := Ideal) S_ .f32 0x00000000#32)))))))
    (broadcastInDim S4x128x128 ![] bcast_S_S4x128x128 (constant (F := Ideal) S_ .f32 0x00000000#32))

/-- The queries' fading. -/
def qdV : FVec Ideal S4x128 .f32 :=
  Host.exp (mulf (broadcastInDim S4x128 ![0, 1] bcast_S4x1_S4x128_0_1 (broadcastInDim S4x1 ![0] bcast_S4_S4x1_0 lgV))
    (broadcastInDim S4x128 ![0, 1] bcast_S1x128_S4x128_0_1 (broadcastInDim S1x128 ![1] bcast_S128_S1x128_1
      (addf posV (broadcastInDim S128 ![] bcast_S_S128 (constant (F := Ideal) S_ .f32 0x3F800000#32))))))

/-- The keys' fading. -/
def kdV : FVec Ideal S4x128 .f32 :=
  Host.exp (mulf (broadcastInDim S4x128 ![0, 1] bcast_S4x1_S4x128_0_1 (broadcastInDim S4x1 ![0] bcast_S4_S4x1_0 lgV))
    (broadcastInDim S4x128 ![0, 1] bcast_S1x128_S4x128_0_1 (broadcastInDim S1x128 ![1] bcast_S128_S1x128_1
      (subf (broadcastInDim S128 ![] bcast_S_S128 (constant (F := Ideal) S_ .f32 0x42FE0000#32)) posV))))

theorem lgV_apply (h : Fin 4) : lgV (ix1 h) = lg h := by
  have e : (S4.rowMajor (ix1 h) : Fin 4) = h := by
    apply Fin.ext; fin_cases h <;> rfl
  show Ideal.log (Ideal.ofBits .f32 (lit0 (S4.rowMajor (ix1 h)))) = Ideal.log (Ideal.ofBits .f32 (gammaWord h))
  rw [e]
  fin_cases h <;> rfl

theorem posV_apply (i : Fin 128) : posV (ix1 i) = pos i := rfl

theorem diffV_apply (i j : Fin 128) : diffV (ix2 i j) = pos i - pos j := rfl

theorem decV_apply (h : Fin 4) (i j : Fin 128) : decV (ix3 h i j) = decay h i j := by
  have e := lgV_apply h
  pointwise [decV]
  simp only [e, diffV_apply]
  rfl

theorem qdV_apply (h : Fin 4) (i : Fin 128) : qdV (ix2 h i) = qdec h i := by
  have e := lgV_apply h
  pointwise [qdV]
  simp only [e, posV_apply]
  rfl

theorem kdV_apply (h : Fin 4) (i : Fin 128) : kdV (ix2 h i) = kdec h i := by
  have e := lgV_apply h
  pointwise [kdV]
  simp only [e, posV_apply]
  rfl

theorem pad3 (x : FVec Ideal S4x128x128 .f32) (v : FVec Ideal S_ .f32) (h : Fin 4) (i j : Fin 128) :
    pad S4x128x128 ![0, 0, 0] ![0, 0, 0] ![0, 0, 0] x v pads_S4x128x128_S4x128x128_000_000_000 h_S_ (ix3 h i j) = x (ix3 h i j) :=
  pad_apply_of_inside _ _ _ x v _ _ (ix3 h i j) (ix3 h i j) (fun a => by fin_cases a <;> simp)

theorem pad2 (x : FVec Ideal S4x128 .f32) (v : FVec Ideal S_ .f32) (h : Fin 4) (i : Fin 128) :
    pad S4x128 ![0, 0] ![0, 0] ![0, 0] x v pads_S4x128_S4x128_000_000 h_S_ (ix2 h i) = x (ix2 h i) :=
  pad_apply_of_inside _ _ _ x v _ _ (ix2 h i) (ix2 h i) (fun a => by fin_cases a <;> simp)

theorem V_v0 (e : Fin 512) : (V m c main_v0 : FVec Ideal S1x512 .f32) (ix2 0 e) = (m ((c : Thread nD τ).loc main_arg4) : FVec Ideal S512 .f32) (ix1 e) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results
  pointwise []

theorem V_v46 (h : Fin 4) (e : Fin 128) : (V m c main_v46 : FVec Ideal S4x1x128 .f32) (ix3 h 0 e) = gch h := by
  have e := lgV_apply h
  simp only [V, hostOps0, hostOps0_1, hostOps0_2, hostOps0_3, hostOps0_4, hostOps0_5, hostOps0_6, hostOps0_7, hostOps0_8,
    List.flatten_cons, List.flatten_nil, List.append_nil, List.cons_append, List.nil_append]
  after_results
  pointwise []
  exact congrArg (fun x => Ideal.exp (x * Ideal.ofBits .f32 0x43000000#32)) e

theorem V_v38 (h : Fin 4) (i j : Fin 128) : (V m c main_v38 : FVec Ideal S4x128x128 .f32) (ix3 h i j) = decay h i j := by
  have e : (V m c main_v38 : FVec Ideal S4x128x128 .f32) =
      pad S4x128x128 ![0, 0, 0] ![0, 0, 0] ![0, 0, 0] decV (sitofp (F := Ideal) .f32 (constantI S_ 32 0#32)) pads_S4x128x128_S4x128x128_000_000_000 h_S_ := by
    simp only [V, hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [e, pad3, decV_apply]

theorem V_v41 (h : Fin 4) (i j : Fin 128) : (V m c main_v41 : FVec Ideal S4x128x128 .f32) (ix3 h i j) = qdec h i := by
  have e : (V m c main_v41 : FVec Ideal S4x128x128 .f32) =
      broadcastInDim S4x128x128 ![0, 1, 2] bcast_S4x128x1_S4x128x128_0_1_2 (broadcastInDim S4x128x1 ![0, 1] bcast_S4x128_S4x128x1_0_1
        (pad S4x128 ![0, 0] ![0, 0] ![0, 0] qdV (sitofp (F := Ideal) .f32 (constantI S_ 32 0#32)) pads_S4x128_S4x128_000_000 h_S_)) := by
    simp only [V, hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [e]
  pointwise []
  exact qdV_apply h i

theorem V_v44 (h : Fin 4) (i j : Fin 128) : (V m c main_v44 : FVec Ideal S4x128x128 .f32) (ix3 h i j) = kdec h i := by
  have e : (V m c main_v44 : FVec Ideal S4x128x128 .f32) =
      broadcastInDim S4x128x128 ![0, 1, 2] bcast_S4x128x1_S4x128x128_0_1_2 (broadcastInDim S4x128x1 ![0, 1] bcast_S4x128_S4x128x1_0_1
        (pad S4x128 ![0, 0] ![0, 0] ![0, 0] kdV (sitofp (F := Ideal) .f32 (constantI S_ 32 0#32)) pads_S4x128_S4x128_000_000 h_S_)) := by
    simp only [V, hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [e]
  pointwise []
  exact kdV_apply h i

/-! Each window's block index: the tiled windows advance with the grid point, the others stay. -/

theorem idx (t : Fin cfg0.N) :
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)) t

theorem idxc (t : Fin cfg0.N) :
    (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 3) = 0 ∧ win0_8.index t (1 : Fin 3) = 0 ∧ win0_8.index t (2 : Fin 3) = 0) :=
  (by decide +kernel : ∀ t : Fin grid0.N,
    (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 3) = 0 ∧ win0_8.index t (1 : Fin 3) = 0 ∧ win0_8.index t (2 : Fin 3) = 0)) t

/-- The grid point of chunk `k` of batch `b`. -/
def pt (b : Fin 4) (k : Nat) (hk : k < 32) : Fin cfg0.N := ⟨b.val * 32 + k, by have h : cfg0.N = 128 := N_0; omega⟩

theorem emb0 (b : Fin 4) (k : Nat) (hk : k < 32) (i : Fin 128) (d : Fin 512) :
    ((cfg0.win 0).blk (pt b k hk)).view.emb (ix2 i d) = ix2 (tok b k i) d := by
  obtain ⟨⟨e0, e1⟩, -⟩ := idx (pt b k hk)
  have ht : (pt b k hk).val = b.val * 32 + k := rfl
  funext a; apply Fin.ext
  match a with
  | ⟨0, _⟩ => show win0_0.index (pt b k hk) (0 : Fin 2) * 128 + 1 * i.val = (b.val * 4096 + k * 128 + i.val) % 16384; omega
  | ⟨1, _⟩ => show win0_0.index (pt b k hk) (1 : Fin 2) * 512 + 1 * d.val = d.val; omega

theorem emb1 (b : Fin 4) (k : Nat) (hk : k < 32) (i : Fin 128) (d : Fin 512) :
    ((cfg0.win 1).blk (pt b k hk)).view.emb (ix2 i d) = ix2 (tok b k i) d := by
  obtain ⟨-, ⟨e0, e1⟩, -⟩ := idx (pt b k hk)
  have ht : (pt b k hk).val = b.val * 32 + k := rfl
  funext a; apply Fin.ext
  match a with
  | ⟨0, _⟩ => show win0_1.index (pt b k hk) (0 : Fin 2) * 128 + 1 * i.val = (b.val * 4096 + k * 128 + i.val) % 16384; omega
  | ⟨1, _⟩ => show win0_1.index (pt b k hk) (1 : Fin 2) * 512 + 1 * d.val = d.val; omega

theorem emb2 (b : Fin 4) (k : Nat) (hk : k < 32) (i : Fin 128) (d : Fin 512) :
    ((cfg0.win 2).blk (pt b k hk)).view.emb (ix2 i d) = ix2 (tok b k i) d := by
  obtain ⟨-, -, ⟨e0, e1⟩, -⟩ := idx (pt b k hk)
  have ht : (pt b k hk).val = b.val * 32 + k := rfl
  funext a; apply Fin.ext
  match a with
  | ⟨0, _⟩ => show win0_2.index (pt b k hk) (0 : Fin 2) * 128 + 1 * i.val = (b.val * 4096 + k * 128 + i.val) % 16384; omega
  | ⟨1, _⟩ => show win0_2.index (pt b k hk) (1 : Fin 2) * 512 + 1 * d.val = d.val; omega

theorem emb3 (b : Fin 4) (k : Nat) (hk : k < 32) (i : Fin 128) (d : Fin 512) :
    ((cfg0.win 3).blk (pt b k hk)).view.emb (ix2 i d) = ix2 (tok b k i) d := by
  obtain ⟨-, -, -, e0, e1⟩ := idx (pt b k hk)
  have ht : (pt b k hk).val = b.val * 32 + k := rfl
  funext a; apply Fin.ext
  match a with
  | ⟨0, _⟩ => show win0_3.index (pt b k hk) (0 : Fin 2) * 128 + 1 * i.val = (b.val * 4096 + k * 128 + i.val) % 16384; omega
  | ⟨1, _⟩ => show win0_3.index (pt b k hk) (1 : Fin 2) * 512 + 1 * d.val = d.val; omega

theorem emb4 (t : Fin cfg0.N) (j : S1x512.Idx) : ((cfg0.win 4).blk t).view.emb j = j := by
  have e := idxc t
  funext a; apply Fin.ext
  match a with
  | ⟨0, _⟩ => show win0_4.index t (0 : Fin 2) * 1 + 1 * (j 0).val = (j 0).val; omega
  | ⟨1, _⟩ => show win0_4.index t (1 : Fin 2) * 512 + 1 * (j 1).val = (j 1).val; omega

theorem emb5 (t : Fin cfg0.N) (j : S4x128x128.Idx) : ((cfg0.win 5).blk t).view.emb j = j := by
  have e := idxc t
  funext a; apply Fin.ext
  match a with
  | ⟨0, _⟩ => show win0_5.index t (0 : Fin 3) * 4 + 1 * (j 0).val = (j 0).val; omega
  | ⟨1, _⟩ => show win0_5.index t (1 : Fin 3) * 128 + 1 * (j 1).val = (j 1).val; omega
  | ⟨2, _⟩ => show win0_5.index t (2 : Fin 3) * 128 + 1 * (j 2).val = (j 2).val; omega

theorem emb6 (t : Fin cfg0.N) (j : S4x128x128.Idx) : ((cfg0.win 6).blk t).view.emb j = j := by
  have e := idxc t
  funext a; apply Fin.ext
  match a with
  | ⟨0, _⟩ => show win0_6.index t (0 : Fin 3) * 4 + 1 * (j 0).val = (j 0).val; omega
  | ⟨1, _⟩ => show win0_6.index t (1 : Fin 3) * 128 + 1 * (j 1).val = (j 1).val; omega
  | ⟨2, _⟩ => show win0_6.index t (2 : Fin 3) * 128 + 1 * (j 2).val = (j 2).val; omega

theorem emb7 (t : Fin cfg0.N) (j : S4x128x128.Idx) : ((cfg0.win 7).blk t).view.emb j = j := by
  have e := idxc t
  funext a; apply Fin.ext
  match a with
  | ⟨0, _⟩ => show win0_7.index t (0 : Fin 3) * 4 + 1 * (j 0).val = (j 0).val; omega
  | ⟨1, _⟩ => show win0_7.index t (1 : Fin 3) * 128 + 1 * (j 1).val = (j 1).val; omega
  | ⟨2, _⟩ => show win0_7.index t (2 : Fin 3) * 128 + 1 * (j 2).val = (j 2).val; omega

theorem emb8 (t : Fin cfg0.N) (j : S4x1x128.Idx) : ((cfg0.win 8).blk t).view.emb j = j := by
  have e := idxc t
  funext a; apply Fin.ext
  match a with
  | ⟨0, _⟩ => show win0_8.index t (0 : Fin 3) * 4 + 1 * (j 0).val = (j 0).val; omega
  | ⟨1, _⟩ => show win0_8.index t (1 : Fin 3) * 1 + 1 * (j 1).val = (j 1).val; omega
  | ⟨2, _⟩ => show win0_8.index t (2 : Fin 3) * 128 + 1 * (j 2).val = (j 2).val; omega

/-! So each window's block, entry by entry. -/

/-- Argument 0, by rows and columns. -/
def A0 (n : Fin 16384) (d : Fin 512) : EReal := (m ((c : Thread nD τ).loc main_arg0) : FVec Ideal S16384x512 .bf16) (ix2 n d)

theorem iblk0 (b : Fin 4) (k : Nat) (hk : k < 32) (i : Fin 128) (d : Fin 512) :
    (iblk m c 0 (pt b k hk) : FVec Ideal S128x512 .bf16) (ix2 i d) = A0 m c (tok b k i) d := by
  unfold A0
  rw [← V_main_arg0 m c]
  exact congrArg (V m c main_arg0) (emb0 b k hk i d)

/-- Argument 1, by rows and columns. -/
def A1 (n : Fin 16384) (d : Fin 512) : EReal := (m ((c : Thread nD τ).loc main_arg1) : FVec Ideal S16384x512 .bf16) (ix2 n d)

theorem iblk1 (b : Fin 4) (k : Nat) (hk : k < 32) (i : Fin 128) (d : Fin 512) :
    (iblk m c 1 (pt b k hk) : FVec Ideal S128x512 .bf16) (ix2 i d) = A1 m c (tok b k i) d := by
  unfold A1
  rw [← V_main_arg1 m c]
  exact congrArg (V m c main_arg1) (emb1 b k hk i d)

/-- Argument 2, by rows and columns. -/
def A2 (n : Fin 16384) (d : Fin 512) : EReal := (m ((c : Thread nD τ).loc main_arg2) : FVec Ideal S16384x512 .bf16) (ix2 n d)

theorem iblk2 (b : Fin 4) (k : Nat) (hk : k < 32) (i : Fin 128) (d : Fin 512) :
    (iblk m c 2 (pt b k hk) : FVec Ideal S128x512 .bf16) (ix2 i d) = A2 m c (tok b k i) d := by
  unfold A2
  rw [← V_main_arg2 m c]
  exact congrArg (V m c main_arg2) (emb2 b k hk i d)

/-- Argument 3, by rows and columns. -/
def A3 (n : Fin 16384) (d : Fin 512) : EReal := (m ((c : Thread nD τ).loc main_arg3) : FVec Ideal S16384x512 .f32) (ix2 n d)

theorem iblk3 (b : Fin 4) (k : Nat) (hk : k < 32) (i : Fin 128) (d : Fin 512) :
    (iblk m c 3 (pt b k hk) : FVec Ideal S128x512 .f32) (ix2 i d) = A3 m c (tok b k i) d := by
  unfold A3
  rw [← V_main_arg3 m c]
  exact congrArg (V m c main_arg3) (emb3 b k hk i d)

/-- Argument 4, the gain. -/
def A4 (d : Fin 512) : EReal := (m ((c : Thread nD τ).loc main_arg4) : FVec Ideal S512 .f32) (ix1 d)

theorem iblk4 (t : Fin cfg0.N) (d : Fin 512) : (iblk m c 4 t : FVec Ideal S1x512 .f32) (ix2 0 d) = A4 m c d :=
  (congrArg (V m c main_v0) (emb4 t (ix2 0 d))).trans (V_v0 m c d)

theorem iblk5 (t : Fin cfg0.N) (h : Fin 4) (i j : Fin 128) : (iblk m c 5 t : FVec Ideal S4x128x128 .f32) (ix3 h i j) = decay h i j :=
  (congrArg (V m c main_v38) (emb5 t (ix3 h i j))).trans (V_v38 m c h i j)

theorem iblk6 (t : Fin cfg0.N) (h : Fin 4) (i j : Fin 128) : (iblk m c 6 t : FVec Ideal S4x128x128 .f32) (ix3 h i j) = qdec h i :=
  (congrArg (V m c main_v41) (emb6 t (ix3 h i j))).trans (V_v41 m c h i j)

theorem iblk7 (t : Fin cfg0.N) (h : Fin 4) (i j : Fin 128) : (iblk m c 7 t : FVec Ideal S4x128x128 .f32) (ix3 h i j) = kdec h i :=
  (congrArg (V m c main_v44) (emb7 t (ix3 h i j))).trans (V_v44 m c h i j)

theorem iblk8 (t : Fin cfg0.N) (h : Fin 4) (e : Fin 128) : (iblk m c 8 t : FVec Ideal S4x1x128 .f32) (ix3 h 0 e) = gch h :=
  (congrArg (V m c main_v46) (emb8 t (ix3 h 0 e))).trans (V_v46 m c h e)

/-! The grid points, one batch after another. -/

/-- A point's new state, where the state before it is the recurrence's. -/
theorem stateArr_eq (b : Fin 4) (k : Nat) (hk : k < 32) (X : S4x128x128.Idx → EReal)
    (hX : ∀ h d e, X (ix3 h d e) = S (A1 m c) (A2 m c) b h k d e) (h : Fin 4) (d e : Fin 128) :
    stateArr m c (pt b k hk) X (ix3 h d e) = S (A1 m c) (A2 m c) b h (k + 1) d e := by
  rw [S_succ]
  unfold stateArr state
  show newState _ _ _ _ _ d e = newState _ _ _ _ _ d e
  congr 1
  · funext j d; exact iblk1 m c b k hk j (col h d)
  · funext j d; exact iblk2 m c b k hk j (col h d)
  · funext j d; exact iblk7 m c _ h j d
  · funext e; exact iblk8 m c _ h e
  · funext d e; exact hX h d e

/-- A point's output block, where the state before it is the recurrence's. -/
theorem outArr_eq (b : Fin 4) (k : Nat) (hk : k < 32) (X : S4x128x128.Idx → EReal)
    (hX : ∀ h d e, X (ix3 h d e) = S (A1 m c) (A2 m c) b h k d e) (i : Fin 128) (h : Fin 4) (e : Fin 128) :
    outArr m c (pt b k hk) X (ix2 i (col h e)) = Y (A0 m c) (A1 m c) (A2 m c) (A3 m c) (A4 m c) b h k i e := by
  have e1 : (⟨(col h e).val / 128, by have := (col h e).isLt; omega⟩ : Fin 4) = h :=
    Fin.ext (by show (h.val * 128 + e.val) / 128 = h.val; omega)
  have e2 : (⟨(col h e).val % 128, Nat.mod_lt _ (by decide)⟩ : Fin 128) = e :=
    Fin.ext (by show (h.val * 128 + e.val) % 128 = e.val; omega)
  have e3 : outArr m c (pt b k hk) X (ix2 i (col h e)) = out (iblk m c 0 (pt b k hk)) (iblk m c 1 (pt b k hk)) (iblk m c 2 (pt b k hk))
      (iblk m c 3 (pt b k hk)) (iblk m c 4 (pt b k hk)) (iblk m c 5 (pt b k hk)) (iblk m c 6 (pt b k hk)) X
      (⟨(col h e).val / 128, by have := (col h e).isLt; omega⟩ : Fin 4) i (⟨(col h e).val % 128, Nat.mod_lt _ (by decide)⟩ : Fin 128) := rfl
  rw [e3, e1, e2]
  exact out_eq_Y (iblk0 m c b k hk) (iblk1 m c b k hk) (iblk2 m c b k hk) (iblk3 m c b k hk) (iblk4 m c _) (iblk5 m c _) (iblk6 m c _) hX h i e

/-- The state left by each point but a batch's last. -/
theorem scr_eq (b : Fin 4) : ∀ (k : Nat) (hk : k < 31) (h : Fin 4) (d e : Fin 128),
    (outsAt0 m c (pt b k (by omega)).val (pt b k (by omega)).isLt).2.2 (ix3 h d e) = S (A1 m c) (A2 m c) b h (k + 1) d e
  | 0, _, h, d, e => by
    rw [scr_first m c (pt b 0 (by omega)) (by show (b.val * 32 + 0) % 32 = 0; omega) (by show ¬(b.val * 32 + 0) % 32 = 31; omega)]
    exact stateArr_eq m c b 0 (by omega) zeroS (fun h d e => zeroS_apply _) h d e
  | k + 1, hk, h, d, e => by
    rw [scr_mid m c (pt b (k + 1) (by omega)) (by show ¬(b.val * 32 + (k + 1)) % 32 = 0; omega) (by show ¬(b.val * 32 + (k + 1)) % 32 = 31; omega)]
    exact stateArr_eq m c b (k + 1) (by omega) _ (fun h d e => scr_eq b k (by omega) h d e) h d e

theorem carried_eq (b : Fin 4) (k : Nat) (h0 : k ≠ 0) (hk : k < 32) (h : Fin 4) (d e : Fin 128) :
    carried m c (pt b k hk) (ix3 h d e) = S (A1 m c) (A2 m c) b h k d e := by
  obtain ⟨k', rfl⟩ := Nat.exists_eq_succ_of_ne_zero h0
  exact scr_eq m c b k' (by omega) h d e

/-- The output block of each point. -/
theorem out_eq (b : Fin 4) (k : Nat) (hk : k < 32) (i : Fin 128) (h : Fin 4) (e : Fin 128) :
    (outsAt0 m c (pt b k hk).val (pt b k hk).isLt).1 (ix2 i (col h e)) = Y (A0 m c) (A1 m c) (A2 m c) (A3 m c) (A4 m c) b h k i e := by
  have hp : (pt b k hk).val = b.val * 32 + k := rfl
  by_cases h0 : k = 0
  · subst h0
    rw [out_first m c (pt b 0 hk) (by omega) (by omega)]
    exact outArr_eq m c b 0 hk zeroS (fun h d e => zeroS_apply _) i h e
  · by_cases h1 : k = 31
    · rw [out_last m c (pt b k hk) (by omega) (by omega)]
      exact outArr_eq m c b k hk _ (carried_eq m c b k h0 hk) i h e
    · rw [out_mid m c (pt b k hk) (by omega) (by omega)]
      exact outArr_eq m c b k hk _ (carried_eq m c b k h0 hk) i h e

/-- A batch's last point gives its final state. -/
theorem fin_eq (b h : Fin 4) (d e : Fin 128) :
    (outsAt0 m c (pt b 31 (by omega)).val (pt b 31 (by omega)).isLt).2.1 (ix4 0 h d e) = S (A1 m c) (A2 m c) b h 32 d e := by
  have hp : (pt b 31 (by omega)).val = b.val * 32 + 31 := rfl
  rw [fin_last m c (pt b 31 (by omega)) (by omega) (by omega)]
  exact stateArr_eq m c b 31 (by omega) _ (carried_eq m c b 31 (by omega) (by omega)) h d e

/-! The two output arrays. -/

theorem G9_apply (b : Fin 4) (k : Nat) (hk : k < 32) (i : Fin 128) (h : Fin 4) (e : Fin 128) :
    Cert.RetIdeal.Value.G9 m c (ix2 (tok b k i) (col h e)) = Y (A0 m c) (A1 m c) (A2 m c) (A3 m c) (A4 m c) b h k i e := by
  have hp : Cert.RetIdeal.Value.pt9Of (ix2 (tok b k i) (col h e)) = (pt b k hk).val := by
    show 1 * ((b.val * 4096 + k * 128 + i.val) % 16384 / 128 - 0) + 1 * ((h.val * 128 + e.val) / 512 - 0) = b.val * 32 + k
    omega
  have hl : Cert.RetIdeal.Value.loc9Of (ix2 (tok b k i) (col h e)) = ix2 i (col h e) := by
    funext a; apply Fin.ext
    match a with
    | ⟨0, _⟩ => show (b.val * 4096 + k * 128 + i.val) % 16384 % 128 = i.val; omega
    | ⟨1, _⟩ => show (h.val * 128 + e.val) % 512 = h.val * 128 + e.val; omega
  unfold Cert.RetIdeal.Value.G9
  have hn : Cert.RetIdeal.Value.pt9Of (ix2 (tok b k i) (col h e)) < cfg0.N := by rw [hp]; exact (pt b k hk).isLt
  rw [dif_pos hn, hl, ← Cert.RetIdeal.Value.outsAt0_sweep m c _ hn]
  simp only [hp]
  exact out_eq m c b k hk i h e

theorem G10_apply (b h : Fin 4) (d e : Fin 128) :
    Cert.RetIdeal.Value.G10 m c (ix4 b h d e) = S (A1 m c) (A2 m c) b h 32 d e := by
  have hp : Cert.RetIdeal.Value.pt10Of (ix4 b h d e) = (pt b 31 (by omega)).val := by
    show 32 * (1 * (b.val / 1 - 0) + 1 * (h.val / 4 - 0) + 1 * (d.val / 128 - 0) + 1 * (e.val / 128 - 0)) + 31 = b.val * 32 + 31
    omega
  have hl : Cert.RetIdeal.Value.loc10Of (ix4 b h d e) = ix4 0 h d e := by
    funext a; apply Fin.ext
    match a with
    | ⟨0, _⟩ => show b.val % 1 = 0; omega
    | ⟨1, _⟩ => show h.val % 4 = h.val; omega
    | ⟨2, _⟩ => show d.val % 128 = d.val; omega
    | ⟨3, _⟩ => show e.val % 128 = e.val; omega
  unfold Cert.RetIdeal.Value.G10
  have hn : Cert.RetIdeal.Value.pt10Of (ix4 b h d e) < cfg0.N := by rw [hp]; exact (pt b 31 (by omega)).isLt
  rw [dif_pos hn, hl, ← Cert.RetIdeal.Value.outsAt0_sweep m c _ hn]
  simp only [hp]
  exact fin_eq m c b h d e

end Cert.RetArray

end
-- ==== Proof.RetRefTrip.lean ====
/- One trip of the reference's recurrence, read entry by entry: the chunk it takes, its outputs and the state after it. -/
module

public import proofs.«01_k».proof.Proof.RetMath
public import proofs.«01_k».proof.Proof.Gen.RetRefIdeal.Run
public import Idealize.ShloMosaic.Lib.DynamicIndex
public import Idealize.ShloMosaic.Lib.Pointwise
public import Idealize.ShloMosaic.PureOps.Ideal.Laws

@[expose] public section

set_option maxRecDepth 16384

noncomputable section

namespace Cert.RetRefRow

open Idealize.ShloMosaic Idealize.ShloMosaic.TcCoe Cert.RetRefIdeal Cert.RetRefIdeal.Gen Cert.RetRefIdeal.Value Cert.Rows Cert.RetBlock Cert.RetCases Cert.RetMath

variable (V0 : Valuation τ sig (Elt Ideal))

theorem start_eq (k : Nat) (hk : k < 32) (hc : V0 (Proc.devRef .tc main_v17_3) = fun _ => BitVec.ofNat 32 k) (a : Fin 5) :
    (((![V0 (Proc.devRef .tc main_v17_3), constantI S_ 32 0#32, constantI S_ 32 0#32, constantI S_ 32 0#32, constantI S_ 32 0#32] :
      Fin 5 → (⟨S_, .i32⟩ : BufTy).Contents (Elt Ideal))) a (Shape.Idx.first h_S_)).toInt = ((![k, 0, 0, 0, 0] : Fin 5 → Nat) a : Int) := by
  rw [hc]
  fin_cases a
  · exact toInt_ofNat_of_lt (by omega)
  all_goals rfl

theorem slices5 (k : Nat) (hk : k < 32) : S32x4x4x128x128.Slices ![k, 0, 0, 0, 0] S1x4x4x128x128 :=
  ⟨rfl, fun a => by fin_cases a <;> simp <;> omega⟩

theorem slice_apply (k : Nat) (hk : k < 32) (hc : V0 (Proc.devRef .tc main_v17_3) = fun _ => BitVec.ofNat 32 k)
    (x : FVec Ideal S32x4x4x128x128 .f32) (b h : Fin 4) (i d : Fin 128) :
    (shapeCast S4x4x128x128 (Host.dynamicSlice S1x4x4x128x128 x (fun k => (((![V0 (Proc.devRef .tc main_v17_3), constantI S_ 32 0#32, constantI S_ 32 0#32, constantI S_ 32 0#32, constantI S_ 32 0#32] : Fin 5 → (⟨S_, .i32⟩ : BufTy).Contents (Elt Ideal))) k (Shape.Idx.first h_S_)).toInt) sliceFits_S32x4x4x128x128_S1x4x4x128x128) shapeCasts_S1x4x4x128x128_S4x4x128x128 : FVec Ideal S4x4x128x128 .f32) (ix4 b h i d) = x (ix5 (⟨k, hk⟩ : Fin 32) b h i d) := by
  rw [Host.dynamicSlice_eq_extractStridedSlice _ x _ ![k, 0, 0, 0, 0] _ (slices5 k hk) (start_eq V0 k hk hc)]
  pointwise []

theorem v56_apply (h : Fin 4) : (res_main_while0b_v56 V0 : FVec Ideal S4 .f32) (ix1 h) = lg h := by
  pointwise [res_main_while0b_v56]
  fin_cases h <;> rfl

theorem v57_apply (i : Fin 128) : (res_main_while0b_v57 V0 : FVec Ideal S128 .f32) (ix1 i) = pos i := rfl

theorem v62_apply (i j : Fin 128) : (res_main_while0b_v62 V0 : FVec Ideal S128x128 .f32) (ix2 i j) = pos i - pos j := rfl

/-! One trip's arrays. -/

variable (q k v s : FVec Ideal S4x4x128x128 .f32) (l : FVec Ideal S4 .f32) (p : FVec Ideal S128 .f32) (df : FVec Ideal S128x128 .f32)

/-- The state after a trip, of the trip's arrays. -/
def stateV : FVec Ideal S4x4x128x128 .f32 :=
  addf (mulf s (broadcastInDim S4x4x128x128 ![0, 1, 2, 3] bcast_S1x4x1x1_S4x4x128x128_0_1_2_3 (broadcastInDim S1x4x1x1 ![1, 2, 3] bcast_S4x1x1_S1x4x1x1_1_2_3 (broadcastInDim S4x1x1 ![0] bcast_S4_S4x1x1_0 (Host.exp (mulf l (broadcastInDim S4 ![] bcast_S_S4 (constant (F := Ideal) S_ .f32 0x43000000#32)))))))) (Host.dotGeneral dot_S4x4x128x128_S4x4x128x128_S4x4x128x128_2_2_3_3_01_01 none (mulf k (broadcastInDim S4x4x128x128 ![0, 1, 2, 3] bcast_S1x4x128x1_S4x4x128x128_0_1_2_3 (broadcastInDim S1x4x128x1 ![1, 2, 3] bcast_S4x128x1_S1x4x128x1_1_2_3 (broadcastInDim S4x128x1 ![0, 1] bcast_S4x128_S4x128x1_0_1 (Host.exp (mulf (broadcastInDim S4x128 ![0, 1] bcast_S4x1_S4x128_0_1 (broadcastInDim S4x1 ![0] bcast_S4_S4x1_0 l)) (broadcastInDim S4x128 ![0, 1] bcast_S1x128_S4x128_0_1 (broadcastInDim S1x128 ![1] bcast_S128_S1x128_1 (subf (broadcastInDim S128 ![] bcast_S_S128 (constant (F := Ideal) S_ .f32 0x42FE0000#32)) p)))))))))  v)

/-- The fading of scores. -/
def fadeV : FVec Ideal S4x128x128 .f32 :=
  select (broadcastInDim S4x128x128 ![1, 2] bcast_S128x128_S4x128x128_1_2 (cmpf .oge df (broadcastInDim S128x128 ![] bcast_S_S128x128 (constant (F := Ideal) S_ .f32 0x00000000#32)))) (Host.exp (mulf (broadcastInDim S4x128x128 ![0, 1, 2] bcast_S4x1x1_S4x128x128_0_1_2 (broadcastInDim S4x1x1 ![0] bcast_S4_S4x1x1_0 l)) (broadcastInDim S4x128x128 ![0, 1, 2] bcast_S1x128x128_S4x128x128_0_1_2 (broadcastInDim S1x128x128 ![1, 2] bcast_S128x128_S1x128x128_1_2 (maximumf df (broadcastInDim S128x128 ![] bcast_S_S128x128 (constant (F := Ideal) S_ .f32 0x00000000#32))))))) (broadcastInDim S4x128x128 ![] bcast_S_S4x128x128 (constant (F := Ideal) S_ .f32 0x00000000#32))

/-- The trip's outputs, of the trip's arrays. -/
def outV : FVec Ideal S4x4x128x128 .f32 :=
  addf (Host.dotGeneral dot_S4x4x128x128_S4x4x128x128_S4x4x128x128_3_2_2_3_01_01 none (mulf (Host.dotGeneral dot_S4x4x128x128_S4x4x128x128_S4x4x128x128_3_3_2_2_01_01 none q k) (broadcastInDim S4x4x128x128 ![0, 1, 2, 3] bcast_S1x4x128x128_S4x4x128x128_0_1_2_3 (broadcastInDim S1x4x128x128 ![1, 2, 3] bcast_S4x128x128_S1x4x128x128_1_2_3 (fadeV l df)))) v) (Host.dotGeneral dot_S4x4x128x128_S4x4x128x128_S4x4x128x128_3_2_2_3_01_01 none (mulf q (broadcastInDim S4x4x128x128 ![0, 1, 2, 3] bcast_S1x4x128x1_S4x4x128x128_0_1_2_3 (broadcastInDim S1x4x128x1 ![1, 2, 3] bcast_S4x128x1_S1x4x128x1_1_2_3 (broadcastInDim S4x128x1 ![0, 1] bcast_S4x128_S4x128x1_0_1 (Host.exp (mulf (broadcastInDim S4x128 ![0, 1] bcast_S4x1_S4x128_0_1 (broadcastInDim S4x1 ![0] bcast_S4_S4x1_0 l)) (broadcastInDim S4x128 ![0, 1] bcast_S1x128_S4x128_0_1 (broadcastInDim S1x128 ![1] bcast_S128_S1x128_1 (addf p (broadcastInDim S128 ![] bcast_S_S128 (constant (F := Ideal) S_ .f32 0x3F800000#32))))))))))) s)

theorem step4_eq : step_main_v17_4 V0 = stateV (res_main_while0b_v49 V0) (res_main_while0b_v50 V0) (V0 (Proc.devRef .tc main_v17_4))
    (res_main_while0b_v56 V0) (res_main_while0b_v57 V0) := rfl

set_option maxHeartbeats 4000000 in
theorem step5_eq : step_main_v17_5 V0 = Host.dynamicUpdateSlice (s := S32x4x4x128x128) (u := S1x4x4x128x128) (V0 (Proc.devRef .tc main_v17_5)) (broadcastInDim S1x4x4x128x128 ![1, 2, 3, 4] bcast_S4x4x128x128_S1x4x4x128x128_1_2_3_4
      (outV (res_main_while0b_v48 V0) (res_main_while0b_v49 V0) (res_main_while0b_v50 V0) (V0 (Proc.devRef .tc main_v17_4))
        (res_main_while0b_v56 V0) (res_main_while0b_v57 V0) (res_main_while0b_v62 V0)))
      (fun k => (((![V0 (Proc.devRef .tc main_v17_3), constantI S_ 32 0#32, constantI S_ 32 0#32, constantI S_ 32 0#32, constantI S_ 32 0#32] : Fin 5 → (⟨S_, .i32⟩ : BufTy).Contents (Elt Ideal))) k (Shape.Idx.first h_S_)).toInt) updateFits_S32x4x4x128x128_S1x4x4x128x128 := by
  unfold step_main_v17_5 outV fadeV
  simp only [id]
  rfl

theorem fadeV_apply (hl : ∀ h, l (ix1 h) = lg h) (hd : ∀ i j, df (ix2 i j) = pos i - pos j) (h : Fin 4) (i j : Fin 128) :
    fadeV l df (ix3 h i j) = decay h i j := by
  pointwise [fadeV]
  simp only [hl, hd]
  rfl

theorem stateV_apply (hl : ∀ h, l (ix1 h) = lg h) (hp : ∀ i, p (ix1 i) = pos i) (b h : Fin 4) (d e : Fin 128) :
    stateV k v s l p (ix4 b h d e) = newState (fun j d => k (ix4 b h j d)) (fun j e => v (ix4 b h j e)) (fun j _ => kdec h j)
      (fun _ => gch h) (fun d e => s (ix4 b h d e)) d e := by
  pointwise [stateV]
  simp only [hl, hp]
  rfl

theorem outV_apply (hl : ∀ h, l (ix1 h) = lg h) (hp : ∀ i, p (ix1 i) = pos i) (hd : ∀ i j, df (ix2 i j) = pos i - pos j)
    (b h : Fin 4) (i e : Fin 128) :
    outV q k v s l p df (ix4 b h i e) = headOut (fun j d => q (ix4 b h j d)) (fun j d => k (ix4 b h j d)) (fun j e => v (ix4 b h j e))
      (decay h) (fun i _ => qdec h i) (fun d e => s (ix4 b h d e)) i e := by
  pointwise [outV]
  simp only [hl, hp, fadeV_apply l df hl hd]
  rfl

theorem update_apply (t : Nat) (ht : t < 32) (hc : V0 (Proc.devRef .tc main_v17_3) = fun _ => BitVec.ofNat 32 t)
    (x : FVec Ideal S32x4x4x128x128 .f32) (u : FVec Ideal S4x4x128x128 .f32) (r : Fin 32) (b h : Fin 4) (i d : Fin 128) :
    Host.dynamicUpdateSlice (s := S32x4x4x128x128) (u := S1x4x4x128x128) x (broadcastInDim S1x4x4x128x128 ![1, 2, 3, 4] bcast_S4x4x128x128_S1x4x4x128x128_1_2_3_4 u)
      (fun k => (((![V0 (Proc.devRef .tc main_v17_3), constantI S_ 32 0#32, constantI S_ 32 0#32, constantI S_ 32 0#32, constantI S_ 32 0#32] : Fin 5 → (⟨S_, .i32⟩ : BufTy).Contents (Elt Ideal))) k (Shape.Idx.first h_S_)).toInt) updateFits_S32x4x4x128x128_S1x4x4x128x128 (ix5 r b h i d)
    = if r.val = t then u (ix4 b h i d) else x (ix5 r b h i d) := by
  have hs : (fun k : Fin 5 => (((![V0 (Proc.devRef .tc main_v17_3), constantI S_ 32 0#32, constantI S_ 32 0#32, constantI S_ 32 0#32, constantI S_ 32 0#32] : Fin 5 → (⟨S_, .i32⟩ : BufTy).Contents (Elt Ideal))) k (Shape.Idx.first h_S_)).toInt)
      = fun a => ((![t, 0, 0, 0, 0] : Fin 5 → Nat) a : Int) := funext (start_eq V0 t ht hc)
  rw [hs]
  pointwise []
  have c0 : ∀ h, Host.clampedStart S32x4x4x128x128 S1x4x4x128x128 h (fun a => ((![t, 0, 0, 0, 0] : Fin 5 → Nat) a : Int)) 0 = t := fun _ => by
    show (min (max ((t : Nat) : Int) 0) ((32 - 1 : Nat) : Int)).toNat = t
    omega
  have c1 : ∀ h, Host.clampedStart S32x4x4x128x128 S1x4x4x128x128 h (fun a => ((![t, 0, 0, 0, 0] : Fin 5 → Nat) a : Int)) 1 = 0 := fun _ => rfl
  have c2 : ∀ h, Host.clampedStart S32x4x4x128x128 S1x4x4x128x128 h (fun a => ((![t, 0, 0, 0, 0] : Fin 5 → Nat) a : Int)) 2 = 0 := fun _ => rfl
  have c3 : ∀ h, Host.clampedStart S32x4x4x128x128 S1x4x4x128x128 h (fun a => ((![t, 0, 0, 0, 0] : Fin 5 → Nat) a : Int)) 3 = 0 := fun _ => rfl
  have c4 : ∀ h, Host.clampedStart S32x4x4x128x128 S1x4x4x128x128 h (fun a => ((![t, 0, 0, 0, 0] : Fin 5 → Nat) a : Int)) 4 = 0 := fun _ => rfl
  simp only [c0, c1, c2, c3, c4, Nat.sub_zero]
  by_cases hr : r.val = t
  · rw [if_pos hr, dif_pos ⟨⟨by omega, by omega⟩, by omega, by omega, by omega, by omega⟩]
  · rw [if_neg hr, dif_neg (fun hh => hr (by omega))]

end Cert.RetRefRow

end
-- ==== Proof.RetRefRun.lean ====
/- The reference's recurrence after any number of trips: its counter, the state it carries and the chunks it has written. -/
module

public import proofs.«01_k».proof.Proof.RetRefTrip

@[expose] public section

set_option maxRecDepth 16384

noncomputable section

namespace Cert.RetRefRow

open Idealize.ShloMosaic Idealize.ShloMosaic.TcCoe Idealize.ShloMosaic.StableHlo Cert.RetRefIdeal Cert.RetRefIdeal.Gen Cert.RetRefIdeal.Value Cert.Rows Cert.RetBlock Cert.RetCases Cert.RetMath

variable (m : (ℓ : Loc nD τ sig) → Buf (Elt Ideal) ℓ) (c : Dev nD)

theorem entry0 (k : Fin 32) (b h : Fin 4) (i d : Fin 128) :
    (entryContents preI m c (Proc.devRef .tc main_v17_0) : FVec Ideal S32x4x4x128x128 .f32) (ix5 k b h i d)
      = (m ((c.tc : Thread nD τ).loc main_arg0) : FVec Ideal S16384x512 .bf16) (ix2 (tok b k.val i) (col h d)) := by
  simp only [entryContents, afterL_cons, afterL_nil]
  after_reads_simp
  simp only [id]
  pointwise []
  show (m ((c.tc : Thread nD τ).loc main_arg0) : FVec Ideal S16384x512 .bf16) _ = _
  congr 2
  exact Fin.ext (by show b.val * 4096 + (k.val * 128 + i.val) = (b.val * 4096 + k.val * 128 + i.val) % 16384; omega)

theorem entry1 (k : Fin 32) (b h : Fin 4) (i d : Fin 128) :
    (entryContents preI m c (Proc.devRef .tc main_v17_1) : FVec Ideal S32x4x4x128x128 .f32) (ix5 k b h i d)
      = (m ((c.tc : Thread nD τ).loc main_arg1) : FVec Ideal S16384x512 .bf16) (ix2 (tok b k.val i) (col h d)) := by
  simp only [entryContents, afterL_cons, afterL_nil]
  after_reads_simp
  simp only [id]
  pointwise []
  show (m ((c.tc : Thread nD τ).loc main_arg1) : FVec Ideal S16384x512 .bf16) _ = _
  congr 2
  exact Fin.ext (by show b.val * 4096 + (k.val * 128 + i.val) = (b.val * 4096 + k.val * 128 + i.val) % 16384; omega)

theorem entry2 (k : Fin 32) (b h : Fin 4) (i d : Fin 128) :
    (entryContents preI m c (Proc.devRef .tc main_v17_2) : FVec Ideal S32x4x4x128x128 .f32) (ix5 k b h i d)
      = (m ((c.tc : Thread nD τ).loc main_arg2) : FVec Ideal S16384x512 .bf16) (ix2 (tok b k.val i) (col h d)) := by
  simp only [entryContents, afterL_cons, afterL_nil]
  after_reads_simp
  simp only [id]
  pointwise []
  show (m ((c.tc : Thread nD τ).loc main_arg2) : FVec Ideal S16384x512 .bf16) _ = _
  congr 2
  exact Fin.ext (by show b.val * 4096 + (k.val * 128 + i.val) = (b.val * 4096 + k.val * 128 + i.val) % 16384; omega)

theorem entry4 (b h : Fin 4) (i d : Fin 128) :
    (entryContents preI m c (Proc.devRef .tc main_v17_4) : FVec Ideal S4x4x128x128 .f32) (ix4 b h i d) = (0 : EReal) := by
  simp only [entryContents, afterL_cons, afterL_nil]
  after_reads_simp
  simp only [id]
  pointwise []

/-! The buffers after some trips. -/

/-- The reference's buffers after `k` trips. -/
def held (k : Nat) : Valuation τ sig (Elt Ideal) := STEP^[k] (entryContents preI m c)

theorem held_succ (k : Nat) : held m c (k + 1) = STEP (held m c k) := Function.iterate_succ_apply' _ _ _

/-- The queries, keys and values. -/
def B0 (n : Fin 16384) (d : Fin 512) : EReal := (m ((c.tc : Thread nD τ).loc main_arg0) : FVec Ideal S16384x512 .bf16) (ix2 n d)
def B1 (n : Fin 16384) (d : Fin 512) : EReal := (m ((c.tc : Thread nD τ).loc main_arg1) : FVec Ideal S16384x512 .bf16) (ix2 n d)
def B2 (n : Fin 16384) (d : Fin 512) : EReal := (m ((c.tc : Thread nD τ).loc main_arg2) : FVec Ideal S16384x512 .bf16) (ix2 n d)

theorem held_ctr : ∀ k, held m c k (Proc.devRef .tc main_v17_3) = fun _ => BitVec.ofNat 32 k
  | 0 => ctr_entry m c
  | k + 1 => by
    rw [held_succ, STEP_main_v17_3]
    unfold step_main_v17_3
    rw [held_ctr k]
    funext x
    show BitVec.ofNat 32 k + 1#32 = BitVec.ofNat 32 (k + 1)
    rw [BitVec.ofNat_add]

theorem held_0 : ∀ k, held m c k (Proc.devRef .tc main_v17_0) = entryContents preI m c (Proc.devRef .tc main_v17_0)
  | 0 => rfl
  | k + 1 => by rw [held_succ, STEP_main_v17_0, held_0 k]

theorem chunk0 (k : Nat) (hk : k < 32) (b h : Fin 4) (i d : Fin 128) :
    (res_main_while0b_v48 (held m c k) : FVec Ideal S4x4x128x128 .f32) (ix4 b h i d) = B0 m c (tok b k i) (col h d) :=
  (slice_apply (held m c k) k hk (held_ctr m c k) (held m c k (Proc.devRef .tc main_v17_0)) b h i d).trans
    ((congrFun (held_0 m c k) _).trans (entry0 m c ⟨k, hk⟩ b h i d))

theorem held_1 : ∀ k, held m c k (Proc.devRef .tc main_v17_1) = entryContents preI m c (Proc.devRef .tc main_v17_1)
  | 0 => rfl
  | k + 1 => by rw [held_succ, STEP_main_v17_1, held_1 k]

theorem chunk1 (k : Nat) (hk : k < 32) (b h : Fin 4) (i d : Fin 128) :
    (res_main_while0b_v49 (held m c k) : FVec Ideal S4x4x128x128 .f32) (ix4 b h i d) = B1 m c (tok b k i) (col h d) :=
  (slice_apply (held m c k) k hk (held_ctr m c k) (held m c k (Proc.devRef .tc main_v17_1)) b h i d).trans
    ((congrFun (held_1 m c k) _).trans (entry1 m c ⟨k, hk⟩ b h i d))

theorem held_2 : ∀ k, held m c k (Proc.devRef .tc main_v17_2) = entryContents preI m c (Proc.devRef .tc main_v17_2)
  | 0 => rfl
  | k + 1 => by rw [held_succ, STEP_main_v17_2, held_2 k]

theorem chunk2 (k : Nat) (hk : k < 32) (b h : Fin 4) (i d : Fin 128) :
    (res_main_while0b_v50 (held m c k) : FVec Ideal S4x4x128x128 .f32) (ix4 b h i d) = B2 m c (tok b k i) (col h d) :=
  (slice_apply (held m c k) k hk (held_ctr m c k) (held m c k (Proc.devRef .tc main_v17_2)) b h i d).trans
    ((congrFun (held_2 m c k) _).trans (entry2 m c ⟨k, hk⟩ b h i d))

/-- The carried state is the recurrence's. -/
theorem held_4 (b h : Fin 4) : ∀ (k : Nat) (hk : k ≤ 32) (d e : Fin 128),
    (held m c k (Proc.devRef .tc main_v17_4) : FVec Ideal S4x4x128x128 .f32) (ix4 b h d e) = S (B1 m c) (B2 m c) b h k d e
  | 0, _, d, e => entry4 m c b h d e
  | k + 1, hk, d, e => by
    rw [held_succ, STEP_main_v17_4, step4_eq, S_succ]
    refine (stateV_apply _ _ _ _ _ (v56_apply _) (v57_apply _) b h d e).trans ?_
    exact newState_congr (funext fun j => funext fun d => chunk1 m c k (by omega) b h j d) (funext fun j => funext fun d => chunk2 m c k (by omega) b h j d)
      rfl rfl (funext fun d => funext fun e => held_4 b h k (by omega) d e) d e

/-- A trip's outputs are the recurrence's. -/
theorem trip_out (b h : Fin 4) (k : Nat) (hk : k < 32) (i e : Fin 128) :
    outV (res_main_while0b_v48 (held m c k)) (res_main_while0b_v49 (held m c k)) (res_main_while0b_v50 (held m c k)) (held m c k (Proc.devRef .tc main_v17_4))
      (res_main_while0b_v56 (held m c k)) (res_main_while0b_v57 (held m c k)) (res_main_while0b_v62 (held m c k)) (ix4 b h i e)
      = O (B0 m c) (B1 m c) (B2 m c) b h k i e := by
  refine (outV_apply _ _ _ _ _ _ _ (v56_apply _) (v57_apply _) (v62_apply _) b h i e).trans ?_
  exact congrFun (headOut_congr (funext fun j => funext fun d => chunk0 m c k hk b h j d) (funext fun j => funext fun d => chunk1 m c k hk b h j d)
    (funext fun j => funext fun d => chunk2 m c k hk b h j d) rfl rfl (funext fun d => funext fun e => held_4 m c b h k (by omega) d e) i) e

/-- The chunks written so far are the recurrence's outputs. -/
theorem held_5 (b h : Fin 4) : ∀ (k : Nat) (hk : k ≤ 32) (r : Fin 32) (hr : r.val < k) (i e : Fin 128),
    (held m c k (Proc.devRef .tc main_v17_5) : FVec Ideal S32x4x4x128x128 .f32) (ix5 r b h i e) = O (B0 m c) (B1 m c) (B2 m c) b h r.val i e
  | 0, _, r, hr, i, e => absurd hr (Nat.not_lt_zero _)
  | k + 1, hk, r, hr, i, e => by
    rw [held_succ, STEP_main_v17_5, step5_eq]
    refine (update_apply (held m c k) k (by omega) (held_ctr m c k) (held m c k (Proc.devRef .tc main_v17_5)) _ r b h i e).trans ?_
    by_cases h' : r.val = k
    · rw [if_pos h', h']; exact trip_out m c b h k (by omega) i e
    · rw [if_neg h']; exact held_5 b h k (by omega) r (by omega) i e

end Cert.RetRefRow

end
-- ==== Proof.RetRefOut.lean ====
/- What the reference's recurrence ends with: its outputs, normalised and gated, and its final state, entry by entry. -/
module

public import proofs.«01_k».proof.Proof.RetRefRun

@[expose] public section

set_option maxRecDepth 16384

noncomputable section

namespace Cert.RetRefRow

open Idealize.ShloMosaic Idealize.ShloMosaic.TcCoe Idealize.ShloMosaic.StableHlo Cert.RetRefIdeal Cert.RetRefIdeal.Gen Cert.RetRefIdeal.Value Cert.Rows Cert.RetBlock Cert.RetCases Cert.RetMath

variable (V0 : Valuation τ sig (Elt Ideal))

/-! What the reference does after the loop, on plain arrays. -/

variable (x : FVec Ideal S32x4x4x128x128 .f32) (o : FVec Ideal S4x4x4096x128 .f32) (r : FVec Ideal S16384x512 .f32) (g : FVec Ideal S512 .f32)

/-- The chunks' outputs, a batch's one after another. -/
def joinedV : FVec Ideal S4x4x4096x128 .f32 :=
  shapeCast _ (transpose S4x4x32x128x128 [1, 2, 0, 3, 4] x transposes_S32x4x4x128x128_S4x4x32x128x128_1_2_0_3_4) shapeCasts_S4x4x32x128x128_S4x4x4096x128

/-- The mean of each row. -/
def meanV : FVec Ideal S4x4x4096x1 .f32 :=
  Host.divf (broadcastInDim S4x4x4096x1 ![0, 1, 2] bcast_S4x4x4096_S4x4x4096x1_0_1_2 (Host.reduceAdd o (constant (F := Ideal) S_ .f32 0x00000000#32) reducesTo_S4x4x4096x128_S4x4x4096_d3 h_S_)) (broadcastInDim S4x4x4096x1 ![] bcast_S_S4x4x4096x1 (constant (F := Ideal) S_ .f32 0x43000000#32))

/-- Each row's deviations from its mean. -/
def devV : FVec Ideal S4x4x4096x128 .f32 :=
  subf o (broadcastInDim S4x4x4096x128 ![0, 1, 2, 3] bcast_S4x4x4096x1_S4x4x4096x128_0_1_2_3 (meanV o))

/-- Each row normalised. -/
def normV : FVec Ideal S4x4x4096x128 .f32 :=
  mulf (devV o) (broadcastInDim S4x4x4096x128 ![0, 1, 2, 3] bcast_S4x4x4096x1_S4x4x4096x128_0_1_2_3 (Host.rsqrt (addf (meanV (mulf (devV o) (devV o))) (broadcastInDim S4x4x4096x1 ![] bcast_S_S4x4x4096x1 (constant (F := Ideal) S_ .f32 0x3727C5AC#32)))))

/-- The gates, each through `x · sigmoid x`. -/
def gateV : FVec Ideal S4x4096x512 .f32 :=
  mulf (shapeCast _ r shapeCasts_S16384x512_S4x4096x512) (Host.divf (broadcastInDim S4x4096x512 ![] bcast_S_S4x4096x512 (constant (F := Ideal) S_ .f32 0x3F800000#32)) (addf (broadcastInDim S4x4096x512 ![] bcast_S_S4x4096x512 (constant (F := Ideal) S_ .f32 0x3F800000#32)) (Host.exp (Host.negf (shapeCast _ r shapeCasts_S16384x512_S4x4096x512)))))

/-- The gated outputs. -/
def gatedV : FVec Ideal S16384x512 .bf16 :=
  truncf .bf16 (shapeCast _ (mulf (gateV r) (mulf (shapeCast _ (transpose S4x4096x4x128 [0, 2, 1, 3] (normV (joinedV x)) transposes_S4x4x4096x128_S4x4096x4x128_0_2_1_3) shapeCasts_S4x4096x4x128_S4x4096x512) (broadcastInDim S4x4096x512 ![0, 1, 2] bcast_S1x1x512_S4x4096x512_0_1_2 (broadcastInDim S1x1x512 ![2] bcast_S512_S1x1x512_2 g)))) shapeCasts_S4x4096x512_S16384x512) bitsLt_bf16_f32

set_option maxHeartbeats 4000000 in
theorem out_eq : out_main_v47 V0 = gatedV (V0 (Proc.devRef .tc main_v17_5)) (V0 (Proc.devRef .tc main_arg3)) (V0 (Proc.devRef .tc main_arg4)) := by
  unfold out_main_v47 gatedV gateV normV devV meanV joinedV
  rfl

theorem joinedV_apply (b h : Fin 4) (n : Fin 4096) (d : Fin 128) :
    joinedV x (ix4 b h n d) = x (ix5 ⟨n.val / 128, by omega⟩ b h ⟨n.val % 128, Nat.mod_lt _ (by decide)⟩ d) := by
  pointwise [joinedV]

theorem meanV_apply (b h : Fin 4) (n : Fin 4096) : meanV o (ix4 b h n 0) = mean 0x43000000#32 fun d : Fin 128 => o (ix4 b h n d) := by
  pointwise [meanV]
  rfl

theorem devV_apply (b h : Fin 4) (n : Fin 4096) (d : Fin 128) :
    devV o (ix4 b h n d) = o (ix4 b h n d) - mean 0x43000000#32 fun d : Fin 128 => o (ix4 b h n d) := by
  pointwise [devV]
  simp only [meanV_apply]

theorem normV_apply (b h : Fin 4) (n : Fin 4096) (d : Fin 128) :
    normV o (ix4 b h n d) = normed 0x43000000#32 0x3727C5AC#32 (fun d => o (ix4 b h n d)) d := by
  pointwise [normV]
  simp only [meanV_apply, mulf_apply, devV_apply]
  rfl

theorem gateV_apply (b : Fin 4) (n : Fin 4096) (d : Fin 512) :
    gateV r (ix3 b n d) = r (ix2 ⟨b.val * 4096 + n.val, by omega⟩ d) * sigmoid (r (ix2 ⟨b.val * 4096 + n.val, by omega⟩ d)) := by
  pointwise [gateV]
  rfl

theorem gatedV_apply (b h : Fin 4) (k : Nat) (hk : k < 32) (i e : Fin 128) :
    gatedV x r g (ix2 (tok b k i) (col h e)) = gated (fun e => x (ix5 (⟨k, hk⟩ : Fin 32) b h i e)) (fun e => r (ix2 (tok b k i) (col h e)))
      (fun e => g (ix1 (col h e))) e := by
  have ht : (tok b k i).val = b.val * 4096 + k * 128 + i.val := by
    show (b.val * 4096 + k * 128 + i.val) % 16384 = _
    omega
  have hcol : (col h e).val = h.val * 128 + e.val := rfl
  have e1 : (⟨(tok b k i).val / 4096, by omega⟩ : Fin 4) = b := Fin.ext (by show (tok b k i).val / 4096 = b.val; omega)
  have e2 : (⟨(tok b k i).val % 4096, Nat.mod_lt _ (by decide)⟩ : Fin 4096) = ⟨k * 128 + i.val, by omega⟩ :=
    Fin.ext (by show (tok b k i).val % 4096 = k * 128 + i.val; omega)
  have e3 : (⟨(col h e).val / 128, by omega⟩ : Fin 4) = h := Fin.ext (by show (col h e).val / 128 = h.val; omega)
  have e4 : (⟨(col h e).val % 128, Nat.mod_lt _ (by decide)⟩ : Fin 128) = e := Fin.ext (by show (col h e).val % 128 = e.val; omega)
  have e5 : (⟨(k * 128 + i.val) / 128, by omega⟩ : Fin 32) = ⟨k, hk⟩ := Fin.ext (by show (k * 128 + i.val) / 128 = k; omega)
  have e6 : (⟨(k * 128 + i.val) % 128, Nat.mod_lt _ (by decide)⟩ : Fin 128) = i := Fin.ext (by show (k * 128 + i.val) % 128 = i.val; omega)
  have e7 : (⟨b.val * 4096 + (k * 128 + i.val), by omega⟩ : Fin 16384) = tok b k i :=
    Fin.ext (by show b.val * 4096 + (k * 128 + i.val) = (tok b k i).val; omega)
  pointwise [gatedV]
  rw [e1, e2, e3, e4]
  simp only [gateV_apply, normV_apply, joinedV_apply]
  rw [e5, e6, e7]
  rfl

variable (m : (ℓ : Loc nD τ sig) → Buf (Elt Ideal) ℓ) (c : Dev nD)

/-- The gates. -/
def B3 (n : Fin 16384) (d : Fin 512) : EReal := (m ((c.tc : Thread nD τ).loc main_arg3) : FVec Ideal S16384x512 .f32) (ix2 n d)

/-- The gain. -/
def B4 (d : Fin 512) : EReal := (m ((c.tc : Thread nD τ).loc main_arg4) : FVec Ideal S512 .f32) (ix1 d)

/-- The reference's gated outputs are the recurrence's. -/
theorem final_out (b h : Fin 4) (k : Nat) (hk : k < 32) (i e : Fin 128) :
    (out_main_v47 (held m c 32) : FVec Ideal S16384x512 .bf16) (ix2 (tok b k i) (col h e))
      = Y (B0 m c) (B1 m c) (B2 m c) (B3 m c) (B4 m c) b h k i e := by
  rw [out_eq]
  refine (gatedV_apply _ _ _ b h k hk i e).trans ?_
  exact gated_congr (funext fun e => held_5 m c b h 32 (le_refl _) ⟨k, hk⟩ hk i e)
    (funext fun e => congrFun (iter_main_arg3 m c 32) (ix2 (tok b k i) (col h e))) (funext fun e => congrFun (iter_main_arg4 m c 32) (ix1 (col h e))) e

/-- The reference's final state is the recurrence's. -/
theorem final_state (b h : Fin 4) (d e : Fin 128) :
    (held m c 32 (Proc.devRef .tc main_v17_4) : FVec Ideal S4x4x128x128 .f32) (ix4 b h d e) = S (B1 m c) (B2 m c) b h 32 d e :=
  held_4 m c b h 32 (le_refl _) d e

end Cert.RetRefRow

end
-- ==== Proof.RetEq.lean ====
/- The recurrence's claims: the kernel and the reference end with the same gated outputs and the same final states. -/
module

public import proofs.«01_k».proof.Defs
public import proofs.«01_k».proof.Proof.RetArray
public import proofs.«01_k».proof.Proof.RetRefOut
public import proofs.«01_k».proof.Proof.Gen.RetIdeal
public import proofs.«01_k».proof.Proof.Gen.RetRefIdeal
public import proofs.«01_k».proof.Proof.Gen.RetRefIdeal.Run

@[expose] public section

set_option maxRecDepth 16384

noncomputable section

namespace Cert.RetEq

open Idealize.ShloMosaic Idealize.ShloMosaic.TcCoe Idealize.SL.Sem

theorem frameRef : Cert.quiescent_RetRefIdeal := fun m ρ _ =>
  (θ_run Cert.RetRefIdeal.defs _ _).mono (fun r h => ⟨fun c => (h c).2.2, Idealize.ShloMosaic.sem_eq_zero_of_no_sems (by decide) r.2⟩)
    (Cert.RetRefIdeal.Value.run (F := Ideal) m ρ)

open Cert.RetMath Cert.RetCases

/-- Launched on the same arguments, the kernel and the reference leave the same arrays. -/
theorem algebraic : Cert.algebraic_RetIdeal_RetRefIdeal := by
  intro m ρ m' ρ' _ hagree
  refine ⟨fun c => Cert.RetIdeal.Value.G9 m c, fun c => Cert.RetIdeal.Value.G10 m c, Cert.RetIdeal.Value.run m ρ,
    (θ_run Cert.RetRefIdeal.defs _ _).mono (fun r h c => ⟨(h c).1.trans ?_, (h c).2.1.trans ?_, (h c).2.2⟩) (Cert.RetRefIdeal.Value.run (F := Ideal) m' ρ')⟩
  all_goals obtain ⟨e0, e1, e2, e3, e4⟩ := hagree c
  all_goals have a0 : RetRefRow.B0 m' c = RetArray.A0 m c := funext fun n => funext fun d => congrFun e0 (ix2 n d)
  all_goals have a1 : RetRefRow.B1 m' c = RetArray.A1 m c := funext fun n => funext fun d => congrFun e1 (ix2 n d)
  all_goals have a2 : RetRefRow.B2 m' c = RetArray.A2 m c := funext fun n => funext fun d => congrFun e2 (ix2 n d)
  all_goals have a3 : RetRefRow.B3 m' c = RetArray.A3 m c := funext fun n => funext fun d => congrFun e3 (ix2 n d)
  all_goals have a4 : RetRefRow.B4 m' c = RetArray.A4 m c := funext fun d => congrFun e4 (ix1 d)
  · funext p
    obtain ⟨b, k, hk, i, h, e, rfl⟩ : ∃ (b : Fin 4) (k : Nat) (_ : k < 32) (i : Fin 128) (h : Fin 4) (e : Fin 128), p = ix2 (tok b k i) (col h e) := by
      have h0 : (p 0).val < 16384 := (p 0).isLt
      have h1 : (p 1).val < 512 := (p 1).isLt
      refine ⟨⟨(p 0).val / 4096, by omega⟩, (p 0).val % 4096 / 128, by omega, ⟨(p 0).val % 128, by omega⟩, ⟨(p 1).val / 128, by omega⟩,
        ⟨(p 1).val % 128, by omega⟩, ?_⟩
      funext a; apply Fin.ext
      match a with
      | ⟨0, _⟩ => show (p 0).val = ((p 0).val / 4096 * 4096 + (p 0).val % 4096 / 128 * 128 + (p 0).val % 128) % 16384; omega
      | ⟨1, _⟩ => show (p 1).val = (p 1).val / 128 * 128 + (p 1).val % 128; omega
    refine (RetRefRow.final_out m' c b h k hk i e).trans ?_
    rw [a0, a1, a2, a3, a4]
    exact (RetArray.G9_apply m c b k hk i h e).symm
  · funext p
    obtain ⟨b, h, d, e, rfl⟩ : ∃ (b h : Fin 4) (d e : Fin 128), p = ix4 b h d e := ⟨p 0, p 1, p 2, p 3, eq_ix4 p⟩
    refine (RetRefRow.final_state m' c b h d e).trans ?_
    rw [a1, a2]
    exact (RetArray.G10_apply m c b h d e).symm

end Cert.RetEq

end
-- ==== Proof.RetDMath.lean ====
/- The recurrence over one short chunk, as functions on plain index types: the fading tables of a chunk of four positions, one
   head's output and new state, and that rows of zeros added to a chunk change neither. -/
module

public import proofs.«01_k».proof.Proof.RetMath

@[expose] public section

noncomputable section

namespace Cert.RetDMath

open Idealize.ShloMosaic Cert.Rows Cert.RetBlock Cert.RetCases Cert.RetMath

/-- The state after a chunk of `n` positions: the state before it, faded by `g`, plus the chunk's keys (faded by `kd`) times its values. -/
def newSt {n : Nat} (k v kd : Fin n → Fin 128 → EReal) (g : Fin 128 → EReal) (s : Fin 128 → Fin 128 → EReal) (d e : Fin 128) : EReal :=
  s d e * g e + ∑ j, (k j d * kd j d) * v j e

/-- A query's output in a chunk of `n` positions. -/
def headO {n : Nat} (q k v : Fin n → Fin 128 → EReal) (dec : Fin n → Fin n → EReal) (qd : Fin n → Fin 128 → EReal)
    (s : Fin 128 → Fin 128 → EReal) (i : Fin n) (e : Fin 128) : EReal :=
  (∑ j, ((∑ d, q i d * k j d) * dec i j) * v j e) + ∑ d, (q i d * qd i d) * s d e

/-- Row `i` of four, among the sixteen rows of a chunk with zeros added. -/
def up (i : Fin 4) : Fin 16 := ⟨i.val, by omega⟩

theorem sum_up (f : Fin 16 → EReal) (hf : ∀ j : Fin 16, 4 ≤ j.val → f j = 0) : ∑ j, f j = ∑ j : Fin 4, f (up j) := by
  refine (Fin.sum_univ_add (a := 4) (b := 12) f).trans ?_
  have h0 : ∑ i : Fin 12, f (Fin.natAdd 4 i) = 0 := Finset.sum_eq_zero (fun i _ => hf (Fin.natAdd 4 i) (Nat.le_add_right 4 i.val))
  exact (congrArg (fun z => (∑ i : Fin 4, f (Fin.castAdd 12 i)) + z) h0).trans (add_zero _)

theorem newSt_up {k v kd : Fin 16 → Fin 128 → EReal} {k' v' kd' : Fin 4 → Fin 128 → EReal} {g g' : Fin 128 → EReal} {s s' : Fin 128 → Fin 128 → EReal}
    (h0 : ∀ j : Fin 16, 4 ≤ j.val → ∀ e, v j e = 0) (hk : ∀ j d, k (up j) d = k' j d) (hv : ∀ j d, v (up j) d = v' j d)
    (hkd : ∀ j d, kd (up j) d = kd' j d) (hg : ∀ e, g e = g' e) (hs : ∀ d e, s d e = s' d e) (d e : Fin 128) :
    newSt k v kd g s d e = newSt k' v' kd' g' s' d e := by
  unfold newSt
  rw [sum_up _ (fun j hj => by rw [h0 j hj, mul_zero]), hs, hg]
  simp only [hk, hv, hkd]

theorem headO_up {q k v qd : Fin 16 → Fin 128 → EReal} {q' k' v' qd' : Fin 4 → Fin 128 → EReal} {dec : Fin 16 → Fin 16 → EReal}
    {dec' : Fin 4 → Fin 4 → EReal} {s s' : Fin 128 → Fin 128 → EReal} (h0 : ∀ j : Fin 16, 4 ≤ j.val → ∀ e, v j e = 0)
    (hq : ∀ j d, q (up j) d = q' j d) (hk : ∀ j d, k (up j) d = k' j d) (hv : ∀ j d, v (up j) d = v' j d)
    (hd : ∀ i j, dec (up i) (up j) = dec' i j) (hqd : ∀ j d, qd (up j) d = qd' j d) (hs : ∀ d e, s d e = s' d e) (i : Fin 4) (e : Fin 128) :
    headO q k v dec qd s (up i) e = headO q' k' v' dec' qd' s' i e := by
  unfold headO
  rw [sum_up _ (fun j hj => by rw [h0 j hj, mul_zero])]
  simp only [hq, hk, hv, hd, hqd, hs]

/-- A position in a chunk, as a number. -/
def pos4 (i : Fin 4) : EReal := FloatOps.sitofp (F := Ideal) .f32 (BitVec.ofNat 32 i.val)

/-- How much a score of query `i` against key `j` fades; nothing of later keys. -/
def decay4 (h i j : Fin 4) : EReal :=
  if 0 ≤ pos4 i - pos4 j then Ideal.exp (lg h * max (pos4 i - pos4 j) 0) else 0

/-- How much the earlier state has faded at position `i`. -/
def qdec4 (h i : Fin 4) : EReal := Ideal.exp (lg h * (pos4 i + 1))

/-- How much position `j`'s key fades by the chunk's end. -/
def kdec4 (h j : Fin 4) : EReal := Ideal.exp (lg h * (Ideal.ofBits .f32 0x40400000#32 - pos4 j))

/-- How much a state fades over a chunk. -/
def gch4 (h : Fin 4) : EReal := Ideal.exp (lg h * Ideal.ofBits .f32 0x40800000#32)

/-- The state of head `h` of sample `b` after its chunk. -/
def S4 (K V : Fin 128 → Fin 4 → Fin 512 → EReal) (X : Fin 128 → Fin 4 → Fin 128 → Fin 128 → EReal) (b : Fin 128) (h : Fin 4) (d e : Fin 128) : EReal :=
  newSt (fun j d => K b j (col h d)) (fun j e => V b j (col h e)) (fun j _ => kdec4 h j) (fun _ => gch4 h) (X b h) d e

/-- The gated output of head `h` of sample `b` at position `i`. -/
def Y4 (Q K V R : Fin 128 → Fin 4 → Fin 512 → EReal) (N : Fin 512 → EReal) (X : Fin 128 → Fin 4 → Fin 128 → Fin 128 → EReal)
    (b : Fin 128) (h i : Fin 4) (e : Fin 128) : EReal :=
  gated (headO (fun j d => Q b j (col h d)) (fun j d => K b j (col h d)) (fun j e => V b j (col h e)) (decay4 h) (fun i _ => qdec4 h i) (X b h) i)
    (fun e => R b i (col h e)) (fun e => N (col h e)) e

end Cert.RetDMath

end
-- ==== Proof.RetDBlock.lean ====
/- One head of one sample's chunk: what the kernel's blocks compute, as functions on plain index types. -/
module

public import proofs.«01_k».proof.Proof.RetDMath
public import proofs.«01_k».proof.Proof.Gen.RetDIdeal.Value

@[expose] public section

set_option maxRecDepth 16384

noncomputable section

namespace Cert.RetDBlock

open Idealize.ShloMosaic Idealize.ShloMosaic.TcCoe Cert.RetDIdeal Cert.RetDIdeal.Gen Cert.Rows Cert.RetBlock Cert.RetDMath

theorem state0 (k v : Vec Ideal S1x16x128 .bf16) (kd : Vec Ideal S1x16x128 .f32) (s : Vec Ideal S1x1x128x128 .f32) (g : Vec Ideal S1x1x128 .f32)
    (d e : Fin 128) :
    k0_pay10 (k0_pay4 v) (k0_pay8 k kd) (k0_pay9 s g) (constant S128x128 .f32 0x00000000#32) (ix4 0 0 d e) =
      newSt (fun j d => k (ix3 0 j d)) (fun j e => v (ix3 0 j e)) (fun j d => kd (ix3 0 j d)) (fun e => g (ix3 0 0 e))
        (fun d e => s (ix4 0 0 d e)) d e := by
  pointwise [k0_pay10, k0_pay8, k0_pay9, k0_pay3, k0_pay4, k0_pay5, newSt]

theorem head0 (q k v : Vec Ideal S1x16x128 .bf16) (dec : Vec Ideal S1x16x16 .f32) (qd : Vec Ideal S1x16x128 .f32) (s : Vec Ideal S1x1x128x128 .f32)
    (i : Fin 16) (e : Fin 128) :
    k0_pay6 (F := Ideal) q k v dec (ix2 i e) + k0_pay7 (F := Ideal) q s qd (ix2 i e) =
      headO (fun j d => q (ix3 0 j d)) (fun j d => k (ix3 0 j d)) (fun j e => v (ix3 0 j e)) (fun i j => dec (ix3 0 i j))
        (fun i d => qd (ix3 0 i d)) (fun d e => s (ix4 0 0 d e)) i e := by
  pointwise [k0_pay6, k0_pay7, k0_pay2, k0_pay3, k0_pay4, k0_pay5, headO]

theorem gate0 (a b : FVec Ideal S16x128 .f32) (r : Vec Ideal S1x4x128 .f32) (g : Vec Ideal S1x128 .f32) (i : Fin 4) (e : Fin 128) :
    k0_pay12 (k0_pay11 a b r g) (ix3 0 i e) =
      gated (fun e => a (ix2 (up i) e) + b (ix2 (up i) e)) (fun e => r (ix3 0 i e)) (fun e => g (ix2 0 e)) e := by
  pointwise [k0_pay12, k0_pay11]
  simp only [zero_sub]
  rfl

end Cert.RetDBlock

end
-- ==== Proof.RetDPoint.lean ====
/- What one grid point of the samples' recurrence leaves in its two output blocks: eight samples, four heads each. -/
module

public import proofs.«01_k».proof.Proof.RetDBlock
public import Idealize.ShloMosaic.Lib.Pipeline.ValueKit.Acc
public import Idealize.ShloMosaic.Lib.Pipeline.ReadBack

@[expose] public section

set_option maxRecDepth 16384

noncomputable section

namespace Cert.RetDPoint

open Idealize.ShloMosaic Idealize.ShloMosaic.TcCoe Cert.RetDIdeal Cert.RetDIdeal.Gen Cert.Rows Cert.RetBlock Cert.RetCases Cert.RetDMath Cert.RetDBlock

section Loads

theorem ldx {X : S8x16x512.Idx → EReal} (b : Fin 8) (h : Fin 4) {off : Fin 3 → Nat} (ho : off = ![b.val, 0, h.val * 128])
    (inb : ∀ a, off a + S1x16x128.size a ≤ S8x16x512.size a) (i : Fin 16) (d : Fin 128) :
    X ((Rect.unit (s := S8x16x512) off S1x16x128.size inb).idx (ix3 (0 : Fin 1) i d)) = X (ix3 b i (col h d)) := by
  subst ho
  refine congrArg X (funext fun a => Fin.ext ?_)
  fin_cases a
  · exact congrArg (b.val + ·) (Nat.one_mul _)
  · exact (Nat.zero_add _).trans (Nat.one_mul _)
  · exact congrArg (h.val * 128 + ·) (Nat.one_mul _)

theorem ldr {X : S8x4x512.Idx → EReal} (b : Fin 8) (h : Fin 4) {off : Fin 3 → Nat} (ho : off = ![b.val, 0, h.val * 128])
    (inb : ∀ a, off a + S1x4x128.size a ≤ S8x4x512.size a) (i : Fin 4) (d : Fin 128) :
    X ((Rect.unit (s := S8x4x512) off S1x4x128.size inb).idx (ix3 (0 : Fin 1) i d)) = X (ix3 b i (col h d)) := by
  subst ho
  refine congrArg X (funext fun a => Fin.ext ?_)
  fin_cases a
  · exact congrArg (b.val + ·) (Nat.one_mul _)
  · exact (Nat.zero_add _).trans (Nat.one_mul _)
  · exact congrArg (h.val * 128 + ·) (Nat.one_mul _)

theorem ldn {X : S1x512.Idx → EReal} (h : Fin 4) {off : Fin 2 → Nat} (ho : off = ![0, h.val * 128])
    (inb : ∀ a, off a + S1x128.size a ≤ S1x512.size a) (d : Fin 128) :
    X ((Rect.unit (s := S1x512) off S1x128.size inb).idx (ix2 (0 : Fin 1) d)) = X (ix2 0 (col h d)) := by
  subst ho
  refine congrArg X (funext fun a => Fin.ext ?_)
  fin_cases a
  · exact (Nat.zero_add _).trans (Nat.one_mul _)
  · exact congrArg (h.val * 128 + ·) (Nat.one_mul _)

theorem lds {X : S8x4x128x128.Idx → EReal} (b : Fin 8) (h : Fin 4) {off : Fin 4 → Nat} (ho : off = ![b.val, h.val, 0, 0])
    (inb : ∀ a, off a + S1x1x128x128.size a ≤ S8x4x128x128.size a) (d e : Fin 128) :
    X ((Rect.unit (s := S8x4x128x128) off S1x1x128x128.size inb).idx (ix4 (0 : Fin 1) (0 : Fin 1) d e)) = X (ix4 b h d e) := by
  subst ho
  refine congrArg X (funext fun a => Fin.ext ?_)
  fin_cases a
  · exact congrArg (b.val + ·) (Nat.one_mul _)
  · exact congrArg (h.val + ·) (Nat.one_mul _)
  · exact (Nat.zero_add _).trans (Nat.one_mul _)
  · exact (Nat.zero_add _).trans (Nat.one_mul _)

theorem ldd {X : S4x16x16.Idx → EReal} (h : Fin 4) {off : Fin 3 → Nat} (ho : off = ![h.val, 0, 0])
    (inb : ∀ a, off a + S1x16x16.size a ≤ S4x16x16.size a) (i j : Fin 16) :
    X ((Rect.unit (s := S4x16x16) off S1x16x16.size inb).idx (ix3 (0 : Fin 1) i j)) = X (ix3 h i j) := by
  subst ho
  refine congrArg X (funext fun a => Fin.ext ?_)
  fin_cases a
  · exact congrArg (h.val + ·) (Nat.one_mul _)
  · exact (Nat.zero_add _).trans (Nat.one_mul _)
  · exact (Nat.zero_add _).trans (Nat.one_mul _)

theorem ldq {X : S4x16x128.Idx → EReal} (h : Fin 4) {off : Fin 3 → Nat} (ho : off = ![h.val, 0, 0])
    (inb : ∀ a, off a + S1x16x128.size a ≤ S4x16x128.size a) (i : Fin 16) (d : Fin 128) :
    X ((Rect.unit (s := S4x16x128) off S1x16x128.size inb).idx (ix3 (0 : Fin 1) i d)) = X (ix3 h i d) := by
  subst ho
  refine congrArg X (funext fun a => Fin.ext ?_)
  fin_cases a
  · exact congrArg (h.val + ·) (Nat.one_mul _)
  · exact (Nat.zero_add _).trans (Nat.one_mul _)
  · exact (Nat.zero_add _).trans (Nat.one_mul _)

theorem ldg {X : S4x1x128.Idx → EReal} (h : Fin 4) {off : Fin 3 → Nat} (ho : off = ![h.val, 0, 0])
    (inb : ∀ a, off a + S1x1x128.size a ≤ S4x1x128.size a) (e : Fin 128) :
    X ((Rect.unit (s := S4x1x128) off S1x1x128.size inb).idx (ix3 (0 : Fin 1) (0 : Fin 1) e)) = X (ix3 h 0 e) := by
  subst ho
  refine congrArg X (funext fun a => Fin.ext ?_)
  fin_cases a
  · exact congrArg (h.val + ·) (Nat.one_mul _)
  · exact (Nat.zero_add _).trans (Nat.one_mul _)
  · exact (Nat.zero_add _).trans (Nat.one_mul _)

end Loads

/-- The state of head `h` of a block's sample `b`, over sixteen rows. -/
def state (K V : S8x16x512.Idx → EReal) (S : S8x4x128x128.Idx → EReal) (KD : S4x16x128.Idx → EReal) (C : S4x1x128.Idx → EReal)
    (b : Fin 8) (h : Fin 4) (d e : Fin 128) : EReal :=
  newSt (fun j d => K (ix3 b j (col h d))) (fun j e => V (ix3 b j (col h e))) (fun j d => KD (ix3 h j d)) (fun e => C (ix3 h 0 e))
    (fun d e => S (ix4 b h d e)) d e

/-- The output of head `h` of a block's sample `b` at one of the four positions, over sixteen rows. -/
def out (Q K V : S8x16x512.Idx → EReal) (R : S8x4x512.Idx → EReal) (N : S1x512.Idx → EReal) (S : S8x4x128x128.Idx → EReal)
    (D : S4x16x16.Idx → EReal) (QD : S4x16x128.Idx → EReal) (b : Fin 8) (h i : Fin 4) (e : Fin 128) : EReal :=
  gated (headO (fun j d => Q (ix3 b j (col h d))) (fun j d => K (ix3 b j (col h d))) (fun j e => V (ix3 b j (col h e)))
      (fun i j => D (ix3 h i j)) (fun i d => QD (ix3 h i d)) (fun d e => S (ix4 b h d e)) (up i))
    (fun e => R (ix3 b i (col h e))) (fun e => N (ix2 0 (col h e))) e

/-- One head's store into the block of states. -/
theorem state_piece (K V : Vec Ideal S8x16x512 .bf16) (S : Vec Ideal S8x4x128x128 .f32) (KD : Vec Ideal S4x16x128 .f32) (C : Vec Ideal S4x1x128 .f32)
    (b : Fin 8) (h : Fin 4) {ox ot : Fin 3 → Nat} {os : Fin 4 → Nat} (hx : ox = ![b.val, 0, h.val * 128]) (ht : ot = ![h.val, 0, 0])
    (hs : os = ![b.val, h.val, 0, 0])
    (bx : ∀ a, ox a + S1x16x128.size a ≤ S8x16x512.size a) (bs : ∀ a, os a + S1x1x128x128.size a ≤ S8x4x128x128.size a)
    (bk : ∀ a, ot a + S1x16x128.size a ≤ S4x16x128.size a) (bg : ∀ a, ot a + S1x1x128.size a ≤ S4x1x128.size a) (x : S1x1x128x128.Idx) :
    k0_pay10 (F := Ideal) (k0_pay4 (View.ld V (Rect.unit (s := S8x16x512) ox S1x16x128.size bx)))
        (k0_pay8 (View.ld K (Rect.unit (s := S8x16x512) ox S1x16x128.size bx)) (View.ld KD (Rect.unit (s := S4x16x128) ot S1x16x128.size bk)))
        (k0_pay9 (View.ld S (Rect.unit (s := S8x4x128x128) os S1x1x128x128.size bs)) (View.ld C (Rect.unit (s := S4x1x128) ot S1x1x128.size bg)))
        (constant S128x128 .f32 0x00000000#32) x
      = (fun y : S8x4x128x128.Idx => state K V S KD C (y 0) (y 1) (y 2) (y 3)) ((Rect.unit (s := S8x4x128x128) os S1x1x128x128.size bs).emb x) := by
  obtain ⟨a, a', d, e, rfl⟩ : ∃ (a a' : Fin 1) (d e : Fin 128), x = ix4 a a' d e := ⟨x 0, x 1, x 2, x 3, eq_ix4 x⟩
  obtain rfl : a = 0 := Subsingleton.elim _ _
  obtain rfl : a' = 0 := Subsingleton.elim _ _
  refine (RetDBlock.state0 _ _ _ _ _ d e).trans ?_
  refine Eq.trans ?_ (lds (X := fun y : S8x4x128x128.Idx => state K V S KD C (y 0) (y 1) (y 2) (y 3)) b h hs bs d e).symm
  show newSt _ _ _ _ _ d e = newSt _ _ _ _ _ d e
  congr 1
  · funext j d; exact ldx (X := K) b h hx bx j d
  · funext j d; exact ldx (X := V) b h hx bx j d
  · funext j d; exact ldq (X := KD) h ht bk j d
  · funext e; exact ldg (X := C) h ht bg e
  · funext j d; exact lds (X := S) b h hs bs j d

/-- One head's store into the block of outputs. -/
theorem out_piece (Q K V : Vec Ideal S8x16x512 .bf16) (R : Vec Ideal S8x4x512 .f32) (N : Vec Ideal S1x512 .f32) (S : Vec Ideal S8x4x128x128 .f32)
    (D : Vec Ideal S4x16x16 .f32) (QD : Vec Ideal S4x16x128 .f32)
    (b : Fin 8) (h : Fin 4) {ox ot : Fin 3 → Nat} {os : Fin 4 → Nat} {on : Fin 2 → Nat} (hx : ox = ![b.val, 0, h.val * 128]) (ht : ot = ![h.val, 0, 0])
    (hs : os = ![b.val, h.val, 0, 0]) (hn : on = ![0, h.val * 128])
    (bx : ∀ a, ox a + S1x16x128.size a ≤ S8x16x512.size a) (bs : ∀ a, os a + S1x1x128x128.size a ≤ S8x4x128x128.size a)
    (bd : ∀ a, ot a + S1x16x16.size a ≤ S4x16x16.size a) (bq : ∀ a, ot a + S1x16x128.size a ≤ S4x16x128.size a)
    (br : ∀ a, ox a + S1x4x128.size a ≤ S8x4x512.size a) (bn : ∀ a, on a + S1x128.size a ≤ S1x512.size a) (x : S1x4x128.Idx) (y : S8x4x512.Idx)
    (hy : y = (Rect.unit (s := S8x4x512) ox S1x4x128.size br).emb x) :
    k0_pay12 (F := Ideal) (k0_pay11
        (k0_pay6 (View.ld Q (Rect.unit (s := S8x16x512) ox S1x16x128.size bx)) (View.ld K (Rect.unit (s := S8x16x512) ox S1x16x128.size bx))
          (View.ld V (Rect.unit (s := S8x16x512) ox S1x16x128.size bx)) (View.ld D (Rect.unit (s := S4x16x16) ot S1x16x16.size bd)))
        (k0_pay7 (View.ld Q (Rect.unit (s := S8x16x512) ox S1x16x128.size bx)) (View.ld S (Rect.unit (s := S8x4x128x128) os S1x1x128x128.size bs))
          (View.ld QD (Rect.unit (s := S4x16x128) ot S1x16x128.size bq)))
        (View.ld R (Rect.unit (s := S8x4x512) ox S1x4x128.size br)) (View.ld N (Rect.unit (s := S1x512) on S1x128.size bn))) x
      = out Q K V R N S D QD (y 0) ⟨(y 2).val / 128, by have : (y 2).val < 512 := (y 2).isLt; omega⟩ (y 1) ⟨(y 2).val % 128, Nat.mod_lt _ (by decide)⟩ := by
  obtain ⟨a, i, e, rfl⟩ : ∃ (a : Fin 1) (i : Fin 4) (e : Fin 128), x = ix3 a i e := ⟨x 0, x 1, x 2, eq_ix3 x⟩
  obtain rfl : a = 0 := Subsingleton.elim _ _
  have hy' : y = ix3 b i (col h e) := hy.trans (by
    subst hx
    refine funext fun a => Fin.ext ?_
    fin_cases a
    · exact congrArg (b.val + ·) (Nat.one_mul _)
    · exact (Nat.zero_add _).trans (Nat.one_mul _)
    · exact congrArg (h.val * 128 + ·) (Nat.one_mul _))
  have e1 : (⟨(y 2).val / 128, by have : (y 2).val < 512 := (y 2).isLt; omega⟩ : Fin 4) = h := by
    subst hy'; exact Fin.ext (by show (h.val * 128 + e.val) / 128 = h.val; omega)
  have e2 : (⟨(y 2).val % 128, Nat.mod_lt _ (by decide)⟩ : Fin 128) = e := by
    subst hy'; exact Fin.ext (by show (h.val * 128 + e.val) % 128 = e.val; omega)
  have e0 : (y 0 : Fin 8) = b := by subst hy'; rfl
  have e3 : (y 1 : Fin 4) = i := by subst hy'; rfl
  rw [e1, e2]
  show _ = out Q K V R N S D QD (y 0 : Fin 8) h (y 1 : Fin 4) e
  rw [e0, e3]
  refine (RetDBlock.gate0 _ _ _ _ i e).trans ?_
  unfold out
  congr 1
  · funext e
    refine (RetDBlock.head0 _ _ _ _ _ _ (up i) e).trans ?_
    congr 1
    · funext j d; exact ldx (X := Q) b h hx bx j d
    · funext j d; exact ldx (X := K) b h hx bx j d
    · funext j d; exact ldx (X := V) b h hx bx j d
    · funext i j; exact ldd (X := D) h ht bd i j
    · funext j d; exact ldq (X := QD) h ht bq j d
    · funext j d; exact lds (X := S) b h hs bs j d
  · funext e; exact ldr (X := R) b h hx br i e
  · funext e; exact ldn (X := N) h hn bn e

variable (x0 x1 x2 : Vec Ideal S8x16x512 .bf16) (x3 : Vec Ideal S8x4x512 .f32) (x4 : Vec Ideal S1x512 .f32) (x5 : Vec Ideal S8x4x128x128 .f32)
  (x6 : Vec Ideal S4x16x16 .f32) (x7 x8 : Vec Ideal S4x16x128 .f32) (x9 : Vec Ideal S4x1x128 .f32)

/-- A point's block of outputs. -/
def outArr (y : S8x4x512.Idx) : EReal :=
  out x0 x1 x2 x3 x4 x5 x6 x7 (y 0) ⟨(y 2).val / 128, by have : (y 2).val < 512 := (y 2).isLt; omega⟩ (y 1) ⟨(y 2).val % 128, Nat.mod_lt _ (by decide)⟩

/-- A point's block of states. -/
def stateArr (y : S8x4x128x128.Idx) : EReal := state x1 x2 x5 x8 x9 (y 0) (y 1) (y 2) (y 3)

set_option maxHeartbeats 4000000 in
theorem out11 (y : S8x4x128x128.Idx) : out0_11 x0 x1 x2 x3 x4 x5 x6 x7 x8 x9 y = stateArr x1 x2 x5 x8 x9 y := by
  unfold out0_11
  refine View.canon_append_of_piecesOf (Val := Elt Ideal) (e := .f32) (stateArr x1 x2 x5 x8 x9) [] [_, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y
    (cover0_11 _ _ _ _ _ _ _ _ _ _ _ _ _ _ _ _ _ _ _ _ _ _ _ _ _ _ _ _ _ _ _ _ y)
  · exact fun x => state_piece x1 x2 x5 x8 x9 7 3 rfl rfl rfl _ _ _ _ x
  · exact fun x => state_piece x1 x2 x5 x8 x9 7 2 rfl rfl rfl _ _ _ _ x
  · exact fun x => state_piece x1 x2 x5 x8 x9 7 1 rfl rfl rfl _ _ _ _ x
  · exact fun x => state_piece x1 x2 x5 x8 x9 7 0 rfl rfl rfl _ _ _ _ x
  · exact fun x => state_piece x1 x2 x5 x8 x9 6 3 rfl rfl rfl _ _ _ _ x
  · exact fun x => state_piece x1 x2 x5 x8 x9 6 2 rfl rfl rfl _ _ _ _ x
  · exact fun x => state_piece x1 x2 x5 x8 x9 6 1 rfl rfl rfl _ _ _ _ x
  · exact fun x => state_piece x1 x2 x5 x8 x9 6 0 rfl rfl rfl _ _ _ _ x
  · exact fun x => state_piece x1 x2 x5 x8 x9 5 3 rfl rfl rfl _ _ _ _ x
  · exact fun x => state_piece x1 x2 x5 x8 x9 5 2 rfl rfl rfl _ _ _ _ x
  · exact fun x => state_piece x1 x2 x5 x8 x9 5 1 rfl rfl rfl _ _ _ _ x
  · exact fun x => state_piece x1 x2 x5 x8 x9 5 0 rfl rfl rfl _ _ _ _ x
  · exact fun x => state_piece x1 x2 x5 x8 x9 4 3 rfl rfl rfl _ _ _ _ x
  · exact fun x => state_piece x1 x2 x5 x8 x9 4 2 rfl rfl rfl _ _ _ _ x
  · exact fun x => state_piece x1 x2 x5 x8 x9 4 1 rfl rfl rfl _ _ _ _ x
  · exact fun x => state_piece x1 x2 x5 x8 x9 4 0 rfl rfl rfl _ _ _ _ x
  · exact fun x => state_piece x1 x2 x5 x8 x9 3 3 rfl rfl rfl _ _ _ _ x
  · exact fun x => state_piece x1 x2 x5 x8 x9 3 2 rfl rfl rfl _ _ _ _ x
  · exact fun x => state_piece x1 x2 x5 x8 x9 3 1 rfl rfl rfl _ _ _ _ x
  · exact fun x => state_piece x1 x2 x5 x8 x9 3 0 rfl rfl rfl _ _ _ _ x
  · exact fun x => state_piece x1 x2 x5 x8 x9 2 3 rfl rfl rfl _ _ _ _ x
  · exact fun x => state_piece x1 x2 x5 x8 x9 2 2 rfl rfl rfl _ _ _ _ x
  · exact fun x => state_piece x1 x2 x5 x8 x9 2 1 rfl rfl rfl _ _ _ _ x
  · exact fun x => state_piece x1 x2 x5 x8 x9 2 0 rfl rfl rfl _ _ _ _ x
  · exact fun x => state_piece x1 x2 x5 x8 x9 1 3 rfl rfl rfl _ _ _ _ x
  · exact fun x => state_piece x1 x2 x5 x8 x9 1 2 rfl rfl rfl _ _ _ _ x
  · exact fun x => state_piece x1 x2 x5 x8 x9 1 1 rfl rfl rfl _ _ _ _ x
  · exact fun x => state_piece x1 x2 x5 x8 x9 1 0 rfl rfl rfl _ _ _ _ x
  · exact fun x => state_piece x1 x2 x5 x8 x9 0 3 rfl rfl rfl _ _ _ _ x
  · exact fun x => state_piece x1 x2 x5 x8 x9 0 2 rfl rfl rfl _ _ _ _ x
  · exact fun x => state_piece x1 x2 x5 x8 x9 0 1 rfl rfl rfl _ _ _ _ x
  · exact fun x => state_piece x1 x2 x5 x8 x9 0 0 rfl rfl rfl _ _ _ _ x

set_option maxHeartbeats 4000000 in
theorem out10 (y : S8x4x512.Idx) : out0_10 x0 x1 x2 x3 x4 x5 x6 x7 x8 x9 y = outArr x0 x1 x2 x3 x4 x5 x6 x7 y := by
  unfold out0_10
  refine View.canon_append_of_piecesOf (Val := Elt Ideal) (e := .f32) (outArr x0 x1 x2 x3 x4 x5 x6 x7) [] [_, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y
    (cover0_10 _ _ _ _ _ _ _ _ _ _ _ _ _ _ _ _ _ _ _ _ _ _ _ _ _ _ _ _ _ _ _ _ y)
  · exact fun x => out_piece x0 x1 x2 x3 x4 x5 x6 x7 7 3 rfl rfl rfl rfl _ _ _ _ _ _ x _ rfl
  · exact fun x => out_piece x0 x1 x2 x3 x4 x5 x6 x7 7 2 rfl rfl rfl rfl _ _ _ _ _ _ x _ rfl
  · exact fun x => out_piece x0 x1 x2 x3 x4 x5 x6 x7 7 1 rfl rfl rfl rfl _ _ _ _ _ _ x _ rfl
  · exact fun x => out_piece x0 x1 x2 x3 x4 x5 x6 x7 7 0 rfl rfl rfl rfl _ _ _ _ _ _ x _ rfl
  · exact fun x => out_piece x0 x1 x2 x3 x4 x5 x6 x7 6 3 rfl rfl rfl rfl _ _ _ _ _ _ x _ rfl
  · exact fun x => out_piece x0 x1 x2 x3 x4 x5 x6 x7 6 2 rfl rfl rfl rfl _ _ _ _ _ _ x _ rfl
  · exact fun x => out_piece x0 x1 x2 x3 x4 x5 x6 x7 6 1 rfl rfl rfl rfl _ _ _ _ _ _ x _ rfl
  · exact fun x => out_piece x0 x1 x2 x3 x4 x5 x6 x7 6 0 rfl rfl rfl rfl _ _ _ _ _ _ x _ rfl
  · exact fun x => out_piece x0 x1 x2 x3 x4 x5 x6 x7 5 3 rfl rfl rfl rfl _ _ _ _ _ _ x _ rfl
  · exact fun x => out_piece x0 x1 x2 x3 x4 x5 x6 x7 5 2 rfl rfl rfl rfl _ _ _ _ _ _ x _ rfl
  · exact fun x => out_piece x0 x1 x2 x3 x4 x5 x6 x7 5 1 rfl rfl rfl rfl _ _ _ _ _ _ x _ rfl
  · exact fun x => out_piece x0 x1 x2 x3 x4 x5 x6 x7 5 0 rfl rfl rfl rfl _ _ _ _ _ _ x _ rfl
  · exact fun x => out_piece x0 x1 x2 x3 x4 x5 x6 x7 4 3 rfl rfl rfl rfl _ _ _ _ _ _ x _ rfl
  · exact fun x => out_piece x0 x1 x2 x3 x4 x5 x6 x7 4 2 rfl rfl rfl rfl _ _ _ _ _ _ x _ rfl
  · exact fun x => out_piece x0 x1 x2 x3 x4 x5 x6 x7 4 1 rfl rfl rfl rfl _ _ _ _ _ _ x _ rfl
  · exact fun x => out_piece x0 x1 x2 x3 x4 x5 x6 x7 4 0 rfl rfl rfl rfl _ _ _ _ _ _ x _ rfl
  · exact fun x => out_piece x0 x1 x2 x3 x4 x5 x6 x7 3 3 rfl rfl rfl rfl _ _ _ _ _ _ x _ rfl
  · exact fun x => out_piece x0 x1 x2 x3 x4 x5 x6 x7 3 2 rfl rfl rfl rfl _ _ _ _ _ _ x _ rfl
  · exact fun x => out_piece x0 x1 x2 x3 x4 x5 x6 x7 3 1 rfl rfl rfl rfl _ _ _ _ _ _ x _ rfl
  · exact fun x => out_piece x0 x1 x2 x3 x4 x5 x6 x7 3 0 rfl rfl rfl rfl _ _ _ _ _ _ x _ rfl
  · exact fun x => out_piece x0 x1 x2 x3 x4 x5 x6 x7 2 3 rfl rfl rfl rfl _ _ _ _ _ _ x _ rfl
  · exact fun x => out_piece x0 x1 x2 x3 x4 x5 x6 x7 2 2 rfl rfl rfl rfl _ _ _ _ _ _ x _ rfl
  · exact fun x => out_piece x0 x1 x2 x3 x4 x5 x6 x7 2 1 rfl rfl rfl rfl _ _ _ _ _ _ x _ rfl
  · exact fun x => out_piece x0 x1 x2 x3 x4 x5 x6 x7 2 0 rfl rfl rfl rfl _ _ _ _ _ _ x _ rfl
  · exact fun x => out_piece x0 x1 x2 x3 x4 x5 x6 x7 1 3 rfl rfl rfl rfl _ _ _ _ _ _ x _ rfl
  · exact fun x => out_piece x0 x1 x2 x3 x4 x5 x6 x7 1 2 rfl rfl rfl rfl _ _ _ _ _ _ x _ rfl
  · exact fun x => out_piece x0 x1 x2 x3 x4 x5 x6 x7 1 1 rfl rfl rfl rfl _ _ _ _ _ _ x _ rfl
  · exact fun x => out_piece x0 x1 x2 x3 x4 x5 x6 x7 1 0 rfl rfl rfl rfl _ _ _ _ _ _ x _ rfl
  · exact fun x => out_piece x0 x1 x2 x3 x4 x5 x6 x7 0 3 rfl rfl rfl rfl _ _ _ _ _ _ x _ rfl
  · exact fun x => out_piece x0 x1 x2 x3 x4 x5 x6 x7 0 2 rfl rfl rfl rfl _ _ _ _ _ _ x _ rfl
  · exact fun x => out_piece x0 x1 x2 x3 x4 x5 x6 x7 0 1 rfl rfl rfl rfl _ _ _ _ _ _ x _ rfl
  · exact fun x => out_piece x0 x1 x2 x3 x4 x5 x6 x7 0 0 rfl rfl rfl rfl _ _ _ _ _ _ x _ rfl

end Cert.RetDPoint

end
-- ==== Proof.RetDArray.lean ====
/- The samples' recurrence: what the kernel's two output arrays end holding, from the call's arguments. -/
module

public import proofs.«01_k».proof.Proof.RetDPoint
public import Idealize.ShloMosaic.Lib.KernelVsHost

@[expose] public section

set_option maxRecDepth 16384

noncomputable section

namespace Cert.RetDArray

open Idealize.ShloMosaic Idealize.ShloMosaic.TcCoe Cert.RetDIdeal Cert.RetDIdeal.Gen Cert.RetDIdeal.Value Cert.Rows Cert.RetBlock Cert.RetCases Cert.RetMath Cert.RetDMath

variable (m : (ℓ : Loc nD τ sig) → Buf (Elt Ideal) ℓ) (c : Dev nD)

/-! What the host prepares. -/

/-- The logarithms of the heads' fading factors. -/
def lgV : FVec Ideal S4 .f32 := Host.log (fun i => FloatOps.ofBits .f32 (lit0 (S4.rowMajor i)))

/-- The positions in a chunk. -/
def posV : FVec Ideal S4 .f32 := sitofp .f32 (iotaInDim S4 32 0)

/-- The differences of positions. -/
def diffV : FVec Ideal S4x4 .f32 :=
  subf (broadcastInDim S4x4 ![0, 1] bcast_S4x1_S4x4_0_1 (broadcastInDim S4x1 ![0] bcast_S4_S4x1_0 posV))
    (broadcastInDim S4x4 ![0, 1] bcast_S1x4_S4x4_0_1 (broadcastInDim S1x4 ![1] bcast_S4_S1x4_1 posV))

/-- The scores' fading. -/
def decV : FVec Ideal S4x4x4 .f32 :=
  select (broadcastInDim S4x4x4 ![1, 2] bcast_S4x4_S4x4x4_1_2
      (cmpf .oge diffV (broadcastInDim S4x4 ![] bcast_S_S4x4 (constant (F := Ideal) S_ .f32 0x00000000#32))))
    (Host.exp (mulf (broadcastInDim S4x4x4 ![0, 1, 2] bcast_S4x1x1_S4x4x4_0_1_2 (broadcastInDim S4x1x1 ![0] bcast_S4_S4x1x1_0 lgV))
      (broadcastInDim S4x4x4 ![0, 1, 2] bcast_S1x4x4_S4x4x4_0_1_2
        (broadcastInDim S1x4x4 ![1, 2] bcast_S4x4_S1x4x4_1_2
          (maximumf diffV (broadcastInDim S4x4 ![] bcast_S_S4x4 (constant (F := Ideal) S_ .f32 0x00000000#32)))))))
    (broadcastInDim S4x4x4 ![] bcast_S_S4x4x4 (constant (F := Ideal) S_ .f32 0x00000000#32))

/-- The queries' fading. -/
def qdV : FVec Ideal S4x4 .f32 :=
  Host.exp (mulf (broadcastInDim S4x4 ![0, 1] bcast_S4x1_S4x4_0_1 (broadcastInDim S4x1 ![0] bcast_S4_S4x1_0 lgV))
    (broadcastInDim S4x4 ![0, 1] bcast_S1x4_S4x4_0_1 (broadcastInDim S1x4 ![1] bcast_S4_S1x4_1
      (addf posV (broadcastInDim S4 ![] bcast_S_S4 (constant (F := Ideal) S_ .f32 0x3F800000#32))))))

/-- The keys' fading. -/
def kdV : FVec Ideal S4x4 .f32 :=
  Host.exp (mulf (broadcastInDim S4x4 ![0, 1] bcast_S4x1_S4x4_0_1 (broadcastInDim S4x1 ![0] bcast_S4_S4x1_0 lgV))
    (broadcastInDim S4x4 ![0, 1] bcast_S1x4_S4x4_0_1 (broadcastInDim S1x4 ![1] bcast_S4_S1x4_1
      (subf (broadcastInDim S4 ![] bcast_S_S4 (constant (F := Ideal) S_ .f32 0x40400000#32)) posV))))

theorem lgV_apply (h : Fin 4) : lgV (ix1 h) = lg h := by
  have e : (S4.rowMajor (ix1 h) : Fin 4) = h := by
    apply Fin.ext; fin_cases h <;> rfl
  show Ideal.log (Ideal.ofBits .f32 (lit0 (S4.rowMajor (ix1 h)))) = Ideal.log (Ideal.ofBits .f32 (gammaWord h))
  rw [e]
  fin_cases h <;> rfl

theorem posV_apply (i : Fin 4) : posV (ix1 i) = pos4 i := rfl

theorem diffV_apply (i j : Fin 4) : diffV (ix2 i j) = pos4 i - pos4 j := rfl

theorem decV_apply (h i j : Fin 4) : decV (ix3 h i j) = decay4 h i j := by
  have e := lgV_apply h
  pointwise [decV]
  simp only [e, diffV_apply]
  rfl

theorem qdV_apply (h i : Fin 4) : qdV (ix2 h i) = qdec4 h i := by
  have e := lgV_apply h
  pointwise [qdV]
  simp only [e, posV_apply]
  rfl

theorem kdV_apply (h i : Fin 4) : kdV (ix2 h i) = kdec4 h i := by
  have e := lgV_apply h
  pointwise [kdV]
  simp only [e, posV_apply]
  rfl

/-! Rows of zeros added. -/

/-- The arguments of four rows, with twelve rows of zeros added to each sample. -/
def padX (x : FVec Ideal S128x4x512 .bf16) : FVec Ideal S128x16x512 .bf16 :=
  pad S128x16x512 ![0, 0, 0] ![0, 12, 0] ![0, 0, 0] x (sitofp (F := Ideal) .bf16 (constantI S_ 32 0#32)) pads_S128x4x512_S128x16x512_000_0120_000 h_S_

theorem padX_up (x : FVec Ideal S128x4x512 .bf16) (b : Fin 128) (i : Fin 4) (d : Fin 512) : padX x (ix3 b (up i) d) = x (ix3 b i d) :=
  pad_apply_of_inside _ _ _ x _ _ _ (ix3 b (up i) d) (ix3 b i d) (fun a => by fin_cases a <;> simp [up])

theorem padX_zero (x : FVec Ideal S128x4x512 .bf16) (b : Fin 128) (j : Fin 16) (hj : 4 ≤ j.val) (d : Fin 512) : padX x (ix3 b j d) = (0 : EReal) := by
  refine (pad_apply_of_not_inside _ _ _ x _ _ _ (ix3 b j d) (1 : Fin 3) (fun hin => ?_)).trans ?_
  · have h3 : (j.val - 0) / (0 + 1) < 4 := hin.2.2
    omega
  · show ((((0#32 : BitVec 32).toInt : ℤ) : ℝ) : EReal) = 0
    simp

theorem pad3 (x : FVec Ideal S4x4x4 .f32) (v : FVec Ideal S_ .f32) (h i j : Fin 4) :
    pad S4x16x16 ![0, 0, 0] ![0, 12, 12] ![0, 0, 0] x v pads_S4x4x4_S4x16x16_000_0120_0120 h_S_ (ix3 h (up i) (up j)) = x (ix3 h i j) :=
  pad_apply_of_inside _ _ _ x v _ _ (ix3 h (up i) (up j)) (ix3 h i j) (fun a => by fin_cases a <;> simp [up])

theorem pad2 (x : FVec Ideal S4x4 .f32) (v : FVec Ideal S_ .f32) (h i : Fin 4) :
    pad S4x16 ![0, 0] ![0, 12] ![0, 0] x v pads_S4x4_S4x16_000_0120 h_S_ (ix2 h (up i)) = x (ix2 h i) :=
  pad_apply_of_inside _ _ _ x v _ _ (ix2 h (up i)) (ix2 h i) (fun a => by fin_cases a <;> simp [up])

theorem V_v0 : (V m c main_v0 : FVec Ideal S128x16x512 .bf16) = padX (m ((c : Thread nD τ).loc main_arg0) : FVec Ideal S128x4x512 .bf16) := by
  unfold padX
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
  after_results
  rfl

theorem V_v1 : (V m c main_v1 : FVec Ideal S128x16x512 .bf16) = padX (m ((c : Thread nD τ).loc main_arg1) : FVec Ideal S128x4x512 .bf16) := by
  unfold padX
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
  after_results
  rfl

theorem V_v2 : (V m c main_v2 : FVec Ideal S128x16x512 .bf16) = padX (m ((c : Thread nD τ).loc main_arg2) : FVec Ideal S128x4x512 .bf16) := by
  unfold padX
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
  after_results
  rfl

theorem V_v3 (e : Fin 512) : (V m c main_v3 : FVec Ideal S1x512 .f32) (ix2 0 e) = (m ((c : Thread nD τ).loc main_arg4) : FVec Ideal S512 .f32) (ix1 e) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
  after_results
  pointwise []

theorem V_v49 (h : Fin 4) (e : Fin 128) : (V m c main_v49 : FVec Ideal S4x1x128 .f32) (ix3 h 0 e) = gch4 h := by
  have e := lgV_apply h
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
  after_results
  pointwise []
  exact congrArg (fun x => Ideal.exp (x * Ideal.ofBits .f32 0x40800000#32)) e

theorem V_v41 (h i j : Fin 4) : (V m c main_v41 : FVec Ideal S4x16x16 .f32) (ix3 h (up i) (up j)) = decay4 h i j := by
  have e : (V m c main_v41 : FVec Ideal S4x16x16 .f32) =
      pad S4x16x16 ![0, 0, 0] ![0, 12, 12] ![0, 0, 0] decV (sitofp (F := Ideal) .f32 (constantI S_ 32 0#32)) pads_S4x4x4_S4x16x16_000_0120_0120 h_S_ := by
    simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [e, pad3, decV_apply]

theorem V_v44 (h i : Fin 4) (d : Fin 128) : (V m c main_v44 : FVec Ideal S4x16x128 .f32) (ix3 h (up i) d) = qdec4 h i := by
  have e : (V m c main_v44 : FVec Ideal S4x16x128 .f32) =
      broadcastInDim S4x16x128 ![0, 1, 2] bcast_S4x16x1_S4x16x128_0_1_2 (broadcastInDim S4x16x1 ![0, 1] bcast_S4x16_S4x16x1_0_1
        (pad S4x16 ![0, 0] ![0, 12] ![0, 0] qdV (sitofp (F := Ideal) .f32 (constantI S_ 32 0#32)) pads_S4x4_S4x16_000_0120 h_S_)) := by
    simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [e]
  refine Eq.trans ?_ (qdV_apply h i)
  refine Eq.trans ?_ (pad2 qdV (sitofp (F := Ideal) .f32 (constantI S_ 32 0#32)) h i)
  generalize pad S4x16 ![0, 0] ![0, 12] ![0, 0] qdV (sitofp (F := Ideal) .f32 (constantI S_ 32 0#32)) pads_S4x4_S4x16_000_0120 h_S_ = X
  pointwise []

theorem V_v47 (h i : Fin 4) (d : Fin 128) : (V m c main_v47 : FVec Ideal S4x16x128 .f32) (ix3 h (up i) d) = kdec4 h i := by
  have e : (V m c main_v47 : FVec Ideal S4x16x128 .f32) =
      broadcastInDim S4x16x128 ![0, 1, 2] bcast_S4x16x1_S4x16x128_0_1_2 (broadcastInDim S4x16x1 ![0, 1] bcast_S4x16_S4x16x1_0_1
        (pad S4x16 ![0, 0] ![0, 12] ![0, 0] kdV (sitofp (F := Ideal) .f32 (constantI S_ 32 0#32)) pads_S4x4_S4x16_000_0120 h_S_)) := by
    simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [e]
  refine Eq.trans ?_ (kdV_apply h i)
  refine Eq.trans ?_ (pad2 kdV (sitofp (F := Ideal) .f32 (constantI S_ 32 0#32)) h i)
  generalize pad S4x16 ![0, 0] ![0, 12] ![0, 0] kdV (sitofp (F := Ideal) .f32 (constantI S_ 32 0#32)) pads_S4x4_S4x16_000_0120 h_S_ = X
  pointwise []

/-! Each window's block index: the tiled windows advance with the grid point, the others stay. -/

theorem idx (t : Fin cfg0.N) :
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_5.index t (0 : Fin 4) = t.val ∧ win0_5.index t (1 : Fin 4) = 0 ∧ win0_5.index t (2 : Fin 4) = 0 ∧ win0_5.index t (3 : Fin 4) = 0)
    ∧ (win0_10.index t (0 : Fin 3) = t.val ∧ win0_10.index t (1 : Fin 3) = 0 ∧ win0_10.index t (2 : Fin 3) = 0)
    ∧ (win0_11.index t (0 : Fin 4) = t.val ∧ win0_11.index t (1 : Fin 4) = 0 ∧ win0_11.index t (2 : Fin 4) = 0 ∧ win0_11.index t (3 : Fin 4) = 0) :=
  (by decide +kernel : ∀ t : Fin grid0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_5.index t (0 : Fin 4) = t.val ∧ win0_5.index t (1 : Fin 4) = 0 ∧ win0_5.index t (2 : Fin 4) = 0 ∧ win0_5.index t (3 : Fin 4) = 0)
    ∧ (win0_10.index t (0 : Fin 3) = t.val ∧ win0_10.index t (1 : Fin 3) = 0 ∧ win0_10.index t (2 : Fin 3) = 0)
    ∧ (win0_11.index t (0 : Fin 4) = t.val ∧ win0_11.index t (1 : Fin 4) = 0 ∧ win0_11.index t (2 : Fin 4) = 0 ∧ win0_11.index t (3 : Fin 4) = 0)) t

theorem idxc (t : Fin cfg0.N) :
    (win0_4.index t (0 : Fin 2) = 0 ∧ win0_4.index t (1 : Fin 2) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 3) = 0 ∧ win0_8.index t (1 : Fin 3) = 0 ∧ win0_8.index t (2 : Fin 3) = 0)
    ∧ (win0_9.index t (0 : Fin 3) = 0 ∧ win0_9.index t (1 : Fin 3) = 0 ∧ win0_9.index t (2 : Fin 3) = 0) :=
  (by decide +kernel : ∀ t : Fin grid0.N,
    (win0_4.index t (0 : Fin 2) = 0 ∧ win0_4.index t (1 : Fin 2) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 3) = 0 ∧ win0_8.index t (1 : Fin 3) = 0 ∧ win0_8.index t (2 : Fin 3) = 0)
    ∧ (win0_9.index t (0 : Fin 3) = 0 ∧ win0_9.index t (1 : Fin 3) = 0 ∧ win0_9.index t (2 : Fin 3) = 0)) t

/-- The sample that row `b` of grid point `t`'s blocks is. -/
def smp (t : Fin cfg0.N) (b : Fin 8) : Fin 128 := ⟨t.val * 8 + b.val, by have := t.isLt; have h : cfg0.N = 16 := rfl; omega⟩

theorem emb0 (t : Fin cfg0.N) (b : Fin 8) (i : Fin 16) (d : Fin 512) : ((cfg0.win 0).blk t).view.emb (ix3 b i d) = ix3 (smp t b) i d := by
  have hx := idx t
  funext a; apply Fin.ext
  match a with
  | ⟨0, _⟩ => show win0_0.index t (0 : Fin 3) * 8 + 1 * b.val = t.val * 8 + b.val; omega
  | ⟨1, _⟩ => show win0_0.index t (1 : Fin 3) * 16 + 1 * i.val = i.val; omega
  | ⟨2, _⟩ => show win0_0.index t (2 : Fin 3) * 512 + 1 * d.val = d.val; omega

theorem emb1 (t : Fin cfg0.N) (b : Fin 8) (i : Fin 16) (d : Fin 512) : ((cfg0.win 1).blk t).view.emb (ix3 b i d) = ix3 (smp t b) i d := by
  have hx := idx t
  funext a; apply Fin.ext
  match a with
  | ⟨0, _⟩ => show win0_1.index t (0 : Fin 3) * 8 + 1 * b.val = t.val * 8 + b.val; omega
  | ⟨1, _⟩ => show win0_1.index t (1 : Fin 3) * 16 + 1 * i.val = i.val; omega
  | ⟨2, _⟩ => show win0_1.index t (2 : Fin 3) * 512 + 1 * d.val = d.val; omega

theorem emb2 (t : Fin cfg0.N) (b : Fin 8) (i : Fin 16) (d : Fin 512) : ((cfg0.win 2).blk t).view.emb (ix3 b i d) = ix3 (smp t b) i d := by
  have hx := idx t
  funext a; apply Fin.ext
  match a with
  | ⟨0, _⟩ => show win0_2.index t (0 : Fin 3) * 8 + 1 * b.val = t.val * 8 + b.val; omega
  | ⟨1, _⟩ => show win0_2.index t (1 : Fin 3) * 16 + 1 * i.val = i.val; omega
  | ⟨2, _⟩ => show win0_2.index t (2 : Fin 3) * 512 + 1 * d.val = d.val; omega

theorem emb3 (t : Fin cfg0.N) (b : Fin 8) (i : Fin 4) (d : Fin 512) : ((cfg0.win 3).blk t).view.emb (ix3 b i d) = ix3 (smp t b) i d := by
  have hx := idx t
  funext a; apply Fin.ext
  match a with
  | ⟨0, _⟩ => show win0_3.index t (0 : Fin 3) * 8 + 1 * b.val = t.val * 8 + b.val; omega
  | ⟨1, _⟩ => show win0_3.index t (1 : Fin 3) * 4 + 1 * i.val = i.val; omega
  | ⟨2, _⟩ => show win0_3.index t (2 : Fin 3) * 512 + 1 * d.val = d.val; omega

theorem emb5 (t : Fin cfg0.N) (b : Fin 8) (i : Fin 4) (d : Fin 128) (e : Fin 128) : ((cfg0.win 5).blk t).view.emb (ix4 b i d e) = ix4 (smp t b) i d e := by
  have hx := idx t
  funext a; apply Fin.ext
  match a with
  | ⟨0, _⟩ => show win0_5.index t (0 : Fin 4) * 8 + 1 * b.val = t.val * 8 + b.val; omega
  | ⟨1, _⟩ => show win0_5.index t (1 : Fin 4) * 4 + 1 * i.val = i.val; omega
  | ⟨2, _⟩ => show win0_5.index t (2 : Fin 4) * 128 + 1 * d.val = d.val; omega
  | ⟨3, _⟩ => show win0_5.index t (3 : Fin 4) * 128 + 1 * e.val = e.val; omega

theorem emb10 (t : Fin cfg0.N) (b : Fin 8) (i : Fin 4) (d : Fin 512) : ((cfg0.win 10).blk t).view.emb (ix3 b i d) = ix3 (smp t b) i d := by
  have hx := idx t
  funext a; apply Fin.ext
  match a with
  | ⟨0, _⟩ => show win0_10.index t (0 : Fin 3) * 8 + 1 * b.val = t.val * 8 + b.val; omega
  | ⟨1, _⟩ => show win0_10.index t (1 : Fin 3) * 4 + 1 * i.val = i.val; omega
  | ⟨2, _⟩ => show win0_10.index t (2 : Fin 3) * 512 + 1 * d.val = d.val; omega

theorem emb11 (t : Fin cfg0.N) (b : Fin 8) (i : Fin 4) (d : Fin 128) (e : Fin 128) : ((cfg0.win 11).blk t).view.emb (ix4 b i d e) = ix4 (smp t b) i d e := by
  have hx := idx t
  funext a; apply Fin.ext
  match a with
  | ⟨0, _⟩ => show win0_11.index t (0 : Fin 4) * 8 + 1 * b.val = t.val * 8 + b.val; omega
  | ⟨1, _⟩ => show win0_11.index t (1 : Fin 4) * 4 + 1 * i.val = i.val; omega
  | ⟨2, _⟩ => show win0_11.index t (2 : Fin 4) * 128 + 1 * d.val = d.val; omega
  | ⟨3, _⟩ => show win0_11.index t (3 : Fin 4) * 128 + 1 * e.val = e.val; omega

theorem emb4 (t : Fin cfg0.N) (j : S1x512.Idx) : ((cfg0.win 4).blk t).view.emb j = j := by
  have hx := idxc t
  funext a; apply Fin.ext
  match a with
  | ⟨0, _⟩ => show win0_4.index t (0 : Fin 2) * 1 + 1 * (j 0).val = (j 0).val; omega
  | ⟨1, _⟩ => show win0_4.index t (1 : Fin 2) * 512 + 1 * (j 1).val = (j 1).val; omega

theorem emb6 (t : Fin cfg0.N) (j : S4x16x16.Idx) : ((cfg0.win 6).blk t).view.emb j = j := by
  have hx := idxc t
  funext a; apply Fin.ext
  match a with
  | ⟨0, _⟩ => show win0_6.index t (0 : Fin 3) * 4 + 1 * (j 0).val = (j 0).val; omega
  | ⟨1, _⟩ => show win0_6.index t (1 : Fin 3) * 16 + 1 * (j 1).val = (j 1).val; omega
  | ⟨2, _⟩ => show win0_6.index t (2 : Fin 3) * 16 + 1 * (j 2).val = (j 2).val; omega

theorem emb7 (t : Fin cfg0.N) (j : S4x16x128.Idx) : ((cfg0.win 7).blk t).view.emb j = j := by
  have hx := idxc t
  funext a; apply Fin.ext
  match a with
  | ⟨0, _⟩ => show win0_7.index t (0 : Fin 3) * 4 + 1 * (j 0).val = (j 0).val; omega
  | ⟨1, _⟩ => show win0_7.index t (1 : Fin 3) * 16 + 1 * (j 1).val = (j 1).val; omega
  | ⟨2, _⟩ => show win0_7.index t (2 : Fin 3) * 128 + 1 * (j 2).val = (j 2).val; omega

theorem emb8 (t : Fin cfg0.N) (j : S4x16x128.Idx) : ((cfg0.win 8).blk t).view.emb j = j := by
  have hx := idxc t
  funext a; apply Fin.ext
  match a with
  | ⟨0, _⟩ => show win0_8.index t (0 : Fin 3) * 4 + 1 * (j 0).val = (j 0).val; omega
  | ⟨1, _⟩ => show win0_8.index t (1 : Fin 3) * 16 + 1 * (j 1).val = (j 1).val; omega
  | ⟨2, _⟩ => show win0_8.index t (2 : Fin 3) * 128 + 1 * (j 2).val = (j 2).val; omega

theorem emb9 (t : Fin cfg0.N) (j : S4x1x128.Idx) : ((cfg0.win 9).blk t).view.emb j = j := by
  have hx := idxc t
  funext a; apply Fin.ext
  match a with
  | ⟨0, _⟩ => show win0_9.index t (0 : Fin 3) * 4 + 1 * (j 0).val = (j 0).val; omega
  | ⟨1, _⟩ => show win0_9.index t (1 : Fin 3) * 1 + 1 * (j 1).val = (j 1).val; omega
  | ⟨2, _⟩ => show win0_9.index t (2 : Fin 3) * 128 + 1 * (j 2).val = (j 2).val; omega

/-! So each window's block, entry by entry. -/

/-- The queries. -/
def A0 (b : Fin 128) (i : Fin 4) (d : Fin 512) : EReal := (m ((c : Thread nD τ).loc main_arg0) : FVec Ideal S128x4x512 .bf16) (ix3 b i d)

theorem iblk0 (t : Fin cfg0.N) (b : Fin 8) (i : Fin 4) (d : Fin 512) :
    (iblk m c 0 t : FVec Ideal S8x16x512 .bf16) (ix3 b (up i) d) = A0 m c (smp t b) i d :=
  (congrArg (V m c main_v0) (emb0 t b (up i) d)).trans ((congrFun (V_v0 m c) _).trans (padX_up _ _ _ _))

/-- The keys. -/
def A1 (b : Fin 128) (i : Fin 4) (d : Fin 512) : EReal := (m ((c : Thread nD τ).loc main_arg1) : FVec Ideal S128x4x512 .bf16) (ix3 b i d)

theorem iblk1 (t : Fin cfg0.N) (b : Fin 8) (i : Fin 4) (d : Fin 512) :
    (iblk m c 1 t : FVec Ideal S8x16x512 .bf16) (ix3 b (up i) d) = A1 m c (smp t b) i d :=
  (congrArg (V m c main_v1) (emb1 t b (up i) d)).trans ((congrFun (V_v1 m c) _).trans (padX_up _ _ _ _))

/-- The values. -/
def A2 (b : Fin 128) (i : Fin 4) (d : Fin 512) : EReal := (m ((c : Thread nD τ).loc main_arg2) : FVec Ideal S128x4x512 .bf16) (ix3 b i d)

theorem iblk2 (t : Fin cfg0.N) (b : Fin 8) (i : Fin 4) (d : Fin 512) :
    (iblk m c 2 t : FVec Ideal S8x16x512 .bf16) (ix3 b (up i) d) = A2 m c (smp t b) i d :=
  (congrArg (V m c main_v2) (emb2 t b (up i) d)).trans ((congrFun (V_v2 m c) _).trans (padX_up _ _ _ _))

theorem iblk2_zero (t : Fin cfg0.N) (b : Fin 8) (j : Fin 16) (hj : 4 ≤ j.val) (d : Fin 512) :
    (iblk m c 2 t : FVec Ideal S8x16x512 .bf16) (ix3 b j d) = (0 : EReal) :=
  (congrArg (V m c main_v2) (emb2 t b j d)).trans ((congrFun (V_v2 m c) _).trans (padX_zero _ _ _ hj _))

/-- The gates. -/
def A3 (b : Fin 128) (i : Fin 4) (d : Fin 512) : EReal := (m ((c : Thread nD τ).loc main_arg3) : FVec Ideal S128x4x512 .f32) (ix3 b i d)

theorem iblk3 (t : Fin cfg0.N) (b : Fin 8) (i : Fin 4) (d : Fin 512) :
    (iblk m c 3 t : FVec Ideal S8x4x512 .f32) (ix3 b i d) = A3 m c (smp t b) i d := by
  unfold A3
  rw [← V_main_arg3 m c]
  exact congrArg (V m c main_arg3) (emb3 t b i d)

/-- The gain. -/
def A4 (d : Fin 512) : EReal := (m ((c : Thread nD τ).loc main_arg4) : FVec Ideal S512 .f32) (ix1 d)

theorem iblk4 (t : Fin cfg0.N) (d : Fin 512) : (iblk m c 4 t : FVec Ideal S1x512 .f32) (ix2 0 d) = A4 m c d :=
  (congrArg (V m c main_v3) (emb4 t (ix2 0 d))).trans (V_v3 m c d)

/-- The states. -/
def A5 (b : Fin 128) (h : Fin 4) (d e : Fin 128) : EReal := (m ((c : Thread nD τ).loc main_arg5) : FVec Ideal S128x4x128x128 .f32) (ix4 b h d e)

theorem iblk5 (t : Fin cfg0.N) (b : Fin 8) (h : Fin 4) (d e : Fin 128) :
    (iblk m c 5 t : FVec Ideal S8x4x128x128 .f32) (ix4 b h d e) = A5 m c (smp t b) h d e := by
  unfold A5
  rw [← V_main_arg5 m c]
  exact congrArg (V m c main_arg5) (emb5 t b h d e)

theorem iblk6 (t : Fin cfg0.N) (h i j : Fin 4) : (iblk m c 6 t : FVec Ideal S4x16x16 .f32) (ix3 h (up i) (up j)) = decay4 h i j :=
  (congrArg (V m c main_v41) (emb6 t (ix3 h (up i) (up j)))).trans (V_v41 m c h i j)

theorem iblk7 (t : Fin cfg0.N) (h i : Fin 4) (d : Fin 128) : (iblk m c 7 t : FVec Ideal S4x16x128 .f32) (ix3 h (up i) d) = qdec4 h i :=
  (congrArg (V m c main_v44) (emb7 t (ix3 h (up i) d))).trans (V_v44 m c h i d)

theorem iblk8 (t : Fin cfg0.N) (h i : Fin 4) (d : Fin 128) : (iblk m c 8 t : FVec Ideal S4x16x128 .f32) (ix3 h (up i) d) = kdec4 h i :=
  (congrArg (V m c main_v47) (emb8 t (ix3 h (up i) d))).trans (V_v47 m c h i d)

theorem iblk9 (t : Fin cfg0.N) (h : Fin 4) (e : Fin 128) : (iblk m c 9 t : FVec Ideal S4x1x128 .f32) (ix3 h 0 e) = gch4 h :=
  (congrArg (V m c main_v49) (emb9 t (ix3 h 0 e))).trans (V_v49 m c h e)

/-! What a grid point writes back. -/

theorem state_eq (t : Fin cfg0.N) (b : Fin 8) (h : Fin 4) (d e : Fin 128) :
    RetDPoint.state (iblk m c 1 t) (iblk m c 2 t) (iblk m c 5 t) (iblk m c 8 t) (iblk m c 9 t) b h d e = S4 (A1 m c) (A2 m c) (A5 m c) (smp t b) h d e :=
  newSt_up (fun j hj e => iblk2_zero m c t b j hj (col h e)) (fun j d => iblk1 m c t b j (col h d)) (fun j e => iblk2 m c t b j (col h e))
    (fun j d => iblk8 m c t h j d) (fun e => iblk9 m c t h e) (fun d e => iblk5 m c t b h d e) d e

theorem out_eq_Y (x0 x1 x2 : FVec Ideal S8x16x512 .bf16) (x3 : FVec Ideal S8x4x512 .f32) (x4 : FVec Ideal S1x512 .f32) (x5 : FVec Ideal S8x4x128x128 .f32)
    (x6 : FVec Ideal S4x16x16 .f32) (x7 : FVec Ideal S4x16x128 .f32)
    (Q K W R : Fin 128 → Fin 4 → Fin 512 → EReal) (N : Fin 512 → EReal) (X : Fin 128 → Fin 4 → Fin 128 → Fin 128 → EReal) (b : Fin 8) (B : Fin 128)
    (h0 : ∀ j : Fin 16, 4 ≤ j.val → ∀ d, x2 (ix3 b j d) = (0 : EReal)) (hq : ∀ i d, x0 (ix3 b (up i) d) = Q B i d) (hk : ∀ i d, x1 (ix3 b (up i) d) = K B i d)
    (hv : ∀ i d, x2 (ix3 b (up i) d) = W B i d) (hr : ∀ i d, x3 (ix3 b i d) = R B i d) (hn : ∀ d, x4 (ix2 0 d) = N d)
    (hs : ∀ h d e, x5 (ix4 b h d e) = X B h d e) (hd : ∀ h i j, x6 (ix3 h (up i) (up j)) = decay4 h i j) (hqd : ∀ h i d, x7 (ix3 h (up i) d) = qdec4 h i)
    (h i : Fin 4) (e : Fin 128) : RetDPoint.out x0 x1 x2 x3 x4 x5 x6 x7 b h i e = Y4 Q K W R N X B h i e := by
  unfold RetDPoint.out Y4
  refine gated_congr (funext fun e => ?_) (funext fun e => hr i (col h e)) (funext fun e => hn (col h e)) e
  exact headO_up (fun j hj e => h0 j hj (col h e)) (fun j d => hq j (col h d)) (fun j d => hk j (col h d)) (fun j e => hv j (col h e)) (fun i j => hd h i j)
    (fun j d => hqd h j d) (fun d e => hs h d e) i e

theorem out_eq (t : Fin cfg0.N) (b : Fin 8) (h i : Fin 4) (e : Fin 128) :
    RetDPoint.out (iblk m c 0 t) (iblk m c 1 t) (iblk m c 2 t) (iblk m c 3 t) (iblk m c 4 t) (iblk m c 5 t) (iblk m c 6 t) (iblk m c 7 t) b h i e
      = Y4 (A0 m c) (A1 m c) (A2 m c) (A3 m c) (A4 m c) (A5 m c) (smp t b) h i e :=
  out_eq_Y _ _ _ _ _ _ _ _ _ _ _ _ _ _ b (smp t b) (fun j hj d => iblk2_zero m c t b j hj d) (iblk0 m c t b) (iblk1 m c t b) (iblk2 m c t b) (iblk3 m c t b)
    (iblk4 m c t) (iblk5 m c t b) (iblk6 m c t) (iblk7 m c t) h i e

/-- The output array, from the call's arguments. -/
def res10 : FVec Ideal S128x4x512 .f32 := fun p =>
  Y4 (A0 m c) (A1 m c) (A2 m c) (A3 m c) (A4 m c) (A5 m c) (p 0) ⟨(p 2).val / 128, by have : (p 2).val < 512 := (p 2).isLt; omega⟩ (p 1)
    ⟨(p 2).val % 128, Nat.mod_lt _ (by decide)⟩

/-- The array of new states, from the call's arguments. -/
def res11 : FVec Ideal S128x4x128x128 .f32 := fun p => S4 (A1 m c) (A2 m c) (A5 m c) (p 0) (p 1) (p 2) (p 3)

theorem flushed10_eq (t : Fin cfg0.N) : (dats m 0 c).flushed 10 t = ((cfg0.win 10).blk t).view.read (Elt Ideal) (res10 m c) := by
  rw [flushed10]
  funext j
  obtain ⟨b, i, d, rfl⟩ : ∃ (b : Fin 8) (i : Fin 4) (d : Fin 512), j = ix3 b i d := ⟨j 0, j 1, j 2, eq_ix3 j⟩
  show out0_10 (F := Ideal) _ _ _ _ _ _ _ _ _ _ (ix3 b i d) = res10 m c (((cfg0.win 10).blk t).view.emb (ix3 b i d))
  rw [emb10, RetDPoint.out10]
  exact out_eq m c t b ⟨d.val / 128, by omega⟩ i ⟨d.val % 128, Nat.mod_lt _ (by decide)⟩

theorem flushed11_eq (t : Fin cfg0.N) : (dats m 0 c).flushed 11 t = ((cfg0.win 11).blk t).view.read (Elt Ideal) (res11 m c) := by
  rw [flushed11]
  funext j
  obtain ⟨b, h, d, e, rfl⟩ : ∃ (b : Fin 8) (h : Fin 4) (d e : Fin 128), j = ix4 b h d e := ⟨j 0, j 1, j 2, j 3, eq_ix4 j⟩
  show out0_11 (F := Ideal) _ _ _ _ _ _ _ _ _ _ (ix4 b h d e) = res11 m c (((cfg0.win 11).blk t).view.emb (ix4 b h d e))
  rw [emb11, RetDPoint.out11]
  exact state_eq m c t b h d e

theorem smp_self (b : Fin 128) : smp ⟨b.val / 8, by show b.val / 8 < 16; omega⟩ ⟨b.val % 8, by omega⟩ = b :=
  Fin.ext (by show b.val / 8 * 8 + b.val % 8 = b.val; omega)

/-- Every index of the output array is in some grid point's block. -/
theorem covered10 (p : S128x4x512.Idx) : ∃ t : Fin cfg0.N, (cfg0.win 10).flush t = true ∧ p ∈ ((cfg0.win 10).blk t).view.set := by
  obtain ⟨b, i, d, rfl⟩ : ∃ (b : Fin 128) (i : Fin 4) (d : Fin 512), p = ix3 b i d := ⟨p 0, p 1, p 2, eq_ix3 p⟩
  refine ⟨⟨b.val / 8, by show b.val / 8 < 16; omega⟩, flush0_10 _, ?_⟩
  have h := ((cfg0.win 10).blk ⟨b.val / 8, by show b.val / 8 < 16; omega⟩).view.emb_mem_set (ix3 (⟨b.val % 8, by omega⟩ : Fin 8) i d)
  rw [emb10, smp_self] at h
  exact h

/-- Every index of the states' array is in some grid point's block. -/
theorem covered11 (p : S128x4x128x128.Idx) : ∃ t : Fin cfg0.N, (cfg0.win 11).flush t = true ∧ p ∈ ((cfg0.win 11).blk t).view.set := by
  obtain ⟨b, i, d, e, rfl⟩ : ∃ (b : Fin 128) (i : Fin 4) (d e : Fin 128), p = ix4 b i d e := ⟨p 0, p 1, p 2, p 3, eq_ix4 p⟩
  refine ⟨⟨b.val / 8, by show b.val / 8 < 16; omega⟩, flush0_11 _, ?_⟩
  have h := ((cfg0.win 11).blk ⟨b.val / 8, by show b.val / 8 < 16; omega⟩).view.emb_mem_set (ix4 (⟨b.val % 8, by omega⟩ : Fin 8) i d e)
  rw [emb11, smp_self] at h
  exact h

/-- The output array after the run. -/
theorem final10 : (dats m 0 c).arrAt 10 cfg0.N = res10 m c :=
  (dats m 0 c).arrAt_eq_of_cover 10 (res10 m c) (fun t _ => flushed10_eq m c t) covered10

/-- The states' array after the run. -/
theorem final11 : (dats m 0 c).arrAt 11 cfg0.N = res11 m c :=
  (dats m 0 c).arrAt_eq_of_cover 11 (res11 m c) (fun t _ => flushed11_eq m c t) covered11

end Cert.RetDArray

end
-- ==== Proof.RetDRefRow.lean ====
/- The samples' recurrence as the reference computes it, read entry by entry. -/
module

public import proofs.«01_k».proof.Proof.RetDMath
public import proofs.«01_k».proof.Proof.Gen.RetDRefIdeal.Read
public import Idealize.ShloMosaic.Lib.Pointwise
public import Idealize.ShloMosaic.PureOps.Ideal.Laws

@[expose] public section

set_option maxRecDepth 16384

noncomputable section

namespace Cert.RetDRefRow

open Idealize.ShloMosaic Idealize.ShloMosaic.TcCoe Cert.RetDRefIdeal Cert.RetDRefIdeal.Gen Cert.RetDRefIdeal.Read Cert.Rows Cert.RetBlock Cert.RetCases Cert.RetMath Cert.RetDMath

theorem v14_apply (h : Fin 4) : (val_main_v14 (F := Ideal)) (ix1 h) = lg h := by
  pointwise [val_main_v14, val_main_v13, val_main_v12, val_main_v11, val_main_v10, val_main_v9, val_main_cst, val_main_cst_0, val_main_cst_1, val_main_cst_2]
  fin_cases h <;> rfl

theorem v15_apply (i : Fin 4) : (val_main_v15 (F := Ideal)) (ix1 i) = pos4 i := rfl

theorem v20_apply (i j : Fin 4) : (val_main_v20 (F := Ideal)) (ix2 i j) = pos4 i - pos4 j := rfl

theorem v31_apply (h i j : Fin 4) : (val_main_v31 (F := Ideal)) (ix3 h i j) = decay4 h i j := by
  have e := v14_apply h
  pointwise [val_main_v31, val_main_call0_v2, val_main_call0_v1, val_main_call0_v0, val_main_cst_5, val_main_v30, val_main_v29, val_main_v28, val_main_v27, val_main_v26, val_main_v25, val_main_v24, val_main_cst_4, val_main_v23, val_main_v22, val_main_v21, val_main_cst_3]
  simp only [e, v20_apply, id]
  unfold decay4
  pointwise []

theorem v44_apply (h i : Fin 4) : (val_main_v44 (F := Ideal)) (ix2 h i) = qdec4 h i := by
  have e := v14_apply h
  pointwise [val_main_v44, val_main_v43, val_main_v42, val_main_v41, val_main_v40, val_main_v39, val_main_v38, val_main_cst_6, val_main_v37]
  simp only [e, v15_apply]
  rfl

theorem v57_apply (h i : Fin 4) : (val_main_v57 (F := Ideal)) (ix2 h i) = kdec4 h i := by
  have e := v14_apply h
  pointwise [val_main_v57, val_main_v56, val_main_v55, val_main_v54, val_main_v53, val_main_v52, val_main_v51, val_main_cst_7, val_main_v50]
  simp only [e, v15_apply]
  rfl

theorem v64_apply (h : Fin 4) : (val_main_v64 (F := Ideal)) (ix1 h) = gch4 h := by
  have e := v14_apply h
  pointwise [val_main_v64, val_main_v63, val_main_v62, val_main_cst_8]
  simp only [e]
  rfl

variable (x0 x1 x2 : FVec Ideal S128x4x512 .bf16) (x3 : FVec Ideal S128x4x512 .f32) (x4 : FVec Ideal S512 .f32) (x5 : FVec Ideal S128x4x128x128 .f32)

theorem v2_apply (b : Fin 128) (h i : Fin 4) (d : Fin 128) : val_main_v2 (F := Ideal) x0 (ix4 b h i d) = x0 (ix3 b i (col h d)) := by
  pointwise [val_main_v2, val_main_v1, val_main_v0]
  rfl

theorem v5_apply (b : Fin 128) (h i : Fin 4) (d : Fin 128) : val_main_v5 (F := Ideal) x1 (ix4 b h i d) = x1 (ix3 b i (col h d)) := by
  pointwise [val_main_v5, val_main_v4, val_main_v3]
  rfl

theorem v8_apply (b : Fin 128) (h i : Fin 4) (d : Fin 128) : val_main_v8 (F := Ideal) x2 (ix4 b h i d) = x2 (ix3 b i (col h d)) := by
  pointwise [val_main_v8, val_main_v7, val_main_v6]
  rfl

/-- The reference's new states. -/
theorem v70_apply (b : Fin 128) (h : Fin 4) (d e : Fin 128) :
    val_main_v70 (F := Ideal) x1 x2 x5 (ix4 b h d e)
      = S4 (fun b i d => x1 (ix3 b i d)) (fun b i d => x2 (ix3 b i d)) (fun b h d e => x5 (ix4 b h d e)) b h d e := by
  pointwise [val_main_v70, val_main_v69, val_main_v68, val_main_v67, val_main_v66, val_main_v65, val_main_v61, val_main_v60, val_main_v59, val_main_v58]
  simp only [v64_apply, v57_apply, v5_apply, v8_apply]
  rfl

/-- The reference's outputs before they are normalised. -/
theorem v71_apply (b : Fin 128) (h i : Fin 4) (e : Fin 128) :
    val_main_v71 (F := Ideal) x0 x1 x2 x5 (ix4 b h i e)
      = headO (fun j d => x0 (ix3 b j (col h d))) (fun j d => x1 (ix3 b j (col h d))) (fun j e => x2 (ix3 b j (col h e))) (decay4 h)
          (fun i _ => qdec4 h i) (fun d e => x5 (ix4 b h d e)) i e := by
  pointwise [val_main_v71, val_main_v49, val_main_v48, val_main_v47, val_main_v46, val_main_v45, val_main_v36, val_main_v35, val_main_v34, val_main_v33, val_main_v32]
  simp only [v44_apply, v31_apply, v2_apply, v5_apply, v8_apply]
  rfl

theorem v75_apply (b : Fin 128) (h i : Fin 4) :
    val_main_v75 (F := Ideal) x0 x1 x2 x5 (ix4 b h i 0) = mean 0x43000000#32 fun d : Fin 128 => val_main_v71 (F := Ideal) x0 x1 x2 x5 (ix4 b h i d) := by
  pointwise [val_main_v75, val_main_v74, val_main_v73, val_main_v72, val_main_cst_9, val_main_cst_10]
  rfl

theorem v78_apply (b : Fin 128) (h i : Fin 4) (d : Fin 128) :
    val_main_v78 (F := Ideal) x0 x1 x2 x5 (ix4 b h i d)
      = (val_main_v71 (F := Ideal) x0 x1 x2 x5 (ix4 b h i d) - mean 0x43000000#32 fun d : Fin 128 => val_main_v71 (F := Ideal) x0 x1 x2 x5 (ix4 b h i d))
        * (val_main_v71 (F := Ideal) x0 x1 x2 x5 (ix4 b h i d) - mean 0x43000000#32 fun d : Fin 128 => val_main_v71 (F := Ideal) x0 x1 x2 x5 (ix4 b h i d)) := by
  pointwise [val_main_v78, val_main_v77, val_main_v76]
  simp only [v75_apply]

theorem v82_apply (b : Fin 128) (h i : Fin 4) :
    val_main_v82 (F := Ideal) x0 x1 x2 x5 (ix4 b h i 0) = mean 0x43000000#32 fun d : Fin 128 => val_main_v78 (F := Ideal) x0 x1 x2 x5 (ix4 b h i d) := by
  pointwise [val_main_v82, val_main_v81, val_main_v80, val_main_v79, val_main_cst_11, val_main_cst_12]
  rfl

theorem v89_apply (b : Fin 128) (h i : Fin 4) (d : Fin 128) :
    val_main_v89 (F := Ideal) x0 x1 x2 x5 (ix4 b h i d)
      = normed 0x43000000#32 0x3727C5AC#32 (fun d => val_main_v71 (F := Ideal) x0 x1 x2 x5 (ix4 b h i d)) d := by
  pointwise [val_main_v89, val_main_v88, val_main_v87, val_main_v86, val_main_v85, val_main_cst_13, val_main_v84, val_main_v83]
  simp only [v75_apply, v82_apply, v78_apply]
  rfl

theorem v95_apply (b : Fin 128) (i : Fin 4) (d : Fin 512) :
    val_main_v95 (F := Ideal) x3 (ix3 b i d) = x3 (ix3 b i d) * sigmoid (x3 (ix3 b i d)) := by
  pointwise [val_main_v95, val_main_call1_v5, val_main_call1_v4, val_main_call1_cst_0, val_main_call1_v3, val_main_call1_v2, val_main_call1_cst, val_main_call1_v1, val_main_call1_v0]
  rfl

theorem v94_apply (b : Fin 128) (h i : Fin 4) (e : Fin 128) :
    val_main_v94 (F := Ideal) x0 x1 x2 x4 x5 (ix3 b i (col h e)) = val_main_v89 (F := Ideal) x0 x1 x2 x5 (ix4 b h i e) * x4 (ix1 (col h e)) := by
  have hcol : (col h e).val = h.val * 128 + e.val := rfl
  have e3 : (⟨(col h e).val / 128, by omega⟩ : Fin 4) = h := Fin.ext (by show (col h e).val / 128 = h.val; omega)
  have e4 : (⟨(col h e).val % 128, Nat.mod_lt _ (by decide)⟩ : Fin 128) = e := Fin.ext (by show (col h e).val % 128 = e.val; omega)
  pointwise [val_main_v94, val_main_v93, val_main_v92, val_main_v91, val_main_v90]
  rw [e3, e4]

/-- The reference's gated outputs. -/
theorem v96_apply (b : Fin 128) (h i : Fin 4) (e : Fin 128) :
    val_main_v96 (F := Ideal) x0 x1 x2 x3 x4 x5 (ix3 b i (col h e))
      = Y4 (fun b i d => x0 (ix3 b i d)) (fun b i d => x1 (ix3 b i d)) (fun b i d => x2 (ix3 b i d)) (fun b i d => x3 (ix3 b i d)) (fun d => x4 (ix1 d))
          (fun b h d e => x5 (ix4 b h d e)) b h i e := by
  refine Eq.trans (val_main_v96_apply _ _ _ _ _ _ _) ?_
  rw [v95_apply, v94_apply, v89_apply]
  simp only [v71_apply]
  rfl

end Cert.RetDRefRow

end
-- ==== Proof.RetDEq.lean ====
/- The samples' recurrence's claims: the kernel and the reference end with the same gated outputs and the same new states. -/
module

public import proofs.«01_k».proof.Defs
public import proofs.«01_k».proof.Proof.RetDArray
public import proofs.«01_k».proof.Proof.RetDRefRow
public import proofs.«01_k».proof.Proof.Gen.RetDIdeal
public import proofs.«01_k».proof.Proof.Gen.RetDRefIdeal
public import proofs.«01_k».proof.Proof.Gen.RetDRefIdeal.Run

@[expose] public section

set_option maxRecDepth 16384

noncomputable section

namespace Cert.RetDEq

open Idealize.ShloMosaic Idealize.ShloMosaic.TcCoe Idealize.SL.Sem

theorem frameRef : Cert.quiescent_RetDRefIdeal := fun m ρ _ =>
  (θ_run Cert.RetDRefIdeal.defs _ _).mono (fun r h => ⟨fun c => (h c).2.2, Idealize.ShloMosaic.sem_eq_zero_of_no_sems (by decide) r.2⟩)
    (Cert.RetDRefIdeal.Value.run (F := Ideal) m ρ)

open Cert.RetCases Cert.RetDMath

variable (x0 x1 x2 : FVec Ideal Cert.RetDIdeal.S128x4x512 .bf16) (x3 : FVec Ideal Cert.RetDIdeal.S128x4x512 .f32)
  (x4 : FVec Ideal Cert.RetDIdeal.S512 .f32) (x5 : FVec Ideal Cert.RetDIdeal.S128x4x128x128 .f32)

/-- The reference's output array, entry by entry. -/
theorem ref_out (p : Cert.RetDIdeal.S128x4x512.Idx) :
    Cert.RetDRefIdeal.Read.val_main_v96 (F := Ideal) x0 x1 x2 x3 x4 x5 p
      = Y4 (fun b i d => x0 (ix3 b i d)) (fun b i d => x1 (ix3 b i d)) (fun b i d => x2 (ix3 b i d)) (fun b i d => x3 (ix3 b i d)) (fun d => x4 (ix1 d))
          (fun b h d e => x5 (ix4 b h d e)) (p 0) ⟨(p 2).val / 128, by have : (p 2).val < 512 := (p 2).isLt; omega⟩ (p 1)
          ⟨(p 2).val % 128, Nat.mod_lt _ (by decide)⟩ := by
  obtain ⟨b, i, d, rfl⟩ : ∃ (b : Fin 128) (i : Fin 4) (d : Fin 512), p = ix3 b i d := ⟨p 0, p 1, p 2, eq_ix3 p⟩
  have hd : d = col ⟨d.val / 128, by omega⟩ ⟨d.val % 128, Nat.mod_lt _ (by decide)⟩ :=
    Fin.ext (by show d.val = d.val / 128 * 128 + d.val % 128; omega)
  refine (congrArg (fun d => Cert.RetDRefIdeal.Read.val_main_v96 (F := Ideal) x0 x1 x2 x3 x4 x5 (ix3 b i d)) hd).trans ?_
  exact RetDRefRow.v96_apply x0 x1 x2 x3 x4 x5 b ⟨d.val / 128, by omega⟩ i ⟨d.val % 128, Nat.mod_lt _ (by decide)⟩

/-- The reference's array of new states, entry by entry. -/
theorem ref_state (p : Cert.RetDIdeal.S128x4x128x128.Idx) :
    Cert.RetDRefIdeal.Read.val_main_v70 (F := Ideal) x1 x2 x5 p
      = S4 (fun b i d => x1 (ix3 b i d)) (fun b i d => x2 (ix3 b i d)) (fun b h d e => x5 (ix4 b h d e)) (p 0) (p 1) (p 2) (p 3) := by
  obtain ⟨b, h, d, e, rfl⟩ : ∃ (b : Fin 128) (h : Fin 4) (d e : Fin 128), p = ix4 b h d e := ⟨p 0, p 1, p 2, p 3, eq_ix4 p⟩
  exact RetDRefRow.v70_apply x1 x2 x5 b h d e

/-- Launched on the same arguments, the kernel and the reference leave the same arrays. -/
theorem algebraic : Cert.algebraic_RetDIdeal_RetDRefIdeal := by
  intro m ρ m' ρ' _ hagree
  refine ⟨fun c => RetDArray.res10 m c, fun c => RetDArray.res11 m c,
    (θ_run Cert.RetDIdeal.defs _ _).mono (fun r h c => ⟨(h c).1.trans (RetDArray.final10 m c), (h c).2.1.trans (RetDArray.final11 m c), (h c).2.2⟩)
      (Cert.RetDIdeal.Value.run_blocks m ρ),
    (θ_run Cert.RetDRefIdeal.defs _ _).mono (fun r h c => ⟨(h c).1.trans ?_, (h c).2.1.trans ?_, (h c).2.2⟩) (Cert.RetDRefIdeal.Value.run (F := Ideal) m' ρ')⟩
  all_goals obtain ⟨e0, e1, e2, e3, e4, e5⟩ := hagree c
  · rw [Cert.RetDRefIdeal.Read.val_main_v96_eq, e0, e1, e2, e3, e4, e5]
    funext p
    exact ref_out _ _ _ _ _ _ p
  · refine (Cert.RetDRefIdeal.Read.val_main_v70_eq _ _ _).trans ?_
    rw [e1, e2, e5]
    funext p
    exact ref_state _ _ _ p

end Cert.RetDEq

end
-- ==== Proof.ProjBlock.lean ====
/- What one grid point of the input projection leaves in each of its eleven output blocks, entry by entry: products of the
   point's 512 token rows with columns of the weights, some scaled, two of them transposed, and the keys' block means. -/
module

public import proofs.«01_k».proof.Proof.Gen.ProjIdeal.Value
public import Idealize.ShloMosaic.Lib.Pointwise

@[expose] public section

set_option maxRecDepth 16384

noncomputable section

namespace Cert.ProjBlock

open Idealize.ShloMosaic Idealize.ShloMosaic.TcCoe Cert.ProjIdeal Cert.ProjIdeal.Gen

theorem hz : (![0, 0] : Fin 2 → Nat) = fun _ => 0 := funext fun a => by fin_cases a <;> rfl
theorem hz3 : (![0, 0, 0] : Fin 3 → Nat) = fun _ => 0 := funext fun a => by fin_cases a <;> rfl

/-- A load of 512 columns from column `o` on reads column `o + c`. -/
theorem ld_cols (w : Vec Ideal S1024x3584 .bf16) (o : Nat) (h : ∀ a, (![0, o] : Fin 2 → Nat) a + S1024x512.size a ≤ S1024x3584.size a)
    (ho : o ≤ 3072) (k : Fin 1024) (c : Fin 512) :
    View.ld w (Rect.unit (s := S1024x3584) ![0, o] S1024x512.size h) (ix2 k c) = w (ix2 k (⟨o + c.val, by omega⟩ : Fin 3584)) := by
  refine congrArg w (funext fun a => Fin.ext ?_)
  match a with
  | ⟨0, _⟩ => show 0 + 1 * k.val = k.val; omega
  | ⟨1, _⟩ => show o + 1 * c.val = o + c.val; omega

theorem pay9_apply (x : FVec Ideal S512x1024 .bf16) (w : FVec Ideal S1024x512 .bf16) (i c : Fin 512) :
    k0_pay9 (F := Ideal) x w (ix2 i c) = ∑ k : Fin 1024, x (ix2 i k) * w (ix2 k c) := by
  pointwise [k0_pay9]

/-- The two words the projection multiplies by: 128 to the power −1/2 as rounded, and one eighth. -/
def sq : EReal := Ideal.ofBits .f32 0x3DB504F3#32
def s8 : EReal := Ideal.ofBits .f32 0x3E000000#32

variable (x0 : Vec Ideal S512x1024 .f32) (x1 : Vec Ideal S1024x3584 .bf16) (x2 x3 : Vec Ideal S512x1024 .bf16)

theorem out4_apply (i c : Fin 512) : out0_4 (F := Ideal) x0 x1 x2 x3 (ix2 i c)
    = (∑ k : Fin 1024, x0 (ix2 i k) * x1 (ix2 k (⟨0 + c.val, by omega⟩ : Fin 3584))) := by
  unfold_out out0_4
  rw [View.canon_unit_zero hz, View.ld_unit_zero (S := S512x1024) hz]
  pointwise [k0_pay2, k0_pay3]

theorem out5_apply (i c : Fin 512) : out0_5 (F := Ideal) x0 x1 x2 x3 (ix2 i c)
    = (∑ k : Fin 1024, x0 (ix2 i k) * x1 (ix2 k (⟨512 + c.val, by omega⟩ : Fin 3584))) * sq := by
  unfold_out out0_5
  rw [View.canon_unit_zero hz, View.ld_unit_zero (S := S512x1024) hz]
  pointwise [k0_pay2, k0_pay4]
  rfl

theorem out6_apply (i c : Fin 512) : out0_6 (F := Ideal) x0 x1 x2 x3 (ix2 i c)
    = (∑ k : Fin 1024, x0 (ix2 i k) * x1 (ix2 k (⟨1024 + c.val, by omega⟩ : Fin 3584))) := by
  unfold_out out0_6
  rw [View.canon_unit_zero hz, View.ld_unit_zero (S := S512x1024) hz]
  pointwise [k0_pay2, k0_pay5]

theorem out7_apply (i c : Fin 512) : out0_7 (F := Ideal) x0 x1 x2 x3 (ix2 i c)
    = (∑ k : Fin 1024, x0 (ix2 i k) * x1 (ix2 k (⟨1536 + c.val, by omega⟩ : Fin 3584))) := by
  unfold_out out0_7
  rw [View.canon_unit_zero hz, View.ld_unit_zero (S := S512x1024) hz]
  pointwise [k0_pay2, k0_pay6]

theorem out8_apply (i c : Fin 512) : out0_8 (F := Ideal) x0 x1 x2 x3 (ix2 i c)
    = (∑ k : Fin 1024, x0 (ix2 i k) * x1 (ix2 k (⟨2048 + c.val, by omega⟩ : Fin 3584))) * s8 := by
  unfold_out out0_8
  rw [View.canon_unit_zero hz, View.ld_unit_zero (S := S512x1024) hz]
  pointwise [k0_pay2, k0_pay8, k0_pay7]
  rfl

theorem out9_apply (i c : Fin 512) : out0_9 (F := Ideal) x0 x1 x2 x3 (ix2 i c)
    = (∑ k : Fin 1024, x0 (ix2 i k) * x1 (ix2 k (⟨2560 + c.val, by omega⟩ : Fin 3584))) := by
  unfold_out out0_9
  rw [View.canon_unit_zero hz, View.ld_unit_zero (S := S512x1024) hz]
  pointwise [k0_pay2, k0_pay9]

theorem out10_apply (i c : Fin 512) : out0_10 (F := Ideal) x0 x1 x2 x3 (ix2 i c)
    = (∑ k : Fin 1024, x0 (ix2 i k) * x1 (ix2 k (⟨3072 + c.val, by omega⟩ : Fin 3584))) := by
  unfold_out out0_10
  rw [View.canon_unit_zero hz, View.ld_unit_zero (S := S512x1024) hz]
  pointwise [k0_pay2, k0_pay10]

theorem out11_apply (i c : Fin 512) : out0_11 (F := Ideal) x0 x1 x2 x3 (ix2 i c)
    = (∑ k : Fin 1024, x0 (ix2 i k) * x1 (ix2 k (⟨2560 + c.val, by omega⟩ : Fin 3584))) := by
  unfold_out out0_11
  rw [View.canon_unit_zero hz, View.ld_unit_zero (S := S512x1024) hz]
  pointwise [k0_pay2, k0_pay11, k0_pay9]

theorem out12_apply (i c : Fin 512) : out0_12 (F := Ideal) x0 x1 x2 x3 (ix2 i c)
    = (∑ k : Fin 1024, x0 (ix2 c k) * x2 (ix2 i k)) * s8 := by
  unfold_out out0_12
  rw [View.canon_unit_zero hz, View.ld_unit_zero (S := S512x1024) hz, View.ld_unit_zero (S := S512x1024) hz]
  pointwise [k0_pay2, k0_pay12]
  refine congrArg (· * s8) (Finset.sum_congr rfl fun k _ => mul_comm _ _)

theorem out13_apply (i c : Fin 512) : out0_13 (F := Ideal) x0 x1 x2 x3 (ix2 i c)
    = (∑ k : Fin 1024, x0 (ix2 c k) * x3 (ix2 i k)) := by
  unfold_out out0_13
  rw [View.canon_unit_zero hz, View.ld_unit_zero (S := S512x1024) hz, View.ld_unit_zero (S := S512x1024) hz]
  pointwise [k0_pay2, k0_pay13]
  exact Finset.sum_congr rfl fun k _ => mul_comm _ _

/-- The keys' means over the block's two halves of 256 tokens. -/
theorem out14_apply (h : Fin 2) (c : Fin 512) : out0_14 (F := Ideal) x0 x1 x2 x3 (ix3 (0 : Fin 1) h c)
    = Ideal.div (∑ r : Fin 256, ∑ k : Fin 1024, x0 (ix2 (⟨h.val * 256 + r.val, by omega⟩ : Fin 512) k) * x1 (ix2 k (⟨2560 + c.val, by omega⟩ : Fin 3584)))
        (Ideal.ofBits .f32 0x43800000#32) := by
  unfold_out out0_14
  rw [View.canon_unit_zero hz3, View.ld_unit_zero (S := S512x1024) hz]
  pointwise [k0_pay1, k0_pay2, k0_pay14, k0_pay15]
  simp only [pay9_apply, ld_cols x1 2560 inb_S1024x3584_S1024x512_0_2560 (by omega)]

  rfl

end Cert.ProjBlock

end
-- ==== Proof.ProjRefRow.lean ====
/- The reference projection's eleven results, entry by entry. -/
module

public import proofs.«01_k».proof.Proof.ProjBlock
public import proofs.«01_k».proof.Proof.Gen.ProjRefIdeal.Read

@[expose] public section

set_option maxRecDepth 16384

noncomputable section

namespace Cert.ProjRefRow

open Idealize.ShloMosaic Idealize.ShloMosaic.TcCoe Cert.ProjRefIdeal Cert.ProjRefIdeal.Read Cert.ProjBlock

variable (x : FVec Ideal S16384x1024 .f32) (w : FVec Ideal S1024x5632 .f32)

/-- The product of token row `i` with weight column `n`. -/
def P (i : Fin 16384) (n : Fin 5632) : EReal := ∑ k : Fin 1024, x (ix2 i k) * w (ix2 k n)

/-- The same at column `o + c`. -/
def C (o : Nat) (ho : o ≤ 5120) (i : Fin 16384) (c : Fin 512) : EReal := P x w i ⟨o + c.val, by omega⟩

/-- The mean of column `2560 + c` over tokens `256 (2 t + h)` on. -/
def M (t : Fin 32) (h : Fin 2) (c : Fin 512) : EReal :=
  Ideal.div (∑ r : Fin 256, P x w ⟨(t.val * 2 + h.val) * 256 + r.val, by omega⟩ ⟨2560 + c.val, by omega⟩) (Ideal.ofBits .f32 0x43800000#32)

theorem v0_apply (i : Fin 16384) (n : Fin 5632) : val_main_v0 (F := Ideal) x w (ix2 i n) = P x w i n := by
  pointwise [val_main_v0]
  all_goals rfl

def G4 : FVec Ideal S16384x512 .bf16 := fun p => C x w 0 (by omega) (p 0) (p 1)
theorem ref4 : val_main_v16 (F := Ideal) x w = G4 x w := by
  funext p
  obtain ⟨i, c, rfl⟩ : ∃ (i : Fin 16384) (c : Fin 512), p = ix2 i c := ⟨p 0, p 1, eq_ix2 p⟩
  show _ = P x w i ⟨0 + c.val, by omega⟩
  pointwise [val_main_v1, val_main_v16]
  all_goals simp only [v0_apply]
  all_goals rfl

def G5 : FVec Ideal S16384x512 .bf16 := fun p => C x w 512 (by omega) (p 0) (p 1) * sq
theorem ref5 : val_main_v19 (F := Ideal) x w = G5 x w := by
  funext p
  obtain ⟨i, c, rfl⟩ : ∃ (i : Fin 16384) (c : Fin 512), p = ix2 i c := ⟨p 0, p 1, eq_ix2 p⟩
  show _ = P x w i ⟨512 + c.val, by omega⟩ * sq
  pointwise [val_main_v2, val_main_cst_2, val_main_v17, val_main_v18, val_main_v19]
  all_goals simp only [v0_apply]
  all_goals rfl

def G6 : FVec Ideal S16384x512 .bf16 := fun p => C x w 1024 (by omega) (p 0) (p 1)
theorem ref6 : val_main_v20 (F := Ideal) x w = G6 x w := by
  funext p
  obtain ⟨i, c, rfl⟩ : ∃ (i : Fin 16384) (c : Fin 512), p = ix2 i c := ⟨p 0, p 1, eq_ix2 p⟩
  show _ = P x w i ⟨1024 + c.val, by omega⟩
  pointwise [val_main_v3, val_main_v20]
  all_goals simp only [v0_apply]
  all_goals rfl

def G7 : FVec Ideal S16384x512 .f32 := fun p => C x w 1536 (by omega) (p 0) (p 1)
theorem ref7 : val_main_v4 (F := Ideal) x w = G7 x w := by
  funext p
  obtain ⟨i, c, rfl⟩ : ∃ (i : Fin 16384) (c : Fin 512), p = ix2 i c := ⟨p 0, p 1, eq_ix2 p⟩
  show _ = P x w i ⟨1536 + c.val, by omega⟩
  pointwise [val_main_v4]
  all_goals simp only [v0_apply]
  all_goals rfl

def G8 : FVec Ideal S16384x512 .bf16 := fun p => C x w 2048 (by omega) (p 0) (p 1) * s8
theorem ref8 : val_main_v21 (F := Ideal) x w = G8 x w := by
  funext p
  obtain ⟨i, c, rfl⟩ : ∃ (i : Fin 16384) (c : Fin 512), p = ix2 i c := ⟨p 0, p 1, eq_ix2 p⟩
  show _ = P x w i ⟨2048 + c.val, by omega⟩ * s8
  pointwise [val_main_v5, val_main_cst, val_main_v10, val_main_v11, val_main_v21]
  all_goals simp only [v0_apply]
  all_goals rfl

def G9 : FVec Ideal S16384x512 .f32 := fun p => C x w 2560 (by omega) (p 0) (p 1)
theorem ref9 : val_main_v6 (F := Ideal) x w = G9 x w := by
  funext p
  obtain ⟨i, c, rfl⟩ : ∃ (i : Fin 16384) (c : Fin 512), p = ix2 i c := ⟨p 0, p 1, eq_ix2 p⟩
  show _ = P x w i ⟨2560 + c.val, by omega⟩
  pointwise [val_main_v6]
  all_goals simp only [v0_apply]
  all_goals rfl

def G10 : FVec Ideal S16384x512 .f32 := fun p => C x w 3072 (by omega) (p 0) (p 1)
theorem ref10 : val_main_v7 (F := Ideal) x w = G10 x w := by
  funext p
  obtain ⟨i, c, rfl⟩ : ∃ (i : Fin 16384) (c : Fin 512), p = ix2 i c := ⟨p 0, p 1, eq_ix2 p⟩
  show _ = P x w i ⟨3072 + c.val, by omega⟩
  pointwise [val_main_v7]
  all_goals simp only [v0_apply]
  all_goals rfl

def G11 : FVec Ideal S16384x512 .bf16 := fun p => C x w 2560 (by omega) (p 0) (p 1)
theorem ref11 : val_main_v22 (F := Ideal) x w = G11 x w := by
  funext p
  obtain ⟨i, c, rfl⟩ : ∃ (i : Fin 16384) (c : Fin 512), p = ix2 i c := ⟨p 0, p 1, eq_ix2 p⟩
  show _ = P x w i ⟨2560 + c.val, by omega⟩
  pointwise [val_main_v6, val_main_v22]
  all_goals simp only [v0_apply]
  all_goals rfl

def G12 : FVec Ideal S512x16384 .bf16 := fun p => C x w 2048 (by omega) (p 1) (p 0) * s8
theorem ref12 : val_main_v24 (F := Ideal) x w = G12 x w := by
  funext p
  obtain ⟨i, c, rfl⟩ : ∃ (i : Fin 16384) (c : Fin 512), p = ix2 c i := ⟨p 1, p 0, eq_ix2 p⟩
  show _ = P x w i ⟨2048 + c.val, by omega⟩ * s8
  pointwise [val_main_v5, val_main_cst, val_main_v10, val_main_v11, val_main_v23, val_main_v24]
  all_goals simp only [v0_apply]
  all_goals rfl

def G13 : FVec Ideal S512x16384 .bf16 := fun p => C x w 3072 (by omega) (p 1) (p 0)
theorem ref13 : val_main_v26 (F := Ideal) x w = G13 x w := by
  funext p
  obtain ⟨i, c, rfl⟩ : ∃ (i : Fin 16384) (c : Fin 512), p = ix2 c i := ⟨p 1, p 0, eq_ix2 p⟩
  show _ = P x w i ⟨3072 + c.val, by omega⟩
  pointwise [val_main_v7, val_main_v25, val_main_v26]
  all_goals simp only [v0_apply]
  all_goals rfl

/-- The keys' means over blocks of 256 tokens. -/
def G14 : FVec Ideal S32x2x512 .f32 := fun p =>
  M x w (p 0) (p 1) (p 2)
theorem ref14 : val_main_v27 (F := Ideal) x w = G14 x w := by
  funext p
  obtain ⟨t, h, c, rfl⟩ : ∃ (t : Fin 32) (h : Fin 2) (c : Fin 512), p = ix3 t h c := ⟨p 0, p 1, p 2, eq_ix3 p⟩
  show _ = Ideal.div (∑ r : Fin 256, P x w ⟨(t.val * 2 + h.val) * 256 + r.val, by omega⟩ ⟨2560 + c.val, by omega⟩) (Ideal.ofBits .f32 0x43800000#32)
  pointwise [val_main_v6, val_main_v12, val_main_cst_0, val_main_v13, val_main_cst_1, val_main_v14, val_main_v15, val_main_v27]
  all_goals simp only [v0_apply]
  all_goals rfl

end Cert.ProjRefRow

end
-- ==== Proof.ProjArray.lean ====
/- The projection's eleven output arrays after the run, as functions of the arguments. -/
module

public import proofs.«01_k».proof.Proof.ProjBlock
public import proofs.«01_k».proof.Proof.ProjRefRow

@[expose] public section

set_option maxRecDepth 16384

noncomputable section

namespace Cert.ProjArray

open Idealize.ShloMosaic Idealize.ShloMosaic.TcCoe Idealize.SL.Sem Cert.ProjIdeal Cert.ProjIdeal.Gen Cert.ProjIdeal.Value Cert.ProjBlock Cert.ProjRefRow

variable (m : (ℓ : Loc nD τ sig) → Buf (Elt Ideal) ℓ) (ρ : Dev nD → PrngReg) (c : Dev nD)

/-- The launch's two arguments. -/
def X : FVec Ideal S16384x1024 .f32 := m ((c : Thread nD τ).loc main_arg0)
def W : FVec Ideal S1024x5632 .f32 := m ((c : Thread nD τ).loc main_arg1)

theorem V_v1 (a : Fin 1024) (d : Fin 3584) : (V m c main_v1 : FVec Ideal S1024x3584 .bf16) (ix2 a d) = W m c (ix2 a ⟨d.val, by omega⟩) := by
  unfold_abbrev_sides
  after_results
  pointwise [W]

theorem V_v4 (a : Fin 512) (d : Fin 1024) : (V m c main_v4 : FVec Ideal S512x1024 .bf16) (ix2 a d) = W m c (ix2 d ⟨2048 + a.val, by omega⟩) := by
  unfold_abbrev_sides
  after_results
  pointwise [W]

theorem V_v7 (a : Fin 512) (d : Fin 1024) : (V m c main_v7 : FVec Ideal S512x1024 .bf16) (ix2 a d) = W m c (ix2 d ⟨3072 + a.val, by omega⟩) := by
  unfold_abbrev_sides
  after_results
  pointwise [W]

/-- The token that row `i` of grid point `t`'s block is. -/
def tok (t : Fin cfg0.N) (i : Fin 512) : Fin 16384 := ⟨t.val * 512 + i.val, by have := t.isLt; have h : cfg0.N = 32 := rfl; omega⟩

theorem idx (t : Fin cfg0.N) :
    (win0_0.index t (0 : Fin 2) = t.val ∧ win0_0.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = 0 ∧ win0_12.index t (1 : Fin 2) = t.val)
    ∧ (win0_13.index t (0 : Fin 2) = 0 ∧ win0_13.index t (1 : Fin 2) = t.val) :=
  (by decide +kernel : ∀ t : Fin grid0.N,
    (win0_0.index t (0 : Fin 2) = t.val ∧ win0_0.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = 0 ∧ win0_12.index t (1 : Fin 2) = t.val)
    ∧ (win0_13.index t (0 : Fin 2) = 0 ∧ win0_13.index t (1 : Fin 2) = t.val)) t

theorem idxc (t : Fin cfg0.N) :
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)) t

theorem idx14 (t : Fin cfg0.N) : win0_14.index t (0 : Fin 3) = t.val ∧ win0_14.index t (1 : Fin 3) = 0 ∧ win0_14.index t (2 : Fin 3) = 0 :=
  (by decide +kernel : ∀ t : Fin grid0.N, win0_14.index t (0 : Fin 3) = t.val ∧ win0_14.index t (1 : Fin 3) = 0 ∧ win0_14.index t (2 : Fin 3) = 0) t

theorem emb0 (t : Fin cfg0.N) (i : Fin 512) (d : Fin 1024) : ((cfg0.win 0).blk t).view.emb (ix2 i d) = ix2 (tok t i) d := by
  have e := idx t
  funext a; apply Fin.ext
  match a with
  | ⟨0, _⟩ => show win0_0.index t (0 : Fin 2) * 512 + 1 * i.val = t.val * 512 + i.val; omega
  | ⟨1, _⟩ => show win0_0.index t (1 : Fin 2) * 1024 + 1 * d.val = d.val; omega

theorem emb4 (t : Fin cfg0.N) (i : Fin 512) (d : Fin 512) : ((cfg0.win 4).blk t).view.emb (ix2 i d) = ix2 (tok t i) d := by
  have e := idx t
  funext a; apply Fin.ext
  match a with
  | ⟨0, _⟩ => show win0_4.index t (0 : Fin 2) * 512 + 1 * i.val = t.val * 512 + i.val; omega
  | ⟨1, _⟩ => show win0_4.index t (1 : Fin 2) * 512 + 1 * d.val = d.val; omega

theorem emb5 (t : Fin cfg0.N) (i : Fin 512) (d : Fin 512) : ((cfg0.win 5).blk t).view.emb (ix2 i d) = ix2 (tok t i) d := by
  have e := idx t
  funext a; apply Fin.ext
  match a with
  | ⟨0, _⟩ => show win0_5.index t (0 : Fin 2) * 512 + 1 * i.val = t.val * 512 + i.val; omega
  | ⟨1, _⟩ => show win0_5.index t (1 : Fin 2) * 512 + 1 * d.val = d.val; omega

theorem emb6 (t : Fin cfg0.N) (i : Fin 512) (d : Fin 512) : ((cfg0.win 6).blk t).view.emb (ix2 i d) = ix2 (tok t i) d := by
  have e := idx t
  funext a; apply Fin.ext
  match a with
  | ⟨0, _⟩ => show win0_6.index t (0 : Fin 2) * 512 + 1 * i.val = t.val * 512 + i.val; omega
  | ⟨1, _⟩ => show win0_6.index t (1 : Fin 2) * 512 + 1 * d.val = d.val; omega

theorem emb7 (t : Fin cfg0.N) (i : Fin 512) (d : Fin 512) : ((cfg0.win 7).blk t).view.emb (ix2 i d) = ix2 (tok t i) d := by
  have e := idx t
  funext a; apply Fin.ext
  match a with
  | ⟨0, _⟩ => show win0_7.index t (0 : Fin 2) * 512 + 1 * i.val = t.val * 512 + i.val; omega
  | ⟨1, _⟩ => show win0_7.index t (1 : Fin 2) * 512 + 1 * d.val = d.val; omega

theorem emb8 (t : Fin cfg0.N) (i : Fin 512) (d : Fin 512) : ((cfg0.win 8).blk t).view.emb (ix2 i d) = ix2 (tok t i) d := by
  have e := idx t
  funext a; apply Fin.ext
  match a with
  | ⟨0, _⟩ => show win0_8.index t (0 : Fin 2) * 512 + 1 * i.val = t.val * 512 + i.val; omega
  | ⟨1, _⟩ => show win0_8.index t (1 : Fin 2) * 512 + 1 * d.val = d.val; omega

theorem emb9 (t : Fin cfg0.N) (i : Fin 512) (d : Fin 512) : ((cfg0.win 9).blk t).view.emb (ix2 i d) = ix2 (tok t i) d := by
  have e := idx t
  funext a; apply Fin.ext
  match a with
  | ⟨0, _⟩ => show win0_9.index t (0 : Fin 2) * 512 + 1 * i.val = t.val * 512 + i.val; omega
  | ⟨1, _⟩ => show win0_9.index t (1 : Fin 2) * 512 + 1 * d.val = d.val; omega

theorem emb10 (t : Fin cfg0.N) (i : Fin 512) (d : Fin 512) : ((cfg0.win 10).blk t).view.emb (ix2 i d) = ix2 (tok t i) d := by
  have e := idx t
  funext a; apply Fin.ext
  match a with
  | ⟨0, _⟩ => show win0_10.index t (0 : Fin 2) * 512 + 1 * i.val = t.val * 512 + i.val; omega
  | ⟨1, _⟩ => show win0_10.index t (1 : Fin 2) * 512 + 1 * d.val = d.val; omega

theorem emb11 (t : Fin cfg0.N) (i : Fin 512) (d : Fin 512) : ((cfg0.win 11).blk t).view.emb (ix2 i d) = ix2 (tok t i) d := by
  have e := idx t
  funext a; apply Fin.ext
  match a with
  | ⟨0, _⟩ => show win0_11.index t (0 : Fin 2) * 512 + 1 * i.val = t.val * 512 + i.val; omega
  | ⟨1, _⟩ => show win0_11.index t (1 : Fin 2) * 512 + 1 * d.val = d.val; omega

theorem emb12 (t : Fin cfg0.N) (i d : Fin 512) : ((cfg0.win 12).blk t).view.emb (ix2 i d) = ix2 i (tok t d) := by
  have e := idx t
  funext a; apply Fin.ext
  match a with
  | ⟨0, _⟩ => show win0_12.index t (0 : Fin 2) * 512 + 1 * i.val = i.val; omega
  | ⟨1, _⟩ => show win0_12.index t (1 : Fin 2) * 512 + 1 * d.val = t.val * 512 + d.val; omega

theorem emb13 (t : Fin cfg0.N) (i d : Fin 512) : ((cfg0.win 13).blk t).view.emb (ix2 i d) = ix2 i (tok t d) := by
  have e := idx t
  funext a; apply Fin.ext
  match a with
  | ⟨0, _⟩ => show win0_13.index t (0 : Fin 2) * 512 + 1 * i.val = i.val; omega
  | ⟨1, _⟩ => show win0_13.index t (1 : Fin 2) * 512 + 1 * d.val = t.val * 512 + d.val; omega

theorem emb14 (t : Fin cfg0.N) (h : Fin 2) (d : Fin 512) : ((cfg0.win 14).blk t).view.emb (ix3 (0 : Fin 1) h d) = ix3 (⟨t.val, t.isLt⟩ : Fin 32) h d := by
  have e := idx14 t
  funext a; apply Fin.ext
  match a with
  | ⟨0, _⟩ => show win0_14.index t (0 : Fin 3) * 1 + 1 * 0 = t.val; omega
  | ⟨1, _⟩ => show win0_14.index t (1 : Fin 3) * 2 + 1 * h.val = h.val; omega
  | ⟨2, _⟩ => show win0_14.index t (2 : Fin 3) * 512 + 1 * d.val = d.val; omega

theorem emb1 (t : Fin cfg0.N) (j : S1024x3584.Idx) : ((cfg0.win 1).blk t).view.emb j = j := by
  have e := idxc t
  funext a; apply Fin.ext
  match a with
  | ⟨0, _⟩ => show win0_1.index t (0 : Fin 2) * 1024 + 1 * (j 0).val = (j 0).val; omega
  | ⟨1, _⟩ => show win0_1.index t (1 : Fin 2) * 3584 + 1 * (j 1).val = (j 1).val; omega

theorem emb2 (t : Fin cfg0.N) (j : S512x1024.Idx) : ((cfg0.win 2).blk t).view.emb j = j := by
  have e := idxc t
  funext a; apply Fin.ext
  match a with
  | ⟨0, _⟩ => show win0_2.index t (0 : Fin 2) * 512 + 1 * (j 0).val = (j 0).val; omega
  | ⟨1, _⟩ => show win0_2.index t (1 : Fin 2) * 1024 + 1 * (j 1).val = (j 1).val; omega

theorem emb3 (t : Fin cfg0.N) (j : S512x1024.Idx) : ((cfg0.win 3).blk t).view.emb j = j := by
  have e := idxc t
  funext a; apply Fin.ext
  match a with
  | ⟨0, _⟩ => show win0_3.index t (0 : Fin 2) * 512 + 1 * (j 0).val = (j 0).val; omega
  | ⟨1, _⟩ => show win0_3.index t (1 : Fin 2) * 1024 + 1 * (j 1).val = (j 1).val; omega

theorem iblk0 (t : Fin cfg0.N) (i : Fin 512) (d : Fin 1024) :
    (iblk m c 0 t : FVec Ideal S512x1024 .f32) (ix2 i d) = X m c (ix2 (tok t i) d) := by
  unfold X
  rw [← V_main_arg0 m c]
  exact congrArg (V m c main_arg0) (emb0 t i d)

theorem iblk1 (t : Fin cfg0.N) (a : Fin 1024) (d : Fin 3584) :
    (iblk m c 1 t : FVec Ideal S1024x3584 .bf16) (ix2 a d) = W m c (ix2 a ⟨d.val, by omega⟩) :=
  (congrArg (V m c main_v1) (emb1 t (ix2 a d))).trans (V_v1 m c a d)

theorem iblk2 (t : Fin cfg0.N) (a : Fin 512) (d : Fin 1024) :
    (iblk m c 2 t : FVec Ideal S512x1024 .bf16) (ix2 a d) = W m c (ix2 d ⟨2048 + a.val, by omega⟩) :=
  (congrArg (V m c main_v4) (emb2 t (ix2 a d))).trans (V_v4 m c a d)

theorem iblk3 (t : Fin cfg0.N) (a : Fin 512) (d : Fin 1024) :
    (iblk m c 3 t : FVec Ideal S512x1024 .bf16) (ix2 a d) = W m c (ix2 d ⟨3072 + a.val, by omega⟩) :=
  (congrArg (V m c main_v7) (emb3 t (ix2 a d))).trans (V_v7 m c a d)

theorem flushed4_eq (t : Fin cfg0.N) :
    (dats m 0 c).flushed 4 t = ((cfg0.win 4).blk t).view.read (Elt Ideal) (G4 (X m c) (W m c)) := by
  rw [flushed4]
  funext j
  obtain ⟨i, d, rfl⟩ : ∃ (i d : Fin 512), j = ix2 i d := ⟨j 0, j 1, eq_ix2 j⟩
  show out0_4 (F := Ideal) _ _ _ _ (ix2 i d) = G4 (X m c) (W m c) (((cfg0.win 4).blk t).view.emb (ix2 i d))
  rw [emb4, out4_apply]
  simp only [iblk0, iblk1]
  rfl

theorem covered4 (p : S16384x512.Idx) : ∃ t : Fin cfg0.N, (cfg0.win 4).flush t = true ∧ p ∈ ((cfg0.win 4).blk t).view.set := by
  obtain ⟨i, d, rfl⟩ : ∃ (i : Fin 16384) (d : Fin 512), p = ix2 i d := ⟨p 0, p 1, eq_ix2 p⟩
  refine ⟨⟨i.val / 512, by show i.val / 512 < 32; omega⟩, flush0_4 _, ?_⟩
  have h := ((cfg0.win 4).blk ⟨i.val / 512, by show i.val / 512 < 32; omega⟩).view.emb_mem_set (ix2 (⟨i.val % 512, by omega⟩ : Fin 512) d)
  rw [emb4] at h
  have e : tok ⟨i.val / 512, by show i.val / 512 < 32; omega⟩ ⟨i.val % 512, by omega⟩ = i := Fin.ext (by show i.val / 512 * 512 + i.val % 512 = i.val; omega)
  rwa [e] at h

theorem final4 : (dats m 0 c).arrAt 4 cfg0.N = G4 (X m c) (W m c) :=
  (dats m 0 c).arrAt_eq_of_cover 4 (G4 (X m c) (W m c)) (fun t _ => flushed4_eq m c t) covered4

theorem flushed5_eq (t : Fin cfg0.N) :
    (dats m 0 c).flushed 5 t = ((cfg0.win 5).blk t).view.read (Elt Ideal) (G5 (X m c) (W m c)) := by
  rw [flushed5]
  funext j
  obtain ⟨i, d, rfl⟩ : ∃ (i d : Fin 512), j = ix2 i d := ⟨j 0, j 1, eq_ix2 j⟩
  show out0_5 (F := Ideal) _ _ _ _ (ix2 i d) = G5 (X m c) (W m c) (((cfg0.win 5).blk t).view.emb (ix2 i d))
  rw [emb5, out5_apply]
  simp only [iblk0, iblk1]
  rfl

theorem covered5 (p : S16384x512.Idx) : ∃ t : Fin cfg0.N, (cfg0.win 5).flush t = true ∧ p ∈ ((cfg0.win 5).blk t).view.set := by
  obtain ⟨i, d, rfl⟩ : ∃ (i : Fin 16384) (d : Fin 512), p = ix2 i d := ⟨p 0, p 1, eq_ix2 p⟩
  refine ⟨⟨i.val / 512, by show i.val / 512 < 32; omega⟩, flush0_5 _, ?_⟩
  have h := ((cfg0.win 5).blk ⟨i.val / 512, by show i.val / 512 < 32; omega⟩).view.emb_mem_set (ix2 (⟨i.val % 512, by omega⟩ : Fin 512) d)
  rw [emb5] at h
  have e : tok ⟨i.val / 512, by show i.val / 512 < 32; omega⟩ ⟨i.val % 512, by omega⟩ = i := Fin.ext (by show i.val / 512 * 512 + i.val % 512 = i.val; omega)
  rwa [e] at h

theorem final5 : (dats m 0 c).arrAt 5 cfg0.N = G5 (X m c) (W m c) :=
  (dats m 0 c).arrAt_eq_of_cover 5 (G5 (X m c) (W m c)) (fun t _ => flushed5_eq m c t) covered5

theorem flushed6_eq (t : Fin cfg0.N) :
    (dats m 0 c).flushed 6 t = ((cfg0.win 6).blk t).view.read (Elt Ideal) (G6 (X m c) (W m c)) := by
  rw [flushed6]
  funext j
  obtain ⟨i, d, rfl⟩ : ∃ (i d : Fin 512), j = ix2 i d := ⟨j 0, j 1, eq_ix2 j⟩
  show out0_6 (F := Ideal) _ _ _ _ (ix2 i d) = G6 (X m c) (W m c) (((cfg0.win 6).blk t).view.emb (ix2 i d))
  rw [emb6, out6_apply]
  simp only [iblk0, iblk1]
  rfl

theorem covered6 (p : S16384x512.Idx) : ∃ t : Fin cfg0.N, (cfg0.win 6).flush t = true ∧ p ∈ ((cfg0.win 6).blk t).view.set := by
  obtain ⟨i, d, rfl⟩ : ∃ (i : Fin 16384) (d : Fin 512), p = ix2 i d := ⟨p 0, p 1, eq_ix2 p⟩
  refine ⟨⟨i.val / 512, by show i.val / 512 < 32; omega⟩, flush0_6 _, ?_⟩
  have h := ((cfg0.win 6).blk ⟨i.val / 512, by show i.val / 512 < 32; omega⟩).view.emb_mem_set (ix2 (⟨i.val % 512, by omega⟩ : Fin 512) d)
  rw [emb6] at h
  have e : tok ⟨i.val / 512, by show i.val / 512 < 32; omega⟩ ⟨i.val % 512, by omega⟩ = i := Fin.ext (by show i.val / 512 * 512 + i.val % 512 = i.val; omega)
  rwa [e] at h

theorem final6 : (dats m 0 c).arrAt 6 cfg0.N = G6 (X m c) (W m c) :=
  (dats m 0 c).arrAt_eq_of_cover 6 (G6 (X m c) (W m c)) (fun t _ => flushed6_eq m c t) covered6

theorem flushed7_eq (t : Fin cfg0.N) :
    (dats m 0 c).flushed 7 t = ((cfg0.win 7).blk t).view.read (Elt Ideal) (G7 (X m c) (W m c)) := by
  rw [flushed7]
  funext j
  obtain ⟨i, d, rfl⟩ : ∃ (i d : Fin 512), j = ix2 i d := ⟨j 0, j 1, eq_ix2 j⟩
  show out0_7 (F := Ideal) _ _ _ _ (ix2 i d) = G7 (X m c) (W m c) (((cfg0.win 7).blk t).view.emb (ix2 i d))
  rw [emb7, out7_apply]
  simp only [iblk0, iblk1]
  rfl

theorem covered7 (p : S16384x512.Idx) : ∃ t : Fin cfg0.N, (cfg0.win 7).flush t = true ∧ p ∈ ((cfg0.win 7).blk t).view.set := by
  obtain ⟨i, d, rfl⟩ : ∃ (i : Fin 16384) (d : Fin 512), p = ix2 i d := ⟨p 0, p 1, eq_ix2 p⟩
  refine ⟨⟨i.val / 512, by show i.val / 512 < 32; omega⟩, flush0_7 _, ?_⟩
  have h := ((cfg0.win 7).blk ⟨i.val / 512, by show i.val / 512 < 32; omega⟩).view.emb_mem_set (ix2 (⟨i.val % 512, by omega⟩ : Fin 512) d)
  rw [emb7] at h
  have e : tok ⟨i.val / 512, by show i.val / 512 < 32; omega⟩ ⟨i.val % 512, by omega⟩ = i := Fin.ext (by show i.val / 512 * 512 + i.val % 512 = i.val; omega)
  rwa [e] at h

theorem final7 : (dats m 0 c).arrAt 7 cfg0.N = G7 (X m c) (W m c) :=
  (dats m 0 c).arrAt_eq_of_cover 7 (G7 (X m c) (W m c)) (fun t _ => flushed7_eq m c t) covered7

theorem flushed8_eq (t : Fin cfg0.N) :
    (dats m 0 c).flushed 8 t = ((cfg0.win 8).blk t).view.read (Elt Ideal) (G8 (X m c) (W m c)) := by
  rw [flushed8]
  funext j
  obtain ⟨i, d, rfl⟩ : ∃ (i d : Fin 512), j = ix2 i d := ⟨j 0, j 1, eq_ix2 j⟩
  show out0_8 (F := Ideal) _ _ _ _ (ix2 i d) = G8 (X m c) (W m c) (((cfg0.win 8).blk t).view.emb (ix2 i d))
  rw [emb8, out8_apply]
  simp only [iblk0, iblk1]
  rfl

theorem covered8 (p : S16384x512.Idx) : ∃ t : Fin cfg0.N, (cfg0.win 8).flush t = true ∧ p ∈ ((cfg0.win 8).blk t).view.set := by
  obtain ⟨i, d, rfl⟩ : ∃ (i : Fin 16384) (d : Fin 512), p = ix2 i d := ⟨p 0, p 1, eq_ix2 p⟩
  refine ⟨⟨i.val / 512, by show i.val / 512 < 32; omega⟩, flush0_8 _, ?_⟩
  have h := ((cfg0.win 8).blk ⟨i.val / 512, by show i.val / 512 < 32; omega⟩).view.emb_mem_set (ix2 (⟨i.val % 512, by omega⟩ : Fin 512) d)
  rw [emb8] at h
  have e : tok ⟨i.val / 512, by show i.val / 512 < 32; omega⟩ ⟨i.val % 512, by omega⟩ = i := Fin.ext (by show i.val / 512 * 512 + i.val % 512 = i.val; omega)
  rwa [e] at h

theorem final8 : (dats m 0 c).arrAt 8 cfg0.N = G8 (X m c) (W m c) :=
  (dats m 0 c).arrAt_eq_of_cover 8 (G8 (X m c) (W m c)) (fun t _ => flushed8_eq m c t) covered8

theorem flushed9_eq (t : Fin cfg0.N) :
    (dats m 0 c).flushed 9 t = ((cfg0.win 9).blk t).view.read (Elt Ideal) (G9 (X m c) (W m c)) := by
  rw [flushed9]
  funext j
  obtain ⟨i, d, rfl⟩ : ∃ (i d : Fin 512), j = ix2 i d := ⟨j 0, j 1, eq_ix2 j⟩
  show out0_9 (F := Ideal) _ _ _ _ (ix2 i d) = G9 (X m c) (W m c) (((cfg0.win 9).blk t).view.emb (ix2 i d))
  rw [emb9, out9_apply]
  simp only [iblk0, iblk1]
  rfl

theorem covered9 (p : S16384x512.Idx) : ∃ t : Fin cfg0.N, (cfg0.win 9).flush t = true ∧ p ∈ ((cfg0.win 9).blk t).view.set := by
  obtain ⟨i, d, rfl⟩ : ∃ (i : Fin 16384) (d : Fin 512), p = ix2 i d := ⟨p 0, p 1, eq_ix2 p⟩
  refine ⟨⟨i.val / 512, by show i.val / 512 < 32; omega⟩, flush0_9 _, ?_⟩
  have h := ((cfg0.win 9).blk ⟨i.val / 512, by show i.val / 512 < 32; omega⟩).view.emb_mem_set (ix2 (⟨i.val % 512, by omega⟩ : Fin 512) d)
  rw [emb9] at h
  have e : tok ⟨i.val / 512, by show i.val / 512 < 32; omega⟩ ⟨i.val % 512, by omega⟩ = i := Fin.ext (by show i.val / 512 * 512 + i.val % 512 = i.val; omega)
  rwa [e] at h

theorem final9 : (dats m 0 c).arrAt 9 cfg0.N = G9 (X m c) (W m c) :=
  (dats m 0 c).arrAt_eq_of_cover 9 (G9 (X m c) (W m c)) (fun t _ => flushed9_eq m c t) covered9

theorem flushed10_eq (t : Fin cfg0.N) :
    (dats m 0 c).flushed 10 t = ((cfg0.win 10).blk t).view.read (Elt Ideal) (G10 (X m c) (W m c)) := by
  rw [flushed10]
  funext j
  obtain ⟨i, d, rfl⟩ : ∃ (i d : Fin 512), j = ix2 i d := ⟨j 0, j 1, eq_ix2 j⟩
  show out0_10 (F := Ideal) _ _ _ _ (ix2 i d) = G10 (X m c) (W m c) (((cfg0.win 10).blk t).view.emb (ix2 i d))
  rw [emb10, out10_apply]
  simp only [iblk0, iblk1]
  rfl

theorem covered10 (p : S16384x512.Idx) : ∃ t : Fin cfg0.N, (cfg0.win 10).flush t = true ∧ p ∈ ((cfg0.win 10).blk t).view.set := by
  obtain ⟨i, d, rfl⟩ : ∃ (i : Fin 16384) (d : Fin 512), p = ix2 i d := ⟨p 0, p 1, eq_ix2 p⟩
  refine ⟨⟨i.val / 512, by show i.val / 512 < 32; omega⟩, flush0_10 _, ?_⟩
  have h := ((cfg0.win 10).blk ⟨i.val / 512, by show i.val / 512 < 32; omega⟩).view.emb_mem_set (ix2 (⟨i.val % 512, by omega⟩ : Fin 512) d)
  rw [emb10] at h
  have e : tok ⟨i.val / 512, by show i.val / 512 < 32; omega⟩ ⟨i.val % 512, by omega⟩ = i := Fin.ext (by show i.val / 512 * 512 + i.val % 512 = i.val; omega)
  rwa [e] at h

theorem final10 : (dats m 0 c).arrAt 10 cfg0.N = G10 (X m c) (W m c) :=
  (dats m 0 c).arrAt_eq_of_cover 10 (G10 (X m c) (W m c)) (fun t _ => flushed10_eq m c t) covered10

theorem flushed11_eq (t : Fin cfg0.N) :
    (dats m 0 c).flushed 11 t = ((cfg0.win 11).blk t).view.read (Elt Ideal) (G11 (X m c) (W m c)) := by
  rw [flushed11]
  funext j
  obtain ⟨i, d, rfl⟩ : ∃ (i d : Fin 512), j = ix2 i d := ⟨j 0, j 1, eq_ix2 j⟩
  show out0_11 (F := Ideal) _ _ _ _ (ix2 i d) = G11 (X m c) (W m c) (((cfg0.win 11).blk t).view.emb (ix2 i d))
  rw [emb11, out11_apply]
  simp only [iblk0, iblk1]
  rfl

theorem covered11 (p : S16384x512.Idx) : ∃ t : Fin cfg0.N, (cfg0.win 11).flush t = true ∧ p ∈ ((cfg0.win 11).blk t).view.set := by
  obtain ⟨i, d, rfl⟩ : ∃ (i : Fin 16384) (d : Fin 512), p = ix2 i d := ⟨p 0, p 1, eq_ix2 p⟩
  refine ⟨⟨i.val / 512, by show i.val / 512 < 32; omega⟩, flush0_11 _, ?_⟩
  have h := ((cfg0.win 11).blk ⟨i.val / 512, by show i.val / 512 < 32; omega⟩).view.emb_mem_set (ix2 (⟨i.val % 512, by omega⟩ : Fin 512) d)
  rw [emb11] at h
  have e : tok ⟨i.val / 512, by show i.val / 512 < 32; omega⟩ ⟨i.val % 512, by omega⟩ = i := Fin.ext (by show i.val / 512 * 512 + i.val % 512 = i.val; omega)
  rwa [e] at h

theorem final11 : (dats m 0 c).arrAt 11 cfg0.N = G11 (X m c) (W m c) :=
  (dats m 0 c).arrAt_eq_of_cover 11 (G11 (X m c) (W m c)) (fun t _ => flushed11_eq m c t) covered11

theorem flushed12_eq (t : Fin cfg0.N) :
    (dats m 0 c).flushed 12 t = ((cfg0.win 12).blk t).view.read (Elt Ideal) (G12 (X m c) (W m c)) := by
  rw [flushed12]
  funext j
  obtain ⟨i, d, rfl⟩ : ∃ (i d : Fin 512), j = ix2 i d := ⟨j 0, j 1, eq_ix2 j⟩
  show out0_12 (F := Ideal) _ _ _ _ (ix2 i d) = G12 (X m c) (W m c) (((cfg0.win 12).blk t).view.emb (ix2 i d))
  rw [emb12, out12_apply]
  simp only [iblk0, iblk2]
  rfl

theorem covered12 (p : S512x16384.Idx) : ∃ t : Fin cfg0.N, (cfg0.win 12).flush t = true ∧ p ∈ ((cfg0.win 12).blk t).view.set := by
  obtain ⟨i, d, rfl⟩ : ∃ (i : Fin 16384) (d : Fin 512), p = ix2 d i := ⟨p 1, p 0, eq_ix2 p⟩
  refine ⟨⟨i.val / 512, by show i.val / 512 < 32; omega⟩, flush0_12 _, ?_⟩
  have h := ((cfg0.win 12).blk ⟨i.val / 512, by show i.val / 512 < 32; omega⟩).view.emb_mem_set (ix2 d (⟨i.val % 512, by omega⟩ : Fin 512))
  rw [emb12] at h
  have e : tok ⟨i.val / 512, by show i.val / 512 < 32; omega⟩ ⟨i.val % 512, by omega⟩ = i := Fin.ext (by show i.val / 512 * 512 + i.val % 512 = i.val; omega)
  rwa [e] at h

theorem final12 : (dats m 0 c).arrAt 12 cfg0.N = G12 (X m c) (W m c) :=
  (dats m 0 c).arrAt_eq_of_cover 12 (G12 (X m c) (W m c)) (fun t _ => flushed12_eq m c t) covered12

theorem flushed13_eq (t : Fin cfg0.N) :
    (dats m 0 c).flushed 13 t = ((cfg0.win 13).blk t).view.read (Elt Ideal) (G13 (X m c) (W m c)) := by
  rw [flushed13]
  funext j
  obtain ⟨i, d, rfl⟩ : ∃ (i d : Fin 512), j = ix2 i d := ⟨j 0, j 1, eq_ix2 j⟩
  show out0_13 (F := Ideal) _ _ _ _ (ix2 i d) = G13 (X m c) (W m c) (((cfg0.win 13).blk t).view.emb (ix2 i d))
  rw [emb13, out13_apply]
  simp only [iblk0, iblk3]
  rfl

theorem covered13 (p : S512x16384.Idx) : ∃ t : Fin cfg0.N, (cfg0.win 13).flush t = true ∧ p ∈ ((cfg0.win 13).blk t).view.set := by
  obtain ⟨i, d, rfl⟩ : ∃ (i : Fin 16384) (d : Fin 512), p = ix2 d i := ⟨p 1, p 0, eq_ix2 p⟩
  refine ⟨⟨i.val / 512, by show i.val / 512 < 32; omega⟩, flush0_13 _, ?_⟩
  have h := ((cfg0.win 13).blk ⟨i.val / 512, by show i.val / 512 < 32; omega⟩).view.emb_mem_set (ix2 d (⟨i.val % 512, by omega⟩ : Fin 512))
  rw [emb13] at h
  have e : tok ⟨i.val / 512, by show i.val / 512 < 32; omega⟩ ⟨i.val % 512, by omega⟩ = i := Fin.ext (by show i.val / 512 * 512 + i.val % 512 = i.val; omega)
  rwa [e] at h

theorem final13 : (dats m 0 c).arrAt 13 cfg0.N = G13 (X m c) (W m c) :=
  (dats m 0 c).arrAt_eq_of_cover 13 (G13 (X m c) (W m c)) (fun t _ => flushed13_eq m c t) covered13

theorem flushed14_eq (t : Fin cfg0.N) :
    (dats m 0 c).flushed 14 t = ((cfg0.win 14).blk t).view.read (Elt Ideal) (G14 (X m c) (W m c)) := by
  rw [flushed14]
  funext j
  obtain ⟨z, h, d, rfl⟩ : ∃ (z : Fin 1) (h : Fin 2) (d : Fin 512), j = ix3 z h d := ⟨j 0, j 1, j 2, eq_ix3 j⟩
  obtain rfl : z = 0 := Subsingleton.elim _ _
  show out0_14 (F := Ideal) _ _ _ _ (ix3 (0 : Fin 1) h d) = G14 (X m c) (W m c) (((cfg0.win 14).blk t).view.emb (ix3 (0 : Fin 1) h d))
  rw [emb14, out14_apply]
  simp only [iblk0, iblk1]
  show _ = Ideal.div (∑ r : Fin 256, P (X m c) (W m c) ⟨(t.val * 2 + h.val) * 256 + r.val, _⟩ ⟨2560 + d.val, _⟩) _
  have e (r : Fin 256) : tok t (⟨h.val * 256 + r.val, by omega⟩ : Fin 512)
      = ⟨(t.val * 2 + h.val) * 256 + r.val, by have := t.isLt; have h : cfg0.N = 32 := rfl; omega⟩ :=
    Fin.ext (by show t.val * 512 + (h.val * 256 + r.val) = (t.val * 2 + h.val) * 256 + r.val; omega)
  simp only [e]
  rfl

theorem covered14 (p : S32x2x512.Idx) : ∃ t : Fin cfg0.N, (cfg0.win 14).flush t = true ∧ p ∈ ((cfg0.win 14).blk t).view.set := by
  obtain ⟨i, h, d, rfl⟩ : ∃ (i : Fin 32) (h : Fin 2) (d : Fin 512), p = ix3 i h d := ⟨p 0, p 1, p 2, eq_ix3 p⟩
  refine ⟨⟨i.val, i.isLt⟩, flush0_14 _, ?_⟩
  have e := ((cfg0.win 14).blk ⟨i.val, i.isLt⟩).view.emb_mem_set (ix3 (0 : Fin 1) h d)
  rwa [emb14] at e

theorem final14 : (dats m 0 c).arrAt 14 cfg0.N = G14 (X m c) (W m c) :=
  (dats m 0 c).arrAt_eq_of_cover 14 (G14 (X m c) (W m c)) (fun t _ => flushed14_eq m c t) covered14

end Cert.ProjArray

end
-- ==== Proof.ProjEq.lean ====
/- The projection's claims: kernel and reference leave the same eleven arrays. -/
module

public import proofs.«01_k».proof.Defs
public import proofs.«01_k».proof.Proof.ProjArray
public import proofs.«01_k».proof.Proof.ProjRefRow
public import proofs.«01_k».proof.Proof.Gen.ProjIdeal
public import proofs.«01_k».proof.Proof.Gen.ProjRefIdeal
public import proofs.«01_k».proof.Proof.Gen.ProjRefIdeal.Run

@[expose] public section

set_option maxRecDepth 16384

noncomputable section

namespace Cert.ProjEq

open Idealize.ShloMosaic Idealize.ShloMosaic.TcCoe Idealize.SL.Sem Cert.ProjRefRow Cert.ProjArray

theorem frameRef : Cert.quiescent_ProjRefIdeal := fun m ρ _ =>
  (θ_run Cert.ProjRefIdeal.defs _ _).mono (fun r h => ⟨fun c => (h c).2.2.2.2.2.2.2.2.2.2.2.1 |> fun h0 => ⟨h0, (h c).2.2.2.2.2.2.2.2.2.2.2.2⟩, Idealize.ShloMosaic.sem_eq_zero_of_no_sems (by decide) r.2⟩)
    (Cert.ProjRefIdeal.Value.run (F := Ideal) m ρ)

/-- Launched on the same arguments, the kernel and the reference leave the same arrays. -/
theorem algebraic : Cert.algebraic_ProjIdeal_ProjRefIdeal := by
  intro m ρ m' ρ' _ hagree
  refine ⟨fun c => G4 (X m c) (W m c), fun c => G5 (X m c) (W m c), fun c => G6 (X m c) (W m c), fun c => G7 (X m c) (W m c), fun c => G8 (X m c) (W m c), fun c => G9 (X m c) (W m c), fun c => G10 (X m c) (W m c), fun c => G11 (X m c) (W m c), fun c => G12 (X m c) (W m c), fun c => G13 (X m c) (W m c), fun c => G14 (X m c) (W m c),
    (θ_run Cert.ProjIdeal.defs _ _).mono (fun r h c => ?_) (Cert.ProjIdeal.Value.run_blocks m ρ),
    (θ_run Cert.ProjRefIdeal.defs _ _).mono (fun r h c => ?_) (Cert.ProjRefIdeal.Value.run (F := Ideal) m' ρ')⟩
  · obtain ⟨h4, h5, h6, h7, h8, h9, h10, h11, h12, h13, h14, hk⟩ := h c
    exact ⟨h4.trans (final4 m c), h5.trans (final5 m c), h6.trans (final6 m c), h7.trans (final7 m c), h8.trans (final8 m c), h9.trans (final9 m c), h10.trans (final10 m c), h11.trans (final11 m c), h12.trans (final12 m c), h13.trans (final13 m c), h14.trans (final14 m c), hk⟩
  · obtain ⟨h4, h5, h6, h7, h8, h9, h10, h11, h12, h13, h14, hk⟩ := h c
    obtain ⟨e0, e1⟩ := hagree c
    have ex : m' ((c.tc : Thread Cert.ProjRefIdeal.nD Cert.ProjRefIdeal.τ).loc Cert.ProjRefIdeal.main_arg0) = X m c := e0
    have ew : m' ((c.tc : Thread Cert.ProjRefIdeal.nD Cert.ProjRefIdeal.τ).loc Cert.ProjRefIdeal.main_arg1) = W m c := e1
    rw [ex, ew] at h4 h5 h6 h7 h8 h9 h10 h11 h12 h13 h14
    exact ⟨h4.trans (ref4 (X m c) (W m c)), h5.trans (ref5 (X m c) (W m c)), h6.trans (ref6 (X m c) (W m c)), h7.trans (ref7 (X m c) (W m c)), h8.trans (ref8 (X m c) (W m c)), h9.trans (ref9 (X m c) (W m c)), h10.trans (ref10 (X m c) (W m c)), h11.trans (ref11 (X m c) (W m c)), h12.trans (ref12 (X m c) (W m c)), h13.trans (ref13 (X m c) (W m c)), h14.trans (ref14 (X m c) (W m c)), hk⟩

end Cert.ProjEq

end
-- ==== Proof.MergeBlock.lean ====
module

public import proofs.«01_k».proof.Proof.Rows
public import proofs.«01_k».proof.Proof.Gen.MergeIdeal.Value

@[expose] public section

set_option maxRecDepth 16384

noncomputable section

namespace Cert.MergeBlock

open Idealize.ShloMosaic Idealize.ShloMosaic.TcCoe Cert.MergeIdeal Cert.MergeIdeal.Gen Cert.Rows

/-- A token's gates, both halves: the logistic of its product with the gate weights plus the bias. -/
def gate (x : Fin 1024 → EReal) (wg : Fin 1024 → Fin 2048 → EReal) (bg : Fin 2048 → EReal) (c : Fin 2048) : EReal :=
  sigmoid ((∑ k, x k * wg k c) + bg c)

/-- The merged branches of a token: each gate half times its branch's projection, added. -/
def merged (x : Fin 1024 → EReal) (r m : Fin 512 → EReal) (wg : Fin 1024 → Fin 2048 → EReal) (bg : Fin 2048 → EReal)
    (wr wm : Fin 512 → Fin 1024 → EReal) (c : Fin 1024) : EReal :=
  gate x wg bg ⟨c.val, by omega⟩ * (∑ k, r k * wr k c) + gate x wg bg ⟨1024 + c.val, by omega⟩ * (∑ k, m k * wm k c)

/-- The token's output: the layer norm of the scaled residual plus the output projection of the merged branches. -/
def row (x : Fin 1024 → EReal) (r m : Fin 512 → EReal) (wg : Fin 1024 → Fin 2048 → EReal) (bg : Fin 2048 → EReal)
    (wr wm : Fin 512 → Fin 1024 → EReal) (wo : Fin 1024 → Fin 1024 → EReal) (g b : Fin 1024 → EReal) (c : Fin 1024) : EReal :=
  layerNorm (fun d => alpha * x d + ∑ k, merged x r m wg bg wr wm k * wo k d) g b c

theorem pay2_apply (x : FVec Ideal S512x1024 .f32) (wg : FVec Ideal S1024x2048 .bf16) (bg : FVec Ideal S1x2048 .f32)
    (r : FVec Ideal S512x512 .bf16) (wr : FVec Ideal S512x1024 .bf16) (m : FVec Ideal S512x512 .bf16) (wm : FVec Ideal S512x1024 .bf16)
    (wo : FVec Ideal S1024x1024 .bf16) (i : Fin 512) (c : Fin 1024) :
    k0_pay2 (F := Ideal) x wg bg r wr m wm wo (ix2 i c)
      = ∑ k : Fin 1024, merged (fun d => x (ix2 i d)) (fun d => r (ix2 i d)) (fun d => m (ix2 i d)) (fun a d => wg (ix2 a d)) (fun d => bg (ix2 0 d))
          (fun a d => wr (ix2 a d)) (fun a d => wm (ix2 a d)) k * wo (ix2 k c) := by
  pointwise [k0_pay2]
  simp only [zero_sub]
  rfl

theorem pay1_apply (y a : FVec Ideal S512x1024 .f32) (g b : FVec Ideal S1x1024 .f32) (i : Fin 512) (c : Fin 1024) :
    k0_pay1 (F := Ideal) y a g b (ix2 i c)
      = layerNorm (fun d => a (ix2 i d) + y (ix2 i d)) (fun d => g (ix2 0 d)) (fun d => b (ix2 0 d)) c := by
  pointwise [k0_pay1]

  rfl

theorem pay3_apply (x : FVec Ideal S512x1024 .f32) (i : Fin 512) (c : Fin 1024) :
    k0_pay3 (F := Ideal) x (ix2 i c) = alpha * x (ix2 i c) := rfl

theorem hz : (![0, 0] : Fin 2 → Nat) = fun _ => 0 := funext fun a => by fin_cases a <;> rfl

/-- What a grid point leaves in the output block, at row `i` and column `c`: the token's output from the point's blocks. -/
theorem out_apply (x0 : Vec Ideal S512x1024 .f32) (x1 x2 : Vec Ideal S512x512 .bf16) (x3 : Vec Ideal S1024x2048 .bf16)
    (x4 : Vec Ideal S1x2048 .f32) (x5 x6 : Vec Ideal S512x1024 .bf16) (x7 : Vec Ideal S1024x1024 .bf16) (x8 x9 : Vec Ideal S1x1024 .f32)
    (i : Fin 512) (c : Fin 1024) :
    out0_10 (F := Ideal) x0 x1 x2 x3 x4 x5 x6 x7 x8 x9 (ix2 i c)
      = row (fun d => x0 (ix2 i d)) (fun d => x1 (ix2 i d)) (fun d => x2 (ix2 i d)) (fun a d => x3 (ix2 a d)) (fun d => x4 (ix2 0 d))
          (fun a d => x5 (ix2 a d)) (fun a d => x6 (ix2 a d)) (fun a d => x7 (ix2 a d)) (fun d => x8 (ix2 0 d)) (fun d => x9 (ix2 0 d)) c := by
  unfold out0_10
  rw [View.canon_unit_zero hz]
  repeat rw [View.ld_unit_zero hz]
  rw [pay1_apply]
  simp only [pay2_apply, pay3_apply]
  rfl

end Cert.MergeBlock

end
-- ==== Proof.MergeArray.lean ====
/- The merge's output array: what the host prepares for the launch, each window's block as rows of its array, and the
   array after the run as the token rows of the arguments. -/
module

public import proofs.«01_k».proof.Proof.MergeBlock

@[expose] public section

set_option maxRecDepth 16384

noncomputable section

namespace Cert.MergeArray

open Idealize.ShloMosaic Idealize.ShloMosaic.TcCoe Idealize.SL.Sem Cert.MergeIdeal Cert.MergeIdeal.Gen Cert.MergeIdeal.Value Cert.MergeBlock

/-- The merge of all tokens as one function of the arguments. -/
def G (x0 : FVec Ideal S16384x1024 .f32) (x1 x2 : FVec Ideal S16384x512 .bf16) (x3 : FVec Ideal S1024x5632 .f32)
    (x4 : FVec Ideal S2048 .f32) (x5 x6 : FVec Ideal S512x1024 .f32) (x7 : FVec Ideal S1024x1024 .f32) (x8 x9 : FVec Ideal S1024 .f32) :
    FVec Ideal S16384x1024 .f32 := fun p =>
  row (fun d => x0 (ix2 (p 0 : Fin 16384) d)) (fun d => x1 (ix2 (p 0 : Fin 16384) d)) (fun d => x2 (ix2 (p 0 : Fin 16384) d))
    (fun a d => x3 (ix2 a ⟨3584 + d.val, by omega⟩)) (fun d => x4 (ix1 d)) (fun a d => x5 (ix2 a d)) (fun a d => x6 (ix2 a d))
    (fun a d => x7 (ix2 a d)) (fun d => x8 (ix1 d)) (fun d => x9 (ix1 d)) (p 1 : Fin 1024)

variable (m : (ℓ : Loc nD τ sig) → Buf (Elt Ideal) ℓ) (ρ : Dev nD → PrngReg) (c : Dev nD)

/-! What the host prepares. -/

theorem V_v1 (a : Fin 1024) (d : Fin 2048) :
    (V m c main_v1 : FVec Ideal S1024x2048 .bf16) (ix2 a d) = (m ((c : Thread nD τ).loc main_arg3) : FVec Ideal S1024x5632 .f32) (ix2 a ⟨3584 + d.val, by omega⟩) := by
  unfold_abbrev_sides
  after_results
  pointwise []

theorem V_v2 (d : Fin 2048) :
    (V m c main_v2 : FVec Ideal S1x2048 .f32) (ix2 0 d) = (m ((c : Thread nD τ).loc main_arg4) : FVec Ideal S2048 .f32) (ix1 d) := by
  unfold_abbrev_sides
  after_results
  pointwise []

theorem V_v3 (a : Fin 512) (d : Fin 1024) :
    (V m c main_v3 : FVec Ideal S512x1024 .bf16) (ix2 a d) = (m ((c : Thread nD τ).loc main_arg5) : FVec Ideal S512x1024 .f32) (ix2 a d) := by
  unfold_abbrev_sides
  after_results
  pointwise []

theorem V_v4 (a : Fin 512) (d : Fin 1024) :
    (V m c main_v4 : FVec Ideal S512x1024 .bf16) (ix2 a d) = (m ((c : Thread nD τ).loc main_arg6) : FVec Ideal S512x1024 .f32) (ix2 a d) := by
  unfold_abbrev_sides
  after_results
  pointwise []

theorem V_v5 (a : Fin 1024) (d : Fin 1024) :
    (V m c main_v5 : FVec Ideal S1024x1024 .bf16) (ix2 a d) = (m ((c : Thread nD τ).loc main_arg7) : FVec Ideal S1024x1024 .f32) (ix2 a d) := by
  unfold_abbrev_sides
  after_results
  pointwise []

theorem V_v6 (d : Fin 1024) :
    (V m c main_v6 : FVec Ideal S1x1024 .f32) (ix2 0 d) = (m ((c : Thread nD τ).loc main_arg8) : FVec Ideal S1024 .f32) (ix1 d) := by
  unfold_abbrev_sides
  after_results
  pointwise []

theorem V_v7 (d : Fin 1024) :
    (V m c main_v7 : FVec Ideal S1x1024 .f32) (ix2 0 d) = (m ((c : Thread nD τ).loc main_arg9) : FVec Ideal S1024 .f32) (ix1 d) := by
  unfold_abbrev_sides
  after_results
  pointwise []

/-! Each window's block index: the tiled windows advance with the grid point, the others stay. -/

theorem idx (t : Fin cfg0.N) :
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_10.index t (0 : Fin 2) = t.val ∧ win0_10.index t (1 : Fin 2) = 0) :=
  (by decide +kernel : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_10.index t (0 : Fin 2) = t.val ∧ win0_10.index t (1 : Fin 2) = 0)) t

theorem idxc (t : Fin cfg0.N) :
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)) t

/-- The token that row `i` of grid point `t`'s block is. -/
def tok (t : Fin cfg0.N) (i : Fin 512) : Fin 16384 := ⟨t.val * 512 + i.val, by have := t.isLt; have h : cfg0.N = 32 := rfl; omega⟩

theorem emb0 (t : Fin cfg0.N) (i : Fin 512) (d : Fin 1024) : ((cfg0.win 0).blk t).view.emb (ix2 i d) = ix2 (tok t i) d := by
  obtain ⟨⟨e0, e1⟩, -⟩ := idx t
  funext a; apply Fin.ext
  match a with
  | ⟨0, _⟩ => show win0_0.index t (0 : Fin 2) * 512 + 1 * i.val = t.val * 512 + i.val; omega
  | ⟨1, _⟩ => show win0_0.index t (1 : Fin 2) * 1024 + 1 * d.val = d.val; omega

theorem emb1 (t : Fin cfg0.N) (i : Fin 512) (d : Fin 512) : ((cfg0.win 1).blk t).view.emb (ix2 i d) = ix2 (tok t i) d := by
  obtain ⟨-, ⟨e0, e1⟩, -⟩ := idx t
  funext a; apply Fin.ext
  match a with
  | ⟨0, _⟩ => show win0_1.index t (0 : Fin 2) * 512 + 1 * i.val = t.val * 512 + i.val; omega
  | ⟨1, _⟩ => show win0_1.index t (1 : Fin 2) * 512 + 1 * d.val = d.val; omega

theorem emb2 (t : Fin cfg0.N) (i : Fin 512) (d : Fin 512) : ((cfg0.win 2).blk t).view.emb (ix2 i d) = ix2 (tok t i) d := by
  obtain ⟨-, -, ⟨e0, e1⟩, -⟩ := idx t
  funext a; apply Fin.ext
  match a with
  | ⟨0, _⟩ => show win0_2.index t (0 : Fin 2) * 512 + 1 * i.val = t.val * 512 + i.val; omega
  | ⟨1, _⟩ => show win0_2.index t (1 : Fin 2) * 512 + 1 * d.val = d.val; omega

theorem emb10 (t : Fin cfg0.N) (i : Fin 512) (d : Fin 1024) : ((cfg0.win 10).blk t).view.emb (ix2 i d) = ix2 (tok t i) d := by
  obtain ⟨-, -, -, e0, e1⟩ := idx t
  funext a; apply Fin.ext
  match a with
  | ⟨0, _⟩ => show win0_10.index t (0 : Fin 2) * 512 + 1 * i.val = t.val * 512 + i.val; omega
  | ⟨1, _⟩ => show win0_10.index t (1 : Fin 2) * 1024 + 1 * d.val = d.val; omega

theorem emb3 (t : Fin cfg0.N) (j : S1024x2048.Idx) : ((cfg0.win 3).blk t).view.emb j = j := by
  have e := idxc t
  funext a; apply Fin.ext
  match a with
  | ⟨0, _⟩ => show win0_3.index t (0 : Fin 2) * 1024 + 1 * (j 0).val = (j 0).val; omega
  | ⟨1, _⟩ => show win0_3.index t (1 : Fin 2) * 2048 + 1 * (j 1).val = (j 1).val; omega

theorem emb4 (t : Fin cfg0.N) (j : S1x2048.Idx) : ((cfg0.win 4).blk t).view.emb j = j := by
  have e := idxc t
  funext a; apply Fin.ext
  match a with
  | ⟨0, _⟩ => show win0_4.index t (0 : Fin 2) * 1 + 1 * (j 0).val = (j 0).val; omega
  | ⟨1, _⟩ => show win0_4.index t (1 : Fin 2) * 2048 + 1 * (j 1).val = (j 1).val; omega

theorem emb5 (t : Fin cfg0.N) (j : S512x1024.Idx) : ((cfg0.win 5).blk t).view.emb j = j := by
  have e := idxc t
  funext a; apply Fin.ext
  match a with
  | ⟨0, _⟩ => show win0_5.index t (0 : Fin 2) * 512 + 1 * (j 0).val = (j 0).val; omega
  | ⟨1, _⟩ => show win0_5.index t (1 : Fin 2) * 1024 + 1 * (j 1).val = (j 1).val; omega

theorem emb6 (t : Fin cfg0.N) (j : S512x1024.Idx) : ((cfg0.win 6).blk t).view.emb j = j := by
  have e := idxc t
  funext a; apply Fin.ext
  match a with
  | ⟨0, _⟩ => show win0_6.index t (0 : Fin 2) * 512 + 1 * (j 0).val = (j 0).val; omega
  | ⟨1, _⟩ => show win0_6.index t (1 : Fin 2) * 1024 + 1 * (j 1).val = (j 1).val; omega

theorem emb7 (t : Fin cfg0.N) (j : S1024x1024.Idx) : ((cfg0.win 7).blk t).view.emb j = j := by
  have e := idxc t
  funext a; apply Fin.ext
  match a with
  | ⟨0, _⟩ => show win0_7.index t (0 : Fin 2) * 1024 + 1 * (j 0).val = (j 0).val; omega
  | ⟨1, _⟩ => show win0_7.index t (1 : Fin 2) * 1024 + 1 * (j 1).val = (j 1).val; omega

theorem emb8 (t : Fin cfg0.N) (j : S1x1024.Idx) : ((cfg0.win 8).blk t).view.emb j = j := by
  have e := idxc t
  funext a; apply Fin.ext
  match a with
  | ⟨0, _⟩ => show win0_8.index t (0 : Fin 2) * 1 + 1 * (j 0).val = (j 0).val; omega
  | ⟨1, _⟩ => show win0_8.index t (1 : Fin 2) * 1024 + 1 * (j 1).val = (j 1).val; omega

theorem emb9 (t : Fin cfg0.N) (j : S1x1024.Idx) : ((cfg0.win 9).blk t).view.emb j = j := by
  have e := idxc t
  funext a; apply Fin.ext
  match a with
  | ⟨0, _⟩ => show win0_9.index t (0 : Fin 2) * 1 + 1 * (j 0).val = (j 0).val; omega
  | ⟨1, _⟩ => show win0_9.index t (1 : Fin 2) * 1024 + 1 * (j 1).val = (j 1).val; omega

/-! So each window's block, entry by entry, is the arguments' entries. -/

theorem iblk0 (t : Fin cfg0.N) (i : Fin 512) (d : Fin 1024) :
    (iblk m c 0 t : FVec Ideal S512x1024 .f32) (ix2 i d) = (m ((c : Thread nD τ).loc main_arg0) : FVec Ideal S16384x1024 .f32) (ix2 (tok t i) d) := by
  rw [← V_main_arg0 m c]
  exact congrArg (V m c main_arg0) (emb0 t i d)

theorem iblk1 (t : Fin cfg0.N) (i d : Fin 512) :
    (iblk m c 1 t : FVec Ideal S512x512 .bf16) (ix2 i d) = (m ((c : Thread nD τ).loc main_arg1) : FVec Ideal S16384x512 .bf16) (ix2 (tok t i) d) := by
  rw [← V_main_arg1 m c]
  exact congrArg (V m c main_arg1) (emb1 t i d)

theorem iblk2 (t : Fin cfg0.N) (i d : Fin 512) :
    (iblk m c 2 t : FVec Ideal S512x512 .bf16) (ix2 i d) = (m ((c : Thread nD τ).loc main_arg2) : FVec Ideal S16384x512 .bf16) (ix2 (tok t i) d) := by
  rw [← V_main_arg2 m c]
  exact congrArg (V m c main_arg2) (emb2 t i d)

theorem iblk3 (t : Fin cfg0.N) (a : Fin 1024) (d : Fin 2048) :
    (iblk m c 3 t : FVec Ideal S1024x2048 .bf16) (ix2 a d) = (m ((c : Thread nD τ).loc main_arg3) : FVec Ideal S1024x5632 .f32) (ix2 a ⟨3584 + d.val, by omega⟩) :=
  (congrArg (V m c main_v1) (emb3 t (ix2 a d))).trans (V_v1 m c a d)

theorem iblk4 (t : Fin cfg0.N) (d : Fin 2048) :
    (iblk m c 4 t : FVec Ideal S1x2048 .f32) (ix2 0 d) = (m ((c : Thread nD τ).loc main_arg4) : FVec Ideal S2048 .f32) (ix1 d) :=
  (congrArg (V m c main_v2) (emb4 t (ix2 0 d))).trans (V_v2 m c d)

theorem iblk5 (t : Fin cfg0.N) (a : Fin 512) (d : Fin 1024) :
    (iblk m c 5 t : FVec Ideal S512x1024 .bf16) (ix2 a d) = (m ((c : Thread nD τ).loc main_arg5) : FVec Ideal S512x1024 .f32) (ix2 a d) :=
  (congrArg (V m c main_v3) (emb5 t (ix2 a d))).trans (V_v3 m c a d)

theorem iblk6 (t : Fin cfg0.N) (a : Fin 512) (d : Fin 1024) :
    (iblk m c 6 t : FVec Ideal S512x1024 .bf16) (ix2 a d) = (m ((c : Thread nD τ).loc main_arg6) : FVec Ideal S512x1024 .f32) (ix2 a d) :=
  (congrArg (V m c main_v4) (emb6 t (ix2 a d))).trans (V_v4 m c a d)

theorem iblk7 (t : Fin cfg0.N) (a : Fin 1024) (d : Fin 1024) :
    (iblk m c 7 t : FVec Ideal S1024x1024 .bf16) (ix2 a d) = (m ((c : Thread nD τ).loc main_arg7) : FVec Ideal S1024x1024 .f32) (ix2 a d) :=
  (congrArg (V m c main_v5) (emb7 t (ix2 a d))).trans (V_v5 m c a d)

theorem iblk8 (t : Fin cfg0.N) (d : Fin 1024) :
    (iblk m c 8 t : FVec Ideal S1x1024 .f32) (ix2 0 d) = (m ((c : Thread nD τ).loc main_arg8) : FVec Ideal S1024 .f32) (ix1 d) :=
  (congrArg (V m c main_v6) (emb8 t (ix2 0 d))).trans (V_v6 m c d)

theorem iblk9 (t : Fin cfg0.N) (d : Fin 1024) :
    (iblk m c 9 t : FVec Ideal S1x1024 .f32) (ix2 0 d) = (m ((c : Thread nD τ).loc main_arg9) : FVec Ideal S1024 .f32) (ix1 d) :=
  (congrArg (V m c main_v7) (emb9 t (ix2 0 d))).trans (V_v7 m c d)

/-- `G` at the launch's arguments. -/
def res : FVec Ideal S16384x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- What a grid point writes back is its block of the merge of all tokens. -/
theorem flushed_eq (t : Fin cfg0.N) :
    (dats m 0 c).flushed 10 t = ((cfg0.win 10).blk t).view.read (Elt Ideal) (res m c) := by
  rw [flushed10]
  funext j
  obtain ⟨i, d, rfl⟩ : ∃ (i : Fin 512) (d : Fin 1024), j = ix2 i d := ⟨j 0, j 1, eq_ix2 j⟩
  show out0_10 (F := Ideal) _ _ _ _ _ _ _ _ _ _ (ix2 i d) = res m c (((cfg0.win 10).blk t).view.emb (ix2 i d))
  rw [emb10, out_apply]
  simp only [iblk0, iblk1, iblk2, iblk3, iblk4, iblk5, iblk6, iblk7, iblk8, iblk9]
  rfl

/-- Every index of the output array is in some grid point's block. -/
theorem covered (p : S16384x1024.Idx) : ∃ t : Fin cfg0.N, (cfg0.win 10).flush t = true ∧ p ∈ ((cfg0.win 10).blk t).view.set := by
  obtain ⟨i, d, rfl⟩ : ∃ (i : Fin 16384) (d : Fin 1024), p = ix2 i d := ⟨p 0, p 1, eq_ix2 p⟩
  refine ⟨⟨i.val / 512, by show i.val / 512 < 32; omega⟩, flush0_10 _, ?_⟩
  have h := ((cfg0.win 10).blk ⟨i.val / 512, by show i.val / 512 < 32; omega⟩).view.emb_mem_set (ix2 (⟨i.val % 512, by omega⟩ : Fin 512) d)
  rw [emb10] at h
  have e : tok ⟨i.val / 512, by show i.val / 512 < 32; omega⟩ ⟨i.val % 512, by omega⟩ = i := Fin.ext (by show i.val / 512 * 512 + i.val % 512 = i.val; omega)
  rwa [e] at h

/-- The output array after the run. -/
theorem final : (dats m 0 c).arrAt 10 cfg0.N = res m c :=
  (dats m 0 c).arrAt_eq_of_cover 10 (res m c) (fun t _ => flushed_eq m c t) covered

end Cert.MergeArray

end
-- ==== Proof.MergeRefRow.lean ====
module

public import proofs.«01_k».proof.Proof.MergeBlock
public import proofs.«01_k».proof.Proof.Gen.MergeRefIdeal.Read

@[expose] public section

set_option maxRecDepth 16384

noncomputable section

namespace Cert.MergeRefRow

open Idealize.ShloMosaic Idealize.ShloMosaic.TcCoe Cert.MergeRefIdeal Cert.MergeRefIdeal.Read Cert.Rows

variable (x0 : FVec Ideal S16384x1024 .f32) (x1 x2 : FVec Ideal S16384x512 .bf16) (x3 : FVec Ideal S1024x5632 .f32)
    (x4 : FVec Ideal S2048 .f32) (x5 x6 : FVec Ideal S512x1024 .f32) (x7 : FVec Ideal S1024x1024 .f32) (x8 x9 : FVec Ideal S1024 .f32)

/-- The reference's two merged branches at token `i`, column `c`. -/
theorem merged_apply (i : Fin 16384) (c : Fin 1024) :
    val_main_v19 (F := Ideal) x0 x1 x2 x3 x4 x5 x6 (ix2 i c)
      = MergeBlock.merged (fun d => x0 (ix2 i d)) (fun d => x1 (ix2 i d)) (fun d => x2 (ix2 i d))
          (fun a d => x3 (ix2 a ⟨3584 + d.val, by omega⟩)) (fun d => x4 (ix1 d)) (fun a d => x5 (ix2 a d)) (fun a d => x6 (ix2 a d)) c := by
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_v17, val_main_v18, val_main_v19,
    val_main_cst, val_main_cst_0]
  rfl

/-- The reference's scaled residual plus output projection at token `i`, column `c`. -/
theorem residual_apply (i : Fin 16384) (c : Fin 1024) :
    val_main_v23 (F := Ideal) x0 x1 x2 x3 x4 x5 x6 x7 (ix2 i c)
      = alpha * x0 (ix2 i c) + ∑ k : Fin 1024, MergeBlock.merged (fun d => x0 (ix2 i d)) (fun d => x1 (ix2 i d)) (fun d => x2 (ix2 i d))
          (fun a d => x3 (ix2 a ⟨3584 + d.val, by omega⟩)) (fun d => x4 (ix1 d)) (fun a d => x5 (ix2 a d)) (fun a d => x6 (ix2 a d)) k
          * x7 (ix2 k c) := by
  pointwise [val_main_v20, val_main_v21, val_main_v22, val_main_v23, val_main_cst_1]
  simp only [merged_apply]
  rfl

/-- The reference's result at token `i`, column `c`: the token's row of the merge. -/
theorem out_apply (i : Fin 16384) (c : Fin 1024) :
    val_main_v47 (F := Ideal) x0 x1 x2 x3 x4 x5 x6 x7 x8 x9 (ix2 i c)
      = MergeBlock.row (fun d => x0 (ix2 i d)) (fun d => x1 (ix2 i d)) (fun d => x2 (ix2 i d))
          (fun a d => x3 (ix2 a ⟨3584 + d.val, by omega⟩)) (fun d => x4 (ix1 d)) (fun a d => x5 (ix2 a d)) (fun a d => x6 (ix2 a d))
          (fun a d => x7 (ix2 a d)) (fun d => x8 (ix1 d)) (fun d => x9 (ix1 d)) c := by
  pointwise [val_main_v24, val_main_v25, val_main_v26, val_main_v27, val_main_v28, val_main_v29, val_main_v30, val_main_v31, val_main_v32,
    val_main_v33, val_main_v34, val_main_v35, val_main_v36, val_main_v37, val_main_v38, val_main_v39, val_main_v40, val_main_v41, val_main_v42,
    val_main_v43, val_main_v44, val_main_v45, val_main_v46, val_main_v47, val_main_cst_2, val_main_cst_3, val_main_cst_4, val_main_cst_5,
    val_main_cst_6]
  simp only [residual_apply]
  rfl

end Cert.MergeRefRow

end
-- ==== Proof.MergeEq.lean ====
/- The merge's claims: the kernel's output array and the reference's result are the same function of the arguments. -/
module

public import proofs.«01_k».proof.Defs
public import proofs.«01_k».proof.Proof.MergeArray
public import proofs.«01_k».proof.Proof.MergeRefRow
public import proofs.«01_k».proof.Proof.Gen.MergeIdeal
public import proofs.«01_k».proof.Proof.Gen.MergeRefIdeal
public import proofs.«01_k».proof.Proof.Gen.MergeRefIdeal.Run

@[expose] public section

set_option maxRecDepth 16384

noncomputable section

namespace Cert.MergeEq

open Idealize.ShloMosaic Idealize.ShloMosaic.TcCoe Idealize.SL.Sem

/-- The reference's result array is the merge of all tokens. -/
theorem ref_eq (x0 : FVec Ideal Cert.MergeIdeal.S16384x1024 .f32) (x1 x2 : FVec Ideal Cert.MergeIdeal.S16384x512 .bf16)
    (x3 : FVec Ideal Cert.MergeIdeal.S1024x5632 .f32) (x4 : FVec Ideal Cert.MergeIdeal.S2048 .f32)
    (x5 x6 : FVec Ideal Cert.MergeIdeal.S512x1024 .f32) (x7 : FVec Ideal Cert.MergeIdeal.S1024x1024 .f32)
    (x8 x9 : FVec Ideal Cert.MergeIdeal.S1024 .f32) :
    Cert.MergeRefIdeal.Read.val_main_v47 (F := Ideal) x0 x1 x2 x3 x4 x5 x6 x7 x8 x9 = MergeArray.G x0 x1 x2 x3 x4 x5 x6 x7 x8 x9 := by
  funext p
  obtain ⟨i, d, rfl⟩ : ∃ (i : Fin 16384) (d : Fin 1024), p = ix2 i d := ⟨p 0, p 1, eq_ix2 p⟩
  exact MergeRefRow.out_apply x0 x1 x2 x3 x4 x5 x6 x7 x8 x9 i d

theorem frameRef : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- Launched on the same arguments, the kernel and the reference leave the same array. -/
theorem algebraic : Cert.algebraic_MergeIdeal_MergeRefIdeal := by
  intro m ρ m' ρ' _ hagree
  refine ⟨fun c => MergeArray.res m c,
    (θ_run Cert.MergeIdeal.defs _ _).mono (fun r h c => ⟨(h c).1.trans (MergeArray.final m c), (h c).2⟩) (Cert.MergeIdeal.Value.run_blocks m ρ),
    (θ_run Cert.MergeRefIdeal.defs _ _).mono (fun r h c => ⟨(h c).1.trans ?_, (h c).2⟩) (Cert.MergeRefIdeal.Value.run (F := Ideal) m' ρ')⟩
  obtain ⟨e0, e1, e2, e3, e4, e5, e6, e7, e8, e9⟩ := hagree c
  rw [Cert.MergeRefIdeal.Read.val_main_v47_eq, e0, e1, e2, e3, e4, e5, e6, e7, e8, e9]
  exact ref_eq _ _ _ _ _ _ _ _ _ _

end Cert.MergeEq

end
-- ==== Proof.MoeDLanes.lean ====
/- For the sample batch (512 tokens, blocks of 256). The router as the kernel runs it: the group logits on lanes 0–3 and the expert logits on lanes 4–35 of one row, the
   chosen lanes, and the two weights laid back on the lanes. -/
module

public import proofs.«01_k».proof.Proof.MoeRouter
public import proofs.«01_k».proof.Proof.Gen.MoeDIdeal.Value

@[expose] public section

set_option maxRecDepth 16384

noncomputable section

namespace Cert.MoeDLanes

open Idealize.ShloMosaic Idealize.ShloMosaic.TcCoe Cert.MoeDIdeal Cert.MoeDIdeal.Gen Cert.MoeRouter

/-! ## The specification -/

/-- The chosen group's softmax weight: one over the sum of the exponentials of the logits less the greatest. -/
def groupWeight (gl : Fin 4 → EReal) : EReal := Ideal.div 1 (∑ k, Ideal.exp (gl k - gl (first gl)))

/-- The second expert's exponential, the first's being one. -/
def ratio (v : Fin 8 → EReal) : EReal := Ideal.exp (v (second v) - v (first v))

/-- The first expert's weight. -/
def weight1 (gl : Fin 4 → EReal) (el : Fin 4 → Fin 8 → EReal) : EReal :=
  Ideal.div (groupWeight gl) (1 + ratio (el (first gl)))

/-- The second expert's weight. -/
def weight2 (gl : Fin 4 → EReal) (el : Fin 4 → Fin 8 → EReal) : EReal :=
  Ideal.div (groupWeight gl * ratio (el (first gl))) (1 + ratio (el (first gl)))

/-- The weight each of the 32 experts has in the token's output. -/
def combine (gl : Fin 4 → EReal) (el : Fin 4 → Fin 8 → EReal) (e : Fin 32) : EReal :=
  (if e.val = 8 * (first gl).val + (first (el (first gl))).val then weight1 gl el else 0)
    + (if e.val = 8 * (first gl).val + (second (el (first gl))).val then weight2 gl el else 0)

/-! ## Lanes -/

/-- The lane of group `g`'s logit. -/
abbrev laneG (g : Fin 4) : Fin 128 := ⟨g.val, by omega⟩

/-- The lane of expert `e` of group `g`. -/
abbrev laneE (g : Fin 4) (e : Fin 8) : Fin 128 := ⟨4 + 8 * g.val + e.val, by omega⟩

/-- The row's group lanes, −∞ on the others. -/
def onGroups (f : Fin 128 → EReal) (l : Fin 128) : EReal := if l.val < 4 then f l else ⊥

/-- The lanes of group `g`'s experts, −∞ on the others. -/
def inGroup (f : Fin 128 → EReal) (g : Fin 4) (l : Fin 128) : EReal :=
  if 4 + 8 * g.val ≤ l.val ∧ l.val < 12 + 8 * g.val then f l else ⊥

/-- The row with lane `j` set to −∞. -/
def taken (f : Fin 128 → EReal) (j l : Fin 128) : EReal := if l = j then ⊥ else f l

theorem onGroups_first (f : Fin 128 → EReal) (gl : Fin 4 → EReal) (h : ∀ g, f (laneG g) = gl g) :
    IsFirst (onGroups f) (laneG (first gl)) := by
  have hs := first_spec gl
  have hv : onGroups f (laneG (first gl)) = gl (first gl) := by
    unfold onGroups
    rw [if_pos (show (laneG (first gl)).val < 4 from (first gl).isLt), h]
  constructor
  · intro k
    rw [hv]
    unfold onGroups
    by_cases hk : k.val < 4
    · rw [if_pos hk]
      have := h ⟨k.val, hk⟩
      rw [show k = laneG ⟨k.val, hk⟩ from rfl, this]
      exact hs.1 _
    · rw [if_neg hk]; exact bot_le
  · intro k hlt
    have hlt' : k.val < (first gl).val := hlt
    have hk : k.val < 4 := by omega
    rw [hv]
    unfold onGroups
    rw [if_pos hk, show k = laneG ⟨k.val, hk⟩ from rfl, h]
    exact hs.2 _ hlt'

/-- A row that carries `v` on a group's lanes and −∞ elsewhere has its first greatest lane where `v` has it. -/
theorem group_first (r : Fin 128 → EReal) (g : Fin 4) (v : Fin 8 → EReal) (j : Fin 8) (hj : IsFirst v j) (hb : v j ≠ ⊥)
    (hin : ∀ e, r (laneE g e) = v e) (hout : ∀ l : Fin 128, ¬ (4 + 8 * g.val ≤ l.val ∧ l.val < 12 + 8 * g.val) → r l = ⊥) :
    IsFirst r (laneE g j) := by
  have key : ∀ l : Fin 128, (∃ e : Fin 8, l = laneE g e) ∨ r l = ⊥ := fun l => by
    by_cases hl : 4 + 8 * g.val ≤ l.val ∧ l.val < 12 + 8 * g.val
    · exact Or.inl ⟨⟨l.val - (4 + 8 * g.val), by omega⟩, Fin.ext (show l.val = 4 + 8 * g.val + (l.val - (4 + 8 * g.val)) by omega)⟩
    · exact Or.inr (hout l hl)
  constructor
  · intro k
    rcases key k with ⟨e, rfl⟩ | hk
    · rw [hin, hin]; exact hj.1 e
    · rw [hk]; exact bot_le
  · intro k hlt
    rcases key k with ⟨e, rfl⟩ | hk
    · have : e < j := by
        have h2 : 4 + 8 * g.val + e.val < 4 + 8 * g.val + j.val := hlt
        rw [Fin.lt_def]; omega
      rw [hin, hin]; exact hj.2 e this
    · rw [hk, hin]; exact bot_lt_iff_ne_bot.mpr hb

theorem inGroup_lane (f : Fin 128 → EReal) (g : Fin 4) (e : Fin 8) : inGroup f g (laneE g e) = f (laneE g e) := by
  have he := e.isLt
  exact if_pos ⟨by show 4 + 8 * g.val ≤ 4 + 8 * g.val + e.val; omega, by show 4 + 8 * g.val + e.val < 12 + 8 * g.val; omega⟩

theorem laneE_inj (g : Fin 4) (e e' : Fin 8) (h : laneE g e = laneE g e') : e = e' := by
  have : 4 + 8 * g.val + e.val = 4 + 8 * g.val + e'.val := congrArg Fin.val h
  exact Fin.ext (by omega)

theorem inGroup_first (f : Fin 128 → EReal) (g : Fin 4) (v : Fin 8 → EReal) (h : ∀ e, f (laneE g e) = v e) (hb : ∀ e, v e ≠ ⊥) :
    IsFirst (inGroup f g) (laneE g (first v)) :=
  group_first _ g v _ (first_spec v) (hb _) (fun e => (inGroup_lane f g e).trans (h e)) (fun l hl => if_neg hl)

theorem taken_first (f : Fin 128 → EReal) (g : Fin 4) (v : Fin 8 → EReal) (h : ∀ e, f (laneE g e) = v e) (hb : ∀ e, v e ≠ ⊥) :
    IsFirst (taken (inGroup f g) (laneE g (first v))) (laneE g (second v)) := by
  refine group_first _ g (without v) _ (first_spec _) ?_ (fun e => ?_) (fun l hl => ?_)
  · exact fun e => hb _ ((without_second v hb).symm.trans e)
  · unfold taken without
    by_cases he : e = first v
    · rw [if_pos he, if_pos (by rw [he])]
    · rw [if_neg he, if_neg (fun e' => he (laneE_inj g _ _ e')), inGroup_lane, h]
  · unfold taken
    by_cases he : l = laneE g (first v)
    · rw [if_pos he]
    · rw [if_neg he]; exact if_neg hl

theorem taken_second (f : Fin 128 → EReal) (g : Fin 4) (v : Fin 8 → EReal) (h : ∀ e, f (laneE g e) = v e) (hb : ∀ e, v e ≠ ⊥) :
    taken (inGroup f g) (laneE g (first v)) (laneE g (second v)) = v (second v) := by
  unfold taken
  rw [if_neg (fun e => second_ne_first v hb (laneE_inj g _ _ e)), inGroup_lane, h]

theorem exp_bot_sub (r : EReal) : Ideal.exp (⊥ - r) = 0 := by
  rw [sub_eq_add_neg, EReal.bot_add]
  rfl

/-- The sum of the exponentials over all lanes is the sum over the groups. -/
theorem sum_groups (f : Fin 128 → EReal) (gl : Fin 4 → EReal) (h : ∀ g, f (laneG g) = gl g) (r : EReal) :
    (∑ l : Fin 128, Ideal.exp (onGroups f l - r)) = ∑ g : Fin 4, Ideal.exp (gl g - r) := by
  refine (Fin.sum_univ_add (a := 4) (b := 124) (fun l => Ideal.exp (onGroups f l - r))).trans ?_
  have h2 : ∀ l : Fin 124, Ideal.exp (onGroups f (Fin.natAdd 4 l) - r) = 0 := fun l => by
    have : onGroups f (Fin.natAdd 4 l) = ⊥ := if_neg (by simp [Fin.natAdd])
    rw [this, exp_bot_sub]
  have h1 : ∀ g : Fin 4, onGroups f (Fin.castAdd 124 g) = gl g := fun g => by
    have : onGroups f (Fin.castAdd 124 g) = f (laneG g) := if_pos g.isLt
    rw [this, h]
  simp only [h1, h2, Finset.sum_const_zero, add_zero]

/-! ## The words -/

theorem negInf : Ideal.ofBits .f32 4286578688#32 = ⊥ := by simp [Ideal.ofBits, Ideal.ieee]

theorem word_groups : ∀ l : Fin 128, IntOp.cmpi .slt (BitVec.ofNat 32 l.val) 4#32 = if l.val < 4 then 1#1 else 0#1 := by
  decide +kernel

theorem word_in : ∀ (g : Fin 4) (l : Fin 128),
    IntOp.andi (IntOp.cmpi .sge (BitVec.ofNat 32 l.val) (IntOp.addi 4#32 (IntOp.muli 8#32 (BitVec.ofNat 32 g.val))))
        (IntOp.cmpi .slt (BitVec.ofNat 32 l.val) (IntOp.addi (IntOp.addi 4#32 (IntOp.muli 8#32 (BitVec.ofNat 32 g.val))) 8#32))
      = if 4 + 8 * g.val ≤ l.val ∧ l.val < 12 + 8 * g.val then 1#1 else 0#1 := by
  decide +kernel

theorem word_eq (l j : Fin 128) :
    IntOp.cmpi .eq (BitVec.ofNat 32 l.val) (BitVec.ofNat 32 j.val) = if l = j then 1#1 else 0#1 := by
  by_cases h : l = j
  · rw [if_pos h, h]; simp [IntOp.cmpi]
  · have : BitVec.ofNat 32 l.val ≠ BitVec.ofNat 32 j.val := fun e => h (by
      have := congrArg BitVec.toInt e
      rw [toInt_lane, toInt_lane] at this
      exact Fin.ext (by omega))
    rw [if_neg h]
    show BitVec.ofBool (BitVec.ofNat 32 l.val == BitVec.ofNat 32 j.val) = 0#1
    rw [beq_eq_false_iff_ne.mpr this]
    rfl

theorem select_if {α : Type} (p : Prop) [Decidable p] (a b : α) :
    Scalar.select (if p then 1#1 else 0#1) a b = if p then a else b := by
  by_cases h : p <;> simp [h, Scalar.select]

/-! ## The payloads -/

section

variable (i : Fin 256) (f : Fin 128 → EReal) (gl : Fin 4 → EReal) (el : Fin 4 → Fin 8 → EReal)

theorem pay2_apply (v0 : FVec Ideal S256x1024 .f32) (v5 v8 v11 : FVec Ideal S1024x128 .bf16) (v16 : FVec Ideal S1x128 .f32)
    (hx : ∀ k, ∃ r : ℝ, v0 (ix2 i k) = (r : EReal)) (hlo : ∀ k l, v8 (ix2 k l) = 0) (l : Fin 128) :
    k0_pay2 (F := Ideal) v0 v5 v8 v11 v16 (ix2 i l) = (∑ k : Fin 1024, v0 (ix2 i k) * v5 (ix2 k l)) + v16 (ix2 0 l) := by
  have hz : ∀ k, v0 (ix2 i k) - v0 (ix2 i k) = 0 := fun k => by
    obtain ⟨r, hr⟩ := hx k
    rw [hr, ← EReal.coe_sub, sub_self, EReal.coe_zero]
  pointwise [k0_pay1, k0_pay2]
  simp only [hz, hlo, mul_zero, zero_mul, Finset.sum_const_zero, add_zero]

variable (v0 : FVec Ideal S256x1024 .f32) (v5 v8 v11 : FVec Ideal S1024x128 .bf16) (v16 : FVec Ideal S1x128 .f32)
  (hf : ∀ l, k0_pay2 (F := Ideal) v0 v5 v8 v11 v16 (ix2 i l) = f l)

include hf

theorem pay3_apply (l : Fin 128) : k0_pay3 (F := Ideal) v0 v5 v8 v11 v16 (ix2 i l) = onGroups f l := by
  pointwise [k0_pay3]
  rw [hf, negInf, word_groups, select_if]
  rfl

theorem pay4_apply (hg : ∀ g, f (laneG g) = gl g) : k0_pay4 (F := Ideal) v0 v5 v8 v11 v16 (ix2 i 0) = gl (first gl) := by
  pointwise [k0_pay4]
  simp only [pay3_apply i f v0 v5 v8 v11 v16 hf, negInf]
  rw [fold_max _ _ (onGroups_first f gl hg)]
  exact (if_pos (first gl).isLt).trans (hg _)

theorem pay5_apply (hg : ∀ g, f (laneG g) = gl g) :
    k0_pay5 (F := Ideal) v0 v5 v8 v11 v16 (ix2 i 0) = BitVec.ofNat 32 (first gl).val := by
  pointwise [k0_pay5]
  have e4 : k0_pay4 (F := Ideal) v0 v5 v8 v11 v16 (ix2 i 0) = onGroups f (laneG (first gl)) :=
    (pay4_apply i f gl v0 v5 v8 v11 v16 hf hg).trans ((if_pos (first gl).isLt).trans (hg _)).symm
  simp only [pay3_apply i f v0 v5 v8 v11 v16 hf, e4]
  exact fold_lane _ _ (onGroups_first f gl hg)

theorem pay6_apply (hg : ∀ g, f (laneG g) = gl g) :
    k0_pay6 (F := Ideal) v0 v5 v8 v11 v16 (ix2 i 0) = ∑ k, Ideal.exp (gl k - gl (first gl)) := by
  pointwise [k0_pay6]
  simp only [pay3_apply i f v0 v5 v8 v11 v16 hf, pay4_apply i f gl v0 v5 v8 v11 v16 hf hg]
  exact sum_groups f gl hg _

end

section

variable (i : Fin 256) (f : Fin 128 → EReal) (g : Fin 4) (v : Fin 8 → EReal)
  (v19 : FVec Ideal S256x128 .f32) (v20 : IVec S256x128 32) (v32 : IVec S256x1 32)
  (hf : ∀ l, v19 (ix2 i l) = f l) (hl : ∀ l : Fin 128, v20 (ix2 i l) = BitVec.ofNat 32 l.val)
  (hg : v32 (ix2 i 0) = BitVec.ofNat 32 g.val) (hv : ∀ e, f (laneE g e) = v e) (hb : ∀ e, v e ≠ ⊥)

include hf hl hg

theorem pay9_apply (l : Fin 128) : k0_pay9 (F := Ideal) v19 v20 v32 (ix2 i l) = inGroup f g l := by
  pointwise [k0_pay9]
  rw [hf, hl, hg, negInf, word_in, select_if]
  rfl

include hv hb

theorem pay10_apply : k0_pay10 (F := Ideal) v19 v20 v32 (ix2 i 0) = v (first v) := by
  pointwise [k0_pay10]
  simp only [pay9_apply i f g v19 v20 v32 hf hl hg, negInf]
  rw [fold_max _ _ (inGroup_first f g v hv hb), inGroup_lane, hv]

theorem pay11_apply : k0_pay11 (F := Ideal) v19 v20 v32 (ix2 i 0) = BitVec.ofNat 32 (laneE g (first v)).val := by
  pointwise [k0_pay11]
  have e4 : k0_pay10 (F := Ideal) v19 v20 v32 (ix2 i 0) = inGroup f g (laneE g (first v)) :=
    (pay10_apply i f g v v19 v20 v32 hf hl hg hv hb).trans ((inGroup_lane f g _).trans (hv _)).symm
  simp only [pay9_apply i f g v19 v20 v32 hf hl hg, e4, hl]
  exact fold_lane _ _ (inGroup_first f g v hv hb)

theorem pay12_apply (l : Fin 128) :
    k0_pay12 (F := Ideal) v19 v20 v32 (ix2 i l) = taken (inGroup f g) (laneE g (first v)) l := by
  pointwise [k0_pay12]
  rw [pay9_apply i f g v19 v20 v32 hf hl hg, pay11_apply i f g v v19 v20 v32 hf hl hg hv hb, hl, negInf, word_eq, select_if]
  rfl

theorem pay13_apply : k0_pay13 (F := Ideal) v19 v20 v32 (ix2 i 0) = v (second v) := by
  pointwise [k0_pay13]
  simp only [pay12_apply i f g v v19 v20 v32 hf hl hg hv hb, negInf]
  rw [fold_max _ _ (taken_first f g v hv hb), taken_second f g v hv hb]

theorem pay14_apply : k0_pay14 (F := Ideal) v19 v20 v32 (ix2 i 0) = BitVec.ofNat 32 (laneE g (second v)).val := by
  pointwise [k0_pay14]
  have e4 : k0_pay13 (F := Ideal) v19 v20 v32 (ix2 i 0) = taken (inGroup f g) (laneE g (first v)) (laneE g (second v)) :=
    (pay13_apply i f g v v19 v20 v32 hf hl hg hv hb).trans (taken_second f g v hv hb).symm
  simp only [pay12_apply i f g v v19 v20 v32 hf hl hg hv hb, e4, hl]
  exact fold_lane _ _ (taken_first f g v hv hb)

theorem pay15_apply : k0_pay15 (F := Ideal) v19 v20 v32 (ix2 i 0) = ratio v := by
  pointwise [k0_pay15]
  rw [pay10_apply i f g v v19 v20 v32 hf hl hg hv hb, pay13_apply i f g v v19 v20 v32 hf hl hg hv hb]
  rfl

theorem pay17_apply (l : Fin 128) :
    k0_pay17 (F := Ideal) v19 v20 v32 (ix2 i l) = if l = laneE g (first v) then 1#1 else 0#1 := by
  pointwise [k0_pay17]
  rw [pay11_apply i f g v v19 v20 v32 hf hl hg hv hb, hl, word_eq]

theorem pay16_apply (v37 v38 : FVec Ideal S256x1 .f32) :
    k0_pay16 (F := Ideal) v19 v20 v32 v37 v38 (ix2 i 0)
      = Ideal.div (Ideal.div (v38 (ix2 i 0)) (v37 (ix2 i 0)) * ratio v) (1 + ratio v) := by
  pointwise [k0_pay16, k0_pay8]
  rw [pay15_apply i f g v v19 v20 v32 hf hl hg hv hb]
  all_goals rfl

theorem pay18_apply (v37 v38 : FVec Ideal S256x1 .f32) :
    k0_pay18 (F := Ideal) v19 v20 v32 v37 v38 (ix2 i 0)
      = Ideal.div (Ideal.div (v38 (ix2 i 0)) (v37 (ix2 i 0))) (1 + ratio v) := by
  pointwise [k0_pay18, k0_pay8]
  rw [pay15_apply i f g v v19 v20 v32 hf hl hg hv hb]
  all_goals rfl

end

/-- The lanes the two weights are laid on. -/
theorem pay19_apply (i : Fin 256) (j1 j2 : Fin 128) (v20 : IVec S256x128 32) (v72 : IVec S256x1 32) (v81 : FVec Ideal S256x1 .f32)
    (v83 : IVec S256x128 1) (v84 : FVec Ideal S256x1 .f32) (hl : ∀ l : Fin 128, v20 (ix2 i l) = BitVec.ofNat 32 l.val)
    (h83 : ∀ l, v83 (ix2 i l) = if l = j1 then 1#1 else 0#1) (h72 : v72 (ix2 i 0) = BitVec.ofNat 32 j2.val) (l : Fin 128) :
    k0_pay19 (F := Ideal) v20 v72 v81 v83 (Scalar.ofBits .f32 0x00000000#32) v84 (ix2 i l)
      = (if l = j1 then v84 (ix2 i 0) else 0) + (if l = j2 then v81 (ix2 i 0) else 0) := by
  pointwise [k0_pay19]
  rw [h83, h72, hl, word_eq, select_if, select_if]
  all_goals simp

end Cert.MoeDLanes

end
-- ==== Proof.MoeDBlock.lean ====
/- For the sample batch (512 tokens, blocks of 256). What one grid point of the mixture-of-experts kernel leaves in its output block: for each row of 256 tokens the
   layer norm of the scaled residual plus the sum over the experts' hidden columns weighted by the router. -/
module

public import proofs.«01_k».proof.Proof.MoeDLanes

@[expose] public section

set_option maxRecDepth 16384

noncomputable section

namespace Cert.MoeDBlock

open Idealize.ShloMosaic Idealize.ShloMosaic.TcCoe Cert.MoeDIdeal Cert.MoeDIdeal.Gen Cert.Rows Cert.MoeRouter Cert.MoeDLanes

/-- A column of the hidden layer of group `g`: the gated product of the token with the group's two weights, times the
    weight `w` of the expert the column belongs to. -/
def hidden (x : Fin 1024 → EReal) (wg wu : Fin 1024 → Fin 1024 → EReal) (w : Fin 8 → EReal) (k : Fin 1024) : EReal :=
  (∑ d, x d * wg d k) * sigmoid (∑ d, x d * wg d k) * (∑ d, x d * wu d k) * w ⟨k.val / 128, by omega⟩

/-- The token's output: the layer norm of the scaled residual plus the groups' hidden columns through the down weights. -/
def row (x : Fin 1024 → EReal) (wg wu wd : Fin 4 → Fin 1024 → Fin 1024 → EReal) (w : Fin 32 → EReal)
    (gm bt : Fin 1024 → EReal) (c : Fin 1024) : EReal :=
  layerNorm (fun d => alpha * x d + ∑ g : Fin 4, ∑ k, hidden x (wg g) (wu g) (fun e => w ⟨8 * g.val + e.val, by omega⟩) k * wd g k d) gm bt c

theorem one_f32 : Ideal.ofBits .f32 0x3F800000#32 = 1 := by
  pointwise []

section

variable (i : Fin 256) (c : Fin 1024)

theorem pay21_apply (v1 : FVec Ideal S256x1024 .bf16) (v96 : FVec Ideal S1x1024x1024 .bf16) :
    k0_pay21 (F := Ideal) v1 v96 (ix2 i c) = ∑ d, v1 (ix2 i d) * v96 (ix3 0 d c) := by
  pointwise [k0_pay21]

theorem pay22_apply (v1 : FVec Ideal S256x1024 .bf16) (v96 : FVec Ideal S1x1024x1024 .bf16) :
    k0_pay22 (F := Ideal) v1 v96 (ix2 i c) = ∑ d, v1 (ix2 i d) * v96 (ix3 0 d c) := by
  pointwise [k0_pay22]

theorem pay26_apply (v1 : FVec Ideal S256x1024 .bf16) (v96 : FVec Ideal S1x1024x1024 .bf16) :
    k0_pay26 (F := Ideal) v1 v96 (ix2 i c) = ∑ d, v1 (ix2 i d) * v96 (ix3 0 d c) := by
  pointwise [k0_pay26]

theorem pay27_apply (v1 : FVec Ideal S256x1024 .bf16) (v96 : FVec Ideal S1x1024x1024 .bf16) :
    k0_pay27 (F := Ideal) v1 v96 (ix2 i c) = ∑ d, v1 (ix2 i d) * v96 (ix3 0 d c) := by
  pointwise [k0_pay27]

theorem pay31_apply (v1 : FVec Ideal S256x1024 .bf16) (v96 : FVec Ideal S1x1024x1024 .bf16) :
    k0_pay31 (F := Ideal) v1 v96 (ix2 i c) = ∑ d, v1 (ix2 i d) * v96 (ix3 0 d c) := by
  pointwise [k0_pay31]

theorem pay32_apply (v1 : FVec Ideal S256x1024 .bf16) (v96 : FVec Ideal S1x1024x1024 .bf16) :
    k0_pay32 (F := Ideal) v1 v96 (ix2 i c) = ∑ d, v1 (ix2 i d) * v96 (ix3 0 d c) := by
  pointwise [k0_pay32]

theorem pay37_apply (v1 : FVec Ideal S256x1024 .bf16) (v96 : FVec Ideal S1x1024x1024 .bf16) :
    k0_pay37 (F := Ideal) v1 v96 (ix2 i c) = ∑ d, v1 (ix2 i d) * v96 (ix3 0 d c) := by
  pointwise [k0_pay37]

theorem pay38_apply (v1 : FVec Ideal S256x1024 .bf16) (v96 : FVec Ideal S1x1024x1024 .bf16) :
    k0_pay38 (F := Ideal) v1 v96 (ix2 i c) = ∑ d, v1 (ix2 i d) * v96 (ix3 0 d c) := by
  pointwise [k0_pay38]

theorem pay24_apply (v1 : FVec Ideal S256x1024 .bf16) (v96 : FVec Ideal S1x1024x1024 .bf16) :
    k0_pay24 (F := Ideal) v1 v96 (ix2 i c) = 1 + Ideal.exp (-(∑ d, v1 (ix2 i d) * v96 (ix3 0 d c))) := by
  pointwise [k0_pay24]
  simp only [pay21_apply, zero_sub]

theorem pay29_apply (v1 : FVec Ideal S256x1024 .bf16) (v96 : FVec Ideal S1x1024x1024 .bf16) :
    k0_pay29 (F := Ideal) v1 v96 (ix2 i c) = 1 + Ideal.exp (-(∑ d, v1 (ix2 i d) * v96 (ix3 0 d c))) := by
  pointwise [k0_pay29]
  simp only [pay26_apply, zero_sub]

theorem pay34_apply (v1 : FVec Ideal S256x1024 .bf16) (v96 : FVec Ideal S1x1024x1024 .bf16) :
    k0_pay34 (F := Ideal) v1 v96 (ix2 i c) = Ideal.exp (-(∑ d, v1 (ix2 i d) * v96 (ix3 0 d c))) := by
  pointwise [k0_pay34]
  simp only [pay31_apply, zero_sub]

theorem pay40_apply (v1 : FVec Ideal S256x1024 .bf16) (v96 : FVec Ideal S1x1024x1024 .bf16) :
    k0_pay40 (F := Ideal) v1 v96 (ix2 i c) = Ideal.exp (-(∑ d, v1 (ix2 i d) * v96 (ix3 0 d c))) := by
  pointwise [k0_pay40]
  simp only [pay37_apply, zero_sub]

theorem pay25_apply (v95 v98 v101 v126 v131 : FVec Ideal S256x1024 .f32) (cst : Ideal .f32) (v138 : FVec Ideal S1x1024x1024 .bf16) :
    k0_pay25 (F := Ideal) v95 v98 v101 v126 v131 cst v138 (ix2 i c)
      = v95 (ix2 i c) + ∑ k, v98 (ix2 i k) * Ideal.div cst (v131 (ix2 i k)) * v101 (ix2 i k) * v126 (ix2 i k) * v138 (ix3 0 k c) := by
  pointwise [k0_pay25]

theorem pay30_apply (v95 v98 v101 v126 v131 : FVec Ideal S256x1024 .f32) (v138 : FVec Ideal S1x1024x1024 .bf16) :
    k0_pay30 (F := Ideal) v95 v98 v101 v126 v131 v138 (ix2 i c)
      = v95 (ix2 i c) + ∑ k, v98 (ix2 i k) * Ideal.div 1 (v131 (ix2 i k)) * v101 (ix2 i k) * v126 (ix2 i k) * v138 (ix3 0 k c) := by
  pointwise [k0_pay30]

theorem pay36_apply (v95 v98 v101 v126 v131 : FVec Ideal S256x1024 .f32) (v138 : FVec Ideal S1x1024x1024 .bf16) :
    k0_pay36 (F := Ideal) v95 v98 v101 v126 v131 (k0_pay35 (F := Ideal)) v138 (ix2 i c)
      = v95 (ix2 i c) + ∑ k, v98 (ix2 i k) * Ideal.div 1 (1 + v131 (ix2 i k)) * v101 (ix2 i k) * v126 (ix2 i k) * v138 (ix3 0 k c) := by
  pointwise [k0_pay36, k0_pay35]

theorem pay23_apply (v20 : IVec S256x128 32) (v72 : IVec S256x1 32) (v81 : FVec Ideal S256x1 .f32)
    (v83 : IVec S256x128 1) (cst : Ideal .f32) (v84 : FVec Ideal S256x1 .f32) :
    k0_pay23 (F := Ideal) v20 v72 v81 v83 cst v84 (ix2 i c)
      = k0_pay19 (F := Ideal) v20 v72 v81 v83 cst v84 (ix2 i ⟨4 + c.val / 128, by omega⟩) := by
  pointwise [k0_pay23]
  generalize k0_pay19 (F := Ideal) v20 v72 v81 v83 cst v84 = w
  split_ifs <;> exact congrArg (fun l => w (ix2 i l)) (Fin.ext (by show _ = 4 + c.val / 128; simp; omega))

theorem pay28_apply (w : FVec Ideal S256x128 .f32) :
    k0_pay28 (F := Ideal) w (ix2 i c) = w (ix2 i ⟨12 + c.val / 128, by omega⟩) := by
  pointwise [k0_pay28]
  split_ifs <;> exact congrArg (fun l => w (ix2 i l)) (Fin.ext (by show _ = 12 + c.val / 128; simp; omega))

theorem pay33_apply (w : FVec Ideal S256x128 .f32) :
    k0_pay33 (F := Ideal) w (ix2 i c) = w (ix2 i ⟨20 + c.val / 128, by omega⟩) := by
  pointwise [k0_pay33]
  split_ifs <;> exact congrArg (fun l => w (ix2 i l)) (Fin.ext (by show _ = 20 + c.val / 128; simp; omega))

theorem pay39_apply (w : FVec Ideal S256x128 .f32) :
    k0_pay39 (F := Ideal) w (ix2 i c) = w (ix2 i ⟨28 + c.val / 128, by omega⟩) := by
  pointwise [k0_pay39]
  split_ifs <;> exact congrArg (fun l => w (ix2 i l)) (Fin.ext (by show _ = 28 + c.val / 128; simp; omega))

theorem pay41_apply (v0 v233 v236 v239 v264 v267 : FVec Ideal S256x1024 .f32) (cst : Ideal .f32) (v276 : FVec Ideal S1x1024x1024 .bf16)
    (v283 v285 : FVec Ideal S1x1024 .f32) :
    k0_pay41 (F := Ideal) v0 v233 v236 v239 v264 v267 cst v276 v283 v285 (ix2 i c)
      = layerNorm (fun d => alpha * v0 (ix2 i d) + (v233 (ix2 i d)
          + ∑ k, v236 (ix2 i k) * Ideal.div 1 (cst + v267 (ix2 i k)) * v239 (ix2 i k) * v264 (ix2 i k) * v276 (ix3 0 k d)))
          (fun d => v283 (ix2 0 d)) (fun d => v285 (ix2 0 d)) c := by
  pointwise [k0_pay41]
  rfl

theorem ld0 (x : Vec Ideal S4x1024x1024 .bf16) (d : Fin 1024) : View.ld x r0_3 (ix3 0 d c) = x (ix3 0 d c) := by
  pointwise []

theorem ld1 (x : Vec Ideal S4x1024x1024 .bf16) (d : Fin 1024) : View.ld x r0_4 (ix3 0 d c) = x (ix3 1 d c) := by
  pointwise []

theorem ld2 (x : Vec Ideal S4x1024x1024 .bf16) (d : Fin 1024) : View.ld x r0_5 (ix3 0 d c) = x (ix3 2 d c) := by
  pointwise []

theorem ld3 (x : Vec Ideal S4x1024x1024 .bf16) (d : Fin 1024) : View.ld x r0_6 (ix3 0 d c) = x (ix3 3 d c) := by
  pointwise []

end

theorem ix3_eta (j : S1x1024x1024.Idx) : ∃ a b : Fin 1024, j = ix3 0 a b :=
  ⟨j 1, j 2, funext fun a => match a with
    | ⟨0, _⟩ => Subsingleton.elim (α := Fin 1) _ _
    | ⟨1, _⟩ => rfl
    | ⟨2, _⟩ => rfl⟩

/-- The slice of group `g` of a stacked weight. -/
def slab (x : Vec Ideal S4x1024x1024 .bf16) (g : Fin 4) : FVec Ideal S1x1024x1024 .bf16 := fun j => x (ix3 g (j 1) (j 2))

theorem slab0 (x : Vec Ideal S4x1024x1024 .bf16) : View.ld x r0_3 = slab x 0 := by
  funext j
  obtain ⟨a, b, rfl⟩ := ix3_eta j
  exact ld0 b x a

theorem slab1 (x : Vec Ideal S4x1024x1024 .bf16) : View.ld x r0_4 = slab x 1 := by
  funext j
  obtain ⟨a, b, rfl⟩ := ix3_eta j
  exact ld1 b x a

theorem slab2 (x : Vec Ideal S4x1024x1024 .bf16) : View.ld x r0_5 = slab x 2 := by
  funext j
  obtain ⟨a, b, rfl⟩ := ix3_eta j
  exact ld2 b x a

theorem slab3 (x : Vec Ideal S4x1024x1024 .bf16) : View.ld x r0_6 = slab x 3 := by
  funext j
  obtain ⟨a, b, rfl⟩ := ix3_eta j
  exact ld3 b x a

theorem hz2 : (![0, 0] : Fin 2 → Nat) = fun _ => 0 := funext fun a => by fin_cases a <;> rfl

section

variable (x0 : Vec Ideal S256x1024 .f32) (x1 x2 : Vec Ideal S1024x128 .bf16) (x3 : Vec Ideal S1x128 .f32)
  (x4 x5 x6 : Vec Ideal S4x1024x1024 .bf16) (x7 x8 : Vec Ideal S1x1024 .f32) (i : Fin 256)

/-- What a grid point leaves in the output block, at row `i` and column `c`, the
    combining weights on lanes 4–35 given. -/
theorem out_of_weights (w : Fin 32 → EReal)
    (hw : ∀ e : Fin 32, k0_pay52 (F := Ideal) x0 x1 x2 x3 x4 x5 x6 x7 x8 (ix2 i ⟨4 + e.val, by omega⟩) = w e) (c : Fin 1024) :
    out0_9 (F := Ideal) x0 x1 x2 x3 x4 x5 x6 x7 x8 (ix2 i c)
      = row (fun d => x0 (ix2 i d)) (fun g d k => x4 (ix3 g d k)) (fun g d k => x5 (ix3 g d k)) (fun g k d => x6 (ix3 g k d))
          w (fun d => x7 (ix2 0 d)) (fun d => x8 (ix2 0 d)) c := by
  have hw0 : ∀ k : Fin 1024, k0_pay52 (F := Ideal) x0 x1 x2 x3 x4 x5 x6 x7 x8 (ix2 i ⟨4 + k.val / 128, by omega⟩)
      = w ⟨8 * 0 + k.val / 128, by omega⟩ := fun k => (hw ⟨k.val / 128, by omega⟩).trans (congrArg _ (Fin.ext (by show k.val / 128 = 8 * 0 + k.val / 128; omega)))
  have hw1 : ∀ k : Fin 1024, k0_pay52 (F := Ideal) x0 x1 x2 x3 x4 x5 x6 x7 x8 (ix2 i ⟨12 + k.val / 128, by omega⟩)
      = w ⟨8 * 1 + k.val / 128, by omega⟩ := fun k => by
    rw [← hw]; exact congrArg (fun l => k0_pay52 (F := Ideal) x0 x1 x2 x3 x4 x5 x6 x7 x8 (ix2 i l)) (Fin.ext (by show 12 + k.val / 128 = 4 + (8 * 1 + k.val / 128); omega))
  have hw2 : ∀ k : Fin 1024, k0_pay52 (F := Ideal) x0 x1 x2 x3 x4 x5 x6 x7 x8 (ix2 i ⟨20 + k.val / 128, by omega⟩)
      = w ⟨8 * 2 + k.val / 128, by omega⟩ := fun k => by
    rw [← hw]; exact congrArg (fun l => k0_pay52 (F := Ideal) x0 x1 x2 x3 x4 x5 x6 x7 x8 (ix2 i l)) (Fin.ext (by show 20 + k.val / 128 = 4 + (8 * 2 + k.val / 128); omega))
  have hw3 : ∀ k : Fin 1024, k0_pay52 (F := Ideal) x0 x1 x2 x3 x4 x5 x6 x7 x8 (ix2 i ⟨28 + k.val / 128, by omega⟩)
      = w ⟨8 * 3 + k.val / 128, by omega⟩ := fun k => by
    rw [← hw]; exact congrArg (fun l => k0_pay52 (F := Ideal) x0 x1 x2 x3 x4 x5 x6 x7 x8 (ix2 i l)) (Fin.ext (by show 28 + k.val / 128 = 4 + (8 * 3 + k.val / 128); omega))
  have h43 : ∀ d, k0_pay43 (F := Ideal) x0 x1 x2 x3 x4 x5 x6 x7 x8 (ix2 i d) = x0 (ix2 i d) := fun d => by
    unfold k0_pay43; rw [View.ld_unit_zero hz2]; rfl
  have h20 : ∀ d, k0_pay20 (F := Ideal) (ix2 i d) = 0 := fun d => by pointwise [k0_pay20]
  have hone : (Scalar.ofBits .f32 0x3F800000#32 : Ideal .f32) = 1 := one_f32
  unfold out0_9
  rw [slab0 x4, slab0 x5, slab0 x6, slab1 x4, slab1 x5, slab1 x6, slab2 x4, slab2 x5, slab2 x6, slab3 x4, slab3 x5, slab3 x6,
    View.canon_unit_zero hz2, pay41_apply]
  unfold row
  refine congrArg₂ (fun a b => a + b) (congrArg₂ (fun a b => a * b) ?_ ?_) ?_
  · refine congrArg (fun z => normed 0x44800000#32 0x3727C5AC#32 z c) (funext fun d => ?_)
    rw [View.ld_unit_zero hz2]
    refine congrArg₂ (fun a b => a + b) rfl ?_
    rw [Fin.sum_univ_four]
    simp only [pay36_apply, pay30_apply, pay25_apply, pay21_apply, pay22_apply, pay26_apply, pay27_apply, pay31_apply, pay32_apply,
      pay37_apply, pay38_apply, pay24_apply, pay29_apply, pay34_apply, pay40_apply, pay28_apply, pay33_apply, pay39_apply,
      h43, h20, hone, hw1, hw2, hw3, zero_add]
    have h23 : ∀ k : Fin 1024, k0_pay23 (F := Ideal) (k0_pay42 x0 x1 x2 x3 x4 x5 x6 x7 x8) (k0_pay48 x0 x1 x2 x3 x4 x5 x6 x7 x8) (k0_pay49 x0 x1 x2 x3 x4 x5 x6 x7 x8) (k0_pay50 x0 x1 x2 x3 x4 x5 x6 x7 x8) (Scalar.ofBits .f32 0x00000000#32) (k0_pay51 x0 x1 x2 x3 x4 x5 x6 x7 x8) (ix2 i k)
        = w ⟨8 * 0 + k.val / 128, by omega⟩ := fun k => (pay23_apply i k _ _ _ _ _ _).trans (hw0 k)
    simp only [h23]
    rfl
  · rw [View.ld_unit_zero hz2]
  · rw [View.ld_unit_zero hz2]

end

section

variable (x0 : Vec Ideal S256x1024 .f32) (x1 x2 : Vec Ideal S1024x128 .bf16) (x3 : Vec Ideal S1x128 .f32)
  (x4 x5 x6 : Vec Ideal S4x1024x1024 .bf16) (x7 x8 : Vec Ideal S1x1024 .f32) (i : Fin 256)
  (gl : Fin 4 → EReal) (el : Fin 4 → Fin 8 → EReal)
  (hx : ∀ k, ∃ r : ℝ, x0 (ix2 i k) = (r : EReal)) (hlo : ∀ k l, x2 (ix2 k l) = 0)
  (hgl : ∀ g, (∑ k : Fin 1024, x0 (ix2 i k) * x1 (ix2 k (laneG g))) + x3 (ix2 0 (laneG g)) = gl g)
  (hel : ∀ g e, (∑ k : Fin 1024, x0 (ix2 i k) * x1 (ix2 k (laneE g e))) + x3 (ix2 0 (laneE g e)) = el g e)
  (hb : ∀ g e, el g e ≠ ⊥)

include hx hlo hgl hel hb

/-- The combining weights a point lays on lanes 4–35 are the router's, expert by expert. -/
theorem weights_apply (e : Fin 32) :
    k0_pay52 (F := Ideal) x0 x1 x2 x3 x4 x5 x6 x7 x8 (ix2 i ⟨4 + e.val, by omega⟩) = combine gl el e := by
  unfold k0_pay52 k0_pay51 k0_pay50 k0_pay49 k0_pay48 k0_pay47 k0_pay46 k0_pay45 k0_pay44 k0_pay42
  repeat rw [View.ld_unit_zero hz2]
  have h2 := pay2_apply i x0 x1 x2 x1 x3 hx hlo
  have hl : ∀ l : Fin 128, iota .tc S256x128 32 [1] iota_S256x128_d1_w32 (ix2 i l) = BitVec.ofNat 32 l.val := fun l => by
    pointwise []
  have h5 := pay5_apply i _ gl x0 x1 x2 x1 x3 h2 hgl
  have h6 := pay6_apply i _ gl x0 x1 x2 x1 x3 h2 hgl
  have h7 : k0_pay7 (F := Ideal) (ix2 i 0) = 1 := by pointwise [k0_pay7]
  have h14 := pay14_apply i _ (first gl) (el (first gl)) _ _ _ h2 hl h5 (hel _) (hb _)
  have h16 := pay16_apply i _ (first gl) (el (first gl)) _ _ _ h2 hl h5 (hel _) (hb _)
  have h17 := pay17_apply i _ (first gl) (el (first gl)) _ _ _ h2 hl h5 (hel _) (hb _)
  have h18 := pay18_apply i _ (first gl) (el (first gl)) _ _ _ h2 hl h5 (hel _) (hb _)
  rw [pay19_apply i _ _ _ _ _ _ _ hl h17 h14, h16, h18, h6, h7]
  have hc : ∀ j : Fin 8, ((⟨4 + e.val, by omega⟩ : Fin 128) = laneE (first gl) j) = (e.val = 8 * (first gl).val + j.val) := fun j =>
    propext ⟨fun h => by
      have : 4 + e.val = 4 + 8 * (first gl).val + j.val := congrArg Fin.val h
      omega, fun h => Fin.ext (by show 4 + e.val = 4 + 8 * (first gl).val + j.val; omega)⟩
  simp only [hc]
  rfl

/-- What a grid point leaves in the output block, at row `i` and column `c`. -/
theorem out_apply (c : Fin 1024) :
    out0_9 (F := Ideal) x0 x1 x2 x3 x4 x5 x6 x7 x8 (ix2 i c)
      = row (fun d => x0 (ix2 i d)) (fun g d k => x4 (ix3 g d k)) (fun g d k => x5 (ix3 g d k)) (fun g k d => x6 (ix3 g k d))
          (combine gl el) (fun d => x7 (ix2 0 d)) (fun d => x8 (ix2 0 d)) c :=
  out_of_weights x0 x1 x2 x3 x4 x5 x6 x7 x8 i _ (weights_apply x0 x1 x2 x3 x4 x5 x6 x7 x8 i gl el hx hlo hgl hel hb) c

end

end Cert.MoeDBlock

end
-- ==== Proof.MoeDHost.lean ====
/- For the sample batch (512 tokens, blocks of 256). What the host prepares for the mixture-of-experts launch, entry by entry: the router's weights side by side, the
   experts' weights stacked by group, and the low half of the router's weights, which is zero where they are finite. -/
module

public import proofs.«01_k».proof.Proof.MoeDBlock

@[expose] public section

set_option maxRecDepth 16384

noncomputable section

namespace Cert.MoeDHost

open Idealize.ShloMosaic Idealize.ShloMosaic.TcCoe Idealize.SL.Sem Cert.MoeDIdeal Cert.MoeDIdeal.Gen Cert.MoeDIdeal.Value Cert.MoeDBlock Cert.MoeDLanes

variable (m : (ℓ : Loc nD τ sig) → Buf (Elt Ideal) ℓ) (ρ : Dev nD → PrngReg) (c : Dev nD)

/-- The experts' router weights with the group and the expert on one axis. -/
theorem flat_re (x : FVec Ideal S4x1024x8 .f32) (k : Fin 1024) (g : Fin 4) (e : Fin 8) (h : 4 + 8 * g.val + e.val - 4 < 32) :
    shapeCast S1024x32 (transpose S1024x4x8 [1, 0, 2] x transposes_S4x1024x8_S1024x4x8_1_0_2) shapeCasts_S1024x4x8_S1024x32
      (ix2 k ⟨4 + 8 * g.val + e.val - 4, h⟩) = x (ix3 g k e) := by
  pointwise []
  exact congrArg₂ (fun a b => x (ix3 a k b)) (Fin.ext (by show (4 + 8 * g.val + e.val - 4) / 8 = g.val; omega)) (Fin.ext (by show (4 + 8 * g.val + e.val - 4) % 8 = e.val; omega))

/-- The experts' biases on one axis. -/
theorem flat_be (x : FVec Ideal S4x8 .f32) (g : Fin 4) (e : Fin 8) (h : 4 + 8 * g.val + e.val - 4 < 32) :
    shapeCast S32 x shapeCasts_S4x8_S32 (ix1 ⟨4 + 8 * g.val + e.val - 4, h⟩) = x (ix2 g e) := by
  pointwise []
  exact congrArg₂ (fun a b => x (ix2 a b)) (Fin.ext (by show (4 + 8 * g.val + e.val - 4) / 8 = g.val; omega)) (Fin.ext (by show (4 + 8 * g.val + e.val - 4) % 8 = e.val; omega))

theorem V_v4G (k : Fin 1024) (g : Fin 4) :
    (V m c main_v4 : FVec Ideal S1024x128 .bf16) (ix2 k (laneG g)) = (m ((c : Thread nD τ).loc main_arg1) : FVec Ideal S1024x4 .f32) (ix2 k g) := by
  unfold_abbrev_sides
  after_results
  pointwise []
  repeat (first
    | rw [StableHlo.nullary_result] | rw [StableHlo.unary_result] | rw [StableHlo.reshape_result]
    | (rw [StableHlo.nullary_result_ne]; rotate_left; decide) | (rw [StableHlo.unary_result_ne]; rotate_left; decide)
    | (rw [StableHlo.binary_result_ne]; rotate_left; decide) | (rw [StableHlo.reshape_result_ne]; rotate_left; decide)
    | (rw [StableHlo.nary_result_ne]; rotate_left; decide))

theorem V_v4E (k : Fin 1024) (g : Fin 4) (e : Fin 8) :
    (V m c main_v4 : FVec Ideal S1024x128 .bf16) (ix2 k (laneE g e)) = (m ((c : Thread nD τ).loc main_arg3) : FVec Ideal S4x1024x8 .f32) (ix3 g k e) := by
  unfold_abbrev_sides
  after_results
  pointwise []
  rw [dif_neg (show ¬ (laneE g e).val < 4 by show ¬ 4 + 8 * g.val + e.val < 4; omega),
    dif_pos (show (laneE g e).val - 4 < 32 by show 4 + 8 * g.val + e.val - 4 < 32; omega)]
  repeat (first
    | rw [StableHlo.nullary_result] | rw [StableHlo.unary_result] | rw [StableHlo.reshape_result]
    | (rw [StableHlo.nullary_result_ne]; rotate_left; decide) | (rw [StableHlo.unary_result_ne]; rotate_left; decide)
    | (rw [StableHlo.binary_result_ne]; rotate_left; decide) | (rw [StableHlo.reshape_result_ne]; rotate_left; decide)
    | (rw [StableHlo.nary_result_ne]; rotate_left; decide))
  exact flat_re (m ((c : Thread nD τ).loc main_arg3)) k g e _

theorem V_v4_whole : (V m c main_v4 : FVec Ideal S1024x128 .bf16) = truncf (F := Ideal) .bf16 (V m c main_v3 : FVec Ideal S1024x128 .f32) bitsLt_bf16_f32 := by
  unfold_abbrev_sides
  after_results
  refine congrArg (fun w : FVec Ideal S1024x128 .f32 => truncf (F := Ideal) .bf16 w bitsLt_bf16_f32) (Eq.symm ?_)
  unfold_abbrev_sides
  after_results
  rfl

theorem V_v7_whole :
    (V m c main_v7 : FVec Ideal S1024x128 .bf16)
      = truncf (F := Ideal) .bf16 (subf (F := Ideal) (V m c main_v3 : FVec Ideal S1024x128 .f32) (extf (F := Ideal) .f32 (V m c main_v4 : FVec Ideal S1024x128 .bf16) bitsLt_bf16_f32)) bitsLt_bf16_f32 := by
  rw [V_v4_whole]
  unfold_abbrev_sides
  after_results
  refine congrArg (fun w : FVec Ideal S1024x128 .f32 => truncf (F := Ideal) .bf16 (subf (F := Ideal) w (extf (F := Ideal) .f32 (truncf (F := Ideal) .bf16 w bitsLt_bf16_f32) bitsLt_bf16_f32)) bitsLt_bf16_f32) (Eq.symm ?_)
  unfold_abbrev_sides
  after_results
  rfl

/-- The low half of a router weight is the weight less itself. -/
theorem V_v7 (k : Fin 1024) (l : Fin 128) (v : EReal) (hv : (V m c main_v4 : FVec Ideal S1024x128 .bf16) (ix2 k l) = v) :
    (V m c main_v7 : FVec Ideal S1024x128 .bf16) (ix2 k l) = v - v := by
  have h3 : (V m c main_v3 : FVec Ideal S1024x128 .f32) (ix2 k l) = v := by
    rw [← hv, V_v4_whole]
    rfl
  rw [V_v7_whole]
  show FloatOps.subf (F := Ideal) (φ := .f32) ((V m c main_v3 : FVec Ideal S1024x128 .f32) (ix2 k l)) ((V m c main_v4 : FVec Ideal S1024x128 .bf16) (ix2 k l)) = _
  rw [h3, hv]
  rfl

theorem V_v4Z (k : Fin 1024) (l : Fin 128) (h : 36 ≤ l.val) :
    (V m c main_v4 : FVec Ideal S1024x128 .bf16) (ix2 k l) = (0 : EReal) := by
  unfold_abbrev_sides
  after_results
  pointwise []
  rw [dif_neg (show ¬ l.val < 4 by omega), dif_neg (show ¬ l.val - 4 < 32 by omega)]
  repeat (first
    | rw [StableHlo.nullary_result] | rw [StableHlo.unary_result] | rw [StableHlo.reshape_result]
    | (rw [StableHlo.nullary_result_ne]; rotate_left; decide) | (rw [StableHlo.unary_result_ne]; rotate_left; decide)
    | (rw [StableHlo.binary_result_ne]; rotate_left; decide) | (rw [StableHlo.reshape_result_ne]; rotate_left; decide)
    | (rw [StableHlo.nary_result_ne]; rotate_left; decide))
  pointwise []
  rfl

theorem V_v11G (g : Fin 4) :
    (V m c main_v11 : FVec Ideal S1x128 .f32) (ix2 0 (laneG g)) = (m ((c : Thread nD τ).loc main_arg2) : FVec Ideal S4 .f32) (ix1 g) := by
  unfold_abbrev_sides
  after_results
  pointwise []
  repeat (first
    | rw [StableHlo.nullary_result] | rw [StableHlo.unary_result] | rw [StableHlo.reshape_result]
    | (rw [StableHlo.nullary_result_ne]; rotate_left; decide) | (rw [StableHlo.unary_result_ne]; rotate_left; decide)
    | (rw [StableHlo.binary_result_ne]; rotate_left; decide) | (rw [StableHlo.reshape_result_ne]; rotate_left; decide)
    | (rw [StableHlo.nary_result_ne]; rotate_left; decide))

theorem V_v11E (g : Fin 4) (e : Fin 8) :
    (V m c main_v11 : FVec Ideal S1x128 .f32) (ix2 0 (laneE g e)) = (m ((c : Thread nD τ).loc main_arg4) : FVec Ideal S4x8 .f32) (ix2 g e) := by
  unfold_abbrev_sides
  after_results
  pointwise []
  rw [dif_neg (show ¬ (laneE g e).val < 4 by show ¬ 4 + 8 * g.val + e.val < 4; omega),
    dif_pos (show (laneE g e).val - 4 < 32 by show 4 + 8 * g.val + e.val - 4 < 32; omega)]
  repeat (first
    | rw [StableHlo.nullary_result] | rw [StableHlo.unary_result] | rw [StableHlo.reshape_result]
    | (rw [StableHlo.nullary_result_ne]; rotate_left; decide) | (rw [StableHlo.unary_result_ne]; rotate_left; decide)
    | (rw [StableHlo.binary_result_ne]; rotate_left; decide) | (rw [StableHlo.reshape_result_ne]; rotate_left; decide)
    | (rw [StableHlo.nary_result_ne]; rotate_left; decide))
  exact flat_be (m ((c : Thread nD τ).loc main_arg4)) g e _

theorem V_v15 (g : Fin 4) (d k : Fin 1024) :
    (V m c main_v15 : FVec Ideal S4x1024x1024 .bf16) (ix3 g d k)
      = (m ((c : Thread nD τ).loc main_arg5) : FVec Ideal S32x1024x128 .f32) (ix3 ⟨8 * g.val + k.val / 128, by omega⟩ d ⟨k.val % 128, by omega⟩) := by
  unfold_abbrev_sides
  after_results
  pointwise []
  exact congrArg (fun e => (m ((c : Thread nD τ).loc main_arg5) : FVec Ideal S32x1024x128 .f32) (ix3 e d ⟨k.val % 128, by omega⟩)) (Fin.ext (by show g.val * 8 + k.val / 128 = 8 * g.val + k.val / 128; omega))

theorem V_v19 (g : Fin 4) (d k : Fin 1024) :
    (V m c main_v19 : FVec Ideal S4x1024x1024 .bf16) (ix3 g d k)
      = (m ((c : Thread nD τ).loc main_arg6) : FVec Ideal S32x1024x128 .f32) (ix3 ⟨8 * g.val + k.val / 128, by omega⟩ d ⟨k.val % 128, by omega⟩) := by
  unfold_abbrev_sides
  after_results
  pointwise []
  exact congrArg (fun e => (m ((c : Thread nD τ).loc main_arg6) : FVec Ideal S32x1024x128 .f32) (ix3 e d ⟨k.val % 128, by omega⟩)) (Fin.ext (by show g.val * 8 + k.val / 128 = 8 * g.val + k.val / 128; omega))

theorem V_v21 (g : Fin 4) (k d : Fin 1024) :
    (V m c main_v21 : FVec Ideal S4x1024x1024 .bf16) (ix3 g k d)
      = (m ((c : Thread nD τ).loc main_arg7) : FVec Ideal S32x128x1024 .f32) (ix3 ⟨8 * g.val + k.val / 128, by omega⟩ ⟨k.val % 128, by omega⟩ d) := by
  unfold_abbrev_sides
  after_results
  pointwise []
  exact congrArg (fun e => (m ((c : Thread nD τ).loc main_arg7) : FVec Ideal S32x128x1024 .f32) (ix3 e ⟨k.val % 128, by omega⟩ d)) (Fin.ext (by show g.val * 8 + k.val / 128 = 8 * g.val + k.val / 128; omega))

theorem V_v22 (d : Fin 1024) :
    (V m c main_v22 : FVec Ideal S1x1024 .f32) (ix2 0 d) = (m ((c : Thread nD τ).loc main_arg8) : FVec Ideal S1024 .f32) (ix1 d) := by
  unfold_abbrev_sides
  after_results
  pointwise []

theorem V_v23 (d : Fin 1024) :
    (V m c main_v23 : FVec Ideal S1x1024 .f32) (ix2 0 d) = (m ((c : Thread nD τ).loc main_arg9) : FVec Ideal S1024 .f32) (ix1 d) := by
  unfold_abbrev_sides
  after_results
  pointwise []

end Cert.MoeDHost

end
-- ==== Proof.MoeDInf.lean ====
/- For the sample batch (512 tokens, blocks of 256). The mixture's row where something in it is infinite: an infinite token entry, or an infinite weight of the chosen
   experts, leaves the layer norm's bias, or has no effect at all. -/
module

public import proofs.«01_k».proof.Proof.RowsInf
public import proofs.«01_k».proof.Proof.MoeDBlock

@[expose] public section

noncomputable section

namespace Cert.MoeDInf

open Idealize.ShloMosaic Cert.Rows Cert.MoeDBlock Cert.MoeRouter
open Cert.MoeDLanes (groupWeight ratio combine)

/-- A token with an infinite entry has the layer norm's bias as its output, whatever the experts' weights are. -/
theorem row_inf (x : Fin 1024 → EReal) (wg wu wd : Fin 4 → Fin 1024 → Fin 1024 → EReal) (w : Fin 32 → EReal) (gm bt : Fin 1024 → EReal)
    (j : Fin 1024) (h : Inf (x j)) (c : Fin 1024) : row x wg wu wd w gm bt c = bt c :=
  layerNorm_inf _ _ _ j (residual_inf h _) c

theorem Inf.mul {a : EReal} (h : Inf a) {b : EReal} (hb : b ≠ 0) : Inf (a * b) := by
  rcases h with rfl | rfl <;> rcases lt_or_gt_of_ne hb with hb | hb
  · exact Or.inr (EReal.top_mul_of_neg hb)
  · exact Or.inl (EReal.top_mul_of_pos hb)
  · exact Or.inl (EReal.bot_mul_of_neg hb)
  · exact Or.inr (EReal.bot_mul_of_pos hb)

/-- Two values that are both zero or both infinite. -/
def Alike (a b : EReal) : Prop := (a = 0 ∧ b = 0) ∨ (Inf a ∧ Inf b)

theorem Alike.mul_right {a b : EReal} (h : Alike a b) (u : EReal) : Alike (a * u) (b * u) := by
  by_cases hu : u = 0
  · exact Or.inl ⟨by rw [hu, mul_zero], by rw [hu, mul_zero]⟩
  · rcases h with ⟨rfl, rfl⟩ | ⟨ha, hb⟩
    · exact Or.inl ⟨zero_mul _, zero_mul _⟩
    · exact Or.inr ⟨Inf.mul ha hu, Inf.mul hb hu⟩

theorem Alike.mul_left {a b : EReal} (h : Alike a b) (u : EReal) : Alike (u * a) (u * b) := by
  rw [mul_comm u a, mul_comm u b]
  exact h.mul_right u

/-- Two families of experts' weights, zero and infinite at the same experts, give a token the same output. -/
theorem row_alike (x : Fin 1024 → EReal) (wg wu wd : Fin 4 → Fin 1024 → Fin 1024 → EReal) (w w' : Fin 32 → EReal) (gm bt : Fin 1024 → EReal)
    (h : ∀ e, Alike (w e) (w' e)) (c : Fin 1024) : row x wg wu wd w gm bt c = row x wg wu wd w' gm bt c := by
  have term : ∀ g k d, Alike (hidden x (wg g) (wu g) (fun e => w ⟨8 * g.val + e.val, by omega⟩) k * wd g k d)
      (hidden x (wg g) (wu g) (fun e => w' ⟨8 * g.val + e.val, by omega⟩) k * wd g k d) := fun g k d =>
    ((h _).mul_left _).mul_right _
  by_cases hi : ∃ d g k, Inf (hidden x (wg g) (wu g) (fun e => w ⟨8 * g.val + e.val, by omega⟩) k * wd g k d)
      ∧ Inf (hidden x (wg g) (wu g) (fun e => w' ⟨8 * g.val + e.val, by omega⟩) k * wd g k d)
  · obtain ⟨d, g, k, h1, h2⟩ := hi
    unfold row
    refine (layerNorm_inf _ _ _ d ?_ c).trans (layerNorm_inf _ _ _ d ?_ c).symm
    · exact Inf.add_left (Inf.sum _ g (Inf.sum _ k h1)) _
    · exact Inf.add_left (Inf.sum _ g (Inf.sum _ k h2)) _
  · push Not at hi
    unfold row
    refine congrArg (fun z => layerNorm z gm bt c) (funext fun d => ?_)
    refine congrArg (fun s => alpha * x d + s) (Finset.sum_congr rfl fun g _ => Finset.sum_congr rfl fun k _ => ?_)
    rcases term g k d with ⟨h1, h2⟩ | ⟨h1, h2⟩
    · rw [h1, h2]
    · exact absurd h2 (hi d g k h1)

/-- The experts' weights from a group weight, the chosen group and its experts' logits. -/
def combineWith (gw : EReal) (g : Fin 4) (v : Fin 8 → EReal) (e : Fin 32) : EReal :=
  (if e.val = 8 * g.val + (first v).val then Ideal.div gw (1 + ratio v) else 0)
    + (if e.val = 8 * g.val + (second v).val then Ideal.div (gw * ratio v) (1 + ratio v) else 0)

theorem combine_eq (gl : Fin 4 → EReal) (el : Fin 4 → Fin 8 → EReal) (e : Fin 32) :
    combine gl el e = combineWith (groupWeight gl) (first gl) (el (first gl)) e := rfl

/-- Less an infinite greatest logit every logit's exponential is zero. -/
theorem exp_less_inf (gl : Fin 4 → EReal) (h : Inf (gl (first gl))) (k : Fin 4) : Ideal.exp (gl k - gl (first gl)) = 0 := by
  have e : gl k - gl (first gl) = ⊥ := by
    have hle := (first_spec gl).1 k
    rcases h with h | h
    · rw [h, sub_eq_add_neg, EReal.neg_top, EReal.add_bot]
    · rw [h, le_bot_iff] at hle
      rw [hle, sub_eq_add_neg, EReal.bot_add]
  rw [e]
  rfl

/-- With an infinite greatest logit the sum of the exponentials is zero and the kernel's group weight is +∞. -/
theorem groupWeight_inf (gl : Fin 4 → EReal) (h : Inf (gl (first gl))) : groupWeight gl = ⊤ := by
  unfold groupWeight
  rw [Finset.sum_eq_zero fun k _ => exp_less_inf gl h k]
  simp [Ideal.div]

/-- An infinite group weight, of either sign, makes the chosen experts' weights infinite and leaves the others zero. -/
theorem combineWith_alike (v : Fin 8 → EReal) (hr : ∀ e, ∃ r : ℝ, v e = r) (g : Fin 4) (e : Fin 32) :
    Alike (combineWith ⊤ g v e) (combineWith ⊥ g v e) := by
  obtain ⟨p, hp⟩ := hr (second v)
  obtain ⟨q, hq⟩ := hr (first v)
  have er : ratio v = ((Real.exp (p - q) : ℝ) : EReal) := by
    unfold ratio
    rw [hp, hq, ← EReal.coe_sub]
    rfl
  have hpos : (0 : ℝ) < 1 + Real.exp (p - q) := add_pos one_pos (Real.exp_pos _)
  have e1 : 1 + ratio v = ((1 + Real.exp (p - q) : ℝ) : EReal) := by rw [er, EReal.coe_add]; rfl
  have hd : (0 : ℝ) < 1 / (1 + Real.exp (p - q)) := one_div_pos.mpr hpos
  unfold combineWith
  rw [e1, er, EReal.top_mul_coe_of_pos (Real.exp_pos _), EReal.bot_mul_coe_of_pos (Real.exp_pos _), Ideal.div_coe hpos.ne', Ideal.div_coe hpos.ne',
    EReal.top_mul_coe_of_pos hd, EReal.bot_mul_coe_of_pos hd]
  by_cases h1 : e.val = 8 * g.val + (first v).val
  · rw [if_pos h1, if_pos h1]
    exact Or.inr ⟨Inf.add_right (Or.inl rfl) _, Inf.add_right (Or.inr rfl) _⟩
  · rw [if_neg h1, if_neg h1, zero_add, zero_add]
    by_cases h2 : e.val = 8 * g.val + (second v).val
    · rw [if_pos h2, if_pos h2]
      exact Or.inr ⟨Or.inl rfl, Or.inr rfl⟩
    · rw [if_neg h2, if_neg h2]
      exact Or.inl ⟨rfl, rfl⟩

end Cert.MoeDInf

end
-- ==== Proof.MoeDArray.lean ====
/- For the sample batch (512 tokens, blocks of 256). The mixture's output array: each window's block as entries of its array, and the array after the run as the token rows
   of the arguments, where the router's weights and its experts' biases are real numbers. -/
module

public import proofs.«01_k».proof.Proof.MoeDHost
public import proofs.«01_k».proof.Proof.MoeDInf

@[expose] public section

set_option maxRecDepth 16384

noncomputable section

namespace Cert.MoeDArray

open Idealize.ShloMosaic Idealize.ShloMosaic.TcCoe Idealize.SL.Sem Cert.MoeDIdeal Cert.MoeDIdeal.Gen Cert.MoeDIdeal.Value Cert.MoeDBlock Cert.MoeDLanes Cert.MoeDHost

/-- The logit of group `g` of a token's row. -/
def groupLogit (x : Fin 1024 → EReal) (x1 : FVec Ideal S1024x4 .f32) (x2 : FVec Ideal S4 .f32) (g : Fin 4) : EReal :=
  (∑ k, x k * x1 (ix2 k g)) + x2 (ix1 g)

/-- The logit of expert `e` of group `g` of a token's row. -/
def expertLogit (x : Fin 1024 → EReal) (x3 : FVec Ideal S4x1024x8 .f32) (x4 : FVec Ideal S4x8 .f32) (g : Fin 4) (e : Fin 8) : EReal :=
  (∑ k, x k * x3 (ix3 g k e)) + x4 (ix2 g e)

/-- The expert that column `k` of group `g`'s stacked weights belongs to. -/
def expertOf (g : Fin 4) (k : Fin 1024) : Fin 32 := ⟨8 * g.val + k.val / 128, by omega⟩

/-- The hidden unit of its expert that column `k` is. -/
def unitOf (k : Fin 1024) : Fin 128 := ⟨k.val % 128, by omega⟩

/-- The mixture's output for all tokens as one function of the arguments. -/
def G (x0 : FVec Ideal S512x1024 .f32) (x1 : FVec Ideal S1024x4 .f32) (x2 : FVec Ideal S4 .f32) (x3 : FVec Ideal S4x1024x8 .f32)
    (x4 : FVec Ideal S4x8 .f32) (x5 x6 : FVec Ideal S32x1024x128 .f32) (x7 : FVec Ideal S32x128x1024 .f32) (x8 x9 : FVec Ideal S1024 .f32) :
    FVec Ideal S512x1024 .f32 := fun p =>
  row (fun d => x0 (ix2 (p 0 : Fin 512) d)) (fun g d k => x5 (ix3 (expertOf g k) d (unitOf k))) (fun g d k => x6 (ix3 (expertOf g k) d (unitOf k)))
    (fun g k d => x7 (ix3 (expertOf g k) (unitOf k) d))
    (combine (groupLogit (fun d => x0 (ix2 (p 0 : Fin 512) d)) x1 x2) (expertLogit (fun d => x0 (ix2 (p 0 : Fin 512) d)) x3 x4))
    (fun d => x8 (ix1 d)) (fun d => x9 (ix1 d)) (p 1 : Fin 1024)

/-- A token with an infinite entry has the layer norm's bias as its output. -/
theorem G_inf (x0 : FVec Ideal S512x1024 .f32) (x1 : FVec Ideal S1024x4 .f32) (x2 : FVec Ideal S4 .f32) (x3 : FVec Ideal S4x1024x8 .f32)
    (x4 : FVec Ideal S4x8 .f32) (x5 x6 : FVec Ideal S32x1024x128 .f32) (x7 : FVec Ideal S32x128x1024 .f32) (x8 x9 : FVec Ideal S1024 .f32)
    (t : Fin 512) (k : Fin 1024) (h : Rows.Inf (x0 (ix2 t k))) (d : Fin 1024) : G x0 x1 x2 x3 x4 x5 x6 x7 x8 x9 (ix2 t d) = x9 (ix1 d) :=
  MoeDInf.row_inf (fun d => x0 (ix2 t d)) _ _ _ _ _ _ k h d

/-- Every entry of the array is a real number. -/
def AllReal {S : Shape} (x : FVec Ideal S .f32) : Prop := ∀ p, ∃ r : ℝ, x p = (r : EReal)

/-- A sum of products of reals, and a real added, is a real. -/
theorem dot_real {n : Nat} (a b : Fin n → EReal) (d : EReal) (ha : ∀ k, ∃ r : ℝ, a k = r) (hb : ∀ k, ∃ r : ℝ, b k = r) (hd : ∃ r : ℝ, d = r) :
    ∃ r : ℝ, (∑ k, a k * b k) + d = (r : EReal) := by
  choose u hu using ha
  choose v hv using hb
  obtain ⟨w, rfl⟩ := hd
  have h : ∀ s : Finset (Fin n), ∑ k ∈ s, a k * b k = ((∑ k ∈ s, u k * v k : ℝ) : EReal) := fun s => by
    induction s using Finset.induction_on with
    | empty => simp
    | insert k s hk ih => rw [Finset.sum_insert hk, Finset.sum_insert hk, ih, hu, hv, EReal.coe_add, EReal.coe_mul]
  exact ⟨(∑ k, u k * v k) + w, by rw [h, EReal.coe_add]⟩

theorem expertLogit_real (x : Fin 1024 → EReal) (x3 : FVec Ideal S4x1024x8 .f32) (x4 : FVec Ideal S4x8 .f32)
    (hx : ∀ k, ∃ r : ℝ, x k = r) (h3 : AllReal x3) (h4 : AllReal x4) (g : Fin 4) (e : Fin 8) : ∃ r : ℝ, expertLogit x x3 x4 g e = r :=
  dot_real _ _ _ hx (fun _ => h3 _) (h4 _)

variable (m : (ℓ : Loc nD τ sig) → Buf (Elt Ideal) ℓ) (ρ : Dev nD → PrngReg) (c : Dev nD)

/-! Each window's block index: the tokens' and the output's windows advance with the grid point, the others stay. -/

theorem idx (t : Fin cfg0.N) :
    (win0_0.index t (0 : Fin 2) = t.val ∧ win0_0.index t (1 : Fin 2) = 0)
    ∧ (win0_9.index t (0 : Fin 2) = t.val ∧ win0_9.index t (1 : Fin 2) = 0) :=
  (by decide +kernel : ∀ t : Fin grid0.N,
    (win0_0.index t (0 : Fin 2) = t.val ∧ win0_0.index t (1 : Fin 2) = 0)
    ∧ (win0_9.index t (0 : Fin 2) = t.val ∧ win0_9.index t (1 : Fin 2) = 0)) t

theorem idxc (t : Fin cfg0.N) :
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0) :=
  (by decide +kernel : ∀ t : Fin grid0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)) t

/-- The token that row `i` of grid point `t`'s block is. -/
def tok (t : Fin cfg0.N) (i : Fin 256) : Fin 512 := ⟨t.val * 256 + i.val, by have := t.isLt; have h : cfg0.N = 2 := rfl; omega⟩

theorem emb0 (t : Fin cfg0.N) (i : Fin 256) (d : Fin 1024) : ((cfg0.win 0).blk t).view.emb (ix2 i d) = ix2 (tok t i) d := by
  obtain ⟨⟨e0, e1⟩, -⟩ := idx t
  funext a; apply Fin.ext
  match a with
  | ⟨0, _⟩ => show win0_0.index t (0 : Fin 2) * 256 + 1 * i.val = t.val * 256 + i.val; omega
  | ⟨1, _⟩ => show win0_0.index t (1 : Fin 2) * 1024 + 1 * d.val = d.val; omega

theorem emb9 (t : Fin cfg0.N) (i : Fin 256) (d : Fin 1024) : ((cfg0.win 9).blk t).view.emb (ix2 i d) = ix2 (tok t i) d := by
  obtain ⟨-, e0, e1⟩ := idx t
  funext a; apply Fin.ext
  match a with
  | ⟨0, _⟩ => show win0_9.index t (0 : Fin 2) * 256 + 1 * i.val = t.val * 256 + i.val; omega
  | ⟨1, _⟩ => show win0_9.index t (1 : Fin 2) * 1024 + 1 * d.val = d.val; omega

theorem emb1 (t : Fin cfg0.N) (j : S1024x128.Idx) : ((cfg0.win 1).blk t).view.emb j = j := by
  have e := idxc t
  funext a; apply Fin.ext
  match a with
  | ⟨0, _⟩ => show win0_1.index t (0 : Fin 2) * 1024 + 1 * (j 0).val = (j 0).val; omega
  | ⟨1, _⟩ => show win0_1.index t (1 : Fin 2) * 128 + 1 * (j 1).val = (j 1).val; omega

theorem emb2 (t : Fin cfg0.N) (j : S1024x128.Idx) : ((cfg0.win 2).blk t).view.emb j = j := by
  have e := idxc t
  funext a; apply Fin.ext
  match a with
  | ⟨0, _⟩ => show win0_2.index t (0 : Fin 2) * 1024 + 1 * (j 0).val = (j 0).val; omega
  | ⟨1, _⟩ => show win0_2.index t (1 : Fin 2) * 128 + 1 * (j 1).val = (j 1).val; omega

theorem emb3 (t : Fin cfg0.N) (j : S1x128.Idx) : ((cfg0.win 3).blk t).view.emb j = j := by
  have e := idxc t
  funext a; apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

theorem emb4 (t : Fin cfg0.N) (j : S4x1024x1024.Idx) : ((cfg0.win 4).blk t).view.emb j = j := by
  have e := idxc t
  funext a; apply Fin.ext
  match a with
  | ⟨0, _⟩ => show win0_4.index t (0 : Fin 3) * 4 + 1 * (j 0).val = (j 0).val; omega
  | ⟨1, _⟩ => show win0_4.index t (1 : Fin 3) * 1024 + 1 * (j 1).val = (j 1).val; omega
  | ⟨2, _⟩ => show win0_4.index t (2 : Fin 3) * 1024 + 1 * (j 2).val = (j 2).val; omega

theorem emb5 (t : Fin cfg0.N) (j : S4x1024x1024.Idx) : ((cfg0.win 5).blk t).view.emb j = j := by
  have e := idxc t
  funext a; apply Fin.ext
  match a with
  | ⟨0, _⟩ => show win0_5.index t (0 : Fin 3) * 4 + 1 * (j 0).val = (j 0).val; omega
  | ⟨1, _⟩ => show win0_5.index t (1 : Fin 3) * 1024 + 1 * (j 1).val = (j 1).val; omega
  | ⟨2, _⟩ => show win0_5.index t (2 : Fin 3) * 1024 + 1 * (j 2).val = (j 2).val; omega

theorem emb6 (t : Fin cfg0.N) (j : S4x1024x1024.Idx) : ((cfg0.win 6).blk t).view.emb j = j := by
  have e := idxc t
  funext a; apply Fin.ext
  match a with
  | ⟨0, _⟩ => show win0_6.index t (0 : Fin 3) * 4 + 1 * (j 0).val = (j 0).val; omega
  | ⟨1, _⟩ => show win0_6.index t (1 : Fin 3) * 1024 + 1 * (j 1).val = (j 1).val; omega
  | ⟨2, _⟩ => show win0_6.index t (2 : Fin 3) * 1024 + 1 * (j 2).val = (j 2).val; omega

theorem emb7 (t : Fin cfg0.N) (j : S1x1024.Idx) : ((cfg0.win 7).blk t).view.emb j = j := by
  have e := idxc t
  funext a; apply Fin.ext
  match a with
  | ⟨0, _⟩ => show win0_7.index t (0 : Fin 2) * 1 + 1 * (j 0).val = (j 0).val; omega
  | ⟨1, _⟩ => show win0_7.index t (1 : Fin 2) * 1024 + 1 * (j 1).val = (j 1).val; omega

theorem emb8 (t : Fin cfg0.N) (j : S1x1024.Idx) : ((cfg0.win 8).blk t).view.emb j = j := by
  have e := idxc t
  funext a; apply Fin.ext
  match a with
  | ⟨0, _⟩ => show win0_8.index t (0 : Fin 2) * 1 + 1 * (j 0).val = (j 0).val; omega
  | ⟨1, _⟩ => show win0_8.index t (1 : Fin 2) * 1024 + 1 * (j 1).val = (j 1).val; omega

/-! So each window's block, entry by entry, is the arguments' entries. -/

theorem iblk0 (t : Fin cfg0.N) (i : Fin 256) (d : Fin 1024) :
    (iblk m c 0 t : FVec Ideal S256x1024 .f32) (ix2 i d) = (m ((c : Thread nD τ).loc main_arg0) : FVec Ideal S512x1024 .f32) (ix2 (tok t i) d) := by
  rw [← V_main_arg0 m c]
  exact congrArg (V m c main_arg0) (emb0 t i d)

theorem iblk1G (t : Fin cfg0.N) (k : Fin 1024) (g : Fin 4) :
    (iblk m c 1 t : FVec Ideal S1024x128 .bf16) (ix2 k (laneG g)) = (m ((c : Thread nD τ).loc main_arg1) : FVec Ideal S1024x4 .f32) (ix2 k g) :=
  (congrArg (V m c main_v4) (emb1 t (ix2 k (laneG g)))).trans (V_v4G m c k g)

theorem iblk1E (t : Fin cfg0.N) (k : Fin 1024) (g : Fin 4) (e : Fin 8) :
    (iblk m c 1 t : FVec Ideal S1024x128 .bf16) (ix2 k (laneE g e)) = (m ((c : Thread nD τ).loc main_arg3) : FVec Ideal S4x1024x8 .f32) (ix3 g k e) :=
  (congrArg (V m c main_v4) (emb1 t (ix2 k (laneE g e)))).trans (V_v4E m c k g e)

/-- Every prepared router weight is a real number. -/
theorem v4_real (h1 : AllReal (m ((c : Thread nD τ).loc main_arg1) : FVec Ideal S1024x4 .f32)) (h3 : AllReal (m ((c : Thread nD τ).loc main_arg3) : FVec Ideal S4x1024x8 .f32)) (k : Fin 1024) (l : Fin 128) :
    ∃ r : ℝ, (V m c main_v4 : FVec Ideal S1024x128 .bf16) (ix2 k l) = (r : EReal) := by
  by_cases hl : l.val < 4
  · rw [show l = laneG ⟨l.val, hl⟩ from rfl, V_v4G]
    exact h1 _
  by_cases hl' : l.val < 36
  · rw [show l = laneE ⟨(l.val - 4) / 8, by omega⟩ ⟨(l.val - 4) % 8, by omega⟩ from
      Fin.ext (by show l.val = 4 + 8 * ((l.val - 4) / 8) + (l.val - 4) % 8; omega), V_v4E]
    exact h3 _
  · exact ⟨0, (V_v4Z m c k l (by omega)).trans EReal.coe_zero.symm⟩

/-- The low half of the router's weights is zero. -/
theorem iblk2 (h1 : AllReal (m ((c : Thread nD τ).loc main_arg1) : FVec Ideal S1024x4 .f32)) (h3 : AllReal (m ((c : Thread nD τ).loc main_arg3) : FVec Ideal S4x1024x8 .f32)) (t : Fin cfg0.N) (k : Fin 1024) (l : Fin 128) :
    (iblk m c 2 t : FVec Ideal S1024x128 .bf16) (ix2 k l) = (0 : EReal) := by
  obtain ⟨r, hr⟩ := v4_real m c h1 h3 k l
  refine (congrArg (V m c main_v7) (emb2 t (ix2 k l))).trans ((V_v7 m c k l _ hr).trans ?_)
  rw [← EReal.coe_sub, sub_self, EReal.coe_zero]

theorem iblk3G (t : Fin cfg0.N) (g : Fin 4) :
    (iblk m c 3 t : FVec Ideal S1x128 .f32) (ix2 0 (laneG g)) = (m ((c : Thread nD τ).loc main_arg2) : FVec Ideal S4 .f32) (ix1 g) :=
  (congrArg (V m c main_v11) (emb3 t (ix2 0 (laneG g)))).trans (V_v11G m c g)

theorem iblk3E (t : Fin cfg0.N) (g : Fin 4) (e : Fin 8) :
    (iblk m c 3 t : FVec Ideal S1x128 .f32) (ix2 0 (laneE g e)) = (m ((c : Thread nD τ).loc main_arg4) : FVec Ideal S4x8 .f32) (ix2 g e) :=
  (congrArg (V m c main_v11) (emb3 t (ix2 0 (laneE g e)))).trans (V_v11E m c g e)

theorem iblk4 (t : Fin cfg0.N) (g : Fin 4) (d k : Fin 1024) :
    (iblk m c 4 t : FVec Ideal S4x1024x1024 .bf16) (ix3 g d k) = (m ((c : Thread nD τ).loc main_arg5) : FVec Ideal S32x1024x128 .f32) (ix3 (expertOf g k) d (unitOf k)) :=
  (congrArg (V m c main_v15) (emb4 t (ix3 g d k))).trans (V_v15 m c g d k)

theorem iblk5 (t : Fin cfg0.N) (g : Fin 4) (d k : Fin 1024) :
    (iblk m c 5 t : FVec Ideal S4x1024x1024 .bf16) (ix3 g d k) = (m ((c : Thread nD τ).loc main_arg6) : FVec Ideal S32x1024x128 .f32) (ix3 (expertOf g k) d (unitOf k)) :=
  (congrArg (V m c main_v19) (emb5 t (ix3 g d k))).trans (V_v19 m c g d k)

theorem iblk6 (t : Fin cfg0.N) (g : Fin 4) (k d : Fin 1024) :
    (iblk m c 6 t : FVec Ideal S4x1024x1024 .bf16) (ix3 g k d) = (m ((c : Thread nD τ).loc main_arg7) : FVec Ideal S32x128x1024 .f32) (ix3 (expertOf g k) (unitOf k) d) :=
  (congrArg (V m c main_v21) (emb6 t (ix3 g k d))).trans (V_v21 m c g k d)

theorem iblk7 (t : Fin cfg0.N) (d : Fin 1024) :
    (iblk m c 7 t : FVec Ideal S1x1024 .f32) (ix2 0 d) = (m ((c : Thread nD τ).loc main_arg8) : FVec Ideal S1024 .f32) (ix1 d) :=
  (congrArg (V m c main_v22) (emb7 t (ix2 0 d))).trans (V_v22 m c d)

theorem iblk8 (t : Fin cfg0.N) (d : Fin 1024) :
    (iblk m c 8 t : FVec Ideal S1x1024 .f32) (ix2 0 d) = (m ((c : Thread nD τ).loc main_arg9) : FVec Ideal S1024 .f32) (ix1 d) :=
  (congrArg (V m c main_v23) (emb8 t (ix2 0 d))).trans (V_v23 m c d)

/-- `G` at the launch's arguments. -/
def res : FVec Ideal S512x1024 .f32 :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The router's weights and its experts' biases are real numbers. -/
structure RouterReal : Prop where
  wg : AllReal (m ((c : Thread nD τ).loc main_arg1) : FVec Ideal S1024x4 .f32)
  we : AllReal (m ((c : Thread nD τ).loc main_arg3) : FVec Ideal S4x1024x8 .f32)
  be : AllReal (m ((c : Thread nD τ).loc main_arg4) : FVec Ideal S4x8 .f32)

/-- What a grid point writes back is its block of the mixture of all tokens. -/
theorem flushed_eq (h : RouterReal m c) (t : Fin cfg0.N) :
    (dats m 0 c).flushed 9 t = ((cfg0.win 9).blk t).view.read (Elt Ideal) (res m c) := by
  rw [flushed9]
  funext j
  obtain ⟨i, d, rfl⟩ : ∃ (i : Fin 256) (d : Fin 1024), j = ix2 i d := ⟨j 0, j 1, eq_ix2 j⟩
  show out0_9 (F := Ideal) _ _ _ _ _ _ _ _ _ (ix2 i d) = res m c (((cfg0.win 9).blk t).view.emb (ix2 i d))
  rw [emb9]
  by_cases hi : ∃ k, Rows.Inf ((m ((c : Thread nD τ).loc main_arg0) : FVec Ideal S512x1024 .f32) (ix2 (tok t i) k))
  · obtain ⟨k, hk⟩ := hi
    have hG : res m c (ix2 (tok t i) d) = (m ((c : Thread nD τ).loc main_arg9) : FVec Ideal S1024 .f32) (ix1 d) :=
      G_inf _ _ _ _ _ _ _ _ _ _ (tok t i) k hk d
    rw [hG, ← iblk8 m c t d, out_of_weights _ _ _ _ _ _ _ _ _ i _ (fun _ => rfl)]
    refine MoeDInf.row_inf _ _ _ _ _ _ _ k ?_ d
    show Rows.Inf ((iblk m c 0 t : FVec Ideal S256x1024 .f32) (ix2 i k))
    rw [iblk0]
    exact hk
  have hx : ∀ k, ∃ r : ℝ, (fun d => (m ((c : Thread nD τ).loc main_arg0) : FVec Ideal S512x1024 .f32) (ix2 (tok t i) d)) k = (r : EReal) := fun k =>
    Rows.not_inf fun hk => hi ⟨k, hk⟩
  refine (out_apply _ _ _ _ _ _ _ _ _ i
    (groupLogit (fun d => (m ((c : Thread nD τ).loc main_arg0) : FVec Ideal S512x1024 .f32) (ix2 (tok t i) d)) (m ((c : Thread nD τ).loc main_arg1)) (m ((c : Thread nD τ).loc main_arg2)))
    (expertLogit (fun d => (m ((c : Thread nD τ).loc main_arg0) : FVec Ideal S512x1024 .f32) (ix2 (tok t i) d)) (m ((c : Thread nD τ).loc main_arg3)) (m ((c : Thread nD τ).loc main_arg4)))
    (fun k => ?_) (fun k l => iblk2 m c h.wg h.we t k l) (fun g => ?_) (fun g e => ?_) (fun g e => ?_) d).trans ?_
  · obtain ⟨r, hr⟩ := hx k
    exact ⟨r, (iblk0 m c t i k).trans hr⟩
  · simp only [iblk0, iblk1G, iblk3G]
    rfl
  · simp only [iblk0, iblk1E, iblk3E]
    rfl
  · obtain ⟨r, hr⟩ := expertLogit_real _ _ _ hx h.we h.be g e
    rw [hr]
    exact EReal.coe_ne_bot r
  · simp only [iblk0, iblk4, iblk5, iblk6, iblk7, iblk8]
    rfl

/-- Every index of the output array is in some grid point's block. -/
theorem covered (p : S512x1024.Idx) : ∃ t : Fin cfg0.N, (cfg0.win 9).flush t = true ∧ p ∈ ((cfg0.win 9).blk t).view.set := by
  obtain ⟨i, d, rfl⟩ : ∃ (i : Fin 512) (d : Fin 1024), p = ix2 i d := ⟨p 0, p 1, eq_ix2 p⟩
  refine ⟨⟨i.val / 256, by show i.val / 256 < 2; omega⟩, flush0_9 _, ?_⟩
  have h := ((cfg0.win 9).blk ⟨i.val / 256, by show i.val / 256 < 2; omega⟩).view.emb_mem_set (ix2 (⟨i.val % 256, by omega⟩ : Fin 256) d)
  rw [emb9] at h
  have e : tok ⟨i.val / 256, by show i.val / 256 < 2; omega⟩ ⟨i.val % 256, by omega⟩ = i := Fin.ext (by show i.val / 256 * 256 + i.val % 256 = i.val; omega)
  rwa [e] at h

/-- The output array after the run. -/
theorem final (h : RouterReal m c) : (dats m 0 c).arrAt 9 cfg0.N = res m c :=
  (dats m 0 c).arrAt_eq_of_cover 9 (res m c) (fun t _ => flushed_eq m c h t) covered

end Cert.MoeDArray

end
-- ==== Proof.MoeDRefOps.lean ====
/- For the sample batch (512 tokens, blocks of 256). The reference's shape operations the router uses, each read at one token: the top-k of a row, and the two
   gathers along the group axis. -/
module

public import proofs.«01_k».proof.Proof.MoeDLanes
public import proofs.«01_k».proof.Proof.Gen.MoeDRefIdeal.Read

@[expose] public section

set_option maxRecDepth 16384

noncomputable section

namespace Cert.MoeDRefOps

open Idealize.ShloMosaic Idealize.ShloMosaic.TcCoe Cert.MoeDRefIdeal Cert.MoeDRefIdeal.Read Cert.MoeRouter

/-- Replacing the last coordinate of a two-axis index. -/
theorem along_last {a b : Nat} (t : Fin a) (e k : Fin b) :
    Shape.Idx.along (s := ⟨2, ![a, b]⟩) (ix2 t e) 1 k = ix2 t k := by
  funext i
  match i with
  | ⟨0, _⟩ => rfl
  | ⟨1, _⟩ => rfl

/-- The sort along the last axis, read at one row: the row's own stable sort. -/
theorem sort_row {a n : Nat} (x : FVec Ideal ⟨2, ![a, n + 1]⟩ .f32) (t : Fin a) (j : Fin (n + 1)) :
    sortedFrom (fun k k' => FloatOps.cmpfTotal (F := Ideal) (φ := .f32) .gt
        (x (Shape.Idx.along (s := ⟨2, ![a, n + 1]⟩) (ix2 t j) 1 k)) (x (Shape.Idx.along (s := ⟨2, ![a, n + 1]⟩) (ix2 t j) 1 k')) == 1#1) j
      = sortedFrom (before (fun e => x (ix2 t e))) j := by
  rw [← sortedFrom_gt (fun e => x (ix2 t e))]
  exact congrArg (fun f => sortedFrom f j) (funext fun k => funext fun k' =>
    congrArg₂ (fun p q => FloatOps.cmpfTotal (F := Ideal) (φ := .f32) .gt (x p) (x q) == 1#1) (along_last t j k) (along_last t j k'))

/-- The values of the top-k of rows, in order of the stable sort. -/
theorem topK_value {a n k : Nat} (x : FVec Ideal ⟨2, ![a, n + 1]⟩ .f32)
    (h : (⟨2, ![a, n + 1]⟩ : Shape).Slices (fun _ => 0) ⟨2, ![a, k]⟩) (t : Fin a) (j : Fin k) (hj : j.val < n + 1) :
    (Host.topK ⟨2, ![a, k]⟩ 1 (FloatOps.cmpfTotal (F := Ideal) (φ := .f32) .gt) x h).1 (ix2 t j)
      = x (ix2 t (sortedFrom (before (fun e => x (ix2 t e))) ⟨j.val, hj⟩)) := by
  unfold Host.topK
  dsimp only
  refine (extractStridedSlice_apply (fun _ => 0) _ h (ix2 t j) (ix2 t ⟨j.val, hj⟩) (fun b => match b with
    | ⟨0, _⟩ => (Nat.zero_add _).symm
    | ⟨1, _⟩ => (Nat.zero_add _).symm)).trans ?_
  rw [← sort_row]
  exact congrArg x (along_last t ⟨j.val, hj⟩ _)

/-- The positions of the top-k of rows, as 32-bit words. -/
theorem topK_index {a n k : Nat} (x : FVec Ideal ⟨2, ![a, n + 1]⟩ .f32)
    (h : (⟨2, ![a, n + 1]⟩ : Shape).Slices (fun _ => 0) ⟨2, ![a, k]⟩) (t : Fin a) (j : Fin k) (hj : j.val < n + 1) :
    (Host.topK ⟨2, ![a, k]⟩ 1 (FloatOps.cmpfTotal (F := Ideal) (φ := .f32) .gt) x h).2 (ix2 t j)
      = BitVec.ofNat 32 (sortedFrom (before (fun e => x (ix2 t e))) ⟨j.val, hj⟩).val := by
  unfold Host.topK
  dsimp only
  refine (extractStridedSlice_apply (fun _ => 0) _ h (ix2 t j) (ix2 t ⟨j.val, hj⟩) (fun b => match b with
    | ⟨0, _⟩ => (Nat.zero_add _).symm
    | ⟨1, _⟩ => (Nat.zero_add _).symm)).trans ?_
  rw [← sort_row]
  rfl

/-! ## The gathers -/

/-- The start index of result index `(t, 0)`. -/
abbrev g0 (t : Fin 512) : S512x1x1.Idx := ix3 t 0 0

/-- The group softmax taken at each token's own group. -/
theorem gather4 (x : FVec Ideal S512x4 .f32) (idx : IVec S512x1x1 32) (t : Fin 512) :
    Host.gather gather_S512x4_S512x1x1_S512x1_n_1_0_0_1_2_11 x idx (ix2 t 0)
      = x (ix2 t ⟨min (idx (g0 t)).toInt.toNat 3, by omega⟩) := by
  unfold Host.gather
  congr 1
  funext a
  refine Fin.ext ?_
  generalize hd : gather_S512x4_S512x1x1_S512x1_n_1_0_0_1_2_11 = d
  show d.start (ix2 t 0) idx a + d.batchCoord (ix2 t 0) a + d.offCoord (ix2 t 0) a = _
  subst hd
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S512x4_S512x1x1_S512x1_n_1_0_0_1_2_11.operandBatchingDims from List.mem_singleton.mpr rfl)]
    rfl
  · rw [GatherDims.batchCoord_eq_zero _ _ _ (fun h => by have := List.mem_singleton.mp h; exact absurd this (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S512x4_S512x1x1_S512x1_n_1_0_0_1_2_11.startIndexMap from List.mem_singleton.mpr rfl)]
    have hsi : gather_S512x4_S512x1x1_S512x1_n_1_0_0_1_2_11.siIdx (ix2 t 0)
        ⟨List.idxOf (1 : Fin 2) gather_S512x4_S512x1x1_S512x1_n_1_0_0_1_2_11.startIndexMap,
          List.idxOf_lt_length_iff.2 (List.mem_singleton.mpr rfl)⟩ = g0 t := by
      funext b; refine Fin.ext ?_
      match b with
      | ⟨0, _⟩ => rfl
      | ⟨1, _⟩ => rfl
      | ⟨2, _⟩ => rfl
    rw [hsi]
    rfl

/-- The expert logits taken at each token's own group. -/
theorem gather8 (x : FVec Ideal S512x4x8 .f32) (idx : IVec S512x1x1 32) (t : Fin 512) (e : Fin 8) :
    Host.gather gather_S512x4x8_S512x1x1_S512x1x8_2_1_0_0_1_2_118 x idx (ix3 t 0 e)
      = x (ix3 t ⟨min (idx (g0 t)).toInt.toNat 3, by omega⟩ e) := by
  unfold Host.gather
  congr 1
  funext a
  refine Fin.ext ?_
  generalize hd : gather_S512x4x8_S512x1x1_S512x1x8_2_1_0_0_1_2_118 = d
  show d.start (ix3 t 0 e) idx a + d.batchCoord (ix3 t 0 e) a + d.offCoord (ix3 t 0 e) a = _
  subst hd
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S512x4x8_S512x1x1_S512x1x8_2_1_0_0_1_2_118.operandBatchingDims from List.mem_singleton.mpr rfl)]
    rfl
  · rw [GatherDims.batchCoord_eq_zero _ _ _ (fun h => by have := List.mem_singleton.mp h; exact absurd this (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S512x4x8_S512x1x1_S512x1x8_2_1_0_0_1_2_118.startIndexMap from List.mem_singleton.mpr rfl)]
    have hsi : gather_S512x4x8_S512x1x1_S512x1x8_2_1_0_0_1_2_118.siIdx (ix3 t 0 e)
        ⟨List.idxOf (1 : Fin 3) gather_S512x4x8_S512x1x1_S512x1x8_2_1_0_0_1_2_118.startIndexMap,
          List.idxOf_lt_length_iff.2 (List.mem_singleton.mpr rfl)⟩ = g0 t := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by have := List.mem_singleton.mp h; exact absurd this (by decide))]
    unfold GatherDims.start
    rw [dif_neg (show ¬ (2 : Fin 3) ∈ gather_S512x4x8_S512x1x1_S512x1x8_2_1_0_0_1_2_118.startIndexMap from
      fun h => by have := List.mem_singleton.mp h; exact absurd this (by decide))]
    simp only [Nat.zero_add]
    rfl

end Cert.MoeDRefOps

end
-- ==== Proof.MoeDRefRouter.lean ====
/- For the sample batch (512 tokens, blocks of 256). The reference's router at one token: the group logits, the chosen group and its softmax weight, the chosen
   group's expert logits, the two chosen experts and their weights, and the weight of each of the 32 experts. -/
module

public import proofs.«01_k».proof.Proof.MoeDRefOps
public import proofs.«01_k».proof.Proof.MoeDArray
public import Idealize.ShloMosaic.Lib.ReduceAll

@[expose] public section

set_option maxRecDepth 16384

noncomputable section

namespace Cert.MoeDRefRouter

open Idealize.ShloMosaic Idealize.ShloMosaic.TcCoe Cert.MoeDRefIdeal Cert.MoeDRefIdeal.Read Cert.MoeRouter Cert.MoeDRefOps
open Cert.MoeDLanes (groupWeight ratio)
open Cert.MoeDInf (combineWith)
open Cert.MoeDArray (groupLogit expertLogit)

variable (x0 : FVec Ideal S512x1024 .f32) (x1 : FVec Ideal S1024x4 .f32) (x2 : FVec Ideal S4 .f32)
    (x3 : FVec Ideal S4x1024x8 .f32) (x4 : FVec Ideal S4x8 .f32)

/-- Token `t`'s group logits. -/
abbrev gl (t : Fin 512) : Fin 4 → EReal := groupLogit (fun d => x0 (ix2 t d)) x1 x2

/-- Token `t`'s expert logits. -/
abbrev el (t : Fin 512) : Fin 4 → Fin 8 → EReal := expertLogit (fun d => x0 (ix2 t d)) x3 x4

theorem v3_apply (t : Fin 512) (g : Fin 4) : val_main_v3 (F := Ideal) x0 x1 x2 (ix2 t g) = gl x0 x1 x2 t g := by
  pointwise [val_main_v0, val_main_v1, val_main_v2, val_main_v3]
  rfl

theorem v22_apply (t : Fin 512) (g : Fin 4) (e : Fin 8) :
    val_main_v22 (F := Ideal) x0 x3 x4 (ix3 t g e) = el x0 x3 x4 t g e := by
  pointwise [val_main_v19, val_main_v20, val_main_v21, val_main_v22]
  rfl

/-! ## Words -/

/-- Wrapping a nonnegative group number changes nothing. -/
theorem wrap : ∀ g : Fin 4, Scalar.select (IntOp.cmpi .slt (BitVec.ofNat 32 g.val) 0#32) (IntOp.addi (BitVec.ofNat 32 g.val) 4#32)
    (BitVec.ofNat 32 g.val) = BitVec.ofNat 32 g.val := by
  decide

/-- A group number lies between 0 and 3. -/
theorem inside : ∀ g : Fin 4, IntOp.andi (IntOp.cmpi .sge (BitVec.ofNat 32 g.val) 0#32) (IntOp.cmpi .sle (BitVec.ofNat 32 g.val) 3#32) = 1#1 := by
  decide

/-- A group number clamped to the group axis is itself. -/
theorem clamp : ∀ g : Fin 4, min (BitVec.ofNat 32 g.val).toInt.toNat 3 = g.val := by
  decide

/-- The one-hot comparison of an expert's number. -/
theorem onehot (g : Fin 4) (j : Fin 8) (e : Fin 32) :
    FloatOps.uitofp (F := Ideal) .f32 (IntOp.cmpi .eq (IntOp.addi (IntOp.muli (BitVec.ofNat 32 g.val) 8#32) (BitVec.ofNat 32 j.val)) (BitVec.ofNat 32 e.val))
      = (if e.val = 8 * g.val + j.val then (1 : EReal) else 0) := by
  have hw : IntOp.addi (IntOp.muli (BitVec.ofNat 32 g.val) 8#32) (BitVec.ofNat 32 j.val) = BitVec.ofNat 32 (8 * g.val + j.val) := by
    revert g j; decide
  rw [hw]
  have hc : IntOp.cmpi .eq (BitVec.ofNat 32 (8 * g.val + j.val)) (BitVec.ofNat 32 e.val) = if e.val = 8 * g.val + j.val then 1#1 else 0#1 := by
    by_cases h : e.val = 8 * g.val + j.val
    · rw [if_pos h, h]
      show BitVec.ofBool (_ == _) = _
      rw [beq_self_eq_true]
      rfl
    · rw [if_neg h]
      have : BitVec.ofNat 32 (8 * g.val + j.val) ≠ BitVec.ofNat 32 e.val := fun q => h (by
        have := congrArg BitVec.toNat q
        simp only [BitVec.toNat_ofNat] at this
        omega)
      show BitVec.ofBool (_ == _) = _
      rw [beq_eq_false_iff_ne.mpr this]
      rfl
  rw [hc]
  split
  · show (((1#1 : BitVec 1).toNat : ℝ) : EReal) = 1
    norm_num
  · show (((0#1 : BitVec 1).toNat : ℝ) : EReal) = 0
    norm_num

/-! ## The group -/

theorem indices_apply (t : Fin 512) :
    val_main_indices (F := Ideal) x0 x1 x2 (ix2 t 0) = BitVec.ofNat 32 (first (gl x0 x1 x2 t)).val := by
  refine (topK_index (n := 3) (k := 1) (val_main_v3 (F := Ideal) x0 x1 x2) _ t 0 (by decide)).trans ?_
  rw [show (fun e => val_main_v3 (F := Ideal) x0 x1 x2 (ix2 t e)) = gl x0 x1 x2 t from funext fun e => v3_apply x0 x1 x2 t e]
  exact congrArg (fun j : Fin 4 => BitVec.ofNat 32 j.val) (sortedFrom_zero _ _ (first_spec _))

theorem v4_apply (t : Fin 512) :
    val_main_v4 (F := Ideal) x0 x1 x2 (ix1 t) = BitVec.ofNat 32 (first (gl x0 x1 x2 t)).val := by
  rw [← indices_apply]
  pointwise [val_main_v4]

theorem v7_apply (t : Fin 512) : val_main_v7 (F := Ideal) x0 x1 x2 (ix1 t) = gl x0 x1 x2 t (first (gl x0 x1 x2 t)) := by
  pointwise [val_main_v5, val_main_v6, val_main_v7, val_main_cst, val_main_cst_0]
  rw [MoeDLanes.negInf, show (fun e => val_main_v3 (F := Ideal) x0 x1 x2 (ix2 t e)) = gl x0 x1 x2 t from funext fun e => v3_apply x0 x1 x2 t e,
    fold_max _ _ (first_spec _)]
  exact max_eq_right bot_le

theorem v15_apply (t : Fin 512) (g : Fin 4) : val_main_v15 (F := Ideal) x0 x1 x2 (ix2 t g)
    = Ideal.div (Ideal.exp (gl x0 x1 x2 t g - gl x0 x1 x2 t (first (gl x0 x1 x2 t))))
        (∑ k, Ideal.exp (gl x0 x1 x2 t k - gl x0 x1 x2 t (first (gl x0 x1 x2 t)))) := by
  pointwise [val_main_v8, val_main_v9, val_main_v10, val_main_v11, val_main_v12, val_main_v13, val_main_v14, val_main_v15, val_main_cst_1]
  simp only [v3_apply, v7_apply]

theorem start0 (t : Fin 512) :
    val_main_call0_v5 (F := Ideal) x0 x1 x2 (ix3 t 0 0) = BitVec.ofNat 32 (first (gl x0 x1 x2 t)).val := by
  pointwise [val_main_v16, val_main_call0_c, val_main_call0_v0, val_main_call0_v1, val_main_call0_c_0, val_main_call0_v2, val_main_call0_v3,
    val_main_call0_v4, val_main_call0_v5]
  rw [v4_apply]
  exact wrap _

theorem inside0 (t : Fin 512) : val_main_call0_v12 (F := Ideal) x0 x1 x2 (ix2 t 0) = 1#1 := by
  refine Host.reduce_andi_one _ _ _ _ _ rfl fun i => ?_
  obtain ⟨t, a, b, rfl⟩ : ∃ (t : Fin 512) (a b : Fin 1), i = ix3 t a b := ⟨i 0, i 1, i 2, eq_ix3 i⟩
  obtain rfl : a = 0 := Subsingleton.elim _ _
  obtain rfl : b = 0 := Subsingleton.elim _ _
  pointwise [val_main_call0_c_1, val_main_call0_c_2, val_main_call0_v6, val_main_call0_v7, val_main_call0_v8, val_main_call0_v9, val_main_call0_v10,
    val_main_call0_v11]
  rw [start0]
  exact inside _

theorem start1 (t : Fin 512) :
    val_main_call1_v4 (F := Ideal) x0 x1 x2 (ix3 t 0 0) = BitVec.ofNat 32 (first (gl x0 x1 x2 t)).val := by
  pointwise [val_main_v23, val_main_call1_c, val_main_call1_v0, val_main_call1_v1, val_main_call1_c_0, val_main_call1_v2, val_main_call1_v3,
    val_main_call1_v4]
  rw [v4_apply]
  exact wrap _

theorem inside1 (t : Fin 512) : val_main_call1_v11 (F := Ideal) x0 x1 x2 (ix2 t 0) = 1#1 := by
  refine Host.reduce_andi_one _ _ _ _ _ rfl fun i => ?_
  obtain ⟨t, a, b, rfl⟩ : ∃ (t : Fin 512) (a b : Fin 1), i = ix3 t a b := ⟨i 0, i 1, i 2, eq_ix3 i⟩
  obtain rfl : a = 0 := Subsingleton.elim _ _
  obtain rfl : b = 0 := Subsingleton.elim _ _
  pointwise [val_main_call1_c_1, val_main_call1_c_2, val_main_call1_v5, val_main_call1_v6, val_main_call1_v7, val_main_call1_v8, val_main_call1_v9,
    val_main_call1_v10]
  rw [start1]
  exact inside _

/-- The exponential of a real number less itself is one. -/
theorem exp_sub_self (a : EReal) (h : ∃ r : ℝ, a = r) : Ideal.exp (a - a) = 1 := by
  obtain ⟨r, rfl⟩ := h
  rw [← EReal.coe_sub, sub_self]
  show ((Real.exp 0 : ℝ) : EReal) = 1
  rw [Real.exp_zero]
  rfl

/-- The softmax entry of the chosen group. -/
theorem v18_raw (t : Fin 512) :
    val_main_v18 (F := Ideal) x0 x1 x2 (ix1 t) = Ideal.div (Ideal.exp (gl x0 x1 x2 t (first (gl x0 x1 x2 t)) - gl x0 x1 x2 t (first (gl x0 x1 x2 t))))
        (∑ k, Ideal.exp (gl x0 x1 x2 t k - gl x0 x1 x2 t (first (gl x0 x1 x2 t)))) := by
  pointwise [val_main_v17, val_main_v18]
  rw [inside0]
  refine (gather4 (val_main_v15 (F := Ideal) x0 x1 x2) (val_main_call0_v5 (F := Ideal) x0 x1 x2) t).trans ?_
  have e : (⟨min (val_main_call0_v5 (F := Ideal) x0 x1 x2 (g0 t)).toInt.toNat 3, by omega⟩ : Fin 4) = first (gl x0 x1 x2 t) :=
    Fin.ext ((congrArg (fun w : BitVec 32 => min w.toInt.toNat 3) (start0 x0 x1 x2 t)).trans (clamp _))
  rw [e, v15_apply]

/-- The chosen group's softmax weight, its logit being real. -/
theorem v18_apply (t : Fin 512) (hg : ∃ r : ℝ, gl x0 x1 x2 t (first (gl x0 x1 x2 t)) = r) :
    val_main_v18 (F := Ideal) x0 x1 x2 (ix1 t) = groupWeight (gl x0 x1 x2 t) := by
  rw [v18_raw, exp_sub_self _ hg]
  rfl

/-- The chosen group's softmax weight, its logit being infinite: zero by zero, which is −∞. -/
theorem v18_inf (t : Fin 512) (hg : Rows.Inf (gl x0 x1 x2 t (first (gl x0 x1 x2 t)))) :
    val_main_v18 (F := Ideal) x0 x1 x2 (ix1 t) = (⊥ : EReal) := by
  rw [v18_raw, Finset.sum_eq_zero fun k _ => MoeDInf.exp_less_inf _ hg k, MoeDInf.exp_less_inf _ hg]
  simp [Ideal.div]

/-- The chosen group's expert logits. -/
theorem v25_apply (t : Fin 512) (e : Fin 8) :
    val_main_v25 (F := Ideal) x0 x1 x2 x3 x4 (ix2 t e) = el x0 x3 x4 t (first (gl x0 x1 x2 t)) e := by
  pointwise [val_main_call1_v13, val_main_v24, val_main_v25]
  rw [inside1]
  refine (gather8 (val_main_v22 (F := Ideal) x0 x3 x4) (val_main_call1_v4 (F := Ideal) x0 x1 x2) t e).trans ?_
  have h : (⟨min (val_main_call1_v4 (F := Ideal) x0 x1 x2 (g0 t)).toInt.toNat 3, by omega⟩ : Fin 4) = first (gl x0 x1 x2 t) :=
    Fin.ext ((congrArg (fun w : BitVec 32 => min w.toInt.toNat 3) (start1 x0 x1 x2 t)).trans (clamp _))
  rw [h, v22_apply]

/-! ## The two experts -/

section Experts

variable (t : Fin 512) (v : Fin 8 → EReal) (hv : ∀ e, val_main_v25 (F := Ideal) x0 x1 x2 x3 x4 (ix2 t e) = v e) (hr : ∀ e, ∃ r : ℝ, v e = r)

theorem not_bot (a : EReal) (h : ∃ r : ℝ, a = r) : a ≠ ⊥ := by
  obtain ⟨r, rfl⟩ := h
  exact EReal.coe_ne_bot r

/-- The chosen experts, in order. -/
def chosen (v : Fin 8 → EReal) (j : Fin 2) : Fin 8 := if j = 0 then first v else second v

include hr in
theorem sorted_chosen (j : Fin 2) : sortedFrom (before v) ⟨j.val, by omega⟩ = chosen v j := by
  match j with
  | ⟨0, _⟩ => exact sortedFrom_zero (n := 7) v _ (first_spec v)
  | ⟨1, _⟩ => exact sortedFrom_one (n := 6) v (fun e => not_bot _ (hr e))

include hv hr in
theorem values_apply (j : Fin 2) : val_main_values_2 (F := Ideal) x0 x1 x2 x3 x4 (ix2 t j) = v (chosen v j) := by
  refine (topK_value (n := 7) (k := 2) (val_main_v25 (F := Ideal) x0 x1 x2 x3 x4) _ t j (by omega)).trans ?_
  rw [show (fun e => val_main_v25 (F := Ideal) x0 x1 x2 x3 x4 (ix2 t e)) = v from funext hv, hv]
  exact congrArg v (sorted_chosen v hr j)

include hv hr in
theorem indices3_apply (j : Fin 2) : val_main_indices_3 (F := Ideal) x0 x1 x2 x3 x4 (ix2 t j) = BitVec.ofNat 32 (chosen v j).val := by
  refine (topK_index (n := 7) (k := 2) (val_main_v25 (F := Ideal) x0 x1 x2 x3 x4) _ t j (by omega)).trans ?_
  rw [show (fun e => val_main_v25 (F := Ideal) x0 x1 x2 x3 x4 (ix2 t e)) = v from funext hv]
  exact congrArg (fun j : Fin 8 => BitVec.ofNat 32 j.val) (sorted_chosen v hr j)

include hv hr in
theorem v28_apply : val_main_v28 (F := Ideal) x0 x1 x2 x3 x4 (ix1 t) = v (first v) := by
  pointwise [val_main_v26, val_main_v27, val_main_v28, val_main_cst_4, val_main_cst_5]
  rw [MoeDLanes.negInf, show (fun j => val_main_values_2 (F := Ideal) x0 x1 x2 x3 x4 (ix2 t j)) = fun j => v (chosen v j) from
      funext fun j => values_apply x0 x1 x2 x3 x4 t v hv hr j,
    fold_max (fun j => v (chosen v j)) 0 ⟨fun k => (first_spec v).1 _, fun k hk => absurd hk (Nat.not_lt_zero _)⟩]
  exact max_eq_right bot_le

theorem v32_raw (j : Fin 2) (a m : EReal) (hu : val_main_values_2 (F := Ideal) x0 x1 x2 x3 x4 (ix2 t j) = a)
    (hm : val_main_v28 (F := Ideal) x0 x1 x2 x3 x4 (ix1 t) = m) :
    val_main_v32 (F := Ideal) x0 x1 x2 x3 x4 (ix2 t j) = Ideal.exp (a - m) := by
  pointwise [val_main_v29, val_main_v30, val_main_v31, val_main_v32]
  rw [hu, hm]

theorem v35_raw (j : Fin 2) : val_main_v35 (F := Ideal) x0 x1 x2 x3 x4 (ix2 t j)
    = ∑ k : Fin 2, (val_main_v32 (F := Ideal) x0 x1 x2 x3 x4 (ix2 t k) : EReal) := by
  pointwise [val_main_v33, val_main_v34, val_main_v35, val_main_cst_6]

/-- The softmax of two entries of a row. -/
theorem v36_raw (j : Fin 2) (u : Fin 2 → EReal) (hu : ∀ j, val_main_values_2 (F := Ideal) x0 x1 x2 x3 x4 (ix2 t j) = u j) (m : EReal)
    (hm : val_main_v28 (F := Ideal) x0 x1 x2 x3 x4 (ix1 t) = m) :
    val_main_v36 (F := Ideal) x0 x1 x2 x3 x4 (ix2 t j) = Ideal.div (Ideal.exp (u j - m)) (Ideal.exp (u 0 - m) + Ideal.exp (u 1 - m)) := by
  pointwise [val_main_v36]
  rw [v35_raw, v32_raw x0 x1 x2 x3 x4 t j _ _ (hu j) hm]
  refine congrArg (Ideal.div _) ((Fin.sum_univ_two _).trans ?_)
  exact congrArg₂ (· + ·) (v32_raw x0 x1 x2 x3 x4 t 0 _ _ (hu 0) hm) (v32_raw x0 x1 x2 x3 x4 t 1 _ _ (hu 1) hm)

include hr in
/-- A quotient by one plus the second exponential, multiplied by the group's weight. -/
theorem div_mul (a w : EReal) : Ideal.div a (1 + ratio v) * w = Ideal.div (w * a) (1 + ratio v) := by
  obtain ⟨p, hp⟩ := hr (second v)
  obtain ⟨q, hq⟩ := hr (first v)
  have e : 1 + ratio v = ((1 + Real.exp (p - q) : ℝ) : EReal) := by
    unfold ratio
    rw [hp, hq, ← EReal.coe_sub, EReal.coe_add]
    rfl
  have hne : (1 + Real.exp (p - q) : ℝ) ≠ 0 := (add_pos one_pos (Real.exp_pos _)).ne'
  rw [e, Ideal.div_coe hne, Ideal.div_coe hne, mul_right_comm, mul_comm a w]

include hv hr in
theorem v36_apply (j : Fin 2) (w : EReal) :
    val_main_v36 (F := Ideal) x0 x1 x2 x3 x4 (ix2 t j) * w = if j = 0 then Ideal.div w (1 + ratio v) else Ideal.div (w * ratio v) (1 + ratio v) := by
  rw [v36_raw x0 x1 x2 x3 x4 t j _ (values_apply x0 x1 x2 x3 x4 t v hv hr) _ (v28_apply x0 x1 x2 x3 x4 t v hv hr)]
  have h0 : Ideal.exp (v (chosen v 0) - v (first v)) = 1 := exp_sub_self _ (hr _)
  have h1 : Ideal.exp (v (chosen v 1) - v (first v)) = ratio v := rfl
  rw [h0, h1]
  match j with
  | ⟨0, _⟩ =>
    refine (congrArg (fun a => Ideal.div a (1 + ratio v) * w) h0).trans ?_
    rw [div_mul v hr, mul_one]
    rfl
  | ⟨1, _⟩ =>
    refine (congrArg (fun a => Ideal.div a (1 + ratio v) * w) h1).trans ?_
    rw [div_mul v hr]
    rfl

end Experts

/-- The weight each expert has in token `t`'s output, the chosen group's weight being `gw`. -/
theorem v49_apply (t : Fin 512) (gw : EReal) (hgw : val_main_v18 (F := Ideal) x0 x1 x2 (ix1 t) = gw) (he : ∀ g e, ∃ r : ℝ, el x0 x3 x4 t g e = r) (e : Fin 32) :
    val_main_v49 (F := Ideal) x0 x1 x2 x3 x4 (ix2 t e)
      = combineWith gw (first (gl x0 x1 x2 t)) (el x0 x3 x4 t (first (gl x0 x1 x2 t))) e := by
  pointwise [val_main_v37, val_main_v38, val_main_v39, val_main_v40, val_main_c, val_main_v41, val_main_v42, val_main_v43, val_main_v44,
    val_main_call2_v0, val_main_call2_v1, val_main_call2_v2, val_main_call2_v3, val_main_call2_v4, val_main_v45, val_main_v46, val_main_v47,
    val_main_v48, val_main_v49, val_main_cst_7]
  have hv := v25_apply x0 x1 x2 x3 x4 t
  rw [v4_apply, hgw]
  have key : ∀ j : Fin 2, FloatOps.uitofp (F := Ideal) .f32
      (IntOp.cmpi .eq (IntOp.addi (IntOp.muli (BitVec.ofNat 32 (first (gl x0 x1 x2 t)).val) 8#32) (val_main_indices_3 (F := Ideal) x0 x1 x2 x3 x4 (ix2 t j)))
        (BitVec.ofNat 32 e.val)) * (val_main_v36 (F := Ideal) x0 x1 x2 x3 x4 (ix2 t j) * gw)
      = (if e.val = 8 * (first (gl x0 x1 x2 t)).val + (chosen (el x0 x3 x4 t (first (gl x0 x1 x2 t))) j).val then
          (if j = 0 then Ideal.div gw (1 + ratio (el x0 x3 x4 t (first (gl x0 x1 x2 t)))) else Ideal.div (gw * ratio (el x0 x3 x4 t (first (gl x0 x1 x2 t)))) (1 + ratio (el x0 x3 x4 t (first (gl x0 x1 x2 t))))) else 0) := by
    intro j
    rw [indices3_apply x0 x1 x2 x3 x4 t _ hv (he _), onehot, v36_apply x0 x1 x2 x3 x4 t _ hv (he _)]
    split
    · exact one_mul _
    · exact zero_mul _
  refine (Fin.sum_univ_two _).trans ?_
  exact congrArg₂ (· + ·) (key 0) (key 1)

end Cert.MoeDRefRouter

end
-- ==== Proof.MoeDRefRow.lean ====
/- For the sample batch (512 tokens, blocks of 256). The reference at one token: the experts' hidden units, the sum over all experts and units, and the layer norm. -/
module

public import proofs.«01_k».proof.Proof.MoeDRefRouter

@[expose] public section

set_option maxRecDepth 16384

noncomputable section

namespace Cert.MoeDRefRow

open Idealize.ShloMosaic Idealize.ShloMosaic.TcCoe Cert.MoeDRefIdeal Cert.MoeDRefIdeal.Read Cert.Rows Cert.MoeDRefRouter
open Cert.MoeRouter (first)

variable (x0 : FVec Ideal S512x1024 .f32) (x1 : FVec Ideal S1024x4 .f32) (x2 : FVec Ideal S4 .f32)
    (x3 : FVec Ideal S4x1024x8 .f32) (x4 : FVec Ideal S4x8 .f32) (x5 x6 : FVec Ideal S32x1024x128 .f32) (x7 : FVec Ideal S32x128x1024 .f32)
    (x8 x9 : FVec Ideal S1024 .f32)

/-- A hidden unit of an expert, weighted. -/
theorem v56_apply (t : Fin 512) (e : Fin 32) (f : Fin 128) :
    val_main_v56 (F := Ideal) x0 x1 x2 x3 x4 x5 x6 (ix3 t e f)
      = (∑ d : Fin 1024, (x0 (ix2 t d) : EReal) * x5 (ix3 e d f)) * sigmoid (∑ d : Fin 1024, (x0 (ix2 t d) : EReal) * x5 (ix3 e d f))
          * (∑ d : Fin 1024, (x0 (ix2 t d) : EReal) * x6 (ix3 e d f)) * val_main_v49 (F := Ideal) x0 x1 x2 x3 x4 (ix2 t e) := by
  pointwise [val_main_v50, val_main_v51, val_main_v52, val_main_v53, val_main_v54, val_main_v55, val_main_v56, val_main_call3_v0, val_main_call3_v1,
    val_main_call3_cst, val_main_call3_v2, val_main_call3_v3, val_main_call3_cst_0, val_main_call3_v4, val_main_call3_v5]
  rfl

theorem v57_apply (t : Fin 512) (c : Fin 1024) :
    val_main_v57 (F := Ideal) x0 x1 x2 x3 x4 x5 x6 x7 (ix2 t c)
      = ∑ e : Fin 32, ∑ f : Fin 128, (val_main_v56 (F := Ideal) x0 x1 x2 x3 x4 x5 x6 (ix3 t e f) : EReal) * x7 (ix3 e f c) := by
  pointwise [val_main_v57]

open Cert.MoeDArray (expertOf unitOf)

/-- An expert and a hidden unit of it, as a group and a column of the group's packed experts. -/
def packed : Fin 4 × Fin 1024 ≃ Fin 32 × Fin 128 where
  toFun p := (expertOf p.1 p.2, unitOf p.2)
  invFun q := (⟨q.1.val / 8, by omega⟩, ⟨128 * (q.1.val % 8) + q.2.val, by omega⟩)
  left_inv := fun ⟨g, k⟩ => by
    refine Prod.ext (Fin.ext ?_) (Fin.ext ?_)
    · show (8 * g.val + k.val / 128) / 8 = g.val
      omega
    · show 128 * ((8 * g.val + k.val / 128) % 8) + k.val % 128 = k.val
      omega
  right_inv := fun ⟨e, f⟩ => by
    refine Prod.ext (Fin.ext ?_) (Fin.ext ?_)
    · show 8 * (e.val / 8) + (128 * (e.val % 8) + f.val) / 128 = e.val
      omega
    · show (128 * (e.val % 8) + f.val) % 128 = f.val
      omega

/-- A sum over experts and their units is the sum over groups and packed columns. -/
theorem sum_packed (F : Fin 32 → Fin 128 → EReal) : ∑ e, ∑ f, F e f = ∑ g, ∑ k, F (expertOf g k) (unitOf k) := by
  rw [← Fintype.sum_prod_type', ← Fintype.sum_prod_type']
  exact (Fintype.sum_equiv packed _ _ (fun _ => rfl)).symm

/-- The scaled residual plus the experts' output. -/
theorem v60_apply (t : Fin 512) (c : Fin 1024) (w : Fin 32 → EReal) (hw : ∀ e, val_main_v49 (F := Ideal) x0 x1 x2 x3 x4 (ix2 t e) = w e) :
    val_main_v60 (F := Ideal) x0 x1 x2 x3 x4 x5 x6 x7 (ix2 t c)
      = alpha * x0 (ix2 t c) + ∑ g : Fin 4, ∑ k : Fin 1024,
          MoeDBlock.hidden (fun d => x0 (ix2 t d)) (fun d k => x5 (ix3 (expertOf g k) d (unitOf k))) (fun d k => x6 (ix3 (expertOf g k) d (unitOf k)))
            (fun e => w ⟨8 * g.val + e.val, by omega⟩) k * x7 (ix3 (expertOf g k) (unitOf k) c) := by
  have h57 : val_main_v57 (F := Ideal) x0 x1 x2 x3 x4 x5 x6 x7 (ix2 t c) = ∑ g : Fin 4, ∑ k : Fin 1024,
          MoeDBlock.hidden (fun d => x0 (ix2 t d)) (fun d k => x5 (ix3 (expertOf g k) d (unitOf k))) (fun d k => x6 (ix3 (expertOf g k) d (unitOf k)))
            (fun e => w ⟨8 * g.val + e.val, by omega⟩) k * x7 (ix3 (expertOf g k) (unitOf k) c) := by
    rw [v57_apply, sum_packed (fun e f => (val_main_v56 (F := Ideal) x0 x1 x2 x3 x4 x5 x6 (ix3 t e f) : EReal) * x7 (ix3 e f c))]
    refine Finset.sum_congr rfl fun g _ => Finset.sum_congr rfl fun k _ => ?_
    rw [v56_apply, hw]
    rfl
  pointwise [val_main_v58, val_main_v59, val_main_v60, val_main_cst_8]
  rw [h57]
  rfl

/-- The reference's result at token `t`, column `c`, from the weights the experts have there. -/
theorem out_of_weights (t : Fin 512) (c : Fin 1024) (w : Fin 32 → EReal) (hw : ∀ e, val_main_v49 (F := Ideal) x0 x1 x2 x3 x4 (ix2 t e) = w e) :
    val_main_v84 (F := Ideal) x0 x1 x2 x3 x4 x5 x6 x7 x8 x9 (ix2 t c)
      = MoeDBlock.row (fun d => x0 (ix2 t d)) (fun g d k => x5 (ix3 (expertOf g k) d (unitOf k))) (fun g d k => x6 (ix3 (expertOf g k) d (unitOf k)))
          (fun g k d => x7 (ix3 (expertOf g k) (unitOf k) d)) w (fun d => x8 (ix1 d)) (fun d => x9 (ix1 d)) c := by
  pointwise [val_main_v61, val_main_v62, val_main_v63, val_main_v64, val_main_v65, val_main_v66, val_main_v67, val_main_v68,
    val_main_v69, val_main_v70, val_main_v71, val_main_v72, val_main_v73, val_main_v74, val_main_v75, val_main_v76, val_main_v77, val_main_v78,
    val_main_v79, val_main_v80, val_main_v81, val_main_v82, val_main_v83, val_main_v84, val_main_cst_9, val_main_cst_10, val_main_cst_11,
    val_main_cst_12, val_main_cst_13]
  simp only [v60_apply x0 x1 x2 x3 x4 x5 x6 x7 t _ _ hw]
  rfl

/-- The reference's result at token `t`, column `c`: the specification there. -/
theorem out_apply (t : Fin 512) (c : Fin 1024) (h3 : MoeDArray.AllReal x3) (h4 : MoeDArray.AllReal x4) :
    val_main_v84 (F := Ideal) x0 x1 x2 x3 x4 x5 x6 x7 x8 x9 (ix2 t c) = MoeDArray.G x0 x1 x2 x3 x4 x5 x6 x7 x8 x9 (ix2 t c) := by
  by_cases hi : ∃ k, Inf (x0 (ix2 t k))
  · obtain ⟨k, hk⟩ := hi
    exact (out_of_weights x0 x1 x2 x3 x4 x5 x6 x7 x8 x9 t c _ (fun _ => rfl)).trans
      ((MoeDInf.row_inf _ _ _ _ _ _ _ k hk c).trans (MoeDArray.G_inf x0 x1 x2 x3 x4 x5 x6 x7 x8 x9 t k hk c).symm)
  have he : ∀ g e, ∃ r : ℝ, el x0 x3 x4 t g e = r := fun g e =>
    MoeDArray.expertLogit_real _ x3 x4 (fun k => not_inf fun hk => hi ⟨k, hk⟩) h3 h4 g e
  by_cases hg : Inf (gl x0 x1 x2 t (first (gl x0 x1 x2 t)))
  · refine (out_of_weights x0 x1 x2 x3 x4 x5 x6 x7 x8 x9 t c _ (v49_apply x0 x1 x2 x3 x4 t ⊥ (v18_inf x0 x1 x2 t hg) he)).trans
      (MoeDInf.row_alike _ _ _ _ _ _ _ _ (fun e => ?_) c).symm
    have h := MoeDInf.combineWith_alike _ (he (first (gl x0 x1 x2 t))) (first (gl x0 x1 x2 t)) e
    rw [← MoeDInf.groupWeight_inf _ hg] at h
    exact h
  · exact out_of_weights x0 x1 x2 x3 x4 x5 x6 x7 x8 x9 t c _ (v49_apply x0 x1 x2 x3 x4 t _ (v18_apply x0 x1 x2 t (not_inf hg)) he)

end Cert.MoeDRefRow

end
-- ==== Proof.MoeDEq.lean ====
/- For the sample batch (512 tokens, blocks of 256). The mixture of experts' claims: the kernel's output array and the reference's result are the same function of the
   arguments, where the router's weights and its experts' biases are finite. -/
module

public import proofs.«01_k».proof.Defs
public import proofs.«01_k».proof.Proof.MoeDArray
public import proofs.«01_k».proof.Proof.MoeDRefRow
public import proofs.«01_k».proof.Proof.Gen.MoeDIdeal
public import proofs.«01_k».proof.Proof.Gen.MoeDRefIdeal
public import proofs.«01_k».proof.Proof.Gen.MoeDRefIdeal.Run
public import proofs.«01_k».proof.Proof.Gen.Pre_router_finite_sample

@[expose] public section

set_option maxRecDepth 16384

noncomputable section

namespace Cert.MoeDEq

open Idealize.ShloMosaic Idealize.ShloMosaic.TcCoe Idealize.SL.Sem
open Cert.MoeDArray (AllReal)

/-- A value whose absolute value is below +∞ is a real number. -/
theorem real_of_abs_lt (a : EReal) (h : FloatOps.cmpf (F := Ideal) (φ := .f32) .olt (FloatOps.absf (F := Ideal) (φ := .f32) a)
    (Ideal.ofBits .f32 0x7F800000#32) = 1#1) : ∃ r : ℝ, a = (r : EReal) := by
  have top : Ideal.ofBits .f32 0x7F800000#32 = ⊤ := by simp [Ideal.ofBits, Ideal.ieee]
  rw [top] at h
  have hlt : max a (-a) < ⊤ := by
    by_contra hn
    rw [show FloatOps.absf (F := Ideal) (φ := .f32) a = max a (-a) from rfl] at h
    rw [show FloatOps.cmpf (F := Ideal) (φ := .f32) .olt (max a (-a)) ⊤ = Ideal.cmp .olt (max a (-a)) ⊤ from rfl] at h
    simp [Ideal.cmp, hn] at h
  induction a with
  | bot => simp at hlt
  | coe r => exact ⟨r, rfl⟩
  | top => simp at hlt

/-- An array whose entries' absolute values all compare below +∞ has real entries. -/
theorem allReal {S : Shape} (x : FVec Ideal S .f32) (y : FVec Ideal S .f32) (hy : ∀ p, y p = Ideal.ofBits .f32 0x7F800000#32)
    (h : cmpf .olt (Host.absf x) y = fun _ => 1#1) : AllReal x := fun p => by
  have hp := congrFun h p
  refine real_of_abs_lt (x p) ?_
  rw [← hy p]
  exact hp

/-- The precondition makes the router's weights and its experts' biases real numbers. -/
theorem routerReal (m : (ℓ : Loc Cert.MoeDIdeal.nD Cert.MoeDIdeal.τ Cert.MoeDIdeal.sig) → Buf (Elt Ideal) ℓ) (h : Pre_MoeDIdeal_router_finite_sample m)
    (c : Dev Cert.MoeDIdeal.nD) : MoeDArray.RouterReal m c := by
  obtain ⟨h1, h3, h4⟩ := h c
  exact ⟨allReal _ _ (fun _ => rfl) h1, allReal _ _ (fun _ => rfl) h3, allReal _ _ (fun _ => rfl) h4⟩

/-- The reference's result array is the mixture of all tokens. -/
theorem ref_eq (x0 : FVec Ideal Cert.MoeDRefIdeal.S512x1024 .f32) (x1 : FVec Ideal Cert.MoeDRefIdeal.S1024x4 .f32)
    (x2 : FVec Ideal Cert.MoeDRefIdeal.S4 .f32) (x3 : FVec Ideal Cert.MoeDRefIdeal.S4x1024x8 .f32) (x4 : FVec Ideal Cert.MoeDRefIdeal.S4x8 .f32)
    (x5 x6 : FVec Ideal Cert.MoeDRefIdeal.S32x1024x128 .f32) (x7 : FVec Ideal Cert.MoeDRefIdeal.S32x128x1024 .f32)
    (x8 x9 : FVec Ideal Cert.MoeDRefIdeal.S1024 .f32) (h3 : AllReal x3) (h4 : AllReal x4) :
    Cert.MoeDRefIdeal.Read.val_main_v84 (F := Ideal) x0 x1 x2 x3 x4 x5 x6 x7 x8 x9 = MoeDArray.G x0 x1 x2 x3 x4 x5 x6 x7 x8 x9 := by
  funext p
  obtain ⟨t, c, rfl⟩ : ∃ (t : Fin 512) (c : Fin 1024), p = ix2 t c := ⟨p 0, p 1, eq_ix2 p⟩
  exact MoeDRefRow.out_apply x0 x1 x2 x3 x4 x5 x6 x7 x8 x9 t c h3 h4

theorem frameRef : Cert.quiescent_MoeDRefIdeal := fun m ρ _ =>
  (θ_run Cert.MoeDRefIdeal.defs _ _).mono (fun r h => ⟨fun c => (h c).2, Idealize.ShloMosaic.sem_eq_zero_of_no_sems (by decide) r.2⟩)
    (Cert.MoeDRefIdeal.Value.run (F := Ideal) m ρ)

/-- From finite router inputs the kernel and the reference end with the same output array. -/
theorem algebraic : Cert.algebraic_MoeDIdeal_MoeDRefIdeal_pre_router_finite_sample := by
  intro m ρ m' ρ' hpre hagree
  refine ⟨fun c => MoeDArray.res m c,
    (θ_run Cert.MoeDIdeal.defs _ _).mono (fun r h c => ⟨(h c).1.trans (MoeDArray.final m c (routerReal m hpre c)), (h c).2⟩)
      (Cert.MoeDIdeal.Value.run_blocks m ρ),
    (θ_run Cert.MoeDRefIdeal.defs _ _).mono (fun r h c => ⟨(h c).1.trans ?_, (h c).2⟩) (Cert.MoeDRefIdeal.Value.run (F := Ideal) m' ρ')⟩
  obtain ⟨e0, e1, e2, e3, e4, e5, e6, e7, e8, e9⟩ := hagree c
  have hr := routerReal m hpre c
  refine (Cert.MoeDRefIdeal.Read.val_main_v84_eq (F := Ideal) (StableHlo.launchContents m' c)).trans ?_
  show Cert.MoeDRefIdeal.Read.val_main_v84 (F := Ideal)
    (m' ((c.tc : Thread Cert.MoeDRefIdeal.nD Cert.MoeDRefIdeal.τ).loc Cert.MoeDRefIdeal.main_arg0)) (m' ((c.tc : Thread Cert.MoeDRefIdeal.nD Cert.MoeDRefIdeal.τ).loc Cert.MoeDRefIdeal.main_arg1))
    (m' ((c.tc : Thread Cert.MoeDRefIdeal.nD Cert.MoeDRefIdeal.τ).loc Cert.MoeDRefIdeal.main_arg2)) (m' ((c.tc : Thread Cert.MoeDRefIdeal.nD Cert.MoeDRefIdeal.τ).loc Cert.MoeDRefIdeal.main_arg3))
    (m' ((c.tc : Thread Cert.MoeDRefIdeal.nD Cert.MoeDRefIdeal.τ).loc Cert.MoeDRefIdeal.main_arg4)) (m' ((c.tc : Thread Cert.MoeDRefIdeal.nD Cert.MoeDRefIdeal.τ).loc Cert.MoeDRefIdeal.main_arg5))
    (m' ((c.tc : Thread Cert.MoeDRefIdeal.nD Cert.MoeDRefIdeal.τ).loc Cert.MoeDRefIdeal.main_arg6)) (m' ((c.tc : Thread Cert.MoeDRefIdeal.nD Cert.MoeDRefIdeal.τ).loc Cert.MoeDRefIdeal.main_arg7))
    (m' ((c.tc : Thread Cert.MoeDRefIdeal.nD Cert.MoeDRefIdeal.τ).loc Cert.MoeDRefIdeal.main_arg8)) (m' ((c.tc : Thread Cert.MoeDRefIdeal.nD Cert.MoeDRefIdeal.τ).loc Cert.MoeDRefIdeal.main_arg9)) = _
  rw [e0, e1, e2, e3, e4, e5, e6, e7, e8, e9]
  exact ref_eq _ _ _ _ _ _ _ _ _ _ hr.we hr.be

end Cert.MoeDEq

end
-- ==== Proof.ProjDBlock.lean ====
/- What one grid point of the sample batch's input projection leaves in each of its seven output blocks, entry by entry:
   products of the point's 256 token rows with columns of the weights, some scaled. -/
module

public import proofs.«01_k».proof.Proof.Gen.ProjDIdeal.Value
public import Idealize.ShloMosaic.Lib.Pointwise

@[expose] public section

set_option maxRecDepth 16384

noncomputable section

namespace Cert.ProjDBlock

open Idealize.ShloMosaic Idealize.ShloMosaic.TcCoe Cert.ProjDIdeal Cert.ProjDIdeal.Gen

theorem hz : (![0, 0] : Fin 2 → Nat) = fun _ => 0 := funext fun a => by fin_cases a <;> rfl

/-- The two words the projection multiplies by: 128 to the power −1/2 as rounded, and one eighth. -/
def sq : EReal := Ideal.ofBits .f32 0x3DB504F3#32
def s8 : EReal := Ideal.ofBits .f32 0x3E000000#32

variable (x0 : Vec Ideal S256x1024 .f32) (x1 : Vec Ideal S1024x3584 .bf16)

theorem out2_apply (i : Fin 256) (c : Fin 512) : out0_2 (F := Ideal) x0 x1 (ix2 i c)
    = (∑ k : Fin 1024, x0 (ix2 i k) * x1 (ix2 k (⟨0 + c.val, by omega⟩ : Fin 3584))) := by
  unfold_out out0_2
  rw [View.canon_unit_zero hz, View.ld_unit_zero (S := S256x1024) hz]
  pointwise [k0_pay4, k0_pay5]

theorem out3_apply (i : Fin 256) (c : Fin 512) : out0_3 (F := Ideal) x0 x1 (ix2 i c)
    = (∑ k : Fin 1024, x0 (ix2 i k) * x1 (ix2 k (⟨512 + c.val, by omega⟩ : Fin 3584))) * sq := by
  unfold_out out0_3
  rw [View.canon_unit_zero hz, View.ld_unit_zero (S := S256x1024) hz]
  pointwise [k0_pay4, k0_pay6]
  rfl

theorem out4_apply (i : Fin 256) (c : Fin 512) : out0_4 (F := Ideal) x0 x1 (ix2 i c)
    = (∑ k : Fin 1024, x0 (ix2 i k) * x1 (ix2 k (⟨1024 + c.val, by omega⟩ : Fin 3584))) := by
  unfold_out out0_4
  rw [View.canon_unit_zero hz, View.ld_unit_zero (S := S256x1024) hz]
  pointwise [k0_pay4, k0_pay7]

theorem out5_apply (i : Fin 256) (c : Fin 512) : out0_5 (F := Ideal) x0 x1 (ix2 i c)
    = (∑ k : Fin 1024, x0 (ix2 i k) * x1 (ix2 k (⟨1536 + c.val, by omega⟩ : Fin 3584))) := by
  unfold_out out0_5
  rw [View.canon_unit_zero hz, View.ld_unit_zero (S := S256x1024) hz]
  pointwise [k0_pay4, k0_pay8]

theorem out6_apply (i : Fin 256) (c : Fin 512) : out0_6 (F := Ideal) x0 x1 (ix2 i c)
    = (∑ k : Fin 1024, x0 (ix2 i k) * x1 (ix2 k (⟨2048 + c.val, by omega⟩ : Fin 3584))) * s8 := by
  unfold_out out0_6
  rw [View.canon_unit_zero hz, View.ld_unit_zero (S := S256x1024) hz]
  pointwise [k0_pay4, k0_pay1, k0_pay9]
  rfl

theorem out7_apply (i : Fin 256) (c : Fin 512) : out0_7 (F := Ideal) x0 x1 (ix2 i c)
    = (∑ k : Fin 1024, x0 (ix2 i k) * x1 (ix2 k (⟨2560 + c.val, by omega⟩ : Fin 3584))) := by
  unfold_out out0_7
  rw [View.canon_unit_zero hz, View.ld_unit_zero (S := S256x1024) hz]
  pointwise [k0_pay4, k0_pay2]

theorem out8_apply (i : Fin 256) (c : Fin 512) : out0_8 (F := Ideal) x0 x1 (ix2 i c)
    = (∑ k : Fin 1024, x0 (ix2 i k) * x1 (ix2 k (⟨3072 + c.val, by omega⟩ : Fin 3584))) := by
  unfold_out out0_8
  rw [View.canon_unit_zero hz, View.ld_unit_zero (S := S256x1024) hz]
  pointwise [k0_pay4, k0_pay3]

end Cert.ProjDBlock

end
-- ==== Proof.ProjDRefRow.lean ====
/- The sample batch's projection in the reference: each of its seven results is columns of one product, some scaled. -/
module

public import proofs.«01_k».proof.Proof.ProjDBlock
public import proofs.«01_k».proof.Proof.Gen.ProjDRefIdeal.Read

@[expose] public section

set_option maxRecDepth 16384

noncomputable section

namespace Cert.ProjDRefRow

open Idealize.ShloMosaic Idealize.ShloMosaic.TcCoe Cert.ProjDRefIdeal Cert.ProjDRefIdeal.Read Cert.ProjDBlock

variable (x : FVec Ideal S512x1024 .f32) (w : FVec Ideal S1024x5632 .f32)

/-- The product of token row `i` with weight column `n`. -/
def P (i : Fin 512) (n : Fin 5632) : EReal := ∑ k : Fin 1024, x (ix2 i k) * w (ix2 k n)

/-- The same at column `o + c`. -/
def C (o : Nat) (ho : o ≤ 5120) (i : Fin 512) (c : Fin 512) : EReal := P x w i ⟨o + c.val, by omega⟩

theorem v0_apply (i : Fin 512) (n : Fin 5632) : val_main_v0 (F := Ideal) x w (ix2 i n) = P x w i n := by
  pointwise [val_main_v0]
  all_goals rfl

def G2 : FVec Ideal S512x512 .bf16 := fun p => C x w 0 (by omega) (p 0) (p 1)
theorem ref2 : val_main_v10 (F := Ideal) x w = G2 x w := by
  funext p
  obtain ⟨i, c, rfl⟩ : ∃ (i : Fin 512) (c : Fin 512), p = ix2 i c := ⟨p 0, p 1, eq_ix2 p⟩
  show _ = P x w i ⟨0 + c.val, by omega⟩
  pointwise [val_main_v1, val_main_v10]
  all_goals simp only [v0_apply]
  all_goals rfl

def G3 : FVec Ideal S512x512 .bf16 := fun p => C x w 512 (by omega) (p 0) (p 1) * sq
theorem ref3 : val_main_v13 (F := Ideal) x w = G3 x w := by
  funext p
  obtain ⟨i, c, rfl⟩ : ∃ (i : Fin 512) (c : Fin 512), p = ix2 i c := ⟨p 0, p 1, eq_ix2 p⟩
  show _ = P x w i ⟨512 + c.val, by omega⟩ * sq
  pointwise [val_main_v2, val_main_cst, val_main_v11, val_main_v12, val_main_v13]
  all_goals simp only [v0_apply]
  all_goals rfl

def G4 : FVec Ideal S512x512 .bf16 := fun p => C x w 1024 (by omega) (p 0) (p 1)
theorem ref4 : val_main_v14 (F := Ideal) x w = G4 x w := by
  funext p
  obtain ⟨i, c, rfl⟩ : ∃ (i : Fin 512) (c : Fin 512), p = ix2 i c := ⟨p 0, p 1, eq_ix2 p⟩
  show _ = P x w i ⟨1024 + c.val, by omega⟩
  pointwise [val_main_v3, val_main_v14]
  all_goals simp only [v0_apply]
  all_goals rfl

def G5 : FVec Ideal S512x512 .f32 := fun p => C x w 1536 (by omega) (p 0) (p 1)
theorem ref5 : val_main_v4 (F := Ideal) x w = G5 x w := by
  funext p
  obtain ⟨i, c, rfl⟩ : ∃ (i : Fin 512) (c : Fin 512), p = ix2 i c := ⟨p 0, p 1, eq_ix2 p⟩
  show _ = P x w i ⟨1536 + c.val, by omega⟩
  pointwise [val_main_v4]
  all_goals simp only [v0_apply]
  all_goals rfl

def G6 : FVec Ideal S512x512 .bf16 := fun p => C x w 2048 (by omega) (p 0) (p 1) * s8
theorem ref6 : val_main_v17 (F := Ideal) x w = G6 x w := by
  funext p
  obtain ⟨i, c, rfl⟩ : ∃ (i : Fin 512) (c : Fin 512), p = ix2 i c := ⟨p 0, p 1, eq_ix2 p⟩
  show _ = P x w i ⟨2048 + c.val, by omega⟩ * s8
  pointwise [val_main_v5, val_main_cst_0, val_main_v15, val_main_v16, val_main_v17]
  all_goals simp only [v0_apply]
  all_goals rfl

def G7 : FVec Ideal S512x512 .f32 := fun p => C x w 2560 (by omega) (p 0) (p 1)
theorem ref7 : val_main_v6 (F := Ideal) x w = G7 x w := by
  funext p
  obtain ⟨i, c, rfl⟩ : ∃ (i : Fin 512) (c : Fin 512), p = ix2 i c := ⟨p 0, p 1, eq_ix2 p⟩
  show _ = P x w i ⟨2560 + c.val, by omega⟩
  pointwise [val_main_v6]
  all_goals simp only [v0_apply]
  all_goals rfl

def G8 : FVec Ideal S512x512 .f32 := fun p => C x w 3072 (by omega) (p 0) (p 1)
theorem ref8 : val_main_v7 (F := Ideal) x w = G8 x w := by
  funext p
  obtain ⟨i, c, rfl⟩ : ∃ (i : Fin 512) (c : Fin 512), p = ix2 i c := ⟨p 0, p 1, eq_ix2 p⟩
  show _ = P x w i ⟨3072 + c.val, by omega⟩
  pointwise [val_main_v7]
  all_goals simp only [v0_apply]
  all_goals rfl

end Cert.ProjDRefRow

end
-- ==== Proof.ProjDArray.lean ====
/- The sample batch's projection: its seven output arrays after the run, as functions of the arguments. -/
module

public import proofs.«01_k».proof.Proof.ProjDBlock
public import proofs.«01_k».proof.Proof.ProjDRefRow

@[expose] public section

set_option maxRecDepth 16384

noncomputable section

namespace Cert.ProjDArray

open Idealize.ShloMosaic Idealize.ShloMosaic.TcCoe Idealize.SL.Sem Cert.ProjDIdeal Cert.ProjDIdeal.Gen Cert.ProjDIdeal.Value Cert.ProjDBlock Cert.ProjDRefRow

variable (m : (ℓ : Loc nD τ sig) → Buf (Elt Ideal) ℓ) (ρ : Dev nD → PrngReg) (c : Dev nD)

/-- The launch's two arguments. -/
def X : FVec Ideal S512x1024 .f32 := m ((c : Thread nD τ).loc main_arg0)
def W : FVec Ideal S1024x5632 .f32 := m ((c : Thread nD τ).loc main_arg1)

theorem V_v1 (a : Fin 1024) (d : Fin 3584) : (V m c main_v1 : FVec Ideal S1024x3584 .bf16) (ix2 a d) = W m c (ix2 a ⟨d.val, by omega⟩) := by
  unfold_abbrev_sides
  after_results
  pointwise [W]

/-- The token that row `i` of grid point `t`'s block is. -/
def tok (t : Fin cfg0.N) (i : Fin 256) : Fin 512 := ⟨t.val * 256 + i.val, by have := t.isLt; have h : cfg0.N = 2 := rfl; omega⟩

theorem idx (t : Fin cfg0.N) :
    (win0_0.index t (0 : Fin 2) = t.val ∧ win0_0.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N,
    (win0_0.index t (0 : Fin 2) = t.val ∧ win0_0.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)) t

theorem idxc (t : Fin cfg0.N) : win0_1.index t (0 : Fin 2) = 0 ∧ win0_1.index t (1 : Fin 2) = 0 :=
  (by decide +kernel : ∀ t : Fin grid0.N, win0_1.index t (0 : Fin 2) = 0 ∧ win0_1.index t (1 : Fin 2) = 0) t

theorem emb0 (t : Fin cfg0.N) (i : Fin 256) (d : Fin 1024) : ((cfg0.win 0).blk t).view.emb (ix2 i d) = ix2 (tok t i) d := by
  have e := idx t
  funext a; apply Fin.ext
  match a with
  | ⟨0, _⟩ => show win0_0.index t (0 : Fin 2) * 256 + 1 * i.val = t.val * 256 + i.val; omega
  | ⟨1, _⟩ => show win0_0.index t (1 : Fin 2) * 1024 + 1 * d.val = d.val; omega

theorem emb2 (t : Fin cfg0.N) (i : Fin 256) (d : Fin 512) : ((cfg0.win 2).blk t).view.emb (ix2 i d) = ix2 (tok t i) d := by
  have e := idx t
  funext a; apply Fin.ext
  match a with
  | ⟨0, _⟩ => show win0_2.index t (0 : Fin 2) * 256 + 1 * i.val = t.val * 256 + i.val; omega
  | ⟨1, _⟩ => show win0_2.index t (1 : Fin 2) * 512 + 1 * d.val = d.val; omega

theorem emb3 (t : Fin cfg0.N) (i : Fin 256) (d : Fin 512) : ((cfg0.win 3).blk t).view.emb (ix2 i d) = ix2 (tok t i) d := by
  have e := idx t
  funext a; apply Fin.ext
  match a with
  | ⟨0, _⟩ => show win0_3.index t (0 : Fin 2) * 256 + 1 * i.val = t.val * 256 + i.val; omega
  | ⟨1, _⟩ => show win0_3.index t (1 : Fin 2) * 512 + 1 * d.val = d.val; omega

theorem emb4 (t : Fin cfg0.N) (i : Fin 256) (d : Fin 512) : ((cfg0.win 4).blk t).view.emb (ix2 i d) = ix2 (tok t i) d := by
  have e := idx t
  funext a; apply Fin.ext
  match a with
  | ⟨0, _⟩ => show win0_4.index t (0 : Fin 2) * 256 + 1 * i.val = t.val * 256 + i.val; omega
  | ⟨1, _⟩ => show win0_4.index t (1 : Fin 2) * 512 + 1 * d.val = d.val; omega

theorem emb5 (t : Fin cfg0.N) (i : Fin 256) (d : Fin 512) : ((cfg0.win 5).blk t).view.emb (ix2 i d) = ix2 (tok t i) d := by
  have e := idx t
  funext a; apply Fin.ext
  match a with
  | ⟨0, _⟩ => show win0_5.index t (0 : Fin 2) * 256 + 1 * i.val = t.val * 256 + i.val; omega
  | ⟨1, _⟩ => show win0_5.index t (1 : Fin 2) * 512 + 1 * d.val = d.val; omega

theorem emb6 (t : Fin cfg0.N) (i : Fin 256) (d : Fin 512) : ((cfg0.win 6).blk t).view.emb (ix2 i d) = ix2 (tok t i) d := by
  have e := idx t
  funext a; apply Fin.ext
  match a with
  | ⟨0, _⟩ => show win0_6.index t (0 : Fin 2) * 256 + 1 * i.val = t.val * 256 + i.val; omega
  | ⟨1, _⟩ => show win0_6.index t (1 : Fin 2) * 512 + 1 * d.val = d.val; omega

theorem emb7 (t : Fin cfg0.N) (i : Fin 256) (d : Fin 512) : ((cfg0.win 7).blk t).view.emb (ix2 i d) = ix2 (tok t i) d := by
  have e := idx t
  funext a; apply Fin.ext
  match a with
  | ⟨0, _⟩ => show win0_7.index t (0 : Fin 2) * 256 + 1 * i.val = t.val * 256 + i.val; omega
  | ⟨1, _⟩ => show win0_7.index t (1 : Fin 2) * 512 + 1 * d.val = d.val; omega

theorem emb8 (t : Fin cfg0.N) (i : Fin 256) (d : Fin 512) : ((cfg0.win 8).blk t).view.emb (ix2 i d) = ix2 (tok t i) d := by
  have e := idx t
  funext a; apply Fin.ext
  match a with
  | ⟨0, _⟩ => show win0_8.index t (0 : Fin 2) * 256 + 1 * i.val = t.val * 256 + i.val; omega
  | ⟨1, _⟩ => show win0_8.index t (1 : Fin 2) * 512 + 1 * d.val = d.val; omega

theorem emb1 (t : Fin cfg0.N) (j : S1024x3584.Idx) : ((cfg0.win 1).blk t).view.emb j = j := by
  have e := idxc t
  funext a; apply Fin.ext
  match a with
  | ⟨0, _⟩ => show win0_1.index t (0 : Fin 2) * 1024 + 1 * (j 0).val = (j 0).val; omega
  | ⟨1, _⟩ => show win0_1.index t (1 : Fin 2) * 3584 + 1 * (j 1).val = (j 1).val; omega

theorem iblk0 (t : Fin cfg0.N) (i : Fin 256) (d : Fin 1024) :
    (iblk m c 0 t : FVec Ideal S256x1024 .f32) (ix2 i d) = X m c (ix2 (tok t i) d) := by
  unfold X
  rw [← V_main_arg0 m c]
  exact congrArg (V m c main_arg0) (emb0 t i d)

theorem iblk1 (t : Fin cfg0.N) (a : Fin 1024) (d : Fin 3584) :
    (iblk m c 1 t : FVec Ideal S1024x3584 .bf16) (ix2 a d) = W m c (ix2 a ⟨d.val, by omega⟩) :=
  (congrArg (V m c main_v1) (emb1 t (ix2 a d))).trans (V_v1 m c a d)

theorem flushed2_eq (t : Fin cfg0.N) :
    (dats m 0 c).flushed 2 t = ((cfg0.win 2).blk t).view.read (Elt Ideal) (G2 (X m c) (W m c)) := by
  rw [flushed2]
  funext j
  obtain ⟨i, d, rfl⟩ : ∃ (i : Fin 256) (d : Fin 512), j = ix2 i d := ⟨j 0, j 1, eq_ix2 j⟩
  show out0_2 (F := Ideal) _ _ (ix2 i d) = G2 (X m c) (W m c) (((cfg0.win 2).blk t).view.emb (ix2 i d))
  rw [emb2, out2_apply]
  simp only [iblk0, iblk1]
  rfl

theorem covered2 (p : S512x512.Idx) : ∃ t : Fin cfg0.N, (cfg0.win 2).flush t = true ∧ p ∈ ((cfg0.win 2).blk t).view.set := by
  obtain ⟨i, d, rfl⟩ : ∃ (i : Fin 512) (d : Fin 512), p = ix2 i d := ⟨p 0, p 1, eq_ix2 p⟩
  refine ⟨⟨i.val / 256, by show i.val / 256 < 2; omega⟩, flush0_2 _, ?_⟩
  have h := ((cfg0.win 2).blk ⟨i.val / 256, by show i.val / 256 < 2; omega⟩).view.emb_mem_set (ix2 (⟨i.val % 256, by omega⟩ : Fin 256) d)
  rw [emb2] at h
  have e : tok ⟨i.val / 256, by show i.val / 256 < 2; omega⟩ ⟨i.val % 256, by omega⟩ = i := Fin.ext (by show i.val / 256 * 256 + i.val % 256 = i.val; omega)
  rwa [e] at h

theorem final2 : (dats m 0 c).arrAt 2 cfg0.N = G2 (X m c) (W m c) :=
  (dats m 0 c).arrAt_eq_of_cover 2 (G2 (X m c) (W m c)) (fun t _ => flushed2_eq m c t) covered2

theorem flushed3_eq (t : Fin cfg0.N) :
    (dats m 0 c).flushed 3 t = ((cfg0.win 3).blk t).view.read (Elt Ideal) (G3 (X m c) (W m c)) := by
  rw [flushed3]
  funext j
  obtain ⟨i, d, rfl⟩ : ∃ (i : Fin 256) (d : Fin 512), j = ix2 i d := ⟨j 0, j 1, eq_ix2 j⟩
  show out0_3 (F := Ideal) _ _ (ix2 i d) = G3 (X m c) (W m c) (((cfg0.win 3).blk t).view.emb (ix2 i d))
  rw [emb3, out3_apply]
  simp only [iblk0, iblk1]
  rfl

theorem covered3 (p : S512x512.Idx) : ∃ t : Fin cfg0.N, (cfg0.win 3).flush t = true ∧ p ∈ ((cfg0.win 3).blk t).view.set := by
  obtain ⟨i, d, rfl⟩ : ∃ (i : Fin 512) (d : Fin 512), p = ix2 i d := ⟨p 0, p 1, eq_ix2 p⟩
  refine ⟨⟨i.val / 256, by show i.val / 256 < 2; omega⟩, flush0_3 _, ?_⟩
  have h := ((cfg0.win 3).blk ⟨i.val / 256, by show i.val / 256 < 2; omega⟩).view.emb_mem_set (ix2 (⟨i.val % 256, by omega⟩ : Fin 256) d)
  rw [emb3] at h
  have e : tok ⟨i.val / 256, by show i.val / 256 < 2; omega⟩ ⟨i.val % 256, by omega⟩ = i := Fin.ext (by show i.val / 256 * 256 + i.val % 256 = i.val; omega)
  rwa [e] at h

theorem final3 : (dats m 0 c).arrAt 3 cfg0.N = G3 (X m c) (W m c) :=
  (dats m 0 c).arrAt_eq_of_cover 3 (G3 (X m c) (W m c)) (fun t _ => flushed3_eq m c t) covered3

theorem flushed4_eq (t : Fin cfg0.N) :
    (dats m 0 c).flushed 4 t = ((cfg0.win 4).blk t).view.read (Elt Ideal) (G4 (X m c) (W m c)) := by
  rw [flushed4]
  funext j
  obtain ⟨i, d, rfl⟩ : ∃ (i : Fin 256) (d : Fin 512), j = ix2 i d := ⟨j 0, j 1, eq_ix2 j⟩
  show out0_4 (F := Ideal) _ _ (ix2 i d) = G4 (X m c) (W m c) (((cfg0.win 4).blk t).view.emb (ix2 i d))
  rw [emb4, out4_apply]
  simp only [iblk0, iblk1]
  rfl

theorem covered4 (p : S512x512.Idx) : ∃ t : Fin cfg0.N, (cfg0.win 4).flush t = true ∧ p ∈ ((cfg0.win 4).blk t).view.set := by
  obtain ⟨i, d, rfl⟩ : ∃ (i : Fin 512) (d : Fin 512), p = ix2 i d := ⟨p 0, p 1, eq_ix2 p⟩
  refine ⟨⟨i.val / 256, by show i.val / 256 < 2; omega⟩, flush0_4 _, ?_⟩
  have h := ((cfg0.win 4).blk ⟨i.val / 256, by show i.val / 256 < 2; omega⟩).view.emb_mem_set (ix2 (⟨i.val % 256, by omega⟩ : Fin 256) d)
  rw [emb4] at h
  have e : tok ⟨i.val / 256, by show i.val / 256 < 2; omega⟩ ⟨i.val % 256, by omega⟩ = i := Fin.ext (by show i.val / 256 * 256 + i.val % 256 = i.val; omega)
  rwa [e] at h

theorem final4 : (dats m 0 c).arrAt 4 cfg0.N = G4 (X m c) (W m c) :=
  (dats m 0 c).arrAt_eq_of_cover 4 (G4 (X m c) (W m c)) (fun t _ => flushed4_eq m c t) covered4

theorem flushed5_eq (t : Fin cfg0.N) :
    (dats m 0 c).flushed 5 t = ((cfg0.win 5).blk t).view.read (Elt Ideal) (G5 (X m c) (W m c)) := by
  rw [flushed5]
  funext j
  obtain ⟨i, d, rfl⟩ : ∃ (i : Fin 256) (d : Fin 512), j = ix2 i d := ⟨j 0, j 1, eq_ix2 j⟩
  show out0_5 (F := Ideal) _ _ (ix2 i d) = G5 (X m c) (W m c) (((cfg0.win 5).blk t).view.emb (ix2 i d))
  rw [emb5, out5_apply]
  simp only [iblk0, iblk1]
  rfl

theorem covered5 (p : S512x512.Idx) : ∃ t : Fin cfg0.N, (cfg0.win 5).flush t = true ∧ p ∈ ((cfg0.win 5).blk t).view.set := by
  obtain ⟨i, d, rfl⟩ : ∃ (i : Fin 512) (d : Fin 512), p = ix2 i d := ⟨p 0, p 1, eq_ix2 p⟩
  refine ⟨⟨i.val / 256, by show i.val / 256 < 2; omega⟩, flush0_5 _, ?_⟩
  have h := ((cfg0.win 5).blk ⟨i.val / 256, by show i.val / 256 < 2; omega⟩).view.emb_mem_set (ix2 (⟨i.val % 256, by omega⟩ : Fin 256) d)
  rw [emb5] at h
  have e : tok ⟨i.val / 256, by show i.val / 256 < 2; omega⟩ ⟨i.val % 256, by omega⟩ = i := Fin.ext (by show i.val / 256 * 256 + i.val % 256 = i.val; omega)
  rwa [e] at h

theorem final5 : (dats m 0 c).arrAt 5 cfg0.N = G5 (X m c) (W m c) :=
  (dats m 0 c).arrAt_eq_of_cover 5 (G5 (X m c) (W m c)) (fun t _ => flushed5_eq m c t) covered5

theorem flushed6_eq (t : Fin cfg0.N) :
    (dats m 0 c).flushed 6 t = ((cfg0.win 6).blk t).view.read (Elt Ideal) (G6 (X m c) (W m c)) := by
  rw [flushed6]
  funext j
  obtain ⟨i, d, rfl⟩ : ∃ (i : Fin 256) (d : Fin 512), j = ix2 i d := ⟨j 0, j 1, eq_ix2 j⟩
  show out0_6 (F := Ideal) _ _ (ix2 i d) = G6 (X m c) (W m c) (((cfg0.win 6).blk t).view.emb (ix2 i d))
  rw [emb6, out6_apply]
  simp only [iblk0, iblk1]
  rfl

theorem covered6 (p : S512x512.Idx) : ∃ t : Fin cfg0.N, (cfg0.win 6).flush t = true ∧ p ∈ ((cfg0.win 6).blk t).view.set := by
  obtain ⟨i, d, rfl⟩ : ∃ (i : Fin 512) (d : Fin 512), p = ix2 i d := ⟨p 0, p 1, eq_ix2 p⟩
  refine ⟨⟨i.val / 256, by show i.val / 256 < 2; omega⟩, flush0_6 _, ?_⟩
  have h := ((cfg0.win 6).blk ⟨i.val / 256, by show i.val / 256 < 2; omega⟩).view.emb_mem_set (ix2 (⟨i.val % 256, by omega⟩ : Fin 256) d)
  rw [emb6] at h
  have e : tok ⟨i.val / 256, by show i.val / 256 < 2; omega⟩ ⟨i.val % 256, by omega⟩ = i := Fin.ext (by show i.val / 256 * 256 + i.val % 256 = i.val; omega)
  rwa [e] at h

theorem final6 : (dats m 0 c).arrAt 6 cfg0.N = G6 (X m c) (W m c) :=
  (dats m 0 c).arrAt_eq_of_cover 6 (G6 (X m c) (W m c)) (fun t _ => flushed6_eq m c t) covered6

theorem flushed7_eq (t : Fin cfg0.N) :
    (dats m 0 c).flushed 7 t = ((cfg0.win 7).blk t).view.read (Elt Ideal) (G7 (X m c) (W m c)) := by
  rw [flushed7]
  funext j
  obtain ⟨i, d, rfl⟩ : ∃ (i : Fin 256) (d : Fin 512), j = ix2 i d := ⟨j 0, j 1, eq_ix2 j⟩
  show out0_7 (F := Ideal) _ _ (ix2 i d) = G7 (X m c) (W m c) (((cfg0.win 7).blk t).view.emb (ix2 i d))
  rw [emb7, out7_apply]
  simp only [iblk0, iblk1]
  rfl

theorem covered7 (p : S512x512.Idx) : ∃ t : Fin cfg0.N, (cfg0.win 7).flush t = true ∧ p ∈ ((cfg0.win 7).blk t).view.set := by
  obtain ⟨i, d, rfl⟩ : ∃ (i : Fin 512) (d : Fin 512), p = ix2 i d := ⟨p 0, p 1, eq_ix2 p⟩
  refine ⟨⟨i.val / 256, by show i.val / 256 < 2; omega⟩, flush0_7 _, ?_⟩
  have h := ((cfg0.win 7).blk ⟨i.val / 256, by show i.val / 256 < 2; omega⟩).view.emb_mem_set (ix2 (⟨i.val % 256, by omega⟩ : Fin 256) d)
  rw [emb7] at h
  have e : tok ⟨i.val / 256, by show i.val / 256 < 2; omega⟩ ⟨i.val % 256, by omega⟩ = i := Fin.ext (by show i.val / 256 * 256 + i.val % 256 = i.val; omega)
  rwa [e] at h

theorem final7 : (dats m 0 c).arrAt 7 cfg0.N = G7 (X m c) (W m c) :=
  (dats m 0 c).arrAt_eq_of_cover 7 (G7 (X m c) (W m c)) (fun t _ => flushed7_eq m c t) covered7

theorem flushed8_eq (t : Fin cfg0.N) :
    (dats m 0 c).flushed 8 t = ((cfg0.win 8).blk t).view.read (Elt Ideal) (G8 (X m c) (W m c)) := by
  rw [flushed8]
  funext j
  obtain ⟨i, d, rfl⟩ : ∃ (i : Fin 256) (d : Fin 512), j = ix2 i d := ⟨j 0, j 1, eq_ix2 j⟩
  show out0_8 (F := Ideal) _ _ (ix2 i d) = G8 (X m c) (W m c) (((cfg0.win 8).blk t).view.emb (ix2 i d))
  rw [emb8, out8_apply]
  simp only [iblk0, iblk1]
  rfl

theorem covered8 (p : S512x512.Idx) : ∃ t : Fin cfg0.N, (cfg0.win 8).flush t = true ∧ p ∈ ((cfg0.win 8).blk t).view.set := by
  obtain ⟨i, d, rfl⟩ : ∃ (i : Fin 512) (d : Fin 512), p = ix2 i d := ⟨p 0, p 1, eq_ix2 p⟩
  refine ⟨⟨i.val / 256, by show i.val / 256 < 2; omega⟩, flush0_8 _, ?_⟩
  have h := ((cfg0.win 8).blk ⟨i.val / 256, by show i.val / 256 < 2; omega⟩).view.emb_mem_set (ix2 (⟨i.val % 256, by omega⟩ : Fin 256) d)
  rw [emb8] at h
  have e : tok ⟨i.val / 256, by show i.val / 256 < 2; omega⟩ ⟨i.val % 256, by omega⟩ = i := Fin.ext (by show i.val / 256 * 256 + i.val % 256 = i.val; omega)
  rwa [e] at h

theorem final8 : (dats m 0 c).arrAt 8 cfg0.N = G8 (X m c) (W m c) :=
  (dats m 0 c).arrAt_eq_of_cover 8 (G8 (X m c) (W m c)) (fun t _ => flushed8_eq m c t) covered8

end Cert.ProjDArray

end
-- ==== Proof.ProjDEq.lean ====
/- The claims about the sample batch's projection: the kernel's output arrays and the reference's results are the same functions of the arguments. -/
module

public import proofs.«01_k».proof.Defs
public import proofs.«01_k».proof.Proof.ProjDArray
public import proofs.«01_k».proof.Proof.ProjDRefRow
public import proofs.«01_k».proof.Proof.Gen.ProjDIdeal
public import proofs.«01_k».proof.Proof.Gen.ProjDRefIdeal
public import proofs.«01_k».proof.Proof.Gen.ProjDRefIdeal.Run

@[expose] public section

set_option maxRecDepth 16384

noncomputable section

namespace Cert.ProjDEq

open Idealize.ShloMosaic Idealize.ShloMosaic.TcCoe Idealize.SL.Sem Cert.ProjDRefRow Cert.ProjDArray

theorem frameRef : Cert.quiescent_ProjDRefIdeal := fun m ρ _ =>
  (θ_run Cert.ProjDRefIdeal.defs _ _).mono (fun r h => ⟨fun c => (h c).2.2.2.2.2.2.2, Idealize.ShloMosaic.sem_eq_zero_of_no_sems (by decide) r.2⟩)
    (Cert.ProjDRefIdeal.Value.run (F := Ideal) m ρ)

/-- Launched on the same arguments, the kernel and the reference leave the same arrays. -/
theorem algebraic : Cert.algebraic_ProjDIdeal_ProjDRefIdeal := by
  intro m ρ m' ρ' _ hagree
  refine ⟨fun c => G2 (X m c) (W m c), fun c => G3 (X m c) (W m c), fun c => G4 (X m c) (W m c), fun c => G5 (X m c) (W m c), fun c => G6 (X m c) (W m c), fun c => G7 (X m c) (W m c), fun c => G8 (X m c) (W m c),
    (θ_run Cert.ProjDIdeal.defs _ _).mono (fun r h c => ?_) (Cert.ProjDIdeal.Value.run_blocks m ρ),
    (θ_run Cert.ProjDRefIdeal.defs _ _).mono (fun r h c => ?_) (Cert.ProjDRefIdeal.Value.run (F := Ideal) m' ρ')⟩
  · obtain ⟨h2, h3, h4, h5, h6, h7, h8, hk⟩ := h c
    exact ⟨h2.trans (final2 m c), h3.trans (final3 m c), h4.trans (final4 m c), h5.trans (final5 m c), h6.trans (final6 m c), h7.trans (final7 m c), h8.trans (final8 m c), hk⟩
  · obtain ⟨h2, h3, h4, h5, h6, h7, h8, hk⟩ := h c
    obtain ⟨e0, e1⟩ := hagree c
    have ex : m' ((c.tc : Thread Cert.ProjDRefIdeal.nD Cert.ProjDRefIdeal.τ).loc Cert.ProjDRefIdeal.main_arg0) = X m c := e0
    have ew : m' ((c.tc : Thread Cert.ProjDRefIdeal.nD Cert.ProjDRefIdeal.τ).loc Cert.ProjDRefIdeal.main_arg1) = W m c := e1
    rw [ex, ew] at h2 h3 h4 h5 h6 h7 h8
    exact ⟨h2.trans (ref2 (X m c) (W m c)), h3.trans (ref3 (X m c) (W m c)), h4.trans (ref4 (X m c) (W m c)), h5.trans (ref5 (X m c) (W m c)), h6.trans (ref6 (X m c) (W m c)), h7.trans (ref7 (X m c) (W m c)), h8.trans (ref8 (X m c) (W m c)), hk⟩

end Cert.ProjDEq

end
-- ==== Proof.MergeDBlock.lean ====
module

public import proofs.«01_k».proof.Proof.Rows
public import proofs.«01_k».proof.Proof.Gen.MergeDIdeal.Value

@[expose] public section

set_option maxRecDepth 16384

noncomputable section

namespace Cert.MergeDBlock

open Idealize.ShloMosaic Idealize.ShloMosaic.TcCoe Cert.MergeDIdeal Cert.MergeDIdeal.Gen Cert.Rows

/-- A token's gates, both halves: the logistic of its product with the gate weights plus the bias. -/
def gate (x : Fin 1024 → EReal) (wg : Fin 1024 → Fin 2048 → EReal) (bg : Fin 2048 → EReal) (c : Fin 2048) : EReal :=
  sigmoid ((∑ k, x k * wg k c) + bg c)

/-- The merged branches of a token: each gate half times its branch's projection, added. -/
def merged (x : Fin 1024 → EReal) (r m : Fin 512 → EReal) (wg : Fin 1024 → Fin 2048 → EReal) (bg : Fin 2048 → EReal)
    (wr wm : Fin 512 → Fin 1024 → EReal) (c : Fin 1024) : EReal :=
  gate x wg bg ⟨c.val, by omega⟩ * (∑ k, r k * wr k c) + gate x wg bg ⟨1024 + c.val, by omega⟩ * (∑ k, m k * wm k c)

/-- The token's output: the layer norm of the scaled residual plus the output projection of the merged branches. -/
def row (x : Fin 1024 → EReal) (r m : Fin 512 → EReal) (wg : Fin 1024 → Fin 2048 → EReal) (bg : Fin 2048 → EReal)
    (wr wm : Fin 512 → Fin 1024 → EReal) (wo : Fin 1024 → Fin 1024 → EReal) (g b : Fin 1024 → EReal) (c : Fin 1024) : EReal :=
  layerNorm (fun d => alpha * x d + ∑ k, merged x r m wg bg wr wm k * wo k d) g b c

theorem pay2_apply (x : FVec Ideal S256x1024 .f32) (wg : FVec Ideal S1024x2048 .bf16) (bg : FVec Ideal S1x2048 .f32)
    (r : FVec Ideal S256x512 .bf16) (wr : FVec Ideal S512x1024 .bf16) (m : FVec Ideal S256x512 .bf16) (wm : FVec Ideal S512x1024 .bf16)
    (wo : FVec Ideal S1024x1024 .bf16) (i : Fin 256) (c : Fin 1024) :
    k0_pay2 (F := Ideal) x wg bg r wr m wm wo (ix2 i c)
      = ∑ k : Fin 1024, merged (fun d => x (ix2 i d)) (fun d => r (ix2 i d)) (fun d => m (ix2 i d)) (fun a d => wg (ix2 a d)) (fun d => bg (ix2 0 d))
          (fun a d => wr (ix2 a d)) (fun a d => wm (ix2 a d)) k * wo (ix2 k c) := by
  pointwise [k0_pay2]
  simp only [zero_sub]
  rfl

theorem pay1_apply (y a : FVec Ideal S256x1024 .f32) (g b : FVec Ideal S1x1024 .f32) (i : Fin 256) (c : Fin 1024) :
    k0_pay1 (F := Ideal) y a g b (ix2 i c)
      = layerNorm (fun d => a (ix2 i d) + y (ix2 i d)) (fun d => g (ix2 0 d)) (fun d => b (ix2 0 d)) c := by
  pointwise [k0_pay1]

  rfl

theorem pay3_apply (x : FVec Ideal S256x1024 .f32) (i : Fin 256) (c : Fin 1024) :
    k0_pay3 (F := Ideal) x (ix2 i c) = alpha * x (ix2 i c) := rfl

theorem hz : (![0, 0] : Fin 2 → Nat) = fun _ => 0 := funext fun a => by fin_cases a <;> rfl

/-- What a grid point leaves in the output block, at row `i` and column `c`: the token's output from the point's blocks. -/
theorem out_apply (x0 : Vec Ideal S256x1024 .f32) (x1 x2 : Vec Ideal S256x512 .bf16) (x3 : Vec Ideal S1024x2048 .bf16)
    (x4 : Vec Ideal S1x2048 .f32) (x5 x6 : Vec Ideal S512x1024 .bf16) (x7 : Vec Ideal S1024x1024 .bf16) (x8 x9 : Vec Ideal S1x1024 .f32)
    (i : Fin 256) (c : Fin 1024) :
    out0_10 (F := Ideal) x0 x1 x2 x3 x4 x5 x6 x7 x8 x9 (ix2 i c)
      = row (fun d => x0 (ix2 i d)) (fun d => x1 (ix2 i d)) (fun d => x2 (ix2 i d)) (fun a d => x3 (ix2 a d)) (fun d => x4 (ix2 0 d))
          (fun a d => x5 (ix2 a d)) (fun a d => x6 (ix2 a d)) (fun a d => x7 (ix2 a d)) (fun d => x8 (ix2 0 d)) (fun d => x9 (ix2 0 d)) c := by
  unfold out0_10
  rw [View.canon_unit_zero hz]
  repeat rw [View.ld_unit_zero hz]
  rw [pay1_apply]
  simp only [pay2_apply, pay3_apply]
  rfl

end Cert.MergeDBlock

end
-- ==== Proof.MergeDArray.lean ====
/- For the sample batch (512 tokens, blocks of 256). The merge's output array: what the host prepares for the launch, each window's block as rows of its array, and the
   array after the run as the token rows of the arguments. -/
module

public import proofs.«01_k».proof.Proof.MergeDBlock

@[expose] public section

set_option maxRecDepth 16384

noncomputable section

namespace Cert.MergeDArray

open Idealize.ShloMosaic Idealize.ShloMosaic.TcCoe Idealize.SL.Sem Cert.MergeDIdeal Cert.MergeDIdeal.Gen Cert.MergeDIdeal.Value Cert.MergeDBlock

/-- The merge of all tokens as one function of the arguments. -/
def G (x0 : FVec Ideal S512x1024 .f32) (x1 x2 : FVec Ideal S512x512 .bf16) (x3 : FVec Ideal S1024x5632 .f32)
    (x4 : FVec Ideal S2048 .f32) (x5 x6 : FVec Ideal S512x1024 .f32) (x7 : FVec Ideal S1024x1024 .f32) (x8 x9 : FVec Ideal S1024 .f32) :
    FVec Ideal S512x1024 .f32 := fun p =>
  row (fun d => x0 (ix2 (p 0 : Fin 512) d)) (fun d => x1 (ix2 (p 0 : Fin 512) d)) (fun d => x2 (ix2 (p 0 : Fin 512) d))
    (fun a d => x3 (ix2 a ⟨3584 + d.val, by omega⟩)) (fun d => x4 (ix1 d)) (fun a d => x5 (ix2 a d)) (fun a d => x6 (ix2 a d))
    (fun a d => x7 (ix2 a d)) (fun d => x8 (ix1 d)) (fun d => x9 (ix1 d)) (p 1 : Fin 1024)

variable (m : (ℓ : Loc nD τ sig) → Buf (Elt Ideal) ℓ) (ρ : Dev nD → PrngReg) (c : Dev nD)

/-! What the host prepares. -/

theorem V_v1 (a : Fin 1024) (d : Fin 2048) :
    (V m c main_v1 : FVec Ideal S1024x2048 .bf16) (ix2 a d) = (m ((c : Thread nD τ).loc main_arg3) : FVec Ideal S1024x5632 .f32) (ix2 a ⟨3584 + d.val, by omega⟩) := by
  unfold_abbrev_sides
  after_results
  pointwise []

theorem V_v2 (d : Fin 2048) :
    (V m c main_v2 : FVec Ideal S1x2048 .f32) (ix2 0 d) = (m ((c : Thread nD τ).loc main_arg4) : FVec Ideal S2048 .f32) (ix1 d) := by
  unfold_abbrev_sides
  after_results
  pointwise []

theorem V_v3 (a : Fin 512) (d : Fin 1024) :
    (V m c main_v3 : FVec Ideal S512x1024 .bf16) (ix2 a d) = (m ((c : Thread nD τ).loc main_arg5) : FVec Ideal S512x1024 .f32) (ix2 a d) := by
  unfold_abbrev_sides
  after_results
  pointwise []

theorem V_v4 (a : Fin 512) (d : Fin 1024) :
    (V m c main_v4 : FVec Ideal S512x1024 .bf16) (ix2 a d) = (m ((c : Thread nD τ).loc main_arg6) : FVec Ideal S512x1024 .f32) (ix2 a d) := by
  unfold_abbrev_sides
  after_results
  pointwise []

theorem V_v5 (a : Fin 1024) (d : Fin 1024) :
    (V m c main_v5 : FVec Ideal S1024x1024 .bf16) (ix2 a d) = (m ((c : Thread nD τ).loc main_arg7) : FVec Ideal S1024x1024 .f32) (ix2 a d) := by
  unfold_abbrev_sides
  after_results
  pointwise []

theorem V_v6 (d : Fin 1024) :
    (V m c main_v6 : FVec Ideal S1x1024 .f32) (ix2 0 d) = (m ((c : Thread nD τ).loc main_arg8) : FVec Ideal S1024 .f32) (ix1 d) := by
  unfold_abbrev_sides
  after_results
  pointwise []

theorem V_v7 (d : Fin 1024) :
    (V m c main_v7 : FVec Ideal S1x1024 .f32) (ix2 0 d) = (m ((c : Thread nD τ).loc main_arg9) : FVec Ideal S1024 .f32) (ix1 d) := by
  unfold_abbrev_sides
  after_results
  pointwise []

/-! Each window's block index: the tiled windows advance with the grid point, the others stay. -/

theorem idx (t : Fin cfg0.N) :
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_10.index t (0 : Fin 2) = t.val ∧ win0_10.index t (1 : Fin 2) = 0) :=
  (by decide +kernel : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_10.index t (0 : Fin 2) = t.val ∧ win0_10.index t (1 : Fin 2) = 0)) t

theorem idxc (t : Fin cfg0.N) :
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)) t

/-- The token that row `i` of grid point `t`'s block is. -/
def tok (t : Fin cfg0.N) (i : Fin 256) : Fin 512 := ⟨t.val * 256 + i.val, by have := t.isLt; have h : cfg0.N = 2 := rfl; omega⟩

theorem emb0 (t : Fin cfg0.N) (i : Fin 256) (d : Fin 1024) : ((cfg0.win 0).blk t).view.emb (ix2 i d) = ix2 (tok t i) d := by
  obtain ⟨⟨e0, e1⟩, -⟩ := idx t
  funext a; apply Fin.ext
  match a with
  | ⟨0, _⟩ => show win0_0.index t (0 : Fin 2) * 256 + 1 * i.val = t.val * 256 + i.val; omega
  | ⟨1, _⟩ => show win0_0.index t (1 : Fin 2) * 1024 + 1 * d.val = d.val; omega

theorem emb1 (t : Fin cfg0.N) (i : Fin 256) (d : Fin 512) : ((cfg0.win 1).blk t).view.emb (ix2 i d) = ix2 (tok t i) d := by
  obtain ⟨-, ⟨e0, e1⟩, -⟩ := idx t
  funext a; apply Fin.ext
  match a with
  | ⟨0, _⟩ => show win0_1.index t (0 : Fin 2) * 256 + 1 * i.val = t.val * 256 + i.val; omega
  | ⟨1, _⟩ => show win0_1.index t (1 : Fin 2) * 512 + 1 * d.val = d.val; omega

theorem emb2 (t : Fin cfg0.N) (i : Fin 256) (d : Fin 512) : ((cfg0.win 2).blk t).view.emb (ix2 i d) = ix2 (tok t i) d := by
  obtain ⟨-, -, ⟨e0, e1⟩, -⟩ := idx t
  funext a; apply Fin.ext
  match a with
  | ⟨0, _⟩ => show win0_2.index t (0 : Fin 2) * 256 + 1 * i.val = t.val * 256 + i.val; omega
  | ⟨1, _⟩ => show win0_2.index t (1 : Fin 2) * 512 + 1 * d.val = d.val; omega

theorem emb10 (t : Fin cfg0.N) (i : Fin 256) (d : Fin 1024) : ((cfg0.win 10).blk t).view.emb (ix2 i d) = ix2 (tok t i) d := by
  obtain ⟨-, -, -, e0, e1⟩ := idx t
  funext a; apply Fin.ext
  match a with
  | ⟨0, _⟩ => show win0_10.index t (0 : Fin 2) * 256 + 1 * i.val = t.val * 256 + i.val; omega
  | ⟨1, _⟩ => show win0_10.index t (1 : Fin 2) * 1024 + 1 * d.val = d.val; omega

theorem emb3 (t : Fin cfg0.N) (j : S1024x2048.Idx) : ((cfg0.win 3).blk t).view.emb j = j := by
  have e := idxc t
  funext a; apply Fin.ext
  match a with
  | ⟨0, _⟩ => show win0_3.index t (0 : Fin 2) * 1024 + 1 * (j 0).val = (j 0).val; omega
  | ⟨1, _⟩ => show win0_3.index t (1 : Fin 2) * 2048 + 1 * (j 1).val = (j 1).val; omega

theorem emb4 (t : Fin cfg0.N) (j : S1x2048.Idx) : ((cfg0.win 4).blk t).view.emb j = j := by
  have e := idxc t
  funext a; apply Fin.ext
  match a with
  | ⟨0, _⟩ => show win0_4.index t (0 : Fin 2) * 1 + 1 * (j 0).val = (j 0).val; omega
  | ⟨1, _⟩ => show win0_4.index t (1 : Fin 2) * 2048 + 1 * (j 1).val = (j 1).val; omega

theorem emb5 (t : Fin cfg0.N) (j : S512x1024.Idx) : ((cfg0.win 5).blk t).view.emb j = j := by
  have e := idxc t
  funext a; apply Fin.ext
  match a with
  | ⟨0, _⟩ => show win0_5.index t (0 : Fin 2) * 512 + 1 * (j 0).val = (j 0).val; omega
  | ⟨1, _⟩ => show win0_5.index t (1 : Fin 2) * 1024 + 1 * (j 1).val = (j 1).val; omega

theorem emb6 (t : Fin cfg0.N) (j : S512x1024.Idx) : ((cfg0.win 6).blk t).view.emb j = j := by
  have e := idxc t
  funext a; apply Fin.ext
  match a with
  | ⟨0, _⟩ => show win0_6.index t (0 : Fin 2) * 512 + 1 * (j 0).val = (j 0).val; omega
  | ⟨1, _⟩ => show win0_6.index t (1 : Fin 2) * 1024 + 1 * (j 1).val = (j 1).val; omega

theorem emb7 (t : Fin cfg0.N) (j : S1024x1024.Idx) : ((cfg0.win 7).blk t).view.emb j = j := by
  have e := idxc t
  funext a; apply Fin.ext
  match a with
  | ⟨0, _⟩ => show win0_7.index t (0 : Fin 2) * 1024 + 1 * (j 0).val = (j 0).val; omega
  | ⟨1, _⟩ => show win0_7.index t (1 : Fin 2) * 1024 + 1 * (j 1).val = (j 1).val; omega

theorem emb8 (t : Fin cfg0.N) (j : S1x1024.Idx) : ((cfg0.win 8).blk t).view.emb j = j := by
  have e := idxc t
  funext a; apply Fin.ext
  match a with
  | ⟨0, _⟩ => show win0_8.index t (0 : Fin 2) * 1 + 1 * (j 0).val = (j 0).val; omega
  | ⟨1, _⟩ => show win0_8.index t (1 : Fin 2) * 1024 + 1 * (j 1).val = (j 1).val; omega

theorem emb9 (t : Fin cfg0.N) (j : S1x1024.Idx) : ((cfg0.win 9).blk t).view.emb j = j := by
  have e := idxc t
  funext a; apply Fin.ext
  match a with
  | ⟨0, _⟩ => show win0_9.index t (0 : Fin 2) * 1 + 1 * (j 0).val = (j 0).val; omega
  | ⟨1, _⟩ => show win0_9.index t (1 : Fin 2) * 1024 + 1 * (j 1).val = (j 1).val; omega

/-! So each window's block, entry by entry, is the arguments' entries. -/

theorem iblk0 (t : Fin cfg0.N) (i : Fin 256) (d : Fin 1024) :
    (iblk m c 0 t : FVec Ideal S256x1024 .f32) (ix2 i d) = (m ((c : Thread nD τ).loc main_arg0) : FVec Ideal S512x1024 .f32) (ix2 (tok t i) d) := by
  rw [← V_main_arg0 m c]
  exact congrArg (V m c main_arg0) (emb0 t i d)

theorem iblk1 (t : Fin cfg0.N) (i : Fin 256) (d : Fin 512) :
    (iblk m c 1 t : FVec Ideal S256x512 .bf16) (ix2 i d) = (m ((c : Thread nD τ).loc main_arg1) : FVec Ideal S512x512 .bf16) (ix2 (tok t i) d) := by
  rw [← V_main_arg1 m c]
  exact congrArg (V m c main_arg1) (emb1 t i d)

theorem iblk2 (t : Fin cfg0.N) (i : Fin 256) (d : Fin 512) :
    (iblk m c 2 t : FVec Ideal S256x512 .bf16) (ix2 i d) = (m ((c : Thread nD τ).loc main_arg2) : FVec Ideal S512x512 .bf16) (ix2 (tok t i) d) := by
  rw [← V_main_arg2 m c]
  exact congrArg (V m c main_arg2) (emb2 t i d)

theorem iblk3 (t : Fin cfg0.N) (a : Fin 1024) (d : Fin 2048) :
    (iblk m c 3 t : FVec Ideal S1024x2048 .bf16) (ix2 a d) = (m ((c : Thread nD τ).loc main_arg3) : FVec Ideal S1024x5632 .f32) (ix2 a ⟨3584 + d.val, by omega⟩) :=
  (congrArg (V m c main_v1) (emb3 t (ix2 a d))).trans (V_v1 m c a d)

theorem iblk4 (t : Fin cfg0.N) (d : Fin 2048) :
    (iblk m c 4 t : FVec Ideal S1x2048 .f32) (ix2 0 d) = (m ((c : Thread nD τ).loc main_arg4) : FVec Ideal S2048 .f32) (ix1 d) :=
  (congrArg (V m c main_v2) (emb4 t (ix2 0 d))).trans (V_v2 m c d)

theorem iblk5 (t : Fin cfg0.N) (a : Fin 512) (d : Fin 1024) :
    (iblk m c 5 t : FVec Ideal S512x1024 .bf16) (ix2 a d) = (m ((c : Thread nD τ).loc main_arg5) : FVec Ideal S512x1024 .f32) (ix2 a d) :=
  (congrArg (V m c main_v3) (emb5 t (ix2 a d))).trans (V_v3 m c a d)

theorem iblk6 (t : Fin cfg0.N) (a : Fin 512) (d : Fin 1024) :
    (iblk m c 6 t : FVec Ideal S512x1024 .bf16) (ix2 a d) = (m ((c : Thread nD τ).loc main_arg6) : FVec Ideal S512x1024 .f32) (ix2 a d) :=
  (congrArg (V m c main_v4) (emb6 t (ix2 a d))).trans (V_v4 m c a d)

theorem iblk7 (t : Fin cfg0.N) (a : Fin 1024) (d : Fin 1024) :
    (iblk m c 7 t : FVec Ideal S1024x1024 .bf16) (ix2 a d) = (m ((c : Thread nD τ).loc main_arg7) : FVec Ideal S1024x1024 .f32) (ix2 a d) :=
  (congrArg (V m c main_v5) (emb7 t (ix2 a d))).trans (V_v5 m c a d)

theorem iblk8 (t : Fin cfg0.N) (d : Fin 1024) :
    (iblk m c 8 t : FVec Ideal S1x1024 .f32) (ix2 0 d) = (m ((c : Thread nD τ).loc main_arg8) : FVec Ideal S1024 .f32) (ix1 d) :=
  (congrArg (V m c main_v6) (emb8 t (ix2 0 d))).trans (V_v6 m c d)

theorem iblk9 (t : Fin cfg0.N) (d : Fin 1024) :
    (iblk m c 9 t : FVec Ideal S1x1024 .f32) (ix2 0 d) = (m ((c : Thread nD τ).loc main_arg9) : FVec Ideal S1024 .f32) (ix1 d) :=
  (congrArg (V m c main_v7) (emb9 t (ix2 0 d))).trans (V_v7 m c d)

/-- `G` at the launch's arguments. -/
def res : FVec Ideal S512x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- What a grid point writes back is its block of the merge of all tokens. -/
theorem flushed_eq (t : Fin cfg0.N) :
    (dats m 0 c).flushed 10 t = ((cfg0.win 10).blk t).view.read (Elt Ideal) (res m c) := by
  rw [flushed10]
  funext j
  obtain ⟨i, d, rfl⟩ : ∃ (i : Fin 256) (d : Fin 1024), j = ix2 i d := ⟨j 0, j 1, eq_ix2 j⟩
  show out0_10 (F := Ideal) _ _ _ _ _ _ _ _ _ _ (ix2 i d) = res m c (((cfg0.win 10).blk t).view.emb (ix2 i d))
  rw [emb10, out_apply]
  simp only [iblk0, iblk1, iblk2, iblk3, iblk4, iblk5, iblk6, iblk7, iblk8, iblk9]
  rfl

/-- Every index of the output array is in some grid point's block. -/
theorem covered (p : S512x1024.Idx) : ∃ t : Fin cfg0.N, (cfg0.win 10).flush t = true ∧ p ∈ ((cfg0.win 10).blk t).view.set := by
  obtain ⟨i, d, rfl⟩ : ∃ (i : Fin 512) (d : Fin 1024), p = ix2 i d := ⟨p 0, p 1, eq_ix2 p⟩
  refine ⟨⟨i.val / 256, by show i.val / 256 < 2; omega⟩, flush0_10 _, ?_⟩
  have h := ((cfg0.win 10).blk ⟨i.val / 256, by show i.val / 256 < 2; omega⟩).view.emb_mem_set (ix2 (⟨i.val % 256, by omega⟩ : Fin 256) d)
  rw [emb10] at h
  have e : tok ⟨i.val / 256, by show i.val / 256 < 2; omega⟩ ⟨i.val % 256, by omega⟩ = i := Fin.ext (by show i.val / 256 * 256 + i.val % 256 = i.val; omega)
  rwa [e] at h

/-- The output array after the run. -/
theorem final : (dats m 0 c).arrAt 10 cfg0.N = res m c :=
  (dats m 0 c).arrAt_eq_of_cover 10 (res m c) (fun t _ => flushed_eq m c t) covered

end Cert.MergeDArray

end
-- ==== Proof.MergeDRefRow.lean ====
module

public import proofs.«01_k».proof.Proof.MergeDBlock
public import proofs.«01_k».proof.Proof.Gen.MergeDRefIdeal.Read

@[expose] public section

set_option maxRecDepth 16384

noncomputable section

namespace Cert.MergeDRefRow

open Idealize.ShloMosaic Idealize.ShloMosaic.TcCoe Cert.MergeDRefIdeal Cert.MergeDRefIdeal.Read Cert.Rows

variable (x0 : FVec Ideal S512x1024 .f32) (x1 x2 : FVec Ideal S512x512 .bf16) (x3 : FVec Ideal S1024x5632 .f32)
    (x4 : FVec Ideal S2048 .f32) (x5 x6 : FVec Ideal S512x1024 .f32) (x7 : FVec Ideal S1024x1024 .f32) (x8 x9 : FVec Ideal S1024 .f32)

/-- The reference's two merged branches at token `i`, column `c`. -/
theorem merged_apply (i : Fin 512) (c : Fin 1024) :
    val_main_v19 (F := Ideal) x0 x1 x2 x3 x4 x5 x6 (ix2 i c)
      = MergeDBlock.merged (fun d => x0 (ix2 i d)) (fun d => x1 (ix2 i d)) (fun d => x2 (ix2 i d))
          (fun a d => x3 (ix2 a ⟨3584 + d.val, by omega⟩)) (fun d => x4 (ix1 d)) (fun a d => x5 (ix2 a d)) (fun a d => x6 (ix2 a d)) c := by
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_v17, val_main_v18, val_main_v19,
    val_main_cst, val_main_cst_0]
  rfl

/-- The reference's scaled residual plus output projection at token `i`, column `c`. -/
theorem residual_apply (i : Fin 512) (c : Fin 1024) :
    val_main_v23 (F := Ideal) x0 x1 x2 x3 x4 x5 x6 x7 (ix2 i c)
      = alpha * x0 (ix2 i c) + ∑ k : Fin 1024, MergeDBlock.merged (fun d => x0 (ix2 i d)) (fun d => x1 (ix2 i d)) (fun d => x2 (ix2 i d))
          (fun a d => x3 (ix2 a ⟨3584 + d.val, by omega⟩)) (fun d => x4 (ix1 d)) (fun a d => x5 (ix2 a d)) (fun a d => x6 (ix2 a d)) k
          * x7 (ix2 k c) := by
  pointwise [val_main_v20, val_main_v21, val_main_v22, val_main_v23, val_main_cst_1]
  simp only [merged_apply]
  rfl

/-- The reference's result at token `i`, column `c`: the token's row of the merge. -/
theorem out_apply (i : Fin 512) (c : Fin 1024) :
    val_main_v47 (F := Ideal) x0 x1 x2 x3 x4 x5 x6 x7 x8 x9 (ix2 i c)
      = MergeDBlock.row (fun d => x0 (ix2 i d)) (fun d => x1 (ix2 i d)) (fun d => x2 (ix2 i d))
          (fun a d => x3 (ix2 a ⟨3584 + d.val, by omega⟩)) (fun d => x4 (ix1 d)) (fun a d => x5 (ix2 a d)) (fun a d => x6 (ix2 a d))
          (fun a d => x7 (ix2 a d)) (fun d => x8 (ix1 d)) (fun d => x9 (ix1 d)) c := by
  pointwise [val_main_v24, val_main_v25, val_main_v26, val_main_v27, val_main_v28, val_main_v29, val_main_v30, val_main_v31, val_main_v32,
    val_main_v33, val_main_v34, val_main_v35, val_main_v36, val_main_v37, val_main_v38, val_main_v39, val_main_v40, val_main_v41, val_main_v42,
    val_main_v43, val_main_v44, val_main_v45, val_main_v46, val_main_v47, val_main_cst_2, val_main_cst_3, val_main_cst_4, val_main_cst_5,
    val_main_cst_6]
  simp only [residual_apply]
  rfl

end Cert.MergeDRefRow

end
-- ==== Proof.MergeDEq.lean ====
/- For the sample batch (512 tokens, blocks of 256). The merge's claims: the kernel's output array and the reference's result are the same function of the arguments. -/
module

public import proofs.«01_k».proof.Defs
public import proofs.«01_k».proof.Proof.MergeDArray
public import proofs.«01_k».proof.Proof.MergeDRefRow
public import proofs.«01_k».proof.Proof.Gen.MergeDIdeal
public import proofs.«01_k».proof.Proof.Gen.MergeDRefIdeal
public import proofs.«01_k».proof.Proof.Gen.MergeDRefIdeal.Run

@[expose] public section

set_option maxRecDepth 16384

noncomputable section

namespace Cert.MergeDEq

open Idealize.ShloMosaic Idealize.ShloMosaic.TcCoe Idealize.SL.Sem

/-- The reference's result array is the merge of all tokens. -/
theorem ref_eq (x0 : FVec Ideal Cert.MergeDIdeal.S512x1024 .f32) (x1 x2 : FVec Ideal Cert.MergeDIdeal.S512x512 .bf16)
    (x3 : FVec Ideal Cert.MergeDIdeal.S1024x5632 .f32) (x4 : FVec Ideal Cert.MergeDIdeal.S2048 .f32)
    (x5 x6 : FVec Ideal Cert.MergeDIdeal.S512x1024 .f32) (x7 : FVec Ideal Cert.MergeDIdeal.S1024x1024 .f32)
    (x8 x9 : FVec Ideal Cert.MergeDIdeal.S1024 .f32) :
    Cert.MergeDRefIdeal.Read.val_main_v47 (F := Ideal) x0 x1 x2 x3 x4 x5 x6 x7 x8 x9 = MergeDArray.G x0 x1 x2 x3 x4 x5 x6 x7 x8 x9 := by
  funext p
  obtain ⟨i, d, rfl⟩ : ∃ (i : Fin 512) (d : Fin 1024), p = ix2 i d := ⟨p 0, p 1, eq_ix2 p⟩
  exact MergeDRefRow.out_apply x0 x1 x2 x3 x4 x5 x6 x7 x8 x9 i d

theorem frameRef : Cert.quiescent_MergeDRefIdeal := fun m ρ _ =>
  (θ_run Cert.MergeDRefIdeal.defs _ _).mono (fun r h => ⟨fun c => (h c).2, Idealize.ShloMosaic.sem_eq_zero_of_no_sems (by decide) r.2⟩)
    (Cert.MergeDRefIdeal.Value.run (F := Ideal) m ρ)

/-- Launched on the same arguments, the kernel and the reference leave the same array. -/
theorem algebraic : Cert.algebraic_MergeDIdeal_MergeDRefIdeal := by
  intro m ρ m' ρ' _ hagree
  refine ⟨fun c => MergeDArray.res m c,
    (θ_run Cert.MergeDIdeal.defs _ _).mono (fun r h c => ⟨(h c).1.trans (MergeDArray.final m c), (h c).2⟩) (Cert.MergeDIdeal.Value.run_blocks m ρ),
    (θ_run Cert.MergeDRefIdeal.defs _ _).mono (fun r h c => ⟨(h c).1.trans ?_, (h c).2⟩) (Cert.MergeDRefIdeal.Value.run (F := Ideal) m' ρ')⟩
  obtain ⟨e0, e1, e2, e3, e4, e5, e6, e7, e8, e9⟩ := hagree c
  rw [Cert.MergeDRefIdeal.Read.val_main_v47_eq, e0, e1, e2, e3, e4, e5, e6, e7, e8, e9]
  exact ref_eq _ _ _ _ _ _ _ _ _ _

end Cert.MergeDEq

end
-- ==== Proof.lean ====
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.RetD
public import proofs.«01_k».proof.Proof.Gen.RetD.Skeleton
public import proofs.«01_k».proof.Proof.Gen.RetD.Launch
public import proofs.«01_k».proof.Proof.Gen.RetD.Points
public import proofs.«01_k».proof.Proof.Gen.RetD.Frame
public import proofs.«01_k».proof.Proof.Gen.RetDIdeal
public import proofs.«01_k».proof.Proof.Gen.RetDIdeal.Skeleton
public import proofs.«01_k».proof.Proof.Gen.RetDIdeal.Launch
public import proofs.«01_k».proof.Proof.Gen.RetDIdeal.Points
public import proofs.«01_k».proof.Proof.Gen.RetDIdeal.Frame
public import proofs.«01_k».proof.Proof.Gen.RetDRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Pre_router_finite
public import proofs.«01_k».proof.Proof.Gen.MoeIdeal.Value
public import proofs.«01_k».proof.Proof.Gen.MoeRefIdeal.Read
public import proofs.«01_k».proof.Proof.Gen.RetIdeal.Value
public import proofs.«01_k».proof.Proof.Gen.RetDIdeal.Value
public import proofs.«01_k».proof.Proof.Gen.RetDRefIdeal.Read
public import proofs.«01_k».proof.Proof.Gen.ProjIdeal.Value
public import proofs.«01_k».proof.Proof.Gen.ProjRefIdeal.Read
public import proofs.«01_k».proof.Proof.Gen.MergeIdeal.Value
public import proofs.«01_k».proof.Proof.Gen.MergeRefIdeal.Read
public import Idealize.ShloMosaic.Adequacy
public import proofs.«01_k».proof.Proof.MoeEq
public import proofs.«01_k».proof.Proof.RetEq
public import proofs.«01_k».proof.Proof.RetDEq
public import proofs.«01_k».proof.Proof.ProjEq
public import proofs.«01_k».proof.Proof.MergeEq
public import Idealize.ShloMosaic.Init
public import proofs.«01_k».proof.Proof.Gen.MoeD
public import proofs.«01_k».proof.Proof.Gen.MoeD.Skeleton
public import proofs.«01_k».proof.Proof.Gen.MoeD.Launch
public import proofs.«01_k».proof.Proof.Gen.MoeD.Points
public import proofs.«01_k».proof.Proof.Gen.MoeD.Frame
public import proofs.«01_k».proof.Proof.Gen.MoeDIdeal
public import proofs.«01_k».proof.Proof.Gen.MoeDIdeal.Skeleton
public import proofs.«01_k».proof.Proof.Gen.MoeDIdeal.Launch
public import proofs.«01_k».proof.Proof.Gen.MoeDIdeal.Points
public import proofs.«01_k».proof.Proof.Gen.MoeDIdeal.Frame
public import proofs.«01_k».proof.Proof.Gen.MoeDRefIdeal
public import proofs.«01_k».proof.Proof.Gen.ProjD
public import proofs.«01_k».proof.Proof.Gen.ProjD.Skeleton
public import proofs.«01_k».proof.Proof.Gen.ProjD.Launch
public import proofs.«01_k».proof.Proof.Gen.ProjD.Points
public import proofs.«01_k».proof.Proof.Gen.ProjD.Frame
public import proofs.«01_k».proof.Proof.Gen.ProjDIdeal
public import proofs.«01_k».proof.Proof.Gen.ProjDIdeal.Skeleton
public import proofs.«01_k».proof.Proof.Gen.ProjDIdeal.Launch
public import proofs.«01_k».proof.Proof.Gen.ProjDIdeal.Points
public import proofs.«01_k».proof.Proof.Gen.ProjDIdeal.Frame
public import proofs.«01_k».proof.Proof.Gen.ProjDRefIdeal
public import proofs.«01_k».proof.Proof.Gen.MergeD
public import proofs.«01_k».proof.Proof.Gen.MergeD.Skeleton
public import proofs.«01_k».proof.Proof.Gen.MergeD.Launch
public import proofs.«01_k».proof.Proof.Gen.MergeD.Points
public import proofs.«01_k».proof.Proof.Gen.MergeD.Frame
public import proofs.«01_k».proof.Proof.Gen.MergeDIdeal
public import proofs.«01_k».proof.Proof.Gen.MergeDIdeal.Skeleton
public import proofs.«01_k».proof.Proof.Gen.MergeDIdeal.Launch
public import proofs.«01_k».proof.Proof.Gen.MergeDIdeal.Points
public import proofs.«01_k».proof.Proof.Gen.MergeDIdeal.Frame
public import proofs.«01_k».proof.Proof.Gen.MergeDRefIdeal
public import proofs.«01_k».proof.Proof.Gen.Pre_router_finite_sample
public import proofs.«01_k».proof.Proof.Gen.MoeDIdeal.Value
public import proofs.«01_k».proof.Proof.Gen.MoeDRefIdeal.Read
public import proofs.«01_k».proof.Proof.MoeDEq
public import proofs.«01_k».proof.Proof.Gen.ProjDIdeal.Value
public import proofs.«01_k».proof.Proof.Gen.ProjDRefIdeal.Read
public import proofs.«01_k».proof.Proof.ProjDEq
public import proofs.«01_k».proof.Proof.Gen.MergeDIdeal.Value
public import proofs.«01_k».proof.Proof.Gen.MergeDRefIdeal.Read
public import proofs.«01_k».proof.Proof.MergeDEq

@[expose] public section

noncomputable section

namespace Cert.Proof

open Idealize.ShloMosaic Idealize.SL.Sem Cert.Moe

theorem claim : Cert.Claim := ⟨Cert.Moe.Gen.facts, Cert.MoeIdeal.Gen.facts, Cert.MoeRefIdeal.Gen.facts, Cert.Ret.Gen.facts, Cert.RetIdeal.Gen.facts, Cert.RetRefIdeal.Gen.facts, Cert.RetD.Gen.facts, Cert.RetDIdeal.Gen.facts, Cert.RetDRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.MoeD.Gen.facts, Cert.MoeDIdeal.Gen.facts, Cert.MoeDRefIdeal.Gen.facts, Cert.ProjD.Gen.facts, Cert.ProjDIdeal.Gen.facts, Cert.ProjDRefIdeal.Gen.facts, Cert.MergeD.Gen.facts, Cert.MergeDIdeal.Gen.facts, Cert.MergeDRefIdeal.Gen.facts, Cert.Pre_router_finite.Gen.facts, Cert.Pre_router_finite_sample.Gen.facts,
  fun m ρ _ => Cert.Moe.Gen.frame m ρ,
  fun m ρ _ => Cert.MoeIdeal.Gen.frame m ρ,
  fun m ρ _ => Cert.MoeIdeal.Gen.frame m ρ,
  Cert.MoeEq.frameRef,
  fun m ρ _ => Cert.MoeEq.frameRef m ρ trivial,
  fun m ρ _ => Cert.Ret.Gen.frame m ρ,
  fun m ρ _ => Cert.RetIdeal.Gen.frame m ρ,
  Cert.RetEq.frameRef,
  fun m ρ _ => Cert.RetD.Gen.frame m ρ,
  fun m ρ _ => Cert.RetDIdeal.Gen.frame m ρ,
  Cert.RetDEq.frameRef,
  fun m ρ _ => Cert.Proj.Gen.frame m ρ,
  fun m ρ _ => Cert.ProjIdeal.Gen.frame m ρ,
  Cert.ProjEq.frameRef,
  fun m ρ _ => Cert.Merge.Gen.frame m ρ,
  fun m ρ _ => Cert.MergeIdeal.Gen.frame m ρ,
  Cert.MergeEq.frameRef,
  fun m ρ _ => Cert.MoeD.Gen.frame m ρ,
  fun m ρ _ => Cert.MoeDIdeal.Gen.frame m ρ,
  fun m ρ _ => Cert.MoeDIdeal.Gen.frame m ρ,
  Cert.MoeDEq.frameRef,
  fun m ρ _ => Cert.MoeDEq.frameRef m ρ trivial,
  fun m ρ _ => Cert.ProjD.Gen.frame m ρ,
  fun m ρ _ => Cert.ProjDIdeal.Gen.frame m ρ,
  Cert.ProjDEq.frameRef,
  fun m ρ _ => Cert.MergeD.Gen.frame m ρ,
  fun m ρ _ => Cert.MergeDIdeal.Gen.frame m ρ,
  Cert.MergeDEq.frameRef,
  trivial,
  Cert.MoeEq.algebraic,
  trivial,
  Cert.RetEq.algebraic,
  trivial,
  Cert.RetDEq.algebraic,
  trivial,
  Cert.ProjEq.algebraic,
  trivial,
  Cert.MergeEq.algebraic,
  trivial,
  Cert.MoeDEq.algebraic,
  trivial,
  Cert.ProjDEq.algebraic,
  trivial,
  Cert.MergeDEq.algebraic⟩

end Cert.Proof

end
